-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelMla (m : (ℓ : Loc Cert.KernelMla.nD Cert.KernelMla.τ Cert.KernelMla.sig) → Buf (Elt Bits) ℓ) : Prop :=
  True

def Pre_KernelMlaIdeal (m : (ℓ : Loc Cert.KernelMlaIdeal.nD Cert.KernelMlaIdeal.τ Cert.KernelMlaIdeal.sig) → Buf (Elt Ideal) ℓ) : Prop :=
  True

def Pre_KernelMlaIdeal_finite_mla [hPre_finite_mla : Cert.Pre_finite_mla.Facts] (m : (ℓ : Loc Cert.KernelMlaIdeal.nD Cert.KernelMlaIdeal.τ Cert.KernelMlaIdeal.sig) → Buf (Elt Ideal) ℓ) : Prop :=
  ∀ c : Dev Cert.KernelMlaIdeal.nD,
    (Cert.Pre_finite_mla.fn (F := Ideal) (m ((c.tc : Thread Cert.KernelMlaIdeal.nD Cert.KernelMlaIdeal.τ).loc Cert.KernelMlaIdeal.main_arg0)) (m ((c.tc : Thread Cert.KernelMlaIdeal.nD Cert.KernelMlaIdeal.τ).loc Cert.KernelMlaIdeal.main_arg1)) (m ((c.tc : Thread Cert.KernelMlaIdeal.nD Cert.KernelMlaIdeal.τ).loc Cert.KernelMlaIdeal.main_arg2)) (m ((c.tc : Thread Cert.KernelMlaIdeal.nD Cert.KernelMlaIdeal.τ).loc Cert.KernelMlaIdeal.main_arg3)) (m ((c.tc : Thread Cert.KernelMlaIdeal.nD Cert.KernelMlaIdeal.τ).loc Cert.KernelMlaIdeal.main_arg4))) = (fun _ => 1#1)

def Pre_ReferenceMlaIdeal (m : (ℓ : Loc Cert.ReferenceMlaIdeal.nD Cert.ReferenceMlaIdeal.τ Cert.ReferenceMlaIdeal.sig) → Buf (Elt Ideal) ℓ) : Prop :=
  True

def Pre_ReferenceMlaIdeal_finite_mla [hPre_finite_mla : Cert.Pre_finite_mla.Facts] (m : (ℓ : Loc Cert.ReferenceMlaIdeal.nD Cert.ReferenceMlaIdeal.τ Cert.ReferenceMlaIdeal.sig) → Buf (Elt Ideal) ℓ) : Prop :=
  ∀ c : Dev Cert.ReferenceMlaIdeal.nD,
    (Cert.Pre_finite_mla.fn (F := Ideal) (m ((c.tc : Thread Cert.ReferenceMlaIdeal.nD Cert.ReferenceMlaIdeal.τ).loc Cert.ReferenceMlaIdeal.main_arg0)) (m ((c.tc : Thread Cert.ReferenceMlaIdeal.nD Cert.ReferenceMlaIdeal.τ).loc Cert.ReferenceMlaIdeal.main_arg1)) (m ((c.tc : Thread Cert.ReferenceMlaIdeal.nD Cert.ReferenceMlaIdeal.τ).loc Cert.ReferenceMlaIdeal.main_arg2)) (m ((c.tc : Thread Cert.ReferenceMlaIdeal.nD Cert.ReferenceMlaIdeal.τ).loc Cert.ReferenceMlaIdeal.main_arg3)) (m ((c.tc : Thread Cert.ReferenceMlaIdeal.nD Cert.ReferenceMlaIdeal.τ).loc Cert.ReferenceMlaIdeal.main_arg4))) = (fun _ => 1#1)

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelNaQk (m : (ℓ : Loc Cert.KernelNaQk.nD Cert.KernelNaQk.τ Cert.KernelNaQk.sig) → Buf (Elt Bits) ℓ) : Prop :=
  True

def Pre_KernelNaQkIdeal (m : (ℓ : Loc Cert.KernelNaQkIdeal.nD Cert.KernelNaQkIdeal.τ Cert.KernelNaQkIdeal.sig) → Buf (Elt Ideal) ℓ) : Prop :=
  True

def Pre_ReferenceNaQkIdeal (m : (ℓ : Loc Cert.ReferenceNaQkIdeal.nD Cert.ReferenceNaQkIdeal.τ Cert.ReferenceNaQkIdeal.sig) → Buf (Elt Ideal) ℓ) : Prop :=
  True

def Pre_KernelNaV (m : (ℓ : Loc Cert.KernelNaV.nD Cert.KernelNaV.τ Cert.KernelNaV.sig) → Buf (Elt Bits) ℓ) : Prop :=
  True

def Pre_KernelNaVIdeal (m : (ℓ : Loc Cert.KernelNaVIdeal.nD Cert.KernelNaVIdeal.τ Cert.KernelNaVIdeal.sig) → Buf (Elt Ideal) ℓ) : Prop :=
  True

def Pre_ReferenceNaVIdeal (m : (ℓ : Loc Cert.ReferenceNaVIdeal.nD Cert.ReferenceNaVIdeal.τ Cert.ReferenceNaVIdeal.sig) → Buf (Elt Ideal) ℓ) : Prop :=
  True

def Pre_KernelCq (m : (ℓ : Loc Cert.KernelCq.nD Cert.KernelCq.τ Cert.KernelCq.sig) → Buf (Elt Bits) ℓ) : Prop :=
  True

def Pre_KernelCqIdeal (m : (ℓ : Loc Cert.KernelCqIdeal.nD Cert.KernelCqIdeal.τ Cert.KernelCqIdeal.sig) → Buf (Elt Ideal) ℓ) : Prop :=
  True

def Pre_ReferenceCqIdeal (m : (ℓ : Loc Cert.ReferenceCqIdeal.nD Cert.ReferenceCqIdeal.τ Cert.ReferenceCqIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelCkv (m : (ℓ : Loc Cert.KernelCkv.nD Cert.KernelCkv.τ Cert.KernelCkv.sig) → Buf (Elt Bits) ℓ) : Prop :=
  True

def Pre_KernelCkvIdeal (m : (ℓ : Loc Cert.KernelCkvIdeal.nD Cert.KernelCkvIdeal.τ Cert.KernelCkvIdeal.sig) → Buf (Elt Ideal) ℓ) : Prop :=
  True

def Pre_ReferenceCkvIdeal (m : (ℓ : Loc Cert.ReferenceCkvIdeal.nD Cert.ReferenceCkvIdeal.τ Cert.ReferenceCkvIdeal.sig) → Buf (Elt Ideal) ℓ) : Prop :=
  True

def Pre_KernelQUp (m : (ℓ : Loc Cert.KernelQUp.nD Cert.KernelQUp.τ Cert.KernelQUp.sig) → Buf (Elt Bits) ℓ) : Prop :=
  True

def Pre_KernelQUpIdeal (m : (ℓ : Loc Cert.KernelQUpIdeal.nD Cert.KernelQUpIdeal.τ Cert.KernelQUpIdeal.sig) → Buf (Elt Ideal) ℓ) : Prop :=
  True

def Pre_ReferenceQUpIdeal (m : (ℓ : Loc Cert.ReferenceQUpIdeal.nD Cert.ReferenceQUpIdeal.τ Cert.ReferenceQUpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelMla [hKernelMla : Cert.KernelMla.Facts] : Prop :=
  ∀ (m : (ℓ : Loc Cert.KernelMla.nD Cert.KernelMla.τ Cert.KernelMla.sig) → Buf (Elt Bits) ℓ) (g : Dev Cert.KernelMla.nD → PrngReg), Pre_KernelMla m →
    θ_run (Cert.KernelMla.defs (F := Bits)) (onTc (τ := Cert.KernelMla.τ) (Cert.KernelMla.main (F := Bits))) ⟨m, fun _ => 0, g⟩ (fun r => (∀ c : Dev Cert.KernelMla.nD,
      r.2.mem ((c.tc : Thread Cert.KernelMla.nD Cert.KernelMla.τ).loc Cert.KernelMla.main_arg0) = m ((c.tc : Thread Cert.KernelMla.nD Cert.KernelMla.τ).loc Cert.KernelMla.main_arg0)
      ∧ r.2.mem ((c.tc : Thread Cert.KernelMla.nD Cert.KernelMla.τ).loc Cert.KernelMla.main_arg1) = m ((c.tc : Thread Cert.KernelMla.nD Cert.KernelMla.τ).loc Cert.KernelMla.main_arg1)
      ∧ r.2.mem ((c.tc : Thread Cert.KernelMla.nD Cert.KernelMla.τ).loc Cert.KernelMla.main_arg2) = m ((c.tc : Thread Cert.KernelMla.nD Cert.KernelMla.τ).loc Cert.KernelMla.main_arg2)
      ∧ r.2.mem ((c.tc : Thread Cert.KernelMla.nD Cert.KernelMla.τ).loc Cert.KernelMla.main_arg3) = m ((c.tc : Thread Cert.KernelMla.nD Cert.KernelMla.τ).loc Cert.KernelMla.main_arg3)
      ∧ r.2.mem ((c.tc : Thread Cert.KernelMla.nD Cert.KernelMla.τ).loc Cert.KernelMla.main_arg4) = m ((c.tc : Thread Cert.KernelMla.nD Cert.KernelMla.τ).loc Cert.KernelMla.main_arg4))
      ∧ r.2.sem = fun _ => 0)

def quiescent_KernelMlaIdeal [hKernelMlaIdeal : Cert.KernelMlaIdeal.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2)
      ∧ r.2.mem ((c.tc : Thread Cert.KernelMlaIdeal.nD Cert.KernelMlaIdeal.τ).loc Cert.KernelMlaIdeal.main_arg3) = m ((c.tc : Thread Cert.KernelMlaIdeal.nD Cert.KernelMlaIdeal.τ).loc Cert.KernelMlaIdeal.main_arg3)
      ∧ r.2.mem ((c.tc : Thread Cert.KernelMlaIdeal.nD Cert.KernelMlaIdeal.τ).loc Cert.KernelMlaIdeal.main_arg4) = m ((c.tc : Thread Cert.KernelMlaIdeal.nD Cert.KernelMlaIdeal.τ).loc Cert.KernelMlaIdeal.main_arg4))
      ∧ r.2.sem = fun _ => 0)

def quiescent_KernelMlaIdeal_pre_finite_mla [hKernelMlaIdeal : Cert.KernelMlaIdeal.Facts] [hPre_finite_mla : Cert.Pre_finite_mla.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal_finite_mla m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2)
      ∧ r.2.mem ((c.tc : Thread Cert.KernelMlaIdeal.nD Cert.KernelMlaIdeal.τ).loc Cert.KernelMlaIdeal.main_arg3) = m ((c.tc : Thread Cert.KernelMlaIdeal.nD Cert.KernelMlaIdeal.τ).loc Cert.KernelMlaIdeal.main_arg3)
      ∧ r.2.mem ((c.tc : Thread Cert.KernelMlaIdeal.nD Cert.KernelMlaIdeal.τ).loc Cert.KernelMlaIdeal.main_arg4) = m ((c.tc : Thread Cert.KernelMlaIdeal.nD Cert.KernelMlaIdeal.τ).loc Cert.KernelMlaIdeal.main_arg4))
      ∧ r.2.sem = fun _ => 0)

def quiescent_ReferenceMlaIdeal [hReferenceMlaIdeal : Cert.ReferenceMlaIdeal.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2)
      ∧ r.2.mem ((c.tc : Thread Cert.ReferenceMlaIdeal.nD Cert.ReferenceMlaIdeal.τ).loc Cert.ReferenceMlaIdeal.main_arg3) = m ((c.tc : Thread Cert.ReferenceMlaIdeal.nD Cert.ReferenceMlaIdeal.τ).loc Cert.ReferenceMlaIdeal.main_arg3)
      ∧ r.2.mem ((c.tc : Thread Cert.ReferenceMlaIdeal.nD Cert.ReferenceMlaIdeal.τ).loc Cert.ReferenceMlaIdeal.main_arg4) = m ((c.tc : Thread Cert.ReferenceMlaIdeal.nD Cert.ReferenceMlaIdeal.τ).loc Cert.ReferenceMlaIdeal.main_arg4))
      ∧ r.2.sem = fun _ => 0)

def quiescent_ReferenceMlaIdeal_pre_finite_mla [hReferenceMlaIdeal : Cert.ReferenceMlaIdeal.Facts] [hPre_finite_mla : Cert.Pre_finite_mla.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal_finite_mla m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2)
      ∧ r.2.mem ((c.tc : Thread Cert.ReferenceMlaIdeal.nD Cert.ReferenceMlaIdeal.τ).loc Cert.ReferenceMlaIdeal.main_arg3) = m ((c.tc : Thread Cert.ReferenceMlaIdeal.nD Cert.ReferenceMlaIdeal.τ).loc Cert.ReferenceMlaIdeal.main_arg3)
      ∧ r.2.mem ((c.tc : Thread Cert.ReferenceMlaIdeal.nD Cert.ReferenceMlaIdeal.τ).loc Cert.ReferenceMlaIdeal.main_arg4) = m ((c.tc : Thread Cert.ReferenceMlaIdeal.nD Cert.ReferenceMlaIdeal.τ).loc Cert.ReferenceMlaIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_KernelNaQk [hKernelNaQk : Cert.KernelNaQk.Facts] : Prop :=
  ∀ (m : (ℓ : Loc Cert.KernelNaQk.nD Cert.KernelNaQk.τ Cert.KernelNaQk.sig) → Buf (Elt Bits) ℓ) (g : Dev Cert.KernelNaQk.nD → PrngReg), Pre_KernelNaQk m →
    θ_run (Cert.KernelNaQk.defs (F := Bits)) (onTc (τ := Cert.KernelNaQk.τ) (Cert.KernelNaQk.main (F := Bits))) ⟨m, fun _ => 0, g⟩ (fun r => (∀ c : Dev Cert.KernelNaQk.nD,
      r.2.mem ((c.tc : Thread Cert.KernelNaQk.nD Cert.KernelNaQk.τ).loc Cert.KernelNaQk.main_arg0) = m ((c.tc : Thread Cert.KernelNaQk.nD Cert.KernelNaQk.τ).loc Cert.KernelNaQk.main_arg0)
      ∧ r.2.mem ((c.tc : Thread Cert.KernelNaQk.nD Cert.KernelNaQk.τ).loc Cert.KernelNaQk.main_arg1) = m ((c.tc : Thread Cert.KernelNaQk.nD Cert.KernelNaQk.τ).loc Cert.KernelNaQk.main_arg1)
      ∧ r.2.mem ((c.tc : Thread Cert.KernelNaQk.nD Cert.KernelNaQk.τ).loc Cert.KernelNaQk.main_arg2) = m ((c.tc : Thread Cert.KernelNaQk.nD Cert.KernelNaQk.τ).loc Cert.KernelNaQk.main_arg2)
      ∧ r.2.mem ((c.tc : Thread Cert.KernelNaQk.nD Cert.KernelNaQk.τ).loc Cert.KernelNaQk.main_arg3) = m ((c.tc : Thread Cert.KernelNaQk.nD Cert.KernelNaQk.τ).loc Cert.KernelNaQk.main_arg3))
      ∧ r.2.sem = fun _ => 0)

def quiescent_KernelNaQkIdeal [hKernelNaQkIdeal : Cert.KernelNaQkIdeal.Facts] : Prop :=
  ∀ (m : (ℓ : Loc Cert.KernelNaQkIdeal.nD Cert.KernelNaQkIdeal.τ Cert.KernelNaQkIdeal.sig) → Buf (Elt Ideal) ℓ) (g : Dev Cert.KernelNaQkIdeal.nD → PrngReg), Pre_KernelNaQkIdeal m →
    θ_run (Cert.KernelNaQkIdeal.defs (F := Ideal)) (onTc (τ := Cert.KernelNaQkIdeal.τ) (Cert.KernelNaQkIdeal.main (F := Ideal))) ⟨m, fun _ => 0, g⟩ (fun r => (∀ c : Dev Cert.KernelNaQkIdeal.nD,
      r.2.mem ((c.tc : Thread Cert.KernelNaQkIdeal.nD Cert.KernelNaQkIdeal.τ).loc Cert.KernelNaQkIdeal.main_arg0) = m ((c.tc : Thread Cert.KernelNaQkIdeal.nD Cert.KernelNaQkIdeal.τ).loc Cert.KernelNaQkIdeal.main_arg0)
      ∧ r.2.mem ((c.tc : Thread Cert.KernelNaQkIdeal.nD Cert.KernelNaQkIdeal.τ).loc Cert.KernelNaQkIdeal.main_arg1) = m ((c.tc : Thread Cert.KernelNaQkIdeal.nD Cert.KernelNaQkIdeal.τ).loc Cert.KernelNaQkIdeal.main_arg1)
      ∧ r.2.mem ((c.tc : Thread Cert.KernelNaQkIdeal.nD Cert.KernelNaQkIdeal.τ).loc Cert.KernelNaQkIdeal.main_arg2) = m ((c.tc : Thread Cert.KernelNaQkIdeal.nD Cert.KernelNaQkIdeal.τ).loc Cert.KernelNaQkIdeal.main_arg2)
      ∧ r.2.mem ((c.tc : Thread Cert.KernelNaQkIdeal.nD Cert.KernelNaQkIdeal.τ).loc Cert.KernelNaQkIdeal.main_arg3) = m ((c.tc : Thread Cert.KernelNaQkIdeal.nD Cert.KernelNaQkIdeal.τ).loc Cert.KernelNaQkIdeal.main_arg3))
      ∧ r.2.sem = fun _ => 0)

def quiescent_ReferenceNaQkIdeal [hReferenceNaQkIdeal : Cert.ReferenceNaQkIdeal.Facts] : Prop :=
  ∀ (m : (ℓ : Loc Cert.ReferenceNaQkIdeal.nD Cert.ReferenceNaQkIdeal.τ Cert.ReferenceNaQkIdeal.sig) → Buf (Elt Ideal) ℓ) (g : Dev Cert.ReferenceNaQkIdeal.nD → PrngReg), Pre_ReferenceNaQkIdeal m →
    θ_run (Cert.ReferenceNaQkIdeal.defs (F := Ideal)) (onTc (τ := Cert.ReferenceNaQkIdeal.τ) (Cert.ReferenceNaQkIdeal.main (F := Ideal))) ⟨m, fun _ => 0, g⟩ (fun r => (∀ c : Dev Cert.ReferenceNaQkIdeal.nD,
      r.2.mem ((c.tc : Thread Cert.ReferenceNaQkIdeal.nD Cert.ReferenceNaQkIdeal.τ).loc Cert.ReferenceNaQkIdeal.main_arg0) = m ((c.tc : Thread Cert.ReferenceNaQkIdeal.nD Cert.ReferenceNaQkIdeal.τ).loc Cert.ReferenceNaQkIdeal.main_arg0)
      ∧ r.2.mem ((c.tc : Thread Cert.ReferenceNaQkIdeal.nD Cert.ReferenceNaQkIdeal.τ).loc Cert.ReferenceNaQkIdeal.main_arg1) = m ((c.tc : Thread Cert.ReferenceNaQkIdeal.nD Cert.ReferenceNaQkIdeal.τ).loc Cert.ReferenceNaQkIdeal.main_arg1)
      ∧ r.2.mem ((c.tc : Thread Cert.ReferenceNaQkIdeal.nD Cert.ReferenceNaQkIdeal.τ).loc Cert.ReferenceNaQkIdeal.main_arg2) = m ((c.tc : Thread Cert.ReferenceNaQkIdeal.nD Cert.ReferenceNaQkIdeal.τ).loc Cert.ReferenceNaQkIdeal.main_arg2)
      ∧ r.2.mem ((c.tc : Thread Cert.ReferenceNaQkIdeal.nD Cert.ReferenceNaQkIdeal.τ).loc Cert.ReferenceNaQkIdeal.main_arg3) = m ((c.tc : Thread Cert.ReferenceNaQkIdeal.nD Cert.ReferenceNaQkIdeal.τ).loc Cert.ReferenceNaQkIdeal.main_arg3))
      ∧ r.2.sem = fun _ => 0)

def quiescent_KernelNaV [hKernelNaV : Cert.KernelNaV.Facts] : Prop :=
  ∀ (m : (ℓ : Loc Cert.KernelNaV.nD Cert.KernelNaV.τ Cert.KernelNaV.sig) → Buf (Elt Bits) ℓ) (g : Dev Cert.KernelNaV.nD → PrngReg), Pre_KernelNaV m →
    θ_run (Cert.KernelNaV.defs (F := Bits)) (onTc (τ := Cert.KernelNaV.τ) (Cert.KernelNaV.main (F := Bits))) ⟨m, fun _ => 0, g⟩ (fun r => (∀ c : Dev Cert.KernelNaV.nD,
      r.2.mem ((c.tc : Thread Cert.KernelNaV.nD Cert.KernelNaV.τ).loc Cert.KernelNaV.main_arg0) = m ((c.tc : Thread Cert.KernelNaV.nD Cert.KernelNaV.τ).loc Cert.KernelNaV.main_arg0)
      ∧ r.2.mem ((c.tc : Thread Cert.KernelNaV.nD Cert.KernelNaV.τ).loc Cert.KernelNaV.main_arg1) = m ((c.tc : Thread Cert.KernelNaV.nD Cert.KernelNaV.τ).loc Cert.KernelNaV.main_arg1))
      ∧ r.2.sem = fun _ => 0)

def quiescent_KernelNaVIdeal [hKernelNaVIdeal : Cert.KernelNaVIdeal.Facts] : Prop :=
  ∀ (m : (ℓ : Loc Cert.KernelNaVIdeal.nD Cert.KernelNaVIdeal.τ Cert.KernelNaVIdeal.sig) → Buf (Elt Ideal) ℓ) (g : Dev Cert.KernelNaVIdeal.nD → PrngReg), Pre_KernelNaVIdeal m →
    θ_run (Cert.KernelNaVIdeal.defs (F := Ideal)) (onTc (τ := Cert.KernelNaVIdeal.τ) (Cert.KernelNaVIdeal.main (F := Ideal))) ⟨m, fun _ => 0, g⟩ (fun r => (∀ c : Dev Cert.KernelNaVIdeal.nD,
      r.2.mem ((c.tc : Thread Cert.KernelNaVIdeal.nD Cert.KernelNaVIdeal.τ).loc Cert.KernelNaVIdeal.main_arg0) = m ((c.tc : Thread Cert.KernelNaVIdeal.nD Cert.KernelNaVIdeal.τ).loc Cert.KernelNaVIdeal.main_arg0)
      ∧ r.2.mem ((c.tc : Thread Cert.KernelNaVIdeal.nD Cert.KernelNaVIdeal.τ).loc Cert.KernelNaVIdeal.main_arg1) = m ((c.tc : Thread Cert.KernelNaVIdeal.nD Cert.KernelNaVIdeal.τ).loc Cert.KernelNaVIdeal.main_arg1))
      ∧ r.2.sem = fun _ => 0)

def quiescent_ReferenceNaVIdeal [hReferenceNaVIdeal : Cert.ReferenceNaVIdeal.Facts] : Prop :=
  ∀ (m : (ℓ : Loc Cert.ReferenceNaVIdeal.nD Cert.ReferenceNaVIdeal.τ Cert.ReferenceNaVIdeal.sig) → Buf (Elt Ideal) ℓ) (g : Dev Cert.ReferenceNaVIdeal.nD → PrngReg), Pre_ReferenceNaVIdeal m →
    θ_run (Cert.ReferenceNaVIdeal.defs (F := Ideal)) (onTc (τ := Cert.ReferenceNaVIdeal.τ) (Cert.ReferenceNaVIdeal.main (F := Ideal))) ⟨m, fun _ => 0, g⟩ (fun r => (∀ c : Dev Cert.ReferenceNaVIdeal.nD,
      r.2.mem ((c.tc : Thread Cert.ReferenceNaVIdeal.nD Cert.ReferenceNaVIdeal.τ).loc Cert.ReferenceNaVIdeal.main_arg0) = m ((c.tc : Thread Cert.ReferenceNaVIdeal.nD Cert.ReferenceNaVIdeal.τ).loc Cert.ReferenceNaVIdeal.main_arg0)
      ∧ r.2.mem ((c.tc : Thread Cert.ReferenceNaVIdeal.nD Cert.ReferenceNaVIdeal.τ).loc Cert.ReferenceNaVIdeal.main_arg1) = m ((c.tc : Thread Cert.ReferenceNaVIdeal.nD Cert.ReferenceNaVIdeal.τ).loc Cert.ReferenceNaVIdeal.main_arg1))
      ∧ r.2.sem = fun _ => 0)

def quiescent_KernelCq [hKernelCq : Cert.KernelCq.Facts] : Prop :=
  ∀ (m : (ℓ : Loc Cert.KernelCq.nD Cert.KernelCq.τ Cert.KernelCq.sig) → Buf (Elt Bits) ℓ) (g : Dev Cert.KernelCq.nD → PrngReg), Pre_KernelCq m →
    θ_run (Cert.KernelCq.defs (F := Bits)) (onTc (τ := Cert.KernelCq.τ) (Cert.KernelCq.main (F := Bits))) ⟨m, fun _ => 0, g⟩ (fun r => (∀ c : Dev Cert.KernelCq.nD,
      r.2.mem ((c.tc : Thread Cert.KernelCq.nD Cert.KernelCq.τ).loc Cert.KernelCq.main_arg0) = m ((c.tc : Thread Cert.KernelCq.nD Cert.KernelCq.τ).loc Cert.KernelCq.main_arg0)
      ∧ r.2.mem ((c.tc : Thread Cert.KernelCq.nD Cert.KernelCq.τ).loc Cert.KernelCq.main_arg1) = m ((c.tc : Thread Cert.KernelCq.nD Cert.KernelCq.τ).loc Cert.KernelCq.main_arg1)
      ∧ r.2.mem ((c.tc : Thread Cert.KernelCq.nD Cert.KernelCq.τ).loc Cert.KernelCq.main_arg2) = m ((c.tc : Thread Cert.KernelCq.nD Cert.KernelCq.τ).loc Cert.KernelCq.main_arg2))
      ∧ r.2.sem = fun _ => 0)

def quiescent_KernelCqIdeal [hKernelCqIdeal : Cert.KernelCqIdeal.Facts] : Prop :=
  ∀ (m : (ℓ : Loc Cert.KernelCqIdeal.nD Cert.KernelCqIdeal.τ Cert.KernelCqIdeal.sig) → Buf (Elt Ideal) ℓ) (g : Dev Cert.KernelCqIdeal.nD → PrngReg), Pre_KernelCqIdeal m →
    θ_run (Cert.KernelCqIdeal.defs (F := Ideal)) (onTc (τ := Cert.KernelCqIdeal.τ) (Cert.KernelCqIdeal.main (F := Ideal))) ⟨m, fun _ => 0, g⟩ (fun r => (∀ c : Dev Cert.KernelCqIdeal.nD,
      r.2.mem ((c.tc : Thread Cert.KernelCqIdeal.nD Cert.KernelCqIdeal.τ).loc Cert.KernelCqIdeal.main_arg0) = m ((c.tc : Thread Cert.KernelCqIdeal.nD Cert.KernelCqIdeal.τ).loc Cert.KernelCqIdeal.main_arg0)
      ∧ r.2.mem ((c.tc : Thread Cert.KernelCqIdeal.nD Cert.KernelCqIdeal.τ).loc Cert.KernelCqIdeal.main_arg1) = m ((c.tc : Thread Cert.KernelCqIdeal.nD Cert.KernelCqIdeal.τ).loc Cert.KernelCqIdeal.main_arg1)
      ∧ r.2.mem ((c.tc : Thread Cert.KernelCqIdeal.nD Cert.KernelCqIdeal.τ).loc Cert.KernelCqIdeal.main_arg2) = m ((c.tc : Thread Cert.KernelCqIdeal.nD Cert.KernelCqIdeal.τ).loc Cert.KernelCqIdeal.main_arg2))
      ∧ r.2.sem = fun _ => 0)

def quiescent_ReferenceCqIdeal [hReferenceCqIdeal : Cert.ReferenceCqIdeal.Facts] : Prop :=
  ∀ (m : (ℓ : Loc Cert.ReferenceCqIdeal.nD Cert.ReferenceCqIdeal.τ Cert.ReferenceCqIdeal.sig) → Buf (Elt Ideal) ℓ) (g : Dev Cert.ReferenceCqIdeal.nD → PrngReg), Pre_ReferenceCqIdeal m →
    θ_run (Cert.ReferenceCqIdeal.defs (F := Ideal)) (onTc (τ := Cert.ReferenceCqIdeal.τ) (Cert.ReferenceCqIdeal.main (F := Ideal))) ⟨m, fun _ => 0, g⟩ (fun r => (∀ c : Dev Cert.ReferenceCqIdeal.nD,
      r.2.mem ((c.tc : Thread Cert.ReferenceCqIdeal.nD Cert.ReferenceCqIdeal.τ).loc Cert.ReferenceCqIdeal.main_arg0) = m ((c.tc : Thread Cert.ReferenceCqIdeal.nD Cert.ReferenceCqIdeal.τ).loc Cert.ReferenceCqIdeal.main_arg0)
      ∧ r.2.mem ((c.tc : Thread Cert.ReferenceCqIdeal.nD Cert.ReferenceCqIdeal.τ).loc Cert.ReferenceCqIdeal.main_arg1) = m ((c.tc : Thread Cert.ReferenceCqIdeal.nD Cert.ReferenceCqIdeal.τ).loc Cert.ReferenceCqIdeal.main_arg1)
      ∧ r.2.mem ((c.tc : Thread Cert.ReferenceCqIdeal.nD Cert.ReferenceCqIdeal.τ).loc Cert.ReferenceCqIdeal.main_arg2) = m ((c.tc : Thread Cert.ReferenceCqIdeal.nD Cert.ReferenceCqIdeal.τ).loc Cert.ReferenceCqIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelCkv [hKernelCkv : Cert.KernelCkv.Facts] : Prop :=
  ∀ (m : (ℓ : Loc Cert.KernelCkv.nD Cert.KernelCkv.τ Cert.KernelCkv.sig) → Buf (Elt Bits) ℓ) (g : Dev Cert.KernelCkv.nD → PrngReg), Pre_KernelCkv m →
    θ_run (Cert.KernelCkv.defs (F := Bits)) (onTc (τ := Cert.KernelCkv.τ) (Cert.KernelCkv.main (F := Bits))) ⟨m, fun _ => 0, g⟩ (fun r => (∀ c : Dev Cert.KernelCkv.nD,
      r.2.mem ((c.tc : Thread Cert.KernelCkv.nD Cert.KernelCkv.τ).loc Cert.KernelCkv.main_arg0) = m ((c.tc : Thread Cert.KernelCkv.nD Cert.KernelCkv.τ).loc Cert.KernelCkv.main_arg0)
      ∧ r.2.mem ((c.tc : Thread Cert.KernelCkv.nD Cert.KernelCkv.τ).loc Cert.KernelCkv.main_arg1) = m ((c.tc : Thread Cert.KernelCkv.nD Cert.KernelCkv.τ).loc Cert.KernelCkv.main_arg1)
      ∧ r.2.mem ((c.tc : Thread Cert.KernelCkv.nD Cert.KernelCkv.τ).loc Cert.KernelCkv.main_arg2) = m ((c.tc : Thread Cert.KernelCkv.nD Cert.KernelCkv.τ).loc Cert.KernelCkv.main_arg2))
      ∧ r.2.sem = fun _ => 0)

def quiescent_KernelCkvIdeal [hKernelCkvIdeal : Cert.KernelCkvIdeal.Facts] : Prop :=
  ∀ (m : (ℓ : Loc Cert.KernelCkvIdeal.nD Cert.KernelCkvIdeal.τ Cert.KernelCkvIdeal.sig) → Buf (Elt Ideal) ℓ) (g : Dev Cert.KernelCkvIdeal.nD → PrngReg), Pre_KernelCkvIdeal m →
    θ_run (Cert.KernelCkvIdeal.defs (F := Ideal)) (onTc (τ := Cert.KernelCkvIdeal.τ) (Cert.KernelCkvIdeal.main (F := Ideal))) ⟨m, fun _ => 0, g⟩ (fun r => (∀ c : Dev Cert.KernelCkvIdeal.nD,
      r.2.mem ((c.tc : Thread Cert.KernelCkvIdeal.nD Cert.KernelCkvIdeal.τ).loc Cert.KernelCkvIdeal.main_arg0) = m ((c.tc : Thread Cert.KernelCkvIdeal.nD Cert.KernelCkvIdeal.τ).loc Cert.KernelCkvIdeal.main_arg0)
      ∧ r.2.mem ((c.tc : Thread Cert.KernelCkvIdeal.nD Cert.KernelCkvIdeal.τ).loc Cert.KernelCkvIdeal.main_arg1) = m ((c.tc : Thread Cert.KernelCkvIdeal.nD Cert.KernelCkvIdeal.τ).loc Cert.KernelCkvIdeal.main_arg1)
      ∧ r.2.mem ((c.tc : Thread Cert.KernelCkvIdeal.nD Cert.KernelCkvIdeal.τ).loc Cert.KernelCkvIdeal.main_arg2) = m ((c.tc : Thread Cert.KernelCkvIdeal.nD Cert.KernelCkvIdeal.τ).loc Cert.KernelCkvIdeal.main_arg2))
      ∧ r.2.sem = fun _ => 0)

def quiescent_ReferenceCkvIdeal [hReferenceCkvIdeal : Cert.ReferenceCkvIdeal.Facts] : Prop :=
  ∀ (m : (ℓ : Loc Cert.ReferenceCkvIdeal.nD Cert.ReferenceCkvIdeal.τ Cert.ReferenceCkvIdeal.sig) → Buf (Elt Ideal) ℓ) (g : Dev Cert.ReferenceCkvIdeal.nD → PrngReg), Pre_ReferenceCkvIdeal m →
    θ_run (Cert.ReferenceCkvIdeal.defs (F := Ideal)) (onTc (τ := Cert.ReferenceCkvIdeal.τ) (Cert.ReferenceCkvIdeal.main (F := Ideal))) ⟨m, fun _ => 0, g⟩ (fun r => (∀ c : Dev Cert.ReferenceCkvIdeal.nD,
      r.2.mem ((c.tc : Thread Cert.ReferenceCkvIdeal.nD Cert.ReferenceCkvIdeal.τ).loc Cert.ReferenceCkvIdeal.main_arg0) = m ((c.tc : Thread Cert.ReferenceCkvIdeal.nD Cert.ReferenceCkvIdeal.τ).loc Cert.ReferenceCkvIdeal.main_arg0)
      ∧ r.2.mem ((c.tc : Thread Cert.ReferenceCkvIdeal.nD Cert.ReferenceCkvIdeal.τ).loc Cert.ReferenceCkvIdeal.main_arg1) = m ((c.tc : Thread Cert.ReferenceCkvIdeal.nD Cert.ReferenceCkvIdeal.τ).loc Cert.ReferenceCkvIdeal.main_arg1)
      ∧ r.2.mem ((c.tc : Thread Cert.ReferenceCkvIdeal.nD Cert.ReferenceCkvIdeal.τ).loc Cert.ReferenceCkvIdeal.main_arg2) = m ((c.tc : Thread Cert.ReferenceCkvIdeal.nD Cert.ReferenceCkvIdeal.τ).loc Cert.ReferenceCkvIdeal.main_arg2))
      ∧ r.2.sem = fun _ => 0)

def quiescent_KernelQUp [hKernelQUp : Cert.KernelQUp.Facts] : Prop :=
  ∀ (m : (ℓ : Loc Cert.KernelQUp.nD Cert.KernelQUp.τ Cert.KernelQUp.sig) → Buf (Elt Bits) ℓ) (g : Dev Cert.KernelQUp.nD → PrngReg), Pre_KernelQUp m →
    θ_run (Cert.KernelQUp.defs (F := Bits)) (onTc (τ := Cert.KernelQUp.τ) (Cert.KernelQUp.main (F := Bits))) ⟨m, fun _ => 0, g⟩ (fun r => (∀ c : Dev Cert.KernelQUp.nD,
      r.2.mem ((c.tc : Thread Cert.KernelQUp.nD Cert.KernelQUp.τ).loc Cert.KernelQUp.main_arg0) = m ((c.tc : Thread Cert.KernelQUp.nD Cert.KernelQUp.τ).loc Cert.KernelQUp.main_arg0)
      ∧ r.2.mem ((c.tc : Thread Cert.KernelQUp.nD Cert.KernelQUp.τ).loc Cert.KernelQUp.main_arg1) = m ((c.tc : Thread Cert.KernelQUp.nD Cert.KernelQUp.τ).loc Cert.KernelQUp.main_arg1)
      ∧ r.2.mem ((c.tc : Thread Cert.KernelQUp.nD Cert.KernelQUp.τ).loc Cert.KernelQUp.main_arg2) = m ((c.tc : Thread Cert.KernelQUp.nD Cert.KernelQUp.τ).loc Cert.KernelQUp.main_arg2))
      ∧ r.2.sem = fun _ => 0)

def quiescent_KernelQUpIdeal [hKernelQUpIdeal : Cert.KernelQUpIdeal.Facts] : Prop :=
  ∀ (m : (ℓ : Loc Cert.KernelQUpIdeal.nD Cert.KernelQUpIdeal.τ Cert.KernelQUpIdeal.sig) → Buf (Elt Ideal) ℓ) (g : Dev Cert.KernelQUpIdeal.nD → PrngReg), Pre_KernelQUpIdeal m →
    θ_run (Cert.KernelQUpIdeal.defs (F := Ideal)) (onTc (τ := Cert.KernelQUpIdeal.τ) (Cert.KernelQUpIdeal.main (F := Ideal))) ⟨m, fun _ => 0, g⟩ (fun r => (∀ c : Dev Cert.KernelQUpIdeal.nD,
      r.2.mem ((c.tc : Thread Cert.KernelQUpIdeal.nD Cert.KernelQUpIdeal.τ).loc Cert.KernelQUpIdeal.main_arg0) = m ((c.tc : Thread Cert.KernelQUpIdeal.nD Cert.KernelQUpIdeal.τ).loc Cert.KernelQUpIdeal.main_arg0)
      ∧ r.2.mem ((c.tc : Thread Cert.KernelQUpIdeal.nD Cert.KernelQUpIdeal.τ).loc Cert.KernelQUpIdeal.main_arg1) = m ((c.tc : Thread Cert.KernelQUpIdeal.nD Cert.KernelQUpIdeal.τ).loc Cert.KernelQUpIdeal.main_arg1)
      ∧ r.2.mem ((c.tc : Thread Cert.KernelQUpIdeal.nD Cert.KernelQUpIdeal.τ).loc Cert.KernelQUpIdeal.main_arg2) = m ((c.tc : Thread Cert.KernelQUpIdeal.nD Cert.KernelQUpIdeal.τ).loc Cert.KernelQUpIdeal.main_arg2))
      ∧ r.2.sem = fun _ => 0)

def quiescent_ReferenceQUpIdeal [hReferenceQUpIdeal : Cert.ReferenceQUpIdeal.Facts] : Prop :=
  ∀ (m : (ℓ : Loc Cert.ReferenceQUpIdeal.nD Cert.ReferenceQUpIdeal.τ Cert.ReferenceQUpIdeal.sig) → Buf (Elt Ideal) ℓ) (g : Dev Cert.ReferenceQUpIdeal.nD → PrngReg), Pre_ReferenceQUpIdeal m →
    θ_run (Cert.ReferenceQUpIdeal.defs (F := Ideal)) (onTc (τ := Cert.ReferenceQUpIdeal.τ) (Cert.ReferenceQUpIdeal.main (F := Ideal))) ⟨m, fun _ => 0, g⟩ (fun r => (∀ c : Dev Cert.ReferenceQUpIdeal.nD,
      r.2.mem ((c.tc : Thread Cert.ReferenceQUpIdeal.nD Cert.ReferenceQUpIdeal.τ).loc Cert.ReferenceQUpIdeal.main_arg0) = m ((c.tc : Thread Cert.ReferenceQUpIdeal.nD Cert.ReferenceQUpIdeal.τ).loc Cert.ReferenceQUpIdeal.main_arg0)
      ∧ r.2.mem ((c.tc : Thread Cert.ReferenceQUpIdeal.nD Cert.ReferenceQUpIdeal.τ).loc Cert.ReferenceQUpIdeal.main_arg1) = m ((c.tc : Thread Cert.ReferenceQUpIdeal.nD Cert.ReferenceQUpIdeal.τ).loc Cert.ReferenceQUpIdeal.main_arg1)
      ∧ r.2.mem ((c.tc : Thread Cert.ReferenceQUpIdeal.nD Cert.ReferenceQUpIdeal.τ).loc Cert.ReferenceQUpIdeal.main_arg2) = m ((c.tc : Thread Cert.ReferenceQUpIdeal.nD Cert.ReferenceQUpIdeal.τ).loc Cert.ReferenceQUpIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelMla_KernelMlaIdeal : Prop :=
  True

def algebraic_KernelMlaIdeal_ReferenceMlaIdeal_pre_finite_mla [hKernelMlaIdeal : Cert.KernelMlaIdeal.Facts] [hReferenceMlaIdeal : Cert.ReferenceMlaIdeal.Facts] [hPre_finite_mla : Cert.Pre_finite_mla.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg)
    (m' : (ℓ : Loc Cert.ReferenceMlaIdeal.nD Cert.ReferenceMlaIdeal.τ Cert.ReferenceMlaIdeal.sig) → Buf (Elt Ideal) ℓ) (g' : Dev Cert.ReferenceMlaIdeal.nD → PrngReg), Pre_KernelMlaIdeal_finite_mla m →
    (∀ c : Dev Cert.KernelMlaIdeal.nD,
      m' ((c.tc : Thread Cert.ReferenceMlaIdeal.nD Cert.ReferenceMlaIdeal.τ).loc Cert.ReferenceMlaIdeal.main_arg0) = m ((c.tc : Thread Cert.KernelMlaIdeal.nD Cert.KernelMlaIdeal.τ).loc Cert.KernelMlaIdeal.main_arg0)
      ∧ m' ((c.tc : Thread Cert.ReferenceMlaIdeal.nD Cert.ReferenceMlaIdeal.τ).loc Cert.ReferenceMlaIdeal.main_arg1) = m ((c.tc : Thread Cert.KernelMlaIdeal.nD Cert.KernelMlaIdeal.τ).loc Cert.KernelMlaIdeal.main_arg1)
      ∧ m' ((c.tc : Thread Cert.ReferenceMlaIdeal.nD Cert.ReferenceMlaIdeal.τ).loc Cert.ReferenceMlaIdeal.main_arg2) = m ((c.tc : Thread Cert.KernelMlaIdeal.nD Cert.KernelMlaIdeal.τ).loc Cert.KernelMlaIdeal.main_arg2)
      ∧ m' ((c.tc : Thread Cert.ReferenceMlaIdeal.nD Cert.ReferenceMlaIdeal.τ).loc Cert.ReferenceMlaIdeal.main_arg3) = m ((c.tc : Thread Cert.KernelMlaIdeal.nD Cert.KernelMlaIdeal.τ).loc Cert.KernelMlaIdeal.main_arg3)
      ∧ m' ((c.tc : Thread Cert.ReferenceMlaIdeal.nD Cert.ReferenceMlaIdeal.τ).loc Cert.ReferenceMlaIdeal.main_arg4) = m ((c.tc : Thread Cert.KernelMlaIdeal.nD Cert.KernelMlaIdeal.τ).loc Cert.KernelMlaIdeal.main_arg4)) →
    ∃ (v0 : (c : Dev Cert.KernelMlaIdeal.nD) → Buf (Elt Ideal) ((c.tc : Thread Cert.KernelMlaIdeal.nD Cert.KernelMlaIdeal.τ).loc Cert.KernelMlaIdeal.main_v38)),
      θ_run (Cert.KernelMlaIdeal.defs (F := Ideal)) (onTc (τ := Cert.KernelMlaIdeal.τ) (Cert.KernelMlaIdeal.main (F := Ideal))) ⟨m, fun _ => 0, g⟩ (fun r => ∀ c : Dev Cert.KernelMlaIdeal.nD,
          r.2.mem ((c.tc : Thread Cert.KernelMlaIdeal.nD Cert.KernelMlaIdeal.τ).loc Cert.KernelMlaIdeal.main_v38) = v0 c
          ∧ r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
          ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
          ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2)
          ∧ r.2.mem ((c.tc : Thread Cert.KernelMlaIdeal.nD Cert.KernelMlaIdeal.τ).loc Cert.KernelMlaIdeal.main_arg3) = m ((c.tc : Thread Cert.KernelMlaIdeal.nD Cert.KernelMlaIdeal.τ).loc Cert.KernelMlaIdeal.main_arg3)
          ∧ r.2.mem ((c.tc : Thread Cert.KernelMlaIdeal.nD Cert.KernelMlaIdeal.τ).loc Cert.KernelMlaIdeal.main_arg4) = m ((c.tc : Thread Cert.KernelMlaIdeal.nD Cert.KernelMlaIdeal.τ).loc Cert.KernelMlaIdeal.main_arg4))
      ∧ θ_run (Cert.ReferenceMlaIdeal.defs (F := Ideal)) (onTc (τ := Cert.ReferenceMlaIdeal.τ) (Cert.ReferenceMlaIdeal.main (F := Ideal))) ⟨m', fun _ => 0, g'⟩ (fun r => ∀ c : Dev Cert.ReferenceMlaIdeal.nD,
          r.2.mem ((c.tc : Thread Cert.ReferenceMlaIdeal.nD Cert.ReferenceMlaIdeal.τ).loc Cert.ReferenceMlaIdeal.main_v26) = v0 c
          ∧ r.2.mem ((c.tc : Thread Cert.ReferenceMlaIdeal.nD Cert.ReferenceMlaIdeal.τ).loc Cert.ReferenceMlaIdeal.main_arg0) = m' ((c.tc : Thread Cert.ReferenceMlaIdeal.nD Cert.ReferenceMlaIdeal.τ).loc Cert.ReferenceMlaIdeal.main_arg0)
          ∧ r.2.mem ((c.tc : Thread Cert.ReferenceMlaIdeal.nD Cert.ReferenceMlaIdeal.τ).loc Cert.ReferenceMlaIdeal.main_arg1) = m' ((c.tc : Thread Cert.ReferenceMlaIdeal.nD Cert.ReferenceMlaIdeal.τ).loc Cert.ReferenceMlaIdeal.main_arg1)
          ∧ r.2.mem ((c.tc : Thread Cert.ReferenceMlaIdeal.nD Cert.ReferenceMlaIdeal.τ).loc Cert.ReferenceMlaIdeal.main_arg2) = m' ((c.tc : Thread Cert.ReferenceMlaIdeal.nD Cert.ReferenceMlaIdeal.τ).loc Cert.ReferenceMlaIdeal.main_arg2)
          ∧ r.2.mem ((c.tc : Thread Cert.ReferenceMlaIdeal.nD Cert.ReferenceMlaIdeal.τ).loc Cert.ReferenceMlaIdeal.main_arg3) = m' ((c.tc : Thread Cert.ReferenceMlaIdeal.nD Cert.ReferenceMlaIdeal.τ).loc Cert.ReferenceMlaIdeal.main_arg3)
          ∧ r.2.mem ((c.tc : Thread Cert.ReferenceMlaIdeal.nD Cert.ReferenceMlaIdeal.τ).loc Cert.ReferenceMlaIdeal.main_arg4) = m' ((c.tc : Thread Cert.ReferenceMlaIdeal.nD Cert.ReferenceMlaIdeal.τ).loc Cert.ReferenceMlaIdeal.main_arg4))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)) →
    ∃ (v0 : (c : Dev Cert.KernelMergeIdeal.nD) → Buf (Elt Ideal) ((c.tc : Thread Cert.KernelMergeIdeal.nD Cert.KernelMergeIdeal.τ).loc Cert.KernelMergeIdeal.main_v19)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v19) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v30) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)) →
    ∃ (v0 : (c : Dev Cert.KernelFfnIdeal.nD) → Buf (Elt Ideal) ((c.tc : Thread Cert.KernelFfnIdeal.nD Cert.KernelFfnIdeal.τ).loc Cert.KernelFfnIdeal.main_v33)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v33) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v35) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6))

def preserves_KernelNaQk_KernelNaQkIdeal : Prop :=
  True

def algebraic_KernelNaQkIdeal_ReferenceNaQkIdeal [hKernelNaQkIdeal : Cert.KernelNaQkIdeal.Facts] [hReferenceNaQkIdeal : Cert.ReferenceNaQkIdeal.Facts] : Prop :=
  ∀ (m : (ℓ : Loc Cert.KernelNaQkIdeal.nD Cert.KernelNaQkIdeal.τ Cert.KernelNaQkIdeal.sig) → Buf (Elt Ideal) ℓ) (g : Dev Cert.KernelNaQkIdeal.nD → PrngReg)
    (m' : (ℓ : Loc Cert.ReferenceNaQkIdeal.nD Cert.ReferenceNaQkIdeal.τ Cert.ReferenceNaQkIdeal.sig) → Buf (Elt Ideal) ℓ) (g' : Dev Cert.ReferenceNaQkIdeal.nD → PrngReg), Pre_KernelNaQkIdeal m →
    (∀ c : Dev Cert.KernelNaQkIdeal.nD,
      m' ((c.tc : Thread Cert.ReferenceNaQkIdeal.nD Cert.ReferenceNaQkIdeal.τ).loc Cert.ReferenceNaQkIdeal.main_arg0) = m ((c.tc : Thread Cert.KernelNaQkIdeal.nD Cert.KernelNaQkIdeal.τ).loc Cert.KernelNaQkIdeal.main_arg0)
      ∧ m' ((c.tc : Thread Cert.ReferenceNaQkIdeal.nD Cert.ReferenceNaQkIdeal.τ).loc Cert.ReferenceNaQkIdeal.main_arg1) = m ((c.tc : Thread Cert.KernelNaQkIdeal.nD Cert.KernelNaQkIdeal.τ).loc Cert.KernelNaQkIdeal.main_arg1)
      ∧ m' ((c.tc : Thread Cert.ReferenceNaQkIdeal.nD Cert.ReferenceNaQkIdeal.τ).loc Cert.ReferenceNaQkIdeal.main_arg2) = m ((c.tc : Thread Cert.KernelNaQkIdeal.nD Cert.KernelNaQkIdeal.τ).loc Cert.KernelNaQkIdeal.main_arg2)
      ∧ m' ((c.tc : Thread Cert.ReferenceNaQkIdeal.nD Cert.ReferenceNaQkIdeal.τ).loc Cert.ReferenceNaQkIdeal.main_arg3) = m ((c.tc : Thread Cert.KernelNaQkIdeal.nD Cert.KernelNaQkIdeal.τ).loc Cert.KernelNaQkIdeal.main_arg3)) →
    ∃ (v0 : (c : Dev Cert.KernelNaQkIdeal.nD) → Buf (Elt Ideal) ((c.tc : Thread Cert.KernelNaQkIdeal.nD Cert.KernelNaQkIdeal.τ).loc Cert.KernelNaQkIdeal.main_v12)),
      θ_run (Cert.KernelNaQkIdeal.defs (F := Ideal)) (onTc (τ := Cert.KernelNaQkIdeal.τ) (Cert.KernelNaQkIdeal.main (F := Ideal))) ⟨m, fun _ => 0, g⟩ (fun r => ∀ c : Dev Cert.KernelNaQkIdeal.nD,
          r.2.mem ((c.tc : Thread Cert.KernelNaQkIdeal.nD Cert.KernelNaQkIdeal.τ).loc Cert.KernelNaQkIdeal.main_v12) = v0 c
          ∧ r.2.mem ((c.tc : Thread Cert.KernelNaQkIdeal.nD Cert.KernelNaQkIdeal.τ).loc Cert.KernelNaQkIdeal.main_arg0) = m ((c.tc : Thread Cert.KernelNaQkIdeal.nD Cert.KernelNaQkIdeal.τ).loc Cert.KernelNaQkIdeal.main_arg0)
          ∧ r.2.mem ((c.tc : Thread Cert.KernelNaQkIdeal.nD Cert.KernelNaQkIdeal.τ).loc Cert.KernelNaQkIdeal.main_arg1) = m ((c.tc : Thread Cert.KernelNaQkIdeal.nD Cert.KernelNaQkIdeal.τ).loc Cert.KernelNaQkIdeal.main_arg1)
          ∧ r.2.mem ((c.tc : Thread Cert.KernelNaQkIdeal.nD Cert.KernelNaQkIdeal.τ).loc Cert.KernelNaQkIdeal.main_arg2) = m ((c.tc : Thread Cert.KernelNaQkIdeal.nD Cert.KernelNaQkIdeal.τ).loc Cert.KernelNaQkIdeal.main_arg2)
          ∧ r.2.mem ((c.tc : Thread Cert.KernelNaQkIdeal.nD Cert.KernelNaQkIdeal.τ).loc Cert.KernelNaQkIdeal.main_arg3) = m ((c.tc : Thread Cert.KernelNaQkIdeal.nD Cert.KernelNaQkIdeal.τ).loc Cert.KernelNaQkIdeal.main_arg3))
      ∧ θ_run (Cert.ReferenceNaQkIdeal.defs (F := Ideal)) (onTc (τ := Cert.ReferenceNaQkIdeal.τ) (Cert.ReferenceNaQkIdeal.main (F := Ideal))) ⟨m', fun _ => 0, g'⟩ (fun r => ∀ c : Dev Cert.ReferenceNaQkIdeal.nD,
          r.2.mem ((c.tc : Thread Cert.ReferenceNaQkIdeal.nD Cert.ReferenceNaQkIdeal.τ).loc Cert.ReferenceNaQkIdeal.main_v41) = v0 c
          ∧ r.2.mem ((c.tc : Thread Cert.ReferenceNaQkIdeal.nD Cert.ReferenceNaQkIdeal.τ).loc Cert.ReferenceNaQkIdeal.main_arg0) = m' ((c.tc : Thread Cert.ReferenceNaQkIdeal.nD Cert.ReferenceNaQkIdeal.τ).loc Cert.ReferenceNaQkIdeal.main_arg0)
          ∧ r.2.mem ((c.tc : Thread Cert.ReferenceNaQkIdeal.nD Cert.ReferenceNaQkIdeal.τ).loc Cert.ReferenceNaQkIdeal.main_arg1) = m' ((c.tc : Thread Cert.ReferenceNaQkIdeal.nD Cert.ReferenceNaQkIdeal.τ).loc Cert.ReferenceNaQkIdeal.main_arg1)
          ∧ r.2.mem ((c.tc : Thread Cert.ReferenceNaQkIdeal.nD Cert.ReferenceNaQkIdeal.τ).loc Cert.ReferenceNaQkIdeal.main_arg2) = m' ((c.tc : Thread Cert.ReferenceNaQkIdeal.nD Cert.ReferenceNaQkIdeal.τ).loc Cert.ReferenceNaQkIdeal.main_arg2)
          ∧ r.2.mem ((c.tc : Thread Cert.ReferenceNaQkIdeal.nD Cert.ReferenceNaQkIdeal.τ).loc Cert.ReferenceNaQkIdeal.main_arg3) = m' ((c.tc : Thread Cert.ReferenceNaQkIdeal.nD Cert.ReferenceNaQkIdeal.τ).loc Cert.ReferenceNaQkIdeal.main_arg3))

def preserves_KernelNaV_KernelNaVIdeal : Prop :=
  True

def algebraic_KernelNaVIdeal_ReferenceNaVIdeal [hKernelNaVIdeal : Cert.KernelNaVIdeal.Facts] [hReferenceNaVIdeal : Cert.ReferenceNaVIdeal.Facts] : Prop :=
  ∀ (m : (ℓ : Loc Cert.KernelNaVIdeal.nD Cert.KernelNaVIdeal.τ Cert.KernelNaVIdeal.sig) → Buf (Elt Ideal) ℓ) (g : Dev Cert.KernelNaVIdeal.nD → PrngReg)
    (m' : (ℓ : Loc Cert.ReferenceNaVIdeal.nD Cert.ReferenceNaVIdeal.τ Cert.ReferenceNaVIdeal.sig) → Buf (Elt Ideal) ℓ) (g' : Dev Cert.ReferenceNaVIdeal.nD → PrngReg), Pre_KernelNaVIdeal m →
    (∀ c : Dev Cert.KernelNaVIdeal.nD,
      m' ((c.tc : Thread Cert.ReferenceNaVIdeal.nD Cert.ReferenceNaVIdeal.τ).loc Cert.ReferenceNaVIdeal.main_arg0) = m ((c.tc : Thread Cert.KernelNaVIdeal.nD Cert.KernelNaVIdeal.τ).loc Cert.KernelNaVIdeal.main_arg0)
      ∧ m' ((c.tc : Thread Cert.ReferenceNaVIdeal.nD Cert.ReferenceNaVIdeal.τ).loc Cert.ReferenceNaVIdeal.main_arg1) = m ((c.tc : Thread Cert.KernelNaVIdeal.nD Cert.KernelNaVIdeal.τ).loc Cert.KernelNaVIdeal.main_arg1)) →
    ∃ (v0 : (c : Dev Cert.KernelNaVIdeal.nD) → Buf (Elt Ideal) ((c.tc : Thread Cert.KernelNaVIdeal.nD Cert.KernelNaVIdeal.τ).loc Cert.KernelNaVIdeal.main_v4)),
      θ_run (Cert.KernelNaVIdeal.defs (F := Ideal)) (onTc (τ := Cert.KernelNaVIdeal.τ) (Cert.KernelNaVIdeal.main (F := Ideal))) ⟨m, fun _ => 0, g⟩ (fun r => ∀ c : Dev Cert.KernelNaVIdeal.nD,
          r.2.mem ((c.tc : Thread Cert.KernelNaVIdeal.nD Cert.KernelNaVIdeal.τ).loc Cert.KernelNaVIdeal.main_v4) = v0 c
          ∧ r.2.mem ((c.tc : Thread Cert.KernelNaVIdeal.nD Cert.KernelNaVIdeal.τ).loc Cert.KernelNaVIdeal.main_arg0) = m ((c.tc : Thread Cert.KernelNaVIdeal.nD Cert.KernelNaVIdeal.τ).loc Cert.KernelNaVIdeal.main_arg0)
          ∧ r.2.mem ((c.tc : Thread Cert.KernelNaVIdeal.nD Cert.KernelNaVIdeal.τ).loc Cert.KernelNaVIdeal.main_arg1) = m ((c.tc : Thread Cert.KernelNaVIdeal.nD Cert.KernelNaVIdeal.τ).loc Cert.KernelNaVIdeal.main_arg1))
      ∧ θ_run (Cert.ReferenceNaVIdeal.defs (F := Ideal)) (onTc (τ := Cert.ReferenceNaVIdeal.τ) (Cert.ReferenceNaVIdeal.main (F := Ideal))) ⟨m', fun _ => 0, g'⟩ (fun r => ∀ c : Dev Cert.ReferenceNaVIdeal.nD,
          r.2.mem ((c.tc : Thread Cert.ReferenceNaVIdeal.nD Cert.ReferenceNaVIdeal.τ).loc Cert.ReferenceNaVIdeal.main_v10) = v0 c
          ∧ r.2.mem ((c.tc : Thread Cert.ReferenceNaVIdeal.nD Cert.ReferenceNaVIdeal.τ).loc Cert.ReferenceNaVIdeal.main_arg0) = m' ((c.tc : Thread Cert.ReferenceNaVIdeal.nD Cert.ReferenceNaVIdeal.τ).loc Cert.ReferenceNaVIdeal.main_arg0)
          ∧ r.2.mem ((c.tc : Thread Cert.ReferenceNaVIdeal.nD Cert.ReferenceNaVIdeal.τ).loc Cert.ReferenceNaVIdeal.main_arg1) = m' ((c.tc : Thread Cert.ReferenceNaVIdeal.nD Cert.ReferenceNaVIdeal.τ).loc Cert.ReferenceNaVIdeal.main_arg1))

def preserves_KernelCq_KernelCqIdeal : Prop :=
  True

def algebraic_KernelCqIdeal_ReferenceCqIdeal [hKernelCqIdeal : Cert.KernelCqIdeal.Facts] [hReferenceCqIdeal : Cert.ReferenceCqIdeal.Facts] : Prop :=
  ∀ (m : (ℓ : Loc Cert.KernelCqIdeal.nD Cert.KernelCqIdeal.τ Cert.KernelCqIdeal.sig) → Buf (Elt Ideal) ℓ) (g : Dev Cert.KernelCqIdeal.nD → PrngReg)
    (m' : (ℓ : Loc Cert.ReferenceCqIdeal.nD Cert.ReferenceCqIdeal.τ Cert.ReferenceCqIdeal.sig) → Buf (Elt Ideal) ℓ) (g' : Dev Cert.ReferenceCqIdeal.nD → PrngReg), Pre_KernelCqIdeal m →
    (∀ c : Dev Cert.KernelCqIdeal.nD,
      m' ((c.tc : Thread Cert.ReferenceCqIdeal.nD Cert.ReferenceCqIdeal.τ).loc Cert.ReferenceCqIdeal.main_arg0) = m ((c.tc : Thread Cert.KernelCqIdeal.nD Cert.KernelCqIdeal.τ).loc Cert.KernelCqIdeal.main_arg0)
      ∧ m' ((c.tc : Thread Cert.ReferenceCqIdeal.nD Cert.ReferenceCqIdeal.τ).loc Cert.ReferenceCqIdeal.main_arg1) = m ((c.tc : Thread Cert.KernelCqIdeal.nD Cert.KernelCqIdeal.τ).loc Cert.KernelCqIdeal.main_arg1)
      ∧ m' ((c.tc : Thread Cert.ReferenceCqIdeal.nD Cert.ReferenceCqIdeal.τ).loc Cert.ReferenceCqIdeal.main_arg2) = m ((c.tc : Thread Cert.KernelCqIdeal.nD Cert.KernelCqIdeal.τ).loc Cert.KernelCqIdeal.main_arg2)) →
    ∃ (v0 : (c : Dev Cert.KernelCqIdeal.nD) → Buf (Elt Ideal) ((c.tc : Thread Cert.KernelCqIdeal.nD Cert.KernelCqIdeal.τ).loc Cert.KernelCqIdeal.main_v5)),
      θ_run (Cert.KernelCqIdeal.defs (F := Ideal)) (onTc (τ := Cert.KernelCqIdeal.τ) (Cert.KernelCqIdeal.main (F := Ideal))) ⟨m, fun _ => 0, g⟩ (fun r => ∀ c : Dev Cert.KernelCqIdeal.nD,
          r.2.mem ((c.tc : Thread Cert.KernelCqIdeal.nD Cert.KernelCqIdeal.τ).loc Cert.KernelCqIdeal.main_v5) = v0 c
          ∧ r.2.mem ((c.tc : Thread Cert.KernelCqIdeal.nD Cert.KernelCqIdeal.τ).loc Cert.KernelCqIdeal.main_arg0) = m ((c.tc : Thread Cert.KernelCqIdeal.nD Cert.KernelCqIdeal.τ).loc Cert.KernelCqIdeal.main_arg0)
          ∧ r.2.mem ((c.tc : Thread Cert.KernelCqIdeal.nD Cert.KernelCqIdeal.τ).loc Cert.KernelCqIdeal.main_arg1) = m ((c.tc : Thread Cert.KernelCqIdeal.nD Cert.KernelCqIdeal.τ).loc Cert.KernelCqIdeal.main_arg1)
          ∧ r.2.mem ((c.tc : Thread Cert.KernelCqIdeal.nD Cert.KernelCqIdeal.τ).loc Cert.KernelCqIdeal.main_arg2) = m ((c.tc : Thread Cert.KernelCqIdeal.nD Cert.KernelCqIdeal.τ).loc Cert.KernelCqIdeal.main_arg2))
      ∧ θ_run (Cert.ReferenceCqIdeal.defs (F := Ideal)) (onTc (τ := Cert.ReferenceCqIdeal.τ) (Cert.ReferenceCqIdeal.main (F := Ideal))) ⟨m', fun _ => 0, g'⟩ (fun r => ∀ c : Dev Cert.ReferenceCqIdeal.nD,
          r.2.mem ((c.tc : Thread Cert.ReferenceCqIdeal.nD Cert.ReferenceCqIdeal.τ).loc Cert.ReferenceCqIdeal.main_v23) = v0 c
          ∧ r.2.mem ((c.tc : Thread Cert.ReferenceCqIdeal.nD Cert.ReferenceCqIdeal.τ).loc Cert.ReferenceCqIdeal.main_arg0) = m' ((c.tc : Thread Cert.ReferenceCqIdeal.nD Cert.ReferenceCqIdeal.τ).loc Cert.ReferenceCqIdeal.main_arg0)
          ∧ r.2.mem ((c.tc : Thread Cert.ReferenceCqIdeal.nD Cert.ReferenceCqIdeal.τ).loc Cert.ReferenceCqIdeal.main_arg1) = m' ((c.tc : Thread Cert.ReferenceCqIdeal.nD Cert.ReferenceCqIdeal.τ).loc Cert.ReferenceCqIdeal.main_arg1)
          ∧ r.2.mem ((c.tc : Thread Cert.ReferenceCqIdeal.nD Cert.ReferenceCqIdeal.τ).loc Cert.ReferenceCqIdeal.main_arg2) = m' ((c.tc : Thread Cert.ReferenceCqIdeal.nD Cert.ReferenceCqIdeal.τ).loc Cert.ReferenceCqIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v6)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v6) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v20) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelCkv_KernelCkvIdeal : Prop :=
  True

def algebraic_KernelCkvIdeal_ReferenceCkvIdeal [hKernelCkvIdeal : Cert.KernelCkvIdeal.Facts] [hReferenceCkvIdeal : Cert.ReferenceCkvIdeal.Facts] : Prop :=
  ∀ (m : (ℓ : Loc Cert.KernelCkvIdeal.nD Cert.KernelCkvIdeal.τ Cert.KernelCkvIdeal.sig) → Buf (Elt Ideal) ℓ) (g : Dev Cert.KernelCkvIdeal.nD → PrngReg)
    (m' : (ℓ : Loc Cert.ReferenceCkvIdeal.nD Cert.ReferenceCkvIdeal.τ Cert.ReferenceCkvIdeal.sig) → Buf (Elt Ideal) ℓ) (g' : Dev Cert.ReferenceCkvIdeal.nD → PrngReg), Pre_KernelCkvIdeal m →
    (∀ c : Dev Cert.KernelCkvIdeal.nD,
      m' ((c.tc : Thread Cert.ReferenceCkvIdeal.nD Cert.ReferenceCkvIdeal.τ).loc Cert.ReferenceCkvIdeal.main_arg0) = m ((c.tc : Thread Cert.KernelCkvIdeal.nD Cert.KernelCkvIdeal.τ).loc Cert.KernelCkvIdeal.main_arg0)
      ∧ m' ((c.tc : Thread Cert.ReferenceCkvIdeal.nD Cert.ReferenceCkvIdeal.τ).loc Cert.ReferenceCkvIdeal.main_arg1) = m ((c.tc : Thread Cert.KernelCkvIdeal.nD Cert.KernelCkvIdeal.τ).loc Cert.KernelCkvIdeal.main_arg1)
      ∧ m' ((c.tc : Thread Cert.ReferenceCkvIdeal.nD Cert.ReferenceCkvIdeal.τ).loc Cert.ReferenceCkvIdeal.main_arg2) = m ((c.tc : Thread Cert.KernelCkvIdeal.nD Cert.KernelCkvIdeal.τ).loc Cert.KernelCkvIdeal.main_arg2)) →
    ∃ (v0 : (c : Dev Cert.KernelCkvIdeal.nD) → Buf (Elt Ideal) ((c.tc : Thread Cert.KernelCkvIdeal.nD Cert.KernelCkvIdeal.τ).loc Cert.KernelCkvIdeal.main_v15_0)) (v1 : (c : Dev Cert.KernelCkvIdeal.nD) → Buf (Elt Ideal) ((c.tc : Thread Cert.KernelCkvIdeal.nD Cert.KernelCkvIdeal.τ).loc Cert.KernelCkvIdeal.main_v15_1)),
      θ_run (Cert.KernelCkvIdeal.defs (F := Ideal)) (onTc (τ := Cert.KernelCkvIdeal.τ) (Cert.KernelCkvIdeal.main (F := Ideal))) ⟨m, fun _ => 0, g⟩ (fun r => ∀ c : Dev Cert.KernelCkvIdeal.nD,
          r.2.mem ((c.tc : Thread Cert.KernelCkvIdeal.nD Cert.KernelCkvIdeal.τ).loc Cert.KernelCkvIdeal.main_v15_0) = v0 c
          ∧ r.2.mem ((c.tc : Thread Cert.KernelCkvIdeal.nD Cert.KernelCkvIdeal.τ).loc Cert.KernelCkvIdeal.main_v15_1) = v1 c
          ∧ r.2.mem ((c.tc : Thread Cert.KernelCkvIdeal.nD Cert.KernelCkvIdeal.τ).loc Cert.KernelCkvIdeal.main_arg0) = m ((c.tc : Thread Cert.KernelCkvIdeal.nD Cert.KernelCkvIdeal.τ).loc Cert.KernelCkvIdeal.main_arg0)
          ∧ r.2.mem ((c.tc : Thread Cert.KernelCkvIdeal.nD Cert.KernelCkvIdeal.τ).loc Cert.KernelCkvIdeal.main_arg1) = m ((c.tc : Thread Cert.KernelCkvIdeal.nD Cert.KernelCkvIdeal.τ).loc Cert.KernelCkvIdeal.main_arg1)
          ∧ r.2.mem ((c.tc : Thread Cert.KernelCkvIdeal.nD Cert.KernelCkvIdeal.τ).loc Cert.KernelCkvIdeal.main_arg2) = m ((c.tc : Thread Cert.KernelCkvIdeal.nD Cert.KernelCkvIdeal.τ).loc Cert.KernelCkvIdeal.main_arg2))
      ∧ θ_run (Cert.ReferenceCkvIdeal.defs (F := Ideal)) (onTc (τ := Cert.ReferenceCkvIdeal.τ) (Cert.ReferenceCkvIdeal.main (F := Ideal))) ⟨m', fun _ => 0, g'⟩ (fun r => ∀ c : Dev Cert.ReferenceCkvIdeal.nD,
          r.2.mem ((c.tc : Thread Cert.ReferenceCkvIdeal.nD Cert.ReferenceCkvIdeal.τ).loc Cert.ReferenceCkvIdeal.main_v29) = v0 c
          ∧ r.2.mem ((c.tc : Thread Cert.ReferenceCkvIdeal.nD Cert.ReferenceCkvIdeal.τ).loc Cert.ReferenceCkvIdeal.main_v33) = v1 c
          ∧ r.2.mem ((c.tc : Thread Cert.ReferenceCkvIdeal.nD Cert.ReferenceCkvIdeal.τ).loc Cert.ReferenceCkvIdeal.main_arg0) = m' ((c.tc : Thread Cert.ReferenceCkvIdeal.nD Cert.ReferenceCkvIdeal.τ).loc Cert.ReferenceCkvIdeal.main_arg0)
          ∧ r.2.mem ((c.tc : Thread Cert.ReferenceCkvIdeal.nD Cert.ReferenceCkvIdeal.τ).loc Cert.ReferenceCkvIdeal.main_arg1) = m' ((c.tc : Thread Cert.ReferenceCkvIdeal.nD Cert.ReferenceCkvIdeal.τ).loc Cert.ReferenceCkvIdeal.main_arg1)
          ∧ r.2.mem ((c.tc : Thread Cert.ReferenceCkvIdeal.nD Cert.ReferenceCkvIdeal.τ).loc Cert.ReferenceCkvIdeal.main_arg2) = m' ((c.tc : Thread Cert.ReferenceCkvIdeal.nD Cert.ReferenceCkvIdeal.τ).loc Cert.ReferenceCkvIdeal.main_arg2))

def preserves_KernelQUp_KernelQUpIdeal : Prop :=
  IdealRules.named_const.Statement Cert.KernelQUpIdeal.κ "inv_qk" .f32 0x3BAAAAAB#32 ((1 / 192 : ℝ) : EReal)

def algebraic_KernelQUpIdeal_ReferenceQUpIdeal [hKernelQUpIdeal : Cert.KernelQUpIdeal.Facts] [hReferenceQUpIdeal : Cert.ReferenceQUpIdeal.Facts] : Prop :=
  ∀ (m : (ℓ : Loc Cert.KernelQUpIdeal.nD Cert.KernelQUpIdeal.τ Cert.KernelQUpIdeal.sig) → Buf (Elt Ideal) ℓ) (g : Dev Cert.KernelQUpIdeal.nD → PrngReg)
    (m' : (ℓ : Loc Cert.ReferenceQUpIdeal.nD Cert.ReferenceQUpIdeal.τ Cert.ReferenceQUpIdeal.sig) → Buf (Elt Ideal) ℓ) (g' : Dev Cert.ReferenceQUpIdeal.nD → PrngReg), Pre_KernelQUpIdeal m →
    (∀ c : Dev Cert.KernelQUpIdeal.nD,
      m' ((c.tc : Thread Cert.ReferenceQUpIdeal.nD Cert.ReferenceQUpIdeal.τ).loc Cert.ReferenceQUpIdeal.main_arg0) = m ((c.tc : Thread Cert.KernelQUpIdeal.nD Cert.KernelQUpIdeal.τ).loc Cert.KernelQUpIdeal.main_arg0)
      ∧ m' ((c.tc : Thread Cert.ReferenceQUpIdeal.nD Cert.ReferenceQUpIdeal.τ).loc Cert.ReferenceQUpIdeal.main_arg1) = m ((c.tc : Thread Cert.KernelQUpIdeal.nD Cert.KernelQUpIdeal.τ).loc Cert.KernelQUpIdeal.main_arg1)
      ∧ m' ((c.tc : Thread Cert.ReferenceQUpIdeal.nD Cert.ReferenceQUpIdeal.τ).loc Cert.ReferenceQUpIdeal.main_arg2) = m ((c.tc : Thread Cert.KernelQUpIdeal.nD Cert.KernelQUpIdeal.τ).loc Cert.KernelQUpIdeal.main_arg2)) →
    ∃ (v0 : (c : Dev Cert.KernelQUpIdeal.nD) → Buf (Elt Ideal) ((c.tc : Thread Cert.KernelQUpIdeal.nD Cert.KernelQUpIdeal.τ).loc Cert.KernelQUpIdeal.main_v67)),
      θ_run (Cert.KernelQUpIdeal.defs (F := Ideal)) (onTc (τ := Cert.KernelQUpIdeal.τ) (Cert.KernelQUpIdeal.main (F := Ideal))) ⟨m, fun _ => 0, g⟩ (fun r => ∀ c : Dev Cert.KernelQUpIdeal.nD,
          r.2.mem ((c.tc : Thread Cert.KernelQUpIdeal.nD Cert.KernelQUpIdeal.τ).loc Cert.KernelQUpIdeal.main_v67) = v0 c
          ∧ r.2.mem ((c.tc : Thread Cert.KernelQUpIdeal.nD Cert.KernelQUpIdeal.τ).loc Cert.KernelQUpIdeal.main_arg0) = m ((c.tc : Thread Cert.KernelQUpIdeal.nD Cert.KernelQUpIdeal.τ).loc Cert.KernelQUpIdeal.main_arg0)
          ∧ r.2.mem ((c.tc : Thread Cert.KernelQUpIdeal.nD Cert.KernelQUpIdeal.τ).loc Cert.KernelQUpIdeal.main_arg1) = m ((c.tc : Thread Cert.KernelQUpIdeal.nD Cert.KernelQUpIdeal.τ).loc Cert.KernelQUpIdeal.main_arg1)
          ∧ r.2.mem ((c.tc : Thread Cert.KernelQUpIdeal.nD Cert.KernelQUpIdeal.τ).loc Cert.KernelQUpIdeal.main_arg2) = m ((c.tc : Thread Cert.KernelQUpIdeal.nD Cert.KernelQUpIdeal.τ).loc Cert.KernelQUpIdeal.main_arg2))
      ∧ θ_run (Cert.ReferenceQUpIdeal.defs (F := Ideal)) (onTc (τ := Cert.ReferenceQUpIdeal.τ) (Cert.ReferenceQUpIdeal.main (F := Ideal))) ⟨m', fun _ => 0, g'⟩ (fun r => ∀ c : Dev Cert.ReferenceQUpIdeal.nD,
          r.2.mem ((c.tc : Thread Cert.ReferenceQUpIdeal.nD Cert.ReferenceQUpIdeal.τ).loc Cert.ReferenceQUpIdeal.main_v102) = v0 c
          ∧ r.2.mem ((c.tc : Thread Cert.ReferenceQUpIdeal.nD Cert.ReferenceQUpIdeal.τ).loc Cert.ReferenceQUpIdeal.main_arg0) = m' ((c.tc : Thread Cert.ReferenceQUpIdeal.nD Cert.ReferenceQUpIdeal.τ).loc Cert.ReferenceQUpIdeal.main_arg0)
          ∧ r.2.mem ((c.tc : Thread Cert.ReferenceQUpIdeal.nD Cert.ReferenceQUpIdeal.τ).loc Cert.ReferenceQUpIdeal.main_arg1) = m' ((c.tc : Thread Cert.ReferenceQUpIdeal.nD Cert.ReferenceQUpIdeal.τ).loc Cert.ReferenceQUpIdeal.main_arg1)
          ∧ r.2.mem ((c.tc : Thread Cert.ReferenceQUpIdeal.nD Cert.ReferenceQUpIdeal.τ).loc Cert.ReferenceQUpIdeal.main_arg2) = m' ((c.tc : Thread Cert.ReferenceQUpIdeal.nD Cert.ReferenceQUpIdeal.τ).loc Cert.ReferenceQUpIdeal.main_arg2))

def Claim : Prop :=
  ∃ (hKernel : Cert.Kernel.Facts) (hKernelIdeal : Cert.KernelIdeal.Facts) (hReferenceIdeal : Cert.ReferenceIdeal.Facts) (hKernelMla : Cert.KernelMla.Facts) (hKernelMlaIdeal : Cert.KernelMlaIdeal.Facts) (hReferenceMlaIdeal : Cert.ReferenceMlaIdeal.Facts) (hKernelMerge : Cert.KernelMerge.Facts) (hKernelMergeIdeal : Cert.KernelMergeIdeal.Facts) (hReferenceMergeIdeal : Cert.ReferenceMergeIdeal.Facts) (hKernelFfn : Cert.KernelFfn.Facts) (hKernelFfnIdeal : Cert.KernelFfnIdeal.Facts) (hReferenceFfnIdeal : Cert.ReferenceFfnIdeal.Facts) (hKernelNaQk : Cert.KernelNaQk.Facts) (hKernelNaQkIdeal : Cert.KernelNaQkIdeal.Facts) (hReferenceNaQkIdeal : Cert.ReferenceNaQkIdeal.Facts) (hKernelNaV : Cert.KernelNaV.Facts) (hKernelNaVIdeal : Cert.KernelNaVIdeal.Facts) (hReferenceNaVIdeal : Cert.ReferenceNaVIdeal.Facts) (hKernelCq : Cert.KernelCq.Facts) (hKernelCqIdeal : Cert.KernelCqIdeal.Facts) (hReferenceCqIdeal : Cert.ReferenceCqIdeal.Facts) (hKernelNorm : Cert.KernelNorm.Facts) (hKernelNormIdeal : Cert.KernelNormIdeal.Facts) (hReferenceNormIdeal : Cert.ReferenceNormIdeal.Facts) (hKernelCkv : Cert.KernelCkv.Facts) (hKernelCkvIdeal : Cert.KernelCkvIdeal.Facts) (hReferenceCkvIdeal : Cert.ReferenceCkvIdeal.Facts) (hKernelQUp : Cert.KernelQUp.Facts) (hKernelQUpIdeal : Cert.KernelQUpIdeal.Facts) (hReferenceQUpIdeal : Cert.ReferenceQUpIdeal.Facts) (hPre_finite : Cert.Pre_finite.Facts) (hPre_finite_mla : Cert.Pre_finite_mla.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelMla (hKernelMla := hKernelMla)
    ∧ quiescent_KernelMlaIdeal (hKernelMlaIdeal := hKernelMlaIdeal)
    ∧ quiescent_KernelMlaIdeal_pre_finite_mla (hKernelMlaIdeal := hKernelMlaIdeal) (hPre_finite_mla := hPre_finite_mla)
    ∧ quiescent_ReferenceMlaIdeal (hReferenceMlaIdeal := hReferenceMlaIdeal)
    ∧ quiescent_ReferenceMlaIdeal_pre_finite_mla (hReferenceMlaIdeal := hReferenceMlaIdeal) (hPre_finite_mla := hPre_finite_mla)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelNaQk (hKernelNaQk := hKernelNaQk)
    ∧ quiescent_KernelNaQkIdeal (hKernelNaQkIdeal := hKernelNaQkIdeal)
    ∧ quiescent_ReferenceNaQkIdeal (hReferenceNaQkIdeal := hReferenceNaQkIdeal)
    ∧ quiescent_KernelNaV (hKernelNaV := hKernelNaV)
    ∧ quiescent_KernelNaVIdeal (hKernelNaVIdeal := hKernelNaVIdeal)
    ∧ quiescent_ReferenceNaVIdeal (hReferenceNaVIdeal := hReferenceNaVIdeal)
    ∧ quiescent_KernelCq (hKernelCq := hKernelCq)
    ∧ quiescent_KernelCqIdeal (hKernelCqIdeal := hKernelCqIdeal)
    ∧ quiescent_ReferenceCqIdeal (hReferenceCqIdeal := hReferenceCqIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelCkv (hKernelCkv := hKernelCkv)
    ∧ quiescent_KernelCkvIdeal (hKernelCkvIdeal := hKernelCkvIdeal)
    ∧ quiescent_ReferenceCkvIdeal (hReferenceCkvIdeal := hReferenceCkvIdeal)
    ∧ quiescent_KernelQUp (hKernelQUp := hKernelQUp)
    ∧ quiescent_KernelQUpIdeal (hKernelQUpIdeal := hKernelQUpIdeal)
    ∧ quiescent_ReferenceQUpIdeal (hReferenceQUpIdeal := hReferenceQUpIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelMla_KernelMlaIdeal
    ∧ algebraic_KernelMlaIdeal_ReferenceMlaIdeal_pre_finite_mla (hKernelMlaIdeal := hKernelMlaIdeal) (hReferenceMlaIdeal := hReferenceMlaIdeal) (hPre_finite_mla := hPre_finite_mla)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelNaQk_KernelNaQkIdeal
    ∧ algebraic_KernelNaQkIdeal_ReferenceNaQkIdeal (hKernelNaQkIdeal := hKernelNaQkIdeal) (hReferenceNaQkIdeal := hReferenceNaQkIdeal)
    ∧ preserves_KernelNaV_KernelNaVIdeal
    ∧ algebraic_KernelNaVIdeal_ReferenceNaVIdeal (hKernelNaVIdeal := hKernelNaVIdeal) (hReferenceNaVIdeal := hReferenceNaVIdeal)
    ∧ preserves_KernelCq_KernelCqIdeal
    ∧ algebraic_KernelCqIdeal_ReferenceCqIdeal (hKernelCqIdeal := hKernelCqIdeal) (hReferenceCqIdeal := hReferenceCqIdeal)
    ∧ preserves_KernelNorm_KernelNormIdeal
    ∧ algebraic_KernelNormIdeal_ReferenceNormIdeal (hKernelNormIdeal := hKernelNormIdeal) (hReferenceNormIdeal := hReferenceNormIdeal)
    ∧ preserves_KernelCkv_KernelCkvIdeal
    ∧ algebraic_KernelCkvIdeal_ReferenceCkvIdeal (hKernelCkvIdeal := hKernelCkvIdeal) (hReferenceCkvIdeal := hReferenceCkvIdeal)
    ∧ preserves_KernelQUp_KernelQUpIdeal
    ∧ algebraic_KernelQUpIdeal_ReferenceQUpIdeal (hKernelQUpIdeal := hKernelQUpIdeal) (hReferenceQUpIdeal := hReferenceQUpIdeal)
-- ==== Pre_finite.lean ====
abbrev S1x16384x16x128 : Shape := ⟨4, ![1, 16384, 16, 128]⟩
abbrev S1x256x16x128 : Shape := ⟨4, ![1, 256, 16, 128]⟩
abbrev S16x15x31 : Shape := ⟨3, ![16, 15, 31]⟩
abbrev S_ : Shape := ⟨0, ![]⟩

class Facts : Prop where
  bcast_S_S1x16384x16x128 : S_.BroadcastsInDim S1x16384x16x128 (![] : Fin 0 → Fin S1x16384x16x128.rank)
  reducesTo_S1x16384x16x128_S_d0_1_2_3 : S1x16384x16x128.ReducesTo [0, 1, 2, 3] S_
  h_S_ : 0 < S_.numel
  bcast_S_S1x256x16x128 : S_.BroadcastsInDim S1x256x16x128 (![] : Fin 0 → Fin S1x256x16x128.rank)
  reducesTo_S1x256x16x128_S_d0_1_2_3 : S1x256x16x128.ReducesTo [0, 1, 2, 3] S_
  bcast_S_S16x15x31 : S_.BroadcastsInDim S16x15x31 (![] : Fin 0 → Fin S16x15x31.rank)
  reducesTo_S16x15x31_S_d0_1_2 : S16x15x31.ReducesTo [0, 1, 2] S_

variable [Facts]

def fn_part1 {F : FTy → Type} [FloatOps F] (main_v13 : IVec S_ 1) (main_v16 : IVec S16x15x31 1) : IVec S_ 1 :=
  let main_c_5 : IVec S_ 1 := constantI S_ 1 1#1
  let main_v17 : IVec S_ 1 := (fun x v => Host.reduce IntOp.andi x v reducesTo_S16x15x31_S_d0_1_2 h_S_) main_v16 main_c_5
  let main_v18 : IVec S_ 1 := andi main_v13 main_v17
  main_v18

def fn {F : FTy → Type} [FloatOps F] (main_arg0 : FVec F S1x16384x16x128 .f32) (main_arg1 : FVec F S1x16384x16x128 .f32) (main_arg2 : FVec F S1x16384x16x128 .f32) (main_arg3 : FVec F S1x256x16x128 .f32) (main_arg4 : FVec F S1x256x16x128 .f32) (main_arg5 : FVec F S16x15x31 .f32) : IVec S_ 1 :=
  let main_v0 : FVec F S1x16384x16x128 .f32 := Host.absf main_arg0
  let main_cst : FVec F S_ .f32 := constant S_ .f32 0x7F800000#32
  let main_v1 : FVec F S1x16384x16x128 .f32 := broadcastInDim S1x16384x16x128 ![] bcast_S_S1x16384x16x128 main_cst
  let main_v2 : IVec S1x16384x16x128 1 := cmpf .olt main_v0 main_v1
  let main_c : IVec S_ 1 := constantI S_ 1 1#1
  let main_v3 : IVec S_ 1 := (fun x v => Host.reduce IntOp.andi x v reducesTo_S1x16384x16x128_S_d0_1_2_3 h_S_) main_v2 main_c
  let main_v4 : FVec F S1x16384x16x128 .f32 := Host.absf main_arg1
  let main_cst_0 : FVec F S_ .f32 := constant S_ .f32 0x7F800000#32
  let main_v5 : FVec F S1x16384x16x128 .f32 := broadcastInDim S1x16384x16x128 ![] bcast_S_S1x16384x16x128 main_cst_0
  let main_v6 : IVec S1x16384x16x128 1 := cmpf .olt main_v4 main_v5
  let main_c_1 : IVec S_ 1 := constantI S_ 1 1#1
  let main_v7 : IVec S_ 1 := (fun x v => Host.reduce IntOp.andi x v reducesTo_S1x16384x16x128_S_d0_1_2_3 h_S_) main_v6 main_c_1
  let main_v8 : IVec S_ 1 := andi main_v3 main_v7
  let main_v9 : FVec F S1x256x16x128 .f32 := Host.absf main_arg3
  let main_cst_2 : FVec F S_ .f32 := constant S_ .f32 0x7F800000#32
  let main_v10 : FVec F S1x256x16x128 .f32 := broadcastInDim S1x256x16x128 ![] bcast_S_S1x256x16x128 main_cst_2
  let main_v11 : IVec S1x256x16x128 1 := cmpf .olt main_v9 main_v10
  let main_c_3 : IVec S_ 1 := constantI S_ 1 1#1
  let main_v12 : IVec S_ 1 := (fun x v => Host.reduce IntOp.andi x v reducesTo_S1x256x16x128_S_d0_1_2_3 h_S_) main_v11 main_c_3
  let main_v13 : IVec S_ 1 := andi main_v8 main_v12
  let main_v14 : FVec F S16x15x31 .f32 := Host.absf main_arg5
  let main_cst_4 : FVec F S_ .f32 := constant S_ .f32 0x7F800000#32
  let main_v15 : FVec F S16x15x31 .f32 := broadcastInDim S16x15x31 ![] bcast_S_S16x15x31 main_cst_4
  let main_v16 : IVec S16x15x31 1 := cmpf .olt main_v14 main_v15
  fn_part1 (F := F) main_v13 main_v16
-- ==== Pre_finite_mla.lean ====
abbrev S1x16384x16x192 : Shape := ⟨4, ![1, 16384, 16, 192]⟩
abbrev S1x16384x16x128 : Shape := ⟨4, ![1, 16384, 16, 128]⟩
abbrev S1x256x16x192 : Shape := ⟨4, ![1, 256, 16, 192]⟩
abbrev S1x256x16x128 : Shape := ⟨4, ![1, 256, 16, 128]⟩
abbrev S_ : Shape := ⟨0, ![]⟩

class Facts : Prop where
  bcast_S_S1x16384x16x192 : S_.BroadcastsInDim S1x16384x16x192 (![] : Fin 0 → Fin S1x16384x16x192.rank)
  reducesTo_S1x16384x16x192_S_d0_1_2_3 : S1x16384x16x192.ReducesTo [0, 1, 2, 3] S_
  h_S_ : 0 < S_.numel
  bcast_S_S1x256x16x192 : S_.BroadcastsInDim S1x256x16x192 (![] : Fin 0 → Fin S1x256x16x192.rank)
  reducesTo_S1x256x16x192_S_d0_1_2_3 : S1x256x16x192.ReducesTo [0, 1, 2, 3] S_

variable [Facts]

def fn {F : FTy → Type} [FloatOps F] (main_arg0 : FVec F S1x16384x16x192 .f32) (main_arg1 : FVec F S1x16384x16x192 .f32) (main_arg2 : FVec F S1x16384x16x128 .f32) (main_arg3 : FVec F S1x256x16x192 .f32) (main_arg4 : FVec F S1x256x16x128 .f32) : IVec S_ 1 :=
  let main_v0 : FVec F S1x16384x16x192 .f32 := Host.absf main_arg0
  let main_cst : FVec F S_ .f32 := constant S_ .f32 0x7F800000#32
  let main_v1 : FVec F S1x16384x16x192 .f32 := broadcastInDim S1x16384x16x192 ![] bcast_S_S1x16384x16x192 main_cst
  let main_v2 : IVec S1x16384x16x192 1 := cmpf .olt main_v0 main_v1
  let main_c : IVec S_ 1 := constantI S_ 1 1#1
  let main_v3 : IVec S_ 1 := (fun x v => Host.reduce IntOp.andi x v reducesTo_S1x16384x16x192_S_d0_1_2_3 h_S_) main_v2 main_c
  let main_v4 : FVec F S1x16384x16x192 .f32 := Host.absf main_arg1
  let main_cst_0 : FVec F S_ .f32 := constant S_ .f32 0x7F800000#32
  let main_v5 : FVec F S1x16384x16x192 .f32 := broadcastInDim S1x16384x16x192 ![] bcast_S_S1x16384x16x192 main_cst_0
  let main_v6 : IVec S1x16384x16x192 1 := cmpf .olt main_v4 main_v5
  let main_c_1 : IVec S_ 1 := constantI S_ 1 1#1
  let main_v7 : IVec S_ 1 := (fun x v => Host.reduce IntOp.andi x v reducesTo_S1x16384x16x192_S_d0_1_2_3 h_S_) main_v6 main_c_1
  let main_v8 : IVec S_ 1 := andi main_v3 main_v7
  let main_v9 : FVec F S1x256x16x192 .f32 := Host.absf main_arg3
  let main_cst_2 : FVec F S_ .f32 := constant S_ .f32 0x7F800000#32
  let main_v10 : FVec F S1x256x16x192 .f32 := broadcastInDim S1x256x16x192 ![] bcast_S_S1x256x16x192 main_cst_2
  let main_v11 : IVec S1x256x16x192 1 := cmpf .olt main_v9 main_v10
  let main_c_3 : IVec S_ 1 := constantI S_ 1 1#1
  let main_v12 : IVec S_ 1 := (fun x v => Host.reduce IntOp.andi x v reducesTo_S1x256x16x192_S_d0_1_2_3 h_S_) main_v11 main_c_3
  let main_v13 : IVec S_ 1 := andi main_v8 main_v12
  main_v13
-- ==== Kernel.lean ====
abbrev S1x16384x16x128 : Shape := ⟨4, ![1, 16384, 16, 128]⟩
abbrev S1x256x16x128 : Shape := ⟨4, ![1, 256, 16, 128]⟩
abbrev S16x15x31 : Shape := ⟨3, ![16, 15, 31]⟩
abbrev S64x64 : Shape := ⟨2, ![64, 64]⟩
abbrev S9 : Shape := ⟨1, ![9]⟩
abbrev S16384x2048 : Shape := ⟨2, ![16384, 2048]⟩
abbrev S_ : Shape := ⟨0, ![]⟩
abbrev S16384x4096 : Shape := ⟨2, ![16384, 4096]⟩
abbrev S256x2048 : Shape := ⟨2, ![256, 2048]⟩
abbrev S256x4096 : Shape := ⟨2, ![256, 4096]⟩
abbrev S64x64x1 : Shape := ⟨3, ![64, 64, 1]⟩
abbrev S16x15x64x64 : Shape := ⟨4, ![16, 15, 64, 64]⟩
abbrev S1x1x64x64 : Shape := ⟨4, ![1, 1, 64, 64]⟩
abbrev S16x33x64x64 : Shape := ⟨4, ![16, 33, 64, 64]⟩
abbrev S1x9x1x1 : Shape := ⟨4, ![1, 9, 1, 1]⟩
abbrev S16x9x64x64 : Shape := ⟨4, ![16, 9, 64, 64]⟩
abbrev S16x64x9x64 : Shape := ⟨4, ![16, 64, 9, 64]⟩
abbrev S16x64x576 : Shape := ⟨3, ![16, 64, 576]⟩
abbrev S16x128x576 : Shape := ⟨3, ![16, 128, 576]⟩
abbrev S1x16x128x576 : Shape := ⟨4, ![1, 16, 128, 576]⟩
abbrev S5x16x128x576 : Shape := ⟨4, ![5, 16, 128, 576]⟩
abbrev S5x16x128x832 : Shape := ⟨4, ![5, 16, 128, 832]⟩
abbrev S128x2048 : Shape := ⟨2, ![128, 2048]⟩
abbrev S576x2048 : Shape := ⟨2, ![576, 2048]⟩
abbrev S1x16x128x832 : Shape := ⟨4, ![1, 16, 128, 832]⟩
abbrev S128x128 : Shape := ⟨2, ![128, 128]⟩
abbrev S256x128 : Shape := ⟨2, ![256, 128]⟩
abbrev S576x128 : Shape := ⟨2, ![576, 128]⟩
abbrev S832x128 : Shape := ⟨2, ![832, 128]⟩
abbrev S128x832 : Shape := ⟨2, ![128, 832]⟩
abbrev S1x1x128x832 : Shape := ⟨4, ![1, 1, 128, 832]⟩
abbrev S128 : Shape := ⟨1, ![128]⟩
abbrev S128x1 : Shape := ⟨2, ![128, 1]⟩

abbrev nBuf : Space → Nat
  | .hbm => 167
  | .vmem => 12
  | .smem => 0
  | _ => 0

abbrev hbmTy0_0 (i : Nat) : BufTy := match i % 128 with
  | 0 => ⟨S1x16384x16x128, .f32⟩
  | 1 => ⟨S1x16384x16x128, .f32⟩
  | 2 => ⟨S1x16384x16x128, .f32⟩
  | 3 => ⟨S1x256x16x128, .f32⟩
  | 4 => ⟨S1x256x16x128, .f32⟩
  | 5 => ⟨S16x15x31, .f32⟩
  | 6 => ⟨S64x64, .i32⟩
  | 7 => ⟨S64x64, .i1⟩
  | 8 => ⟨S64x64, .i1⟩
  | 9 => ⟨S9, .i1⟩
  | 10 => ⟨S9, .i1⟩
  | 11 => ⟨S9, .i1⟩
  | 12 => ⟨S9, .i1⟩
  | 13 => ⟨S9, .i1⟩
  | 14 => ⟨S9, .i1⟩
  | 15 => ⟨S9, .i1⟩
  | 16 => ⟨S9, .i1⟩
  | 17 => ⟨S9, .i1⟩
  | 18 => ⟨S9, .i1⟩
  | 19 => ⟨S16384x2048, .f32⟩
  | 20 => ⟨S_, .f32⟩
  | 21 => ⟨S16384x2048, .f32⟩
  | 22 => ⟨S16384x2048, .f32⟩
  | 23 => ⟨S_, .f32⟩
  | 24 => ⟨S_, .f32⟩
  | 25 => ⟨S_, .f32⟩
  | 26 => ⟨S_, .f32⟩
  | 27 => ⟨S16384x2048, .f32⟩
  | 28 => ⟨S16384x2048, .f32⟩
  | 29 => ⟨S16384x2048, .f32⟩
  | 30 => ⟨S16384x4096, .f32⟩
  | 31 => ⟨S16384x4096, .bf16⟩
  | 32 => ⟨S16384x2048, .f32⟩
  | 33 => ⟨S16384x2048, .bf16⟩
  | 34 => ⟨S_, .f32⟩
  | 35 => ⟨S256x2048, .f32⟩
  | 36 => ⟨S256x2048, .f32⟩
  | 37 => ⟨S256x4096, .f32⟩
  | 38 => ⟨S256x4096, .bf16⟩
  | 39 => ⟨S256x2048, .f32⟩
  | 40 => ⟨S256x2048, .bf16⟩
  | 41 => ⟨S_, .i32⟩
  | 42 => ⟨S64x64, .i32⟩
  | 43 => ⟨S64x64, .i32⟩
  | 44 => ⟨S64x64, .i32⟩
  | 45 => ⟨S64x64x1, .i32⟩
  | 46 => ⟨S16x15x64x64, .f32⟩
  | 47 => ⟨S1x1x64x64, .i1⟩
  | 48 => ⟨S_, .f32⟩
  | 49 => ⟨S_, .f32⟩
  | 50 => ⟨S_, .f32⟩
  | 51 => ⟨S_, .f32⟩
  | 52 => ⟨S16x15x64x64, .f32⟩
  | 53 => ⟨S16x15x64x64, .f32⟩
  | 54 => ⟨S_, .f32⟩
  | 55 => ⟨S_, .f32⟩
  | 56 => ⟨S16x15x64x64, .i1⟩
  | 57 => ⟨S16x15x64x64, .f32⟩
  | 58 => ⟨S16x15x64x64, .f32⟩
  | 59 => ⟨S_, .f32⟩
  | 60 => ⟨S_, .f32⟩
  | 61 => ⟨S16x33x64x64, .f32⟩
  | 62 => ⟨S1x9x1x1, .i1⟩
  | 63 => ⟨S16x9x64x64, .f32⟩
  | 64 => ⟨S_, .f32⟩
  | 65 => ⟨S_, .f32⟩
  | 66 => ⟨S16x9x64x64, .i1⟩
  | 67 => ⟨S16x9x64x64, .f32⟩
  | 68 => ⟨S16x9x64x64, .f32⟩
  | 69 => ⟨S16x64x9x64, .f32⟩
  | 70 => ⟨S16x64x576, .f32⟩
  | 71 => ⟨S1x9x1x1, .i1⟩
  | 72 => ⟨S16x9x64x64, .f32⟩
  | 73 => ⟨S_, .f32⟩
  | 74 => ⟨S_, .f32⟩
  | 75 => ⟨S16x9x64x64, .i1⟩
  | 76 => ⟨S16x9x64x64, .f32⟩
  | 77 => ⟨S16x9x64x64, .f32⟩
  | 78 => ⟨S16x64x9x64, .f32⟩
  | 79 => ⟨S16x64x576, .f32⟩
  | 80 => ⟨S16x128x576, .f32⟩
  | 81 => ⟨S1x9x1x1, .i1⟩
  | 82 => ⟨S16x9x64x64, .f32⟩
  | 83 => ⟨S_, .f32⟩
  | 84 => ⟨S_, .f32⟩
  | 85 => ⟨S16x9x64x64, .i1⟩
  | 86 => ⟨S16x9x64x64, .f32⟩
  | 87 => ⟨S16x9x64x64, .f32⟩
  | 88 => ⟨S16x64x9x64, .f32⟩
  | 89 => ⟨S16x64x576, .f32⟩
  | 90 => ⟨S1x9x1x1, .i1⟩
  | 91 => ⟨S16x9x64x64, .f32⟩
  | 92 => ⟨S_, .f32⟩
  | 93 => ⟨S_, .f32⟩
  | 94 => ⟨S16x9x64x64, .i1⟩
  | 95 => ⟨S16x9x64x64, .f32⟩
  | 96 => ⟨S16x9x64x64, .f32⟩
  | 97 => ⟨S16x64x9x64, .f32⟩
  | 98 => ⟨S16x64x576, .f32⟩
  | 99 => ⟨S16x128x576, .f32⟩
  | 100 => ⟨S1x9x1x1, .i1⟩
  | 101 => ⟨S16x9x64x64, .f32⟩
  | 102 => ⟨S_, .f32⟩
  | 103 => ⟨S_, .f32⟩
  | 104 => ⟨S16x9x64x64, .i1⟩
  | 105 => ⟨S16x9x64x64, .f32⟩
  | 106 => ⟨S16x9x64x64, .f32⟩
  | 107 => ⟨S16x64x9x64, .f32⟩
  | 108 => ⟨S16x64x576, .f32⟩
  | 109 => ⟨S1x9x1x1, .i1⟩
  | 110 => ⟨S16x9x64x64, .f32⟩
  | 111 => ⟨S_, .f32⟩
  | 112 => ⟨S_, .f32⟩
  | 113 => ⟨S16x9x64x64, .i1⟩
  | 114 => ⟨S16x9x64x64, .f32⟩
  | 115 => ⟨S16x9x64x64, .f32⟩
  | 116 => ⟨S16x64x9x64, .f32⟩
  | 117 => ⟨S16x64x576, .f32⟩
  | 118 => ⟨S16x128x576, .f32⟩
  | 119 => ⟨S1x9x1x1, .i1⟩
  | 120 => ⟨S16x9x64x64, .f32⟩
  | 121 => ⟨S_, .f32⟩
  | 122 => ⟨S_, .f32⟩
  | 123 => ⟨S16x9x64x64, .i1⟩
  | 124 => ⟨S16x9x64x64, .f32⟩
  | 125 => ⟨S16x9x64x64, .f32⟩
  | 126 => ⟨S16x64x9x64, .f32⟩
  | 127 => ⟨S16x64x576, .f32⟩
  | _ => ⟨S1x16384x16x128, .f32⟩

abbrev hbmTy0_1 (i : Nat) : BufTy := match i % 128 with
  | 0 => ⟨S1x9x1x1, .i1⟩
  | 1 => ⟨S16x9x64x64, .f32⟩
  | 2 => ⟨S_, .f32⟩
  | 3 => ⟨S_, .f32⟩
  | 4 => ⟨S16x9x64x64, .i1⟩
  | 5 => ⟨S16x9x64x64, .f32⟩
  | 6 => ⟨S16x9x64x64, .f32⟩
  | 7 => ⟨S16x64x9x64, .f32⟩
  | 8 => ⟨S16x64x576, .f32⟩
  | 9 => ⟨S16x128x576, .f32⟩
  | 10 => ⟨S1x9x1x1, .i1⟩
  | 11 => ⟨S16x9x64x64, .f32⟩
  | 12 => ⟨S_, .f32⟩
  | 13 => ⟨S_, .f32⟩
  | 14 => ⟨S16x9x64x64, .i1⟩
  | 15 => ⟨S16x9x64x64, .f32⟩
  | 16 => ⟨S16x9x64x64, .f32⟩
  | 17 => ⟨S16x64x9x64, .f32⟩
  | 18 => ⟨S16x64x576, .f32⟩
  | 19 => ⟨S1x9x1x1, .i1⟩
  | 20 => ⟨S16x9x64x64, .f32⟩
  | 21 => ⟨S_, .f32⟩
  | 22 => ⟨S_, .f32⟩
  | 23 => ⟨S16x9x64x64, .i1⟩
  | 24 => ⟨S16x9x64x64, .f32⟩
  | 25 => ⟨S16x9x64x64, .f32⟩
  | 26 => ⟨S16x64x9x64, .f32⟩
  | 27 => ⟨S16x64x576, .f32⟩
  | 28 => ⟨S16x128x576, .f32⟩
  | 29 => ⟨S1x16x128x576, .f32⟩
  | 30 => ⟨S1x16x128x576, .f32⟩
  | 31 => ⟨S1x16x128x576, .f32⟩
  | 32 => ⟨S1x16x128x576, .f32⟩
  | 33 => ⟨S1x16x128x576, .f32⟩
  | 34 => ⟨S5x16x128x576, .f32⟩
  | 35 => ⟨S_, .i32⟩
  | 36 => ⟨S_, .f32⟩
  | 37 => ⟨S5x16x128x832, .f32⟩
  | 38 => ⟨S16384x2048, .bf16⟩
  | _ => ⟨S1x16384x16x128, .f32⟩

abbrev hbmTy (i : Nat) : BufTy := match i / 128 with
  | 0 => hbmTy0_0 i
  | 1 => hbmTy0_1 i
  | _ => ⟨S1x16384x16x128, .f32⟩

abbrev bufTy : (tb : Table) → Fin (tcTables nBuf tb) → BufTy
  | .hbm, ⟨i, _⟩ => hbmTy i
  | .local _ .vmem, ⟨0, _⟩ => ⟨S128x2048, .bf16⟩
  | .local _ .vmem, ⟨1, _⟩ => ⟨S128x2048, .bf16⟩
  | .local _ .vmem, ⟨2, _⟩ => ⟨S576x2048, .bf16⟩
  | .local _ .vmem, ⟨3, _⟩ => ⟨S576x2048, .bf16⟩
  | .local _ .vmem, ⟨4, _⟩ => ⟨S576x2048, .bf16⟩
  | .local _ .vmem, ⟨5, _⟩ => ⟨S576x2048, .bf16⟩
  | .local _ .vmem, ⟨6, _⟩ => ⟨S256x2048, .bf16⟩
  | .local _ .vmem, ⟨7, _⟩ => ⟨S256x2048, .bf16⟩
  | .local _ .vmem, ⟨8, _⟩ => ⟨S1x16x128x832, .f32⟩
  | .local _ .vmem, ⟨9, _⟩ => ⟨S1x16x128x832, .f32⟩
  | .local _ .vmem, ⟨10, _⟩ => ⟨S128x2048, .bf16⟩
  | .local _ .vmem, ⟨11, _⟩ => ⟨S128x2048, .bf16⟩
  | _, _ => ⟨S1x16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_c_7 : Ref sig .tc := ⟨.hbm, 14, rfl⟩
abbrev main_c_8 : Ref sig .tc := ⟨.hbm, 15, rfl⟩
abbrev main_c_9 : Ref sig .tc := ⟨.hbm, 16, rfl⟩
abbrev main_c_10 : Ref sig .tc := ⟨.hbm, 17, rfl⟩
abbrev main_c_11 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_12 : Ref sig .tc := ⟨.hbm, 23, rfl⟩
abbrev main_v3 : Ref sig .tc := ⟨.hbm, 24, rfl⟩
abbrev main_cst_13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_14 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_15 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_16 : Ref sig .tc := ⟨.hbm, 48, rfl⟩
abbrev main_v24 : Ref sig .tc := ⟨.hbm, 49, rfl⟩
abbrev main_cst_17 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_18 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v28 : Ref sig .tc := ⟨.hbm, 58, rfl⟩
abbrev main_cst_19 : Ref sig .tc := ⟨.hbm, 59, rfl⟩
abbrev main_call1_v0 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_20 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_21 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_22 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_23 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_24 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_25 : Ref sig .tc := ⟨.hbm, 111, rfl⟩
abbrev main_call7_v0 : Ref sig .tc := ⟨.hbm, 112, rfl⟩
abbrev main_call7_v1 : Ref sig .tc := ⟨.hbm, 113, rfl⟩
abbrev main_call7_v2 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_cst_26 : Ref sig .tc := ⟨.hbm, 121, rfl⟩
abbrev main_call8_v0 : Ref sig .tc := ⟨.hbm, 122, rfl⟩
abbrev main_call8_v1 : Ref sig .tc := ⟨.hbm, 123, rfl⟩
abbrev main_call8_v2 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_cst_27 : Ref sig .tc := ⟨.hbm, 130, rfl⟩
abbrev main_call9_v0 : Ref sig .tc := ⟨.hbm, 131, rfl⟩
abbrev main_call9_v1 : Ref sig .tc := ⟨.hbm, 132, rfl⟩
abbrev main_call9_v2 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_cst_28 : Ref sig .tc := ⟨.hbm, 140, rfl⟩
abbrev main_call10_v0 : Ref sig .tc := ⟨.hbm, 141, rfl⟩
abbrev main_call10_v1 : Ref sig .tc := ⟨.hbm, 142, rfl⟩
abbrev main_call10_v2 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_cst_29 : Ref sig .tc := ⟨.hbm, 149, rfl⟩
abbrev main_call11_v0 : Ref sig .tc := ⟨.hbm, 150, rfl⟩
abbrev main_call11_v1 : Ref sig .tc := ⟨.hbm, 151, rfl⟩
abbrev main_call11_v2 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_c_30 : Ref sig .tc := ⟨.hbm, 163, rfl⟩
abbrev main_call12_v0 : Ref sig .tc := ⟨.hbm, 164, rfl⟩
abbrev main_v91 : Ref sig .tc := ⟨.hbm, 165, rfl⟩
abbrev main_v92 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli arg0 c2_i32
  let c4_i32 : BitVec 32 := 4#32
  let v1 : BitVec 32 := Scalar.subi v0 c4_i32
  let c0_i32 : BitVec 32 := 0#32
  let c247_i32 : BitVec 32 := 247#32
  let v2 : BitVec 32 := Scalar.maxsi c0_i32 v1
  let v3 : BitVec 32 := Scalar.minsi c247_i32 v2
  let c64_i32 : BitVec 32 := 64#32
  let v4 : BitVec 32 := Scalar.muli v3 c64_i32
  let c2048_i32 : BitVec 32 := 2048#32
  let c0_i32_0 : BitVec 32 := 0#32
  ![v4.toNat, c2048_i32.toNat]

def cc0_transform_2 (i : grid0.Coords) : Fin 2 → Nat :=
  let arg0 : BitVec 32 := BitVec.ofNat 32 (i 0).val
  let c2_i32 : BitVec 32 := 2#32
  let v0 : BitVec 32 := Scalar.muli arg0 c2_i32
  let c4_i32 : BitVec 32 := 4#32
  let v1 : BitVec 32 := Scalar.subi v0 c4_i32
  let c0_i32 : BitVec 32 := 0#32
  let c247_i32 : BitVec 32 := 247#32
  let v2 : BitVec 32 := Scalar.maxsi c0_i32 v1
  let v3 : BitVec 32 := Scalar.minsi c247_i32 v2
  let c64_i32 : BitVec 32 := 64#32
  let v4 : BitVec 32 := Scalar.muli v3 c64_i32
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c126_i32 : BitVec 32 := 126#32
  let v0 : BitVec 32 := Scalar.subi arg0 c126_i32
  let c2_i32 : BitVec 32 := 2#32
  let v1 : BitVec 1 := Scalar.cmpi .slt arg0 c2_i32
  let c0_i32 : BitVec 32 := 0#32
  let v2 : BitVec 1 := Scalar.cmpi .sge v0 c0_i32
  let c3_i32 : BitVec 32 := 3#32
  let v3 : BitVec 32 := Scalar.addi c3_i32 v0
  let c2_i32_0 : BitVec 32 := 2#32
  let v4 : BitVec 32 := Scalar.select v2 v3 c2_i32_0
  let v5 : BitVec 32 := Scalar.select v1 arg0 v4
  let c0_i32_1 : BitVec 32 := 0#32
  let c0_i32_2 : BitVec 32 := 0#32
  let c0_i32_3 : BitVec 32 := 0#32
  let c0_i32_4 : BitVec 32 := 0#32
  ![v5.toNat, c0_i32_1.toNat, c0_i32_2.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S576x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S576x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16x128x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x16384x16x128 : Shape := ⟨4, ![1, 16384, 16, 128]⟩
abbrev S1x256x16x128 : Shape := ⟨4, ![1, 256, 16, 128]⟩
abbrev S16x15x31 : Shape := ⟨3, ![16, 15, 31]⟩
abbrev S1x256x64x16x128 : Shape := ⟨5, ![1, 256, 64, 16, 128]⟩
abbrev S256x1x64x16x128 : Shape := ⟨5, ![256, 1, 64, 16, 128]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x1x64 : Shape := ⟨3, ![64, 1, 64]⟩
abbrev S64x8x64 : Shape := ⟨3, ![64, 8, 64]⟩
abbrev S64x512 : Shape := ⟨2, ![64, 512]⟩
abbrev S64x64x1 : Shape := ⟨3, ![64, 64, 1]⟩
abbrev S16x15x64x64 : Shape := ⟨4, ![16, 15, 64, 64]⟩
abbrev S256 : Shape := ⟨1, ![256]⟩
abbrev S256x1 : Shape := ⟨2, ![256, 1]⟩
abbrev S256x5 : Shape := ⟨2, ![256, 5]⟩
abbrev S256x1x8x64x16x128 : Shape := ⟨6, ![256, 1, 8, 64, 16, 128]⟩
abbrev S256x1x512x16x128 : Shape := ⟨5, ![256, 1, 512, 16, 128]⟩
abbrev S256x4 : Shape := ⟨2, ![256, 4]⟩
abbrev S256x16x8x64x64 : Shape := ⟨5, ![256, 16, 8, 64, 64]⟩
abbrev S256x16x64x8x64 : Shape := ⟨5, ![256, 16, 64, 8, 64]⟩
abbrev S256x16x64x512 : Shape := ⟨4, ![256, 16, 64, 512]⟩
abbrev S256x1x16x64x512 : Shape := ⟨5, ![256, 1, 16, 64, 512]⟩
abbrev S1x16x64x512 : Shape := ⟨4, ![1, 16, 64, 512]⟩
abbrev S1x16x256x64x256 : Shape := ⟨5, ![1, 16, 256, 64, 256]⟩
abbrev S256x1x16x64x256 : Shape := ⟨5, ![256, 1, 16, 64, 256]⟩
abbrev S256x1x16x64x768 : Shape := ⟨5, ![256, 1, 16, 64, 768]⟩
abbrev S256x1x16x64 : Shape := ⟨4, ![256, 1, 16, 64]⟩
abbrev S256x1x16x64x1 : Shape := ⟨5, ![256, 1, 16, 64, 1]⟩
abbrev S256x1x16x128x64 : Shape := ⟨5, ![256, 1, 16, 128, 64]⟩
abbrev S1x16x128x256x64 : Shape := ⟨5, ![1, 16, 128, 256, 64]⟩
abbrev S16384x2048 : Shape := ⟨2, ![16384, 2048]⟩

abbrev nBuf : Space → Nat
  | .hbm => 186
  | .vmem => 0
  | .smem => 0
  | _ => 0

abbrev hbmTy0_0 (i : Nat) : BufTy := match i % 128 with
  | 0 => ⟨S1x16384x16x128, .f32⟩
  | 1 => ⟨S1x16384x16x128, .f32⟩
  | 2 => ⟨S1x16384x16x128, .f32⟩
  | 3 => ⟨S1x256x16x128, .f32⟩
  | 4 => ⟨S1x256x16x128, .f32⟩
  | 5 => ⟨S16x15x31, .f32⟩
  | 6 => ⟨S1x256x64x16x128, .f32⟩
  | 7 => ⟨S1x256x64x16x128, .f32⟩
  | 8 => ⟨S1x256x64x16x128, .f32⟩
  | 9 => ⟨S256x1x64x16x128, .f32⟩
  | 10 => ⟨S64, .i32⟩
  | 11 => ⟨S64, .i32⟩
  | 12 => ⟨S_, .i32⟩
  | 13 => ⟨S64, .i32⟩
  | 14 => ⟨S64, .i32⟩
  | 15 => ⟨S_, .i32⟩
  | 16 => ⟨S_, .i32⟩
  | 17 => ⟨S_, .i32⟩
  | 18 => ⟨S64, .i32⟩
  | 19 => ⟨S64, .i32⟩
  | 20 => ⟨S_, .i32⟩
  | 21 => ⟨S64, .i32⟩
  | 22 => ⟨S64, .i32⟩
  | 23 => ⟨S1x64, .i32⟩
  | 24 => ⟨S64x1, .i32⟩
  | 25 => ⟨S64x64, .i32⟩
  | 26 => ⟨S64x64, .i32⟩
  | 27 => ⟨S64x64, .i1⟩
  | 28 => ⟨S1x64, .i32⟩
  | 29 => ⟨S64x1, .i32⟩
  | 30 => ⟨S_, .i32⟩
  | 31 => ⟨S64x1, .i32⟩
  | 32 => ⟨S64x1, .i32⟩
  | 33 => ⟨S64x64, .i32⟩
  | 34 => ⟨S64x64, .i32⟩
  | 35 => ⟨S64x64, .i1⟩
  | 36 => ⟨S64x64, .i1⟩
  | 37 => ⟨S64x1x64, .i1⟩
  | 38 => ⟨S64x8x64, .i1⟩
  | 39 => ⟨S64x512, .i1⟩
  | 40 => ⟨S1x64, .i32⟩
  | 41 => ⟨S64x1, .i32⟩
  | 42 => ⟨S64x64, .i32⟩
  | 43 => ⟨S64x64, .i32⟩
  | 44 => ⟨S64x64, .i32⟩
  | 45 => ⟨S_, .i32⟩
  | 46 => ⟨S64x64, .i32⟩
  | 47 => ⟨S64x64, .i32⟩
  | 48 => ⟨S_, .i32⟩
  | 49 => ⟨S64x64, .i32⟩
  | 50 => ⟨S64x64, .i32⟩
  | 51 => ⟨S_, .i32⟩
  | 52 => ⟨S_, .i32⟩
  | 53 => ⟨S_, .i32⟩
  | 54 => ⟨S64x64, .i32⟩
  | 55 => ⟨S64x64, .i32⟩
  | 56 => ⟨S_, .i32⟩
  | 57 => ⟨S64x64, .i32⟩
  | 58 => ⟨S64x64, .i32⟩
  | 59 => ⟨S_, .i32⟩
  | 60 => ⟨S64x64, .i32⟩
  | 61 => ⟨S64x64, .i1⟩
  | 62 => ⟨S_, .i32⟩
  | 63 => ⟨S64x64, .i32⟩
  | 64 => ⟨S64x64, .i32⟩
  | 65 => ⟨S64x64, .i32⟩
  | 66 => ⟨S64x64x1, .i32⟩
  | 67 => ⟨S16x15x64x64, .f32⟩
  | 68 => ⟨S256, .i32⟩
  | 69 => ⟨S_, .i32⟩
  | 70 => ⟨S256, .i32⟩
  | 71 => ⟨S256, .i32⟩
  | 72 => ⟨S_, .i32⟩
  | 73 => ⟨S_, .i32⟩
  | 74 => ⟨S_, .i32⟩
  | 75 => ⟨S256, .i32⟩
  | 76 => ⟨S256, .i32⟩
  | 77 => ⟨S_, .i32⟩
  | 78 => ⟨S256, .i32⟩
  | 79 => ⟨S256, .i32⟩
  | 80 => ⟨S_, .i32⟩
  | 81 => ⟨S256, .i32⟩
  | 82 => ⟨S256, .i1⟩
  | 83 => ⟨S_, .i32⟩
  | 84 => ⟨S256, .i32⟩
  | 85 => ⟨S256, .i32⟩
  | 86 => ⟨S256, .i32⟩
  | 87 => ⟨S_, .i32⟩
  | 88 => ⟨S256x1, .i32⟩
  | 89 => ⟨S256x1, .i32⟩
  | 90 => ⟨S_, .i32⟩
  | 91 => ⟨S256x1, .i32⟩
  | 92 => ⟨S_, .i32⟩
  | 93 => ⟨S256x1, .i32⟩
  | 94 => ⟨S_, .i32⟩
  | 95 => ⟨S256x1, .i32⟩
  | 96 => ⟨S256x5, .i32⟩
  | 97 => ⟨S256x1x8x64x16x128, .f32⟩
  | 98 => ⟨S256x1x512x16x128, .f32⟩
  | 99 => ⟨S_, .i32⟩
  | 100 => ⟨S256, .i32⟩
  | 101 => ⟨S256, .i1⟩
  | 102 => ⟨S_, .i32⟩
  | 103 => ⟨S256, .i32⟩
  | 104 => ⟨S256, .i32⟩
  | 105 => ⟨S256, .i32⟩
  | 106 => ⟨S_, .i32⟩
  | 107 => ⟨S256x1, .i32⟩
  | 108 => ⟨S256x1, .i32⟩
  | 109 => ⟨S_, .i32⟩
  | 110 => ⟨S256x1, .i32⟩
  | 111 => ⟨S_, .i32⟩
  | 112 => ⟨S256x1, .i32⟩
  | 113 => ⟨S_, .i32⟩
  | 114 => ⟨S256x1, .i32⟩
  | 115 => ⟨S256x5, .i32⟩
  | 116 => ⟨S256x1x8x64x16x128, .f32⟩
  | 117 => ⟨S256x1x512x16x128, .f32⟩
  | 118 => ⟨S256, .i32⟩
  | 119 => ⟨S_, .i32⟩
  | 120 => ⟨S256, .i32⟩
  | 121 => ⟨S256, .i32⟩
  | 122 => ⟨S_, .i32⟩
  | 123 => ⟨S256, .i32⟩
  | 124 => ⟨S256, .i32⟩
  | 125 => ⟨S_, .i32⟩
  | 126 => ⟨S256, .i32⟩
  | 127 => ⟨S256, .i1⟩
  | _ => ⟨S1x16384x16x128, .f32⟩

abbrev hbmTy0_1 (i : Nat) : BufTy := match i % 128 with
  | 0 => ⟨S_, .i32⟩
  | 1 => ⟨S256, .i32⟩
  | 2 => ⟨S256, .i32⟩
  | 3 => ⟨S256, .i32⟩
  | 4 => ⟨S_, .i32⟩
  | 5 => ⟨S256x1, .i32⟩
  | 6 => ⟨S256x1, .i32⟩
  | 7 => ⟨S_, .i32⟩
  | 8 => ⟨S256x1, .i32⟩
  | 9 => ⟨S_, .i32⟩
  | 10 => ⟨S256x1, .i32⟩
  | 11 => ⟨S256x4, .i32⟩
  | 12 => ⟨S256x16x8x64x64, .f32⟩
  | 13 => ⟨S256x16x64x8x64, .f32⟩
  | 14 => ⟨S256x16x64x512, .f32⟩
  | 15 => ⟨S256x1x16x64x512, .f32⟩
  | 16 => ⟨S_, .f32⟩
  | 17 => ⟨S256x1x16x64x512, .f32⟩
  | 18 => ⟨S256x1x16x64x512, .f32⟩
  | 19 => ⟨S256x1x16x64x512, .f32⟩
  | 20 => ⟨S256x1x16x64x512, .f32⟩
  | 21 => ⟨S_, .f32⟩
  | 22 => ⟨S_, .f32⟩
  | 23 => ⟨S1x16x64x512, .i1⟩
  | 24 => ⟨S1x16x64x512, .f32⟩
  | 25 => ⟨S256x1x16x64x512, .i1⟩
  | 26 => ⟨S256x1x16x64x512, .f32⟩
  | 27 => ⟨S256x1x16x64x512, .f32⟩
  | 28 => ⟨S1x16x256x64x256, .f32⟩
  | 29 => ⟨S_, .f32⟩
  | 30 => ⟨S1x16x256x64x256, .f32⟩
  | 31 => ⟨S1x16x256x64x256, .f32⟩
  | 32 => ⟨S256x1x16x64x256, .f32⟩
  | 33 => ⟨S256x1x16x64x768, .f32⟩
  | 34 => ⟨S_, .f32⟩
  | 35 => ⟨S256x1x16x64, .f32⟩
  | 36 => ⟨S_, .f32⟩
  | 37 => ⟨S256x1x16x64, .f32⟩
  | 38 => ⟨S256x1x16x64, .f32⟩
  | 39 => ⟨S256x1x16x64x1, .f32⟩
  | 40 => ⟨S256x1x16x64x768, .f32⟩
  | 41 => ⟨S256x1x16x64x768, .f32⟩
  | 42 => ⟨S256x1x16x64x768, .f32⟩
  | 43 => ⟨S_, .f32⟩
  | 44 => ⟨S256x1x16x64, .f32⟩
  | 45 => ⟨S256x1x16x64x1, .f32⟩
  | 46 => ⟨S256x1x16x64x768, .f32⟩
  | 47 => ⟨S256x1x16x64x768, .f32⟩
  | 48 => ⟨S256x1x16x64x512, .f32⟩
  | 49 => ⟨S256x1x16x128x64, .f32⟩
  | 50 => ⟨S256x1x64x16x128, .f32⟩
  | 51 => ⟨S256x1x16x64x256, .f32⟩
  | 52 => ⟨S1x16x128x256x64, .f32⟩
  | 53 => ⟨S256x1x64x16x128, .f32⟩
  | 54 => ⟨S256x1x64x16x128, .f32⟩
  | 55 => ⟨S1x256x64x16x128, .f32⟩
  | 56 => ⟨S16384x2048, .f32⟩
  | 57 => ⟨S16384x2048, .bf16⟩
  | _ => ⟨S1x16384x16x128, .f32⟩

abbrev hbmTy (i : Nat) : BufTy := match i / 128 with
  | 0 => hbmTy0_0 i
  | 1 => hbmTy0_1 i
  | _ => ⟨S1x16384x16x128, .f32⟩

abbrev bufTy : (tb : Table) → Fin (tcTables nBuf tb) → BufTy
  | .hbm, ⟨i, _⟩ => hbmTy i
  | _, _ => ⟨S1x16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_c_6 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_c_11 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v45 : Ref sig .tc := ⟨.hbm, 79, rfl⟩
abbrev main_c_12 : Ref sig .tc := ⟨.hbm, 80, rfl⟩
abbrev main_v46 : Ref sig .tc := ⟨.hbm, 81, rfl⟩
abbrev main_v47 : Ref sig .tc := ⟨.hbm, 82, rfl⟩
abbrev main_c_13 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_14 : Ref sig .tc := ⟨.hbm, 87, rfl⟩
abbrev main_v51 : Ref sig .tc := ⟨.hbm, 88, rfl⟩
abbrev main_v52 : Ref sig .tc := ⟨.hbm, 89, rfl⟩
abbrev main_c_15 : Ref sig .tc := ⟨.hbm, 90, rfl⟩
abbrev main_v53 : Ref sig .tc := ⟨.hbm, 91, rfl⟩
abbrev main_c_16 : Ref sig .tc := ⟨.hbm, 92, rfl⟩
abbrev main_v54 : Ref sig .tc := ⟨.hbm, 93, rfl⟩
abbrev main_c_17 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_18 : Ref sig .tc := ⟨.hbm, 99, rfl⟩
abbrev main_v59 : Ref sig .tc := ⟨.hbm, 100, rfl⟩
abbrev main_v60 : Ref sig .tc := ⟨.hbm, 101, rfl⟩
abbrev main_c_19 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_20 : Ref sig .tc := ⟨.hbm, 106, rfl⟩
abbrev main_v64 : Ref sig .tc := ⟨.hbm, 107, rfl⟩
abbrev main_v65 : Ref sig .tc := ⟨.hbm, 108, rfl⟩
abbrev main_c_21 : Ref sig .tc := ⟨.hbm, 109, rfl⟩
abbrev main_v66 : Ref sig .tc := ⟨.hbm, 110, rfl⟩
abbrev main_c_22 : Ref sig .tc := ⟨.hbm, 111, rfl⟩
abbrev main_v67 : Ref sig .tc := ⟨.hbm, 112, rfl⟩
abbrev main_c_23 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_c_24 : Ref sig .tc := ⟨.hbm, 119, rfl⟩
abbrev main_v73 : Ref sig .tc := ⟨.hbm, 120, rfl⟩
abbrev main_v74 : Ref sig .tc := ⟨.hbm, 121, rfl⟩
abbrev main_c_25 : Ref sig .tc := ⟨.hbm, 122, rfl⟩
abbrev main_v75 : Ref sig .tc := ⟨.hbm, 123, rfl⟩
abbrev main_v76 : Ref sig .tc := ⟨.hbm, 124, rfl⟩
abbrev main_c_26 : Ref sig .tc := ⟨.hbm, 125, rfl⟩
abbrev main_v77 : Ref sig .tc := ⟨.hbm, 126, rfl⟩
abbrev main_v78 : Ref sig .tc := ⟨.hbm, 127, rfl⟩
abbrev main_c_27 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_c_28 : Ref sig .tc := ⟨.hbm, 132, rfl⟩
abbrev main_v82 : Ref sig .tc := ⟨.hbm, 133, rfl⟩
abbrev main_v83 : Ref sig .tc := ⟨.hbm, 134, rfl⟩
abbrev main_c_29 : Ref sig .tc := ⟨.hbm, 135, rfl⟩
abbrev main_v84 : Ref sig .tc := ⟨.hbm, 136, rfl⟩
abbrev main_c_30 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_31 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_v95 : Ref sig .tc := ⟨.hbm, 155, rfl⟩
abbrev main_v96 : Ref sig .tc := ⟨.hbm, 156, rfl⟩
abbrev main_cst_32 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_33 : Ref sig .tc := ⟨.hbm, 162, rfl⟩
abbrev main_v101 : Ref sig .tc := ⟨.hbm, 163, rfl⟩
abbrev main_cst_34 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_cst_35 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩

abbrev nD : Nat := 1
abbrev τ : Topo := Topo.v7x

variable {F : FTy → Type} [FloatOps F]
-- ==== KernelMla.lean ====
abbrev S1x16384x16x192 : Shape := ⟨4, ![1, 16384, 16, 192]⟩
abbrev S1x16384x16x128 : Shape := ⟨4, ![1, 16384, 16, 128]⟩
abbrev S1x256x16x192 : Shape := ⟨4, ![1, 256, 16, 192]⟩
abbrev S1x256x16x128 : Shape := ⟨4, ![1, 256, 16, 128]⟩
abbrev S_ : Shape := ⟨0, ![]⟩
abbrev S16384x16x192 : Shape := ⟨3, ![16384, 16, 192]⟩
abbrev S16384x16x256 : Shape := ⟨3, ![16384, 16, 256]⟩
abbrev S16x16384x256 : Shape := ⟨3, ![16, 16384, 256]⟩
abbrev S16384x16x128 : Shape := ⟨3, ![16384, 16, 128]⟩
abbrev S16x128x16384 : Shape := ⟨3, ![16, 128, 16384]⟩
abbrev S16x16384 : Shape := ⟨2, ![16, 16384]⟩
abbrev S16x16x16384 : Shape := ⟨3, ![16, 16, 16384]⟩
abbrev S16x144x16384 : Shape := ⟨3, ![16, 144, 16384]⟩
abbrev S256x16x192 : Shape := ⟨3, ![256, 16, 192]⟩
abbrev S256x16x256 : Shape := ⟨3, ![256, 16, 256]⟩
abbrev S16x256x256 : Shape := ⟨3, ![16, 256, 256]⟩
abbrev S256x16x128 : Shape := ⟨3, ![256, 16, 128]⟩
abbrev S16x128x256 : Shape := ⟨3, ![16, 128, 256]⟩
abbrev S16x256 : Shape := ⟨2, ![16, 256]⟩
abbrev S16x16x256 : Shape := ⟨3, ![16, 16, 256]⟩
abbrev S16x144x256 : Shape := ⟨3, ![16, 144, 256]⟩
abbrev S16384x2048 : Shape := ⟨2, ![16384, 2048]⟩
abbrev S1x512x256 : Shape := ⟨3, ![1, 512, 256]⟩
abbrev S1x16384x256 : Shape := ⟨3, ![1, 16384, 256]⟩
abbrev S1x144x16384 : Shape := ⟨3, ![1, 144, 16384]⟩
abbrev S1x256x256 : Shape := ⟨3, ![1, 256, 256]⟩
abbrev S1x144x256 : Shape := ⟨3, ![1, 144, 256]⟩
abbrev S512x128 : Shape := ⟨2, ![512, 128]⟩
abbrev S2x2048x512 : Shape := ⟨3, ![2, 2048, 512]⟩
abbrev S512x256 : Shape := ⟨2, ![512, 256]⟩
abbrev S256x256 : Shape := ⟨2, ![256, 256]⟩
abbrev S144x256 : Shape := ⟨2, ![144, 256]⟩
abbrev S256x512 : Shape := ⟨2, ![256, 512]⟩
abbrev S1x2048x256 : Shape := ⟨3, ![1, 2048, 256]⟩
abbrev S2048x256 : Shape := ⟨2, ![2048, 256]⟩
abbrev S2048x512 : Shape := ⟨2, ![2048, 512]⟩
abbrev S1x2048x512 : Shape := ⟨3, ![1, 2048, 512]⟩
abbrev S512 : Shape := ⟨1, ![512]⟩
abbrev S1x512 : Shape := ⟨2, ![1, 512]⟩
abbrev S144x512 : Shape := ⟨2, ![144, 512]⟩
abbrev S1x144x2048 : Shape := ⟨3, ![1, 144, 2048]⟩
abbrev S144x2048 : Shape := ⟨2, ![144, 2048]⟩
abbrev S128x512 : Shape := ⟨2, ![128, 512]⟩

abbrev nBuf : Space → Nat
  | .hbm => 63
  | .vmem => 13
  | .smem => 0
  | _ => 0

abbrev bufTy : (tb : Table) → Fin (tcTables nBuf tb) → BufTy
  | .hbm, ⟨0, _⟩ => ⟨S1x16384x16x192, .f32⟩
  | .hbm, ⟨1, _⟩ => ⟨S1x16384x16x192, .f32⟩
  | .hbm, ⟨2, _⟩ => ⟨S1x16384x16x128, .f32⟩
  | .hbm, ⟨3, _⟩ => ⟨S1x256x16x192, .f32⟩
  | .hbm, ⟨4, _⟩ => ⟨S1x256x16x128, .f32⟩
  | .hbm, ⟨5, _⟩ => ⟨S_, .f32⟩
  | .hbm, ⟨6, _⟩ => ⟨S1x16384x16x192, .f32⟩
  | .hbm, ⟨7, _⟩ => ⟨S1x16384x16x192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x16384x16x192, .f32⟩
  | .hbm, ⟨13, _⟩ => ⟨S1x16384x16x192, .f32⟩
  | .hbm, ⟨14, _⟩ => ⟨S16384x16x192, .f32⟩
  | .hbm, ⟨15, _⟩ => ⟨S_, .i32⟩
  | .hbm, ⟨16, _⟩ => ⟨S_, .f32⟩
  | .hbm, ⟨17, _⟩ => ⟨S16384x16x256, .f32⟩
  | .hbm, ⟨18, _⟩ => ⟨S16x16384x256, .f32⟩
  | .hbm, ⟨19, _⟩ => ⟨S16x16384x256, .bf16⟩
  | .hbm, ⟨20, _⟩ => ⟨S16384x16x192, .f32⟩
  | .hbm, ⟨21, _⟩ => ⟨S_, .i32⟩
  | .hbm, ⟨22, _⟩ => ⟨S_, .f32⟩
  | .hbm, ⟨23, _⟩ => ⟨S16384x16x256, .f32⟩
  | .hbm, ⟨24, _⟩ => ⟨S16x16384x256, .f32⟩
  | .hbm, ⟨25, _⟩ => ⟨S16x16384x256, .bf16⟩
  | .hbm, ⟨26, _⟩ => ⟨S16384x16x128, .f32⟩
  | .hbm, ⟨27, _⟩ => ⟨S16x128x16384, .f32⟩
  | .hbm, ⟨28, _⟩ => ⟨S16x128x16384, .bf16⟩
  | .hbm, ⟨29, _⟩ => ⟨S16x16384, .i32⟩
  | .hbm, ⟨30, _⟩ => ⟨S_, .i32⟩
  | .hbm, ⟨31, _⟩ => ⟨S16x16384, .i32⟩
  | .hbm, ⟨32, _⟩ => ⟨S16x16384, .i1⟩
  | .hbm, ⟨33, _⟩ => ⟨S_, .f32⟩
  | .hbm, ⟨34, _⟩ => ⟨S_, .f32⟩
  | .hbm, ⟨35, _⟩ => ⟨S16x16384, .f32⟩
  | .hbm, ⟨36, _⟩ => ⟨S16x16384, .f32⟩
  | .hbm, ⟨37, _⟩ => ⟨S16x16384, .f32⟩
  | .hbm, ⟨38, _⟩ => ⟨S16x16384, .bf16⟩
  | .hbm, ⟨39, _⟩ => ⟨S16x16x16384, .bf16⟩
  | .hbm, ⟨40, _⟩ => ⟨S16x144x16384, .bf16⟩
  | .hbm, ⟨41, _⟩ => ⟨S256x16x192, .f32⟩
  | .hbm, ⟨42, _⟩ => ⟨S_, .i32⟩
  | .hbm, ⟨43, _⟩ => ⟨S_, .f32⟩
  | .hbm, ⟨44, _⟩ => ⟨S256x16x256, .f32⟩
  | .hbm, ⟨45, _⟩ => ⟨S16x256x256, .f32⟩
  | .hbm, ⟨46, _⟩ => ⟨S16x256x256, .bf16⟩
  | .hbm, ⟨47, _⟩ => ⟨S256x16x128, .f32⟩
  | .hbm, ⟨48, _⟩ => ⟨S16x128x256, .f32⟩
  | .hbm, ⟨49, _⟩ => ⟨S16x128x256, .bf16⟩
  | .hbm, ⟨50, _⟩ => ⟨S16x256, .i32⟩
  | .hbm, ⟨51, _⟩ => ⟨S_, .i32⟩
  | .hbm, ⟨52, _⟩ => ⟨S16x256, .i32⟩
  | .hbm, ⟨53, _⟩ => ⟨S16x256, .i1⟩
  | .hbm, ⟨54, _⟩ => ⟨S_, .f32⟩
  | .hbm, ⟨55, _⟩ => ⟨S_, .f32⟩
  | .hbm, ⟨56, _⟩ => ⟨S16x256, .f32⟩
  | .hbm, ⟨57, _⟩ => ⟨S16x256, .f32⟩
  | .hbm, ⟨58, _⟩ => ⟨S16x256, .f32⟩
  | .hbm, ⟨59, _⟩ => ⟨S16x256, .bf16⟩
  | .hbm, ⟨60, _⟩ => ⟨S16x16x256, .bf16⟩
  | .hbm, ⟨61, _⟩ => ⟨S16x144x256, .bf16⟩
  | .hbm, ⟨62, _⟩ => ⟨S16384x2048, .bf16⟩
  | .local _ .vmem, ⟨0, _⟩ => ⟨S1x512x256, .bf16⟩
  | .local _ .vmem, ⟨1, _⟩ => ⟨S1x512x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x144x16384, .bf16⟩
  | .local _ .vmem, ⟨5, _⟩ => ⟨S1x144x16384, .bf16⟩
  | .local _ .vmem, ⟨6, _⟩ => ⟨S1x256x256, .bf16⟩
  | .local _ .vmem, ⟨7, _⟩ => ⟨S1x256x256, .bf16⟩
  | .local _ .vmem, ⟨8, _⟩ => ⟨S1x144x256, .bf16⟩
  | .local _ .vmem, ⟨9, _⟩ => ⟨S1x144x256, .bf16⟩
  | .local _ .vmem, ⟨10, _⟩ => ⟨S512x128, .bf16⟩
  | .local _ .vmem, ⟨11, _⟩ => ⟨S512x128, .bf16⟩
  | .local _ .vmem, ⟨12, _⟩ => ⟨S2x2048x512, .f32⟩
  | _, _ => ⟨S1x16384x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_cst_5 : Ref sig .tc := ⟨.hbm, 34, rfl⟩
abbrev main_call2_v0 : Ref sig .tc := ⟨.hbm, 35, rfl⟩
abbrev main_call2_v1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_call3_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_cst_9 : Ref sig .tc := ⟨.hbm, 55, rfl⟩
abbrev main_call4_v0 : Ref sig .tc := ⟨.hbm, 56, rfl⟩
abbrev main_call4_v1 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 32], ![false, false]⟩

def k0_mult1 : BitVec 32 :=
  let c0_i32 : BitVec 32 := 0#32
  c0_i32
@[reducible] def k0_t1_loop : Scf.Loop 32 :=
  let c0_i32_16 : BitVec 32 := 0#32
  let c3_i32 : BitVec 32 := 3#32
  let v22 : BitVec 32 := Scalar.addi c0_i32_16 c3_i32
  let c1_i32 : BitVec 32 := 1#32
  ⟨c0_i32_16, v22, c1_i32⟩
def k0_mult2 (k0_t1 : Fin k0_t1_loop.trips) : BitVec 32 :=
  let c0_i32_40 : BitVec 32 := 0#32
  let c2_i32 : BitVec 32 := 2#32
  let c0_i32_16 : BitVec 32 := 0#32
  let c1_i32 : BitVec 32 := 1#32
  let arg9 : BitVec 32 := Scf.iv c0_i32_16 c1_i32 k0_t1
  let v77 : BitVec 32 := Scalar.muli c2_i32 arg9
  let v78 : BitVec 32 := Scalar.addi c0_i32_40 v77
  let c1_i32_41 : BitVec 32 := 1#32
  let v79 : BitVec 32 := Scalar.addi v78 c1_i32_41
  let c2048_i32 : BitVec 32 := 2048#32
  let v80 : BitVec 32 := Scalar.muli v79 c2048_i32
  v80
def k0_off1 (k0_t1 : Fin k0_t1_loop.trips) (c1_i32_41 : BitVec 32) : Fin 3 → Nat :=
  let c0_42 : Index := 0#32
  let c0_i32_40 : BitVec 32 := 0#32
  let c2_i32 : BitVec 32 := 2#32
  let c0_i32_16 : BitVec 32 := 0#32
  let c1_i32 : BitVec 32 := 1#32
  let arg9 : BitVec 32 := Scf.iv c0_i32_16 c1_i32 k0_t1
  let v77 : BitVec 32 := Scalar.muli c2_i32 arg9
  let v78 : BitVec 32 := Scalar.addi c0_i32_40 v77
  let v79 : BitVec 32 := Scalar.addi v78 c1_i32_41
  let c2048_i32 : BitVec 32 := 2048#32
  let v80 : BitVec 32 := Scalar.muli v79 c2048_i32
  let v81 : BitVec 32 := v80
  let v82 : Index := Scalar.indexCast v81
  let c0_43 : Index := 0#32
  ![0, v82.toNat, 0]
def k0_mult3 (k0_t1 : Fin k0_t1_loop.trips) : BitVec 32 :=
  let c0_i32_40 : BitVec 32 := 0#32
  let c2_i32 : BitVec 32 := 2#32
  let c0_i32_16 : BitVec 32 := 0#32
  let c1_i32 : BitVec 32 := 1#32
  let arg9 : BitVec 32 := Scf.iv c0_i32_16 c1_i32 k0_t1
  let v77 : BitVec 32 := Scalar.muli c2_i32 arg9
  let v78 : BitVec 32 := Scalar.addi c0_i32_40 v77
  let c2048_i32_51 : BitVec 32 := 2048#32
  let v91 : BitVec 32 := Scalar.muli v78 c2048_i32_51
  v91
def k0_off2 (k0_t1 : Fin k0_t1_loop.trips) : Fin 3 → Nat :=
  let c0_52 : Index := 0#32
  let c0_53 : Index := 0#32
  let c0_i32_40 : BitVec 32 := 0#32
  let c2_i32 : BitVec 32 := 2#32
  let c0_i32_16 : BitVec 32 := 0#32
  let c1_i32 : BitVec 32 := 1#32
  let arg9 : BitVec 32 := Scf.iv c0_i32_16 c1_i32 k0_t1
  let v77 : BitVec 32 := Scalar.muli c2_i32 arg9
  let v78 : BitVec 32 := Scalar.addi c0_i32_40 v77
  let c2048_i32_51 : BitVec 32 := 2048#32
  let v91 : BitVec 32 := Scalar.muli v78 c2048_i32_51
  let v92 : BitVec 32 := v91
  let v93 : Index := Scalar.indexCast v92
  ![0, 0, v93.toNat]
def k0_mult4 (k0_t1 : Fin k0_t1_loop.trips) : BitVec 32 :=
  let c0_i32_40 : BitVec 32 := 0#32
  let c2_i32 : BitVec 32 := 2#32
  let c0_i32_16 : BitVec 32 := 0#32
  let c1_i32 : BitVec 32 := 1#32
  let arg9 : BitVec 32 := Scf.iv c0_i32_16 c1_i32 k0_t1
  let v77 : BitVec 32 := Scalar.muli c2_i32 arg9
  let v78 : BitVec 32 := Scalar.addi c0_i32_40 v77
  let c2_i32_56 : BitVec 32 := 2#32
  let v109 : BitVec 32 := Scalar.addi v78 c2_i32_56
  let c2048_i32_57 : BitVec 32 := 2048#32
  let v110 : BitVec 32 := Scalar.muli v109 c2048_i32_57
  v110
def k0_mult5 (k0_t1 : Fin k0_t1_loop.trips) : BitVec 32 :=
  let c0_i32_40 : BitVec 32 := 0#32
  let c2_i32 : BitVec 32 := 2#32
  let c0_i32_16 : BitVec 32 := 0#32
  let c1_i32 : BitVec 32 := 1#32
  let arg9 : BitVec 32 := Scf.iv c0_i32_16 c1_i32 k0_t1
  let v77 : BitVec 32 := Scalar.muli c2_i32 arg9
  let v78 : BitVec 32 := Scalar.addi c0_i32_40 v77
  let c1_i32_64 : BitVec 32 := 1#32
  let v119 : BitVec 32 := Scalar.addi v78 c1_i32_64
  let c2048_i32_68 : BitVec 32 := 2048#32
  let v122 : BitVec 32 := Scalar.muli v119 c2048_i32_68
  v122
def k0_off3 (k0_t1 : Fin k0_t1_loop.trips) : Fin 3 → Nat :=
  let c0_69 : Index := 0#32
  let c0_70 : Index := 0#32
  let c0_i32_40 : BitVec 32 := 0#32
  let c2_i32 : BitVec 32 := 2#32
  let c0_i32_16 : BitVec 32 := 0#32
  let c1_i32 : BitVec 32 := 1#32
  let arg9 : BitVec 32 := Scf.iv c0_i32_16 c1_i32 k0_t1
  let v77 : BitVec 32 := Scalar.muli c2_i32 arg9
  let v78 : BitVec 32 := Scalar.addi c0_i32_40 v77
  let c1_i32_64 : BitVec 32 := 1#32
  let v119 : BitVec 32 := Scalar.addi v78 c1_i32_64
  let c2048_i32_68 : BitVec 32 := 2048#32
  let v122 : BitVec 32 := Scalar.muli v119 c2048_i32_68
  let v123 : BitVec 32 := v122
  let v124 : Index := Scalar.indexCast v123
  ![0, 0, v124.toNat]
def k0_mult6 : BitVec 32 :=
  let c14336_i32 : BitVec 32 := 14336#32
  c14336_i32
def k0_mult7 : BitVec 32 :=
  let c12288_i32 : BitVec 32 := 12288#32
  c12288_i32
def k0_mult8 : BitVec 32 :=
  let c14336_i32_33 : BitVec 32 := 14336#32
  c14336_i32_33
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x144x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x144x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceMlaIdeal.lean ====
abbrev S1x16384x16x192 : Shape := ⟨4, ![1, 16384, 16, 192]⟩
abbrev S1x16384x16x128 : Shape := ⟨4, ![1, 16384, 16, 128]⟩
abbrev S1x256x16x192 : Shape := ⟨4, ![1, 256, 16, 192]⟩
abbrev S1x256x16x128 : Shape := ⟨4, ![1, 256, 16, 128]⟩
abbrev S1x16x16384x16384 : Shape := ⟨4, ![1, 16, 16384, 16384]⟩
abbrev S_ : Shape := ⟨0, ![]⟩
abbrev S1x16x16384x256 : Shape := ⟨4, ![1, 16, 16384, 256]⟩
abbrev S1x16x16384x16640 : Shape := ⟨4, ![1, 16, 16384, 16640]⟩
abbrev S1x16x16384 : Shape := ⟨3, ![1, 16, 16384]⟩
abbrev S1x16x16384x1 : Shape := ⟨4, ![1, 16, 16384, 1]⟩
abbrev S1x16x128x16384 : Shape := ⟨4, ![1, 16, 128, 16384]⟩
abbrev S16384x2048 : Shape := ⟨2, ![16384, 2048]⟩

abbrev nBuf : Space → Nat
  | .hbm => 37
  | .vmem => 0
  | .smem => 0
  | _ => 0

abbrev bufTy : (tb : Table) → Fin (tcTables nBuf tb) → BufTy
  | .hbm, ⟨0, _⟩ => ⟨S1x16384x16x192, .f32⟩
  | .hbm, ⟨1, _⟩ => ⟨S1x16384x16x192, .f32⟩
  | .hbm, ⟨2, _⟩ => ⟨S1x16384x16x128, .f32⟩
  | .hbm, ⟨3, _⟩ => ⟨S1x256x16x192, .f32⟩
  | .hbm, ⟨4, _⟩ => ⟨S1x256x16x128, .f32⟩
  | .hbm, ⟨5, _⟩ => ⟨S1x16x16384x16384, .f32⟩
  | .hbm, ⟨6, _⟩ => ⟨S_, .f32⟩
  | .hbm, ⟨7, _⟩ => ⟨S1x16x16384x16384, .f32⟩
  | .hbm, ⟨8, _⟩ => ⟨S1x16x16384x16384, .f32⟩
  | .hbm, ⟨9, _⟩ => ⟨S1x16x16384x256, .f32⟩
  | .hbm, ⟨10, _⟩ => ⟨S_, .f32⟩
  | .hbm, ⟨11, _⟩ => ⟨S1x16x16384x256, .f32⟩
  | .hbm, ⟨12, _⟩ => ⟨S1x16x16384x256, .f32⟩
  | .hbm, ⟨13, _⟩ => ⟨S1x16x16384x16640, .f32⟩
  | .hbm, ⟨14, _⟩ => ⟨S_, .f32⟩
  | .hbm, ⟨15, _⟩ => ⟨S1x16x16384, .f32⟩
  | .hbm, ⟨16, _⟩ => ⟨S_, .f32⟩
  | .hbm, ⟨17, _⟩ => ⟨S1x16x16384, .f32⟩
  | .hbm, ⟨18, _⟩ => ⟨S1x16x16384, .f32⟩
  | .hbm, ⟨19, _⟩ => ⟨S1x16x16384x1, .f32⟩
  | .hbm, ⟨20, _⟩ => ⟨S1x16x16384x16640, .f32⟩
  | .hbm, ⟨21, _⟩ => ⟨S1x16x16384x16640, .f32⟩
  | .hbm, ⟨22, _⟩ => ⟨S1x16x16384x16640, .f32⟩
  | .hbm, ⟨23, _⟩ => ⟨S_, .f32⟩
  | .hbm, ⟨24, _⟩ => ⟨S1x16x16384, .f32⟩
  | .hbm, ⟨25, _⟩ => ⟨S1x16x16384x1, .f32⟩
  | .hbm, ⟨26, _⟩ => ⟨S1x16x16384x16640, .f32⟩
  | .hbm, ⟨27, _⟩ => ⟨S1x16x16384x16640, .f32⟩
  | .hbm, ⟨28, _⟩ => ⟨S1x16x16384x16384, .f32⟩
  | .hbm, ⟨29, _⟩ => ⟨S1x16x128x16384, .f32⟩
  | .hbm, ⟨30, _⟩ => ⟨S1x16384x16x128, .f32⟩
  | .hbm, ⟨31, _⟩ => ⟨S1x16x16384x256, .f32⟩
  | .hbm, ⟨32, _⟩ => ⟨S1x16x128x16384, .f32⟩
  | .hbm, ⟨33, _⟩ => ⟨S1x16384x16x128, .f32⟩
  | .hbm, ⟨34, _⟩ => ⟨S1x16384x16x128, .f32⟩
  | .hbm, ⟨35, _⟩ => ⟨S16384x2048, .f32⟩
  | .hbm, ⟨36, _⟩ => ⟨S16384x2048, .bf16⟩
  | _, _ => ⟨S1x16384x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KernelMerge.lean ====
abbrev S1x16384x4096 : Shape := ⟨3, ![1, 16384, 4096]⟩
abbrev S1x1x4096 : Shape := ⟨3, ![1, 1, 4096]⟩
abbrev S1x16384x2048 : Shape := ⟨3, ![1, 16384, 2048]⟩
abbrev S4096x16448 : Shape := ⟨2, ![4096, 16448]⟩
abbrev S2048x4096 : Shape := ⟨2, ![2048, 4096]⟩
abbrev S4096x4096 : Shape := ⟨2, ![4096, 4096]⟩
abbrev S1x4096x16448 : Shape := ⟨3, ![1, 4096, 16448]⟩
abbrev S1x4096x8192 : Shape := ⟨3, ![1, 4096, 8192]⟩
abbrev S1x2048x4096 : Shape := ⟨3, ![1, 2048, 4096]⟩
abbrev S1x4096x4096 : Shape := ⟨3, ![1, 4096, 4096]⟩
abbrev S16384x4096 : Shape := ⟨2, ![16384, 4096]⟩
abbrev S16384x2048 : Shape := ⟨2, ![16384, 2048]⟩
abbrev S512x4096 : Shape := ⟨2, ![512, 4096]⟩
abbrev S512x2048 : Shape := ⟨2, ![512, 2048]⟩
abbrev S1x4096x512 : Shape := ⟨3, ![1, 4096, 512]⟩
abbrev S1x2048x512 : Shape := ⟨3, ![1, 2048, 512]⟩
abbrev S512x512 : Shape := ⟨2, ![512, 512]⟩
abbrev S4096x512 : Shape := ⟨2, ![4096, 512]⟩
abbrev S2048x512 : Shape := ⟨2, ![2048, 512]⟩
abbrev S4096 : Shape := ⟨1, ![4096]⟩
abbrev S1x4096 : Shape := ⟨2, ![1, 4096]⟩
abbrev S1024x4096 : Shape := ⟨2, ![1024, 4096]⟩
abbrev S1024x512 : Shape := ⟨2, ![1024, 512]⟩
abbrev S1x512 : Shape := ⟨2, ![1, 512]⟩

abbrev nBuf : Space → Nat
  | .hbm => 29
  | .vmem => 26
  | .smem => 0
  | _ => 0

abbrev bufTy : (tb : Table) → Fin (tcTables nBuf tb) → BufTy
  | .hbm, ⟨0, _⟩ => ⟨S1x16384x4096, .f32⟩
  | .hbm, ⟨1, _⟩ => ⟨S1x1x4096, .f32⟩
  | .hbm, ⟨2, _⟩ => ⟨S1x16384x4096, .f32⟩
  | .hbm, ⟨3, _⟩ => ⟨S1x16384x2048, .f32⟩
  | .hbm, ⟨4, _⟩ => ⟨S1x16384x2048, .f32⟩
  | .hbm, ⟨5, _⟩ => ⟨S4096x16448, .f32⟩
  | .hbm, ⟨6, _⟩ => ⟨S2048x4096, .f32⟩
  | .hbm, ⟨7, _⟩ => ⟨S2048x4096, .f32⟩
  | .hbm, ⟨8, _⟩ => ⟨S4096x4096, .f32⟩
  | .hbm, ⟨9, _⟩ => ⟨S1x4096x16448, .f32⟩
  | .hbm, ⟨10, _⟩ => ⟨S1x4096x16448, .bf16⟩
  | .hbm, ⟨11, _⟩ => ⟨S1x4096x8192, .bf16⟩
  | .hbm, ⟨12, _⟩ => ⟨S1x2048x4096, .f32⟩
  | .hbm, ⟨13, _⟩ => ⟨S1x2048x4096, .bf16⟩
  | .hbm, ⟨14, _⟩ => ⟨S1x2048x4096, .f32⟩
  | .hbm, ⟨15, _⟩ => ⟨S1x2048x4096, .bf16⟩
  | .hbm, ⟨16, _⟩ => ⟨S1x4096x4096, .f32⟩
  | .hbm, ⟨17, _⟩ => ⟨S1x4096x4096, .bf16⟩
  | .hbm, ⟨18, _⟩ => ⟨S16384x4096, .f32⟩
  | .hbm, ⟨19, _⟩ => ⟨S16384x4096, .bf16⟩
  | .hbm, ⟨20, _⟩ => ⟨S16384x2048, .f32⟩
  | .hbm, ⟨21, _⟩ => ⟨S16384x2048, .bf16⟩
  | .hbm, ⟨22, _⟩ => ⟨S16384x2048, .f32⟩
  | .hbm, ⟨23, _⟩ => ⟨S16384x2048, .bf16⟩
  | .hbm, ⟨24, _⟩ => ⟨S16384x4096, .bf16⟩
  | .hbm, ⟨25, _⟩ => ⟨S16384x4096, .f32⟩
  | .hbm, ⟨26, _⟩ => ⟨S4096, .f32⟩
  | .hbm, ⟨27, _⟩ => ⟨S1x4096, .f32⟩
  | .hbm, ⟨28, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x4096x512, .bf16⟩
  | .local _ .vmem, ⟨9, _⟩ => ⟨S1x4096x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S512x512, .bf16⟩
  | .local _ .vmem, ⟨15, _⟩ => ⟨S512x512, .bf16⟩
  | .local _ .vmem, ⟨16, _⟩ => ⟨S1024x4096, .bf16⟩
  | .local _ .vmem, ⟨17, _⟩ => ⟨S1024x4096, .bf16⟩
  | .local _ .vmem, ⟨18, _⟩ => ⟨S1x4096x512, .bf16⟩
  | .local _ .vmem, ⟨19, _⟩ => ⟨S1x4096x512, .bf16⟩
  | .local _ .vmem, ⟨20, _⟩ => ⟨S1024x512, .f32⟩
  | .local _ .vmem, ⟨21, _⟩ => ⟨S1024x512, .f32⟩
  | .local _ .vmem, ⟨22, _⟩ => ⟨S1x512, .f32⟩
  | .local _ .vmem, ⟨23, _⟩ => ⟨S1x512, .f32⟩
  | .local _ .vmem, ⟨24, _⟩ => ⟨S1024x512, .f32⟩
  | .local _ .vmem, ⟨25, _⟩ => ⟨S1024x512, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceMergeIdeal.lean ====
abbrev S1x16384x4096 : Shape := ⟨3, ![1, 16384, 4096]⟩
abbrev S1x1x4096 : Shape := ⟨3, ![1, 1, 4096]⟩
abbrev S1x16384x2048 : Shape := ⟨3, ![1, 16384, 2048]⟩
abbrev S4096x16448 : Shape := ⟨2, ![4096, 16448]⟩
abbrev S2048x4096 : Shape := ⟨2, ![2048, 4096]⟩
abbrev S4096x4096 : Shape := ⟨2, ![4096, 4096]⟩
abbrev S1x16384x16448 : Shape := ⟨3, ![1, 16384, 16448]⟩
abbrev S1x16384x1536 : Shape := ⟨3, ![1, 16384, 1536]⟩
abbrev S1x16384x512 : Shape := ⟨3, ![1, 16384, 512]⟩
abbrev S1x16384x64 : Shape := ⟨3, ![1, 16384, 64]⟩
abbrev S_ : Shape := ⟨0, ![]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x1x4096, .f32⟩
  | .hbm, ⟨2, _⟩ => ⟨S1x16384x4096, .f32⟩
  | .hbm, ⟨3, _⟩ => ⟨S1x16384x2048, .f32⟩
  | .hbm, ⟨4, _⟩ => ⟨S1x16384x2048, .f32⟩
  | .hbm, ⟨5, _⟩ => ⟨S4096x16448, .f32⟩
  | .hbm, ⟨6, _⟩ => ⟨S2048x4096, .f32⟩
  | .hbm, ⟨7, _⟩ => ⟨S2048x4096, .f32⟩
  | .hbm, ⟨8, _⟩ => ⟨S4096x4096, .f32⟩
  | .hbm, ⟨9, _⟩ => ⟨S1x16384x16448, .f32⟩
  | .hbm, ⟨10, _⟩ => ⟨S1x16384x2048, .f32⟩
  | .hbm, ⟨11, _⟩ => ⟨S1x16384x2048, .f32⟩
  | .hbm, ⟨12, _⟩ => ⟨S1x16384x2048, .f32⟩
  | .hbm, ⟨13, _⟩ => ⟨S1x16384x1536, .f32⟩
  | .hbm, ⟨14, _⟩ => ⟨S1x16384x512, .f32⟩
  | .hbm, ⟨15, _⟩ => ⟨S1x16384x64, .f32⟩
  | .hbm, ⟨16, _⟩ => ⟨S1x16384x4096, .f32⟩
  | .hbm, ⟨17, _⟩ => ⟨S1x16384x4096, .f32⟩
  | .hbm, ⟨18, _⟩ => ⟨S1x16384x4096, .f32⟩
  | .hbm, ⟨19, _⟩ => ⟨S1x16384x4096, .f32⟩
  | .hbm, ⟨20, _⟩ => ⟨S_, .f32⟩
  | .hbm, ⟨21, _⟩ => ⟨S1x16384x4096, .f32⟩
  | .hbm, ⟨22, _⟩ => ⟨S1x16384x4096, .f32⟩
  | .hbm, ⟨23, _⟩ => ⟨S_, .f32⟩
  | .hbm, ⟨24, _⟩ => ⟨S1x16384x4096, .f32⟩
  | .hbm, ⟨25, _⟩ => ⟨S1x16384x4096, .f32⟩
  | .hbm, ⟨26, _⟩ => ⟨S1x16384x4096, .f32⟩
  | .hbm, ⟨27, _⟩ => ⟨S1x16384x4096, .f32⟩
  | .hbm, ⟨28, _⟩ => ⟨S_, .f32⟩
  | .hbm, ⟨29, _⟩ => ⟨S1x16384x4096, .f32⟩
  | .hbm, ⟨30, _⟩ => ⟨S1x16384x4096, .f32⟩
  | .hbm, ⟨31, _⟩ => ⟨S_, .f32⟩
  | .hbm, ⟨32, _⟩ => ⟨S1x16384x4096, .f32⟩
  | .hbm, ⟨33, _⟩ => ⟨S1x16384x4096, .f32⟩
  | .hbm, ⟨34, _⟩ => ⟨S1x16384x4096, .f32⟩
  | .hbm, ⟨35, _⟩ => ⟨S1x16384x4096, .f32⟩
  | .hbm, ⟨36, _⟩ => ⟨S1x16384x4096, .f32⟩
  | .hbm, ⟨37, _⟩ => ⟨S1x16384x4096, .f32⟩
  | .hbm, ⟨38, _⟩ => ⟨S1x16384x4096, .f32⟩
  | .hbm, ⟨39, _⟩ => ⟨S1x16384x4096, .f32⟩
  | .hbm, ⟨40, _⟩ => ⟨S1x16384x4096, .f32⟩
  | .hbm, ⟨41, _⟩ => ⟨S1x16384x4096, .f32⟩
  | .hbm, ⟨42, _⟩ => ⟨S1x16384x4096, .f32⟩
  | .hbm, ⟨43, _⟩ => ⟨S16384x4096, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== KernelFfn.lean ====
abbrev S1x16384x4096 : Shape := ⟨3, ![1, 16384, 4096]⟩
abbrev S1x1x4096 : Shape := ⟨3, ![1, 1, 4096]⟩
abbrev S4096x12288 : Shape := ⟨2, ![4096, 12288]⟩
abbrev S3x6144 : Shape := ⟨2, ![3, 6144]⟩
abbrev S6144 : Shape := ⟨1, ![6144]⟩
abbrev S6144x4096 : Shape := ⟨2, ![6144, 4096]⟩
abbrev S2 : Shape := ⟨1, ![2]⟩
abbrev S1x4096x12288 : Shape := ⟨3, ![1, 4096, 12288]⟩
abbrev S1x6144x4096 : Shape := ⟨3, ![1, 6144, 4096]⟩
abbrev S1x6144 : Shape := ⟨2, ![1, 6144]⟩
abbrev S16384x4096 : Shape := ⟨2, ![16384, 4096]⟩
abbrev S16x1024x4096 : Shape := ⟨3, ![16, 1024, 4096]⟩
abbrev S_ : Shape := ⟨0, ![]⟩
abbrev S2x1 : Shape := ⟨2, ![2, 1]⟩
abbrev S16x2x4096 : Shape := ⟨3, ![16, 2, 4096]⟩
abbrev S32x4096 : Shape := ⟨2, ![32, 4096]⟩
abbrev S32x6144 : Shape := ⟨2, ![32, 6144]⟩
abbrev S1x4096x1024 : Shape := ⟨3, ![1, 4096, 1024]⟩
abbrev S32x1024 : Shape := ⟨2, ![32, 1024]⟩
abbrev S4096x1024 : Shape := ⟨2, ![4096, 1024]⟩
abbrev S16x2x6144 : Shape := ⟨3, ![16, 2, 6144]⟩
abbrev S15x1x6144 : Shape := ⟨3, ![15, 1, 6144]⟩
abbrev S15x6144 : Shape := ⟨2, ![15, 6144]⟩
abbrev S16x6144 : Shape := ⟨2, ![16, 6144]⟩
abbrev S16x1x6144 : Shape := ⟨3, ![16, 1, 6144]⟩
abbrev S16384x6144 : Shape := ⟨2, ![16384, 6144]⟩
abbrev S1024x4096 : Shape := ⟨2, ![1024, 4096]⟩
abbrev S1x4096x512 : Shape := ⟨3, ![1, 4096, 512]⟩
abbrev S1x2x512 : Shape := ⟨3, ![1, 2, 512]⟩
abbrev S3x512 : Shape := ⟨2, ![3, 512]⟩
abbrev S1x512 : Shape := ⟨2, ![1, 512]⟩
abbrev S1024x512 : Shape := ⟨2, ![1024, 512]⟩
abbrev S4096x512 : Shape := ⟨2, ![4096, 512]⟩
abbrev S1x1x512 : Shape := ⟨3, ![1, 1, 512]⟩
abbrev S4096 : Shape := ⟨1, ![4096]⟩
abbrev S1x4096 : Shape := ⟨2, ![1, 4096]⟩
abbrev S1024x6144 : Shape := ⟨2, ![1024, 6144]⟩
abbrev S1x6144x512 : Shape := ⟨3, ![1, 6144, 512]⟩
abbrev S6144x512 : Shape := ⟨2, ![6144, 512]⟩

abbrev nBuf : Space → Nat
  | .hbm => 47
  | .vmem => 29
  | .smem => 0
  | _ => 0

abbrev bufTy : (tb : Table) → Fin (tcTables nBuf tb) → BufTy
  | .hbm, ⟨0, _⟩ => ⟨S1x16384x4096, .f32⟩
  | .hbm, ⟨1, _⟩ => ⟨S1x1x4096, .f32⟩
  | .hbm, ⟨2, _⟩ => ⟨S1x16384x4096, .f32⟩
  | .hbm, ⟨3, _⟩ => ⟨S4096x12288, .f32⟩
  | .hbm, ⟨4, _⟩ => ⟨S3x6144, .f32⟩
  | .hbm, ⟨5, _⟩ => ⟨S6144, .f32⟩
  | .hbm, ⟨6, _⟩ => ⟨S6144x4096, .f32⟩
  | .hbm, ⟨7, _⟩ => ⟨S2, .i32⟩
  | .hbm, ⟨8, _⟩ => ⟨S1x4096x12288, .f32⟩
  | .hbm, ⟨9, _⟩ => ⟨S1x4096x12288, .bf16⟩
  | .hbm, ⟨10, _⟩ => ⟨S1x6144x4096, .f32⟩
  | .hbm, ⟨11, _⟩ => ⟨S1x6144x4096, .bf16⟩
  | .hbm, ⟨12, _⟩ => ⟨S1x6144, .f32⟩
  | .hbm, ⟨13, _⟩ => ⟨S16384x4096, .f32⟩
  | .hbm, ⟨14, _⟩ => ⟨S16384x4096, .bf16⟩
  | .hbm, ⟨15, _⟩ => ⟨S16x1024x4096, .bf16⟩
  | .hbm, ⟨16, _⟩ => ⟨S_, .i32⟩
  | .hbm, ⟨17, _⟩ => ⟨S2, .i32⟩
  | .hbm, ⟨18, _⟩ => ⟨S2, .i1⟩
  | .hbm, ⟨19, _⟩ => ⟨S_, .i32⟩
  | .hbm, ⟨20, _⟩ => ⟨S2, .i32⟩
  | .hbm, ⟨21, _⟩ => ⟨S2, .i32⟩
  | .hbm, ⟨22, _⟩ => ⟨S2, .i32⟩
  | .hbm, ⟨23, _⟩ => ⟨S2x1, .i32⟩
  | .hbm, ⟨24, _⟩ => ⟨S16x2x4096, .bf16⟩
  | .hbm, ⟨25, _⟩ => ⟨S32x4096, .bf16⟩
  | .hbm, ⟨26, _⟩ => ⟨S_, .i32⟩
  | .hbm, ⟨27, _⟩ => ⟨S_, .bf16⟩
  | .hbm, ⟨28, _⟩ => ⟨S32x4096, .bf16⟩
  | .hbm, ⟨29, _⟩ => ⟨S32x6144, .f32⟩
  | .hbm, ⟨30, _⟩ => ⟨S16x2x6144, .f32⟩
  | .hbm, ⟨31, _⟩ => ⟨S_, .f32⟩
  | .hbm, ⟨32, _⟩ => ⟨S1x6144, .f32⟩
  | .hbm, ⟨33, _⟩ => ⟨S15x1x6144, .f32⟩
  | .hbm, ⟨34, _⟩ => ⟨S15x6144, .f32⟩
  | .hbm, ⟨35, _⟩ => ⟨S16x6144, .f32⟩
  | .hbm, ⟨36, _⟩ => ⟨S15x1x6144, .f32⟩
  | .hbm, ⟨37, _⟩ => ⟨S15x6144, .f32⟩
  | .hbm, ⟨38, _⟩ => ⟨S16x6144, .f32⟩
  | .hbm, ⟨39, _⟩ => ⟨S16x1x6144, .f32⟩
  | .hbm, ⟨40, _⟩ => ⟨S16x1x6144, .f32⟩
  | .hbm, ⟨41, _⟩ => ⟨S16x2x6144, .f32⟩
  | .hbm, ⟨42, _⟩ => ⟨S16384x6144, .bf16⟩
  | .hbm, ⟨43, _⟩ => ⟨S16384x4096, .f32⟩
  | .hbm, ⟨44, _⟩ => ⟨S4096, .f32⟩
  | .hbm, ⟨45, _⟩ => ⟨S1x4096, .f32⟩
  | .hbm, ⟨46, _⟩ => ⟨S16384x4096, .f32⟩
  | .local _ .vmem, ⟨0, _⟩ => ⟨S32x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S32x1024, .f32⟩
  | .local _ .vmem, ⟨4, _⟩ => ⟨S32x1024, .f32⟩
  | .local _ .vmem, ⟨5, _⟩ => ⟨S1024x4096, .bf16⟩
  | .local _ .vmem, ⟨6, _⟩ => ⟨S1024x4096, .bf16⟩
  | .local _ .vmem, ⟨7, _⟩ => ⟨S1x4096x512, .bf16⟩
  | .local _ .vmem, ⟨8, _⟩ => ⟨S1x4096x512, .bf16⟩
  | .local _ .vmem, ⟨9, _⟩ => ⟨S1x4096x512, .bf16⟩
  | .local _ .vmem, ⟨10, _⟩ => ⟨S1x4096x512, .bf16⟩
  | .local _ .vmem, ⟨11, _⟩ => ⟨S1x2x512, .f32⟩
  | .local _ .vmem, ⟨12, _⟩ => ⟨S1x2x512, .f32⟩
  | .local _ .vmem, ⟨13, _⟩ => ⟨S3x512, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S1024x512, .bf16⟩
  | .local _ .vmem, ⟨18, _⟩ => ⟨S1024x512, .bf16⟩
  | .local _ .vmem, ⟨19, _⟩ => ⟨S1024x6144, .bf16⟩
  | .local _ .vmem, ⟨20, _⟩ => ⟨S1024x6144, .bf16⟩
  | .local _ .vmem, ⟨21, _⟩ => ⟨S1x6144x512, .bf16⟩
  | .local _ .vmem, ⟨22, _⟩ => ⟨S1x6144x512, .bf16⟩
  | .local _ .vmem, ⟨23, _⟩ => ⟨S1024x512, .f32⟩
  | .local _ .vmem, ⟨24, _⟩ => ⟨S1024x512, .f32⟩
  | .local _ .vmem, ⟨25, _⟩ => ⟨S1x512, .f32⟩
  | .local _ .vmem, ⟨26, _⟩ => ⟨S1x512, .f32⟩
  | .local _ .vmem, ⟨27, _⟩ => ⟨S1024x512, .f32⟩
  | .local _ .vmem, ⟨28, _⟩ => ⟨S1024x512, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc1_transform_2 (i : grid1.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![c0_i32.toNat, c0_i32_0.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x2x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S3x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![16, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x6144 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x6144x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceFfnIdeal.lean ====
abbrev S1x16384x4096 : Shape := ⟨3, ![1, 16384, 4096]⟩
abbrev S1x1x4096 : Shape := ⟨3, ![1, 1, 4096]⟩
abbrev S4096x12288 : Shape := ⟨2, ![4096, 12288]⟩
abbrev S3x6144 : Shape := ⟨2, ![3, 6144]⟩
abbrev S6144 : Shape := ⟨1, ![6144]⟩
abbrev S6144x4096 : Shape := ⟨2, ![6144, 4096]⟩
abbrev S1x16384x12288 : Shape := ⟨3, ![1, 16384, 12288]⟩
abbrev S1x16384x6144 : Shape := ⟨3, ![1, 16384, 6144]⟩
abbrev S_ : Shape := ⟨0, ![]⟩
abbrev S1x16386x6144 : Shape := ⟨3, ![1, 16386, 6144]⟩
abbrev S1x6144 : Shape := ⟨2, ![1, 6144]⟩
abbrev S1x1x6144 : Shape := ⟨3, ![1, 1, 6144]⟩
abbrev S16384x4096 : Shape := ⟨2, ![16384, 4096]⟩

abbrev nBuf : Space → Nat
  | .hbm => 54
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x1x4096, .f32⟩
  | .hbm, ⟨2, _⟩ => ⟨S1x16384x4096, .f32⟩
  | .hbm, ⟨3, _⟩ => ⟨S4096x12288, .f32⟩
  | .hbm, ⟨4, _⟩ => ⟨S3x6144, .f32⟩
  | .hbm, ⟨5, _⟩ => ⟨S6144, .f32⟩
  | .hbm, ⟨6, _⟩ => ⟨S6144x4096, .f32⟩
  | .hbm, ⟨7, _⟩ => ⟨S1x16384x12288, .f32⟩
  | .hbm, ⟨8, _⟩ => ⟨S1x16384x6144, .f32⟩
  | .hbm, ⟨9, _⟩ => ⟨S1x16384x6144, .f32⟩
  | .hbm, ⟨10, _⟩ => ⟨S_, .i32⟩
  | .hbm, ⟨11, _⟩ => ⟨S_, .f32⟩
  | .hbm, ⟨12, _⟩ => ⟨S1x16386x6144, .f32⟩
  | .hbm, ⟨13, _⟩ => ⟨S1x16384x6144, .f32⟩
  | .hbm, ⟨14, _⟩ => ⟨S1x6144, .f32⟩
  | .hbm, ⟨15, _⟩ => ⟨S6144, .f32⟩
  | .hbm, ⟨16, _⟩ => ⟨S1x1x6144, .f32⟩
  | .hbm, ⟨17, _⟩ => ⟨S1x16384x6144, .f32⟩
  | .hbm, ⟨18, _⟩ => ⟨S1x16384x6144, .f32⟩
  | .hbm, ⟨19, _⟩ => ⟨S_, .f32⟩
  | .hbm, ⟨20, _⟩ => ⟨S1x16384x6144, .f32⟩
  | .hbm, ⟨21, _⟩ => ⟨S1x16384x6144, .f32⟩
  | .hbm, ⟨22, _⟩ => ⟨S1x16384x6144, .f32⟩
  | .hbm, ⟨23, _⟩ => ⟨S1x6144, .f32⟩
  | .hbm, ⟨24, _⟩ => ⟨S6144, .f32⟩
  | .hbm, ⟨25, _⟩ => ⟨S1x1x6144, .f32⟩
  | .hbm, ⟨26, _⟩ => ⟨S1x16384x6144, .f32⟩
  | .hbm, ⟨27, _⟩ => ⟨S1x16384x6144, .f32⟩
  | .hbm, ⟨28, _⟩ => ⟨S1x16384x6144, .f32⟩
  | .hbm, ⟨29, _⟩ => ⟨S1x16384x6144, .f32⟩
  | .hbm, ⟨30, _⟩ => ⟨S1x6144, .f32⟩
  | .hbm, ⟨31, _⟩ => ⟨S6144, .f32⟩
  | .hbm, ⟨32, _⟩ => ⟨S1x1x6144, .f32⟩
  | .hbm, ⟨33, _⟩ => ⟨S1x16384x6144, .f32⟩
  | .hbm, ⟨34, _⟩ => ⟨S1x16384x6144, .f32⟩
  | .hbm, ⟨35, _⟩ => ⟨S1x16384x6144, .f32⟩
  | .hbm, ⟨36, _⟩ => ⟨S1x1x6144, .f32⟩
  | .hbm, ⟨37, _⟩ => ⟨S1x16384x6144, .f32⟩
  | .hbm, ⟨38, _⟩ => ⟨S1x16384x6144, .f32⟩
  | .hbm, ⟨39, _⟩ => ⟨S1x16384x6144, .f32⟩
  | .hbm, ⟨40, _⟩ => ⟨S1x16384x6144, .f32⟩
  | .hbm, ⟨41, _⟩ => ⟨S_, .f32⟩
  | .hbm, ⟨42, _⟩ => ⟨S1x16384x6144, .f32⟩
  | .hbm, ⟨43, _⟩ => ⟨S1x16384x6144, .f32⟩
  | .hbm, ⟨44, _⟩ => ⟨S_, .f32⟩
  | .hbm, ⟨45, _⟩ => ⟨S1x16384x6144, .f32⟩
  | .hbm, ⟨46, _⟩ => ⟨S1x16384x6144, .f32⟩
  | .hbm, ⟨47, _⟩ => ⟨S1x16384x6144, .f32⟩
  | .hbm, ⟨48, _⟩ => ⟨S1x16384x6144, .f32⟩
  | .hbm, ⟨49, _⟩ => ⟨S1x16384x4096, .f32⟩
  | .hbm, ⟨50, _⟩ => ⟨S1x16384x4096, .f32⟩
  | .hbm, ⟨51, _⟩ => ⟨S1x16384x4096, .f32⟩
  | .hbm, ⟨52, _⟩ => ⟨S1x16384x4096, .f32⟩
  | .hbm, ⟨53, _⟩ => ⟨S16384x4096, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== KernelNaQk.lean ====
abbrev S1x16384x4096 : Shape := ⟨3, ![1, 16384, 4096]⟩
abbrev S4096x16448 : Shape := ⟨2, ![4096, 16448]⟩
abbrev S128 : Shape := ⟨1, ![128]⟩
abbrev S16384x4096 : Shape := ⟨2, ![16384, 4096]⟩
abbrev S1x4096x16448 : Shape := ⟨3, ![1, 4096, 16448]⟩
abbrev S1x128 : Shape := ⟨2, ![1, 128]⟩
abbrev S16x128 : Shape := ⟨2, ![16, 128]⟩
abbrev S2048 : Shape := ⟨1, ![2048]⟩
abbrev S4096 : Shape := ⟨1, ![4096]⟩
abbrev S1x4096 : Shape := ⟨2, ![1, 4096]⟩
abbrev S1024x4096 : Shape := ⟨2, ![1024, 4096]⟩
abbrev S1x4096x1024 : Shape := ⟨3, ![1, 4096, 1024]⟩
abbrev S1x1024 : Shape := ⟨2, ![1, 1024]⟩
abbrev S1024x1024 : Shape := ⟨2, ![1024, 1024]⟩
abbrev S4096x1024 : Shape := ⟨2, ![4096, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S1x16384x4096, .f32⟩
  | .hbm, ⟨1, _⟩ => ⟨S4096x16448, .f32⟩
  | .hbm, ⟨2, _⟩ => ⟨S128, .f32⟩
  | .hbm, ⟨3, _⟩ => ⟨S128, .f32⟩
  | .hbm, ⟨4, _⟩ => ⟨S16384x4096, .f32⟩
  | .hbm, ⟨5, _⟩ => ⟨S16384x4096, .bf16⟩
  | .hbm, ⟨6, _⟩ => ⟨S1x4096x16448, .f32⟩
  | .hbm, ⟨7, _⟩ => ⟨S1x4096x16448, .bf16⟩
  | .hbm, ⟨8, _⟩ => ⟨S1x128, .f32⟩
  | .hbm, ⟨9, _⟩ => ⟨S16x128, .f32⟩
  | .hbm, ⟨10, _⟩ => ⟨S2048, .f32⟩
  | .hbm, ⟨11, _⟩ => ⟨S1x128, .f32⟩
  | .hbm, ⟨12, _⟩ => ⟨S16x128, .f32⟩
  | .hbm, ⟨13, _⟩ => ⟨S2048, .f32⟩
  | .hbm, ⟨14, _⟩ => ⟨S4096, .f32⟩
  | .hbm, ⟨15, _⟩ => ⟨S1x4096, .f32⟩
  | .hbm, ⟨16, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceNaQkIdeal.lean ====
abbrev S1x16384x4096 : Shape := ⟨3, ![1, 16384, 4096]⟩
abbrev S4096x16448 : Shape := ⟨2, ![4096, 16448]⟩
abbrev S128 : Shape := ⟨1, ![128]⟩
abbrev S1x16384x16448 : Shape := ⟨3, ![1, 16384, 16448]⟩
abbrev S1x16384x2048 : Shape := ⟨3, ![1, 16384, 2048]⟩
abbrev S1x16384x1536 : Shape := ⟨3, ![1, 16384, 1536]⟩
abbrev S1x16384x512 : Shape := ⟨3, ![1, 16384, 512]⟩
abbrev S1x16384x64 : Shape := ⟨3, ![1, 16384, 64]⟩
abbrev S1x16384x16x128 : Shape := ⟨4, ![1, 16384, 16, 128]⟩
abbrev S_ : Shape := ⟨0, ![]⟩
abbrev S1x16384x16 : Shape := ⟨3, ![1, 16384, 16]⟩
abbrev S1x16384x16x1 : Shape := ⟨4, ![1, 16384, 16, 1]⟩
abbrev S1x1x1x128 : Shape := ⟨4, ![1, 1, 1, 128]⟩
abbrev S16384x2048 : Shape := ⟨2, ![16384, 2048]⟩
abbrev S16384x4096 : Shape := ⟨2, ![16384, 4096]⟩

abbrev nBuf : Space → Nat
  | .hbm => 52
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S4096x16448, .f32⟩
  | .hbm, ⟨2, _⟩ => ⟨S128, .f32⟩
  | .hbm, ⟨3, _⟩ => ⟨S128, .f32⟩
  | .hbm, ⟨4, _⟩ => ⟨S1x16384x16448, .f32⟩
  | .hbm, ⟨5, _⟩ => ⟨S1x16384x2048, .f32⟩
  | .hbm, ⟨6, _⟩ => ⟨S1x16384x2048, .f32⟩
  | .hbm, ⟨7, _⟩ => ⟨S1x16384x2048, .f32⟩
  | .hbm, ⟨8, _⟩ => ⟨S1x16384x1536, .f32⟩
  | .hbm, ⟨9, _⟩ => ⟨S1x16384x512, .f32⟩
  | .hbm, ⟨10, _⟩ => ⟨S1x16384x64, .f32⟩
  | .hbm, ⟨11, _⟩ => ⟨S1x16384x4096, .f32⟩
  | .hbm, ⟨12, _⟩ => ⟨S1x16384x4096, .f32⟩
  | .hbm, ⟨13, _⟩ => ⟨S1x16384x16x128, .f32⟩
  | .hbm, ⟨14, _⟩ => ⟨S1x16384x16x128, .f32⟩
  | .hbm, ⟨15, _⟩ => ⟨S_, .f32⟩
  | .hbm, ⟨16, _⟩ => ⟨S1x16384x16, .f32⟩
  | .hbm, ⟨17, _⟩ => ⟨S1x16384x16x1, .f32⟩
  | .hbm, ⟨18, _⟩ => ⟨S_, .f32⟩
  | .hbm, ⟨19, _⟩ => ⟨S1x16384x16x1, .f32⟩
  | .hbm, ⟨20, _⟩ => ⟨S1x16384x16x1, .f32⟩
  | .hbm, ⟨21, _⟩ => ⟨S_, .f32⟩
  | .hbm, ⟨22, _⟩ => ⟨S1x16384x16x1, .f32⟩
  | .hbm, ⟨23, _⟩ => ⟨S1x16384x16x1, .f32⟩
  | .hbm, ⟨24, _⟩ => ⟨S1x16384x16x1, .f32⟩
  | .hbm, ⟨25, _⟩ => ⟨S1x16384x16x128, .f32⟩
  | .hbm, ⟨26, _⟩ => ⟨S1x16384x16x128, .f32⟩
  | .hbm, ⟨27, _⟩ => ⟨S1x1x1x128, .f32⟩
  | .hbm, ⟨28, _⟩ => ⟨S1x16384x16x128, .f32⟩
  | .hbm, ⟨29, _⟩ => ⟨S1x16384x16x128, .f32⟩
  | .hbm, ⟨30, _⟩ => ⟨S1x16384x16x128, .f32⟩
  | .hbm, ⟨31, _⟩ => ⟨S1x16384x16x128, .f32⟩
  | .hbm, ⟨32, _⟩ => ⟨S_, .f32⟩
  | .hbm, ⟨33, _⟩ => ⟨S1x16384x16, .f32⟩
  | .hbm, ⟨34, _⟩ => ⟨S1x16384x16x1, .f32⟩
  | .hbm, ⟨35, _⟩ => ⟨S_, .f32⟩
  | .hbm, ⟨36, _⟩ => ⟨S1x16384x16x1, .f32⟩
  | .hbm, ⟨37, _⟩ => ⟨S1x16384x16x1, .f32⟩
  | .hbm, ⟨38, _⟩ => ⟨S_, .f32⟩
  | .hbm, ⟨39, _⟩ => ⟨S1x16384x16x1, .f32⟩
  | .hbm, ⟨40, _⟩ => ⟨S1x16384x16x1, .f32⟩
  | .hbm, ⟨41, _⟩ => ⟨S1x16384x16x1, .f32⟩
  | .hbm, ⟨42, _⟩ => ⟨S1x16384x16x128, .f32⟩
  | .hbm, ⟨43, _⟩ => ⟨S1x16384x16x128, .f32⟩
  | .hbm, ⟨44, _⟩ => ⟨S1x1x1x128, .f32⟩
  | .hbm, ⟨45, _⟩ => ⟨S1x16384x16x128, .f32⟩
  | .hbm, ⟨46, _⟩ => ⟨S1x16384x16x128, .f32⟩
  | .hbm, ⟨47, _⟩ => ⟨S16384x2048, .f32⟩
  | .hbm, ⟨48, _⟩ => ⟨S16384x2048, .bf16⟩
  | .hbm, ⟨49, _⟩ => ⟨S16384x2048, .f32⟩
  | .hbm, ⟨50, _⟩ => ⟨S16384x2048, .bf16⟩
  | .hbm, ⟨51, _⟩ => ⟨S16384x4096, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== KernelNaV.lean ====
abbrev S1x16384x4096 : Shape := ⟨3, ![1, 16384, 4096]⟩
abbrev S4096x16448 : Shape := ⟨2, ![4096, 16448]⟩
abbrev S16384x4096 : Shape := ⟨2, ![16384, 4096]⟩
abbrev S1x4096x16448 : Shape := ⟨3, ![1, 4096, 16448]⟩
abbrev S16384x2048 : Shape := ⟨2, ![16384, 2048]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x16384x4096, .f32⟩
  | .hbm, ⟨1, _⟩ => ⟨S4096x16448, .f32⟩
  | .hbm, ⟨2, _⟩ => ⟨S16384x4096, .f32⟩
  | .hbm, ⟨3, _⟩ => ⟨S16384x4096, .bf16⟩
  | .hbm, ⟨4, _⟩ => ⟨S1x4096x16448, .f32⟩
  | .hbm, ⟨5, _⟩ => ⟨S1x4096x16448, .bf16⟩
  | .hbm, ⟨6, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceNaVIdeal.lean ====
abbrev S1x16384x4096 : Shape := ⟨3, ![1, 16384, 4096]⟩
abbrev S4096x16448 : Shape := ⟨2, ![4096, 16448]⟩
abbrev S1x16384x16448 : Shape := ⟨3, ![1, 16384, 16448]⟩
abbrev S1x16384x2048 : Shape := ⟨3, ![1, 16384, 2048]⟩
abbrev S1x16384x1536 : Shape := ⟨3, ![1, 16384, 1536]⟩
abbrev S1x16384x512 : Shape := ⟨3, ![1, 16384, 512]⟩
abbrev S1x16384x64 : Shape := ⟨3, ![1, 16384, 64]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S4096x16448, .f32⟩
  | .hbm, ⟨2, _⟩ => ⟨S1x16384x16448, .f32⟩
  | .hbm, ⟨3, _⟩ => ⟨S1x16384x2048, .f32⟩
  | .hbm, ⟨4, _⟩ => ⟨S1x16384x2048, .f32⟩
  | .hbm, ⟨5, _⟩ => ⟨S1x16384x2048, .f32⟩
  | .hbm, ⟨6, _⟩ => ⟨S1x16384x1536, .f32⟩
  | .hbm, ⟨7, _⟩ => ⟨S1x16384x512, .f32⟩
  | .hbm, ⟨8, _⟩ => ⟨S1x16384x64, .f32⟩
  | .hbm, ⟨9, _⟩ => ⟨S1x16384x4096, .f32⟩
  | .hbm, ⟨10, _⟩ => ⟨S1x16384x4096, .f32⟩
  | .hbm, ⟨11, _⟩ => ⟨S16384x2048, .f32⟩
  | .hbm, ⟨12, _⟩ => ⟨S16384x2048, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== KernelCq.lean ====
abbrev S1x16384x4096 : Shape := ⟨3, ![1, 16384, 4096]⟩
abbrev S4096x16448 : Shape := ⟨2, ![4096, 16448]⟩
abbrev S1536 : Shape := ⟨1, ![1536]⟩
abbrev S16384x4096 : Shape := ⟨2, ![16384, 4096]⟩
abbrev S1x4096x16448 : Shape := ⟨3, ![1, 4096, 16448]⟩
abbrev S1x1536 : Shape := ⟨2, ![1, 1536]⟩
abbrev S16384x1536 : Shape := ⟨2, ![16384, 1536]⟩
abbrev S512x4096 : Shape := ⟨2, ![512, 4096]⟩
abbrev S1x4096x1536 : Shape := ⟨3, ![1, 4096, 1536]⟩
abbrev S512x1536 : Shape := ⟨2, ![512, 1536]⟩
abbrev S4096x1536 : Shape := ⟨2, ![4096, 1536]⟩
abbrev S512 : Shape := ⟨1, ![512]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S1x16384x4096, .f32⟩
  | .hbm, ⟨1, _⟩ => ⟨S4096x16448, .f32⟩
  | .hbm, ⟨2, _⟩ => ⟨S1536, .f32⟩
  | .hbm, ⟨3, _⟩ => ⟨S16384x4096, .f32⟩
  | .hbm, ⟨4, _⟩ => ⟨S16384x4096, .bf16⟩
  | .hbm, ⟨5, _⟩ => ⟨S1x4096x16448, .f32⟩
  | .hbm, ⟨6, _⟩ => ⟨S1x4096x16448, .bf16⟩
  | .hbm, ⟨7, _⟩ => ⟨S1x1536, .f32⟩
  | .hbm, ⟨8, _⟩ => ⟨S16384x1536, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1536, .bf16⟩
  | .local _ .vmem, ⟨3, _⟩ => ⟨S1x1536, .f32⟩
  | .local _ .vmem, ⟨4, _⟩ => ⟨S512x1536, .bf16⟩
  | .local _ .vmem, ⟨5, _⟩ => ⟨S512x1536, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceCqIdeal.lean ====
abbrev S1x16384x4096 : Shape := ⟨3, ![1, 16384, 4096]⟩
abbrev S4096x16448 : Shape := ⟨2, ![4096, 16448]⟩
abbrev S1536 : Shape := ⟨1, ![1536]⟩
abbrev S1x16384x16448 : Shape := ⟨3, ![1, 16384, 16448]⟩
abbrev S1x16384x2048 : Shape := ⟨3, ![1, 16384, 2048]⟩
abbrev S1x16384x1536 : Shape := ⟨3, ![1, 16384, 1536]⟩
abbrev S1x16384x512 : Shape := ⟨3, ![1, 16384, 512]⟩
abbrev S1x16384x64 : Shape := ⟨3, ![1, 16384, 64]⟩
abbrev S_ : Shape := ⟨0, ![]⟩
abbrev S1x16384 : Shape := ⟨2, ![1, 16384]⟩
abbrev S1x16384x1 : Shape := ⟨3, ![1, 16384, 1]⟩
abbrev S1x1x1536 : Shape := ⟨3, ![1, 1, 1536]⟩
abbrev S16384x1536 : Shape := ⟨2, ![16384, 1536]⟩

abbrev nBuf : Space → Nat
  | .hbm => 30
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S4096x16448, .f32⟩
  | .hbm, ⟨2, _⟩ => ⟨S1536, .f32⟩
  | .hbm, ⟨3, _⟩ => ⟨S1x16384x16448, .f32⟩
  | .hbm, ⟨4, _⟩ => ⟨S1x16384x2048, .f32⟩
  | .hbm, ⟨5, _⟩ => ⟨S1x16384x2048, .f32⟩
  | .hbm, ⟨6, _⟩ => ⟨S1x16384x2048, .f32⟩
  | .hbm, ⟨7, _⟩ => ⟨S1x16384x1536, .f32⟩
  | .hbm, ⟨8, _⟩ => ⟨S1x16384x512, .f32⟩
  | .hbm, ⟨9, _⟩ => ⟨S1x16384x64, .f32⟩
  | .hbm, ⟨10, _⟩ => ⟨S1x16384x4096, .f32⟩
  | .hbm, ⟨11, _⟩ => ⟨S1x16384x4096, .f32⟩
  | .hbm, ⟨12, _⟩ => ⟨S1x16384x1536, .f32⟩
  | .hbm, ⟨13, _⟩ => ⟨S_, .f32⟩
  | .hbm, ⟨14, _⟩ => ⟨S1x16384, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S_, .f32⟩
  | .hbm, ⟨20, _⟩ => ⟨S1x16384x1, .f32⟩
  | .hbm, ⟨21, _⟩ => ⟨S1x16384x1, .f32⟩
  | .hbm, ⟨22, _⟩ => ⟨S1x16384x1, .f32⟩
  | .hbm, ⟨23, _⟩ => ⟨S1x16384x1536, .f32⟩
  | .hbm, ⟨24, _⟩ => ⟨S1x16384x1536, .f32⟩
  | .hbm, ⟨25, _⟩ => ⟨S1x1x1536, .f32⟩
  | .hbm, ⟨26, _⟩ => ⟨S1x16384x1536, .f32⟩
  | .hbm, ⟨27, _⟩ => ⟨S1x16384x1536, .f32⟩
  | .hbm, ⟨28, _⟩ => ⟨S16384x1536, .f32⟩
  | .hbm, ⟨29, _⟩ => ⟨S16384x1536, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== KernelNorm.lean ====
abbrev S1x16384x4096 : Shape := ⟨3, ![1, 16384, 4096]⟩
abbrev S4096 : Shape := ⟨1, ![4096]⟩
abbrev S1x1x4096 : Shape := ⟨3, ![1, 1, 4096]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 11
  | .vmem => 7
  | .smem => 0
  | _ => 0

abbrev bufTy : (tb : Table) → Fin (tcTables nBuf tb) → BufTy
  | .hbm, ⟨0, _⟩ => ⟨S1x16384x4096, .f32⟩
  | .hbm, ⟨1, _⟩ => ⟨S4096, .f32⟩
  | .hbm, ⟨2, _⟩ => ⟨S1x1x4096, .f32⟩
  | .hbm, ⟨3, _⟩ => ⟨S1x1x4096, .f32⟩
  | .hbm, ⟨4, _⟩ => ⟨S16384x4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S512x4096, .bf16⟩
  | .local _ .vmem, ⟨6, _⟩ => ⟨S512x4096, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormIdeal.lean ====
abbrev S1x16384x4096 : Shape := ⟨3, ![1, 16384, 4096]⟩
abbrev S4096 : Shape := ⟨1, ![4096]⟩
abbrev S1x1x4096 : Shape := ⟨3, ![1, 1, 4096]⟩
abbrev S_ : Shape := ⟨0, ![]⟩
abbrev S1x16384 : Shape := ⟨2, ![1, 16384]⟩
abbrev S1x16384x1 : Shape := ⟨3, ![1, 16384, 1]⟩
abbrev S16384x4096 : Shape := ⟨2, ![16384, 4096]⟩

abbrev nBuf : Space → Nat
  | .hbm => 29
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S4096, .f32⟩
  | .hbm, ⟨2, _⟩ => ⟨S1x1x4096, .f32⟩
  | .hbm, ⟨3, _⟩ => ⟨S1x1x4096, .f32⟩
  | .hbm, ⟨4, _⟩ => ⟨S1x16384x4096, .f32⟩
  | .hbm, ⟨5, _⟩ => ⟨S_, .f32⟩
  | .hbm, ⟨6, _⟩ => ⟨S1x16384, .f32⟩
  | .hbm, ⟨7, _⟩ => ⟨S1x16384x1, .f32⟩
  | .hbm, ⟨8, _⟩ => ⟨S_, .f32⟩
  | .hbm, ⟨9, _⟩ => ⟨S1x16384x1, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S1x16384x1, .f32⟩
  | .hbm, ⟨15, _⟩ => ⟨S1x16384x4096, .f32⟩
  | .hbm, ⟨16, _⟩ => ⟨S1x16384x4096, .f32⟩
  | .hbm, ⟨17, _⟩ => ⟨S1x1x4096, .f32⟩
  | .hbm, ⟨18, _⟩ => ⟨S1x16384x4096, .f32⟩
  | .hbm, ⟨19, _⟩ => ⟨S1x16384x4096, .f32⟩
  | .hbm, ⟨20, _⟩ => ⟨S_, .f32⟩
  | .hbm, ⟨21, _⟩ => ⟨S1x1x4096, .f32⟩
  | .hbm, ⟨22, _⟩ => ⟨S1x1x4096, .f32⟩
  | .hbm, ⟨23, _⟩ => ⟨S1x16384x4096, .f32⟩
  | .hbm, ⟨24, _⟩ => ⟨S1x16384x4096, .f32⟩
  | .hbm, ⟨25, _⟩ => ⟨S1x16384x4096, .f32⟩
  | .hbm, ⟨26, _⟩ => ⟨S1x16384x4096, .f32⟩
  | .hbm, ⟨27, _⟩ => ⟨S16384x4096, .f32⟩
  | .hbm, ⟨28, _⟩ => ⟨S16384x4096, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KernelCkv.lean ====
abbrev S1x16384x4096 : Shape := ⟨3, ![1, 16384, 4096]⟩
abbrev S4096x16448 : Shape := ⟨2, ![4096, 16448]⟩
abbrev S512 : Shape := ⟨1, ![512]⟩
abbrev S64 : Shape := ⟨1, ![64]⟩
abbrev S16384x4096 : Shape := ⟨2, ![16384, 4096]⟩
abbrev S1x4096x16448 : Shape := ⟨3, ![1, 4096, 16448]⟩
abbrev S1x4096x64 : Shape := ⟨3, ![1, 4096, 64]⟩
abbrev S1x4096x512 : Shape := ⟨3, ![1, 4096, 512]⟩
abbrev S_ : Shape := ⟨0, ![]⟩
abbrev S1x4096x128 : Shape := ⟨3, ![1, 4096, 128]⟩
abbrev S64x1 : Shape := ⟨2, ![64, 1]⟩
abbrev S1x4096x768 : Shape := ⟨3, ![1, 4096, 768]⟩
abbrev S1x512 : Shape := ⟨2, ![1, 512]⟩
abbrev S16384x512 : Shape := ⟨2, ![16384, 512]⟩
abbrev S16384x256 : Shape := ⟨2, ![16384, 256]⟩
abbrev S512x4096 : Shape := ⟨2, ![512, 4096]⟩
abbrev S512x512 : Shape := ⟨2, ![512, 512]⟩
abbrev S512x256 : Shape := ⟨2, ![512, 256]⟩
abbrev S4096x768 : Shape := ⟨2, ![4096, 768]⟩
abbrev S512x768 : Shape := ⟨2, ![512, 768]⟩
abbrev S512x1 : Shape := ⟨2, ![512, 1]⟩

abbrev nBuf : Space → Nat
  | .hbm => 27
  | .vmem => 8
  | .smem => 0
  | _ => 0

abbrev bufTy : (tb : Table) → Fin (tcTables nBuf tb) → BufTy
  | .hbm, ⟨0, _⟩ => ⟨S1x16384x4096, .f32⟩
  | .hbm, ⟨1, _⟩ => ⟨S4096x16448, .f32⟩
  | .hbm, ⟨2, _⟩ => ⟨S512, .f32⟩
  | .hbm, ⟨3, _⟩ => ⟨S64, .i32⟩
  | .hbm, ⟨4, _⟩ => ⟨S64, .i1⟩
  | .hbm, ⟨5, _⟩ => ⟨S16384x4096, .f32⟩
  | .hbm, ⟨6, _⟩ => ⟨S16384x4096, .bf16⟩
  | .hbm, ⟨7, _⟩ => ⟨S1x4096x16448, .f32⟩
  | .hbm, ⟨8, _⟩ => ⟨S1x4096x16448, .bf16⟩
  | .hbm, ⟨9, _⟩ => ⟨S1x4096x64, .bf16⟩
  | .hbm, ⟨10, _⟩ => ⟨S1x4096x512, .bf16⟩
  | .hbm, ⟨11, _⟩ => ⟨S_, .i32⟩
  | .hbm, ⟨12, _⟩ => ⟨S_, .bf16⟩
  | .hbm, ⟨13, _⟩ => ⟨S1x4096x128, .bf16⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S64x1, .i32⟩
  | .hbm, ⟨19, _⟩ => ⟨S1x4096x64, .bf16⟩
  | .hbm, ⟨20, _⟩ => ⟨S_, .i32⟩
  | .hbm, ⟨21, _⟩ => ⟨S_, .bf16⟩
  | .hbm, ⟨22, _⟩ => ⟨S1x4096x128, .bf16⟩
  | .hbm, ⟨23, _⟩ => ⟨S1x4096x768, .bf16⟩
  | .hbm, ⟨24, _⟩ => ⟨S1x512, .f32⟩
  | .hbm, ⟨25, _⟩ => ⟨S16384x512, .bf16⟩
  | .hbm, ⟨26, _⟩ => ⟨S16384x256, .f32⟩
  | .local _ .vmem, ⟨0, _⟩ => ⟨S512x4096, .bf16⟩
  | .local _ .vmem, ⟨1, _⟩ => ⟨S512x4096, .bf16⟩
  | .local _ .vmem, ⟨2, _⟩ => ⟨S1x4096x768, .bf16⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_call0_v0 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceCkvIdeal.lean ====
abbrev S1x16384x4096 : Shape := ⟨3, ![1, 16384, 4096]⟩
abbrev S4096x16448 : Shape := ⟨2, ![4096, 16448]⟩
abbrev S512 : Shape := ⟨1, ![512]⟩
abbrev S1x16384x16448 : Shape := ⟨3, ![1, 16384, 16448]⟩
abbrev S1x16384x2048 : Shape := ⟨3, ![1, 16384, 2048]⟩
abbrev S1x16384x1536 : Shape := ⟨3, ![1, 16384, 1536]⟩
abbrev S1x16384x512 : Shape := ⟨3, ![1, 16384, 512]⟩
abbrev S1x16384x64 : Shape := ⟨3, ![1, 16384, 64]⟩
abbrev S16384x64 : Shape := ⟨2, ![16384, 64]⟩
abbrev S16384x16 : Shape := ⟨2, ![16384, 16]⟩
abbrev S_ : Shape := ⟨0, ![]⟩
abbrev S1x16384 : Shape := ⟨2, ![1, 16384]⟩
abbrev S1x16384x1 : Shape := ⟨3, ![1, 16384, 1]⟩
abbrev S1x1x512 : Shape := ⟨3, ![1, 1, 512]⟩
abbrev S16384x512 : Shape := ⟨2, ![16384, 512]⟩
abbrev S16384x128 : Shape := ⟨2, ![16384, 128]⟩
abbrev S16384x256 : Shape := ⟨2, ![16384, 256]⟩

abbrev nBuf : Space → Nat
  | .hbm => 44
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S4096x16448, .f32⟩
  | .hbm, ⟨2, _⟩ => ⟨S512, .f32⟩
  | .hbm, ⟨3, _⟩ => ⟨S1x16384x16448, .f32⟩
  | .hbm, ⟨4, _⟩ => ⟨S1x16384x2048, .f32⟩
  | .hbm, ⟨5, _⟩ => ⟨S1x16384x2048, .f32⟩
  | .hbm, ⟨6, _⟩ => ⟨S1x16384x2048, .f32⟩
  | .hbm, ⟨7, _⟩ => ⟨S1x16384x1536, .f32⟩
  | .hbm, ⟨8, _⟩ => ⟨S1x16384x512, .f32⟩
  | .hbm, ⟨9, _⟩ => ⟨S1x16384x64, .f32⟩
  | .hbm, ⟨10, _⟩ => ⟨S1x16384x4096, .f32⟩
  | .hbm, ⟨11, _⟩ => ⟨S1x16384x4096, .f32⟩
  | .hbm, ⟨12, _⟩ => ⟨S16384x64, .f32⟩
  | .hbm, ⟨13, _⟩ => ⟨S16384x16, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S16384x64, .f32⟩
  | .hbm, ⟨18, _⟩ => ⟨S1x16384x512, .f32⟩
  | .hbm, ⟨19, _⟩ => ⟨S_, .f32⟩
  | .hbm, ⟨20, _⟩ => ⟨S1x16384, .f32⟩
  | .hbm, ⟨21, _⟩ => ⟨S1x16384x1, .f32⟩
  | .hbm, ⟨22, _⟩ => ⟨S_, .f32⟩
  | .hbm, ⟨23, _⟩ => ⟨S1x16384x1, .f32⟩
  | .hbm, ⟨24, _⟩ => ⟨S1x16384x1, .f32⟩
  | .hbm, ⟨25, _⟩ => ⟨S_, .f32⟩
  | .hbm, ⟨26, _⟩ => ⟨S1x16384x1, .f32⟩
  | .hbm, ⟨27, _⟩ => ⟨S1x16384x1, .f32⟩
  | .hbm, ⟨28, _⟩ => ⟨S1x16384x1, .f32⟩
  | .hbm, ⟨29, _⟩ => ⟨S1x16384x512, .f32⟩
  | .hbm, ⟨30, _⟩ => ⟨S1x16384x512, .f32⟩
  | .hbm, ⟨31, _⟩ => ⟨S1x1x512, .f32⟩
  | .hbm, ⟨32, _⟩ => ⟨S1x16384x512, .f32⟩
  | .hbm, ⟨33, _⟩ => ⟨S1x16384x512, .f32⟩
  | .hbm, ⟨34, _⟩ => ⟨S16384x512, .f32⟩
  | .hbm, ⟨35, _⟩ => ⟨S16384x512, .bf16⟩
  | .hbm, ⟨36, _⟩ => ⟨S16384x64, .f32⟩
  | .hbm, ⟨37, _⟩ => ⟨S_, .i32⟩
  | .hbm, ⟨38, _⟩ => ⟨S_, .f32⟩
  | .hbm, ⟨39, _⟩ => ⟨S16384x128, .f32⟩
  | .hbm, ⟨40, _⟩ => ⟨S_, .i32⟩
  | .hbm, ⟨41, _⟩ => ⟨S_, .f32⟩
  | .hbm, ⟨42, _⟩ => ⟨S16384x128, .f32⟩
  | .hbm, ⟨43, _⟩ => ⟨S16384x256, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_call0_v0 : Ref sig .tc := ⟨.hbm, 38, rfl⟩
abbrev main_v31 : Ref sig .tc := ⟨.hbm, 39, rfl⟩
abbrev main_c_2 : Ref sig .tc := ⟨.hbm, 40, rfl⟩
abbrev main_call1_v0 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== KernelQUp.lean ====
abbrev S1x16384x1536 : Shape := ⟨3, ![1, 16384, 1536]⟩
abbrev S1536x3072 : Shape := ⟨2, ![1536, 3072]⟩
abbrev S192 : Shape := ⟨1, ![192]⟩
abbrev S64 : Shape := ⟨1, ![64]⟩
abbrev S16384x1536 : Shape := ⟨2, ![16384, 1536]⟩
abbrev S1x1536x3072 : Shape := ⟨3, ![1, 1536, 3072]⟩
abbrev S1x1536x16x192 : Shape := ⟨4, ![1, 1536, 16, 192]⟩
abbrev S1x1536x16x64 : Shape := ⟨4, ![1, 1536, 16, 64]⟩
abbrev S1x1536x16x128 : Shape := ⟨4, ![1, 1536, 16, 128]⟩
abbrev S_ : Shape := ⟨0, ![]⟩
abbrev S64x1 : Shape := ⟨2, ![64, 1]⟩
abbrev S1x1536x16x384 : Shape := ⟨4, ![1, 1536, 16, 384]⟩
abbrev S1x1536x6144 : Shape := ⟨3, ![1, 1536, 6144]⟩
abbrev S128 : Shape := ⟨1, ![128]⟩
abbrev S1x128 : Shape := ⟨2, ![1, 128]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x128 : Shape := ⟨2, ![16384, 128]⟩
abbrev S16x16384x256 : Shape := ⟨3, ![16, 16384, 256]⟩
abbrev S1024x1536 : Shape := ⟨2, ![1024, 1536]⟩
abbrev S1x1536x1536 : Shape := ⟨3, ![1, 1536, 1536]⟩
abbrev S1024x128 : Shape := ⟨2, ![1024, 128]⟩
abbrev S4x1024x256 : Shape := ⟨3, ![4, 1024, 256]⟩
abbrev S1536x1536 : Shape := ⟨2, ![1536, 1536]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 130
  | .vmem => 13
  | .smem => 0
  | _ => 0

abbrev hbmTy0_0 (i : Nat) : BufTy := match i % 128 with
  | 0 => ⟨S1x16384x1536, .f32⟩
  | 1 => ⟨S1536x3072, .f32⟩
  | 2 => ⟨S192, .f32⟩
  | 3 => ⟨S64, .i32⟩
  | 4 => ⟨S64, .i1⟩
  | 5 => ⟨S64, .i1⟩
  | 6 => ⟨S16384x1536, .f32⟩
  | 7 => ⟨S16384x1536, .bf16⟩
  | 8 => ⟨S1x1536x3072, .f32⟩
  | 9 => ⟨S1x1536x16x192, .f32⟩
  | 10 => ⟨S1x1536x16x64, .f32⟩
  | 11 => ⟨S1x1536x16x128, .f32⟩
  | 12 => ⟨S_, .i32⟩
  | 13 => ⟨S_, .f32⟩
  | 14 => ⟨S1x1536x16x128, .f32⟩
  | 15 => ⟨S_, .i32⟩
  | 16 => ⟨S64, .i32⟩
  | 17 => ⟨S64, .i32⟩
  | 18 => ⟨S64, .i32⟩
  | 19 => ⟨S64x1, .i32⟩
  | 20 => ⟨S1x1536x16x64, .f32⟩
  | 21 => ⟨S_, .i32⟩
  | 22 => ⟨S_, .f32⟩
  | 23 => ⟨S1x1536x16x128, .f32⟩
  | 24 => ⟨S1x1536x16x384, .f32⟩
  | 25 => ⟨S1x1536x6144, .f32⟩
  | 26 => ⟨S1x1536x6144, .bf16⟩
  | 27 => ⟨S64, .f32⟩
  | 28 => ⟨S128, .f32⟩
  | 29 => ⟨S1x128, .f32⟩
  | 30 => ⟨S_, .i32⟩
  | 31 => ⟨S_, .f32⟩
  | 32 => ⟨S128, .f32⟩
  | 33 => ⟨S1x128, .f32⟩
  | 34 => ⟨S_, .i32⟩
  | 35 => ⟨S64, .i32⟩
  | 36 => ⟨S64, .i32⟩
  | 37 => ⟨S64, .i32⟩
  | 38 => ⟨S64x1, .i32⟩
  | 39 => ⟨S64, .f32⟩
  | 40 => ⟨S_, .i32⟩
  | 41 => ⟨S_, .f32⟩
  | 42 => ⟨S128, .f32⟩
  | 43 => ⟨S1x128, .f32⟩
  | 44 => ⟨S16384, .i32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S_, .i32⟩
  | 60 => ⟨S_, .i32⟩
  | 61 => ⟨S16384, .i32⟩
  | 62 => ⟨S16384, .i32⟩
  | 63 => ⟨S16384, .i32⟩
  | 64 => ⟨S_, .i32⟩
  | 65 => ⟨S16384, .i32⟩
  | 66 => ⟨S16384, .i1⟩
  | 67 => ⟨S16384, .i32⟩
  | 68 => ⟨S16384, .i32⟩
  | 69 => ⟨S_, .i32⟩
  | 70 => ⟨S16384, .i32⟩
  | 71 => ⟨S16384, .i1⟩
  | 72 => ⟨S16384, .i1⟩
  | 73 => ⟨S_, .i32⟩
  | 74 => ⟨S16384, .i32⟩
  | 75 => ⟨S16384, .i32⟩
  | 76 => ⟨S16384, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S16384, .i32⟩
  | 84 => ⟨S16384, .i32⟩
  | 85 => ⟨S_, .i32⟩
  | 86 => ⟨S16384, .i32⟩
  | 87 => ⟨S16384, .i1⟩
  | 88 => ⟨S_, .i32⟩
  | 89 => ⟨S16384, .i32⟩
  | 90 => ⟨S16384, .i1⟩
  | 91 => ⟨S_, .i32⟩
  | 92 => ⟨S_, .i1⟩
  | 93 => ⟨S16384, .i1⟩
  | 94 => ⟨S16384, .i1⟩
  | 95 => ⟨S16384, .i1⟩
  | 96 => ⟨S16384, .i32⟩
  | 97 => ⟨S16384, .i32⟩
  | 98 => ⟨S16384, .i32⟩
  | 99 => ⟨S16384, .f32⟩
  | 100 => ⟨S16384x1, .f32⟩
  | 101 => ⟨S1x16, .f32⟩
  | 102 => ⟨S16384x16, .f32⟩
  | 103 => ⟨S16384x16, .f32⟩
  | 104 => ⟨S16384x16, .f32⟩
  | 105 => ⟨S16384x16, .f32⟩
  | 106 => ⟨S16384x16, .f32⟩
  | 107 => ⟨S16384x16, .f32⟩
  | 108 => ⟨S16384x16, .f32⟩
  | 109 => ⟨S16384x16, .f32⟩
  | 110 => ⟨S16384, .f32⟩
  | 111 => ⟨S16384x1, .f32⟩
  | 112 => ⟨S1x16, .f32⟩
  | 113 => ⟨S16384x16, .f32⟩
  | 114 => ⟨S16384x16, .f32⟩
  | 115 => ⟨S16384x16, .f32⟩
  | 116 => ⟨S16384x16, .f32⟩
  | 117 => ⟨S16384x16, .f32⟩
  | 118 => ⟨S16384x16, .f32⟩
  | 119 => ⟨S16384x16, .f32⟩
  | 120 => ⟨S16384x16, .f32⟩
  | 121 => ⟨S16384x64, .f32⟩
  | 122 => ⟨S_, .i32⟩
  | 123 => ⟨S_, .f32⟩
  | 124 => ⟨S16384x128, .f32⟩
  | 125 => ⟨S16384x64, .f32⟩
  | 126 => ⟨S_, .i32⟩
  | 127 => ⟨S_, .f32⟩
  | _ => ⟨S1x16384x1536, .f32⟩

abbrev hbmTy0_1 (i : Nat) : BufTy := match i % 128 with
  | 0 => ⟨S16384x128, .f32⟩
  | 1 => ⟨S16x16384x256, .bf16⟩
  | _ => ⟨S1x16384x1536, .f32⟩

abbrev hbmTy (i : Nat) : BufTy := match i / 128 with
  | 0 => hbmTy0_0 i
  | 1 => hbmTy0_1 i
  | _ => ⟨S1x16384x1536, .f32⟩

abbrev bufTy : (tb : Table) → Fin (tcTables nBuf tb) → BufTy
  | .hbm, ⟨i, _⟩ => hbmTy i
  | .local _ .vmem, ⟨0, _⟩ => ⟨S1024x1536, .bf16⟩
  | .local _ .vmem, ⟨1, _⟩ => ⟨S1024x1536, .bf16⟩
  | .local _ .vmem, ⟨2, _⟩ => ⟨S1x1536x1536, .bf16⟩
  | .local _ .vmem, ⟨3, _⟩ => ⟨S1x1536x1536, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S4x1024x256, .bf16⟩
  | .local _ .vmem, ⟨12, _⟩ => ⟨S4x1024x256, .bf16⟩
  | _, _ => ⟨S1x16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_call0_v0 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_call2_v0 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_call3_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_c_11 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_v6 : Ref sig .tc := ⟨.hbm, 66, rfl⟩
abbrev main_call4_v7 : Ref sig .tc := ⟨.hbm, 67, rfl⟩
abbrev main_call4_v8 : Ref sig .tc := ⟨.hbm, 68, rfl⟩
abbrev main_call4_c : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_c_0 : Ref sig .tc := ⟨.hbm, 73, rfl⟩
abbrev main_call4_v12 : Ref sig .tc := ⟨.hbm, 74, rfl⟩
abbrev main_call4_v13 : Ref sig .tc := ⟨.hbm, 75, rfl⟩
abbrev main_v39 : Ref sig .tc := ⟨.hbm, 76, rfl⟩
abbrev main_c_12 : Ref sig .tc := ⟨.hbm, 77, rfl⟩
abbrev main_call5_v0 : Ref sig .tc := ⟨.hbm, 78, rfl⟩
abbrev main_call5_c : Ref sig .tc := ⟨.hbm, 79, rfl⟩
abbrev main_call5_v1 : Ref sig .tc := ⟨.hbm, 80, rfl⟩
abbrev main_call5_c_0 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_call5_c_1 : Ref sig .tc := ⟨.hbm, 85, rfl⟩
abbrev main_call5_v5 : Ref sig .tc := ⟨.hbm, 86, rfl⟩
abbrev main_call5_v6 : Ref sig .tc := ⟨.hbm, 87, rfl⟩
abbrev main_call5_c_2 : Ref sig .tc := ⟨.hbm, 88, rfl⟩
abbrev main_call5_v7 : Ref sig .tc := ⟨.hbm, 89, rfl⟩
abbrev main_call5_v8 : Ref sig .tc := ⟨.hbm, 90, rfl⟩
abbrev main_call5_c_3 : Ref sig .tc := ⟨.hbm, 91, rfl⟩
abbrev main_call5_v9 : Ref sig .tc := ⟨.hbm, 92, rfl⟩
abbrev main_call5_v10 : Ref sig .tc := ⟨.hbm, 93, rfl⟩
abbrev main_call5_v11 : Ref sig .tc := ⟨.hbm, 94, rfl⟩
abbrev main_call5_v12 : Ref sig .tc := ⟨.hbm, 95, rfl⟩
abbrev main_call5_v13 : Ref sig .tc := ⟨.hbm, 96, rfl⟩
abbrev main_call5_v14 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_c_13 : Ref sig .tc := ⟨.hbm, 122, rfl⟩
abbrev main_call6_v0 : Ref sig .tc := ⟨.hbm, 123, rfl⟩
abbrev main_v64 : Ref sig .tc := ⟨.hbm, 124, rfl⟩
abbrev main_v65 : Ref sig .tc := ⟨.hbm, 125, rfl⟩
abbrev main_c_14 : Ref sig .tc := ⟨.hbm, 126, rfl⟩
abbrev main_call7_v0 : Ref sig .tc := ⟨.hbm, 127, rfl⟩
abbrev main_v66 : Ref sig .tc := ⟨.hbm, 128, rfl⟩
abbrev main_v67 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1536x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelQUpIdeal.lean ====
variable {F : FTy → Type} [FloatOps F] [Named F]
def κ : String → Option EReal := fun
  | "inv_qk" => some ((1 / 192 : ℝ) : EReal)
  | _ => none
-- ==== ReferenceQUpIdeal.lean ====
abbrev S1x16384x1536 : Shape := ⟨3, ![1, 16384, 1536]⟩
abbrev S1536x3072 : Shape := ⟨2, ![1536, 3072]⟩
abbrev S192 : Shape := ⟨1, ![192]⟩
abbrev S16384 : Shape := ⟨1, ![16384]⟩
abbrev S1x16384x3072 : Shape := ⟨3, ![1, 16384, 3072]⟩
abbrev S1x16384x16x192 : Shape := ⟨4, ![1, 16384, 16, 192]⟩
abbrev S_ : Shape := ⟨0, ![]⟩
abbrev S1x16384x16 : Shape := ⟨3, ![1, 16384, 16]⟩
abbrev S1x16384x16x1 : Shape := ⟨4, ![1, 16384, 16, 1]⟩
abbrev S1x1x1x192 : Shape := ⟨4, ![1, 1, 1, 192]⟩
abbrev S1x16384x16x128 : Shape := ⟨4, ![1, 16384, 16, 128]⟩
abbrev S1x16384x16x64 : Shape := ⟨4, ![1, 16384, 16, 64]⟩
abbrev S1x16384x16x32 : Shape := ⟨4, ![1, 16384, 16, 32]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S1x16384x16x16 : Shape := ⟨4, ![1, 16384, 16, 16]⟩
abbrev S1x16384x1x16 : Shape := ⟨4, ![1, 16384, 1, 16]⟩
abbrev S16384x16x192 : Shape := ⟨3, ![16384, 16, 192]⟩
abbrev S16384x16x256 : Shape := ⟨3, ![16384, 16, 256]⟩
abbrev S16x16384x256 : Shape := ⟨3, ![16, 16384, 256]⟩

abbrev nBuf : Space → Nat
  | .hbm => 158
  | .vmem => 0
  | .smem => 0
  | _ => 0

abbrev hbmTy0_0 (i : Nat) : BufTy := match i % 128 with
  | 0 => ⟨S1x16384x1536, .f32⟩
  | 1 => ⟨S1536x3072, .f32⟩
  | 2 => ⟨S192, .f32⟩
  | 3 => ⟨S16384, .i32⟩
  | 4 => ⟨S1x16384x3072, .f32⟩
  | 5 => ⟨S1x16384x16x192, .f32⟩
  | 6 => ⟨S1x16384x16x192, .f32⟩
  | 7 => ⟨S_, .f32⟩
  | 8 => ⟨S1x16384x16, .f32⟩
  | 9 => ⟨S1x16384x16x1, .f32⟩
  | 10 => ⟨S_, .f32⟩
  | 11 => ⟨S1x16384x16x1, .f32⟩
  | 12 => ⟨S1x16384x16x1, .f32⟩
  | 13 => ⟨S_, .f32⟩
  | 14 => ⟨S1x16384x16x1, .f32⟩
  | 15 => ⟨S1x16384x16x1, .f32⟩
  | 16 => ⟨S1x16384x16x1, .f32⟩
  | 17 => ⟨S1x16384x16x192, .f32⟩
  | 18 => ⟨S1x16384x16x192, .f32⟩
  | 19 => ⟨S1x1x1x192, .f32⟩
  | 20 => ⟨S1x16384x16x192, .f32⟩
  | 21 => ⟨S1x16384x16x192, .f32⟩
  | 22 => ⟨S_, .i32⟩
  | 23 => ⟨S_, .i32⟩
  | 24 => ⟨S16384, .i32⟩
  | 25 => ⟨S16384, .i32⟩
  | 26 => ⟨S16384, .i32⟩
  | 27 => ⟨S_, .i32⟩
  | 28 => ⟨S16384, .i32⟩
  | 29 => ⟨S16384, .i1⟩
  | 30 => ⟨S16384, .i32⟩
  | 31 => ⟨S16384, .i32⟩
  | 32 => ⟨S_, .i32⟩
  | 33 => ⟨S16384, .i32⟩
  | 34 => ⟨S16384, .i1⟩
  | 35 => ⟨S16384, .i1⟩
  | 36 => ⟨S_, .i32⟩
  | 37 => ⟨S16384, .i32⟩
  | 38 => ⟨S16384, .i32⟩
  | 39 => ⟨S16384, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S16384, .i32⟩
  | 47 => ⟨S16384, .i32⟩
  | 48 => ⟨S_, .i32⟩
  | 49 => ⟨S16384, .i32⟩
  | 50 => ⟨S16384, .i1⟩
  | 51 => ⟨S_, .i32⟩
  | 52 => ⟨S16384, .i32⟩
  | 53 => ⟨S16384, .i1⟩
  | 54 => ⟨S_, .i32⟩
  | 55 => ⟨S_, .i1⟩
  | 56 => ⟨S16384, .i1⟩
  | 57 => ⟨S16384, .i1⟩
  | 58 => ⟨S16384, .i1⟩
  | 59 => ⟨S16384, .i32⟩
  | 60 => ⟨S16384, .i32⟩
  | 61 => ⟨S16384, .i32⟩
  | 62 => ⟨S1x16384x16x128, .f32⟩
  | 63 => ⟨S1x16384x16x64, .f32⟩
  | 64 => ⟨S1x16384x16x32, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S16384, .f32⟩
  | 80 => ⟨S16384x1, .f32⟩
  | 81 => ⟨S1x16, .f32⟩
  | 82 => ⟨S16384x16, .f32⟩
  | 83 => ⟨S16384x16, .f32⟩
  | 84 => ⟨S16384x16, .f32⟩
  | 85 => ⟨S16384x16, .f32⟩
  | 86 => ⟨S16384x1x16, .f32⟩
  | 87 => ⟨S16384x16, .f32⟩
  | 88 => ⟨S16384x1x16, .f32⟩
  | 89 => ⟨S1x16384x16x16, .f32⟩
  | 90 => ⟨S1x16384x16x16, .f32⟩
  | 91 => ⟨S1x16384x1x16, .f32⟩
  | 92 => ⟨S1x16384x16x16, .f32⟩
  | 93 => ⟨S1x16384x16x16, .f32⟩
  | 94 => ⟨S1x16384x1x16, .f32⟩
  | 95 => ⟨S1x16384x16x16, .f32⟩
  | 96 => ⟨S1x16384x16x16, .f32⟩
  | 97 => ⟨S1x16384x16x16, .f32⟩
  | 98 => ⟨S1x16384x1x16, .f32⟩
  | 99 => ⟨S1x16384x16x16, .f32⟩
  | 100 => ⟨S1x16384x16x16, .f32⟩
  | 101 => ⟨S1x16384x1x16, .f32⟩
  | 102 => ⟨S1x16384x16x16, .f32⟩
  | 103 => ⟨S1x16384x16x16, .f32⟩
  | 104 => ⟨S1x16384x16x16, .f32⟩
  | 105 => ⟨S1x16384x16x32, .f32⟩
  | 106 => ⟨S1x16384x16x32, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S16384, .f32⟩
  | 122 => ⟨S16384x1, .f32⟩
  | 123 => ⟨S1x16, .f32⟩
  | 124 => ⟨S16384x16, .f32⟩
  | 125 => ⟨S16384x16, .f32⟩
  | 126 => ⟨S16384x16, .f32⟩
  | 127 => ⟨S16384x16, .f32⟩
  | _ => ⟨S1x16384x1536, .f32⟩

abbrev hbmTy0_1 (i : Nat) : BufTy := match i % 128 with
  | 0 => ⟨S16384x1x16, .f32⟩
  | 1 => ⟨S16384x16, .f32⟩
  | 2 => ⟨S16384x1x16, .f32⟩
  | 3 => ⟨S1x16384x16x16, .f32⟩
  | 4 => ⟨S1x16384x16x16, .f32⟩
  | 5 => ⟨S1x16384x1x16, .f32⟩
  | 6 => ⟨S1x16384x16x16, .f32⟩
  | 7 => ⟨S1x16384x16x16, .f32⟩
  | 8 => ⟨S1x16384x1x16, .f32⟩
  | 9 => ⟨S1x16384x16x16, .f32⟩
  | 10 => ⟨S1x16384x16x16, .f32⟩
  | 11 => ⟨S1x16384x16x16, .f32⟩
  | 12 => ⟨S1x16384x1x16, .f32⟩
  | 13 => ⟨S1x16384x16x16, .f32⟩
  | 14 => ⟨S1x16384x16x16, .f32⟩
  | 15 => ⟨S1x16384x1x16, .f32⟩
  | 16 => ⟨S1x16384x16x16, .f32⟩
  | 17 => ⟨S1x16384x16x16, .f32⟩
  | 18 => ⟨S1x16384x16x16, .f32⟩
  | 19 => ⟨S1x16384x16x32, .f32⟩
  | 20 => ⟨S1x16384x16x192, .f32⟩
  | 21 => ⟨S_, .f32⟩
  | 22 => ⟨S1x16384x16x192, .f32⟩
  | 23 => ⟨S1x16384x16x192, .f32⟩
  | 24 => ⟨S16384x16x192, .f32⟩
  | 25 => ⟨S_, .i32⟩
  | 26 => ⟨S_, .f32⟩
  | 27 => ⟨S16384x16x256, .f32⟩
  | 28 => ⟨S16x16384x256, .f32⟩
  | 29 => ⟨S16x16384x256, .bf16⟩
  | _ => ⟨S1x16384x1536, .f32⟩

abbrev hbmTy (i : Nat) : BufTy := match i / 128 with
  | 0 => hbmTy0_0 i
  | 1 => hbmTy0_1 i
  | _ => ⟨S1x16384x1536, .f32⟩

abbrev bufTy : (tb : Table) → Fin (tcTables nBuf tb) → BufTy
  | .hbm, ⟨i, _⟩ => hbmTy i
  | _, _ => ⟨S1x16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v16 : Ref sig .tc := ⟨.hbm, 39, rfl⟩
abbrev main_c_2 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_3 : Ref sig .tc := ⟨.hbm, 66, rfl⟩
abbrev main_v22 : Ref sig .tc := ⟨.hbm, 67, rfl⟩
abbrev main_v23 : Ref sig .tc := ⟨.hbm, 68, rfl⟩
abbrev main_cst_4 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_cst_5 : Ref sig .tc := ⟨.hbm, 73, rfl⟩
abbrev main_v27 : Ref sig .tc := ⟨.hbm, 74, rfl⟩
abbrev main_v28 : Ref sig .tc := ⟨.hbm, 75, rfl⟩
abbrev main_cst_6 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_7 : Ref sig .tc := ⟨.hbm, 108, rfl⟩
abbrev main_v60 : Ref sig .tc := ⟨.hbm, 109, rfl⟩
abbrev main_v61 : Ref sig .tc := ⟨.hbm, 110, rfl⟩
abbrev main_cst_8 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_9 : Ref sig .tc := ⟨.hbm, 115, rfl⟩
abbrev main_v65 : Ref sig .tc := ⟨.hbm, 116, rfl⟩
abbrev main_v66 : Ref sig .tc := ⟨.hbm, 117, rfl⟩
abbrev main_cst_10 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_11 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_c_12 : Ref sig .tc := ⟨.hbm, 153, rfl⟩
abbrev main_call2_v0 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩

abbrev nD : Nat := 1
abbrev τ : Topo := Topo.v7x

variable {F : FTy → Type} [FloatOps F]
-- ==== Proof.Soft.lean ====
module

public import Idealize.ShloMosaic.PureOps.Ideal.Laws

@[expose] public section

noncomputable section

/-! Softmax over extended reals: what a row of scores in base two over a larger key set gives, against the row of
    scores in base `e` over the keys that count. -/

namespace Cert.Soft

open Idealize.ShloMosaic

/-- The weight of a score below `⊤`: `eˣ`, and `0` at `⊥`. -/
def ew (x : EReal) : ℝ := if x = ⊥ then 0 else Real.exp x.toReal

theorem ew_nonneg (x : EReal) : 0 ≤ ew x := by
  unfold ew; split
  · exact le_rfl
  · exact (Real.exp_pos _).le

theorem ew_bot : ew ⊥ = 0 := if_pos rfl

theorem ew_coe (r : ℝ) : ew (r : EReal) = Real.exp r := by
  unfold ew; rw [if_neg (EReal.coe_ne_bot r), EReal.toReal_coe]

/-- The ideal exponential of a score below `⊤` is its weight. -/
theorem exp_eq_ew {x : EReal} (h : x ≠ ⊤) : Ideal.exp x = (ew x : EReal) := by
  induction x with
  | bot => rw [ew_bot]; rfl
  | coe r => rw [ew_coe]; rfl
  | top => exact absurd rfl h

/-- `1 / log 2`, the factor that changes base `e` to base two. -/
def cE : ℝ := 1 / Real.log 2

theorem cE_pos : 0 < cE := one_div_pos.2 (Real.log_pos one_lt_two)

theorem div_log_two : Ideal.div 1 (Ideal.log ((2 : ℝ) : EReal)) = (cE : EReal) := by
  rw [Ideal.log_coe, if_neg (by norm_num), Ideal.div_coe (Real.log_pos one_lt_two).ne', one_mul]
  rfl

/-- Two to the power `x / log 2` is `e` to the power `x`, `⊥` included. -/
theorem exp2_cE {x : EReal} (h : x ≠ ⊤) : Ideal.exp2 ((cE : EReal) * x) = (ew x : EReal) := by
  induction x with
  | bot => rw [EReal.coe_mul_bot_of_pos cE_pos, ew_bot]; rfl
  | coe r =>
    rw [← EReal.coe_mul, ew_coe]
    show ((Real.rpow 2 (cE * r) : ℝ) : EReal) = _
    congr 1
    show (2 : ℝ) ^ (cE * r) = _
    rw [Real.rpow_def_of_pos two_pos]
    congr 1
    unfold cE
    rw [← mul_assoc, mul_one_div_cancel (Real.log_pos one_lt_two).ne', one_mul]
  | top => exact absurd rfl h

theorem mul_sub_coe {c : ℝ} (hc : 0 < c) (x : EReal) (hx : x ≠ ⊤) (μ : ℝ) :
    (c : EReal) * x - (c : EReal) * (μ : EReal) = (c : EReal) * (x - (μ : EReal)) := by
  induction x with
  | bot => rw [EReal.coe_mul_bot_of_pos hc, EReal.bot_sub, EReal.bot_sub, EReal.coe_mul_bot_of_pos hc]
  | coe r => norm_cast; ring_nf
  | top => exact absurd rfl hx

theorem sub_ne_top {x : EReal} (hx : x ≠ ⊤) (μ : ℝ) : x - (μ : EReal) ≠ ⊤ := by
  induction x with
  | bot => rw [EReal.bot_sub]; exact bot_ne_top
  | coe r => rw [← EReal.coe_sub]; exact EReal.coe_ne_top _
  | top => exact absurd rfl hx

/-- The largest of a family, as the fold of the maximum from `⊥`. -/
theorem fold_eq_sup {κ : Type} [Fintype κ] (s : κ → EReal) :
    (Finset.univ : Finset κ).fold max ⊥ s = Finset.univ.sup s := rfl

/-- The largest of scores below `⊤`, one of which is above `⊥`, is a real number and one of them. -/
theorem exists_sup {κ : Type} [Fintype κ] (s : κ → EReal) (hs : ∀ k, s k ≠ ⊤) (k₀ : κ) (h₀ : s k₀ ≠ ⊥) :
    ∃ μ : ℝ, Finset.univ.sup s = (μ : EReal) ∧ ∃ k, s k = (μ : EReal) := by
  obtain ⟨k, -, hk⟩ := Finset.exists_mem_eq_sup Finset.univ ⟨k₀, Finset.mem_univ k₀⟩ s
  have hb : s k ≠ ⊥ := fun h => h₀ (le_bot_iff.1 (h ▸ hk ▸ Finset.le_sup (f := s) (Finset.mem_univ k₀)))
  refine ⟨(s k).toReal, ?_, k, ?_⟩
  · rw [hk, EReal.coe_toReal (hs k) hb]
  · rw [EReal.coe_toReal (hs k) hb]

theorem sum_coe {κ : Type} [Fintype κ] (f : κ → ℝ) : ∑ k, (f k : EReal) = ((∑ k, f k : ℝ) : EReal) := by
  classical
  refine Finset.induction_on (Finset.univ : Finset κ) (by simp) fun a t ha ih => ?_
  rw [Finset.sum_insert ha, Finset.sum_insert ha, ih, EReal.coe_add]

/-- A nonnegative real factor goes into a sum of extended reals, from the right. -/
theorem sum_mul_coe {κ : Type} [Fintype κ] (f : κ → EReal) {a : ℝ} (ha : 0 ≤ a) :
    (∑ k, f k) * (a : EReal) = ∑ k, f k * (a : EReal) := by
  classical
  refine Finset.induction_on (Finset.univ : Finset κ) (by simp) fun b t hb ih => ?_
  rw [Finset.sum_insert hb, Finset.sum_insert hb, ← ih]
  exact EReal.right_distrib_of_nonneg_of_ne_top (EReal.coe_nonneg.2 ha) (EReal.coe_ne_top a) _ _

/-- The weights of scores below `⊤` against the largest of them sum to a positive number. -/
theorem sum_ew_pos {κ : Type} [Fintype κ] (s : κ → EReal) (μ : ℝ) (k : κ) (hk : s k = (μ : EReal)) :
    0 < ∑ k, ew (s k - (μ : EReal)) := by
  refine Finset.sum_pos' (fun k _ => ew_nonneg _) ⟨k, Finset.mem_univ k, ?_⟩
  rw [hk, ← EReal.coe_sub, ew_coe]
  exact Real.exp_pos _

/-- The softmax row: base two over the larger key set `ι`, where the keys outside `φ`'s image score `⊥`, gives what
    base `e` over `κ` gives. -/
theorem soft_eq {ι κ : Type} [Fintype ι] [Fintype κ] (φ : κ → ι) (inj : Function.Injective φ)
    (s : κ → EReal) (hs : ∀ k, s k ≠ ⊤) (k₀ : κ) (h₀ : s k₀ ≠ ⊥) (s' : ι → EReal)
    (h1 : ∀ k, s' (φ k) = (cE : EReal) * s k) (h2 : ∀ i, (∀ k, φ k ≠ i) → s' i = ⊥)
    (v : κ → EReal) (v' : ι → EReal) (hv : ∀ k, v' (φ k) = v k) :
    (∑ i, Ideal.exp2 (s' i - Finset.univ.fold max ⊥ s') * v' i)
        * Ideal.div 1 (∑ i, Ideal.exp2 (s' i - Finset.univ.fold max ⊥ s'))
      = ∑ k, v k * Ideal.div (Ideal.exp (s k - Finset.univ.fold max ⊥ s)) (∑ k, Ideal.exp (s k - Finset.univ.fold max ⊥ s)) := by
  classical
  obtain ⟨μ, hμ, k₁, hk₁⟩ := exists_sup s hs k₀ h₀
  have hμ' : Finset.univ.sup s' = (cE : EReal) * (μ : EReal) := by
    refine le_antisymm (Finset.sup_le fun i _ => ?_) ?_
    · by_cases hi : ∃ k, φ k = i
      · obtain ⟨k, rfl⟩ := hi
        rw [h1]
        exact mul_le_mul_of_nonneg_left (hμ ▸ Finset.le_sup (Finset.mem_univ k)) (EReal.coe_nonneg.2 cE_pos.le)
      · rw [h2 i fun k hk => hi ⟨k, hk⟩]; exact bot_le
    · rw [← hk₁, ← h1]; exact Finset.le_sup (Finset.mem_univ _)
  rw [fold_eq_sup, fold_eq_sup, hμ, hμ']
  have on : ∀ k, Ideal.exp2 (s' (φ k) - (cE : EReal) * (μ : EReal)) = (ew (s k - (μ : EReal)) : EReal) := fun k => by
    rw [h1, mul_sub_coe cE_pos _ (hs k), exp2_cE (sub_ne_top (hs k) μ)]
  have off : ∀ i, (∀ k, φ k ≠ i) → Ideal.exp2 (s' i - (cE : EReal) * (μ : EReal)) = 0 := fun i hi => by
    rw [h2 i hi, EReal.bot_sub]; rfl
  have hexp : ∀ k, Ideal.exp (s k - (μ : EReal)) = (ew (s k - (μ : EReal)) : EReal) := fun k =>
    exp_eq_ew (sub_ne_top (hs k) μ)
  have sum1 : ∑ i, Ideal.exp2 (s' i - (cE : EReal) * (μ : EReal)) = ((∑ k, ew (s k - (μ : EReal)) : ℝ) : EReal) := by
    rw [← sum_coe]
    exact (Fintype.sum_of_injective φ inj _ _ (fun i hi => off i fun k hk => hi ⟨k, hk⟩) fun k => (on k).symm).symm
  have sum2 : ∑ i, Ideal.exp2 (s' i - (cE : EReal) * (μ : EReal)) * v' i = ∑ k, (ew (s k - (μ : EReal)) : EReal) * v k :=
    (Fintype.sum_of_injective φ inj _ _ (fun i hi => by rw [off i fun k hk => hi ⟨k, hk⟩, zero_mul])
      fun k => by rw [on k, hv]).symm
  have pos := sum_ew_pos s μ k₁ hk₁
  rw [sum1, sum2]
  simp only [hexp]
  rw [sum_coe, Ideal.div_coe pos.ne', one_mul, sum_mul_coe _ (one_div_pos.2 pos).le]
  refine Finset.sum_congr rfl fun k _ => ?_
  rw [Ideal.div_coe pos.ne', mul_comm _ (v k), mul_assoc]

end Cert.Soft

end
-- ==== Proof.NaHead.lean ====
module

public import proofs.«01_k».proof.Proof.Gen.KernelIdeal.Frame
public import proofs.«01_k».proof.Proof.Soft
public import Idealize.ShloMosaic.Lib.Pipeline.Value
public import Idealize.ShloMosaic.Lib.ValueIdx
public import Idealize.ShloMosaic.Lib.MatmulPlain

@[expose] public section
set_option maxRecDepth 16384
noncomputable section

/-! One head of the neighbourhood attention's body: what its sixteen copies compute, and its value at a row and a
    column. -/

namespace Cert.KernelIdeal.Gen
open Idealize.ShloMosaic Idealize.ShloMosaic.TcCoe Idealize.ShloMosaic.Tactic Idealize.SL.Sem
open Idealize.ShloMosaic.ValueIdx Cert.Soft

/-- One head's output block, of its queries, context keys, slab keys, bias, context values and slab values. -/
def headOut (q : Vec Ideal S128x128 .bf16) (kc : Vec Ideal S256x128 .bf16) (k : Vec Ideal S576x128 .bf16)
    (b : Vec Ideal S1x1x128x832 .f32) (vc : Vec Ideal S256x128 .bf16) (v : Vec Ideal S576x128 .bf16) : FVec Ideal S128x128 .f32 :=
  k0_pay10 (k0_pay4 q kc k b) (k0_pay5 q kc k b) vc v

/-- The body's block is its sixteen heads side by side. -/
theorem out0_6_eq (x0 : Vec Ideal S128x2048 .bf16) (x1 x2 : Vec Ideal S576x2048 .bf16) (x3 x4 : Vec Ideal S256x2048 .bf16)
    (x5 : Vec Ideal S1x16x128x832 .f32) : out0_6 x0 x1 x2 x3 x4 x5 = View.canon [⟨r0_64, k0_pay1
      (headOut (View.ld x0 r0_0) (View.ld x3 r0_1) (View.ld x1 r0_2) (View.ld x5 r0_3) (View.ld x4 r0_1) (View.ld x2 r0_2))
      (headOut (View.ld x0 r0_4) (View.ld x3 r0_5) (View.ld x1 r0_6) (View.ld x5 r0_7) (View.ld x4 r0_5) (View.ld x2 r0_6))
      (headOut (View.ld x0 r0_8) (View.ld x3 r0_9) (View.ld x1 r0_10) (View.ld x5 r0_11) (View.ld x4 r0_9) (View.ld x2 r0_10))
      (headOut (View.ld x0 r0_12) (View.ld x3 r0_13) (View.ld x1 r0_14) (View.ld x5 r0_15) (View.ld x4 r0_13) (View.ld x2 r0_14))
      (headOut (View.ld x0 r0_16) (View.ld x3 r0_17) (View.ld x1 r0_18) (View.ld x5 r0_19) (View.ld x4 r0_17) (View.ld x2 r0_18))
      (headOut (View.ld x0 r0_20) (View.ld x3 r0_21) (View.ld x1 r0_22) (View.ld x5 r0_23) (View.ld x4 r0_21) (View.ld x2 r0_22))
      (headOut (View.ld x0 r0_24) (View.ld x3 r0_25) (View.ld x1 r0_26) (View.ld x5 r0_27) (View.ld x4 r0_25) (View.ld x2 r0_26))
      (headOut (View.ld x0 r0_28) (View.ld x3 r0_29) (View.ld x1 r0_30) (View.ld x5 r0_31) (View.ld x4 r0_29) (View.ld x2 r0_30))
      (headOut (View.ld x0 r0_32) (View.ld x3 r0_33) (View.ld x1 r0_34) (View.ld x5 r0_35) (View.ld x4 r0_33) (View.ld x2 r0_34))
      (headOut (View.ld x0 r0_36) (View.ld x3 r0_37) (View.ld x1 r0_38) (View.ld x5 r0_39) (View.ld x4 r0_37) (View.ld x2 r0_38))
      (headOut (View.ld x0 r0_40) (View.ld x3 r0_41) (View.ld x1 r0_42) (View.ld x5 r0_43) (View.ld x4 r0_41) (View.ld x2 r0_42))
      (headOut (View.ld x0 r0_44) (View.ld x3 r0_45) (View.ld x1 r0_46) (View.ld x5 r0_47) (View.ld x4 r0_45) (View.ld x2 r0_46))
      (headOut (View.ld x0 r0_48) (View.ld x3 r0_49) (View.ld x1 r0_50) (View.ld x5 r0_51) (View.ld x4 r0_49) (View.ld x2 r0_50))
      (headOut (View.ld x0 r0_52) (View.ld x3 r0_53) (View.ld x1 r0_54) (View.ld x5 r0_55) (View.ld x4 r0_53) (View.ld x2 r0_54))
      (headOut (View.ld x0 r0_56) (View.ld x3 r0_57) (View.ld x1 r0_58) (View.ld x5 r0_59) (View.ld x4 r0_57) (View.ld x2 r0_58))
      (headOut (View.ld x0 r0_60) (View.ld x3 r0_61) (View.ld x1 r0_62) (View.ld x5 r0_63) (View.ld x4 r0_61) (View.ld x2 r0_62))⟩] := by
  unfold_out out0_6
  rfl

/-- The context's rows above the slab's. -/
def catRows (a : Vec Ideal S256x128 .bf16) (b : Vec Ideal S576x128 .bf16) : FVec Ideal S832x128 .bf16 :=
  concatenate S832x128 0 [⟨S256x128, a⟩, ⟨S576x128, b⟩] concatenates_S256x128_S576x128_S832x128_d0

theorem catRows_lo (a : Vec Ideal S256x128 .bf16) (b : Vec Ideal S576x128 .bf16) (i : Fin 832) (i' : Fin 256) (d : Fin 128)
    (hi : i.val = i'.val) : catRows a b (ix2 i d) = a (ix2 i' d) := by
  refine concatenate_pair_apply_left (0 : Fin 2) a b _ (ix2 i d) rfl (ix2 i' d) fun x => ?_
  match x with
  | ⟨0, _⟩ => exact hi.symm
  | ⟨1, _⟩ => rfl

theorem catRows_hi (a : Vec Ideal S256x128 .bf16) (b : Vec Ideal S576x128 .bf16) (i : Fin 832) (i' : Fin 576) (d : Fin 128)
    (hi : i.val = 256 + i'.val) : catRows a b (ix2 i d) = b (ix2 i' d) := by
  refine concatenate_pair_apply_right (0 : Fin 2) a b _ (ix2 i d) rfl rfl (ix2 i' d) (fun x hx => ?_) ?_
  · match x with
    | ⟨0, _⟩ => exact absurd rfl hx
    | ⟨1, _⟩ => rfl
  · show i'.val + 256 = i.val
    omega

theorem cast_self {α : Type} {s : Shape} (x : s.Idx → α) (h : s.ShapeCasts s) : shapeCast s x h = x := by
  funext j; exact shapeCast_apply x h j j rfl

theorem cat_cast (a : Vec Ideal S256x128 .bf16) (b : Vec Ideal S576x128 .bf16) :
    (concatenate S832x128 0 [⟨S256x128, shapeCast S256x128 a shapeCasts_S256x128_S256x128⟩,
      ⟨S576x128, shapeCast S576x128 b shapeCasts_S576x128_S576x128⟩] concatenates_S256x128_S576x128_S832x128_d0 : FVec Ideal S832x128 .bf16)
      = catRows a b :=
  congrArg₂ catRows (cast_self a _) (cast_self b _)

/-- One row's scores. -/
def headScore (q : Vec Ideal S128x128 .bf16) (kc : Vec Ideal S256x128 .bf16) (k : Vec Ideal S576x128 .bf16)
    (b : Vec Ideal S1x1x128x832 .f32) (r : Fin 128) (i : Fin 832) : EReal :=
  (∑ e : Fin 128, q (ix2 r e) * catRows kc k (ix2 i e)) + b (ix4 (0 : Fin 1) (0 : Fin 1) r i)

/-- The scores as an array. -/
def scores (q : Vec Ideal S128x128 .bf16) (kc : Vec Ideal S256x128 .bf16) (k : Vec Ideal S576x128 .bf16)
    (b : Vec Ideal S1x1x128x832 .f32) : FVec Ideal S128x832 .f32 :=
  addf (matmul (φ₁ := .bf16) dot_S128x128_S832x128_S128x832_1_1_0_0_n_n none q (catRows kc k) (constant S128x832 .f32 0x00000000#32))
    (shapeCast S128x832 b shapeCasts_S1x1x128x832_S128x832)

theorem scores_apply (q : Vec Ideal S128x128 .bf16) (kc : Vec Ideal S256x128 .bf16) (k : Vec Ideal S576x128 .bf16)
    (b : Vec Ideal S1x1x128x832 .f32) (r : Fin 128) (i : Fin 832) : scores q kc k b (ix2 r i) = headScore q kc k b r i := by
  unfold scores headScore
  rw [addf_apply]
  refine congr (congrArg HAdd.hAdd ?_) ?_
  · refine (Ideal.matmul_transposedRhs_apply (M := 128) (K := 128) (N := 832) none q (catRows kc k) _ r i).trans ?_
    rw [show (constant S128x832 .f32 0x00000000#32 : FVec Ideal S128x832 .f32) (ix2 r i) = (0 : EReal) from Ideal.ofBits_zero_f32, zero_add]
  · refine shapeCast_apply b _ (ix2 r i) (ix4 (0 : Fin 1) (0 : Fin 1) r i) ?_
    rw [Shape.rowMajor_val_two, Shape.rowMajor_val_four]
    show ((0 * 1 + 0) * 128 + r.val) * 832 + i.val = r.val * 832 + i.val
    omega

/-- The row maxima of a score array. -/
def rowMax (S : FVec Ideal S128x832 .f32) (r : Fin 128) : EReal := Finset.univ.fold max ⊥ (fun i : Fin 832 => S (ix2 r i))

theorem lift_row (r : Fin 128) (i : Fin 832) :
    (reduces_S128x832_S128 : S128x832.Reduces [1] S128).lift (ix1 r) i = ix2 r i := by
  funext a
  match a with
  | ⟨0, _⟩ => rfl
  | ⟨1, _⟩ => rfl

theorem pay3_apply (q : Vec Ideal S128x128 .bf16) (kc : Vec Ideal S256x128 .bf16) (k : Vec Ideal S576x128 .bf16)
    (b : Vec Ideal S1x1x128x832 .f32) (r : Fin 128) (i : Fin 832) : k0_pay3 q kc k b (ix2 r i)
      = Ideal.exp2 (headScore q kc k b r i - Finset.univ.fold max ⊥ (headScore q kc k b r)) := by
  have hS : k0_pay3 q kc k b = exp2 (subf (scores q kc k b) (broadcastTo S128x832 (shapeCast S128x1
      (multiReduction .maximumf [1] S128 (scores q kc k b) 0xFF800000#32 reduces_S128x832_S128 (.inl rfl) rfl)
      shapeCasts_S128_S128x1) broadcasts_S128x1_S128x832)) := by
    unfold k0_pay3 scores
    simp only [cat_cast, cast_self]
  rw [hS]
  show Ideal.exp2 (scores q kc k b (ix2 r i) - broadcastTo S128x832 _ broadcasts_S128x1_S128x832 (ix2 r i)) = _
  rw [scores_apply]
  refine congrArg (fun x => Ideal.exp2 (headScore q kc k b r i - x)) ?_
  refine (broadcastTo_apply _ _ (ix2 r i) (ix2 r (0 : Fin 1)) fun a => ?_).trans ?_
  · match a with
    | ⟨0, _⟩ => rfl
    | ⟨1, _⟩ => rfl
  refine (shapeCast_apply _ _ (ix2 r (0 : Fin 1)) (ix1 r) ?_).trans ?_
  · rw [Shape.rowMajor_val_two, Shape.rowMajor_val_one]
    show r.val = r.val * 1 + 0
    omega
  refine (Ideal.multiReduction_maximumf_single _ _ _ _ _ _).trans ?_
  rw [show (FloatOps.ofBits .f32 0xFF800000#32 : Ideal .f32) = (⊥ : EReal) from by
    show Ideal.ofBits .f32 0xFF800000#32 = ⊥
    simp [Ideal.ofBits, Ideal.ieee]]
  refine congrArg (Finset.univ.fold max (⊥ : EReal)) ?_
  funext i
  show scores q kc k b (reduces_S128x832_S128.lift (ix1 r) i) = _
  exact (congrArg _ (lift_row r i)).trans (scores_apply q kc k b r i)

theorem pay4_apply (q : Vec Ideal S128x128 .bf16) (kc : Vec Ideal S256x128 .bf16) (k : Vec Ideal S576x128 .bf16)
    (b : Vec Ideal S1x1x128x832 .f32) (r : Fin 128) : k0_pay4 q kc k b (ix2 r (0 : Fin 1))
      = Ideal.div 1 (∑ i : Fin 832, Ideal.exp2 (headScore q kc k b r i - Finset.univ.fold max ⊥ (headScore q kc k b r))) := by
  unfold k0_pay4
  show Ideal.div (Ideal.ofBits .f32 0x3F800000#32) _ = _
  rw [show Ideal.ofBits .f32 0x3F800000#32 = 1 from by simp [Ideal.ofBits, Ideal.ieee, -EReal.coe_mul]; norm_num]
  congr 1
  refine (shapeCast_apply _ _ (ix2 r (0 : Fin 1)) (ix1 r) ?_).trans ?_
  · rw [Shape.rowMajor_val_two, Shape.rowMajor_val_one]
    show r.val = r.val * 1 + 0
    omega
  refine (Ideal.multiReduction_add_single _ _ _ _ _ _).trans ?_
  refine Finset.sum_congr rfl fun i _ => ?_
  exact (congrArg _ (lift_row r i)).trans (pay3_apply q kc k b r i)

/-- One head's value: the softmax-weighted values of its row, in base two with the reciprocal applied last. -/
theorem headOut_apply (q : Vec Ideal S128x128 .bf16) (kc : Vec Ideal S256x128 .bf16) (k : Vec Ideal S576x128 .bf16)
    (b : Vec Ideal S1x1x128x832 .f32) (vc : Vec Ideal S256x128 .bf16) (v : Vec Ideal S576x128 .bf16) (r d : Fin 128) :
    headOut q kc k b vc v (ix2 r d)
      = (∑ i : Fin 832, Ideal.exp2 (headScore q kc k b r i - Finset.univ.fold max ⊥ (headScore q kc k b r)) * catRows vc v (ix2 i d))
        * Ideal.div 1 (∑ i : Fin 832, Ideal.exp2 (headScore q kc k b r i - Finset.univ.fold max ⊥ (headScore q kc k b r))) := by
  have hO : headOut q kc k b vc v = mulf (matmul dot_S128x832_S832x128_S128x128_1_0_0_1_n_n none (k0_pay5 q kc k b) (catRows vc v)
      (constant S128x128 .f32 0x00000000#32)) (broadcastTo S128x128 (k0_pay4 q kc k b) broadcasts_S128x1_S128x128) := by
    unfold headOut k0_pay10
    simp only [cat_cast]
  rw [hO, mulf_apply]
  refine congr (congrArg HMul.hMul ?_) ?_
  · refine (Ideal.matmul_plain_apply (M := 128) (K := 832) (N := 128) none (k0_pay5 q kc k b) (catRows vc v) _ r d).trans ?_
    rw [show (constant S128x128 .f32 0x00000000#32 : FVec Ideal S128x128 .f32) (ix2 r d) = (0 : EReal) from Ideal.ofBits_zero_f32, zero_add]
    refine Finset.sum_congr rfl fun i _ => congrArg (· * _) ?_
    exact pay3_apply q kc k b r i
  · refine (broadcastTo_apply _ _ (ix2 r d) (ix2 r (0 : Fin 1)) fun a => ?_).trans (pay4_apply q kc k b r)
    match a with
    | ⟨0, _⟩ => rfl
    | ⟨1, _⟩ => rfl

end Cert.KernelIdeal.Gen

end
-- ==== Proof.NaBlocks.lean ====
module

public import proofs.«01_k».proof.Proof.NaHead
public import Idealize.ShloMosaic.Lib.Pipeline.Value

@[expose] public section
set_option maxRecDepth 16384
noncomputable section

/-! The neighbourhood attention's windows read at coordinates: which rows of its arrays a grid point's blocks hold, and
    where its result rows lie. -/

namespace Cert.KernelIdeal.Gen
open Idealize.ShloMosaic Idealize.ShloMosaic.TcCoe Idealize.ShloMosaic.Tactic Idealize.SL.Sem
open Idealize.ShloMosaic.Pipeline (Dat)
open Idealize.ShloMosaic.ValueIdx

variable (m : (ℓ : Loc nD τ sig) → Buf (Elt Ideal) ℓ)

/-- The first image row of a point's slab. -/
abbrev slabBase (t : Nat) : Nat := min 247 (2 * t - 4)

/-- The bias variant a point reads. -/
abbrev variant (t : Nat) : Nat := if t < 2 then t else if 126 ≤ t then t - 123 else 2

theorem tr0 : ∀ t : Fin cfg0.N, cc0_transform_0 (grid0.coords t) 0 = t.val ∧ cc0_transform_0 (grid0.coords t) 1 = 0 := by decide +kernel
theorem tr1 : ∀ t : Fin cfg0.N, cc0_transform_1 (grid0.coords t) 0 = 64 * slabBase t.val ∧ cc0_transform_1 (grid0.coords t) 1 = 2048 := by
  decide +kernel
theorem tr2 : ∀ t : Fin cfg0.N, cc0_transform_2 (grid0.coords t) 0 = 64 * slabBase t.val ∧ cc0_transform_2 (grid0.coords t) 1 = 0 := by
  decide +kernel
theorem tr5 : ∀ t : Fin cfg0.N, cc0_transform_5 (grid0.coords t) 0 = variant t.val ∧ cc0_transform_5 (grid0.coords t) 1 = 0
    ∧ cc0_transform_5 (grid0.coords t) 2 = 0 ∧ cc0_transform_5 (grid0.coords t) 3 = 0 := by decide +kernel
theorem tr6 : ∀ t : Fin cfg0.N, cc0_transform_6 (grid0.coords t) 0 = t.val ∧ cc0_transform_6 (grid0.coords t) 1 = 0 := by decide +kernel

theorem blk0_apply (c : Dev nD) (t : Fin cfg0.N) (r : Fin 128) (d : Fin 2048) (R : Fin 16384) (hR : R.val = 128 * t.val + r.val)
    (D : Fin 4096) (hD : D.val = d.val) :
    (iblk m c 0 t : S128x2048.Idx → EReal) (ix2 r d) = (V m c main_v9 : S16384x4096.Idx → EReal) (ix2 R D) := by
  show (V m c main_v9 : S16384x4096.Idx → EReal) (((cfg0.win 0).rect t).emb (ix2 r d)) = _
  congr 1
  funext a
  refine Fin.ext ((Pipeline.Window.rect_emb_val_off (cfg0.win 0) t (ix2 r d) a).trans ?_)
  match a with
  | ⟨0, _⟩ => show cc0_transform_0 (grid0.coords t) 0 * 128 + r.val = R.val; rw [(tr0 t).1]; omega
  | ⟨1, _⟩ => show cc0_transform_0 (grid0.coords t) 1 * 2048 + d.val = D.val; rw [(tr0 t).2]; omega

theorem blk1_apply (c : Dev nD) (t : Fin cfg0.N) (r : Fin 576) (d : Fin 2048) (R : Fin 16384) (hR : R.val = 64 * slabBase t.val + r.val)
    (D : Fin 4096) (hD : D.val = 2048 + d.val) :
    (iblk m c 1 t : S576x2048.Idx → EReal) (ix2 r d) = (V m c main_v9 : S16384x4096.Idx → EReal) (ix2 R D) := by
  show (V m c main_v9 : S16384x4096.Idx → EReal) (((cfg0.win 1).rect t).emb (ix2 r d)) = _
  congr 1
  funext a
  refine Fin.ext ((Pipeline.Window.rect_emb_val_off (cfg0.win 1) t (ix2 r d) a).trans ?_)
  match a with
  | ⟨0, _⟩ => show cc0_transform_1 (grid0.coords t) 0 + r.val = R.val; rw [(tr1 t).1]; omega
  | ⟨1, _⟩ => show cc0_transform_1 (grid0.coords t) 1 + d.val = D.val; rw [(tr1 t).2]; omega

theorem blk2_apply (c : Dev nD) (t : Fin cfg0.N) (r : Fin 576) (d : Fin 2048) (R : Fin 16384) (hR : R.val = 64 * slabBase t.val + r.val) :
    (iblk m c 2 t : S576x2048.Idx → EReal) (ix2 r d) = (V m c main_v11 : S16384x2048.Idx → EReal) (ix2 R d) := by
  show (V m c main_v11 : S16384x2048.Idx → EReal) (((cfg0.win 2).rect t).emb (ix2 r d)) = _
  congr 1
  funext a
  refine Fin.ext ((Pipeline.Window.rect_emb_val_off (cfg0.win 2) t (ix2 r d) a).trans ?_)
  match a with
  | ⟨0, _⟩ => show cc0_transform_2 (grid0.coords t) 0 + r.val = R.val; rw [(tr2 t).1]; omega
  | ⟨1, _⟩ => show cc0_transform_2 (grid0.coords t) 1 + d.val = d.val; rw [(tr2 t).2]; omega

theorem blk3_apply (c : Dev nD) (t : Fin cfg0.N) (r : Fin 256) (d : Fin 2048) (D : Fin 4096) (hD : D.val = 2048 + d.val) :
    (iblk m c 3 t : S256x2048.Idx → EReal) (ix2 r d) = (V m c main_v15 : S256x4096.Idx → EReal) (ix2 r D) := by
  show (V m c main_v15 : S256x4096.Idx → EReal) (((cfg0.win 3).rect t).emb (ix2 r d)) = _
  congr 1
  funext a
  refine Fin.ext ((Pipeline.Window.rect_emb_val_off (cfg0.win 3) t (ix2 r d) a).trans ?_)
  match a with
  | ⟨0, _⟩ => show 0 * 256 + r.val = r.val; omega
  | ⟨1, _⟩ => show 1 * 2048 + d.val = D.val; omega

theorem blk4_apply (c : Dev nD) (t : Fin cfg0.N) (r : Fin 256) (d : Fin 2048) :
    (iblk m c 4 t : S256x2048.Idx → EReal) (ix2 r d) = (V m c main_v17 : S256x2048.Idx → EReal) (ix2 r d) := by
  show (V m c main_v17 : S256x2048.Idx → EReal) (((cfg0.win 4).rect t).emb (ix2 r d)) = _
  congr 1
  funext a
  refine Fin.ext ((Pipeline.Window.rect_emb_val_off (cfg0.win 4) t (ix2 r d) a).trans ?_)
  match a with
  | ⟨0, _⟩ => show 0 * 256 + r.val = r.val; omega
  | ⟨1, _⟩ => show 0 * 2048 + d.val = d.val; omega

theorem blk5_apply (c : Dev nD) (t : Fin cfg0.N) (z : Fin 1) (h : Fin 16) (r : Fin 128) (k : Fin 832) (v : Fin 5) (hv : v.val = variant t.val) :
    (iblk m c 5 t : S1x16x128x832.Idx → EReal) (ix4 z h r k) = (V m c main_v91 : S5x16x128x832.Idx → EReal) (ix4 v h r k) := by
  show (V m c main_v91 : S5x16x128x832.Idx → EReal) (((cfg0.win 5).rect t).emb (ix4 z h r k)) = _
  congr 1
  funext a
  refine Fin.ext ((Pipeline.Window.rect_emb_val_off (cfg0.win 5) t (ix4 z h r k) a).trans ?_)
  match a with
  | ⟨0, _⟩ => show cc0_transform_5 (grid0.coords t) 0 * 1 + z.val = v.val; rw [(tr5 t).1]; omega
  | ⟨1, _⟩ => show cc0_transform_5 (grid0.coords t) 1 * 16 + h.val = h.val; rw [(tr5 t).2.1]; omega
  | ⟨2, _⟩ => show cc0_transform_5 (grid0.coords t) 2 * 128 + r.val = r.val; rw [(tr5 t).2.2.1]; omega
  | ⟨3, _⟩ => show cc0_transform_5 (grid0.coords t) 3 * 832 + k.val = k.val; rw [(tr5 t).2.2.2]; omega

theorem emb6 (t : Fin cfg0.N) (r : Fin 128) (d : Fin 2048) (R : Fin 16384) (hR : R.val = 128 * t.val + r.val) :
    ((cfg0.win 6).rect t).emb (ix2 r d) = (ix2 R d : S16384x2048.Idx) := by
  funext a
  refine Fin.ext ((Pipeline.Window.rect_emb_val_off (cfg0.win 6) t (ix2 r d) a).trans ?_)
  match a with
  | ⟨0, _⟩ => show cc0_transform_6 (grid0.coords t) 0 * 128 + r.val = R.val; rw [(tr6 t).1]; omega
  | ⟨1, _⟩ => show cc0_transform_6 (grid0.coords t) 1 * 2048 + d.val = d.val; rw [(tr6 t).2]; omega

theorem idx_inj6 : ∀ t t' : Fin cfg0.N, (cfg0.win 6).index t = (cfg0.win 6).index t' → t = t' := by
  intro t t' h
  have h0 := congrFun h 0
  have e : cc0_transform_6 (grid0.coords t) 0 = cc0_transform_6 (grid0.coords t') 0 := h0
  rw [(tr6 t).1, (tr6 t').1] at e
  exact Fin.ext e

theorem disjoint6 (t t' : Fin cfg0.N) (_ : (cfg0.win 6).flush t = true) (_ : (cfg0.win 6).flush t' = true) (h : t ≠ t') :
    Disjoint ((cfg0.win 6).blk t).view.set ((cfg0.win 6).blk t').view.set :=
  (cfg0.win 6).disjoint_blk fun e => h (idx_inj6 t t' e)

/-- The result array after the run, at a row and a column: what the row's point left in its block. -/
theorem final6 (c : Dev nD) (t : Fin cfg0.N) (r : Fin 128) (d : Fin 2048) (R : Fin 16384) (hR : R.val = 128 * t.val + r.val) :
    ((dats m 0 c).arrAt 6 cfg0.N : S16384x2048.Idx → EReal) (ix2 R d)
      = out0_6 (iblk m c 0 t) (iblk m c 1 t) (iblk m c 2 t) (iblk m c 3 t) (iblk m c 4 t) (iblk m c 5 t) (ix2 r d) := by
  have h := (dats m 0 c).arrAt_emb_eq_flushed 6 disjoint6 t (flush0_6 t) (ix2 r d : S128x2048.Idx)
  have e : ((cfg0.win 6).blk t).view.emb (ix2 r d : S128x2048.Idx) = (ix2 R d : S16384x2048.Idx) := emb6 t r d R hR
  rw [e] at h
  refine h.trans ?_
  show (cfg0.win 6).cut (grid0.coords t) ((dats m 0 c).after 6 t) (ix2 r d : S128x2048.Idx) = _
  rw [after0_6]
  rfl

end Cert.KernelIdeal.Gen

end
-- ==== Proof.NaBlock.lean ====
module

public import proofs.«01_k».proof.Proof.NaBlocks
public import Idealize.ShloMosaic.Lib.Pipeline.ValueKit.Tiles

@[expose] public section
set_option maxRecDepth 16384
noncomputable section

/-! The neighbourhood attention's body block at a row and a column: the column's head, at the column within it. -/

namespace Cert.KernelIdeal.Gen
open Idealize.ShloMosaic Idealize.ShloMosaic.TcCoe Idealize.ShloMosaic.Tactic Idealize.SL.Sem
open Idealize.ShloMosaic.ValueIdx

/-- Head `h`'s columns of an array of `n` rows. -/
def cols (n : Nat) (x : (⟨2, ![n, 2048]⟩ : Shape).Idx → EReal) (h : Fin 16) : (⟨2, ![n, 128]⟩ : Shape).Idx → EReal :=
  fun i => x (ix2 (i 0) (⟨128 * h.val + (i 1).val, by have : (i 1).val < 128 := (i 1).isLt; omega⟩ : Fin 2048))

theorem cols_apply (n : Nat) (x : (⟨2, ![n, 2048]⟩ : Shape).Idx → EReal) (h : Fin 16) (r : Fin n) (d : Fin 128) (D : Fin 2048)
    (hD : D.val = 128 * h.val + d.val) : cols n x h (ix2 r d) = x (ix2 r D) := by
  unfold cols
  refine congrArg (fun D : Fin 2048 => x (ix2 r D)) (Fin.ext ?_)
  exact hD.symm

theorem ld_cols (n : Nat) (x : (⟨2, ![n, 2048]⟩ : Shape).Idx → EReal) (o : Nat) (inb) (h : Fin 16) (ho : o = 128 * h.val) :
    View.ld (Val := Elt Ideal) (e' := EltTy.bf16) (S := ⟨2, ![n, 2048]⟩) x (Rect.unit ![0, o] (⟨2, ![n, 128]⟩ : Shape).size inb) = cols n x h := by
  funext j
  refine View.ld_unit_apply_of (Val := Elt Ideal) (e := EltTy.bf16) x ![0, o] _ inb j _ fun a => ?_
  match a with
  | ⟨0, _⟩ => show (j 0).val = 0 + (j 0).val; omega
  | ⟨1, _⟩ => show 128 * h.val + (j 1).val = o + (j 1).val; omega

/-- Head `h`'s bias. -/
def biasHead (x : S1x16x128x832.Idx → EReal) (h : Fin 16) : S1x1x128x832.Idx → EReal :=
  fun i => x (ix4 (i 0) h (i 2) (i 3))

theorem ld_bias (x : S1x16x128x832.Idx → EReal) (o : Nat) (inb) (h : Fin 16) (ho : o = h.val) :
    View.ld (Val := Elt Ideal) (e' := EltTy.f32) (S := S1x16x128x832) x (Rect.unit ![0, o, 0, 0] S1x1x128x832.size inb) = biasHead x h := by
  funext j
  refine View.ld_unit_apply_of (Val := Elt Ideal) (e := EltTy.f32) x ![0, o, 0, 0] _ inb j _ fun a => ?_
  match a with
  | ⟨0, _⟩ => show (j 0).val = 0 + (j 0).val; omega
  | ⟨1, _⟩ => show h.val = o + (j 1).val; have : (j 1).val < 1 := (j 1).isLt; omega
  | ⟨2, _⟩ => show (j 2).val = 0 + (j 2).val; omega
  | ⟨3, _⟩ => show (j 3).val = 0 + (j 3).val; omega

/-- Head `h`'s output block from the whole blocks. -/
def headAt (x0 : Vec Ideal S128x2048 .bf16) (x1 x2 : Vec Ideal S576x2048 .bf16) (x3 x4 : Vec Ideal S256x2048 .bf16)
    (x5 : Vec Ideal S1x16x128x832 .f32) (h : Fin 16) : FVec Ideal S128x128 .f32 :=
  headOut (cols 128 x0 h) (cols 256 x3 h) (cols 576 x1 h) (biasHead x5 h) (cols 256 x4 h) (cols 576 x2 h)

theorem headOut_ld (x0 : Vec Ideal S128x2048 .bf16) (x1 x2 : Vec Ideal S576x2048 .bf16) (x3 x4 : Vec Ideal S256x2048 .bf16)
    (x5 : Vec Ideal S1x16x128x832 .f32) (h : Fin 16) (o p : Nat) (ho : o = 128 * h.val) (hp : p = h.val) (i0 i1 i2 i3) :
    headOut (View.ld x0 (Rect.unit (s := S128x2048) ![0, o] S128x128.size i0)) (View.ld x3 (Rect.unit (s := S256x2048) ![0, o] S256x128.size i1))
      (View.ld x1 (Rect.unit (s := S576x2048) ![0, o] S576x128.size i2)) (View.ld x5 (Rect.unit (s := S1x16x128x832) ![0, p, 0, 0] S1x1x128x832.size i3))
      (View.ld x4 (Rect.unit (s := S256x2048) ![0, o] S256x128.size i1)) (View.ld x2 (Rect.unit (s := S576x2048) ![0, o] S576x128.size i2))
      = headAt x0 x1 x2 x3 x4 x5 h := by
  have e0 := ld_cols 128 x0 o i0 h ho
  have e1 := ld_cols 576 x1 o i2 h ho
  have e2 := ld_cols 576 x2 o i2 h ho
  have e3 := ld_cols 256 x3 o i1 h ho
  have e4 := ld_cols 256 x4 o i1 h ho
  have e5 := ld_bias x5 p i3 h hp
  unfold headAt
  exact congr (congr (congr (congr (congr (congrArg headOut e0) e3) e1) e5) e4) e2

/-- Sixteen head blocks side by side. -/
theorem pay1_apply (f : Fin 16 → FVec Ideal S128x128 .f32) (h : Fin 16) (r : Fin 128) (d : Fin 128) (D : Fin 2048)
    (hD : D.val = 128 * h.val + d.val) : k0_pay1 (f 0) (f 1) (f 2) (f 3) (f 4) (f 5) (f 6) (f 7) (f 8) (f 9) (f 10) (f 11) (f 12) (f 13) (f 14) (f 15) (ix2 r D) = f h (ix2 r d) := by
  unfold k0_pay1
  refine concatenate_ofFn_apply (t := S128x2048) (s₁ := S128x128) (1 : Fin 2) f
    concatenates_S128x128_S128x128_S128x128_S128x128_S128x128_S128x128_S128x128_S128x128_S128x128_S128x128_S128x128_S128x128_S128x128_S128x128_S128x128_S128x128_S128x2048_d1
    rfl 128 rfl (ix2 r D) h ?_ (ix2 r d) ?_ fun x hx => ?_
  · show D.val / 128 = h.val
    omega
  · show d.val = D.val % 128
    omega
  · match x with
    | ⟨0, _⟩ => rfl
    | ⟨1, _⟩ => exact absurd rfl hx

/-- The body's block at a row and a column. -/
theorem out0_6_apply (x0 : Vec Ideal S128x2048 .bf16) (x1 x2 : Vec Ideal S576x2048 .bf16) (x3 x4 : Vec Ideal S256x2048 .bf16)
    (x5 : Vec Ideal S1x16x128x832 .f32) (h : Fin 16) (r : Fin 128) (d : Fin 128) (D : Fin 2048) (hD : D.val = 128 * h.val + d.val) :
    out0_6 x0 x1 x2 x3 x4 x5 (ix2 r D) = headAt x0 x1 x2 x3 x4 x5 h (ix2 r d) := by
  rw [out0_6_eq, View.canon_unit_zero (by funext a; fin_cases a <;> rfl)]
  refine Eq.trans ?_ (pay1_apply (headAt x0 x1 x2 x3 x4 x5) h r d D hD)
  refine congrFun ?_ (ix2 r D)
  exact congr (congr (congr (congr (congr (congr (congr (congr (congr (congr (congr (congr (congr (congr (congr (congrArg k0_pay1 (headOut_ld x0 x1 x2 x3 x4 x5 0 0 0 rfl rfl _ _ _ _))
    (headOut_ld x0 x1 x2 x3 x4 x5 1 128 1 rfl rfl _ _ _ _))
    (headOut_ld x0 x1 x2 x3 x4 x5 2 256 2 rfl rfl _ _ _ _))
    (headOut_ld x0 x1 x2 x3 x4 x5 3 384 3 rfl rfl _ _ _ _))
    (headOut_ld x0 x1 x2 x3 x4 x5 4 512 4 rfl rfl _ _ _ _))
    (headOut_ld x0 x1 x2 x3 x4 x5 5 640 5 rfl rfl _ _ _ _))
    (headOut_ld x0 x1 x2 x3 x4 x5 6 768 6 rfl rfl _ _ _ _))
    (headOut_ld x0 x1 x2 x3 x4 x5 7 896 7 rfl rfl _ _ _ _))
    (headOut_ld x0 x1 x2 x3 x4 x5 8 1024 8 rfl rfl _ _ _ _))
    (headOut_ld x0 x1 x2 x3 x4 x5 9 1152 9 rfl rfl _ _ _ _))
    (headOut_ld x0 x1 x2 x3 x4 x5 10 1280 10 rfl rfl _ _ _ _))
    (headOut_ld x0 x1 x2 x3 x4 x5 11 1408 11 rfl rfl _ _ _ _))
    (headOut_ld x0 x1 x2 x3 x4 x5 12 1536 12 rfl rfl _ _ _ _))
    (headOut_ld x0 x1 x2 x3 x4 x5 13 1664 13 rfl rfl _ _ _ _))
    (headOut_ld x0 x1 x2 x3 x4 x5 14 1792 14 rfl rfl _ _ _ _))
    (headOut_ld x0 x1 x2 x3 x4 x5 15 1920 15 rfl rfl _ _ _ _)

end Cert.KernelIdeal.Gen

end
-- ==== Proof.NaLits.lean ====
module

public import proofs.«01_k».proof.KernelIdeal

@[expose] public section
set_option maxRecDepth 16384

/-! The two large literals of the neighbourhood attention's host code, element by element. -/

namespace Cert.KernelIdeal.Gen
open Idealize.ShloMosaic

/-- Whether key column `j` lies in query column `c`'s window. -/
abbrev colOk (c j : Nat) : Prop := min (c - 8) 48 ≤ j ∧ j < min (c - 8) 48 + 16

/-- The bias column for query column `c` and key column `j`. -/
abbrev colIx (c j : Nat) : Fin 31 := ⟨min (j + 15 - c) 30, by omega⟩

/-- The column mask's literal: bit `n` says whether column `n % 64` is in column `n / 64`'s window. -/
theorem lit1_eq : ∀ n : Fin 4096, lit1 n = if colOk (n.val / 64) (n.val % 64) then 1#1 else 0#1 := by decide +kernel

/-- The column index literal. -/
theorem lit0_eq : ∀ n : Fin 4096, lit0 n = BitVec.ofNat 32 (colIx (n.val / 64) (n.val % 64)).val := by decide +kernel

end Cert.KernelIdeal.Gen

end
-- ==== Proof.GatherAt.lean ====
module

public import Idealize.ShloMosaic.Lib.ValueIdx

@[expose] public section
noncomputable section

/-! Reading a gather at an index, coordinate by coordinate: each operand coordinate is a start, read off the start
    indices where the start index map names the axis, plus an offset, read off the result index where the axis is kept. -/

namespace Cert.GatherAt
open Idealize.ShloMosaic

variable {α : Type} {s si t : Shape} {w : Nat} (D : GatherDims s si t)

/-- A gather without batching axes, read at the operand index whose coordinates are the starts plus the offsets. -/
theorem gather_at (hb : D.operandBatchingDims = []) (x : s.Idx → α) (idx : IVec si w) (j : t.Idx) (k : s.Idx)
    (h : ∀ a, D.start j idx a + D.offCoord j a = (k a).val) : Host.gather D x idx j = x k := by
  unfold Host.gather
  congr 1
  funext a
  refine Fin.ext ?_
  show D.start j idx a + D.batchCoord j a + D.offCoord j a = _
  rw [GatherDims.batchCoord_eq_zero _ _ _ (by rw [hb]; exact List.not_mem_nil), Nat.add_zero]
  exact h a

/-- An axis the start index map does not name starts at zero. -/
theorem start_none (j : t.Idx) (idx : IVec si w) (a : Fin s.rank) (ha : a ∉ D.startIndexMap) : D.start j idx a = 0 := by
  unfold GatherDims.start; rw [dif_neg ha]

/-- An axis at position `p` of the start index map starts at that component of the start index, clamped. -/
theorem start_some (j : t.Idx) (idx : IVec si w) (a : Fin s.rank) (p : Fin D.startIndexMap.length)
    (hp : D.startIndexMap.idxOf a = p.val) (k : si.Idx) (hk : D.siIdx j p = k) :
    D.start j idx a = min (idx k).toInt.toNat (s.size a - D.sliceSizes a) := by
  have ha : a ∈ D.startIndexMap := List.idxOf_lt_length_iff.1 (by rw [hp]; exact p.isLt)
  unfold GatherDims.start
  rw [dif_pos ha]
  have e : (⟨D.startIndexMap.idxOf a, List.idxOf_lt_length_iff.2 ha⟩ : Fin D.startIndexMap.length) = p := Fin.ext hp
  rw [e, hk]

/-- A kept axis at position `p` has its offset at position `p` of the offset axes. -/
theorem off_some (j : t.Idx) (a : Fin s.rank) (p : Nat) (hp : D.sKept.idxOf a = p) (hl : p < D.sKept.length)
    (b : Fin t.rank) (hb : D.offsetDims[p]? = some b) : D.offCoord j a = (j b).val := by
  subst hp
  have ha : a ∈ D.sKept := List.idxOf_lt_length_iff.1 hl
  unfold GatherDims.offCoord
  rw [dif_pos ha]
  have : D.offsetDims[D.sKept.idxOf a]'(by rw [D.offset_length]; exact hl) = b := by
    rw [List.getElem?_eq_getElem (by rw [D.offset_length]; exact hl)] at hb
    exact Option.some.inj hb
  rw [this]

/-- A collapsed axis has offset zero. -/
theorem off_none (j : t.Idx) (a : Fin s.rank) (ha : a ∉ D.sKept) : D.offCoord j a = 0 :=
  GatherDims.offCoord_eq_zero _ _ _ ha

/-- A small natural number read back from its word. -/
theorem toNat_ofNat (n : Nat) (h : n < 2147483648) : (BitVec.ofNat 32 n).toInt.toNat = n := by
  rw [BitVec.toInt_eq_toNat_of_lt (by rw [BitVec.toNat_ofNat]; omega), BitVec.toNat_ofNat, Int.toNat_natCast,
    Nat.mod_eq_of_lt (by omega)]

end Cert.GatherAt

end
-- ==== Proof.NaTable.lean ====
module

public import proofs.«01_k».proof.Proof.Gen.KernelIdeal.Frame
public import proofs.«01_k».proof.Proof.NaLits
public import proofs.«01_k».proof.Proof.Soft
public import proofs.«01_k».proof.Proof.GatherAt
public import Idealize.ShloMosaic.Lib.Pipeline.Value
public import Idealize.ShloMosaic.Lib.ValueIdx
public import Idealize.ShloMosaic.Lib.KernelVsHost

@[expose] public section
set_option maxRecDepth 16384
noncomputable section

/-! The bias table that the neighbourhood attention's host code lays out: the column table, and one part of it (one
    query row's run of nine key rows), read at an index. -/

namespace Cert.KernelIdeal.Gen
open Idealize.ShloMosaic Idealize.ShloMosaic.TcCoe Idealize.ShloMosaic.Tactic Idealize.SL.Sem Idealize.ShloMosaic.StableHlo
open Idealize.ShloMosaic.ValueIdx Cert.Soft Cert.GatherAt

theorem ofBits_one : Ideal.ofBits .f32 0x3F800000#32 = 1 := by simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_bot : Ideal.ofBits .f32 0xFF800000#32 = ⊥ := by simp [Ideal.ofBits, Ideal.ieee]

/-- The host's `1 / log 2`. -/
def hostC : FVec Ideal S_ .f32 := Host.divf (constant S_ .f32 0x3F800000#32) (Host.log (constant S_ .f32 0x40000000#32))

theorem hostC_apply (i : S_.Idx) : hostC i = (cE : EReal) := by
  show Ideal.div (Ideal.ofBits .f32 0x3F800000#32) (Ideal.log (Ideal.ofBits .f32 0x40000000#32)) = _
  rw [ofBits_one, ofBits_two]
  exact div_log_two

/-- `-∞` as the host states it. -/
def hostBot : FVec Ideal S_ .f32 := constant S_ .f32 0xFF800000#32

theorem hostBot_apply (i : S_.Idx) : hostBot i = (⊥ : EReal) := ofBits_bot

/-- The start indices of the column gather. -/
def startIx : IVec S64x64x1 32 :=
  broadcastInDim S64x64x1 ![0, 1] bcast_S64x64_S64x64x1_0_1
    (select (constantI S64x64 1 0#1 : IVec S64x64 1)
      (addi (fun i => lit0 (S64x64.rowMajor i)) (broadcastInDim S64x64 ![] bcast_S_S64x64 (constantI S_ 32 31#32)))
      (fun i => lit0 (S64x64.rowMajor i)))

theorem startIx_apply (c j : Fin 64) (e : Fin 1) : startIx (ix3 c j e) = BitVec.ofNat 32 (colIx c.val j.val).val := by
  unfold startIx
  refine (broadcastInDim_apply _ bcast_S64x64_S64x64x1_0_1 _ (ix3 c j e) (ix2 c j) fun a => ?_).trans ?_
  · match a with
    | ⟨0, _⟩ => rfl
    | ⟨1, _⟩ => rfl
  · rw [select_apply]
    refine (select_zero _ _).trans ((lit0_eq _).trans ?_)
    have h : (S64x64.rowMajor (ix2 c j)).val = c.val * 64 + j.val := Shape.rowMajor_val_two _
    have h1 : (c.val * 64 + j.val) / 64 = c.val := by omega
    have h2 : (c.val * 64 + j.val) % 64 = j.val := by omega
    simp only [h, h1, h2]

theorem colMask_apply (c j : Fin 64) :
    lit1 (S64x64.rowMajor (ix2 c j)) = if colOk c.val j.val then 1#1 else 0#1 := by
  have h : (S64x64.rowMajor (ix2 c j)).val = c.val * 64 + j.val := Shape.rowMajor_val_two _
  have h1 : (c.val * 64 + j.val) / 64 = c.val := by omega
  have h2 : (c.val * 64 + j.val) % 64 = j.val := by omega
  refine (lit1_eq _).trans ?_
  simp only [h, h1, h2]

/-- The column gather read at an index: the bias of head `h` and row `i` at the column the start index names. -/
theorem colGather_apply (x : FVec Ideal S16x15x31 .f32) (h : Fin 16) (i : Fin 15) (c j : Fin 64) :
    Host.gather gather_S16x15x31_S64x64x1_S16x15x64x64_01_2_n_n_2_2_16151 x startIx (ix4 h i c j)
      = x (ix3 h i (colIx c.val j.val)) := by
  refine gather_at _ rfl x startIx (ix4 h i c j) _ fun a => ?_
  match a with
  | ⟨0, _⟩ =>
    show GatherDims.start gather_S16x15x31_S64x64x1_S16x15x64x64_01_2_n_n_2_2_16151 _ _ (0 : Fin 3)
      + GatherDims.offCoord gather_S16x15x31_S64x64x1_S16x15x64x64_01_2_n_n_2_2_16151 _ (0 : Fin 3) = _
    rw [start_none _ _ _ _ (by decide), off_some _ _ _ 0 (by decide) (by decide) 0 rfl]
    exact Nat.zero_add _
  | ⟨1, _⟩ =>
    show GatherDims.start gather_S16x15x31_S64x64x1_S16x15x64x64_01_2_n_n_2_2_16151 _ _ (1 : Fin 3)
      + GatherDims.offCoord gather_S16x15x31_S64x64x1_S16x15x64x64_01_2_n_n_2_2_16151 _ (1 : Fin 3) = _
    rw [start_none _ _ _ _ (by decide), off_some _ _ _ 1 (by decide) (by decide) 1 rfl]
    exact Nat.zero_add _
  | ⟨2, _⟩ =>
    show GatherDims.start gather_S16x15x31_S64x64x1_S16x15x64x64_01_2_n_n_2_2_16151 _ _ (2 : Fin 3)
      + GatherDims.offCoord gather_S16x15x31_S64x64x1_S16x15x64x64_01_2_n_n_2_2_16151 _ (2 : Fin 3) = _
    rw [off_none _ _ _ (by decide), Nat.add_zero]
    refine (start_some gather_S16x15x31_S64x64x1_S16x15x64x64_01_2_n_n_2_2_16151 (ix4 h i c j) startIx (2 : Fin 3) ⟨0, by decide⟩ (by decide) (ix3 c j (0 : Fin 1)) ?_).trans ?_
    · funext b; refine Fin.ext ?_
      match b with
      | ⟨0, _⟩ => rfl
      | ⟨1, _⟩ => rfl
      | ⟨2, _⟩ => rfl
    · have hlt := (colIx c.val j.val).isLt
      rw [startIx_apply, toNat_ofNat _ (by omega)]
      show min _ (31 - 1) = _
      exact Nat.min_eq_left (by omega)

/-- The column table: the biases of every key column against every query column in base two, `⊥` outside the window,
    with nine rows of `⊥` before and after. -/
def tab (x : FVec Ideal S16x15x31 .f32) : FVec Ideal S16x33x64x64 .f32 :=
  pad S16x33x64x64 ![0, 9, 0, 0] ![0, 9, 0, 0] ![0, 0, 0, 0]
    (select
      (broadcastInDim S16x15x64x64 ![0, 1, 2, 3] bcast_S1x1x64x64_S16x15x64x64_0_1_2_3
        (broadcastInDim S1x1x64x64 ![2, 3] bcast_S64x64_S1x1x64x64_2_3 (fun i => lit1 (S64x64.rowMajor i)) : IVec S1x1x64x64 1))
      (mulf (Host.gather gather_S16x15x31_S64x64x1_S16x15x64x64_01_2_n_n_2_2_16151 x startIx : FVec Ideal S16x15x64x64 .f32)
        (broadcastInDim S16x15x64x64 ![] bcast_S_S16x15x64x64 hostC : FVec Ideal S16x15x64x64 .f32))
      (broadcastInDim S16x15x64x64 ![] bcast_S_S16x15x64x64 hostBot))
    hostBot pads_S16x15x64x64_S16x33x64x64_000_990_000_000 h_S_

theorem tab_apply (x : FVec Ideal S16x15x31 .f32) (h : Fin 16) (i : Fin 15) (r : Fin 33) (hr : r.val = 9 + i.val) (c j : Fin 64) :
    tab x (ix4 h r c j) = if colOk c.val j.val then x (ix3 h i (colIx c.val j.val)) * (cE : EReal) else ⊥ := by
  unfold tab
  refine (pad_apply_of_inside _ _ _ _ _ _ h_S_ (ix4 h r c j) (ix4 h i c j) fun a => ?_).trans ?_
  · match a with
    | ⟨0, _⟩ => show h.val = 0 + h.val * 1; omega
    | ⟨1, _⟩ => show r.val = 9 + i.val * 1; omega
    | ⟨2, _⟩ => show c.val = 0 + c.val * 1; omega
    | ⟨3, _⟩ => show j.val = 0 + j.val * 1; omega
  · rw [select_apply]
    have hm : broadcastInDim S16x15x64x64 ![0, 1, 2, 3] bcast_S1x1x64x64_S16x15x64x64_0_1_2_3
        (broadcastInDim S1x1x64x64 ![2, 3] bcast_S64x64_S1x1x64x64_2_3 (fun i => lit1 (S64x64.rowMajor i)) : IVec S1x1x64x64 1)
          (ix4 h i c j) = if colOk c.val j.val then 1#1 else 0#1 := by
      refine (broadcastInDim_apply _ bcast_S1x1x64x64_S16x15x64x64_0_1_2_3 _ (ix4 h i c j) (ix4 (0 : Fin 1) (0 : Fin 1) c j) fun a => ?_).trans ?_
      · match a with
        | ⟨0, _⟩ => rfl
        | ⟨1, _⟩ => rfl
        | ⟨2, _⟩ => rfl
        | ⟨3, _⟩ => rfl
      · refine (broadcastInDim_apply _ bcast_S64x64_S1x1x64x64_2_3 _ (ix4 (0 : Fin 1) (0 : Fin 1) c j) (ix2 c j) fun a => ?_).trans ?_
        · match a with
          | ⟨0, _⟩ => rfl
          | ⟨1, _⟩ => rfl
        · exact colMask_apply c j
    rw [hm]
    by_cases hc : colOk c.val j.val
    · rw [if_pos hc, if_pos hc, select_one, mulf_apply, colGather_apply]
      congr 1
      exact (broadcastInDim_apply _ bcast_S_S16x15x64x64 hostC (ix4 h i c j) (fun a => a.elim0) (fun a => a.elim0)).trans (hostC_apply _)
    · rw [if_neg hc, if_neg hc, select_zero]
      exact (broadcastInDim_apply _ bcast_S_S16x15x64x64 hostBot (ix4 h i c j) (fun a => a.elim0) (fun a => a.elim0)).trans (hostBot_apply _)

/-- One query row's part of the table: nine rows of the column table from `off`, those outside the mask `⊥`, laid out
    by head, query column, and key row and column together. -/
def part (mask : Fin 9 → BitVec 1) (off : Fin 4 → Nat) (hs : S16x33x64x64.Slices off S16x9x64x64)
    (T : FVec Ideal S16x33x64x64 .f32) : FVec Ideal S16x64x576 .f32 :=
  shapeCast S16x64x576
    (transpose S16x64x9x64 [0, 2, 1, 3]
      (select
        (broadcastInDim S16x9x64x64 ![0, 1, 2, 3] bcast_S1x9x1x1_S16x9x64x64_0_1_2_3
          (broadcastInDim S1x9x1x1 ![1] bcast_S9_S1x9x1x1_1 (fun i => mask (S9.rowMajor i)) : IVec S1x9x1x1 1))
        (extractStridedSlice S16x9x64x64 off T hs)
        (broadcastInDim S16x9x64x64 ![] bcast_S_S16x9x64x64 hostBot))
      transposes_S16x9x64x64_S16x64x9x64_0_2_1_3)
    shapeCasts_S16x64x9x64_S16x64x576

theorem part_apply (mask : Fin 9 → BitVec 1) (o : Nat) (hs : S16x33x64x64.Slices ![0, o, 0, 0] S16x9x64x64)
    (T : FVec Ideal S16x33x64x64 .f32) (h : Fin 16) (c : Fin 64) (k : Fin 576) (i : Fin 9) (j : Fin 64)
    (hk : k.val = i.val * 64 + j.val) (r : Fin 33) (hr : r.val = o + i.val) :
    part mask ![0, o, 0, 0] hs T (ix3 h c k) = Scalar.select (mask i) (T (ix4 h r c j)) ⊥ := by
  unfold part
  refine (shapeCast_apply _ _ (ix3 h c k) (ix4 h c i j) ?_).trans ?_
  · rw [Shape.rowMajor_val_three, Shape.rowMajor_val_four]
    show ((h.val * 64 + c.val) * 9 + i.val) * 64 + j.val = (h.val * 64 + c.val) * 576 + k.val
    omega
  refine (transpose_apply _ _ _ (ix4 h c i j) (ix4 h i c j) fun a => ?_).trans ?_
  · match a with
    | ⟨0, _⟩ => rfl
    | ⟨1, _⟩ => rfl
    | ⟨2, _⟩ => rfl
    | ⟨3, _⟩ => rfl
  rw [select_apply]
  refine congr (congr (congrArg Scalar.select ?_) ?_) ?_
  · refine (broadcastInDim_apply _ bcast_S1x9x1x1_S16x9x64x64_0_1_2_3 _ (ix4 h i c j) (ix4 (0 : Fin 1) i (0 : Fin 1) (0 : Fin 1)) fun a => ?_).trans ?_
    · match a with
      | ⟨0, _⟩ => rfl
      | ⟨1, _⟩ => rfl
      | ⟨2, _⟩ => rfl
      | ⟨3, _⟩ => rfl
    · refine (broadcastInDim_apply _ bcast_S9_S1x9x1x1_1 _ (ix4 (0 : Fin 1) i (0 : Fin 1) (0 : Fin 1)) (ix1 i) fun a => ?_).trans ?_
      · match a with
        | ⟨0, _⟩ => rfl
      · show mask (S9.rowMajor (ix1 i)) = mask i
        exact congrArg mask (Fin.ext (Shape.rowMajor_val_one _))
  · refine extractStridedSlice_apply _ T hs (ix4 h i c j) (ix4 h r c j) fun a => ?_
    match a with
    | ⟨0, _⟩ => show h.val = 0 + h.val; omega
    | ⟨1, _⟩ => exact hr
    | ⟨2, _⟩ => show c.val = 0 + c.val; omega
    | ⟨3, _⟩ => show j.val = 0 + j.val; omega
  · exact (broadcastInDim_apply _ bcast_S_S16x9x64x64 hostBot (ix4 h i c j) (fun a => a.elim0) (fun a => a.elim0)).trans (hostBot_apply _)

end Cert.KernelIdeal.Gen

end
-- ==== Proof.NaHost.lean ====
module

public import proofs.«01_k».proof.Proof.NaTable
public import Idealize.ShloMosaic.Lib.StableHlo.RunRead
public import Idealize.ShloMosaic.PureOps.Ideal.Laws

@[expose] public section
set_option maxRecDepth 16384
noncomputable section

/-! What the neighbourhood attention's host code hands the kernel, as terms of the arguments. -/

namespace Cert.KernelIdeal.Gen
open Idealize.ShloMosaic Idealize.ShloMosaic.TcCoe Idealize.ShloMosaic.Tactic Idealize.SL.Sem Idealize.ShloMosaic.StableHlo

/-- Two arrays of 2048 columns side by side. -/
def side (a b : FVec Ideal S16384x2048 .f32) : FVec Ideal S16384x4096 .f32 :=
  concatenate S16384x4096 1 [⟨S16384x2048, a⟩, ⟨S16384x2048, b⟩] concatenates_S16384x2048_S16384x2048_S16384x4096_d1

/-- Two context arrays side by side. -/
def sideCtx (a b : FVec Ideal S256x2048 .f32) : FVec Ideal S256x4096 .f32 :=
  concatenate S256x4096 1 [⟨S256x2048, a⟩, ⟨S256x2048, b⟩] concatenates_S256x2048_S256x2048_S256x4096_d1

/-- The queries scaled, and scaled into base two. -/
def qScaled (q : FVec Ideal S1x16384x16x128 .f32) : FVec Ideal S16384x2048 .f32 :=
  mulf (mulf (shapeCast S16384x2048 q shapeCasts_S1x16384x16x128_S16384x2048)
      (broadcastInDim S16384x2048 ![] bcast_S_S16384x2048 (constant S_ .f32 0x3DB504F3#32 : FVec Ideal S_ .f32)))
    (broadcastInDim S16384x2048 ![] bcast_S_S16384x2048 hostC)

/-- Two query rows' parts, one under the other. -/
def pair (a b : FVec Ideal S16x64x576 .f32) : FVec Ideal S16x128x576 .f32 :=
  concatenate S16x128x576 1 [⟨S16x64x576, a⟩, ⟨S16x64x576, b⟩] concatenates_S16x64x576_S16x64x576_S16x128x576_d1

/-- The five variants stacked. -/
def five (u : Fin 5 → FVec Ideal S16x128x576 .f32) : FVec Ideal S5x16x128x576 .f32 :=
  concatenate S5x16x128x576 0
    [⟨S1x16x128x576, broadcastInDim S1x16x128x576 ![1, 2, 3] bcast_S16x128x576_S1x16x128x576_1_2_3 (u 0)⟩,
     ⟨S1x16x128x576, broadcastInDim S1x16x128x576 ![1, 2, 3] bcast_S16x128x576_S1x16x128x576_1_2_3 (u 1)⟩,
     ⟨S1x16x128x576, broadcastInDim S1x16x128x576 ![1, 2, 3] bcast_S16x128x576_S1x16x128x576_1_2_3 (u 2)⟩,
     ⟨S1x16x128x576, broadcastInDim S1x16x128x576 ![1, 2, 3] bcast_S16x128x576_S1x16x128x576_1_2_3 (u 3)⟩,
     ⟨S1x16x128x576, broadcastInDim S1x16x128x576 ![1, 2, 3] bcast_S16x128x576_S1x16x128x576_1_2_3 (u 4)⟩]
    concatenates_S1x16x128x576_S1x16x128x576_S1x16x128x576_S1x16x128x576_S1x16x128x576_S5x16x128x576_d0

variable (m : (ℓ : Loc nD τ sig) → Buf (Elt Ideal) ℓ)

/-- The bias argument as launched. -/
abbrev rpb (c : Dev nD) : FVec Ideal S16x15x31 .f32 := m (c, Proc.tc.devRef main_arg5)

theorem V_v34 (c : Dev nD) : V m c main_v34 = part lit2 ![0, 16, 0, 0] slices_S16x33x64x64_S16x9x64x64_0_16_0_0 (tab (rpb m c)) := by
  unfold_abbrev_sides
  after_reads_simp
  rfl

theorem V_v39 (c : Dev nD) : V m c main_v39 = part lit3 ![0, 15, 0, 0] slices_S16x33x64x64_S16x9x64x64_0_15_0_0 (tab (rpb m c)) := by
  unfold_abbrev_sides
  after_reads_simp
  rfl

theorem V_v45 (c : Dev nD) : V m c main_v45 = part lit4 ![0, 14, 0, 0] slices_S16x33x64x64_S16x9x64x64_0_14_0_0 (tab (rpb m c)) := by
  unfold_abbrev_sides
  after_reads_simp
  rfl

theorem V_v50 (c : Dev nD) : V m c main_v50 = part lit5 ![0, 13, 0, 0] slices_S16x33x64x64_S16x9x64x64_0_13_0_0 (tab (rpb m c)) := by
  unfold_abbrev_sides
  after_reads_simp
  rfl

theorem V_v56 (c : Dev nD) : V m c main_v56 = part lit6 ![0, 12, 0, 0] slices_S16x33x64x64_S16x9x64x64_0_12_0_0 (tab (rpb m c)) := by
  unfold_abbrev_sides
  after_reads_simp
  rfl

theorem V_v61 (c : Dev nD) : V m c main_v61 = part lit7 ![0, 11, 0, 0] slices_S16x33x64x64_S16x9x64x64_0_11_0_0 (tab (rpb m c)) := by
  unfold_abbrev_sides
  after_reads_simp
  rfl

theorem V_v67 (c : Dev nD) : V m c main_v67 = part lit8 ![0, 11, 0, 0] slices_S16x33x64x64_S16x9x64x64_0_11_0_0 (tab (rpb m c)) := by
  unfold_abbrev_sides
  after_reads_simp
  rfl

theorem V_v72 (c : Dev nD) : V m c main_v72 = part lit9 ![0, 10, 0, 0] slices_S16x33x64x64_S16x9x64x64_0_10_0_0 (tab (rpb m c)) := by
  unfold_abbrev_sides
  after_reads_simp
  rfl

theorem V_v78 (c : Dev nD) : V m c main_v78 = part lit10 ![0, 9, 0, 0] slices_S16x33x64x64_S16x9x64x64_0_9_0_0 (tab (rpb m c)) := by
  unfold_abbrev_sides
  after_reads_simp
  rfl

theorem V_v83 (c : Dev nD) : V m c main_v83 = part lit11 ![0, 8, 0, 0] slices_S16x33x64x64_S16x9x64x64_0_8_0_0 (tab (rpb m c)) := by
  unfold_abbrev_sides
  after_reads_simp
  rfl

theorem V_v40 (c : Dev nD) : V m c main_v40 = pair (V m c main_v34) (V m c main_v39) := by
  unfold_abbrev_sides
  after_reads_simp
  unfold pair
  exact congrArg₂ (fun a b => concatenate S16x128x576 1 [⟨S16x64x576, a⟩, ⟨S16x64x576, b⟩]
    concatenates_S16x64x576_S16x64x576_S16x128x576_d1) (by after_reads_simp) (by after_reads_simp)

theorem V_v51 (c : Dev nD) : V m c main_v51 = pair (V m c main_v45) (V m c main_v50) := by
  unfold_abbrev_sides
  after_reads_simp
  unfold pair
  exact congrArg₂ (fun a b => concatenate S16x128x576 1 [⟨S16x64x576, a⟩, ⟨S16x64x576, b⟩]
    concatenates_S16x64x576_S16x64x576_S16x128x576_d1) (by after_reads_simp) (by after_reads_simp)

theorem V_v62 (c : Dev nD) : V m c main_v62 = pair (V m c main_v56) (V m c main_v61) := by
  unfold_abbrev_sides
  after_reads_simp
  unfold pair
  exact congrArg₂ (fun a b => concatenate S16x128x576 1 [⟨S16x64x576, a⟩, ⟨S16x64x576, b⟩]
    concatenates_S16x64x576_S16x64x576_S16x128x576_d1) (by after_reads_simp) (by after_reads_simp)

theorem V_v73 (c : Dev nD) : V m c main_v73 = pair (V m c main_v67) (V m c main_v72) := by
  unfold_abbrev_sides
  after_reads_simp
  unfold pair
  exact congrArg₂ (fun a b => concatenate S16x128x576 1 [⟨S16x64x576, a⟩, ⟨S16x64x576, b⟩]
    concatenates_S16x64x576_S16x64x576_S16x128x576_d1) (by after_reads_simp) (by after_reads_simp)

theorem V_v84 (c : Dev nD) : V m c main_v84 = pair (V m c main_v78) (V m c main_v83) := by
  unfold_abbrev_sides
  after_reads_simp
  unfold pair
  exact congrArg₂ (fun a b => concatenate S16x128x576 1 [⟨S16x64x576, a⟩, ⟨S16x64x576, b⟩]
    concatenates_S16x64x576_S16x64x576_S16x128x576_d1) (by after_reads_simp) (by after_reads_simp)

/-- The query and key rows the kernel reads. -/
theorem V_v9 (c : Dev nD) : V m c main_v9 = truncf .bf16 (side (qScaled (m (c, Proc.tc.devRef main_arg0)))
    (shapeCast S16384x2048 (m (c, Proc.tc.devRef main_arg1)) shapeCasts_S1x16384x16x128_S16384x2048)) bitsLt_bf16_f32 := by
  unfold_abbrev_sides
  after_reads_simp
  unfold side
  exact congrArg (fun x => truncf .bf16 x bitsLt_bf16_f32) (congrArg₂ (fun a b => concatenate S16384x4096 1
    [⟨S16384x2048, a⟩, ⟨S16384x2048, b⟩] concatenates_S16384x2048_S16384x2048_S16384x4096_d1)
    (by after_reads_simp; rfl) (by after_reads_simp; rfl))

/-- The value rows. -/
theorem V_v11 (c : Dev nD) : V m c main_v11 = (truncf (F := Ideal) .bf16 (shapeCast S16384x2048
    (m (c, Proc.tc.devRef main_arg2) : FVec Ideal S1x16384x16x128 .f32) shapeCasts_S1x16384x16x128_S16384x2048) bitsLt_bf16_f32 : FVec Ideal S16384x2048 .bf16) := by
  unfold_abbrev_sides
  after_reads_simp
  rfl

/-- The context's keys, to the right of zeros. -/
theorem V_v15 (c : Dev nD) : V m c main_v15 = truncf .bf16 (sideCtx
    (broadcastInDim S256x2048 ![] bcast_S_S256x2048 (constant S_ .f32 0x00000000#32 : FVec Ideal S_ .f32))
    (shapeCast S256x2048 (m (c, Proc.tc.devRef main_arg3)) shapeCasts_S1x256x16x128_S256x2048)) bitsLt_bf16_f32 := by
  unfold_abbrev_sides
  after_reads_simp
  unfold sideCtx
  exact congrArg (fun x => truncf .bf16 x bitsLt_bf16_f32) (congrArg₂ (fun a b => concatenate S256x4096 1
    [⟨S256x2048, a⟩, ⟨S256x2048, b⟩] concatenates_S256x2048_S256x2048_S256x4096_d1)
    (by after_reads_simp) (by after_reads_simp; rfl))

/-- The context's values. -/
theorem V_v17 (c : Dev nD) : V m c main_v17 = (truncf (F := Ideal) .bf16 (shapeCast S256x2048
    (m (c, Proc.tc.devRef main_arg4) : FVec Ideal S1x256x16x128 .f32) shapeCasts_S1x256x16x128_S256x2048) bitsLt_bf16_f32 : FVec Ideal S256x2048 .bf16) := by
  unfold_abbrev_sides
  after_reads_simp
  rfl

theorem five_congr {a0 a1 a2 a3 a4 b0 b1 b2 b3 b4 : FVec Ideal S1x16x128x576 .f32} (h0 : a0 = b0) (h1 : a1 = b1)
    (h2 : a2 = b2) (h3 : a3 = b3) (h4 : a4 = b4) :
    concatenate S5x16x128x576 0 [⟨S1x16x128x576, a0⟩, ⟨S1x16x128x576, a1⟩, ⟨S1x16x128x576, a2⟩, ⟨S1x16x128x576, a3⟩,
      ⟨S1x16x128x576, a4⟩] concatenates_S1x16x128x576_S1x16x128x576_S1x16x128x576_S1x16x128x576_S1x16x128x576_S5x16x128x576_d0
    = concatenate S5x16x128x576 0 [⟨S1x16x128x576, b0⟩, ⟨S1x16x128x576, b1⟩, ⟨S1x16x128x576, b2⟩, ⟨S1x16x128x576, b3⟩,
      ⟨S1x16x128x576, b4⟩] concatenates_S1x16x128x576_S1x16x128x576_S1x16x128x576_S1x16x128x576_S1x16x128x576_S5x16x128x576_d0 := by
  subst h0 h1 h2 h3 h4; rfl

theorem V_v85 (c : Dev nD) : V m c main_v85
    = broadcastInDim S1x16x128x576 ![1, 2, 3] bcast_S16x128x576_S1x16x128x576_1_2_3 (V m c main_v40) := by
  unfold_abbrev_sides
  after_reads_simp

theorem V_v86 (c : Dev nD) : V m c main_v86
    = broadcastInDim S1x16x128x576 ![1, 2, 3] bcast_S16x128x576_S1x16x128x576_1_2_3 (V m c main_v51) := by
  unfold_abbrev_sides
  after_reads_simp

theorem V_v87 (c : Dev nD) : V m c main_v87
    = broadcastInDim S1x16x128x576 ![1, 2, 3] bcast_S16x128x576_S1x16x128x576_1_2_3 (V m c main_v62) := by
  unfold_abbrev_sides
  after_reads_simp

theorem V_v88 (c : Dev nD) : V m c main_v88
    = broadcastInDim S1x16x128x576 ![1, 2, 3] bcast_S16x128x576_S1x16x128x576_1_2_3 (V m c main_v73) := by
  unfold_abbrev_sides
  after_reads_simp

theorem V_v89 (c : Dev nD) : V m c main_v89
    = broadcastInDim S1x16x128x576 ![1, 2, 3] bcast_S16x128x576_S1x16x128x576_1_2_3 (V m c main_v84) := by
  unfold_abbrev_sides
  after_reads_simp

theorem V_v90 (c : Dev nD) : V m c main_v90 = five (fun i => match i with
    | 0 => V m c main_v40 | 1 => V m c main_v51 | 2 => V m c main_v62 | 3 => V m c main_v73 | 4 => V m c main_v84) := by
  have h : V m c main_v90 = concatenate S5x16x128x576 0 [⟨S1x16x128x576, V m c main_v85⟩, ⟨S1x16x128x576, V m c main_v86⟩,
      ⟨S1x16x128x576, V m c main_v87⟩, ⟨S1x16x128x576, V m c main_v88⟩, ⟨S1x16x128x576, V m c main_v89⟩]
      concatenates_S1x16x128x576_S1x16x128x576_S1x16x128x576_S1x16x128x576_S1x16x128x576_S5x16x128x576_d0 := by
    unfold_abbrev_sides
    after_reads_simp
    refine five_congr ?_ ?_ ?_ ?_ ?_
    · show upto _ _ _ (Proc.tc.devRef main_v85) = _
      after_reads_simp
    · show upto _ _ _ (Proc.tc.devRef main_v86) = _
      after_reads_simp
    · show upto _ _ _ (Proc.tc.devRef main_v87) = _
      after_reads_simp
    · show upto _ _ _ (Proc.tc.devRef main_v88) = _
      after_reads_simp
    · show upto _ _ _ (Proc.tc.devRef main_v89) = _
      after_reads_simp
  rw [h, V_v85, V_v86, V_v87, V_v88, V_v89]
  rfl

/-- The bias table the kernel reads: the stacked variants with zeros for the context before them. -/
theorem V_v91 (c : Dev nD) : V m c main_v91 = (pad S5x16x128x832 ![0, 0, 0, 256] ![0, 0, 0, 0] ![0, 0, 0, 0]
    (V m c main_v90 : FVec Ideal S5x16x128x576 .f32)
    (sitofp .f32 (constantI S_ 32 0#32) : FVec Ideal S_ .f32) pads_S5x16x128x576_S5x16x128x832_000_000_000_25600 h_S_
      : FVec Ideal S5x16x128x832 .f32) := by
  unfold_abbrev_sides
  after_reads_simp
  refine congrArg (fun x : FVec Ideal S5x16x128x576 .f32 => pad S5x16x128x832 ![0, 0, 0, 256] ![0, 0, 0, 0] ![0, 0, 0, 0] x
    (sitofp .f32 (constantI S_ 32 0#32) : FVec Ideal S_ .f32) pads_S5x16x128x576_S5x16x128x832_000_000_000_25600 h_S_) ?_
  rfl

end Cert.KernelIdeal.Gen

end
-- ==== Proof.NaBias.lean ====
module

public import proofs.«01_k».proof.Proof.NaHost

@[expose] public section
set_option maxRecDepth 16384
noncomputable section

/-! The bias table read at an index: for each variant and query row, zeros over the context, the scaled bias over the
    eight window rows, and `⊥` elsewhere. -/

namespace Cert.KernelIdeal.Gen
open Idealize.ShloMosaic Idealize.ShloMosaic.TcCoe Idealize.ShloMosaic.Tactic Idealize.SL.Sem Idealize.ShloMosaic.StableHlo
open Idealize.ShloMosaic.ValueIdx Cert.Soft Cert.GatherAt

theorem pair_apply (a b : FVec Ideal S16x64x576 .f32) (h : Fin 16) (r : Fin 128) (e : Fin 2) (c : Fin 64) (k : Fin 576)
    (hr : r.val = 64 * e.val + c.val) : pair a b (ix3 h r k) = (if e = 0 then a else b) (ix3 h c k) := by
  unfold pair
  match e with
  | ⟨0, _⟩ =>
    refine concatenate_pair_apply_left (1 : Fin 3) a b _ (ix3 h r k) rfl (ix3 h c k) fun x => ?_
    match x with
    | ⟨0, _⟩ => rfl
    | ⟨1, _⟩ => show c.val = r.val; simp at hr; omega
    | ⟨2, _⟩ => rfl
  | ⟨1, _⟩ =>
    refine concatenate_pair_apply_right (1 : Fin 3) a b _ (ix3 h r k) rfl rfl (ix3 h c k) (fun x hx => ?_) ?_
    · match x with
      | ⟨0, _⟩ => rfl
      | ⟨1, _⟩ => exact absurd rfl hx
      | ⟨2, _⟩ => rfl
    · show c.val + 64 = r.val
      simp at hr; omega

theorem five_apply (u : Fin 5 → FVec Ideal S16x128x576 .f32) (v : Fin 5) (h : Fin 16) (r : Fin 128) (k : Fin 576) :
    five u (ix4 v h r k) = u v (ix3 h r k) := by
  unfold five
  have hb : ∀ w : FVec Ideal S16x128x576 .f32, broadcastInDim S1x16x128x576 ![1, 2, 3] bcast_S16x128x576_S1x16x128x576_1_2_3 w
      (ix4 (0 : Fin 1) h r k) = w (ix3 h r k) := fun w => by
    refine broadcastInDim_apply _ bcast_S16x128x576_S1x16x128x576_1_2_3 _ _ _ fun a => ?_
    match a with
    | ⟨0, _⟩ => rfl
    | ⟨1, _⟩ => rfl
    | ⟨2, _⟩ => rfl
  match v with
  | ⟨0, _⟩ =>
    refine Eq.trans (concatenate_apply_piece (0 : Fin 4) _ _ (ix4 (⟨0, by omega⟩ : Fin 5) h r k) 0 (by show 0 < 5; decide) S1x16x128x576 _ rfl rfl 0 rfl
      (ix4 (0 : Fin 1) h r k) (fun x hx => ?_) rfl) (hb _)
    match x with
    | ⟨0, _⟩ => exact absurd rfl hx
    | ⟨1, _⟩ => rfl
    | ⟨2, _⟩ => rfl
    | ⟨3, _⟩ => rfl
  | ⟨1, _⟩ =>
    refine Eq.trans (concatenate_apply_piece (0 : Fin 4) _ _ (ix4 (⟨1, by omega⟩ : Fin 5) h r k) 1 (by show 1 < 5; decide) S1x16x128x576 _ rfl rfl 1 rfl
      (ix4 (0 : Fin 1) h r k) (fun x hx => ?_) rfl) (hb _)
    match x with
    | ⟨0, _⟩ => exact absurd rfl hx
    | ⟨1, _⟩ => rfl
    | ⟨2, _⟩ => rfl
    | ⟨3, _⟩ => rfl
  | ⟨2, _⟩ =>
    refine Eq.trans (concatenate_apply_piece (0 : Fin 4) _ _ (ix4 (⟨2, by omega⟩ : Fin 5) h r k) 2 (by show 2 < 5; decide) S1x16x128x576 _ rfl rfl 2 rfl
      (ix4 (0 : Fin 1) h r k) (fun x hx => ?_) rfl) (hb _)
    match x with
    | ⟨0, _⟩ => exact absurd rfl hx
    | ⟨1, _⟩ => rfl
    | ⟨2, _⟩ => rfl
    | ⟨3, _⟩ => rfl
  | ⟨3, _⟩ =>
    refine Eq.trans (concatenate_apply_piece (0 : Fin 4) _ _ (ix4 (⟨3, by omega⟩ : Fin 5) h r k) 3 (by show 3 < 5; decide) S1x16x128x576 _ rfl rfl 3 rfl
      (ix4 (0 : Fin 1) h r k) (fun x hx => ?_) rfl) (hb _)
    match x with
    | ⟨0, _⟩ => exact absurd rfl hx
    | ⟨1, _⟩ => rfl
    | ⟨2, _⟩ => rfl
    | ⟨3, _⟩ => rfl
  | ⟨4, _⟩ =>
    refine Eq.trans (concatenate_apply_piece (0 : Fin 4) _ _ (ix4 (⟨4, by omega⟩ : Fin 5) h r k) 4 (by show 4 < 5; decide) S1x16x128x576 _ rfl rfl 4 rfl
      (ix4 (0 : Fin 1) h r k) (fun x hx => ?_) rfl) (hb _)
    match x with
    | ⟨0, _⟩ => exact absurd rfl hx
    | ⟨1, _⟩ => rfl
    | ⟨2, _⟩ => rfl
    | ⟨3, _⟩ => rfl

/-- One variant's part for one of its two query rows. -/
def partOf (T : FVec Ideal S16x33x64x64 .f32) (v : Fin 5) (e : Fin 2) : FVec Ideal S16x64x576 .f32 :=
  match v, e with
  | 0, 0 => part lit2 ![0, 16, 0, 0] slices_S16x33x64x64_S16x9x64x64_0_16_0_0 T
  | 0, 1 => part lit3 ![0, 15, 0, 0] slices_S16x33x64x64_S16x9x64x64_0_15_0_0 T
  | 1, 0 => part lit4 ![0, 14, 0, 0] slices_S16x33x64x64_S16x9x64x64_0_14_0_0 T
  | 1, 1 => part lit5 ![0, 13, 0, 0] slices_S16x33x64x64_S16x9x64x64_0_13_0_0 T
  | 2, 0 => part lit6 ![0, 12, 0, 0] slices_S16x33x64x64_S16x9x64x64_0_12_0_0 T
  | 2, 1 => part lit7 ![0, 11, 0, 0] slices_S16x33x64x64_S16x9x64x64_0_11_0_0 T
  | 3, 0 => part lit8 ![0, 11, 0, 0] slices_S16x33x64x64_S16x9x64x64_0_11_0_0 T
  | 3, 1 => part lit9 ![0, 10, 0, 0] slices_S16x33x64x64_S16x9x64x64_0_10_0_0 T
  | 4, 0 => part lit10 ![0, 9, 0, 0] slices_S16x33x64x64_S16x9x64x64_0_9_0_0 T
  | 4, 1 => part lit11 ![0, 8, 0, 0] slices_S16x33x64x64_S16x9x64x64_0_8_0_0 T

/-- Where the eight window rows begin among a part's nine. -/
def slabOff (v : Fin 5) (e : Fin 2) : Nat := if v.val ≤ 1 then 0 else if v.val = 2 then e.val else 1

/-- The bias row of a query row's first window row. -/
def biasRow (v : Fin 5) (e : Fin 2) : Nat := if v.val ≤ 1 then 7 - (2 * v.val + e.val) else if v.val = 2 then 3 else 9 - (2 * v.val + e.val)

theorem biasRow_le (v : Fin 5) (e : Fin 2) : biasRow v e ≤ 7 := by revert v e; decide

theorem lit2_in : ∀ w : Fin 8, lit2 ⟨0 + w.val, by omega⟩ = 1#1 := by decide
theorem lit3_in : ∀ w : Fin 8, lit3 ⟨0 + w.val, by omega⟩ = 1#1 := by decide
theorem lit4_in : ∀ w : Fin 8, lit4 ⟨0 + w.val, by omega⟩ = 1#1 := by decide
theorem lit5_in : ∀ w : Fin 8, lit5 ⟨0 + w.val, by omega⟩ = 1#1 := by decide
theorem lit6_in : ∀ w : Fin 8, lit6 ⟨0 + w.val, by omega⟩ = 1#1 := by decide
theorem lit7_in : ∀ w : Fin 8, lit7 ⟨1 + w.val, by omega⟩ = 1#1 := by decide
theorem lit8_in : ∀ w : Fin 8, lit8 ⟨1 + w.val, by omega⟩ = 1#1 := by decide
theorem lit9_in : ∀ w : Fin 8, lit9 ⟨1 + w.val, by omega⟩ = 1#1 := by decide
theorem lit10_in : ∀ w : Fin 8, lit10 ⟨1 + w.val, by omega⟩ = 1#1 := by decide
theorem lit11_in : ∀ w : Fin 8, lit11 ⟨1 + w.val, by omega⟩ = 1#1 := by decide

theorem part_in (mask : Fin 9 → BitVec 1) (o : Nat) (hs : S16x33x64x64.Slices ![0, o, 0, 0] S16x9x64x64)
    (x : FVec Ideal S16x15x31 .f32) (h : Fin 16) (c j : Fin 64) (k : Fin 576) (i : Fin 9) (p : Fin 15)
    (hk : k.val = i.val * 64 + j.val) (hm : mask i = 1#1) (hp : o + i.val = 9 + p.val) :
    part mask ![0, o, 0, 0] hs (tab x) (ix3 h c k) = if colOk c.val j.val then x (ix3 h p (colIx c.val j.val)) * (cE : EReal) else ⊥ := by
  rw [part_apply mask o hs (tab x) h c k i j hk ⟨o + i.val, by have := p.isLt; omega⟩ rfl, hm, select_one]
  exact tab_apply x h p _ hp c j

theorem part_out (mask : Fin 9 → BitVec 1) (o : Nat) (hs : S16x33x64x64.Slices ![0, o, 0, 0] S16x9x64x64) (ho : o ≤ 24)
    (T : FVec Ideal S16x33x64x64 .f32) (h : Fin 16) (c j : Fin 64) (k : Fin 576) (i : Fin 9)
    (hk : k.val = i.val * 64 + j.val) (hm : mask i = 0#1) : part mask ![0, o, 0, 0] hs T (ix3 h c k) = (⊥ : EReal) := by
  rw [part_apply mask o hs T h c k i j hk ⟨o + i.val, by have := i.isLt; omega⟩ rfl, hm, select_zero]

theorem partOf_in (x : FVec Ideal S16x15x31 .f32) (v : Fin 5) (e : Fin 2) (h : Fin 16) (c j : Fin 64) (k : Fin 576) (w : Fin 8)
    (hk : k.val = (slabOff v e + w.val) * 64 + j.val) : partOf (tab x) v e (ix3 h c k)
      = if colOk c.val j.val then x (ix3 h ⟨biasRow v e + w.val, by have := biasRow_le v e; omega⟩ (colIx c.val j.val)) * (cE : EReal) else ⊥ := by
  have hw := w.isLt
  match v, e, hk with
  | 0, 0, hk =>
    exact part_in lit2 16 slices_S16x33x64x64_S16x9x64x64_0_16_0_0 x h c j k ⟨0 + w.val, by omega⟩ ⟨7 + w.val, by omega⟩ hk
      (lit2_in w) (by show 16 + (0 + w.val) = 9 + (7 + w.val); omega)
  | 0, 1, hk =>
    exact part_in lit3 15 slices_S16x33x64x64_S16x9x64x64_0_15_0_0 x h c j k ⟨0 + w.val, by omega⟩ ⟨6 + w.val, by omega⟩ hk
      (lit3_in w) (by show 15 + (0 + w.val) = 9 + (6 + w.val); omega)
  | 1, 0, hk =>
    exact part_in lit4 14 slices_S16x33x64x64_S16x9x64x64_0_14_0_0 x h c j k ⟨0 + w.val, by omega⟩ ⟨5 + w.val, by omega⟩ hk
      (lit4_in w) (by show 14 + (0 + w.val) = 9 + (5 + w.val); omega)
  | 1, 1, hk =>
    exact part_in lit5 13 slices_S16x33x64x64_S16x9x64x64_0_13_0_0 x h c j k ⟨0 + w.val, by omega⟩ ⟨4 + w.val, by omega⟩ hk
      (lit5_in w) (by show 13 + (0 + w.val) = 9 + (4 + w.val); omega)
  | 2, 0, hk =>
    exact part_in lit6 12 slices_S16x33x64x64_S16x9x64x64_0_12_0_0 x h c j k ⟨0 + w.val, by omega⟩ ⟨3 + w.val, by omega⟩ hk
      (lit6_in w) (by show 12 + (0 + w.val) = 9 + (3 + w.val); omega)
  | 2, 1, hk =>
    exact part_in lit7 11 slices_S16x33x64x64_S16x9x64x64_0_11_0_0 x h c j k ⟨1 + w.val, by omega⟩ ⟨3 + w.val, by omega⟩ hk
      (lit7_in w) (by show 11 + (1 + w.val) = 9 + (3 + w.val); omega)
  | 3, 0, hk =>
    exact part_in lit8 11 slices_S16x33x64x64_S16x9x64x64_0_11_0_0 x h c j k ⟨1 + w.val, by omega⟩ ⟨3 + w.val, by omega⟩ hk
      (lit8_in w) (by show 11 + (1 + w.val) = 9 + (3 + w.val); omega)
  | 3, 1, hk =>
    exact part_in lit9 10 slices_S16x33x64x64_S16x9x64x64_0_10_0_0 x h c j k ⟨1 + w.val, by omega⟩ ⟨2 + w.val, by omega⟩ hk
      (lit9_in w) (by show 10 + (1 + w.val) = 9 + (2 + w.val); omega)
  | 4, 0, hk =>
    exact part_in lit10 9 slices_S16x33x64x64_S16x9x64x64_0_9_0_0 x h c j k ⟨1 + w.val, by omega⟩ ⟨1 + w.val, by omega⟩ hk
      (lit10_in w) (by show 9 + (1 + w.val) = 9 + (1 + w.val); omega)
  | 4, 1, hk =>
    exact part_in lit11 8 slices_S16x33x64x64_S16x9x64x64_0_8_0_0 x h c j k ⟨1 + w.val, by omega⟩ ⟨0 + w.val, by omega⟩ hk
      (lit11_in w) (by show 8 + (1 + w.val) = 9 + (0 + w.val); omega)

theorem partOf_out (T : FVec Ideal S16x33x64x64 .f32) (v : Fin 5) (e : Fin 2) (h : Fin 16) (c j : Fin 64) (k : Fin 576) (i : Fin 9)
    (hk : k.val = i.val * 64 + j.val) (hi : i.val = 8 * (1 - slabOff v e)) : partOf T v e (ix3 h c k) = (⊥ : EReal) := by
  match v, e, hi with
  | 0, 0, hi =>
    obtain rfl : i = 8 := Fin.ext hi
    exact part_out lit2 16 slices_S16x33x64x64_S16x9x64x64_0_16_0_0 (by omega) T h c j k _ hk rfl
  | 0, 1, hi =>
    obtain rfl : i = 8 := Fin.ext hi
    exact part_out lit3 15 slices_S16x33x64x64_S16x9x64x64_0_15_0_0 (by omega) T h c j k _ hk rfl
  | 1, 0, hi =>
    obtain rfl : i = 8 := Fin.ext hi
    exact part_out lit4 14 slices_S16x33x64x64_S16x9x64x64_0_14_0_0 (by omega) T h c j k _ hk rfl
  | 1, 1, hi =>
    obtain rfl : i = 8 := Fin.ext hi
    exact part_out lit5 13 slices_S16x33x64x64_S16x9x64x64_0_13_0_0 (by omega) T h c j k _ hk rfl
  | 2, 0, hi =>
    obtain rfl : i = 8 := Fin.ext hi
    exact part_out lit6 12 slices_S16x33x64x64_S16x9x64x64_0_12_0_0 (by omega) T h c j k _ hk rfl
  | 2, 1, hi =>
    obtain rfl : i = 0 := Fin.ext hi
    exact part_out lit7 11 slices_S16x33x64x64_S16x9x64x64_0_11_0_0 (by omega) T h c j k _ hk rfl
  | 3, 0, hi =>
    obtain rfl : i = 0 := Fin.ext hi
    exact part_out lit8 11 slices_S16x33x64x64_S16x9x64x64_0_11_0_0 (by omega) T h c j k _ hk rfl
  | 3, 1, hi =>
    obtain rfl : i = 0 := Fin.ext hi
    exact part_out lit9 10 slices_S16x33x64x64_S16x9x64x64_0_10_0_0 (by omega) T h c j k _ hk rfl
  | 4, 0, hi =>
    obtain rfl : i = 0 := Fin.ext hi
    exact part_out lit10 9 slices_S16x33x64x64_S16x9x64x64_0_9_0_0 (by omega) T h c j k _ hk rfl
  | 4, 1, hi =>
    obtain rfl : i = 0 := Fin.ext hi
    exact part_out lit11 8 slices_S16x33x64x64_S16x9x64x64_0_8_0_0 (by omega) T h c j k _ hk rfl

variable (m : (ℓ : Loc nD τ sig) → Buf (Elt Ideal) ℓ)

theorem bias_variant (c : Dev nD) (v : Fin 5) (h : Fin 16) (r : Fin 128) (e : Fin 2) (col : Fin 64) (k : Fin 576)
    (hr : r.val = 64 * e.val + col.val) :
    (V m c main_v90 : FVec Ideal S5x16x128x576 .f32) (ix4 v h r k) = partOf (tab (rpb m c)) v e (ix3 h col k) := by
  rw [V_v90, five_apply]
  match v, e, hr with
  | 0, 0, hr => show V m c main_v40 (ix3 h r k) = _; rw [V_v40, V_v34, V_v39]; exact pair_apply _ _ h r 0 col k hr
  | 0, 1, hr => show V m c main_v40 (ix3 h r k) = _; rw [V_v40, V_v34, V_v39]; exact pair_apply _ _ h r 1 col k hr
  | 1, 0, hr => show V m c main_v51 (ix3 h r k) = _; rw [V_v51, V_v45, V_v50]; exact pair_apply _ _ h r 0 col k hr
  | 1, 1, hr => show V m c main_v51 (ix3 h r k) = _; rw [V_v51, V_v45, V_v50]; exact pair_apply _ _ h r 1 col k hr
  | 2, 0, hr => show V m c main_v62 (ix3 h r k) = _; rw [V_v62, V_v56, V_v61]; exact pair_apply _ _ h r 0 col k hr
  | 2, 1, hr => show V m c main_v62 (ix3 h r k) = _; rw [V_v62, V_v56, V_v61]; exact pair_apply _ _ h r 1 col k hr
  | 3, 0, hr => show V m c main_v73 (ix3 h r k) = _; rw [V_v73, V_v67, V_v72]; exact pair_apply _ _ h r 0 col k hr
  | 3, 1, hr => show V m c main_v73 (ix3 h r k) = _; rw [V_v73, V_v67, V_v72]; exact pair_apply _ _ h r 1 col k hr
  | 4, 0, hr => show V m c main_v84 (ix3 h r k) = _; rw [V_v84, V_v78, V_v83]; exact pair_apply _ _ h r 0 col k hr
  | 4, 1, hr => show V m c main_v84 (ix3 h r k) = _; rw [V_v84, V_v78, V_v83]; exact pair_apply _ _ h r 1 col k hr

/-- Over the context the table holds zeros. -/
theorem bias_ctx (c : Dev nD) (v : Fin 5) (h : Fin 16) (r : Fin 128) (k : Fin 832) (hk : k.val < 256) :
    (V m c main_v91 : FVec Ideal S5x16x128x832 .f32) (ix4 v h r k) = (0 : EReal) := by
  rw [V_v91]
  refine (pad_apply_of_not_inside _ _ _ _ _ _ h_S_ (ix4 v h r k) (3 : Fin 4) fun hin => ?_).trans ?_
  · have h1 : 256 ≤ k.val := hin.1
    omega
  · show ((((0#32 : BitVec 32).toInt : ℝ)) : EReal) = 0
    simp

theorem bias_slab (c : Dev nD) (v : Fin 5) (h : Fin 16) (r : Fin 128) (e : Fin 2) (col : Fin 64) (k : Fin 832) (k' : Fin 576)
    (hr : r.val = 64 * e.val + col.val) (hk : k.val = 256 + k'.val) :
    (V m c main_v91 : FVec Ideal S5x16x128x832 .f32) (ix4 v h r k) = partOf (tab (rpb m c)) v e (ix3 h col k') := by
  rw [V_v91]
  refine (pad_apply_of_inside _ _ _ _ _ _ h_S_ (ix4 v h r k) (ix4 v h r k') fun a => ?_).trans (bias_variant m c v h r e col k' hr)
  match a with
  | ⟨0, _⟩ => show v.val = 0 + v.val * 1; omega
  | ⟨1, _⟩ => show h.val = 0 + h.val * 1; omega
  | ⟨2, _⟩ => show r.val = 0 + r.val * 1; omega
  | ⟨3, _⟩ => show k.val = 256 + k'.val * 1; omega

/-- Over the window's eight rows it holds the scaled bias where the column is in the window, `⊥` elsewhere. -/
theorem bias_in (c : Dev nD) (v : Fin 5) (h : Fin 16) (r : Fin 128) (e : Fin 2) (col j : Fin 64) (k : Fin 832) (w : Fin 8)
    (hr : r.val = 64 * e.val + col.val) (hk : k.val = 256 + ((slabOff v e + w.val) * 64 + j.val)) :
    (V m c main_v91 : FVec Ideal S5x16x128x832 .f32) (ix4 v h r k)
      = if colOk col.val j.val then rpb m c (ix3 h ⟨biasRow v e + w.val, by have := biasRow_le v e; omega⟩ (colIx col.val j.val)) * (cE : EReal) else ⊥ := by
  have hkl := k.isLt
  rw [bias_slab m c v h r e col k ⟨(slabOff v e + w.val) * 64 + j.val, by omega⟩ hr hk]
  exact partOf_in (rpb m c) v e h col j _ w rfl

/-- The ninth row holds `⊥`. -/
theorem bias_out (c : Dev nD) (v : Fin 5) (h : Fin 16) (r : Fin 128) (e : Fin 2) (col j : Fin 64) (k : Fin 832)
    (hr : r.val = 64 * e.val + col.val) (hk : k.val = 256 + (8 * (1 - slabOff v e) * 64 + j.val)) :
    (V m c main_v91 : FVec Ideal S5x16x128x832 .f32) (ix4 v h r k) = (⊥ : EReal) := by
  have hkl := k.isLt
  rw [bias_slab m c v h r e col k ⟨8 * (1 - slabOff v e) * 64 + j.val, by omega⟩ hr hk]
  exact partOf_out _ v e h col j _ ⟨8 * (1 - slabOff v e), by omega⟩ rfl rfl

end Cert.KernelIdeal.Gen

end
-- ==== Proof.NaRows.lean ====
module

public import proofs.«01_k».proof.Proof.NaBlock
public import proofs.«01_k».proof.Proof.NaBias
public import proofs.«01_k».proof.Proof.NaHost

@[expose] public section
set_option maxRecDepth 16384
noncomputable section

/-! The neighbourhood attention's head blocks at a grid point, read from the arguments. -/

namespace Cert.KernelIdeal.Gen
open Idealize.ShloMosaic Idealize.ShloMosaic.TcCoe Idealize.ShloMosaic.Tactic Idealize.SL.Sem
open Idealize.ShloMosaic.ValueIdx Cert.Soft

variable (m : (ℓ : Loc nD τ sig) → Buf (Elt Ideal) ℓ)

/-- Queries. -/
abbrev argQ (c : Dev nD) : S1x16384x16x128.Idx → EReal := m (c, Proc.tc.devRef main_arg0)
/-- Keys. -/
abbrev argK (c : Dev nD) : S1x16384x16x128.Idx → EReal := m (c, Proc.tc.devRef main_arg1)
/-- Values. -/
abbrev argV (c : Dev nD) : S1x16384x16x128.Idx → EReal := m (c, Proc.tc.devRef main_arg2)
/-- Context keys. -/
abbrev argKc (c : Dev nD) : S1x256x16x128.Idx → EReal := m (c, Proc.tc.devRef main_arg3)
/-- Context values. -/
abbrev argVc (c : Dev nD) : S1x256x16x128.Idx → EReal := m (c, Proc.tc.devRef main_arg4)

theorem rows_apply (n : Nat) (x : (⟨4, ![1, n, 16, 128]⟩ : Shape).Idx → EReal) (hs : (⟨4, ![1, n, 16, 128]⟩ : Shape).ShapeCasts ⟨2, ![n, 2048]⟩)
    (R : Fin n) (h : Fin 16) (e : Fin 128) (D : Fin 2048) (hD : D.val = 128 * h.val + e.val) :
    shapeCast ⟨2, ![n, 2048]⟩ x hs (ix2 R D) = x (ix4 (0 : Fin 1) R h e) := by
  refine shapeCast_apply x hs (ix2 R D) (ix4 (0 : Fin 1) R h e) ?_
  rw [Shape.rowMajor_val_two, Shape.rowMajor_val_four]
  show ((0 * n + R.val) * 16 + h.val) * 128 + e.val = R.val * 2048 + D.val
  omega

theorem v9_q (c : Dev nD) (R : Fin 16384) (h : Fin 16) (e : Fin 128) (D : Fin 4096) (hD : D.val = 128 * h.val + e.val) :
    (V m c main_v9 : S16384x4096.Idx → EReal) (ix2 R D)
      = argQ m c (ix4 (0 : Fin 1) R h e) * Ideal.ofBits .f32 0x3DB504F3#32 * (cE : EReal) := by
  rw [V_v9]
  show side _ _ (ix2 R D) = _
  unfold side
  refine (concatenate_pair_apply_left (t := S16384x4096) (s₁ := S16384x2048) (s₂ := S16384x2048) (1 : Fin 2) _ _ _ (ix2 R D) rfl
    (ix2 R (⟨128 * h.val + e.val, by omega⟩ : Fin 2048)) fun x => ?_).trans ?_
  · match x with
    | ⟨0, _⟩ => rfl
    | ⟨1, _⟩ => exact hD.symm
  · unfold qScaled
    rw [mulf_apply, mulf_apply]
    refine congr (congrArg (HMul.hMul (α := EReal) (β := EReal) (γ := EReal)) (congr (congrArg (HMul.hMul (α := EReal) (β := EReal) (γ := EReal)) ?_) ?_)) ?_
    · exact rows_apply 16384 _ _ R h e _ rfl
    · exact broadcastInDim_apply _ bcast_S_S16384x2048 _ _ (fun a => a.elim0) (fun a => a.elim0)
    · exact (broadcastInDim_apply _ bcast_S_S16384x2048 hostC _ (fun a => a.elim0) (fun a => a.elim0)).trans (hostC_apply _)

theorem v9_k (c : Dev nD) (R : Fin 16384) (h : Fin 16) (e : Fin 128) (D : Fin 4096) (hD : D.val = 2048 + (128 * h.val + e.val)) :
    (V m c main_v9 : S16384x4096.Idx → EReal) (ix2 R D) = argK m c (ix4 (0 : Fin 1) R h e) := by
  rw [V_v9]
  show side _ _ (ix2 R D) = _
  unfold side
  refine (concatenate_pair_apply_right (t := S16384x4096) (s₁ := S16384x2048) (s₂ := S16384x2048) (1 : Fin 2) _ _ _ (ix2 R D) rfl rfl
    (ix2 R (⟨128 * h.val + e.val, by omega⟩ : Fin 2048)) (fun x hx => ?_) ?_).trans ?_
  · match x with
    | ⟨0, _⟩ => rfl
    | ⟨1, _⟩ => exact absurd rfl hx
  · show (128 * h.val + e.val) + 2048 = D.val
    omega
  · exact rows_apply 16384 _ _ R h e _ rfl

theorem v15_k (c : Dev nD) (R : Fin 256) (h : Fin 16) (e : Fin 128) (D : Fin 4096) (hD : D.val = 2048 + (128 * h.val + e.val)) :
    (V m c main_v15 : S256x4096.Idx → EReal) (ix2 R D) = argKc m c (ix4 (0 : Fin 1) R h e) := by
  rw [V_v15]
  show sideCtx _ _ (ix2 R D) = _
  unfold sideCtx
  refine (concatenate_pair_apply_right (t := S256x4096) (s₁ := S256x2048) (s₂ := S256x2048) (1 : Fin 2) _ _ _ (ix2 R D) rfl rfl
    (ix2 R (⟨128 * h.val + e.val, by omega⟩ : Fin 2048)) (fun x hx => ?_) ?_).trans ?_
  · match x with
    | ⟨0, _⟩ => rfl
    | ⟨1, _⟩ => exact absurd rfl hx
  · show (128 * h.val + e.val) + 2048 = D.val
    omega
  · exact rows_apply 256 _ _ R h e _ rfl

theorem v11_v (c : Dev nD) (R : Fin 16384) (h : Fin 16) (e : Fin 128) (D : Fin 2048) (hD : D.val = 128 * h.val + e.val) :
    (V m c main_v11 : S16384x2048.Idx → EReal) (ix2 R D) = argV m c (ix4 (0 : Fin 1) R h e) := by
  rw [V_v11]
  exact rows_apply 16384 _ _ R h e D hD

theorem v17_v (c : Dev nD) (R : Fin 256) (h : Fin 16) (e : Fin 128) (D : Fin 2048) (hD : D.val = 128 * h.val + e.val) :
    (V m c main_v17 : S256x2048.Idx → EReal) (ix2 R D) = argVc m c (ix4 (0 : Fin 1) R h e) := by
  rw [V_v17]
  exact rows_apply 256 _ _ R h e D hD

/-! ## One head's blocks at a point -/

theorem hq (c : Dev nD) (t : Fin cfg0.N) (h : Fin 16) (r : Fin 128) (e : Fin 128) (R : Fin 16384) (hR : R.val = 128 * t.val + r.val) :
    cols 128 (iblk m c 0 t) h (ix2 r e) = argQ m c (ix4 (0 : Fin 1) R h e) * Ideal.ofBits .f32 0x3DB504F3#32 * (cE : EReal) := by
  rw [cols_apply 128 _ h r e ⟨128 * h.val + e.val, by omega⟩ rfl]
  exact (blk0_apply m c t r _ R hR ⟨128 * h.val + e.val, by omega⟩ rfl).trans (v9_q m c R h e _ rfl)

theorem hk (c : Dev nD) (t : Fin cfg0.N) (h : Fin 16) (i : Fin 576) (e : Fin 128) (R : Fin 16384) (hR : R.val = 64 * slabBase t.val + i.val) :
    cols 576 (iblk m c 1 t) h (ix2 i e) = argK m c (ix4 (0 : Fin 1) R h e) := by
  rw [cols_apply 576 _ h i e ⟨128 * h.val + e.val, by omega⟩ rfl]
  exact (blk1_apply m c t i _ R hR ⟨2048 + (128 * h.val + e.val), by omega⟩ rfl).trans (v9_k m c R h e _ rfl)

theorem hv (c : Dev nD) (t : Fin cfg0.N) (h : Fin 16) (i : Fin 576) (e : Fin 128) (R : Fin 16384) (hR : R.val = 64 * slabBase t.val + i.val) :
    cols 576 (iblk m c 2 t) h (ix2 i e) = argV m c (ix4 (0 : Fin 1) R h e) := by
  rw [cols_apply 576 _ h i e ⟨128 * h.val + e.val, by omega⟩ rfl]
  exact (blk2_apply m c t i _ R hR).trans (v11_v m c R h e _ rfl)

theorem hkc (c : Dev nD) (t : Fin cfg0.N) (h : Fin 16) (i : Fin 256) (e : Fin 128) :
    cols 256 (iblk m c 3 t) h (ix2 i e) = argKc m c (ix4 (0 : Fin 1) i h e) := by
  rw [cols_apply 256 _ h i e ⟨128 * h.val + e.val, by omega⟩ rfl]
  exact (blk3_apply m c t i _ ⟨2048 + (128 * h.val + e.val), by omega⟩ rfl).trans (v15_k m c i h e _ rfl)

theorem hvc (c : Dev nD) (t : Fin cfg0.N) (h : Fin 16) (i : Fin 256) (e : Fin 128) :
    cols 256 (iblk m c 4 t) h (ix2 i e) = argVc m c (ix4 (0 : Fin 1) i h e) := by
  rw [cols_apply 256 _ h i e ⟨128 * h.val + e.val, by omega⟩ rfl]
  exact (blk4_apply m c t i _).trans (v17_v m c i h e _ rfl)

theorem hb (c : Dev nD) (t : Fin cfg0.N) (h : Fin 16) (r : Fin 128) (k : Fin 832) (v : Fin 5) (hv : v.val = variant t.val) :
    biasHead (iblk m c 5 t) h (ix4 (0 : Fin 1) (0 : Fin 1) r k) = (V m c main_v91 : S5x16x128x832.Idx → EReal) (ix4 v h r k) :=
  blk5_apply m c t 0 h r k v hv

end Cert.KernelIdeal.Gen

end
-- ==== Proof.NaRefIx.lean ====
module

public import proofs.«01_k».proof.Proof.Gen.ReferenceIdeal.Read
public import proofs.«01_k».proof.Proof.NaLits
public import proofs.«01_k».proof.Proof.GatherAt
public import Idealize.ShloMosaic.Lib.Pipeline.Value
public import Idealize.ShloMosaic.Lib.ValueIdx

@[expose] public section
set_option maxRecDepth 16384
noncomputable section

/-! The integer part of the neighbourhood attention's reference: where each image row's window starts, which columns a
    query column sees, and which relative bias each pair reads. -/

namespace Cert.ReferenceIdeal.Read
open Cert.ReferenceIdeal Cert.ReferenceIdeal.Gen Idealize.ShloMosaic Idealize.ShloMosaic.TcCoe Idealize.SL.Sem Idealize.ShloMosaic.StableHlo
open Idealize.ShloMosaic.ValueIdx Cert.GatherAt
open Cert.KernelIdeal.Gen (colOk colIx)

/-- The first image row of a row's window. -/
abbrev winBase (r : Nat) : Nat := min (r - 4) 248

/-- The first relative bias row of a row's window. -/
abbrev biasBase (r : Nat) : Nat := winBase r + 7 - r

theorem v50_val : ∀ r : Fin 256, val_main_v50 (F := Ideal) (ix1 r) = BitVec.ofNat 32 (winBase r.val) := by decide +kernel
theorem v63_val : ∀ r : Fin 256, val_main_v63 (F := Ideal) (ix1 r) = BitVec.ofNat 32 (winBase r.val) := by decide +kernel
theorem v81_val : ∀ r : Fin 256, val_main_v81 (F := Ideal) (ix1 r) = BitVec.ofNat 32 (biasBase r.val) := by decide +kernel
theorem v39_val : ∀ c j : Fin 64, val_main_v39 (F := Ideal) (ix2 c j) = BitVec.ofNat 32 (colIx c.val j.val).val := by decide +kernel
theorem v21_val : ∀ c j : Fin 64, val_main_v21 (F := Ideal) (ix2 c j) = if colOk c.val j.val then 1#1 else 0#1 := by decide +kernel

end Cert.ReferenceIdeal.Read

end
-- ==== Proof.NaRef.lean ====
module

public import proofs.«01_k».proof.Proof.NaRefIx
public import Idealize.ShloMosaic.Lib.KernelVsHost
public import Idealize.ShloMosaic.Lib.ValueIdxRank6

@[expose] public section
set_option maxRecDepth 16384
noncomputable section

/-! The neighbourhood attention's reference read at an index: its windows of keys, values and biases, and its scores. -/

namespace Cert.ReferenceIdeal.Read
open Cert.ReferenceIdeal Cert.ReferenceIdeal.Gen Idealize.ShloMosaic Idealize.ShloMosaic.TcCoe Idealize.SL.Sem Idealize.ShloMosaic.StableHlo
open Idealize.ShloMosaic.ValueIdx Cert.GatherAt
open Cert.KernelIdeal.Gen (colOk colIx)

/-- Columns of start indices side by side. -/
theorem catCols_apply (n : Nat) (f : Fin n → IVec S256x1 32)
    (h : Shape.Concatenates ((List.ofFn fun k : Fin n => (⟨S256x1, f k⟩ : (s : Shape) × (s.Idx → BitVec 32))).map (·.1)) ⟨2, ![256, n]⟩ 1)
    (r : Fin 256) (a : Fin n) :
    concatenate ⟨2, ![256, n]⟩ 1 (List.ofFn fun k : Fin n => (⟨S256x1, f k⟩ : (s : Shape) × (s.Idx → BitVec 32))) h (ix2 r a)
      = f a (ix2 r (0 : Fin 1)) := by
  refine concatenate_ofFn_apply (t := ⟨2, ![256, n]⟩) (s₁ := S256x1) (1 : Fin 2) f h rfl 1 rfl (ix2 r a) a ?_ (ix2 r (0 : Fin 1)) ?_ fun x hx => ?_
  · show a.val / 1 = a.val
    omega
  · show 0 = a.val % 1
    omega
  · match x with
    | ⟨0, _⟩ => rfl
    | ⟨1, _⟩ => exact absurd rfl hx

theorem cat5_apply (f0 f1 f2 f3 f4 : IVec S256x1 32) (h) (r : Fin 256) (x : BitVec 32)
    (h0 : f0 (ix2 r (0 : Fin 1)) = 0#32) (h1 : f1 (ix2 r (0 : Fin 1)) = x) (h2 : f2 (ix2 r (0 : Fin 1)) = 0#32) (h3 : f3 (ix2 r (0 : Fin 1)) = 0#32) (h4 : f4 (ix2 r (0 : Fin 1)) = 0#32) (a : Fin 5) :
    concatenate S256x5 1 [⟨S256x1, f0⟩, ⟨S256x1, f1⟩, ⟨S256x1, f2⟩, ⟨S256x1, f3⟩, ⟨S256x1, f4⟩] h (ix2 r a) = if a.val = 1 then x else 0#32 := by
  refine (catCols_apply 5 ![f0, f1, f2, f3, f4] h r a).trans ?_
  match a with
  | ⟨0, _⟩ => exact h0
  | ⟨1, _⟩ => exact h1
  | ⟨2, _⟩ => exact h2
  | ⟨3, _⟩ => exact h3
  | ⟨4, _⟩ => exact h4

theorem cat4_apply (f0 f1 f2 f3 : IVec S256x1 32) (h) (r : Fin 256) (x : BitVec 32)
    (h0 : f0 (ix2 r (0 : Fin 1)) = 0#32) (h1 : f1 (ix2 r (0 : Fin 1)) = x) (h2 : f2 (ix2 r (0 : Fin 1)) = 0#32) (h3 : f3 (ix2 r (0 : Fin 1)) = 0#32) (a : Fin 4) :
    concatenate S256x4 1 [⟨S256x1, f0⟩, ⟨S256x1, f1⟩, ⟨S256x1, f2⟩, ⟨S256x1, f3⟩] h (ix2 r a) = if a.val = 1 then x else 0#32 := by
  refine (catCols_apply 4 ![f0, f1, f2, f3] h r a).trans ?_
  match a with
  | ⟨0, _⟩ => exact h0
  | ⟨1, _⟩ => exact h1
  | ⟨2, _⟩ => exact h2
  | ⟨3, _⟩ => exact h3

theorem v56_apply (r : Fin 256) (a : Fin 5) : val_main_v56 (F := Ideal) (ix2 r a)
    = if a.val = 1 then BitVec.ofNat 32 (winBase r.val) else 0#32 := by
  unfold val_main_v56
  exact cat5_apply _ _ _ _ _ _ r _ (val_main_v51_apply _) (by rw [val_main_v52_apply, show idx_main_v52 (ix2 r (0 : Fin 1)) = ix1 r from (eq_ix1 _).trans rfl, v50_val]) (val_main_v53_apply _) (val_main_v54_apply _) (val_main_v55_apply _) a

theorem v69_apply (r : Fin 256) (a : Fin 5) : val_main_v69 (F := Ideal) (ix2 r a)
    = if a.val = 1 then BitVec.ofNat 32 (winBase r.val) else 0#32 := by
  unfold val_main_v69
  exact cat5_apply _ _ _ _ _ _ r _ (val_main_v64_apply _) (by rw [val_main_v65_apply, show idx_main_v65 (ix2 r (0 : Fin 1)) = ix1 r from (eq_ix1 _).trans rfl, v63_val]) (val_main_v66_apply _) (val_main_v67_apply _) (val_main_v68_apply _) a

theorem v86_apply (r : Fin 256) (a : Fin 4) : val_main_v86 (F := Ideal) (ix2 r a)
    = if a.val = 1 then BitVec.ofNat 32 (biasBase r.val) else 0#32 := by
  unfold val_main_v86
  exact cat4_apply _ _ _ _ _ r _ (val_main_v82_apply _) (by rw [val_main_v83_apply, show idx_main_v83 (ix2 r (0 : Fin 1)) = ix1 r from (eq_ix1 _).trans rfl, v81_val]) (val_main_v84_apply _) (val_main_v85_apply _) a

/-- The rows a window's gather reads. -/
theorem rowGather_apply (x : S1x256x64x16x128.Idx → EReal) (idx : IVec S256x5 32)
    (hidx : ∀ (r : Fin 256) (a : Fin 5), idx (ix2 r a) = if a.val = 1 then BitVec.ofNat 32 (winBase r.val) else 0#32)
    (r : Fin 256) (z : Fin 1) (w : Fin 8) (j : Fin 64) (h : Fin 16) (e : Fin 128) (R : Fin 256) (hR : R.val = winBase r.val + w.val) :
    Host.gather gather_S1x256x64x16x128_S256x5_S256x1x8x64x16x128_12345_n_n_n_01234_1_186416128 x idx (ix6 r z w j h e) = x (ix5 z R j h e) := by
  refine gather_at _ rfl x idx (ix6 r z w j h e) _ fun a => ?_
  match a with
  | ⟨0, _⟩ =>
    show GatherDims.start gather_S1x256x64x16x128_S256x5_S256x1x8x64x16x128_12345_n_n_n_01234_1_186416128 _ _ (0 : Fin 5) + GatherDims.offCoord gather_S1x256x64x16x128_S256x5_S256x1x8x64x16x128_12345_n_n_n_01234_1_186416128 _ (0 : Fin 5) = _
    rw [off_some _ _ _ 0 (by decide) (by decide) 1 rfl,
      start_some gather_S1x256x64x16x128_S256x5_S256x1x8x64x16x128_12345_n_n_n_01234_1_186416128 (ix6 r z w j h e) idx (0 : Fin 5) ⟨0, by decide⟩ (by decide) (ix2 r (0 : Fin 5))
        (by funext b; match b with
                      | ⟨0, _⟩ => exact Fin.ext rfl
                      | ⟨1, _⟩ => exact Fin.ext rfl), hidx r (0 : Fin 5)]
    rw [if_neg (by decide)]
    exact Nat.zero_add _
  | ⟨1, _⟩ =>
    show GatherDims.start gather_S1x256x64x16x128_S256x5_S256x1x8x64x16x128_12345_n_n_n_01234_1_186416128 _ _ (1 : Fin 5) + GatherDims.offCoord gather_S1x256x64x16x128_S256x5_S256x1x8x64x16x128_12345_n_n_n_01234_1_186416128 _ (1 : Fin 5) = _
    rw [off_some _ _ _ 1 (by decide) (by decide) 2 rfl,
      start_some gather_S1x256x64x16x128_S256x5_S256x1x8x64x16x128_12345_n_n_n_01234_1_186416128 (ix6 r z w j h e) idx (1 : Fin 5) ⟨1, by decide⟩ (by decide) (ix2 r (1 : Fin 5))
        (by funext b; match b with
                      | ⟨0, _⟩ => exact Fin.ext rfl
                      | ⟨1, _⟩ => exact Fin.ext rfl), hidx r (1 : Fin 5)]
    rw [if_pos (by decide), toNat_ofNat _ (by have hw : winBase r.val = min (r.val - 4) 248 := rfl; omega)]
    show min (winBase r.val) (256 - 8) + w.val = R.val
    have hw : winBase r.val = min (r.val - 4) 248 := rfl
    omega
  | ⟨2, _⟩ =>
    show GatherDims.start gather_S1x256x64x16x128_S256x5_S256x1x8x64x16x128_12345_n_n_n_01234_1_186416128 _ _ (2 : Fin 5) + GatherDims.offCoord gather_S1x256x64x16x128_S256x5_S256x1x8x64x16x128_12345_n_n_n_01234_1_186416128 _ (2 : Fin 5) = _
    rw [off_some _ _ _ 2 (by decide) (by decide) 3 rfl,
      start_some gather_S1x256x64x16x128_S256x5_S256x1x8x64x16x128_12345_n_n_n_01234_1_186416128 (ix6 r z w j h e) idx (2 : Fin 5) ⟨2, by decide⟩ (by decide) (ix2 r (2 : Fin 5))
        (by funext b; match b with
                      | ⟨0, _⟩ => exact Fin.ext rfl
                      | ⟨1, _⟩ => exact Fin.ext rfl), hidx r (2 : Fin 5)]
    rw [if_neg (by decide)]
    exact Nat.zero_add _
  | ⟨3, _⟩ =>
    show GatherDims.start gather_S1x256x64x16x128_S256x5_S256x1x8x64x16x128_12345_n_n_n_01234_1_186416128 _ _ (3 : Fin 5) + GatherDims.offCoord gather_S1x256x64x16x128_S256x5_S256x1x8x64x16x128_12345_n_n_n_01234_1_186416128 _ (3 : Fin 5) = _
    rw [off_some _ _ _ 3 (by decide) (by decide) 4 rfl,
      start_some gather_S1x256x64x16x128_S256x5_S256x1x8x64x16x128_12345_n_n_n_01234_1_186416128 (ix6 r z w j h e) idx (3 : Fin 5) ⟨3, by decide⟩ (by decide) (ix2 r (3 : Fin 5))
        (by funext b; match b with
                      | ⟨0, _⟩ => exact Fin.ext rfl
                      | ⟨1, _⟩ => exact Fin.ext rfl), hidx r (3 : Fin 5)]
    rw [if_neg (by decide)]
    exact Nat.zero_add _
  | ⟨4, _⟩ =>
    show GatherDims.start gather_S1x256x64x16x128_S256x5_S256x1x8x64x16x128_12345_n_n_n_01234_1_186416128 _ _ (4 : Fin 5) + GatherDims.offCoord gather_S1x256x64x16x128_S256x5_S256x1x8x64x16x128_12345_n_n_n_01234_1_186416128 _ (4 : Fin 5) = _
    rw [off_some _ _ _ 4 (by decide) (by decide) 5 rfl,
      start_some gather_S1x256x64x16x128_S256x5_S256x1x8x64x16x128_12345_n_n_n_01234_1_186416128 (ix6 r z w j h e) idx (4 : Fin 5) ⟨4, by decide⟩ (by decide) (ix2 r (4 : Fin 5))
        (by funext b; match b with
                      | ⟨0, _⟩ => exact Fin.ext rfl
                      | ⟨1, _⟩ => exact Fin.ext rfl), hidx r (4 : Fin 5)]
    rw [if_neg (by decide)]
    exact Nat.zero_add _

/-- The biases a window's gather reads. -/
theorem biasGather_apply (x : S16x15x64x64.Idx → EReal) (idx : IVec S256x4 32)
    (hidx : ∀ (r : Fin 256) (a : Fin 4), idx (ix2 r a) = if a.val = 1 then BitVec.ofNat 32 (biasBase r.val) else 0#32)
    (r : Fin 256) (h : Fin 16) (w : Fin 8) (c j : Fin 64) (R : Fin 15) (hR : R.val = biasBase r.val + w.val) :
    Host.gather gather_S16x15x64x64_S256x4_S256x16x8x64x64_1234_n_n_n_0123_1_1686464 x idx (ix5 r h w c j) = x (ix4 h R c j) := by
  refine gather_at _ rfl x idx (ix5 r h w c j) _ fun a => ?_
  match a with
  | ⟨0, _⟩ =>
    show GatherDims.start gather_S16x15x64x64_S256x4_S256x16x8x64x64_1234_n_n_n_0123_1_1686464 _ _ (0 : Fin 4) + GatherDims.offCoord gather_S16x15x64x64_S256x4_S256x16x8x64x64_1234_n_n_n_0123_1_1686464 _ (0 : Fin 4) = _
    rw [off_some _ _ _ 0 (by decide) (by decide) 1 rfl,
      start_some gather_S16x15x64x64_S256x4_S256x16x8x64x64_1234_n_n_n_0123_1_1686464 (ix5 r h w c j) idx (0 : Fin 4) ⟨0, by decide⟩ (by decide) (ix2 r (0 : Fin 4))
        (by funext b; match b with
                      | ⟨0, _⟩ => exact Fin.ext rfl
                      | ⟨1, _⟩ => exact Fin.ext rfl), hidx r (0 : Fin 4)]
    rw [if_neg (by decide)]
    exact Nat.zero_add _
  | ⟨1, _⟩ =>
    show GatherDims.start gather_S16x15x64x64_S256x4_S256x16x8x64x64_1234_n_n_n_0123_1_1686464 _ _ (1 : Fin 4) + GatherDims.offCoord gather_S16x15x64x64_S256x4_S256x16x8x64x64_1234_n_n_n_0123_1_1686464 _ (1 : Fin 4) = _
    rw [off_some _ _ _ 1 (by decide) (by decide) 2 rfl,
      start_some gather_S16x15x64x64_S256x4_S256x16x8x64x64_1234_n_n_n_0123_1_1686464 (ix5 r h w c j) idx (1 : Fin 4) ⟨1, by decide⟩ (by decide) (ix2 r (1 : Fin 4))
        (by funext b; match b with
                      | ⟨0, _⟩ => exact Fin.ext rfl
                      | ⟨1, _⟩ => exact Fin.ext rfl), hidx r (1 : Fin 4)]
    rw [if_pos (by decide), toNat_ofNat _ (by have hw : winBase r.val = min (r.val - 4) 248 := rfl; omega)]
    show min (winBase r.val + 7 - r.val) (15 - 8) + w.val = R.val
    have hw : winBase r.val = min (r.val - 4) 248 := rfl
    have hR' : R.val = (winBase r.val + 7 - r.val) + w.val := hR
    omega
  | ⟨2, _⟩ =>
    show GatherDims.start gather_S16x15x64x64_S256x4_S256x16x8x64x64_1234_n_n_n_0123_1_1686464 _ _ (2 : Fin 4) + GatherDims.offCoord gather_S16x15x64x64_S256x4_S256x16x8x64x64_1234_n_n_n_0123_1_1686464 _ (2 : Fin 4) = _
    rw [off_some _ _ _ 2 (by decide) (by decide) 3 rfl,
      start_some gather_S16x15x64x64_S256x4_S256x16x8x64x64_1234_n_n_n_0123_1_1686464 (ix5 r h w c j) idx (2 : Fin 4) ⟨2, by decide⟩ (by decide) (ix2 r (2 : Fin 4))
        (by funext b; match b with
                      | ⟨0, _⟩ => exact Fin.ext rfl
                      | ⟨1, _⟩ => exact Fin.ext rfl), hidx r (2 : Fin 4)]
    rw [if_neg (by decide)]
    exact Nat.zero_add _
  | ⟨3, _⟩ =>
    show GatherDims.start gather_S16x15x64x64_S256x4_S256x16x8x64x64_1234_n_n_n_0123_1_1686464 _ _ (3 : Fin 4) + GatherDims.offCoord gather_S16x15x64x64_S256x4_S256x16x8x64x64_1234_n_n_n_0123_1_1686464 _ (3 : Fin 4) = _
    rw [off_some _ _ _ 3 (by decide) (by decide) 4 rfl,
      start_some gather_S16x15x64x64_S256x4_S256x16x8x64x64_1234_n_n_n_0123_1_1686464 (ix5 r h w c j) idx (3 : Fin 4) ⟨3, by decide⟩ (by decide) (ix2 r (3 : Fin 4))
        (by funext b; match b with
                      | ⟨0, _⟩ => exact Fin.ext rfl
                      | ⟨1, _⟩ => exact Fin.ext rfl), hidx r (3 : Fin 4)]
    rw [if_neg (by decide)]
    exact Nat.zero_add _

/-- The relative biases of every pair of columns. -/
theorem v41_apply (x : (⟨S16x15x31, .f32⟩ : BufTy).Contents (Elt Ideal)) (h : Fin 16) (i : Fin 15) (c j : Fin 64) :
    val_main_v41 (F := Ideal) x (ix4 h i c j) = x (ix3 h i (colIx c.val j.val)) := by
  unfold val_main_v41
  refine gather_at _ rfl x (val_main_v40 (F := Ideal)) (ix4 h i c j) _ fun a => ?_
  match a with
  | ⟨0, _⟩ =>
    show GatherDims.start gather_S16x15x31_S64x64x1_S16x15x64x64_01_2_n_n_2_2_16151 _ _ (0 : Fin 3) + GatherDims.offCoord gather_S16x15x31_S64x64x1_S16x15x64x64_01_2_n_n_2_2_16151 _ (0 : Fin 3) = _
    rw [start_none _ _ _ _ (by decide), off_some _ _ _ 0 (by decide) (by decide) 0 rfl]
    exact Nat.zero_add _
  | ⟨1, _⟩ =>
    show GatherDims.start gather_S16x15x31_S64x64x1_S16x15x64x64_01_2_n_n_2_2_16151 _ _ (1 : Fin 3) + GatherDims.offCoord gather_S16x15x31_S64x64x1_S16x15x64x64_01_2_n_n_2_2_16151 _ (1 : Fin 3) = _
    rw [start_none _ _ _ _ (by decide), off_some _ _ _ 1 (by decide) (by decide) 1 rfl]
    exact Nat.zero_add _
  | ⟨2, _⟩ =>
    show GatherDims.start gather_S16x15x31_S64x64x1_S16x15x64x64_01_2_n_n_2_2_16151 _ _ (2 : Fin 3) + GatherDims.offCoord gather_S16x15x31_S64x64x1_S16x15x64x64_01_2_n_n_2_2_16151 _ (2 : Fin 3) = _
    rw [off_none _ _ _ (by decide), Nat.add_zero]
    refine (start_some gather_S16x15x31_S64x64x1_S16x15x64x64_01_2_n_n_2_2_16151 (ix4 h i c j) (val_main_v40 (F := Ideal)) (2 : Fin 3) ⟨0, by decide⟩ (by decide) (ix3 c j (0 : Fin 1)) ?_).trans ?_
    · funext b; refine Fin.ext ?_
      match b with
      | ⟨0, _⟩ => rfl
      | ⟨1, _⟩ => rfl
      | ⟨2, _⟩ => rfl
    · have hlt := (colIx c.val j.val).isLt
      rw [val_main_v40_apply, show idx_main_v40 (ix3 c j (0 : Fin 1)) = ix2 c j from (eq_ix2 _).trans rfl, v39_val, toNat_ofNat _ (by omega)]
      show min _ (31 - 1) = _
      exact Nat.min_eq_left (by omega)

/-- A pixel's index from its row and column. -/
abbrev pix (R : Fin 256) (j : Fin 64) : Fin 16384 := ⟨64 * R.val + j.val, by omega⟩

theorem v0_at (x : (⟨S1x16384x16x128, .f32⟩ : BufTy).Contents (Elt Ideal)) (z : Fin 1) (R : Fin 256) (j : Fin 64) (h : Fin 16) (e : Fin 128) :
    val_main_v0 (F := Ideal) x (ix5 z R j h e) = x (ix4 z (pix R j) h e) := by
  unfold val_main_v0
  refine shapeCast_apply _ _ _ _ ?_
  rw [Shape.rowMajor_val_four, Shape.rowMajor_val_five]
  show ((z.val * 16384 + (64 * R.val + j.val)) * 16 + h.val) * 128 + e.val = (((z.val * 256 + R.val) * 64 + j.val) * 16 + h.val) * 128 + e.val
  omega

theorem v58_at (x : (⟨S1x16384x16x128, .f32⟩ : BufTy).Contents (Elt Ideal)) (r : Fin 256) (z : Fin 1) (k : Fin 512) (h : Fin 16) (e : Fin 128)
    (w : Fin 8) (j : Fin 64) (hk : k.val = w.val * 64 + j.val) (R : Fin 256) (hR : R.val = winBase r.val + w.val) :
    val_main_v58 (F := Ideal) x (ix5 r z k h e) = x (ix4 z (pix R j) h e) := by
  unfold val_main_v58
  refine (shapeCast_apply _ _ _ (ix6 r z w j h e) ?_).trans ?_
  · rw [Shape.rowMajor_val_six, Shape.rowMajor_val_five]
    show ((((r.val * 1 + z.val) * 8 + w.val) * 64 + j.val) * 16 + h.val) * 128 + e.val = (((r.val * 1 + z.val) * 512 + k.val) * 16 + h.val) * 128 + e.val
    omega
  · unfold val_main_v57
    exact (rowGather_apply _ _ v56_apply r z w j h e R hR).trans (v0_at x z R j h e)

theorem v1_at (x : (⟨S1x16384x16x128, .f32⟩ : BufTy).Contents (Elt Ideal)) (z : Fin 1) (R : Fin 256) (j : Fin 64) (h : Fin 16) (e : Fin 128) :
    val_main_v1 (F := Ideal) x (ix5 z R j h e) = x (ix4 z (pix R j) h e) := by
  unfold val_main_v1
  refine shapeCast_apply _ _ _ _ ?_
  rw [Shape.rowMajor_val_four, Shape.rowMajor_val_five]
  show ((z.val * 16384 + (64 * R.val + j.val)) * 16 + h.val) * 128 + e.val = (((z.val * 256 + R.val) * 64 + j.val) * 16 + h.val) * 128 + e.val
  omega

theorem v71_at (x : (⟨S1x16384x16x128, .f32⟩ : BufTy).Contents (Elt Ideal)) (r : Fin 256) (z : Fin 1) (k : Fin 512) (h : Fin 16) (e : Fin 128)
    (w : Fin 8) (j : Fin 64) (hk : k.val = w.val * 64 + j.val) (R : Fin 256) (hR : R.val = winBase r.val + w.val) :
    val_main_v71 (F := Ideal) x (ix5 r z k h e) = x (ix4 z (pix R j) h e) := by
  unfold val_main_v71
  refine (shapeCast_apply _ _ _ (ix6 r z w j h e) ?_).trans ?_
  · rw [Shape.rowMajor_val_six, Shape.rowMajor_val_five]
    show ((((r.val * 1 + z.val) * 8 + w.val) * 64 + j.val) * 16 + h.val) * 128 + e.val = (((r.val * 1 + z.val) * 512 + k.val) * 16 + h.val) * 128 + e.val
    omega
  · unfold val_main_v70
    exact (rowGather_apply _ _ v69_apply r z w j h e R hR).trans (v1_at x z R j h e)

theorem v3_at (x : (⟨S1x16384x16x128, .f32⟩ : BufTy).Contents (Elt Ideal)) (R : Fin 256) (z : Fin 1) (j : Fin 64) (h : Fin 16) (e : Fin 128) :
    val_main_v3 (F := Ideal) x (ix5 R z j h e) = x (ix4 z (pix R j) h e) := by
  rw [val_main_v3_apply, show idx_main_v3 (ix5 R z j h e) = ix5 z R j h e from (eq_ix5 _).trans rfl]
  unfold val_main_v2
  refine shapeCast_apply _ _ _ _ ?_
  rw [Shape.rowMajor_val_four, Shape.rowMajor_val_five]
  show ((z.val * 16384 + (64 * R.val + j.val)) * 16 + h.val) * 128 + e.val = (((z.val * 256 + R.val) * 64 + j.val) * 16 + h.val) * 128 + e.val
  omega

theorem v93_at (x : (⟨S16x15x31, .f32⟩ : BufTy).Contents (Elt Ideal)) (r : Fin 256) (z : Fin 1) (h : Fin 16) (c : Fin 64) (k : Fin 512)
    (w : Fin 8) (j : Fin 64) (hk : k.val = w.val * 64 + j.val) (R : Fin 15) (hR : R.val = biasBase r.val + w.val) :
    val_main_v93 (F := Ideal) x (ix5 r z h c k) = x (ix3 h R (colIx c.val j.val)) := by
  rw [val_main_v93_apply, show idx_main_v93 (ix5 r z h c k) = ix4 r h c k from (eq_ix4 _).trans rfl]
  unfold val_main_v89
  refine (shapeCast_apply _ _ _ (ix5 r h c w j) ?_).trans ?_
  · rw [Shape.rowMajor_val_four, Shape.rowMajor_val_five]
    show (((r.val * 16 + h.val) * 64 + c.val) * 8 + w.val) * 64 + j.val = ((r.val * 16 + h.val) * 64 + c.val) * 512 + k.val
    omega
  · rw [val_main_v88_apply, show idx_main_v88 (ix5 r h c w j) = ix5 r h w c j from (eq_ix5 _).trans rfl]
    unfold val_main_v87
    exact (biasGather_apply _ _ v86_apply r h w c j R hR).trans (v41_apply x h R c j)

theorem mask_at (r : Fin 256) (z : Fin 1) (h : Fin 16) (c : Fin 64) (k : Fin 512) (w : Fin 8) (j : Fin 64) (hk : k.val = w.val * 64 + j.val) :
    val_main_call3_v3 (F := Ideal) (ix5 r z h c k) = if colOk c.val j.val then 1#1 else 0#1 := by
  rw [val_main_call3_v3_apply, val_main_call3_v1_apply,
    show idx_main_call3_v1 (idx_main_call3_v3 (ix5 r z h c k)) = ix2 c k from (eq_ix2 _).trans rfl]
  unfold val_main_v24
  refine (shapeCast_apply _ _ _ (ix3 c w j) ?_).trans ?_
  · rw [Shape.rowMajor_val_two, Shape.rowMajor_val_three]
    show (c.val * 8 + w.val) * 64 + j.val = c.val * 512 + k.val
    omega
  · rw [val_main_v23_apply, val_main_v22_apply, show idx_main_v22 (idx_main_v23 (ix3 c w j)) = ix2 c j from (eq_ix2 _).trans rfl]
    exact v21_val c j

/-- The scale of the scores. -/
abbrev scaleE : EReal := Ideal.ofBits .f32 0x3DB504F3#32

/-- A window score. -/
theorem v95_at (x0 x1 : (⟨S1x16384x16x128, .f32⟩ : BufTy).Contents (Elt Ideal)) (x5 : (⟨S16x15x31, .f32⟩ : BufTy).Contents (Elt Ideal))
    (r : Fin 256) (z : Fin 1) (h : Fin 16) (c : Fin 64) (k : Fin 512)
    (w : Fin 8) (j : Fin 64) (hk : k.val = w.val * 64 + j.val) (R : Fin 256) (hR : R.val = winBase r.val + w.val)
    (Q : Fin 15) (hQ : Q.val = biasBase r.val + w.val) :
    val_main_v95 (F := Ideal) x0 x1 x5 (ix5 r z h c k) = if colOk c.val j.val then
      (∑ e : Fin 128, x0 (ix4 z (pix r c) h e) * x1 (ix4 z (pix R j) h e)) * scaleE + x5 (ix3 h Q (colIx c.val j.val)) else (⊥ : EReal) := by
  rw [val_main_v95_apply, mask_at r z h c k w j hk]
  by_cases hc : colOk c.val j.val
  · rw [if_pos hc, if_pos hc, select_one, val_main_v94_apply, val_main_v92_apply, v93_at x5 r z h c k w j hk Q hQ, val_main_v90_apply]
    show (∑ e : Fin 128, val_main_v3 (F := Ideal) x0 (lidx_main_v90 (ix5 r z h c k) e) * val_main_v58 (F := Ideal) x1 (ridx_main_v90 (ix5 r z h c k) e)) * scaleE + _ = _
    refine congrArg (fun s : EReal => s * scaleE + x5 (ix3 h Q (colIx c.val j.val))) (Finset.sum_congr rfl fun e _ => ?_)
    rw [show lidx_main_v90 (ix5 r z h c k) e = ix5 r z c h e from (eq_ix5 _).trans rfl,
      show ridx_main_v90 (ix5 r z h c k) e = ix5 r z k h e from (eq_ix5 _).trans rfl, v3_at, v58_at x1 r z k h e w j hk R hR]
  · rw [if_neg hc, if_neg hc, select_zero]
    show Ideal.ofBits .f32 0xFF800000#32 = ⊥
    simp [Ideal.ofBits, Ideal.ieee]

/-- A context score. -/
theorem v99_at (x0 : (⟨S1x16384x16x128, .f32⟩ : BufTy).Contents (Elt Ideal)) (x3 : (⟨S1x256x16x128, .f32⟩ : BufTy).Contents (Elt Ideal))
    (r : Fin 256) (z : Fin 1) (h : Fin 16) (c : Fin 64) (i : Fin 256) :
    val_main_v99 (F := Ideal) x0 x3 (ix5 r z h c i)
      = (∑ e : Fin 128, x0 (ix4 z (pix r c) h e) * x3 (ix4 z i h e)) * scaleE := by
  rw [val_main_v99_apply, show idx_main_v99 (ix5 r z h c i) = ix5 z h r c i from (eq_ix5 _).trans rfl, val_main_v98_apply, val_main_v96_apply]
  show (∑ e : Fin 128, val_main_v3 (F := Ideal) x0 (lidx_main_v96 (ix5 z h r c i) e) * x3 (ridx_main_v96 (ix5 z h r c i) e)) * scaleE = _
  refine congrArg (fun s : EReal => s * scaleE) (Finset.sum_congr rfl fun e _ => ?_)
  rw [show lidx_main_v96 (ix5 z h r c i) e = ix5 r z c h e from (eq_ix5 _).trans rfl,
    show ridx_main_v96 (ix5 z h r c i) e = ix4 z i h e from (eq_ix4 _).trans rfl, v3_at]

theorem v100_lo (x0 x1 : (⟨S1x16384x16x128, .f32⟩ : BufTy).Contents (Elt Ideal)) (x3 : (⟨S1x256x16x128, .f32⟩ : BufTy).Contents (Elt Ideal))
    (x5 : (⟨S16x15x31, .f32⟩ : BufTy).Contents (Elt Ideal)) (r : Fin 256) (z : Fin 1) (h : Fin 16) (c : Fin 64) (k : Fin 768) (k' : Fin 512)
    (hk : k.val = k'.val) : val_main_v100 (F := Ideal) x0 x1 x3 x5 (ix5 r z h c k) = val_main_v95 (F := Ideal) x0 x1 x5 (ix5 r z h c k') := by
  unfold val_main_v100
  refine concatenate_pair_apply_left (t := S256x1x16x64x768) (s₁ := S256x1x16x64x512) (s₂ := S256x1x16x64x256) (4 : Fin 5) _ _ _ (ix5 r z h c k) rfl (ix5 r z h c k') fun x => ?_
  match x with
  | ⟨0, _⟩ => rfl
  | ⟨1, _⟩ => rfl
  | ⟨2, _⟩ => rfl
  | ⟨3, _⟩ => rfl
  | ⟨4, _⟩ => exact hk.symm

theorem v100_hi (x0 x1 : (⟨S1x16384x16x128, .f32⟩ : BufTy).Contents (Elt Ideal)) (x3 : (⟨S1x256x16x128, .f32⟩ : BufTy).Contents (Elt Ideal))
    (x5 : (⟨S16x15x31, .f32⟩ : BufTy).Contents (Elt Ideal)) (r : Fin 256) (z : Fin 1) (h : Fin 16) (c : Fin 64) (k : Fin 768) (k' : Fin 256)
    (hk : k.val = 512 + k'.val) : val_main_v100 (F := Ideal) x0 x1 x3 x5 (ix5 r z h c k) = val_main_v99 (F := Ideal) x0 x3 (ix5 r z h c k') := by
  unfold val_main_v100
  refine concatenate_pair_apply_right (t := S256x1x16x64x768) (s₁ := S256x1x16x64x512) (s₂ := S256x1x16x64x256) (4 : Fin 5) _ _ _ (ix5 r z h c k) rfl rfl (ix5 r z h c k') (fun x hx => ?_) ?_
  · match x with
    | ⟨0, _⟩ => rfl
    | ⟨1, _⟩ => rfl
    | ⟨2, _⟩ => rfl
    | ⟨3, _⟩ => rfl
    | ⟨4, _⟩ => exact absurd rfl hx
  · show k'.val + 512 = k.val
    omega

end Cert.ReferenceIdeal.Read

end
-- ==== Proof.NaRefOut.lean ====
module

public import proofs.«01_k».proof.Proof.NaRef

@[expose] public section
set_option maxRecDepth 16384
noncomputable section

/-! The neighbourhood attention's reference result at an index, from its scores. -/

namespace Cert.ReferenceIdeal.Read
open Cert.ReferenceIdeal Cert.ReferenceIdeal.Gen Idealize.ShloMosaic Idealize.ShloMosaic.TcCoe Idealize.SL.Sem Idealize.ShloMosaic.StableHlo
open Idealize.ShloMosaic.ValueIdx

variable (x0 x1 x2 : (⟨S1x16384x16x128, .f32⟩ : BufTy).Contents (Elt Ideal)) (x3 x4 : (⟨S1x256x16x128, .f32⟩ : BufTy).Contents (Elt Ideal))
    (x5 : (⟨S16x15x31, .f32⟩ : BufTy).Contents (Elt Ideal))

/-- One query's scores: its window's, then the context's. -/
def refScore (r : Fin 256) (z : Fin 1) (h : Fin 16) (c : Fin 64) (k : Fin 768) : EReal :=
  val_main_v100 (F := Ideal) x0 x1 x3 x5 (ix5 r z h c k)

/-- The largest of one query's scores. -/
def refMax (r : Fin 256) (z : Fin 1) (h : Fin 16) (c : Fin 64) : EReal := Finset.univ.fold max ⊥ (refScore x0 x1 x3 x5 r z h c)

theorem red_scores : (S256x1x16x64x768 : Shape).Reduces [4] S256x1x16x64 := by decide

theorem bot_bits : Ideal.ofBits .f32 0xFF800000#32 = (⊥ : EReal) := by simp [Ideal.ofBits, Ideal.ieee]

theorem lift_scores (r : Fin 256) (z : Fin 1) (h : Fin 16) (c : Fin 64) (k : Fin 768) :
    red_scores.lift (ix4 r z h c) k = ix5 r z h c k := by
  funext a
  match a with
  | ⟨0, _⟩ => rfl
  | ⟨1, _⟩ => rfl
  | ⟨2, _⟩ => rfl
  | ⟨3, _⟩ => rfl
  | ⟨4, _⟩ => rfl

theorem redMax_at (y : FVec Ideal S256x1x16x64x768 .f32) (r : Fin 256) (z : Fin 1) (h : Fin 16) (c : Fin 64) :
    Host.reduce (FloatOps.maximumf (F := Ideal) (φ := .f32)) y (constant S_ .f32 0xFF800000#32) reducesTo_S256x1x16x64x768_S256x1x16x64_d4 h_S_ (ix4 r z h c)
      = Finset.univ.fold max (⊥ : EReal) fun k : Fin 768 => y (ix5 r z h c k) := by
  rw [hostReduce_maximumf_eq_multiReduction (F := Ideal) (φ := .f32) y 0xFF800000#32 reducesTo_S256x1x16x64x768_S256x1x16x64_d4 h_S_ red_scores (.inl rfl) rfl]
  refine (Ideal.multiReduction_maximumf_single _ _ _ _ _ _).trans ?_
  rw [show (FloatOps.ofBits .f32 0xFF800000#32 : Ideal .f32) = (⊥ : EReal) from bot_bits]
  refine congrArg (Finset.univ.fold max (⊥ : EReal)) ?_
  funext k
  show y (red_scores.lift (ix4 r z h c) k) = _
  exact congrArg _ (lift_scores r z h c k)

theorem v101_at (r : Fin 256) (z : Fin 1) (h : Fin 16) (c : Fin 64) :
    val_main_v101 (F := Ideal) x0 x1 x3 x5 (ix4 r z h c) = refMax x0 x1 x3 x5 r z h c := by
  unfold val_main_v101 refMax refScore val_main_cst_33
  exact redMax_at _ r z h c

theorem v107_at (r : Fin 256) (z : Fin 1) (h : Fin 16) (c : Fin 64) (k : Fin 768) :
    val_main_v107 (F := Ideal) x0 x1 x3 x5 (ix5 r z h c k) = Ideal.exp (refScore x0 x1 x3 x5 r z h c k - refMax x0 x1 x3 x5 r z h c) := by
  rw [val_main_v107_apply, val_main_v106_apply, val_main_v105_apply, val_main_v104_apply,
    show idx_main_v104 (idx_main_v105 (ix5 r z h c k)) = ix4 r z h c from (eq_ix4 _).trans
      (by match z with | ⟨0, _⟩ => rfl), val_main_v103_apply, v101_at]
  show Ideal.exp (refScore x0 x1 x3 x5 r z h c k - max (Ideal.ofBits .f32 0xFF800000#32) _) = _
  rw [bot_bits, max_eq_right bot_le]

theorem v111_at (r : Fin 256) (z : Fin 1) (h : Fin 16) (c : Fin 64) (k : Fin 768) :
    val_main_v111 (F := Ideal) x0 x1 x3 x5 (ix5 r z h c k)
      = Ideal.div (Ideal.exp (refScore x0 x1 x3 x5 r z h c k - refMax x0 x1 x3 x5 r z h c))
          (∑ k : Fin 768, Ideal.exp (refScore x0 x1 x3 x5 r z h c k - refMax x0 x1 x3 x5 r z h c)) := by
  rw [val_main_v111_apply, val_main_v110_apply, val_main_v109_apply,
    show idx_main_v109 (idx_main_v110 (ix5 r z h c k)) = ix4 r z h c from (eq_ix4 _).trans
      (by match z with | ⟨0, _⟩ => rfl), val_main_v108_apply, v107_at]
  show Ideal.div _ (Ideal.ofBits .f32 0x00000000#32 + _) = _
  rw [Ideal.ofBits_zero_f32, zero_add]
  refine congrArg (Ideal.div _) (Finset.sum_congr rfl fun k _ => ?_)
  rw [show idx_main_v108 (ix4 r z h c) k = ix5 r z h c k from (eq_ix5 _).trans rfl, v107_at]

/-- One query's probabilities. -/
def refProb (r : Fin 256) (z : Fin 1) (h : Fin 16) (c : Fin 64) (k : Fin 768) : EReal :=
  Ideal.div (Ideal.exp (refScore x0 x1 x3 x5 r z h c k - refMax x0 x1 x3 x5 r z h c))
    (∑ k : Fin 768, Ideal.exp (refScore x0 x1 x3 x5 r z h c k - refMax x0 x1 x3 x5 r z h c))

/-- The result: the values weighed by the probabilities. -/
theorem v121_at (r : Fin 256) (h : Fin 16) (c : Fin 64) (d : Fin 128) (R : Fin 16384) (hR : R.val = 64 * r.val + c.val)
    (C : Fin 2048) (hC : C.val = 128 * h.val + d.val) (W : Fin 768 → EReal)
    (h1 : ∀ k : Fin 512, W (Fin.castAdd 256 k) = val_main_v71 (F := Ideal) x2 (ix5 r (0 : Fin 1) k h d))
    (h2 : ∀ i : Fin 256, W (Fin.natAdd 512 i) = x4 (ix4 (0 : Fin 1) i h d)) :
    val_main_v121 (F := Ideal) x0 x1 x2 x3 x4 x5 (ix2 R C) = ∑ k : Fin 768, W k * refProb x0 x1 x3 x5 r 0 h c k := by
  show val_main_v120 (F := Ideal) x0 x1 x2 x3 x4 x5 (ix2 R C) = _
  unfold val_main_v120
  refine (shapeCast_apply _ _ _ (ix5 (0 : Fin 1) r c h d) ?_).trans ?_
  · rw [Shape.rowMajor_val_two, Shape.rowMajor_val_five]
    show (((0 * 256 + r.val) * 64 + c.val) * 16 + h.val) * 128 + d.val = R.val * 2048 + C.val
    omega
  rw [val_main_v119_apply, show idx_main_v119 (ix5 (0 : Fin 1) r c h d) = ix5 r (0 : Fin 1) c h d from (eq_ix5 _).trans rfl,
    val_main_v118_apply, val_main_v114_apply, val_main_v117_apply,
    show idx_main_v114 (ix5 r (0 : Fin 1) c h d) = ix5 r (0 : Fin 1) h d c from (eq_ix5 _).trans rfl,
    show idx_main_v117 (ix5 r (0 : Fin 1) c h d) = ix5 (0 : Fin 1) h d r c from (eq_ix5 _).trans rfl,
    val_main_v113_apply, val_main_v116_apply]
  refine Eq.trans ?_ (Fin.sum_univ_add (a := 512) (b := 256) fun k => W k * refProb x0 x1 x3 x5 r 0 h c k).symm
  refine congr (congrArg (HAdd.hAdd (α := EReal) (β := EReal) (γ := EReal)) (Finset.sum_congr rfl fun k _ => ?_)) (Finset.sum_congr rfl fun i _ => ?_)
  · rw [h1, show lidx_main_v113 (ix5 r (0 : Fin 1) h d c) k = ix5 r (0 : Fin 1) k h d from (eq_ix5 _).trans rfl,
      show ridx_main_v113 (ix5 r (0 : Fin 1) h d c) k = ix5 r (0 : Fin 1) h c k from (eq_ix5 _).trans rfl, val_main_v112_apply,
      show idx_main_v112 (ix5 r (0 : Fin 1) h c k) = ix5 r (0 : Fin 1) h c (Fin.castAdd 256 k) from (eq_ix5 _).trans rfl, v111_at]
    rfl
  · rw [h2, show lidx_main_v116 (ix5 (0 : Fin 1) h d r c) i = ix4 (0 : Fin 1) i h d from (eq_ix4 _).trans rfl,
      show ridx_main_v116 (ix5 (0 : Fin 1) h d r c) i = ix5 r (0 : Fin 1) h c i from (eq_ix5 _).trans rfl, val_main_v115_apply,
      show idx_main_v115 (ix5 r (0 : Fin 1) h c i) = ix5 r (0 : Fin 1) h c (Fin.natAdd 512 i) from (eq_ix5 _).trans rfl, v111_at]
    rfl

end Cert.ReferenceIdeal.Read

end
-- ==== Proof.Finite.lean ====
module

public import Idealize.ShloMosaic.Lib.ReduceAll
public import Idealize.ShloMosaic.Lib.ValueIdx
public import Idealize.ShloMosaic.PureOps.Ideal.Laws
public import Idealize.ShloMosaic.Lib.Pipeline.Value
public import proofs.«01_k».proof.Proof.Soft

@[expose] public section
noncomputable section

/-! What a test that every element of an array is finite says of its elements at the ideal instance, and how a scale
    moves through a sum of products of finite numbers. -/

namespace Cert.Finite
open Idealize.ShloMosaic Cert.Soft

/-- An extended real that is a real number. -/
def Fin' (x : EReal) : Prop := ∃ r : ℝ, x = (r : EReal)

theorem inf_bits : Ideal.ofBits .f32 0x7F800000#32 = (⊤ : EReal) := by simp [Ideal.ofBits, Ideal.ieee]

/-- A number whose absolute value is below `+∞` is real. -/
theorem real_of_cmp (x : EReal) (h : Ideal.cmp .olt (max x (-x)) (⊤ : EReal) = 1#1) : Fin' x := by
  induction x with
  | bot => simp [Ideal.cmp] at h
  | coe r => exact ⟨r, rfl⟩
  | top => simp [Ideal.cmp] at h

theorem and_one : ∀ a b : BitVec 1, IntOp.andi a b = 1#1 → a = 1#1 ∧ b = 1#1 := by decide

/-- The array's test. -/
theorem real_of_all {s u t : Shape} {axes : List (Fin s.rank)} [Subsingleton t.Idx] (x : FVec Ideal s .f32) (b : FVec Ideal s .f32)
    (hb : ∀ i, b i = (⊤ : EReal)) (init : u.Idx → BitVec 1) (h : s.ReducesTo axes t) (hu : 0 < u.numel) (j : t.Idx)
    (e : Host.reduce IntOp.andi (cmpf .olt (Host.absf x) b) init h hu j = 1#1) (i : s.Idx) : Fin' (x i) := by
  have h1 := Host.reduce_andi_all _ init h hu j e i
  have h2 : Ideal.cmp .olt (max (x i) (-(x i))) (b i) = 1#1 := h1
  rw [hb i] at h2
  exact real_of_cmp _ h2

/-- A nonnegative scale and a second one, moved from the left factors of a sum of products to its front. -/
theorem dot_scale {κ : Type} [Fintype κ] (a b : κ → EReal) (ha : ∀ k, Fin' (a k)) (hb : ∀ k, Fin' (b k)) (σ c : ℝ) :
    ∑ k, (a k * (σ : EReal) * (c : EReal)) * b k = (c : EReal) * ((∑ k, a k * b k) * (σ : EReal)) ∧ Fin' ((∑ k, a k * b k) * (σ : EReal)) := by
  choose f hf using ha
  choose g hg using hb
  have e1 : ∑ k, a k * b k = ((∑ k, f k * g k : ℝ) : EReal) := by
    rw [← sum_coe]
    refine Finset.sum_congr rfl fun k _ => ?_
    rw [hf, hg, EReal.coe_mul]
  have e2 : ∑ k, (a k * (σ : EReal) * (c : EReal)) * b k = ((∑ k, f k * σ * c * g k : ℝ) : EReal) := by
    rw [← sum_coe]
    refine Finset.sum_congr rfl fun k _ => ?_
    rw [hf, hg]
    norm_cast
  refine ⟨?_, _, by rw [e1, ← EReal.coe_mul]⟩
  rw [e1, e2, ← EReal.coe_mul, ← EReal.coe_mul, Finset.sum_mul, Finset.mul_sum]
  refine congrArg _ (Finset.sum_congr rfl fun k _ => ?_)
  ring

theorem Fin'.ne_top {x : EReal} (h : Fin' x) : x ≠ ⊤ := by obtain ⟨r, rfl⟩ := h; exact EReal.coe_ne_top r
theorem Fin'.ne_bot {x : EReal} (h : Fin' x) : x ≠ ⊥ := by obtain ⟨r, rfl⟩ := h; exact EReal.coe_ne_bot r
theorem Fin'.add {x y : EReal} (hx : Fin' x) (hy : Fin' y) : Fin' (x + y) := by
  obtain ⟨r, rfl⟩ := hx; obtain ⟨q, rfl⟩ := hy; exact ⟨r + q, by rw [EReal.coe_add]⟩

/-- A real factor distributes over a sum of reals. -/
theorem mul_add_fin (c : ℝ) {x y : EReal} (hx : Fin' x) (hy : Fin' y) : (c : EReal) * (x + y) = (c : EReal) * x + y * (c : EReal) := by
  obtain ⟨r, rfl⟩ := hx; obtain ⟨q, rfl⟩ := hy
  norm_cast; ring

theorem scale_real : ∃ σ : ℝ, Ideal.ofBits .f32 0x3DB504F3#32 = (σ : EReal) := by
  refine ⟨11863283 / 134217728, ?_⟩
  simp [Ideal.ofBits, Ideal.ieee, -EReal.coe_mul]
  norm_num

end Cert.Finite

end
-- ==== Proof.NaEq.lean ====
module

public import proofs.«01_k».proof.Proof.NaRows
public import proofs.«01_k».proof.Proof.NaRefOut
public import proofs.«01_k».proof.Proof.Finite

@[expose] public section
set_option maxRecDepth 16384
noncomputable section

/-! The neighbourhood attention's kernel and its reference hold one value: the kernel's score of a slab key is the
    reference's of the window key it stands for, times the logarithm's scale, and the slab's one row outside the window
    scores `⊥`. -/

namespace Cert.KernelIdeal.Gen
open Idealize.ShloMosaic Idealize.ShloMosaic.TcCoe Idealize.ShloMosaic.Tactic Idealize.SL.Sem
open Idealize.ShloMosaic.ValueIdx Cert.Soft Cert.Finite Cert.ReferenceIdeal.Read

/-! ## The slab's geometry -/

theorem variant_lt (t : Nat) (ht : t < 128) : variant t < 5 := by unfold variant; split <;> [skip; split] <;> omega

/-- A grid point's entry of the bias table. -/
abbrev varF (t : Fin 128) : Fin 5 := ⟨variant t.val, variant_lt t.val t.isLt⟩

theorem slab_win : ∀ (t : Fin 128) (e : Fin 2), slabBase t.val + slabOff (varF t) e = winBase (2 * t.val + e.val) := by decide +kernel
theorem row_bias : ∀ (t : Fin 128) (e : Fin 2), biasRow (varF t) e = biasBase (2 * t.val + e.val) := by decide +kernel
theorem off_le : ∀ (v : Fin 5) (e : Fin 2), slabOff v e ≤ 1 := by decide

/-- The slab key that stands for a reference key. -/
def keyAt (off : Nat) (ho : off ≤ 1) (k : Fin 768) : Fin 832 :=
  if hk : k.val < 512 then ⟨256 + 64 * off + k.val, by omega⟩ else ⟨k.val - 512, by omega⟩

theorem keyAt_lo (off : Nat) (ho : off ≤ 1) (k : Fin 512) : (keyAt off ho (Fin.castAdd 256 k)).val = 256 + 64 * off + k.val := by
  unfold keyAt
  rw [dif_pos (show (Fin.castAdd 256 k).val < 512 from k.isLt)]
  rfl

theorem keyAt_hi (off : Nat) (ho : off ≤ 1) (i : Fin 256) : (keyAt off ho (Fin.natAdd 512 i)).val = i.val := by
  unfold keyAt
  rw [dif_neg (show ¬ (Fin.natAdd 512 i).val < 512 by show ¬ 512 + i.val < 512; omega)]
  show 512 + i.val - 512 = i.val
  omega

theorem keyAt_inj (off : Nat) (ho : off ≤ 1) : Function.Injective (keyAt off ho) := by
  intro a b h
  have h' := congrArg Fin.val h
  have ha := a.isLt
  have hb := b.isLt
  unfold keyAt at h'
  apply Fin.ext
  split at h' <;> split at h' <;> simp only at h' <;> omega

/-- The slab keys that stand for none lie in the row outside the window. -/
theorem keyAt_miss (off : Nat) (ho : off ≤ 1) (i : Fin 832) (h : ∀ k, keyAt off ho k ≠ i) :
    ∃ j : Fin 64, i.val = 256 + (8 * (1 - off) * 64 + j.val) := by
  have hi := i.isLt
  by_cases h1 : i.val < 256
  · exact absurd (Fin.ext (keyAt_hi off ho ⟨i.val, h1⟩)) (h _)
  by_cases h2 : 256 + 64 * off ≤ i.val ∧ i.val < 256 + 64 * off + 512
  · exact absurd (Fin.ext ((keyAt_lo off ho ⟨i.val - (256 + 64 * off), by omega⟩).trans (by show 256 + 64 * off + (i.val - (256 + 64 * off)) = i.val; omega))) (h _)
  rcases Nat.le_one_iff_eq_zero_or_eq_one.mp ho with rfl | rfl
  · exact ⟨⟨i.val - 768, by omega⟩, by show i.val = 256 + (8 * (1 - 0) * 64 + (i.val - 768)); omega⟩
  · exact ⟨⟨i.val - 256, by omega⟩, by show i.val = 256 + (8 * (1 - 1) * 64 + (i.val - 256)); omega⟩

/-! ## The scores -/

variable (m : (ℓ : Loc nD τ sig) → Buf (Elt Ideal) ℓ)

/-- The kernel's score at a point. -/
def kScore (c : Dev nD) (t : Fin cfg0.N) (h : Fin 16) (r : Fin 128) (i : Fin 832) : EReal :=
  headScore (cols 128 (iblk m c 0 t) h) (cols 256 (iblk m c 3 t) h) (cols 576 (iblk m c 1 t) h) (biasHead (iblk m c 5 t) h) r i

/-- The kernel's value rows at a point. -/
def kVal (c : Dev nD) (t : Fin cfg0.N) (h : Fin 16) (d : Fin 128) (i : Fin 832) : EReal :=
  catRows (cols 256 (iblk m c 4 t) h) (cols 576 (iblk m c 2 t) h) (ix2 i d)

/-- The reference's score. -/
def rScore (c : Dev nD) (r : Fin 256) (h : Fin 16) (col : Fin 64) (k : Fin 768) : EReal :=
  refScore (argQ m c) (argK m c) (argKc m c) (rpb m c) r 0 h col k

/-- The arguments the scores are made of are real. -/
structure Fine (c : Dev nD) : Prop where
  q : ∀ i, Fin' (argQ m c i)
  k : ∀ i, Fin' (argK m c i)
  kc : ∀ i, Fin' (argKc m c i)
  b : ∀ i, Fin' (rpb m c i)

variable {m}

theorem score_hi (c : Dev nD) (fine : Fine m c) (t : Fin 128) (e : Fin 2) (col : Fin 64) (h : Fin 16) (r : Fin 128) (hr : r.val = 64 * e.val + col.val)
    (ri : Fin 256) (hri : ri.val = 2 * t.val + e.val) (i : Fin 256) (k : Fin 832) (hk : k.val = i.val) :
    kScore m c t h r k = (cE : EReal) * rScore m c ri h col (Fin.natAdd 512 i) ∧ Fin' (rScore m c ri h col (Fin.natAdd 512 i)) := by
  obtain ⟨σ, hσ⟩ := scale_real
  have hR : rScore m c ri h col (Fin.natAdd 512 i)
      = (∑ e : Fin 128, argQ m c (ix4 (0 : Fin 1) (pix ri col) h e) * argKc m c (ix4 (0 : Fin 1) i h e)) * (σ : EReal) := by
    unfold rScore refScore
    rw [v100_hi _ _ _ _ ri 0 h col (Fin.natAdd 512 i) i rfl, v99_at]
    exact congrArg _ hσ
  have hD := dot_scale (fun e : Fin 128 => argQ m c (ix4 (0 : Fin 1) (pix ri col) h e)) (fun e => argKc m c (ix4 (0 : Fin 1) i h e))
    (fun _ => fine.q _) (fun _ => fine.kc _) σ cE
  rw [hR]
  refine ⟨?_, hD.2⟩
  unfold kScore headScore
  rw [hb m c t h r k (varF t) rfl, bias_ctx m c (varF t) h r k (by have := i.isLt; omega), add_zero]
  refine (Finset.sum_congr rfl fun x _ => ?_).trans hD.1
  rw [hq m c t h r x (pix ri col) (by show 64 * ri.val + col.val = _; omega), catRows_lo _ _ k i x hk, hkc m c t h i x, hσ]

theorem score_lo (c : Dev nD) (fine : Fine m c) (t : Fin 128) (e : Fin 2) (col : Fin 64) (h : Fin 16) (r : Fin 128) (hr : r.val = 64 * e.val + col.val)
    (ri : Fin 256) (hri : ri.val = 2 * t.val + e.val) (w : Fin 8) (j : Fin 64) (k' : Fin 512) (hk' : k'.val = w.val * 64 + j.val)
    (k : Fin 832) (hk : k.val = 256 + 64 * slabOff (varF t) e + k'.val) :
    kScore m c t h r k = (cE : EReal) * rScore m c ri h col (Fin.castAdd 256 k') ∧ rScore m c ri h col (Fin.castAdd 256 k') ≠ ⊤ := by
  obtain ⟨σ, hσ⟩ := scale_real
  have hsw := slab_win t e
  have hrb := row_bias t e
  have hol := off_le (varF t) e
  rw [← hri] at hsw hrb
  have hw : winBase ri.val = min (ri.val - 4) 248 := rfl
  have hbl := biasRow_le (varF t) e
  have hRb : winBase ri.val + w.val < 256 := by omega
  have hQb : biasBase ri.val + w.val < 15 := by omega
  have hR : rScore m c ri h col (Fin.castAdd 256 k')
      = if colOk col.val j.val then (∑ e : Fin 128, argQ m c (ix4 (0 : Fin 1) (pix ri col) h e)
          * argK m c (ix4 (0 : Fin 1) (pix (⟨winBase ri.val + w.val, hRb⟩ : Fin 256) j) h e)) * (σ : EReal)
          + rpb m c (ix3 h (⟨biasBase ri.val + w.val, hQb⟩ : Fin 15) (colIx col.val j.val)) else ⊥ := by
    unfold rScore refScore
    rw [v100_lo _ _ _ _ ri 0 h col (Fin.castAdd 256 k') k' rfl, v95_at _ _ _ ri 0 h col k' w j hk' ⟨winBase ri.val + w.val, hRb⟩ rfl ⟨biasBase ri.val + w.val, hQb⟩ rfl]
    rw [← hσ]
  have hD := dot_scale (fun e : Fin 128 => argQ m c (ix4 (0 : Fin 1) (pix ri col) h e))
    (fun e => argK m c (ix4 (0 : Fin 1) (pix (⟨winBase ri.val + w.val, hRb⟩ : Fin 256) j) h e)) (fun _ => fine.q _) (fun _ => fine.k _) σ cE
  have hdot : (∑ x : Fin 128, cols 128 (iblk m c 0 t) h (ix2 r x) * catRows (cols 256 (iblk m c 3 t) h) (cols 576 (iblk m c 1 t) h) (ix2 k x))
      = (cE : EReal) * ((∑ e : Fin 128, argQ m c (ix4 (0 : Fin 1) (pix ri col) h e)
          * argK m c (ix4 (0 : Fin 1) (pix (⟨winBase ri.val + w.val, hRb⟩ : Fin 256) j) h e)) * (σ : EReal)) := by
    refine (Finset.sum_congr rfl fun x _ => ?_).trans hD.1
    rw [hq m c t h r x (pix ri col) (by show 64 * ri.val + col.val = _; omega),
      catRows_hi _ _ k ⟨64 * slabOff (varF t) e + k'.val, by have := k'.isLt; omega⟩ x (by show k.val = 256 + (64 * slabOff (varF t) e + k'.val); omega),
      Cert.KernelIdeal.Gen.hk m c t h _ x (pix (⟨winBase ri.val + w.val, hRb⟩ : Fin 256) j)
        (by show 64 * (winBase ri.val + w.val) + j.val = 64 * slabBase t.val + (64 * slabOff (varF t) e + k'.val); omega), hσ]
  have hB := bias_in m c (varF t) h r e col j k w hr (by omega)
  have hQ : (⟨biasRow (varF t) e + w.val, by omega⟩ : Fin 15) = ⟨biasBase ri.val + w.val, hQb⟩ := Fin.ext (by show biasRow (varF t) e + w.val = biasBase ri.val + w.val; omega)
  unfold kScore headScore
  rw [hdot, hb m c t h r k (varF t) rfl, hB, hR, hQ]
  split
  · exact ⟨(mul_add_fin cE hD.2 (fine.b _)).symm, (hD.2.add (fine.b _)).ne_top⟩
  · exact ⟨by rw [EReal.add_bot, EReal.coe_mul_bot_of_pos cE_pos], bot_ne_top⟩

theorem score_out (c : Dev nD) (t : Fin 128) (e : Fin 2) (col : Fin 64) (h : Fin 16) (r : Fin 128) (hr : r.val = 64 * e.val + col.val)
    (j : Fin 64) (k : Fin 832) (hk : k.val = 256 + (8 * (1 - slabOff (varF t) e) * 64 + j.val)) : kScore m c t h r k = ⊥ := by
  unfold kScore headScore
  rw [hb m c t h r k (varF t) rfl, bias_out m c (varF t) h r e col j k hr hk, EReal.add_bot]

/-! ## The values -/

/-- The kernel's result block at a point, where its row and column stand in the reference's. -/
theorem out_eq (c : Dev nD) (fine : Fine m c) (t : Fin 128) (e : Fin 2) (col : Fin 64) (h : Fin 16) (d : Fin 128) (r : Fin 128) (hr : r.val = 64 * e.val + col.val)
    (D : Fin 2048) (hD : D.val = 128 * h.val + d.val) (R : Fin 16384) (hR : R.val = 128 * t.val + r.val) :
    out0_6 (iblk m c 0 t) (iblk m c 1 t) (iblk m c 2 t) (iblk m c 3 t) (iblk m c 4 t) (iblk m c 5 t) (ix2 r D)
      = val_main_v121 (F := Ideal) (argQ m c) (argK m c) (argV m c) (argKc m c) (argVc m c) (rpb m c) (ix2 R D) := by
  have ht := t.isLt
  have he := e.isLt
  have hol := off_le (varF t) e
  have hsw := slab_win t e
  let ri : Fin 256 := ⟨2 * t.val + e.val, by omega⟩
  let φ := keyAt (slabOff (varF t) e) hol
  have hlo : ∀ k' : Fin 512, kScore m c t h r (φ (Fin.castAdd 256 k')) = (cE : EReal) * rScore m c ri h col (Fin.castAdd 256 k')
      ∧ rScore m c ri h col (Fin.castAdd 256 k') ≠ ⊤ := fun k' => by
    have hk := k'.isLt
    exact score_lo c fine t e col h r hr ri rfl ⟨k'.val / 64, by omega⟩ ⟨k'.val % 64, by omega⟩ k' (by show k'.val = k'.val / 64 * 64 + k'.val % 64; omega)
      _ (keyAt_lo _ hol k')
  have hhi : ∀ i : Fin 256, kScore m c t h r (φ (Fin.natAdd 512 i)) = (cE : EReal) * rScore m c ri h col (Fin.natAdd 512 i)
      ∧ Fin' (rScore m c ri h col (Fin.natAdd 512 i)) := fun i => score_hi c fine t e col h r hr ri rfl i _ (keyAt_hi _ hol i)
  have hsoft := soft_eq φ (keyAt_inj _ hol) (rScore m c ri h col) (fun k => ?_) (Fin.natAdd 512 (0 : Fin 256)) (hhi 0).2.ne_bot
    (kScore m c t h r) (fun k => ?_) (fun i hi => ?_) (fun k => kVal m c t h d (φ k)) (kVal m c t h d) (fun _ => rfl)
  · rw [out0_6_apply _ _ _ _ _ _ h r d D hD]
    unfold headAt
    rw [headOut_apply]
    refine hsoft.trans ?_
    refine (v121_at (argQ m c) (argK m c) (argV m c) (argKc m c) (argVc m c) (rpb m c) ri h col d R
      (by show R.val = 64 * (2 * t.val + e.val) + col.val; omega) D hD (fun k => kVal m c t h d (φ k)) (fun k' => ?_) (fun i => ?_)).symm
    · have hk := k'.isLt
      have hw : winBase ri.val = min (ri.val - 4) 248 := rfl
      have hrv : ri.val = 2 * t.val + e.val := rfl
      rw [← hrv] at hsw
      have hRb : winBase ri.val + k'.val / 64 < 256 := by omega
      have hkey := keyAt_lo _ hol k'
      show catRows _ _ (ix2 (φ (Fin.castAdd 256 k')) d) = _
      rw [v71_at (argV m c) ri 0 k' h d ⟨k'.val / 64, by omega⟩ ⟨k'.val % 64, by omega⟩ (by show k'.val = k'.val / 64 * 64 + k'.val % 64; omega) ⟨_, hRb⟩ rfl,
        catRows_hi _ _ _ ⟨64 * slabOff (varF t) e + k'.val, by omega⟩ d (by show (keyAt _ hol _).val = 256 + (64 * slabOff (varF t) e + k'.val); omega)]
      exact hv m c t h _ d _ (by show 64 * (winBase ri.val + k'.val / 64) + k'.val % 64 = 64 * slabBase t.val + (64 * slabOff (varF t) e + k'.val); omega)
    · show catRows _ _ (ix2 (φ (Fin.natAdd 512 i)) d) = _
      rw [catRows_lo _ _ _ i d (keyAt_hi _ hol i)]
      exact hvc m c t h i d
  · refine Fin.addCases (m := 512) (n := 256) (fun k' => (hlo k').2) (fun i => (hhi i).2.ne_top) k
  · exact Fin.addCases (m := 512) (n := 256) (motive := fun k => kScore m c t h r (φ k) = (cE : EReal) * rScore m c ri h col k)
      (fun k' => (hlo k').1) (fun i => (hhi i).1) k
  · obtain ⟨j, hj⟩ := keyAt_miss _ hol i hi
    exact score_out c t e col h r hr j i hj

/-- The kernel's whole result is the reference's. -/
theorem final_eq (c : Dev nD) (fine : Fine m c) :
    ((dats m 0 c).arrAt 6 cfg0.N : S16384x2048.Idx → EReal)
      = val_main_v121 (F := Ideal) (argQ m c) (argK m c) (argV m c) (argKc m c) (argVc m c) (rpb m c) := by
  funext i
  obtain ⟨R, D, rfl⟩ : ∃ (R : Fin 16384) (D : Fin 2048), i = ix2 R D := ⟨i 0, i 1, eq_ix2 i⟩
  have hRl := R.isLt
  have hDl := D.isLt
  refine (final6 m c (⟨R.val / 128, by rw [show cfg0.N = 128 from N_0]; omega⟩ : Fin cfg0.N) ⟨R.val % 128, by omega⟩ D R (by show R.val = 128 * (R.val / 128) + R.val % 128; omega)).trans ?_
  exact out_eq c fine ⟨R.val / 128, by omega⟩ ⟨R.val % 128 / 64, by omega⟩ ⟨R.val % 64, by omega⟩ ⟨D.val / 128, by omega⟩ ⟨D.val % 128, by omega⟩
    ⟨R.val % 128, by omega⟩ (by show R.val % 128 = 64 * (R.val % 128 / 64) + R.val % 64; omega) D (by show D.val = 128 * (D.val / 128) + D.val % 128; omega) R
    (by show R.val = 128 * (R.val / 128) + R.val % 128; omega)

end Cert.KernelIdeal.Gen

end
-- ==== Proof.NaClaim.lean ====
module

public import proofs.«01_k».proof.Defs
public import proofs.«01_k».proof.Proof.NaEq
public import proofs.«01_k».proof.Proof.Gen.Kernel.Frame
public import proofs.«01_k».proof.Proof.Gen.ReferenceIdeal.Run
public import proofs.«01_k».proof.Proof.Gen.ReferenceIdeal
public import proofs.«01_k».proof.Proof.Gen.Pre_finite
public import Idealize.ShloMosaic.Lib.Quiescent

@[expose] public section
set_option maxRecDepth 16384
noncomputable section

/-! The neighbourhood attention's claims. -/

namespace Cert.Proof.Na
open Idealize.ShloMosaic Idealize.ShloMosaic.TcCoe Idealize.SL.Sem
open Cert.KernelIdeal Cert.KernelIdeal.Gen Cert.Finite

/-- The kernel as printed: it runs, leaves its arguments, and ends with every counter at zero. -/
theorem frame_kernel : Cert.quiescent_Kernel := fun m ρ _ => Cert.Kernel.Gen.frame (F := Bits) m ρ

/-- The same of its idealization. -/
theorem frame_ideal : Cert.quiescent_KernelIdeal := fun m ρ _ => Cert.KernelIdeal.Gen.frame (F := Ideal) m ρ

/-- The same from finite arguments. -/
theorem frame_ideal_fin : Cert.quiescent_KernelIdeal_pre_finite := fun m ρ _ => Cert.KernelIdeal.Gen.frame (F := Ideal) m ρ

/-- The reference runs, leaves its arguments, and has no counter. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from finite arguments. -/
theorem frame_ref_fin : Cert.quiescent_ReferenceIdeal_pre_finite := fun m ρ _ => frame_ref m ρ trivial

/-- The two programs have one text. -/
theorem preserves : Cert.preserves_Kernel_KernelIdeal := trivial

/-- The precondition's word tests each array the scores read. -/
theorem fine_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : Fine m c := by
  have h0 := congrFun (h c) (fun a => a.elim0)
  haveI : Subsingleton Cert.Pre_finite.S_.Idx := ⟨fun a b => funext fun x => x.elim0⟩
  obtain ⟨h1, hb⟩ := and_one _ _ h0
  obtain ⟨h2, hk⟩ := and_one _ _ h1
  obtain ⟨hq, hkk⟩ := and_one _ _ h2
  exact ⟨real_of_all _ _ (fun _ => inf_bits) _ _ _ _ hq, real_of_all _ _ (fun _ => inf_bits) _ _ _ _ hkk,
    real_of_all _ _ (fun _ => inf_bits) _ _ _ _ hk, real_of_all _ _ (fun _ => inf_bits) _ _ _ _ hb⟩

/-- From finite arguments the kernel's result is the reference's over the extended reals. -/
theorem algebraic : Cert.algebraic_KernelIdeal_ReferenceIdeal_pre_finite := by
  intro m ρ m' ρ' hpre hagree
  refine ⟨fun c => (dats m 0 c).arrAt 6 cfg0.N, ?_, ?_⟩
  · exact (θ_run Cert.KernelIdeal.defs _ _).mono (fun r h c => ⟨(h c).1 6,
      ((h c).2 Cert.KernelIdeal.main_arg0 (Pipeline.mem_restRefs_of Cert.KernelIdeal.main_arg0 (by decide) (by decide))).trans (V_main_arg0 m c),
      ((h c).2 Cert.KernelIdeal.main_arg1 (Pipeline.mem_restRefs_of Cert.KernelIdeal.main_arg1 (by decide) (by decide))).trans (V_main_arg1 m c),
      ((h c).2 Cert.KernelIdeal.main_arg2 (Pipeline.mem_restRefs_of Cert.KernelIdeal.main_arg2 (by decide) (by decide))).trans (V_main_arg2 m c),
      ((h c).2 Cert.KernelIdeal.main_arg3 (Pipeline.mem_restRefs_of Cert.KernelIdeal.main_arg3 (by decide) (by decide))).trans (V_main_arg3 m c),
      ((h c).2 Cert.KernelIdeal.main_arg4 (Pipeline.mem_restRefs_of Cert.KernelIdeal.main_arg4 (by decide) (by decide))).trans (V_main_arg4 m c),
      ((h c).2 Cert.KernelIdeal.main_arg5 (Pipeline.mem_restRefs_of Cert.KernelIdeal.main_arg5 (by decide) (by decide))).trans (V_main_arg5 m c)⟩)
      (run_main (F := Ideal) m ρ)
  · refine (θ_run Cert.ReferenceIdeal.defs _ _).mono (fun r h c => ⟨(h c).1.trans ?_, (h c).2⟩) (Cert.ReferenceIdeal.Value.run (F := Ideal) m' ρ')
    rw [Cert.ReferenceIdeal.Read.val_main_v121_eq]
    obtain ⟨e0, e1, e2, e3, e4, e5⟩ := hagree c
    rw [e0, e1, e2, e3, e4, e5]
    exact (final_eq c (fine_of_pre m hpre c)).symm

end Cert.Proof.Na

end
-- ==== Proof.Tiles.lean ====
module

public import Idealize.ShloMosaic.Lib.Pipeline.Value
public import Idealize.ShloMosaic.Lib.ValueIdx
public import Idealize.ShloMosaic.Lib.MatmulPlain

@[expose] public section
noncomputable section

/-! Readings that every tiled matrix product here shares. -/

namespace Cert.Tiles
open Idealize.ShloMosaic Idealize.ShloMosaic.ValueIdx

/-- A cast of a shape to itself changes nothing. -/
theorem cast_same {α : Type} {s : Shape} (x : s.Idx → α) (h : s.ShapeCasts s) : shapeCast s x h = x := by
  funext j; exact shapeCast_apply x h j j rfl

/-- A leading axis of one dropped. -/
theorem cast_drop {α : Type} (K N : ℕ) (x : (⟨3, ![1, K, N]⟩ : Shape).Idx → α)
    (h : (⟨3, ![1, K, N]⟩ : Shape).ShapeCasts ⟨2, ![K, N]⟩) (k : Fin K) (n : Fin N) :
    shapeCast ⟨2, ![K, N]⟩ x h (ix2 k n) = x (ix3 (0 : Fin 1) k n) := by
  refine shapeCast_apply x h (ix2 k n) (ix3 (0 : Fin 1) k n) ?_
  rw [Shape.rowMajor_val_two, Shape.rowMajor_val_three]
  show (0 * K + k.val) * N + n.val = k.val * N + n.val
  rw [Nat.zero_mul, Nat.zero_add]

/-- A leading axis of one added. -/
theorem bcast_lead {α : Type} (K N : ℕ) (x : (⟨2, ![K, N]⟩ : Shape).Idx → α)
    (h : (⟨2, ![K, N]⟩ : Shape).BroadcastsInDim ⟨3, ![1, K, N]⟩ ![1, 2]) (hK : K ≠ 1) (hN : N ≠ 1) (z : Fin 1) (k : Fin K) (n : Fin N) :
    broadcastInDim ⟨3, ![1, K, N]⟩ ![1, 2] h x (ix3 z k n) = x (ix2 k n) := by
  refine broadcastInDim_apply _ h x (ix3 z k n) (ix2 k n) fun a => ?_
  match a with
  | ⟨0, _⟩ => show k.val = if K = 1 then 0 else k.val; rw [if_neg hK]
  | ⟨1, _⟩ => show n.val = if N = 1 then 0 else n.val; rw [if_neg hN]

/-- A matrix product from a zero accumulator, the right operand behind a leading axis of one. -/
theorem dot_drop (M K N : ℕ) {φ₁ φ₂ : FTy} (prec : Option ContractPrecision) (a : FVec Ideal ⟨2, ![M, K]⟩ φ₁)
    (w : FVec Ideal ⟨3, ![1, K, N]⟩ φ₂) (ha : (⟨2, ![M, K]⟩ : Shape).ShapeCasts ⟨2, ![M, K]⟩)
    (hw : (⟨3, ![1, K, N]⟩ : Shape).ShapeCasts ⟨2, ![K, N]⟩) (r : Fin M) (n : Fin N) :
    FloatOps.matmul (F := Ideal) (DotDims.plain M K N) prec (shapeCast ⟨2, ![M, K]⟩ a ha) (shapeCast ⟨2, ![K, N]⟩ w hw)
      (constant ⟨2, ![M, N]⟩ .f32 0x00000000#32) (ix2 r n) = ∑ k : Fin K, a (ix2 r k) * w (ix3 (0 : Fin 1) k n) := by
  rw [cast_same]
  refine (Ideal.matmul_plain_apply prec _ _ _ r n).trans ?_
  rw [show (constant ⟨2, ![M, N]⟩ .f32 0x00000000#32 : FVec Ideal ⟨2, ![M, N]⟩ .f32) (ix2 r n) = (0 : EReal) from Ideal.ofBits_zero_f32, zero_add]
  exact Finset.sum_congr rfl fun k _ => congrArg (a (ix2 r k) * ·) (cast_drop K N w hw k n)

/-- Two matrices equal at every row and column. -/
theorem same2 {M N : ℕ} (f g : (⟨2, ![M, N]⟩ : Shape).Idx → EReal) (h : ∀ (R : Fin M) (C : Fin N), f (ix2 R C) = g (ix2 R C)) : f = g := by
  funext i
  rw [eq_ix2 i]
  exact h _ _

/-- The logistic as the host spells it. -/
theorem host_logistic (x : EReal) : Ideal.div (Ideal.ofBits .f32 0x3F800000#32)
    (Ideal.ofBits .f32 0x3F800000#32 + Ideal.exp (-x)) = Ideal.logistic x := by
  rw [show Ideal.ofBits .f32 0x3F800000#32 = 1 from by simp [Ideal.ofBits, Ideal.ieee, -EReal.coe_mul]; norm_num]
  rfl

end Cert.Tiles

end
-- ==== Proof.MlaLoop.lean ====
module

public import proofs.«01_k».proof.Proof.Gen.KernelMlaIdeal.Loops
public import proofs.«01_k».proof.Proof.Gen.KernelMlaIdeal.Frame
public import proofs.«01_k».proof.Proof.Tiles
public import Idealize.ShloMosaic.Lib.VecWindow
public import Idealize.ShloMosaic.Lib.Pipeline.ValueKit.Tiles

/-! # The attention kernel's loop over chunks of keys, in closed form

The kernel keeps the running maximum and the accumulated weighted values of the keys seen so far, and
computes the scores of a chunk one step ahead of using them, in one of two slots. Here that loop is
stated without the slots: `flash` takes one chunk after another. -/

@[expose] public section
set_option maxRecDepth 16384
noncomputable section
namespace Cert.KernelMlaIdeal.Gen
open Idealize.ShloMosaic Idealize.ShloMosaic.TcCoe Idealize.ShloMosaic.Tactic
open Idealize.ShloMosaic.ValueIdx
open Idealize.SL Idealize.SL.RA Idealize.SL.BI
variable {F : FTy → Type} [FloatOps F]

/-- The running maximum per query, and the accumulated rows per query. -/
abbrev FlashState (F : FTy → Type) [FloatOps F] := FVec F S1x512 .f32 × FVec F S144x512 .f32

/-- Chunk `j` of the keys: rows `2048 j` to `2048 j + 2047`. -/
def keysAt (x1 : Vec F S1x16384x256 .bf16) (j : ℕ) : Vec F S1x2048x256 .bf16 :=
  fun ix => x1 (ix3 (0 : Fin 1) ⟨(2048 * j + (ix 1).val) % 16384, Nat.mod_lt _ (by norm_num)⟩ (ix 2 : Fin 256))

/-- Chunk `j` of the values: columns `2048 j` to `2048 j + 2047`. -/
def valsAt (x2 : Vec F S1x144x16384 .bf16) (j : ℕ) : Vec F S1x144x2048 .bf16 :=
  fun ix => x2 (ix3 (0 : Fin 1) (ix 1 : Fin 144) ⟨(2048 * j + (ix 2).val) % 16384, Nat.mod_lt _ (by norm_num)⟩)

/-- The scores of chunk `j`. -/
def scoreAt (x0 : Vec F S1x512x256 .bf16) (x1 : Vec F S1x16384x256 .bf16) (j : ℕ) : Vec F S1x2048x512 .f32 :=
  k0_pay8 x0 (keysAt x1 j)

/-- One chunk's update of the running maximum and the accumulated rows. -/
def update (s : Vec F S1x2048x512 .f32) (v : Vec F S1x144x2048 .bf16) (a : FlashState F) : FlashState F :=
  (k0_pay13 a.1 s, k0_pay14 a.1 a.2 s v)

/-- The state after the context keys and the first `j` chunks. -/
def flash (x0 : Vec F S1x512x256 .bf16) (x1 : Vec F S1x16384x256 .bf16) (x2 : Vec F S1x144x16384 .bf16)
    (a : FlashState F) : ℕ → FlashState F
  | 0 => a
  | j + 1 => update (scoreAt x0 x1 j) (valsAt x2 j) (flash x0 x1 x2 a j)

/-- Reading a chunk of keys at its first row. -/
theorem readAt_keys (arg3 : Memref sig .tc .vmem S1x16384x256 .bf16) (f : BufTy.Contents (Elt F) arg3.view.ty)
    (off : Fin 3 → ℕ) (j : ℕ) (hj : j < 8) (inb : ∀ a, off a + S1x2048x256.size a ≤ S1x16384x256.size a)
    (h : off = ![0, 2048 * j, 0]) :
    View.readAt (Elt F) arg3.view (Rect.unit (s := S1x16384x256) off S1x2048x256.size inb).toLoadRect f
      = keysAt (arg3.view.read (Elt F) f) j := by
  subst h
  funext ix
  refine congrArg (arg3.view.read (Elt F) f) (funext fun a => Fin.ext ?_)
  have h1 : (ix 1).val < 2048 := (ix 1).isLt
  have h0 : (ix 0).val < 1 := (ix 0).isLt
  match a with
  | ⟨0, _⟩ => show 0 + 1 * (ix 0).val = 0; omega
  | ⟨1, _⟩ => show 2048 * j + 1 * (ix 1).val = (2048 * j + (ix 1).val) % 16384; omega
  | ⟨2, _⟩ => show 0 + 1 * (ix 2).val = (ix 2).val; omega

/-- Reading a chunk of values at its first column. -/
theorem readAt_vals (arg4 : Memref sig .tc .vmem S1x144x16384 .bf16) (f : BufTy.Contents (Elt F) arg4.view.ty)
    (off : Fin 3 → ℕ) (j : ℕ) (hj : j < 8) (inb : ∀ a, off a + S1x144x2048.size a ≤ S1x144x16384.size a)
    (h : off = ![0, 0, 2048 * j]) :
    View.readAt (Elt F) arg4.view (Rect.unit (s := S1x144x16384) off S1x144x2048.size inb).toLoadRect f
      = valsAt (arg4.view.read (Elt F) f) j := by
  subst h
  funext ix
  refine congrArg (arg4.view.read (Elt F) f) (funext fun a => Fin.ext ?_)
  have h2 : (ix 2).val < 2048 := (ix 2).isLt
  have h0 : (ix 0).val < 1 := (ix 0).isLt
  match a with
  | ⟨0, _⟩ => show 0 + 1 * (ix 0).val = 0; omega
  | ⟨1, _⟩ => show 0 + 1 * (ix 1).val = (ix 1).val; omega
  | ⟨2, _⟩ => show 2048 * j + 1 * (ix 2).val = (2048 * j + (ix 2).val) % 16384; omega

/-- A slot just stored reads back what was stored. -/
theorem slot_hit {off : Fin 3 → ℕ} (v : View sig .tc .vmem S2x2048x512 .f32) (f : v.ty.Contents (Elt F))
    (inb : ∀ a, off a + S1x2048x512.size a ≤ S2x2048x512.size a) (w : Vec F S1x2048x512 .f32)
    (L : List (View.Piece (Elt F) S2x2048x512 .f32)) :
    View.readAt (Elt F) v (Rect.unit (s := S2x2048x512) off S1x2048x512.size inb).toLoadRect
      (v.writes (Elt F) f (⟨Rect.unit (s := S2x2048x512) off S1x2048x512.size inb, w⟩ :: L)) = w := by
  funext x
  exact View.read_writes_cons_unit_of_mem v f inb w L _ x rfl fun a => by
    show off a + 1 * (x a).val = _
    omega

/-- Storing one slot leaves the other as it was. -/
theorem slot_miss {off off' : Fin 3 → ℕ} (v : View sig .tc .vmem S2x2048x512 .f32) (f : v.ty.Contents (Elt F))
    (inb : ∀ a, off a + S1x2048x512.size a ≤ S2x2048x512.size a)
    (inb' : ∀ a, off' a + S1x2048x512.size a ≤ S2x2048x512.size a) (w : Vec F S1x2048x512 .f32)
    (L : List (View.Piece (Elt F) S2x2048x512 .f32)) (hne : off 0 ≠ off' 0) :
    View.readAt (Elt F) v (Rect.unit (s := S2x2048x512) off S1x2048x512.size inb).toLoadRect
      (v.writes (Elt F) f (⟨Rect.unit (s := S2x2048x512) off' S1x2048x512.size inb', w⟩ :: L))
      = View.readAt (Elt F) v (Rect.unit (s := S2x2048x512) off S1x2048x512.size inb).toLoadRect (v.writes (Elt F) f L) := by
  funext x
  refine View.read_writes_cons_unit_of_not_mem v f inb' w L _ rfl (a := 0) ?_
  have h0 : (x 0).val < 1 := (x 0).isLt
  show off 0 + 1 * (x 0).val < off' 0 ∨ off' 0 + 1 ≤ off 0 + 1 * (x 0).val
  omega

section Trips
variable (𝒱 : Variants) (c : Dev nD) (bd : Option 𝒱.V) (i : grid0.Coords) (arg2 : Memref sig .tc .vmem S1x512x256 .bf16) (harg2 : arg2.IsWhole) (arg3 : Memref sig .tc .vmem S1x16384x256 .bf16) (harg3 : arg3.IsWhole) (arg4 : Memref sig .tc .vmem S1x144x16384 .bf16) (harg4 : arg4.IsWhole) (arg5 : Memref sig .tc .vmem S1x256x256 .bf16) (harg5 : arg5.IsWhole) (arg6 : Memref sig .tc .vmem S1x144x256 .bf16) (harg6 : arg6.IsWhole) (arg7 : Memref sig .tc .vmem S512x128 .bf16) (harg7 : arg7.IsWhole) (arg8 : Memref sig .tc .vmem S2x2048x512 .f32) (harg8 : arg8.IsWhole) (v0 : Vec F S1x512x256 .bf16) (X_arg3 : BufTy.Contents (Elt F) arg3.view.ty) (X_arg4 : BufTy.Contents (Elt F) arg4.view.ty)

/-- What one trip of the loop yields, on a state whose slot 0 holds the scores of chunk `2 k`. -/
theorem trip_yields (k : Fin k0_t1_loop.trips) (a : FlashState F) (f : BufTy.Contents (Elt F) arg8.view.ty)
    (hf : View.readAt (Elt F) arg8.view (Rect.unit (s := S2x2048x512) ![0, 0, 0] S1x2048x512.size inb_S2x2048x512_S1x2048x512_0_0_0).toLoadRect f
      = scoreAt v0 (arg3.view.read (Elt F) X_arg3) (2 * k.val)) :
    tripR_k0_t1 (F := F) 𝒱 c bd i arg2 harg2 arg3 harg3 arg4 harg4 arg5 harg5 arg6 harg6 arg7 harg7 arg8 harg8 v0 X_arg3 X_arg4 k a f
      = update (scoreAt v0 (arg3.view.read (Elt F) X_arg3) (2 * k.val + 1)) (valsAt (arg4.view.read (Elt F) X_arg4) (2 * k.val + 1))
        (update (scoreAt v0 (arg3.view.read (Elt F) X_arg3) (2 * k.val)) (valsAt (arg4.view.read (Elt F) X_arg4) (2 * k.val)) a) := by
  have hk : k.val < 3 := Nat.lt_of_lt_of_le k.isLt k0_t1_abs.2.1
  have e89 : trip_k0_t1.sl.v89 arg8 f = scoreAt v0 (arg3.view.read (Elt F) X_arg3) (2 * k.val) := hf
  have e120 : trip_k0_t1.sl.v120 arg3 arg8 v0 X_arg3 k = scoreAt v0 (arg3.view.read (Elt F) X_arg3) (2 * k.val + 1) := by
    unfold trip_k0_t1.sl.v120 trip_k0_t1.sl.HW_arg8_2
    refine (slot_miss arg8.view _ _ _ _ _ (by decide)).trans ((slot_hit arg8.view _ _ _ _).trans ?_)
    exact congrArg (k0_pay8 v0) (readAt_keys arg3 X_arg3 _ (2 * k.val + 1) (by omega) _ ((k0_off1_eq k 0).trans (by
      congr 2; show 4096 * k.val + 2048 * 0 + 2048 = _; omega)))
  have e2 := readAt_vals arg4 X_arg4 (k0_off2 k) (2 * k.val) (by omega) (k0_off2_inb k) ((k0_off2_eq k).trans (by
      congr 3; omega))
  have e3 := readAt_vals arg4 X_arg4 (k0_off3 k) (2 * k.val + 1) (by omega) (k0_off3_inb k) ((k0_off3_eq k).trans (by
      congr 3; omega))
  unfold tripR_k0_t1 trip_k0_t1
  dsimp only [trip_k0_t1.sl.r, trip_k0_t1.sl.r_1]
  rw [e89, e120, e2, e3]
  rfl

/-- After a trip slot 0 holds the scores of the chunk after the next. -/
theorem trip_slot (k : Fin k0_t1_loop.trips) (a : FlashState F) (f : BufTy.Contents (Elt F) arg8.view.ty)
    (G : BufTy.Contents (Elt F) arg8.view.ty) (L : List (View.Piece (Elt F) S2x2048x512 .f32)) :
    View.readAt (Elt F) arg8.view (Rect.unit (s := S2x2048x512) ![0, 0, 0] S1x2048x512.size inb_S2x2048x512_S1x2048x512_0_0_0).toLoadRect
      (arg8.view.writes (Elt F) G (tripL_k0_t1 (F := F) 𝒱 c bd i arg2 harg2 arg3 harg3 arg4 harg4 arg5 harg5 arg6 harg6 arg7 harg7 arg8 harg8 v0 X_arg3 X_arg4 k a f ++ L))
      = scoreAt v0 (arg3.view.read (Elt F) X_arg3) (2 * (k.val + 1)) := by
  have hk : k.val < 3 := Nat.lt_of_lt_of_le k.isLt k0_t1_abs.2.1
  unfold tripL_k0_t1 trip_k0_t1
  dsimp only [trip_k0_t1.sl.HW_arg8_2]
  refine (slot_hit arg8.view _ _ _ _).trans ?_
  exact congrArg (k0_pay8 v0) (readAt_keys arg3 X_arg3 _ (2 * (k.val + 1)) (by omega) _ ((k0_off1_eq k 1).trans (by
      congr 2; show 4096 * k.val + 2048 * 1 + 2048 = _; omega)))

/-- The loop's state before trip `n`: the first `2 n` chunks are taken, and slot 0 holds the scores of
    chunk `2 n`, over any earlier stores after which it held those of chunk 0. -/
theorem st_eq (G : BufTy.Contents (Elt F) arg8.view.ty) (a : FlashState F)
    (hG : View.readAt (Elt F) arg8.view (Rect.unit (s := S2x2048x512) ![0, 0, 0] S1x2048x512.size inb_S2x2048x512_S1x2048x512_0_0_0).toLoadRect G
      = scoreAt v0 (arg3.view.read (Elt F) X_arg3) 0) (n : ℕ) (hn : n ≤ k0_t1_loop.trips) :
    (st_k0_t1 (F := F) 𝒱 c bd i arg2 harg2 arg3 harg3 arg4 harg4 arg5 harg5 arg6 harg6 arg7 harg7 arg8 harg8 v0 X_arg3 X_arg4 G a n).1
        = flash v0 (arg3.view.read (Elt F) X_arg3) (arg4.view.read (Elt F) X_arg4) a (2 * n)
    ∧ ∀ (G' : BufTy.Contents (Elt F) arg8.view.ty) (L' : List (View.Piece (Elt F) S2x2048x512 .f32)),
      View.readAt (Elt F) arg8.view (Rect.unit (s := S2x2048x512) ![0, 0, 0] S1x2048x512.size inb_S2x2048x512_S1x2048x512_0_0_0).toLoadRect (arg8.view.writes (Elt F) G' L')
      = scoreAt v0 (arg3.view.read (Elt F) X_arg3) 0 →
      View.readAt (Elt F) arg8.view (Rect.unit (s := S2x2048x512) ![0, 0, 0] S1x2048x512.size inb_S2x2048x512_S1x2048x512_0_0_0).toLoadRect
      (arg8.view.writes (Elt F) G' ((st_k0_t1 (F := F) 𝒱 c bd i arg2 harg2 arg3 harg3 arg4 harg4 arg5 harg5 arg6 harg6 arg7 harg7 arg8 harg8 v0 X_arg3 X_arg4 G a n).2 ++ L'))
      = scoreAt v0 (arg3.view.read (Elt F) X_arg3) (2 * n) := by
  induction n with
  | zero => exact ⟨rfl, fun G' L' h => h⟩
  | succ n ih =>
    obtain ⟨ih1, ih2⟩ := ih (Nat.le_of_succ_le hn)
    have e := st_k0_t1_succ (F := F) 𝒱 c bd i arg2 harg2 arg3 harg3 arg4 harg4 arg5 harg5 arg6 harg6 arg7 harg7 arg8 harg8 v0 X_arg3 X_arg4 G a ⟨n, hn⟩
    rw [show n + 1 = (⟨n, hn⟩ : Fin k0_t1_loop.trips).val + 1 from rfl, e]
    refine ⟨?_, fun G' L' h => ?_⟩
    · have ih3 := ih2 G [] hG
      rw [List.append_nil] at ih3
      refine (trip_yields 𝒱 c bd i arg2 harg2 arg3 harg3 arg4 harg4 arg5 harg5 arg6 harg6 arg7 harg7 arg8 harg8 v0 X_arg3 X_arg4 ⟨n, hn⟩ _ _ ih3).trans ?_
      rw [ih1]
      rfl
    · rw [List.append_assoc]
      exact trip_slot 𝒱 c bd i arg2 harg2 arg3 harg3 arg4 harg4 arg5 harg5 arg6 harg6 arg7 harg7 arg8 harg8 v0 X_arg3 X_arg4 ⟨n, hn⟩ _ _ G' _
end Trips
end Cert.KernelMlaIdeal.Gen
end
-- ==== Proof.MlaFrame.lean ====
module

public import proofs.«01_k».proof.Proof.MlaLoop
public import proofs.«01_k».proof.Proof.Gen.KernelMlaIdeal.Skeleton
public import Idealize.ShloMosaic.Lib.Claim

/-! # The attention kernel's run

The kernel's body leaves its result a function of its five inputs' blocks (`flashOut`), whatever the
scratch slots held before. From it: every run of the program ends, with the arguments as they were. -/

@[expose] public section
set_option maxRecDepth 16384
noncomputable section
namespace Cert.KernelMlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores, from the blocks of queries, keys, values, context keys and context values:
    the accumulated rows after all eight chunks, divided by the row of sums. -/
def flashOut (x0 : Vec F S1x512x256 .bf16) (x1 : Vec F S1x16384x256 .bf16) (x2 : Vec F S1x144x16384 .bf16)
    (x3 : Vec F S1x256x256 .bf16) (x4 : Vec F S1x144x256 .bf16) : Vec F S512x128 .bf16 :=
  k0_pay1 (flash x0 x1 x2 (k0_pay9 x0 x3, k0_pay10 x0 x3 x4) 8).2

set_option maxHeartbeats 1000000 in
/-- The body on whole buffers, the inputs at read contents and the result and the scratch at anything,
    ends with the inputs as they were and the result at `flashOut` of them. -/
theorem sound_kernel (c : Dev nD) (E : Set ℕ) (i : grid0.Coords) (arg2 : Memref sig .tc .vmem S1x512x256 .bf16) (harg2 : arg2.IsWhole) (arg3 : Memref sig .tc .vmem S1x16384x256 .bf16) (harg3 : arg3.IsWhole) (arg4 : Memref sig .tc .vmem S1x144x16384 .bf16) (harg4 : arg4.IsWhole) (arg5 : Memref sig .tc .vmem S1x256x256 .bf16) (harg5 : arg5.IsWhole) (arg6 : Memref sig .tc .vmem S1x144x256 .bf16) (harg6 : arg6.IsWhole) (arg7 : Memref sig .tc .vmem S512x128 .bf16) (harg7 : arg7.IsWhole) (arg8 : Memref sig .tc .vmem S2x2048x512 .f32) (harg8 : arg8.IsWhole)
    (x0 : Vec F S1x512x256 .bf16) (x1 : Vec F S1x16384x256 .bf16) (x2 : Vec F S1x144x16384 .bf16) (x3 : Vec F S1x256x256 .bf16) (x4 : Vec F S1x144x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (flashOut x0 x1 x2 x3 x4) ∗ (∃ d, owns (c : Thread nD τ) arg8 fullShare d)) -∗ K ⟨⟩))
      ⊢ wp frame (wpE (defs₀ (F := F)) Variants.none c none) E (cc0_mla_attention i arg2 harg2 arg3 harg3 arg4 harg4 arg5 harg5 arg6 harg6 arg7 harg7 arg8 harg8) K := by
  simp only [cc0_mla_attention_eq_skeleton]; unfold cc0_mla_attention_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_full arg7.view _ _ _ _).trans ?_
    have e0 := View.readAt_full arg2.view f0 inb_S1x512x256_S1x512x256_0_0_0
    have e3 := View.readAt_full arg5.view f3 inb_S1x256x256_S1x256x256_0_0_0
    have e4 := View.readAt_full arg6.view f4 inb_S1x144x256_S1x144x256_0_0_0
    have e10 := readAt_keys arg3 f1 _ 0 (by decide) inb_S1x16384x256_S1x2048x256_0_0_0 rfl
    have e17 := readAt_keys arg3 f1 _ 7 (by decide) inb_S1x16384x256_S1x2048x256_0_14336_0 rfl
    have e26 := readAt_vals arg4 f2 _ 6 (by decide) inb_S1x144x16384_S1x144x2048_0_0_12288 rfl
    have e27 := readAt_vals arg4 f2 _ 7 (by decide) inb_S1x144x16384_S1x144x2048_0_0_14336 rfl
    have hst := st_eq Variants.none c none i arg2 harg2 arg3 harg3 arg4 harg4 arg5 harg5 arg6 harg6 arg7 harg7 arg8 harg8
      (arg2.view.read (Elt F) f0) f1 f2 _ (k0_pay9 (arg2.view.read (Elt F) f0) (arg5.view.read (Elt F) f3),
        k0_pay10 (arg2.view.read (Elt F) f0) (arg5.view.read (Elt F) f3) (arg6.view.read (Elt F) f4))
      (slot_hit arg8.view f6 inb_S2x2048x512_S1x2048x512_0_0_0 (scoreAt (arg2.view.read (Elt F) f0) (arg3.view.read (Elt F) f1) 0) []) 3 (by decide)
    have er : sound_kernel.sl.r c i arg2 harg2 arg3 harg3 arg4 harg4 arg5 harg5 arg6 harg6 arg7 harg7 arg8 harg8 f0 f1 f2 f3 f4 f6
        = (flash (arg2.view.read (Elt F) f0) (arg3.view.read (Elt F) f1) (arg4.view.read (Elt F) f2) (k0_pay9 (arg2.view.read (Elt F) f0) (arg5.view.read (Elt F) f3),
        k0_pay10 (arg2.view.read (Elt F) f0) (arg5.view.read (Elt F) f3) (arg6.view.read (Elt F) f4)) 6).1 := by
      unfold sound_kernel.sl.r
      rw [e0, e3, e4, e10]
      exact congrArg Prod.fst hst.1
    have er1 : sound_kernel.sl.r_1 c i arg2 harg2 arg3 harg3 arg4 harg4 arg5 harg5 arg6 harg6 arg7 harg7 arg8 harg8 f0 f1 f2 f3 f4 f6
        = (flash (arg2.view.read (Elt F) f0) (arg3.view.read (Elt F) f1) (arg4.view.read (Elt F) f2) (k0_pay9 (arg2.view.read (Elt F) f0) (arg5.view.read (Elt F) f3),
        k0_pay10 (arg2.view.read (Elt F) f0) (arg5.view.read (Elt F) f3) (arg6.view.read (Elt F) f4)) 6).2 := by
      unfold sound_kernel.sl.r_1
      rw [e0, e3, e4, e10]
      exact congrArg Prod.snd hst.1
    have e51 : sound_kernel.sl.v51 c i arg2 harg2 arg3 harg3 arg4 harg4 arg5 harg5 arg6 harg6 arg7 harg7 arg8 harg8 f0 f1 f2 f3 f4 f6
        = scoreAt (arg2.view.read (Elt F) f0) (arg3.view.read (Elt F) f1) 7 := by
      unfold sound_kernel.sl.v51 sound_kernel.sl.H6_1 sound_kernel.sl.r_2
      refine (slot_hit arg8.view _ _ _ _).trans ?_
      rw [e0, e17]
      rfl
    have e32 : sound_kernel.sl.v32 c i arg2 harg2 arg3 harg3 arg4 harg4 arg5 harg5 arg6 harg6 arg7 harg7 arg8 harg8 f0 f1 f2 f3 f4 f6
        = scoreAt (arg2.view.read (Elt F) f0) (arg3.view.read (Elt F) f1) 6 := by
      unfold sound_kernel.sl.v32 sound_kernel.sl.H6_1
      refine (slot_miss arg8.view _ _ _ _ _ (by decide)).trans ?_
      rw [e0, e3, e4, e10]
      exact hst.2 _ _ (slot_hit arg8.view _ _ _ _)
    unfold sound_kernel.sl.r_3
    rw [er, er1, e32, e51, e26, e27]
    rfl
  iexists _; iexists _; isplitr
  swap; · iexact H6
  ipureintro
  rfl

variable (m : (ℓ : Loc nD τ sig) → Buf (Elt F) ℓ) (ρ : Dev nD → PrngReg)

/-- The pipeline's data: each input's buffer at its block, the result's at `flashOut` of the blocks; the
    scratch and the generator register at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => flashOut (iblk m c 0 t) (iblk m c 1 t) (iblk m c 2 t) (iblk m c 3 t) (iblk m c 4 t)
  Φ _ := Pipeline.ΦA spec0 c
  q _ := fullShare
  owed _ := 0

/-- The arrays are those at the region's entry. -/
theorem A_eq (c : Dev nD) (w : Fin cfg0.W) : (dats m 0 c).A w = V m c (Pipeline.arrRef spec0 w) := by
  dsimp only [dats]

/-- Window 0 after the body. -/
theorem after0_0 (c : Dev nD) (t : Fin cfg0.N) : (dats m 0 c).after 0 t = iblk m c 0 t := by dsimp only [dats]
/-- Window 1 after the body. -/
theorem after0_1 (c : Dev nD) (t : Fin cfg0.N) : (dats m 0 c).after 1 t = iblk m c 1 t := by dsimp only [dats]
/-- Window 2 after the body. -/
theorem after0_2 (c : Dev nD) (t : Fin cfg0.N) : (dats m 0 c).after 2 t = iblk m c 2 t := by dsimp only [dats]
/-- Window 3 after the body. -/
theorem after0_3 (c : Dev nD) (t : Fin cfg0.N) : (dats m 0 c).after 3 t = iblk m c 3 t := by dsimp only [dats]
/-- Window 4 after the body. -/
theorem after0_4 (c : Dev nD) (t : Fin cfg0.N) : (dats m 0 c).after 4 t = iblk m c 4 t := by dsimp only [dats]
/-- The result's window after the body. -/
theorem after0_5 (c : Dev nD) (t : Fin cfg0.N) : (dats m 0 c).after 5 t = flashOut (iblk m c 0 t) (iblk m c 1 t) (iblk m c 2 t) (iblk m c 3 t) (iblk m c 4 t) := by dsimp only [dats]
/-- Window 0 before the body. -/
theorem before0_0 (c : Dev nD) (t : Fin cfg0.N) (d) : (dats m 0 c).before 0 t d = iblk m c 0 t :=
  before0_0_of m (dats m 0 c) (A_eq m c 0) (after0_0 m c) t d
/-- Window 1 before the body. -/
theorem before0_1 (c : Dev nD) (t : Fin cfg0.N) (d) : (dats m 0 c).before 1 t d = iblk m c 1 t :=
  before0_1_of m (dats m 0 c) (A_eq m c 1) (after0_1 m c) t d
/-- Window 2 before the body. -/
theorem before0_2 (c : Dev nD) (t : Fin cfg0.N) (d) : (dats m 0 c).before 2 t d = iblk m c 2 t :=
  before0_2_of m (dats m 0 c) (A_eq m c 2) (after0_2 m c) t d
/-- Window 3 before the body. -/
theorem before0_3 (c : Dev nD) (t : Fin cfg0.N) (d) : (dats m 0 c).before 3 t d = iblk m c 3 t :=
  before0_3_of m (dats m 0 c) (A_eq m c 3) (after0_3 m c) t d
/-- Window 4 before the body. -/
theorem before0_4 (c : Dev nD) (t : Fin cfg0.N) (d) : (dats m 0 c).before 4 t d = iblk m c 4 t :=
  before0_4_of m (dats m 0 c) (A_eq m c 4) (after0_4 m c) t d

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The scratch and the generator register, the scratch as a whole buffer at some contents. -/
theorem invariant_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5,
    show (dats m 0 c).Φ t.castSucc = Pipeline.ΦA spec0 c from rfl, invariant_eq]
  iintro ⟨⟨HS, HP⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots. -/
theorem body_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- Every run ends, with the pipeline's arrays at the data's values and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelMlaIdeal.Gen
end
-- ==== Proof.MlaRows.lean ====
module

public import proofs.«01_k».proof.Proof.MlaFrame
public import proofs.«01_k».proof.Proof.Tiles
public import Idealize.ShloMosaic.Lib.MatmulPlain

@[expose] public section
set_option maxRecDepth 16384
noncomputable section

/-! The attention kernel's stages read one query and one row at a time, over the extended reals. -/

namespace Cert.KernelMlaIdeal.Gen
open Idealize.ShloMosaic Idealize.ShloMosaic.TcCoe Idealize.ShloMosaic.Tactic
open Idealize.ShloMosaic.ValueIdx

/-- The largest of a column's scores. -/
def colMax {n : ℕ} (s : Fin n → EReal) : EReal := Finset.univ.fold max ⊥ s

theorem neg_inf : (FloatOps.ofBits .f32 0xFF800000#32 : Ideal .f32) = (⊥ : EReal) := by
  show Ideal.ofBits .f32 0xFF800000#32 = ⊥
  simp [Ideal.ofBits, Ideal.ieee]

theorem lift_chunk (q : Fin 512) (u : Fin 2048) : reduces_S2048x512_S512.lift (ix1 q) u = ix2 u q := by
  funext a; match a with
  | ⟨0, _⟩ => rfl
  | ⟨1, _⟩ => rfl

theorem lift_ctx (q : Fin 512) (u : Fin 256) : reduces_S256x512_S512.lift (ix1 q) u = ix2 u q := by
  funext a; match a with
  | ⟨0, _⟩ => rfl
  | ⟨1, _⟩ => rfl

theorem row_cast (x : FVec Ideal S512 .f32) (z : Fin 1) (q : Fin 512) :
    shapeCast S1x512 x shapeCasts_S512_S1x512 (ix2 z q) = x (ix1 q) := by
  refine shapeCast_apply x _ (ix2 z q) (ix1 q) ?_
  rw [Shape.rowMajor_val_two, Shape.rowMajor_val_one]
  show q.val = z.val * 512 + q.val
  omega

/-- A product against the query block's rows. -/
theorem dot_query (n : ℕ) (x0 : Vec Ideal S1x512x256 .bf16) (k : FVec Ideal ⟨3, ![1, n, 256]⟩ .bf16)
    (hk : (⟨3, ![1, n, 256]⟩ : Shape).ShapeCasts ⟨2, ![n, 256]⟩) (u : Fin n) (q : Fin 512) :
    FloatOps.matmul (F := Ideal) (DotDims.transposedRhs n 256 512) none (shapeCast ⟨2, ![n, 256]⟩ k hk) (k0_pay6 (F := Ideal) x0)
      (constant ⟨2, ![n, 512]⟩ .f32 0x00000000#32) (ix2 u q) = ∑ d : Fin 256, k (ix3 (0 : Fin 1) u d) * x0 (ix3 (0 : Fin 1) q d) := by
  refine (Ideal.matmul_transposedRhs_apply none _ _ _ u q).trans ?_
  rw [show (constant ⟨2, ![n, 512]⟩ .f32 0x00000000#32 : FVec Ideal ⟨2, ![n, 512]⟩ .f32) (ix2 u q) = (0 : EReal) from Ideal.ofBits_zero_f32, zero_add]
  refine Finset.sum_congr rfl fun d _ => congr (congrArg (HMul.hMul (α := EReal) (β := EReal) (γ := EReal)) ?_) ?_
  · exact Cert.Tiles.cast_drop n 256 k hk u d
  · exact Cert.Tiles.cast_drop 512 256 x0 _ q d

theorem pay8_apply (x0 : Vec Ideal S1x512x256 .bf16) (k : Vec Ideal S1x2048x256 .bf16) (u : Fin 2048) (q : Fin 512) :
    k0_pay8 (F := Ideal) x0 k (ix3 (0 : Fin 1) u q) = ∑ d : Fin 256, k (ix3 (0 : Fin 1) u d) * x0 (ix3 (0 : Fin 1) q d) := by
  unfold k0_pay8
  refine (shapeCast_apply _ _ (ix3 (0 : Fin 1) u q) (ix2 u q) ?_).trans (dot_query 2048 x0 k _ u q)
  rw [Shape.rowMajor_val_two, Shape.rowMajor_val_three]
  show u.val * 512 + q.val = (0 * 2048 + u.val) * 512 + q.val
  omega

theorem pay7_apply (x0 : Vec Ideal S1x512x256 .bf16) (k : Vec Ideal S1x256x256 .bf16) (u : Fin 256) (q : Fin 512) :
    k0_pay7 (F := Ideal) x0 k (ix2 u q) = ∑ d : Fin 256, k (ix3 (0 : Fin 1) u d) * x0 (ix3 (0 : Fin 1) q d) :=
  dot_query 256 x0 k _ u q

theorem pay9_apply (x0 : Vec Ideal S1x512x256 .bf16) (k : Vec Ideal S1x256x256 .bf16) (q : Fin 512) :
    k0_pay9 (F := Ideal) x0 k (ix2 (0 : Fin 1) q) = colMax fun u : Fin 256 => k0_pay7 (F := Ideal) x0 k (ix2 u q) := by
  unfold k0_pay9
  refine (row_cast _ _ q).trans ?_
  refine (Ideal.multiReduction_maximumf_single _ _ _ _ _ _).trans ?_
  rw [neg_inf]
  refine congrArg (Finset.univ.fold max (⊥ : EReal)) (funext fun u => ?_)
  exact congrArg (k0_pay7 (F := Ideal) x0 k) (lift_ctx q u)

theorem pay12_apply (s : Vec Ideal S1x2048x512 .f32) (u : Fin 2048) (q : Fin 512) :
    k0_pay12 (F := Ideal) s (ix2 u q) = s (ix3 (0 : Fin 1) u q) := Cert.Tiles.cast_drop 2048 512 s _ u q

theorem pay13_apply (m : FVec Ideal S1x512 .f32) (s : Vec Ideal S1x2048x512 .f32) (q : Fin 512) :
    k0_pay13 (F := Ideal) m s (ix2 (0 : Fin 1) q)
      = max (m (ix2 (0 : Fin 1) q) : EReal) (colMax fun u : Fin 2048 => s (ix3 (0 : Fin 1) u q)) := by
  unfold k0_pay13
  refine congrArg (max (m (ix2 (0 : Fin 1) q) : EReal)) ?_
  refine (row_cast _ _ q).trans ?_
  refine (Ideal.multiReduction_maximumf_single _ _ _ _ _ _).trans ?_
  rw [neg_inf]
  refine congrArg (Finset.univ.fold max (⊥ : EReal)) (funext fun u => ?_)
  exact (congrArg (k0_pay12 (F := Ideal) s) (lift_chunk q u)).trans (pay12_apply s u q)

theorem spread_col (n : ℕ) (x : FVec Ideal S1x512 .f32) (h : S1x512.Broadcasts ⟨2, ![n, 512]⟩) (u : Fin n) (q : Fin 512) :
    broadcastTo ⟨2, ![n, 512]⟩ x h (ix2 u q) = x (ix2 (0 : Fin 1) q) := by
  refine broadcastTo_apply _ _ (ix2 u q) (ix2 (0 : Fin 1) q) fun a => ?_
  match a with
  | ⟨0, _⟩ => rfl
  | ⟨1, _⟩ => rfl

/-- The weighted values of a set of keys. -/
theorem dot_weights (n : ℕ) (v : FVec Ideal ⟨3, ![1, 144, n]⟩ .bf16) (s : FVec Ideal ⟨2, ![n, 512]⟩ .f32) (μ : FVec Ideal S1x512 .f32)
    (hv : (⟨3, ![1, 144, n]⟩ : Shape).ShapeCasts ⟨2, ![144, n]⟩) (hb : S1x512.Broadcasts ⟨2, ![n, 512]⟩) (r : Fin 144) (q : Fin 512) :
    FloatOps.matmul (F := Ideal) (DotDims.plain 144 n 512) none (shapeCast ⟨2, ![144, n]⟩ v hv)
      (truncf (F := Ideal) .bf16 (exp2 (F := Ideal) (subf (F := Ideal) s (broadcastTo ⟨2, ![n, 512]⟩ μ hb))) bitsLt_bf16_f32)
      (constant S144x512 .f32 0x00000000#32) (ix2 r q)
      = ∑ u : Fin n, v (ix3 (0 : Fin 1) r u) * Ideal.exp2 ((s (ix2 u q) : EReal) - (μ (ix2 (0 : Fin 1) q) : EReal)) := by
  refine (Ideal.matmul_plain_apply none _ _ _ r q).trans ?_
  rw [show (constant S144x512 .f32 0x00000000#32 : FVec Ideal S144x512 .f32) (ix2 r q) = (0 : EReal) from Ideal.ofBits_zero_f32, zero_add]
  refine Finset.sum_congr rfl fun u _ => congr (congrArg (HMul.hMul (α := EReal) (β := EReal) (γ := EReal)) ?_) ?_
  · exact Cert.Tiles.cast_drop 144 n v hv r u
  · exact congrArg (fun e : EReal => Ideal.exp2 ((s (ix2 u q) : EReal) - e)) (spread_col n μ hb u q)

theorem pay10_apply (x0 : Vec Ideal S1x512x256 .bf16) (k : Vec Ideal S1x256x256 .bf16) (v : Vec Ideal S1x144x256 .bf16) (r : Fin 144) (q : Fin 512) :
    k0_pay10 (F := Ideal) x0 k v (ix2 r q)
      = ∑ u : Fin 256, v (ix3 (0 : Fin 1) r u)
          * Ideal.exp2 ((k0_pay7 (F := Ideal) x0 k (ix2 u q) : EReal) - (k0_pay9 (F := Ideal) x0 k (ix2 (0 : Fin 1) q) : EReal)) :=
  dot_weights 256 v (k0_pay7 (F := Ideal) x0 k) (k0_pay9 (F := Ideal) x0 k) _ _ r q

theorem pay14_apply (m : FVec Ideal S1x512 .f32) (acc : FVec Ideal S144x512 .f32) (s : Vec Ideal S1x2048x512 .f32) (v : Vec Ideal S1x144x2048 .bf16)
    (r : Fin 144) (q : Fin 512) :
    k0_pay14 (F := Ideal) m acc s v (ix2 r q)
      = Ideal.exp2 ((m (ix2 (0 : Fin 1) q) : EReal) - (k0_pay13 (F := Ideal) m s (ix2 (0 : Fin 1) q) : EReal)) * (acc (ix2 r q) : EReal)
        + ∑ u : Fin 2048, v (ix3 (0 : Fin 1) r u)
          * Ideal.exp2 ((s (ix3 (0 : Fin 1) u q) : EReal) - (k0_pay13 (F := Ideal) m s (ix2 (0 : Fin 1) q) : EReal)) := by
  unfold k0_pay14
  refine congr (congrArg (HAdd.hAdd (α := EReal) (β := EReal) (γ := EReal)) ?_) ?_
  · exact congrArg (fun e : EReal => e * (acc (ix2 r q) : EReal)) (spread_col 144 _ _ r q)
  · refine (dot_weights 2048 v (k0_pay12 (F := Ideal) s) (k0_pay13 (F := Ideal) m s) _ _ r q).trans ?_
    refine Finset.sum_congr rfl fun u _ => ?_
    rw [pay12_apply]

/-- The kernel's last step: each row over the row that summed the weights. -/
theorem pay1_apply (acc : FVec Ideal S144x512 .f32) (q : Fin 512) (e : Fin 128) :
    k0_pay1 (F := Ideal) acc (ix2 q e)
      = Ideal.div (acc (ix2 (⟨e.val, by omega⟩ : Fin 144) q)) (acc (ix2 (⟨128, by omega⟩ : Fin 144) q)) := by
  unfold k0_pay1
  show transpose S512x128 [1, 0] (divf (F := Ideal) (extractStridedSlice S128x512 ![0, 0] acc slices_S144x512_o0_0_S128x512)
    (broadcastTo S128x512 (extractStridedSlice S1x512 ![128, 0] acc slices_S144x512_o128_0_S1x512) broadcasts_S1x512_S128x512))
    transposes_S128x512_p1_0_S512x128 (ix2 q e) = _
  refine (transpose_apply [1, 0] _ transposes_S128x512_p1_0_S512x128 (ix2 q e) (ix2 e q) fun b => ?_).trans ?_
  · match b with
    | ⟨0, _⟩ => rfl
    | ⟨1, _⟩ => rfl
  · refine congr (congrArg Ideal.div ?_) ?_
    · refine extractStridedSlice_apply (s := S144x512) (t := S128x512) ![0, 0] acc _ (ix2 e q) (ix2 (⟨e.val, by omega⟩ : Fin 144) q) fun a => ?_
      match a with
      | ⟨0, _⟩ => show e.val = 0 + e.val; omega
      | ⟨1, _⟩ => show q.val = 0 + q.val; omega
    · refine (spread_col 128 _ _ e q).trans ?_
      refine extractStridedSlice_apply (s := S144x512) (t := S1x512) ![128, 0] acc _ (ix2 (0 : Fin 1) q) (ix2 (⟨128, by omega⟩ : Fin 144) q) fun a => ?_
      match a with
      | ⟨0, _⟩ => rfl
      | ⟨1, _⟩ => show q.val = 0 + q.val; omega

end Cert.KernelMlaIdeal.Gen

end
-- ==== Proof.MlaSoft.lean ====
module

public import proofs.«01_k».proof.Proof.Soft

@[expose] public section
noncomputable section

/-! Softmax taken one chunk of keys after another: weights in base two against a reference level that moves, and the
    quotient in which the level no longer shows. -/

namespace Cert.Soft

open Idealize.ShloMosaic

/-- Two to a real power. -/
def p2 (x : ℝ) : ℝ := Real.rpow 2 x

theorem p2_pos (x : ℝ) : 0 < p2 x := Real.rpow_pos_of_pos two_pos x

theorem p2_chain (μ ν x : ℝ) : p2 (x - μ) * p2 (μ - ν) = p2 (x - ν) := by
  show (2 : ℝ) ^ (x - μ) * (2 : ℝ) ^ (μ - ν) = (2 : ℝ) ^ (x - ν)
  rw [← Real.rpow_add two_pos]
  congr 1
  ring

theorem exp2_sub (x μ : ℝ) : Ideal.exp2 ((x : EReal) - (μ : EReal)) = (p2 (x - μ) : EReal) := by
  rw [← EReal.coe_sub]; rfl

theorem exp_sub (x μ : ℝ) : Ideal.exp ((x : EReal) - (μ : EReal)) = (Real.exp (x - μ) : EReal) := by
  rw [← EReal.coe_sub]; rfl

/-- A nonnegative real factor goes into a sum over a finite set. -/
theorem set_sum_mul_coe {κ : Type} (t : Finset κ) (f : κ → EReal) {a : ℝ} (ha : 0 ≤ a) :
    (∑ k ∈ t, f k) * (a : EReal) = ∑ k ∈ t, f k * (a : EReal) := by
  classical
  refine Finset.induction_on t (by simp) fun b t hb ih => ?_
  rw [Finset.sum_insert hb, Finset.sum_insert hb, ← ih]
  exact EReal.right_distrib_of_nonneg_of_ne_top (EReal.coe_nonneg.2 ha) (EReal.coe_ne_top a) _ _

/-- The values of a fixed set of keys and of the first `n` keys of a sequence, each weighted by two to its score less
    the level `μ`. -/
def mass {κ : Type} [Fintype κ] (wc : κ → EReal) (sc : κ → ℝ) (w : ℕ → EReal) (s : ℕ → ℝ) (μ : ℝ) (n : ℕ) : EReal :=
  (∑ u, wc u * (p2 (sc u - μ) : EReal)) + ∑ k ∈ Finset.range n, w k * (p2 (s k - μ) : EReal)

section
variable {κ : Type} [Fintype κ] (wc : κ → EReal) (sc : κ → ℝ) (w : ℕ → EReal) (s : ℕ → ℝ)

/-- Moving the level multiplies by two to the difference. -/
theorem mass_shift (μ ν : ℝ) (n : ℕ) : (p2 (μ - ν) : EReal) * mass wc sc w s μ n = mass wc sc w s ν n := by
  unfold mass
  rw [mul_comm, EReal.right_distrib_of_nonneg_of_ne_top (EReal.coe_nonneg.2 (p2_pos _).le) (EReal.coe_ne_top _),
    set_sum_mul_coe _ _ (p2_pos _).le, set_sum_mul_coe _ _ (p2_pos _).le]
  refine congr (congrArg HAdd.hAdd ?_) ?_ <;> refine Finset.sum_congr rfl fun k _ => ?_ <;>
    rw [mul_assoc, ← EReal.coe_mul, p2_chain]

/-- A chunk of further keys added. -/
theorem mass_add (ν : ℝ) (n B : ℕ) :
    mass wc sc w s ν n + ∑ u : Fin B, w (n + u.val) * (p2 (s (n + u.val) - ν) : EReal) = mass wc sc w s ν (n + B) := by
  unfold mass
  rw [Finset.sum_range_add, add_assoc, Finset.sum_range (n := B)]

/-- The weights of the keys at level `ν`, in base `e`. -/
def wsum (tc : κ → ℝ) (t : ℕ → ℝ) (ν : ℝ) (N : ℕ) : ℝ := (∑ k : Fin N, Real.exp (t k.val - ν)) + ∑ u, Real.exp (tc u - ν)

theorem wsum_pos (tc : κ → ℝ) (t : ℕ → ℝ) (ν : ℝ) (N : ℕ) (u₀ : κ) : 0 < wsum tc t ν N := by
  refine add_pos_of_nonneg_of_pos (Finset.sum_nonneg fun _ _ => (Real.exp_pos _).le) ?_
  exact Finset.sum_pos (fun _ _ => Real.exp_pos _) ⟨u₀, Finset.mem_univ _⟩

theorem p2_cE (x μ ν : ℝ) : p2 (cE * x - μ) = Real.exp (x - ν) * Real.exp (ν - μ * Real.log 2) := by
  show (2 : ℝ) ^ (cE * x - μ) = _
  rw [Real.rpow_def_of_pos two_pos, ← Real.exp_add]
  congr 1
  unfold cE
  have h : Real.log 2 ≠ 0 := (Real.log_pos one_lt_two).ne'
  field_simp
  ring

/-- In base `e`, at any other level. -/
theorem mass_exp (tc : κ → ℝ) (t : ℕ → ℝ) (μ ν : ℝ) (N : ℕ) :
    mass wc (fun u => cE * tc u) w (fun k => cE * t k) μ N
      = ((∑ k : Fin N, w k.val * (Real.exp (t k.val - ν) : EReal)) + ∑ u, wc u * (Real.exp (tc u - ν) : EReal))
          * (Real.exp (ν - μ * Real.log 2) : EReal) := by
  unfold mass
  rw [EReal.right_distrib_of_nonneg_of_ne_top (EReal.coe_nonneg.2 (Real.exp_pos _).le) (EReal.coe_ne_top _),
    set_sum_mul_coe _ _ (Real.exp_pos _).le, set_sum_mul_coe _ _ (Real.exp_pos _).le, Finset.sum_range, add_comm]
  refine congr (congrArg HAdd.hAdd ?_) ?_ <;> refine Finset.sum_congr rfl fun k _ => ?_ <;>
    rw [p2_cE _ _ ν, EReal.coe_mul, mul_assoc]

/-- The quotient of the weighted values by the weights is the softmax of the scores in base `e`, at any level. -/
theorem mass_div (tc : κ → ℝ) (t : ℕ → ℝ) (μ ν : ℝ) (N : ℕ) (u₀ : κ) :
    Ideal.div (mass wc (fun u => cE * tc u) w (fun k => cE * t k) μ N)
        (mass (fun _ => 1) (fun u => cE * tc u) (fun _ => 1) (fun k => cE * t k) μ N)
      = (∑ k : Fin N, w k.val * Ideal.div (Real.exp (t k.val - ν) : EReal) (wsum tc t ν N : EReal))
        + ∑ u, wc u * Ideal.div (Real.exp (tc u - ν) : EReal) (wsum tc t ν N : EReal) := by
  have pos := wsum_pos tc t ν N u₀
  have hC := Real.exp_pos (ν - μ * Real.log 2)
  have hone : mass (fun _ : κ => 1) (fun u => cE * tc u) (fun _ => 1) (fun k => cE * t k) μ N
      = ((wsum tc t ν N * Real.exp (ν - μ * Real.log 2) : ℝ) : EReal) := by
    rw [mass_exp (ν := ν)]
    simp only [one_mul]
    rw [sum_coe, sum_coe, ← EReal.coe_add, ← EReal.coe_mul]
    rfl
  rw [hone, mass_exp (ν := ν), Ideal.div_coe (mul_pos pos hC).ne', mul_assoc, ← EReal.coe_mul]
  have hr : Real.exp (ν - μ * Real.log 2) * (1 / (wsum tc t ν N * Real.exp (ν - μ * Real.log 2))) = 1 / wsum tc t ν N := by
    field_simp
  rw [hr, EReal.right_distrib_of_nonneg_of_ne_top (EReal.coe_nonneg.2 (one_div_pos.2 pos).le) (EReal.coe_ne_top _),
    set_sum_mul_coe _ _ (one_div_pos.2 pos).le, set_sum_mul_coe _ _ (one_div_pos.2 pos).le]
  refine congr (congrArg HAdd.hAdd ?_) ?_ <;> refine Finset.sum_congr rfl fun k _ => ?_ <;>
    rw [Ideal.div_coe pos.ne', mul_assoc]

end
end Cert.Soft

end
-- ==== Proof.MlaColumn.lean ====
module

public import proofs.«01_k».proof.Proof.MlaRows
public import proofs.«01_k».proof.Proof.MlaSoft
public import proofs.«01_k».proof.Proof.Finite

@[expose] public section
set_option maxRecDepth 16384
noncomputable section

/-! One query's state through the attention kernel's loop: a real running level, and the weighted values of the keys
    seen so far at that level. -/

namespace Cert.KernelMlaIdeal.Gen
open Idealize.ShloMosaic Idealize.ShloMosaic.TcCoe Idealize.ShloMosaic.Tactic
open Idealize.ShloMosaic.ValueIdx Cert.Soft

theorem colMax_real {n : ℕ} [NeZero n] (f : Fin n → ℝ) : ∃ μ : ℝ, colMax (fun u => (f u : EReal)) = (μ : EReal) := by
  obtain ⟨μ, h, -⟩ := exists_sup (fun u => (f u : EReal)) (fun k => EReal.coe_ne_top _) (0 : Fin n) (EReal.coe_ne_bot _)
  exact ⟨μ, h⟩

/-- A key's score against a query of the block. -/
def kdot (x0 : Vec Ideal S1x512x256 .bf16) (x1 : Vec Ideal S1x16384x256 .bf16) (q : Fin 512) (k : ℕ) : EReal :=
  ∑ d : Fin 256, x1 (ix3 (0 : Fin 1) (⟨k % 16384, Nat.mod_lt _ (by norm_num)⟩ : Fin 16384) d) * x0 (ix3 (0 : Fin 1) q d)

/-- A key's entry in a row of the values. -/
def vrow (x2 : Vec Ideal S1x144x16384 .bf16) (r : Fin 144) (k : ℕ) : EReal :=
  x2 (ix3 (0 : Fin 1) r (⟨k % 16384, Nat.mod_lt _ (by norm_num)⟩ : Fin 16384))

theorem scoreAt_apply (x0 : Vec Ideal S1x512x256 .bf16) (x1 : Vec Ideal S1x16384x256 .bf16) (j : ℕ) (u : Fin 2048) (q : Fin 512) :
    scoreAt (F := Ideal) x0 x1 j (ix3 (0 : Fin 1) u q) = kdot x0 x1 q (2048 * j + u.val) := pay8_apply x0 (keysAt x1 j) u q

variable (x0 : Vec Ideal S1x512x256 .bf16) (x1 : Vec Ideal S1x16384x256 .bf16) (x2 : Vec Ideal S1x144x16384 .bf16)
  (x3 : Vec Ideal S1x256x256 .bf16) (x4 : Vec Ideal S1x144x256 .bf16)

/-- The state after the context keys and `j` chunks. -/
abbrev stateAt (j : ℕ) : FlashState Ideal := flash (F := Ideal) x0 x1 x2 (k0_pay9 (F := Ideal) x0 x3, k0_pay10 (F := Ideal) x0 x3 x4) j

/-- For a query whose scores are all real: after `j` chunks the level is real, and each row holds the weighted values of
    the context keys and of the first `2048 j` keys at that level. -/
theorem state_eq (q : Fin 512) (s : ℕ → ℝ) (sc : Fin 256 → ℝ) (hs : ∀ k, kdot x0 x1 q k = (s k : EReal))
    (hc : ∀ u, k0_pay7 (F := Ideal) x0 x3 (ix2 u q) = (sc u : EReal)) (j : ℕ) :
    ∃ μ : ℝ, (stateAt x0 x1 x2 x3 x4 j).1 (ix2 (0 : Fin 1) q) = (μ : EReal)
      ∧ ∀ r : Fin 144, (stateAt x0 x1 x2 x3 x4 j).2 (ix2 r q)
        = mass (fun u : Fin 256 => x4 (ix3 (0 : Fin 1) r u)) sc (vrow x2 r) s μ (2048 * j) := by
  induction j with
  | zero =>
    obtain ⟨μ, hμ⟩ := colMax_real sc
    have h9 : k0_pay9 (F := Ideal) x0 x3 (ix2 (0 : Fin 1) q) = (μ : EReal) := by
      rw [pay9_apply, ← hμ]
      exact congrArg colMax (funext hc)
    have h0 : stateAt x0 x1 x2 x3 x4 0 = (k0_pay9 (F := Ideal) x0 x3, k0_pay10 (F := Ideal) x0 x3 x4) := by
      unfold stateAt; rw [flash]
    rw [h0]
    dsimp only
    refine ⟨μ, h9, fun r => (pay10_apply x0 x3 x4 r q).trans ?_⟩
    unfold mass
    rw [h9]
    rw [Nat.mul_zero, Finset.range_zero, Finset.sum_empty, add_zero]
    refine Finset.sum_congr rfl fun u _ => ?_
    rw [hc, exp2_sub]
  | succ j ih =>
    obtain ⟨μ, h1, h2⟩ := ih
    obtain ⟨ξ, hl⟩ := colMax_real fun u : Fin 2048 => s (2048 * j + u.val)
    have hsc : ∀ u : Fin 2048, scoreAt (F := Ideal) x0 x1 j (ix3 (0 : Fin 1) u q) = (s (2048 * j + u.val) : EReal) := fun u =>
      (scoreAt_apply x0 x1 j u q).trans (hs _)
    have h13 : k0_pay13 (F := Ideal) (stateAt x0 x1 x2 x3 x4 j).1 (scoreAt (F := Ideal) x0 x1 j) (ix2 (0 : Fin 1) q)
        = ((max μ ξ : ℝ) : EReal) := by
      rw [pay13_apply, h1, show ((max μ ξ : ℝ) : EReal) = max (μ : EReal) (ξ : EReal) from EReal.coe_strictMono.monotone.map_max, ← hl]
      exact congrArg (fun f => max (μ : EReal) (colMax f)) (funext hsc)
    have h' : stateAt x0 x1 x2 x3 x4 (j + 1) = update (scoreAt (F := Ideal) x0 x1 j) (valsAt x2 j) (stateAt x0 x1 x2 x3 x4 j) := by
      unfold stateAt; rw [flash]
    rw [h']
    refine ⟨max μ ξ, h13, fun r => ?_⟩
    refine (pay14_apply (stateAt x0 x1 x2 x3 x4 j).1 (stateAt x0 x1 x2 x3 x4 j).2 (scoreAt (F := Ideal) x0 x1 j) (valsAt x2 j) r q).trans ?_
    rw [h13, h1, h2 r, exp2_sub, mass_shift, Nat.mul_succ, ← mass_add]
    refine congrArg (HAdd.hAdd (α := EReal) (β := EReal) (γ := EReal) _) (Finset.sum_congr rfl fun u _ => ?_)
    rw [hsc, exp2_sub]
    rfl

/-- The block the kernel leaves, for a query whose scores are all real and scaled from base `e`, where the last row used
    holds ones: the softmax of the scores over all keys, weighting the values. -/
theorem flashOut_apply (q : Fin 512) (t : ℕ → ℝ) (tc : Fin 256 → ℝ)
    (hs : ∀ k, kdot x0 x1 q k = ((cE * t k : ℝ) : EReal)) (hc : ∀ u, k0_pay7 (F := Ideal) x0 x3 (ix2 u q) = ((cE * tc u : ℝ) : EReal))
    (h1 : ∀ k, vrow x2 (⟨128, by omega⟩ : Fin 144) k = 1) (h1c : ∀ u : Fin 256, x4 (ix3 (0 : Fin 1) (⟨128, by omega⟩ : Fin 144) u) = (1 : EReal))
    (ν : ℝ) (e : Fin 128) :
    flashOut (F := Ideal) x0 x1 x2 x3 x4 (ix2 q e)
      = (∑ k : Fin 16384, vrow x2 (⟨e.val, by omega⟩ : Fin 144) k.val * Ideal.div (Real.exp (t k.val - ν) : EReal) (wsum tc t ν 16384 : EReal))
        + ∑ u : Fin 256, x4 (ix3 (0 : Fin 1) (⟨e.val, by omega⟩ : Fin 144) u) * Ideal.div (Real.exp (tc u - ν) : EReal) (wsum tc t ν 16384 : EReal) := by
  obtain ⟨μ, -, hr⟩ := state_eq x0 x1 x2 x3 x4 q (fun k => cE * t k) (fun u => cE * tc u) hs hc 8
  refine (pay1_apply (stateAt x0 x1 x2 x3 x4 8).2 q e).trans ?_
  rw [hr, hr]
  have e1 : vrow x2 (⟨128, by omega⟩ : Fin 144) = fun _ => 1 := funext h1
  have e2 : (fun u : Fin 256 => x4 (ix3 (0 : Fin 1) (⟨128, by omega⟩ : Fin 144) u)) = fun _ => (1 : EReal) := funext h1c
  rw [e1, e2]
  exact mass_div _ _ tc t μ ν 16384 0

end Cert.KernelMlaIdeal.Gen

end
-- ==== Proof.MlaHost.lean ====
module

public import proofs.«01_k».proof.Proof.MlaFrame
public import proofs.«01_k».proof.Proof.Tiles
public import proofs.«01_k».proof.Proof.Soft
public import Idealize.ShloMosaic.Lib.StableHlo.RunRead
public import Idealize.ShloMosaic.Lib.KernelVsHost
public import Idealize.ShloMosaic.PureOps.Ideal.Laws

@[expose] public section
set_option maxRecDepth 16384
noncomputable section

/-! What the attention's host code hands the kernel: queries scaled into base two, keys and queries widened by zeros,
    and values with a row of ones under them. -/

namespace Cert.KernelMlaIdeal.Gen
open Idealize.ShloMosaic Idealize.ShloMosaic.TcCoe Idealize.ShloMosaic.Tactic Idealize.SL.Sem Idealize.ShloMosaic.StableHlo
open Idealize.ShloMosaic.ValueIdx Cert.Soft

/-- The zero that fills the widened columns. -/
def padZero : FVec Ideal S_ .f32 := sitofp .f32 (constantI S_ 32 0#32)

theorem padZero_apply (i : S_.Idx) : padZero i = (0 : EReal) := by
  show (((0#32 : BitVec 32).toInt : ℝ) : EReal) = 0
  simp

/-- Heads first, columns widened. -/
def wideLat (x : FVec Ideal S16384x16x192 .f32) : FVec Ideal S16x16384x256 .f32 :=
  transpose S16x16384x256 [1, 0, 2] (pad S16384x16x256 ![0, 0, 0] ![0, 0, 64] ![0, 0, 0] x padZero
    pads_S16384x16x192_S16384x16x256_000_000_0640 h_S_) transposes_S16384x16x256_S16x16384x256_1_0_2

/-- The same of the context keys. -/
def wideCtx (x : FVec Ideal S256x16x192 .f32) : FVec Ideal S16x256x256 .f32 :=
  transpose S16x256x256 [1, 0, 2] (pad S256x16x256 ![0, 0, 0] ![0, 0, 64] ![0, 0, 0] x padZero
    pads_S256x16x192_S256x16x256_000_000_0640 h_S_) transposes_S256x16x256_S16x256x256_1_0_2

/-- One in the first of sixteen rows, zero in the others. -/
def markLat : FVec Ideal S16x16384 .f32 :=
  select (cmpi .eq (iotaInDim S16x16384 32 0) (broadcastInDim S16x16384 ![] bcast_S_S16x16384 (constantI S_ 32 0#32)))
    (broadcastInDim S16x16384 ![] bcast_S_S16x16384 (constant S_ .f32 0x3F800000#32 : FVec Ideal S_ .f32))
    (broadcastInDim S16x16384 ![] bcast_S_S16x16384 (constant S_ .f32 0x00000000#32 : FVec Ideal S_ .f32))

/-- The same for the context. -/
def markCtx : FVec Ideal S16x256 .f32 :=
  select (cmpi .eq (iotaInDim S16x256 32 0) (broadcastInDim S16x256 ![] bcast_S_S16x256 (constantI S_ 32 0#32)))
    (broadcastInDim S16x256 ![] bcast_S_S16x256 (constant S_ .f32 0x3F800000#32 : FVec Ideal S_ .f32))
    (broadcastInDim S16x256 ![] bcast_S_S16x256 (constant S_ .f32 0x00000000#32 : FVec Ideal S_ .f32))

/-- Values, heads first and transposed, over the marked rows. -/
def tallLat (v : FVec Ideal S16384x16x128 .f32) : FVec Ideal S16x144x16384 .bf16 :=
  concatenate S16x144x16384 1 [⟨S16x128x16384, (transpose S16x128x16384 [1, 2, 0] v transposes_S16384x16x128_S16x128x16384_1_2_0 : FVec Ideal S16x128x16384 .bf16)⟩,
    ⟨S16x16x16384, (broadcastInDim S16x16x16384 ![1, 2] bcast_S16x16384_S16x16x16384_1_2 markLat : FVec Ideal S16x16x16384 .bf16)⟩]
    concatenates_S16x128x16384_S16x16x16384_S16x144x16384_d1

/-- The same of the context values. -/
def tallCtx (v : FVec Ideal S256x16x128 .f32) : FVec Ideal S16x144x256 .bf16 :=
  concatenate S16x144x256 1 [⟨S16x128x256, (transpose S16x128x256 [1, 2, 0] v transposes_S256x16x128_S16x128x256_1_2_0 : FVec Ideal S16x128x256 .bf16)⟩,
    ⟨S16x16x256, (broadcastInDim S16x16x256 ![1, 2] bcast_S16x256_S16x16x256_1_2 markCtx : FVec Ideal S16x16x256 .bf16)⟩]
    concatenates_S16x128x256_S16x16x256_S16x144x256_d1

/-- One over the logarithm of two, as the host computes it. -/
def hostLog : FVec Ideal S_ .f32 := Host.divf (constant S_ .f32 0x3F800000#32 : FVec Ideal S_ .f32) (Host.log (constant S_ .f32 0x40000000#32 : FVec Ideal S_ .f32))

/-- The queries scaled, and scaled into base two. -/
def qBase2 (q : FVec Ideal S1x16384x16x192 .f32) : FVec Ideal S1x16384x16x192 .f32 :=
  mulf (mulf q (broadcastInDim S1x16384x16x192 ![] bcast_S_S1x16384x16x192 (constant S_ .f32 0x3D93CD3A#32 : FVec Ideal S_ .f32)))
    (broadcastInDim S1x16384x16x192 ![] bcast_S_S1x16384x16x192 hostLog)

variable (m : (ℓ : Loc nD τ sig) → Buf (Elt Ideal) ℓ)

/-- Queries. -/
abbrev argQ (c : Dev nD) : S1x16384x16x192.Idx → EReal := m (c, Proc.tc.devRef main_arg0)
/-- Keys. -/
abbrev argK (c : Dev nD) : S1x16384x16x192.Idx → EReal := m (c, Proc.tc.devRef main_arg1)
/-- Values. -/
abbrev argV (c : Dev nD) : S1x16384x16x128.Idx → EReal := m (c, Proc.tc.devRef main_arg2)
/-- Context keys. -/
abbrev argKc (c : Dev nD) : S1x256x16x192.Idx → EReal := m (c, Proc.tc.devRef main_arg3)
/-- Context values. -/
abbrev argVc (c : Dev nD) : S1x256x16x128.Idx → EReal := m (c, Proc.tc.devRef main_arg4)

theorem V_v9 (c : Dev nD) : V m c main_v9 = wideLat (shapeCast S16384x16x192 (qBase2 (argQ m c)) shapeCasts_S1x16384x16x192_S16384x16x192) := by
  unfold_abbrev_sides
  after_reads_simp
  rfl

theorem V_v13 (c : Dev nD) : V m c main_v13 = wideLat (shapeCast S16384x16x192 (argK m c) shapeCasts_S1x16384x16x192_S16384x16x192) := by
  unfold_abbrev_sides
  after_reads_simp
  rfl

theorem V_v23 (c : Dev nD) : V m c main_v23 = tallLat (shapeCast S16384x16x128 (argV m c) shapeCasts_S1x16384x16x128_S16384x16x128) := by
  unfold_abbrev_sides
  after_reads_simp
  rfl

theorem V_v27 (c : Dev nD) : V m c main_v27 = wideCtx (shapeCast S256x16x192 (argKc m c) shapeCasts_S1x256x16x192_S256x16x192) := by
  unfold_abbrev_sides
  after_reads_simp
  rfl

theorem V_v37 (c : Dev nD) : V m c main_v37 = tallCtx (shapeCast S256x16x128 (argVc m c) shapeCasts_S1x256x16x128_S256x16x128) := by
  unfold_abbrev_sides
  after_reads_simp
  rfl

theorem hostLog_apply (i : S_.Idx) : hostLog i = (cE : EReal) := by
  show Ideal.div (Ideal.ofBits .f32 0x3F800000#32) (Ideal.log (Ideal.ofBits .f32 0x40000000#32)) = _
  rw [show Ideal.ofBits .f32 0x3F800000#32 = 1 from by simp [Ideal.ofBits, Ideal.ieee, -EReal.coe_mul]; norm_num,
    show Ideal.ofBits .f32 0x40000000#32 = ((2 : ℝ) : EReal) from by simp [Ideal.ofBits, Ideal.ieee, -EReal.coe_mul]; norm_num]
  exact div_log_two

theorem drop_lead (n K : ℕ) (x : (⟨4, ![1, n, 16, K]⟩ : Shape).Idx → EReal) (hs : (⟨4, ![1, n, 16, K]⟩ : Shape).ShapeCasts ⟨3, ![n, 16, K]⟩)
    (R : Fin n) (h : Fin 16) (d : Fin K) : shapeCast ⟨3, ![n, 16, K]⟩ x hs (ix3 R h d) = x (ix4 (0 : Fin 1) R h d) := by
  refine shapeCast_apply x hs (ix3 R h d) (ix4 (0 : Fin 1) R h d) ?_
  rw [Shape.rowMajor_val_three, Shape.rowMajor_val_four]
  show ((0 * n + R.val) * 16 + h.val) * K + d.val = (R.val * 16 + h.val) * K + d.val
  rw [Nat.zero_mul, Nat.zero_add]

theorem qBase2_apply (q : FVec Ideal S1x16384x16x192 .f32) (i : S1x16384x16x192.Idx) :
    qBase2 q i = q i * Ideal.ofBits .f32 0x3D93CD3A#32 * (cE : EReal) := by
  unfold qBase2
  refine congr (congrArg (HMul.hMul (α := EReal) (β := EReal) (γ := EReal)) (congrArg (HMul.hMul (α := EReal) (β := EReal) (γ := EReal) (q i)) ?_)) ?_
  · exact broadcastInDim_apply _ bcast_S_S1x16384x16x192 _ _ (fun a => a.elim0) (fun a => a.elim0)
  · exact (broadcastInDim_apply _ bcast_S_S1x16384x16x192 hostLog _ (fun a => a.elim0) (fun a => a.elim0)).trans (hostLog_apply _)

theorem wideLat_in (x : FVec Ideal S16384x16x192 .f32) (h : Fin 16) (R : Fin 16384) (d : Fin 256) (d' : Fin 192) (hd : d.val = d'.val) :
    wideLat x (ix3 h R d) = x (ix3 R h d') := by
  unfold wideLat
  refine (transpose_apply [1, 0, 2] _ transposes_S16384x16x256_S16x16384x256_1_0_2 (ix3 h R d) (ix3 R h d) fun b => ?_).trans ?_
  · match b with
    | ⟨0, _⟩ => rfl
    | ⟨1, _⟩ => rfl
    | ⟨2, _⟩ => rfl
  · refine pad_apply_of_inside _ _ _ _ _ _ _ (ix3 R h d) (ix3 R h d') fun a => ?_
    match a with
    | ⟨0, _⟩ => show R.val = 0 + R.val * (0 + 1); omega
    | ⟨1, _⟩ => show h.val = 0 + h.val * (0 + 1); omega
    | ⟨2, _⟩ => show d.val = 0 + d'.val * (0 + 1); omega

theorem wideLat_out (x : FVec Ideal S16384x16x192 .f32) (h : Fin 16) (R : Fin 16384) (d : Fin 256) (hd : 192 ≤ d.val) :
    wideLat x (ix3 h R d) = (0 : EReal) := by
  unfold wideLat
  refine (transpose_apply [1, 0, 2] _ transposes_S16384x16x256_S16x16384x256_1_0_2 (ix3 h R d) (ix3 R h d) fun b => ?_).trans ?_
  · match b with
    | ⟨0, _⟩ => rfl
    | ⟨1, _⟩ => rfl
    | ⟨2, _⟩ => rfl
  · refine (pad_apply_of_not_inside _ _ _ _ _ _ _ (ix3 R h d) (2 : Fin 3) fun hh => ?_).trans (padZero_apply _)
    have h2 : (d.val - 0) / (0 + 1) < 192 := hh.2.2
    omega

theorem wideCtx_in (x : FVec Ideal S256x16x192 .f32) (h : Fin 16) (R : Fin 256) (d : Fin 256) (d' : Fin 192) (hd : d.val = d'.val) :
    wideCtx x (ix3 h R d) = x (ix3 R h d') := by
  unfold wideCtx
  refine (transpose_apply [1, 0, 2] _ transposes_S256x16x256_S16x256x256_1_0_2 (ix3 h R d) (ix3 R h d) fun b => ?_).trans ?_
  · match b with
    | ⟨0, _⟩ => rfl
    | ⟨1, _⟩ => rfl
    | ⟨2, _⟩ => rfl
  · refine pad_apply_of_inside _ _ _ _ _ _ _ (ix3 R h d) (ix3 R h d') fun a => ?_
    match a with
    | ⟨0, _⟩ => show R.val = 0 + R.val * (0 + 1); omega
    | ⟨1, _⟩ => show h.val = 0 + h.val * (0 + 1); omega
    | ⟨2, _⟩ => show d.val = 0 + d'.val * (0 + 1); omega

theorem wideCtx_out (x : FVec Ideal S256x16x192 .f32) (h : Fin 16) (R : Fin 256) (d : Fin 256) (hd : 192 ≤ d.val) :
    wideCtx x (ix3 h R d) = (0 : EReal) := by
  unfold wideCtx
  refine (transpose_apply [1, 0, 2] _ transposes_S256x16x256_S16x256x256_1_0_2 (ix3 h R d) (ix3 R h d) fun b => ?_).trans ?_
  · match b with
    | ⟨0, _⟩ => rfl
    | ⟨1, _⟩ => rfl
    | ⟨2, _⟩ => rfl
  · refine (pad_apply_of_not_inside _ _ _ _ _ _ _ (ix3 R h d) (2 : Fin 3) fun hh => ?_).trans (padZero_apply _)
    have h2 : (d.val - 0) / (0 + 1) < 192 := hh.2.2
    omega

theorem one_bits : Ideal.ofBits .f32 0x3F800000#32 = 1 := by simp [Ideal.ofBits, Ideal.ieee, -EReal.coe_mul]; norm_num

theorem markLat_first (k : Fin 16384) : markLat (ix2 (0 : Fin 16) k) = (1 : EReal) := by
  show Scalar.select (Scalar.cmpi .eq (BitVec.ofNat 32 0) 0#32) (Ideal.ofBits .f32 0x3F800000#32) (Ideal.ofBits .f32 0x00000000#32) = _
  rw [one_bits]
  rfl

theorem markCtx_first (k : Fin 256) : markCtx (ix2 (0 : Fin 16) k) = (1 : EReal) := by
  show Scalar.select (Scalar.cmpi .eq (BitVec.ofNat 32 0) 0#32) (Ideal.ofBits .f32 0x3F800000#32) (Ideal.ofBits .f32 0x00000000#32) = _
  rw [one_bits]
  rfl

theorem tallLat_v (v : FVec Ideal S16384x16x128 .f32) (h : Fin 16) (r : Fin 144) (e : Fin 128) (hr : r.val = e.val) (k : Fin 16384) :
    tallLat v (ix3 h r k) = v (ix3 k h e) := by
  unfold tallLat
  refine (concatenate_pair_apply_left (t := S16x144x16384) (s₁ := S16x128x16384) (s₂ := S16x16x16384) (1 : Fin 3) _ _ _ (ix3 h r k) rfl
    (ix3 h e k) fun x => ?_).trans ?_
  · match x with
    | ⟨0, _⟩ => rfl
    | ⟨1, _⟩ => exact hr.symm
    | ⟨2, _⟩ => rfl
  · refine transpose_apply [1, 2, 0] v transposes_S16384x16x128_S16x128x16384_1_2_0 (ix3 h e k) (ix3 k h e) fun b => ?_
    match b with
    | ⟨0, _⟩ => rfl
    | ⟨1, _⟩ => rfl
    | ⟨2, _⟩ => rfl

theorem tallLat_one (v : FVec Ideal S16384x16x128 .f32) (h : Fin 16) (r : Fin 144) (hr : r.val = 128) (k : Fin 16384) :
    tallLat v (ix3 h r k) = (1 : EReal) := by
  unfold tallLat
  refine (concatenate_pair_apply_right (t := S16x144x16384) (s₁ := S16x128x16384) (s₂ := S16x16x16384) (1 : Fin 3) _ _ _ (ix3 h r k) rfl rfl
    (ix3 h (0 : Fin 16) k) (fun x hx => ?_) ?_).trans ?_
  · match x with
    | ⟨0, _⟩ => rfl
    | ⟨1, _⟩ => exact absurd rfl hx
    | ⟨2, _⟩ => rfl
  · show 0 + 128 = r.val
    omega
  · refine (broadcastInDim_apply _ bcast_S16x16384_S16x16x16384_1_2 markLat (ix3 h (0 : Fin 16) k) (ix2 (0 : Fin 16) k) fun a => ?_).trans (markLat_first k)
    match a with
    | ⟨0, _⟩ => rfl
    | ⟨1, _⟩ => rfl

theorem tallCtx_v (v : FVec Ideal S256x16x128 .f32) (h : Fin 16) (r : Fin 144) (e : Fin 128) (hr : r.val = e.val) (k : Fin 256) :
    tallCtx v (ix3 h r k) = v (ix3 k h e) := by
  unfold tallCtx
  refine (concatenate_pair_apply_left (t := S16x144x256) (s₁ := S16x128x256) (s₂ := S16x16x256) (1 : Fin 3) _ _ _ (ix3 h r k) rfl
    (ix3 h e k) fun x => ?_).trans ?_
  · match x with
    | ⟨0, _⟩ => rfl
    | ⟨1, _⟩ => exact hr.symm
    | ⟨2, _⟩ => rfl
  · refine transpose_apply [1, 2, 0] v transposes_S256x16x128_S16x128x256_1_2_0 (ix3 h e k) (ix3 k h e) fun b => ?_
    match b with
    | ⟨0, _⟩ => rfl
    | ⟨1, _⟩ => rfl
    | ⟨2, _⟩ => rfl

theorem tallCtx_one (v : FVec Ideal S256x16x128 .f32) (h : Fin 16) (r : Fin 144) (hr : r.val = 128) (k : Fin 256) :
    tallCtx v (ix3 h r k) = (1 : EReal) := by
  unfold tallCtx
  refine (concatenate_pair_apply_right (t := S16x144x256) (s₁ := S16x128x256) (s₂ := S16x16x256) (1 : Fin 3) _ _ _ (ix3 h r k) rfl rfl
    (ix3 h (0 : Fin 16) k) (fun x hx => ?_) ?_).trans ?_
  · match x with
    | ⟨0, _⟩ => rfl
    | ⟨1, _⟩ => exact absurd rfl hx
    | ⟨2, _⟩ => rfl
  · show 0 + 128 = r.val
    omega
  · refine (broadcastInDim_apply _ bcast_S16x256_S16x16x256_1_2 markCtx (ix3 h (0 : Fin 16) k) (ix2 (0 : Fin 16) k) fun a => ?_).trans (markCtx_first k)
    match a with
    | ⟨0, _⟩ => rfl
    | ⟨1, _⟩ => rfl

end Cert.KernelMlaIdeal.Gen

end
-- ==== Proof.MlaBlocks.lean ====
module

public import proofs.«01_k».proof.Proof.MlaFrame
public import proofs.«01_k».proof.Proof.Tiles
public import Idealize.ShloMosaic.Lib.Pipeline.Value

@[expose] public section
set_option maxRecDepth 16384
noncomputable section

/-! The attention's windows read at coordinates: which head and which queries a grid point takes, and where its result
    rows lie. -/

namespace Cert.KernelMlaIdeal.Gen
open Idealize.ShloMosaic Idealize.ShloMosaic.TcCoe Idealize.ShloMosaic.Tactic Idealize.SL.Sem
open Idealize.ShloMosaic.Pipeline (Dat)
open Idealize.ShloMosaic.ValueIdx

variable (m : (ℓ : Loc nD τ sig) → Buf (Elt Ideal) ℓ)

theorem tr0 : ∀ t : Fin cfg0.N, cc0_transform_0 (grid0.coords t) 0 = t.val / 32 ∧ cc0_transform_0 (grid0.coords t) 1 = t.val % 32
    ∧ cc0_transform_0 (grid0.coords t) 2 = 0 := by decide +kernel
theorem tr1 : ∀ t : Fin cfg0.N, cc0_transform_1 (grid0.coords t) 0 = t.val / 32 ∧ cc0_transform_1 (grid0.coords t) 1 = 0
    ∧ cc0_transform_1 (grid0.coords t) 2 = 0 := by decide +kernel
theorem tr2 : ∀ t : Fin cfg0.N, cc0_transform_2 (grid0.coords t) 0 = t.val / 32 ∧ cc0_transform_2 (grid0.coords t) 1 = 0
    ∧ cc0_transform_2 (grid0.coords t) 2 = 0 := by decide +kernel
theorem tr3 : ∀ t : Fin cfg0.N, cc0_transform_3 (grid0.coords t) 0 = t.val / 32 ∧ cc0_transform_3 (grid0.coords t) 1 = 0
    ∧ cc0_transform_3 (grid0.coords t) 2 = 0 := by decide +kernel
theorem tr4 : ∀ t : Fin cfg0.N, cc0_transform_4 (grid0.coords t) 0 = t.val / 32 ∧ cc0_transform_4 (grid0.coords t) 1 = 0
    ∧ cc0_transform_4 (grid0.coords t) 2 = 0 := by decide +kernel
theorem tr5 : ∀ t : Fin cfg0.N, cc0_transform_5 (grid0.coords t) 0 = t.val % 32 ∧ cc0_transform_5 (grid0.coords t) 1 = t.val / 32 := by
  decide +kernel

theorem blk0_apply (c : Dev nD) (t : Fin cfg0.N) (z : Fin 1) (q : Fin 512) (d : Fin 256) (h : Fin 16) (hh : h.val = t.val / 32)
    (R : Fin 16384) (hR : R.val = 512 * (t.val % 32) + q.val) :
    (iblk m c 0 t : S1x512x256.Idx → EReal) (ix3 z q d) = (V m c main_v9 : S16x16384x256.Idx → EReal) (ix3 h R d) := by
  show (V m c main_v9 : S16x16384x256.Idx → EReal) (((cfg0.win 0).rect t).emb (ix3 z q d)) = _
  congr 1
  funext a
  refine Fin.ext ((Pipeline.Window.rect_emb_val_off (cfg0.win 0) t (ix3 z q d) a).trans ?_)
  match a with
  | ⟨0, _⟩ => show cc0_transform_0 (grid0.coords t) 0 * 1 + z.val = h.val; rw [(tr0 t).1]; omega
  | ⟨1, _⟩ => show cc0_transform_0 (grid0.coords t) 1 * 512 + q.val = R.val; rw [(tr0 t).2.1]; omega
  | ⟨2, _⟩ => show cc0_transform_0 (grid0.coords t) 2 * 256 + d.val = d.val; rw [(tr0 t).2.2]; omega

theorem blk1_apply (c : Dev nD) (t : Fin cfg0.N) (z : Fin 1) (R : Fin 16384) (d : Fin 256) (h : Fin 16) (hh : h.val = t.val / 32) :
    (iblk m c 1 t : S1x16384x256.Idx → EReal) (ix3 z R d) = (V m c main_v13 : S16x16384x256.Idx → EReal) (ix3 h R d) := by
  show (V m c main_v13 : S16x16384x256.Idx → EReal) (((cfg0.win 1).rect t).emb (ix3 z R d)) = _
  congr 1
  funext a
  refine Fin.ext ((Pipeline.Window.rect_emb_val_off (cfg0.win 1) t (ix3 z R d) a).trans ?_)
  match a with
  | ⟨0, _⟩ => show cc0_transform_1 (grid0.coords t) 0 * 1 + z.val = h.val; rw [(tr1 t).1]; omega
  | ⟨1, _⟩ => show cc0_transform_1 (grid0.coords t) 1 * 16384 + R.val = R.val; rw [(tr1 t).2.1]; omega
  | ⟨2, _⟩ => show cc0_transform_1 (grid0.coords t) 2 * 256 + d.val = d.val; rw [(tr1 t).2.2]; omega

theorem blk2_apply (c : Dev nD) (t : Fin cfg0.N) (z : Fin 1) (r : Fin 144) (k : Fin 16384) (h : Fin 16) (hh : h.val = t.val / 32) :
    (iblk m c 2 t : S1x144x16384.Idx → EReal) (ix3 z r k) = (V m c main_v23 : S16x144x16384.Idx → EReal) (ix3 h r k) := by
  show (V m c main_v23 : S16x144x16384.Idx → EReal) (((cfg0.win 2).rect t).emb (ix3 z r k)) = _
  congr 1
  funext a
  refine Fin.ext ((Pipeline.Window.rect_emb_val_off (cfg0.win 2) t (ix3 z r k) a).trans ?_)
  match a with
  | ⟨0, _⟩ => show cc0_transform_2 (grid0.coords t) 0 * 1 + z.val = h.val; rw [(tr2 t).1]; omega
  | ⟨1, _⟩ => show cc0_transform_2 (grid0.coords t) 1 * 144 + r.val = r.val; rw [(tr2 t).2.1]; omega
  | ⟨2, _⟩ => show cc0_transform_2 (grid0.coords t) 2 * 16384 + k.val = k.val; rw [(tr2 t).2.2]; omega

theorem blk3_apply (c : Dev nD) (t : Fin cfg0.N) (z : Fin 1) (u : Fin 256) (d : Fin 256) (h : Fin 16) (hh : h.val = t.val / 32) :
    (iblk m c 3 t : S1x256x256.Idx → EReal) (ix3 z u d) = (V m c main_v27 : S16x256x256.Idx → EReal) (ix3 h u d) := by
  show (V m c main_v27 : S16x256x256.Idx → EReal) (((cfg0.win 3).rect t).emb (ix3 z u d)) = _
  congr 1
  funext a
  refine Fin.ext ((Pipeline.Window.rect_emb_val_off (cfg0.win 3) t (ix3 z u d) a).trans ?_)
  match a with
  | ⟨0, _⟩ => show cc0_transform_3 (grid0.coords t) 0 * 1 + z.val = h.val; rw [(tr3 t).1]; omega
  | ⟨1, _⟩ => show cc0_transform_3 (grid0.coords t) 1 * 256 + u.val = u.val; rw [(tr3 t).2.1]; omega
  | ⟨2, _⟩ => show cc0_transform_3 (grid0.coords t) 2 * 256 + d.val = d.val; rw [(tr3 t).2.2]; omega

theorem blk4_apply (c : Dev nD) (t : Fin cfg0.N) (z : Fin 1) (r : Fin 144) (u : Fin 256) (h : Fin 16) (hh : h.val = t.val / 32) :
    (iblk m c 4 t : S1x144x256.Idx → EReal) (ix3 z r u) = (V m c main_v37 : S16x144x256.Idx → EReal) (ix3 h r u) := by
  show (V m c main_v37 : S16x144x256.Idx → EReal) (((cfg0.win 4).rect t).emb (ix3 z r u)) = _
  congr 1
  funext a
  refine Fin.ext ((Pipeline.Window.rect_emb_val_off (cfg0.win 4) t (ix3 z r u) a).trans ?_)
  match a with
  | ⟨0, _⟩ => show cc0_transform_4 (grid0.coords t) 0 * 1 + z.val = h.val; rw [(tr4 t).1]; omega
  | ⟨1, _⟩ => show cc0_transform_4 (grid0.coords t) 1 * 144 + r.val = r.val; rw [(tr4 t).2.1]; omega
  | ⟨2, _⟩ => show cc0_transform_4 (grid0.coords t) 2 * 256 + u.val = u.val; rw [(tr4 t).2.2]; omega

theorem emb5 (t : Fin cfg0.N) (q : Fin 512) (e : Fin 128) (R : Fin 16384) (hR : R.val = 512 * (t.val % 32) + q.val)
    (D : Fin 2048) (hD : D.val = 128 * (t.val / 32) + e.val) :
    ((cfg0.win 5).rect t).emb (ix2 q e) = (ix2 R D : S16384x2048.Idx) := by
  funext a
  refine Fin.ext ((Pipeline.Window.rect_emb_val_off (cfg0.win 5) t (ix2 q e) a).trans ?_)
  match a with
  | ⟨0, _⟩ => show cc0_transform_5 (grid0.coords t) 0 * 512 + q.val = R.val; rw [(tr5 t).1]; omega
  | ⟨1, _⟩ => show cc0_transform_5 (grid0.coords t) 1 * 128 + e.val = D.val; rw [(tr5 t).2]; omega

theorem idx_inj5 : ∀ t t' : Fin cfg0.N, (cfg0.win 5).index t = (cfg0.win 5).index t' → t = t' := by
  intro t t' h
  have e0 : cc0_transform_5 (grid0.coords t) 0 = cc0_transform_5 (grid0.coords t') 0 := congrFun h 0
  have e1 : cc0_transform_5 (grid0.coords t) 1 = cc0_transform_5 (grid0.coords t') 1 := congrFun h 1
  rw [(tr5 t).1, (tr5 t').1] at e0
  rw [(tr5 t).2, (tr5 t').2] at e1
  exact Fin.ext (by omega)

theorem disjoint5 (t t' : Fin cfg0.N) (_ : (cfg0.win 5).flush t = true) (_ : (cfg0.win 5).flush t' = true) (h : t ≠ t') :
    Disjoint ((cfg0.win 5).blk t).view.set ((cfg0.win 5).blk t').view.set :=
  (cfg0.win 5).disjoint_blk fun e => h (idx_inj5 t t' e)

/-- The result array after the run, at a row and a column: what the row's point left in its block. -/
theorem final5 (c : Dev nD) (t : Fin cfg0.N) (q : Fin 512) (e : Fin 128) (R : Fin 16384) (hR : R.val = 512 * (t.val % 32) + q.val)
    (D : Fin 2048) (hD : D.val = 128 * (t.val / 32) + e.val) :
    ((dats m 0 c).arrAt 5 cfg0.N : S16384x2048.Idx → EReal) (ix2 R D)
      = flashOut (F := Ideal) (iblk m c 0 t) (iblk m c 1 t) (iblk m c 2 t) (iblk m c 3 t) (iblk m c 4 t) (ix2 q e) := by
  have h := (dats m 0 c).arrAt_emb_eq_flushed 5 disjoint5 t (flush0_5 t) (ix2 q e : S512x128.Idx)
  have e' : ((cfg0.win 5).blk t).view.emb (ix2 q e : S512x128.Idx) = (ix2 R D : S16384x2048.Idx) := emb5 t q e R hR D hD
  rw [e'] at h
  refine h.trans ?_
  show (cfg0.win 5).cut (grid0.coords t) ((dats m 0 c).after 5 t) (ix2 q e : S512x128.Idx) = _
  rw [after0_5]
  rfl

end Cert.KernelMlaIdeal.Gen

end
-- ==== Proof.MlaRef.lean ====
module

public import proofs.«01_k».proof.Proof.Gen.ReferenceMlaIdeal.Read
public import proofs.«01_k».proof.Proof.Tiles
public import proofs.«01_k».proof.Proof.MlaSoft
public import Idealize.ShloMosaic.Lib.KernelVsHost

@[expose] public section
set_option maxRecDepth 16384
noncomputable section

/-! The attention's reference read at a query, a head and a channel: the softmax of its scores over the latent and the
    context keys, weighting their values. -/

namespace Cert.ReferenceMlaIdeal.Read
open Cert.ReferenceMlaIdeal Cert.ReferenceMlaIdeal.Gen Idealize.ShloMosaic Idealize.ShloMosaic.TcCoe
open Idealize.ShloMosaic.ValueIdx Cert.Soft

variable (x0 x1 : (⟨S1x16384x16x192, .f32⟩ : BufTy).Contents (Elt Ideal)) (x2 : (⟨S1x16384x16x128, .f32⟩ : BufTy).Contents (Elt Ideal))
  (x3 : (⟨S1x256x16x192, .f32⟩ : BufTy).Contents (Elt Ideal)) (x4 : (⟨S1x256x16x128, .f32⟩ : BufTy).Contents (Elt Ideal))

/-- The score of a latent key. -/
def latScore (h : Fin 16) (R : Fin 16384) (k : Fin 16384) : EReal :=
  (∑ d : Fin 192, x0 (ix4 (0 : Fin 1) R h d) * x1 (ix4 (0 : Fin 1) k h d)) * Ideal.ofBits .f32 0x3D93CD3A#32

/-- The score of a context key. -/
def ctxScore (h : Fin 16) (R : Fin 16384) (u : Fin 256) : EReal :=
  (∑ d : Fin 192, x0 (ix4 (0 : Fin 1) R h d) * x3 (ix4 (0 : Fin 1) u h d)) * Ideal.ofBits .f32 0x3D93CD3A#32

theorem v2_at (h : Fin 16) (R k : Fin 16384) : val_main_v2 (F := Ideal) x0 x1 (ix4 (0 : Fin 1) h R k) = latScore x0 x1 h R k := by
  rw [val_main_v2_apply, val_main_v1_apply, val_main_v0_apply]
  refine congr (congrArg (HMul.hMul (α := EReal) (β := EReal) (γ := EReal)) (Finset.sum_congr rfl fun d _ => ?_)) rfl
  refine congr (congrArg (HMul.hMul (α := EReal) (β := EReal) (γ := EReal)) (congrArg x0 (funext fun a => ?_))) (congrArg x1 (funext fun a => ?_)) <;>
    exact match a with
    | ⟨0, _⟩ => rfl
    | ⟨1, _⟩ => rfl
    | ⟨2, _⟩ => rfl
    | ⟨3, _⟩ => rfl

theorem v5_at (h : Fin 16) (R : Fin 16384) (u : Fin 256) : val_main_v5 (F := Ideal) x0 x3 (ix4 (0 : Fin 1) h R u) = ctxScore x0 x3 h R u := by
  rw [val_main_v5_apply, val_main_v4_apply, val_main_v3_apply]
  refine congr (congrArg (HMul.hMul (α := EReal) (β := EReal) (γ := EReal)) (Finset.sum_congr rfl fun d _ => ?_)) rfl
  refine congr (congrArg (HMul.hMul (α := EReal) (β := EReal) (γ := EReal)) (congrArg x0 (funext fun a => ?_))) (congrArg x3 (funext fun a => ?_)) <;>
    exact match a with
    | ⟨0, _⟩ => rfl
    | ⟨1, _⟩ => rfl
    | ⟨2, _⟩ => rfl
    | ⟨3, _⟩ => rfl

theorem v6_lat (h : Fin 16) (R k : Fin 16384) (k' : Fin 16640) (hk : k'.val = k.val) :
    val_main_v6 (F := Ideal) x0 x1 x3 (ix4 (0 : Fin 1) h R k') = latScore x0 x1 h R k := by
  unfold val_main_v6
  refine (concatenate_pair_apply_left (t := S1x16x16384x16640) (s₁ := S1x16x16384x16384) (s₂ := S1x16x16384x256) (3 : Fin 4) _ _ _
    (ix4 (0 : Fin 1) h R k') rfl (ix4 (0 : Fin 1) h R k) fun x => ?_).trans (v2_at x0 x1 h R k)
  match x with
  | ⟨0, _⟩ => rfl
  | ⟨1, _⟩ => rfl
  | ⟨2, _⟩ => rfl
  | ⟨3, _⟩ => exact hk.symm

theorem v6_ctx (h : Fin 16) (R : Fin 16384) (u : Fin 256) (k' : Fin 16640) (hk : k'.val = 16384 + u.val) :
    val_main_v6 (F := Ideal) x0 x1 x3 (ix4 (0 : Fin 1) h R k') = ctxScore x0 x3 h R u := by
  unfold val_main_v6
  refine (concatenate_pair_apply_right (t := S1x16x16384x16640) (s₁ := S1x16x16384x16384) (s₂ := S1x16x16384x256) (3 : Fin 4) _ _ _
    (ix4 (0 : Fin 1) h R k') rfl rfl (ix4 (0 : Fin 1) h R u) (fun x hx => ?_) ?_).trans (v5_at x0 x3 h R u)
  · match x with
    | ⟨0, _⟩ => rfl
    | ⟨1, _⟩ => rfl
    | ⟨2, _⟩ => rfl
    | ⟨3, _⟩ => exact absurd rfl hx
  · show u.val + 16384 = k'.val
    omega

theorem red_scores : S1x16x16384x16640.Reduces [3] S1x16x16384 := by decide

theorem lift_scores (z : Fin 1) (h : Fin 16) (R : Fin 16384) (k : Fin 16640) : red_scores.lift (ix3 z h R) k = ix4 z h R k := by
  funext a
  match a with
  | ⟨0, _⟩ => rfl
  | ⟨1, _⟩ => rfl
  | ⟨2, _⟩ => rfl
  | ⟨3, _⟩ => rfl

theorem bot_bits : Ideal.ofBits .f32 0xFF800000#32 = (⊥ : EReal) := by simp [Ideal.ofBits, Ideal.ieee]

theorem redMax_at (y : FVec Ideal S1x16x16384x16640 .f32) (z : Fin 1) (h : Fin 16) (R : Fin 16384) :
    Host.reduce (FloatOps.maximumf (F := Ideal) (φ := .f32)) y (constant S_ .f32 0xFF800000#32) reducesTo_S1x16x16384x16640_S1x16x16384_d3 h_S_ (ix3 z h R)
      = Finset.univ.fold max (⊥ : EReal) fun k : Fin 16640 => y (ix4 z h R k) := by
  rw [hostReduce_maximumf_eq_multiReduction (F := Ideal) (φ := .f32) y 0xFF800000#32 reducesTo_S1x16x16384x16640_S1x16x16384_d3 h_S_ red_scores (.inl rfl) rfl]
  refine (Ideal.multiReduction_maximumf_single _ _ _ _ _ _).trans ?_
  rw [show (FloatOps.ofBits .f32 0xFF800000#32 : Ideal .f32) = (⊥ : EReal) from bot_bits]
  refine congrArg (Finset.univ.fold max (⊥ : EReal)) ?_
  funext k
  show y (red_scores.lift (ix3 z h R) k) = _
  exact congrArg _ (lift_scores z h R k)

/-- The level the reference subtracts. -/
theorem v9_at (h : Fin 16) (R : Fin 16384) : val_main_v9 (F := Ideal) x0 x1 x3 (ix3 (0 : Fin 1) h R)
    = Finset.univ.sup fun k : Fin 16640 => (val_main_v6 (F := Ideal) x0 x1 x3 (ix4 (0 : Fin 1) h R k) : EReal) := by
  have h7 : val_main_v7 (F := Ideal) x0 x1 x3 (ix3 (0 : Fin 1) h R)
      = Finset.univ.sup fun k : Fin 16640 => (val_main_v6 (F := Ideal) x0 x1 x3 (ix4 (0 : Fin 1) h R k) : EReal) := by
    rw [← fold_eq_sup]
    unfold val_main_v7 val_main_cst_1
    exact redMax_at (val_main_v6 (F := Ideal) x0 x1 x3) (0 : Fin 1) h R
  rw [val_main_v9_apply, val_main_v8_apply, h7]
  show max (Ideal.ofBits .f32 0xFF800000#32) (_ : EReal) = _
  rw [bot_bits, max_eq_right bot_le]

variable (h : Fin 16) (R : Fin 16384) (t : ℕ → ℝ) (tc : Fin 256 → ℝ)

/-- The scores side by side as real numbers. -/
def realScore (k : Fin 16640) : ℝ := if hk : k.val < 16384 then t k.val else tc ⟨k.val - 16384, by omega⟩

variable {h R t tc} (hl : ∀ k : Fin 16384, latScore x0 x1 h R k = (t k.val : EReal)) (hc : ∀ u : Fin 256, ctxScore x0 x3 h R u = (tc u : EReal))
include hl hc

theorem v6_real (k : Fin 16640) : val_main_v6 (F := Ideal) x0 x1 x3 (ix4 (0 : Fin 1) h R k) = (realScore t tc k : EReal) := by
  unfold realScore
  split
  · rename_i hk
    exact (v6_lat x0 x1 x3 h R ⟨k.val, hk⟩ k rfl).trans (hl ⟨k.val, hk⟩)
  · rename_i hk
    have := k.isLt
    exact (v6_ctx x0 x1 x3 h R ⟨k.val - 16384, by omega⟩ k (by show k.val = 16384 + (k.val - 16384); omega)).trans (hc _)

theorem level_real : ∃ ν : ℝ, val_main_v9 (F := Ideal) x0 x1 x3 (ix3 (0 : Fin 1) h R) = (ν : EReal) := by
  obtain ⟨ν, hν, -⟩ := exists_sup (fun k : Fin 16640 => (realScore t tc k : EReal)) (fun k => EReal.coe_ne_top _) 0 (EReal.coe_ne_bot _)
  refine ⟨ν, (v9_at x0 x1 x3 h R).trans ?_⟩
  rw [← hν]
  exact congrArg (Finset.univ.sup) (funext (v6_real x0 x1 x3 hl hc))

theorem v13_real (ν : ℝ) (hν : val_main_v9 (F := Ideal) x0 x1 x3 (ix3 (0 : Fin 1) h R) = (ν : EReal)) (k : Fin 16640) :
    val_main_v13 (F := Ideal) x0 x1 x3 (ix4 (0 : Fin 1) h R k) = (Real.exp (realScore t tc k - ν) : EReal) := by
  have ei : idx_main_v10 (idx_main_v11 (ix4 (0 : Fin 1) h R k)) = ix3 (0 : Fin 1) h R := funext fun a => match a with
    | ⟨0, _⟩ => rfl
    | ⟨1, _⟩ => rfl
    | ⟨2, _⟩ => rfl
  rw [val_main_v13_apply, val_main_v12_apply, val_main_v11_apply, val_main_v10_apply, v6_real x0 x1 x3 hl hc, ei, hν]
  exact exp_sub _ _

theorem v14_real (ν : ℝ) (hν : val_main_v9 (F := Ideal) x0 x1 x3 (ix3 (0 : Fin 1) h R) = (ν : EReal)) :
    val_main_v14 (F := Ideal) x0 x1 x3 (ix3 (0 : Fin 1) h R) = (wsum tc t ν 16384 : EReal) := by
  rw [val_main_v14_apply, show (val_main_cst_3 (F := Ideal)) (Shape.Idx.first h_S_) = (0 : EReal) from Ideal.ofBits_zero_f32, zero_add]
  have ei : ∀ k : Fin 16640, idx_main_v14 (ix3 (0 : Fin 1) h R) k = ix4 (0 : Fin 1) h R k := fun k => funext fun a => match a with
    | ⟨0, _⟩ => rfl
    | ⟨1, _⟩ => rfl
    | ⟨2, _⟩ => rfl
    | ⟨3, _⟩ => rfl
  have e : ∀ k : Fin 16640, val_main_v13 (F := Ideal) x0 x1 x3 (idx_main_v14 (ix3 (0 : Fin 1) h R) k) = (Real.exp (realScore t tc k - ν) : EReal) := fun k =>
    (congrArg (val_main_v13 (F := Ideal) x0 x1 x3) (ei k)).trans (v13_real x0 x1 x3 hl hc ν hν k)
  refine (Finset.sum_congr rfl fun k _ => e k).trans ?_
  rw [sum_coe]
  refine congrArg _ ?_
  unfold wsum
  refine (Fin.sum_univ_add (a := 16384) (b := 256) _).trans ?_
  refine congr (congrArg HAdd.hAdd (Finset.sum_congr rfl fun k _ => ?_)) (Finset.sum_congr rfl fun u _ => ?_)
  · unfold realScore
    rw [dif_pos (show (Fin.castAdd 256 k).val < 16384 from k.isLt)]
    rfl
  · unfold realScore
    rw [dif_neg (show ¬ (Fin.natAdd 16384 u).val < 16384 by show ¬ 16384 + u.val < 16384; omega)]
    refine congrArg (fun w => Real.exp (tc w - ν)) (Fin.ext ?_)
    show 16384 + u.val - 16384 = u.val
    omega

theorem v17_real (ν : ℝ) (hν : val_main_v9 (F := Ideal) x0 x1 x3 (ix3 (0 : Fin 1) h R) = (ν : EReal)) (k : Fin 16640) :
    val_main_v17 (F := Ideal) x0 x1 x3 (ix4 (0 : Fin 1) h R k)
      = Ideal.div (Real.exp (realScore t tc k - ν) : EReal) (wsum tc t ν 16384 : EReal) := by
  have ei : idx_main_v15 (idx_main_v16 (ix4 (0 : Fin 1) h R k)) = ix3 (0 : Fin 1) h R := funext fun a => match a with
    | ⟨0, _⟩ => rfl
    | ⟨1, _⟩ => rfl
    | ⟨2, _⟩ => rfl
  rw [val_main_v17_apply, val_main_v16_apply, val_main_v15_apply, v13_real x0 x1 x3 hl hc ν hν, ei, v14_real x0 x1 x3 hl hc ν hν]
  rfl

/-- The reference's result where its scores are real. -/
theorem v26_at (e : Fin 128) (D : Fin 2048) (hD : D.val = 128 * h.val + e.val) :
    ∃ ν : ℝ, val_main_v26 (F := Ideal) x0 x1 x2 x3 x4 (ix2 R D)
      = (∑ k : Fin 16384, (x2 (ix4 (0 : Fin 1) k h e) : EReal) * Ideal.div (Real.exp (t k.val - ν) : EReal) (wsum tc t ν 16384 : EReal))
        + ∑ u : Fin 256, (x4 (ix4 (0 : Fin 1) u h e) : EReal) * Ideal.div (Real.exp (tc u - ν) : EReal) (wsum tc t ν 16384 : EReal) := by
  obtain ⟨ν, hν⟩ := level_real x0 x1 x3 hl hc
  refine ⟨ν, ?_⟩
  have hi : idx_main_v25 (ix2 R D) = ix4 (0 : Fin 1) R h e := by
    have hh := h.isLt
    have he := e.isLt
    have hR := R.isLt
    have hDl := D.isLt
    funext a
    refine Fin.ext ?_
    match a with
    | ⟨0, _⟩ => rfl
    | ⟨1, _⟩ => show (R.val * 2048 + D.val) / 2048 % 16384 = R.val; omega
    | ⟨2, _⟩ => show (R.val * 2048 + D.val) / 128 % 16 = h.val; omega
    | ⟨3, _⟩ => show (R.val * 2048 + D.val) % 128 = e.val; omega
  rw [val_main_v26_apply]
  show val_main_v25 (F := Ideal) x0 x1 x2 x3 x4 (ix2 R D) = _
  rw [val_main_v25_apply, hi, val_main_v24_apply, val_main_v20_apply, val_main_v23_apply, val_main_v19_apply, val_main_v22_apply]
  refine congr (congrArg (HAdd.hAdd (α := EReal) (β := EReal) (γ := EReal)) (Finset.sum_congr rfl fun k _ => ?_)) (Finset.sum_congr rfl fun u _ => ?_)
  · refine congr (congrArg (HMul.hMul (α := EReal) (β := EReal) (γ := EReal)) (congrArg x2 (funext fun a => ?_))) ?_
    · match a with
      | ⟨0, _⟩ => rfl
      | ⟨1, _⟩ => rfl
      | ⟨2, _⟩ => rfl
      | ⟨3, _⟩ => rfl
    · rw [val_main_v18_apply]
      refine ((congrArg (val_main_v17 (F := Ideal) x0 x1 x3) (?_ : _ = ix4 (0 : Fin 1) h R (⟨k.val, by omega⟩ : Fin 16640))).trans
        (v17_real x0 x1 x3 hl hc ν hν _)).trans ?_
      · funext a
        match a with
        | ⟨0, _⟩ => rfl
        | ⟨1, _⟩ => rfl
        | ⟨2, _⟩ => rfl
        | ⟨3, _⟩ => rfl
      · unfold realScore
        rw [dif_pos (show k.val < 16384 from k.isLt)]
  · refine congr (congrArg (HMul.hMul (α := EReal) (β := EReal) (γ := EReal)) (congrArg x4 (funext fun a => ?_))) ?_
    · match a with
      | ⟨0, _⟩ => rfl
      | ⟨1, _⟩ => rfl
      | ⟨2, _⟩ => rfl
      | ⟨3, _⟩ => rfl
    · rw [val_main_v21_apply]
      refine ((congrArg (val_main_v17 (F := Ideal) x0 x1 x3) (?_ : _ = ix4 (0 : Fin 1) h R (⟨16384 + u.val, by omega⟩ : Fin 16640))).trans
        (v17_real x0 x1 x3 hl hc ν hν _)).trans ?_
      · funext a
        match a with
        | ⟨0, _⟩ => rfl
        | ⟨1, _⟩ => rfl
        | ⟨2, _⟩ => rfl
        | ⟨3, _⟩ => rfl
      · unfold realScore
        rw [dif_neg (show ¬ 16384 + u.val < 16384 by omega)]
        refine congrArg (fun w => Ideal.div (Real.exp (tc w - ν) : EReal) (wsum tc t ν 16384 : EReal)) (Fin.ext ?_)
        show 16384 + u.val - 16384 = u.val
        omega

end Cert.ReferenceMlaIdeal.Read

end
-- ==== Proof.MlaEq.lean ====
module

public import proofs.«01_k».proof.Proof.MlaColumn
public import proofs.«01_k».proof.Proof.MlaHost
public import proofs.«01_k».proof.Proof.MlaBlocks
public import proofs.«01_k».proof.Proof.MlaRef

@[expose] public section
set_option maxRecDepth 16384
noncomputable section

/-! The attention's kernel and its reference hold one value where queries and keys are real: the kernel's scores are the
    reference's times the logarithm's scale, and both weigh the same values by the softmax of those scores. -/

namespace Cert.KernelMlaIdeal.Gen
open Idealize.ShloMosaic Idealize.ShloMosaic.TcCoe Idealize.ShloMosaic.Tactic Idealize.SL.Sem
open Idealize.ShloMosaic.ValueIdx Cert.Soft Cert.Finite Cert.ReferenceMlaIdeal.Read

theorem scale_mla : ∃ σ : ℝ, Ideal.ofBits .f32 0x3D93CD3A#32 = (σ : EReal) := by
  refine ⟨9686330 / 134217728, ?_⟩
  simp [Ideal.ofBits, Ideal.ieee, -EReal.coe_mul]
  norm_num

/-- A product over the widened columns, the second factor scaled and zero outside. -/
theorem wide_dot (a b : Fin 256 → EReal) (f g : Fin 192 → EReal) (hf : ∀ d, Fin' (f d)) (hg : ∀ d, Fin' (g d)) (σ : ℝ)
    (ha : ∀ (d : Fin 256) (d' : Fin 192), d.val = d'.val → a d = f d')
    (hb : ∀ (d : Fin 256) (d' : Fin 192), d.val = d'.val → b d = g d' * (σ : EReal) * (cE : EReal))
    (h0 : ∀ d : Fin 256, 192 ≤ d.val → b d = 0) :
    ∑ d, a d * b d = (cE : EReal) * ((∑ d, g d * f d) * (σ : EReal)) ∧ Fin' ((∑ d, g d * f d) * (σ : EReal)) := by
  have hD := dot_scale g f hg hf σ cE
  refine ⟨?_, hD.2⟩
  rw [← hD.1]
  refine (Fin.sum_univ_add (a := 192) (b := 64) _).trans ?_
  have hz : ∑ d : Fin 64, a (Fin.natAdd 192 d) * b (Fin.natAdd 192 d) = 0 :=
    Finset.sum_eq_zero fun d _ => by rw [h0 (Fin.natAdd 192 d) (by show 192 ≤ 192 + d.val; omega), mul_zero]
  refine (congrArg (HAdd.hAdd (α := EReal) (β := EReal) (γ := EReal) _) hz).trans ?_
  rw [add_zero]
  refine Finset.sum_congr rfl fun d _ => ?_
  rw [ha (Fin.castAdd 64 d) d rfl, hb (Fin.castAdd 64 d) d rfl, mul_comm]

variable (m : (ℓ : Loc nD τ sig) → Buf (Elt Ideal) ℓ)

/-- The query block of a point, as reals with infinities. -/
def bq (c : Dev nD) (t : Fin cfg0.N) : S1x512x256.Idx → EReal := iblk m c 0 t
/-- The key block of a point. -/
def bk (c : Dev nD) (t : Fin cfg0.N) : S1x16384x256.Idx → EReal := iblk m c 1 t
/-- The context's key block of a point. -/
def bkc (c : Dev nD) (t : Fin cfg0.N) : S1x256x256.Idx → EReal := iblk m c 3 t

/-- The arguments the scores are made of are real. -/
structure Fine (c : Dev nD) : Prop where
  q : ∀ i, Fin' (argQ m c i)
  k : ∀ i, Fin' (argK m c i)
  kc : ∀ i, Fin' (argKc m c i)

variable {m}

/-- A query's column in the block of its point. -/
theorem q_col (c : Dev nD) (t : Fin cfg0.N) (q : Fin 512) (h : Fin 16) (hh : h.val = t.val / 32) (R : Fin 16384)
    (hR : R.val = 512 * (t.val % 32) + q.val) (d : Fin 256) :
    (∀ d' : Fin 192, d.val = d'.val → bq m c t (ix3 (0 : Fin 1) q d)
        = argQ m c (ix4 (0 : Fin 1) R h d') * Ideal.ofBits .f32 0x3D93CD3A#32 * (cE : EReal))
      ∧ (192 ≤ d.val → bq m c t (ix3 (0 : Fin 1) q d) = 0) := by
  rw [show bq m c t (ix3 (0 : Fin 1) q d) = V m c main_v9 (ix3 h R d) from blk0_apply m c t 0 q d h hh R hR, V_v9]
  refine ⟨fun d' hd => ?_, fun hd => wideLat_out _ h R d hd⟩
  rw [wideLat_in _ h R d d' hd]
  refine (drop_lead 16384 192 _ _ R h d').trans ?_
  exact qBase2_apply _ _

theorem k_row (c : Dev nD) (t : Fin cfg0.N) (h : Fin 16) (hh : h.val = t.val / 32) (k : Fin 16384) (d : Fin 256) (d' : Fin 192) (hd : d.val = d'.val) :
    bk m c t (ix3 (0 : Fin 1) k d) = argK m c (ix4 (0 : Fin 1) k h d') := by
  rw [show bk m c t (ix3 (0 : Fin 1) k d) = V m c main_v13 (ix3 h k d) from blk1_apply m c t 0 k d h hh, V_v13, wideLat_in _ h k d d' hd]
  exact drop_lead 16384 192 _ _ k h d'

theorem kc_row (c : Dev nD) (t : Fin cfg0.N) (h : Fin 16) (hh : h.val = t.val / 32) (u : Fin 256) (d : Fin 256) (d' : Fin 192) (hd : d.val = d'.val) :
    bkc m c t (ix3 (0 : Fin 1) u d) = argKc m c (ix4 (0 : Fin 1) u h d') := by
  rw [show bkc m c t (ix3 (0 : Fin 1) u d) = V m c main_v27 (ix3 h u d) from blk3_apply m c t 0 u d h hh, V_v27, wideCtx_in _ h u d d' hd]
  exact drop_lead 256 192 _ _ u h d'

theorem lat_eq (c : Dev nD) (fine : Fine m c) (t : Fin cfg0.N) (q : Fin 512) (h : Fin 16) (hh : h.val = t.val / 32) (R : Fin 16384)
    (hR : R.val = 512 * (t.val % 32) + q.val) (k : Fin 16384) :
    (∑ d : Fin 256, bk m c t (ix3 (0 : Fin 1) k d) * bq m c t (ix3 (0 : Fin 1) q d))
        = (cE : EReal) * latScore (argQ m c) (argK m c) h R k ∧ Fin' (latScore (argQ m c) (argK m c) h R k) := by
  obtain ⟨σ, hσ⟩ := scale_mla
  have hs : latScore (argQ m c) (argK m c) h R k
      = (∑ d : Fin 192, argQ m c (ix4 (0 : Fin 1) R h d) * argK m c (ix4 (0 : Fin 1) k h d)) * (σ : EReal) :=
    congrArg (HMul.hMul (α := EReal) (β := EReal) (γ := EReal) _) hσ
  rw [hs]
  exact wide_dot _ _ (fun d => argK m c (ix4 (0 : Fin 1) k h d)) (fun d => argQ m c (ix4 (0 : Fin 1) R h d)) (fun _ => fine.k _) (fun _ => fine.q _) σ
    (fun d d' hd => k_row c t h hh k d d' hd)
    (fun d d' hd => ((q_col c t q h hh R hR d).1 d' hd).trans (congrArg (fun x : EReal => argQ m c (ix4 (0 : Fin 1) R h d') * x * (cE : EReal)) hσ))
    (fun d hd => (q_col c t q h hh R hR d).2 hd)

theorem ctx_eq (c : Dev nD) (fine : Fine m c) (t : Fin cfg0.N) (q : Fin 512) (h : Fin 16) (hh : h.val = t.val / 32) (R : Fin 16384)
    (hR : R.val = 512 * (t.val % 32) + q.val) (u : Fin 256) :
    (∑ d : Fin 256, bkc m c t (ix3 (0 : Fin 1) u d) * bq m c t (ix3 (0 : Fin 1) q d))
        = (cE : EReal) * ctxScore (argQ m c) (argKc m c) h R u ∧ Fin' (ctxScore (argQ m c) (argKc m c) h R u) := by
  obtain ⟨σ, hσ⟩ := scale_mla
  have hs : ctxScore (argQ m c) (argKc m c) h R u
      = (∑ d : Fin 192, argQ m c (ix4 (0 : Fin 1) R h d) * argKc m c (ix4 (0 : Fin 1) u h d)) * (σ : EReal) :=
    congrArg (HMul.hMul (α := EReal) (β := EReal) (γ := EReal) _) hσ
  rw [hs]
  exact wide_dot _ _ (fun d => argKc m c (ix4 (0 : Fin 1) u h d)) (fun d => argQ m c (ix4 (0 : Fin 1) R h d)) (fun _ => fine.kc _) (fun _ => fine.q _) σ
    (fun d d' hd => kc_row c t h hh u d d' hd)
    (fun d d' hd => ((q_col c t q h hh R hR d).1 d' hd).trans (congrArg (fun x : EReal => argQ m c (ix4 (0 : Fin 1) R h d') * x * (cE : EReal)) hσ))
    (fun d hd => (q_col c t q h hh R hR d).2 hd)

/-- The kernel's result block at a point, where its row and column stand in the reference's. -/
theorem out_eq (c : Dev nD) (fine : Fine m c) (t : Fin cfg0.N) (q : Fin 512) (e : Fin 128) (h : Fin 16) (hh : h.val = t.val / 32) (R : Fin 16384)
    (hR : R.val = 512 * (t.val % 32) + q.val) (D : Fin 2048) (hD : D.val = 128 * h.val + e.val) :
    flashOut (F := Ideal) (iblk m c 0 t) (iblk m c 1 t) (iblk m c 2 t) (iblk m c 3 t) (iblk m c 4 t) (ix2 q e)
      = val_main_v26 (F := Ideal) (argQ m c) (argK m c) (argV m c) (argKc m c) (argVc m c) (ix2 R D) := by
  choose f hf using fun k : Fin 16384 => (lat_eq c fine t q h hh R hR k).2
  choose tc htc using fun u : Fin 256 => (ctx_eq c fine t q h hh R hR u).2
  let ts : ℕ → ℝ := fun k => f ⟨k % 16384, Nat.mod_lt _ (by norm_num)⟩
  have hmod : ∀ k : Fin 16384, (⟨k.val % 16384, Nat.mod_lt _ (by norm_num)⟩ : Fin 16384) = k := fun k => Fin.ext (Nat.mod_eq_of_lt k.isLt)
  obtain ⟨ν, hν⟩ := v26_at (argQ m c) (argK m c) (argV m c) (argKc m c) (argVc m c) (h := h) (R := R) (t := ts) (tc := tc)
    (fun k => (hf k).trans (by show _ = ((f _ : ℝ) : EReal); rw [hmod k])) htc e D hD
  refine Eq.trans ?_ hν.symm
  refine (flashOut_apply (iblk m c 0 t) (iblk m c 1 t) (iblk m c 2 t) (iblk m c 3 t) (iblk m c 4 t) q ts tc (fun k => ?_) (fun u => ?_) (fun k => ?_)
    (fun u => ?_) ν e).trans ?_
  · rw [EReal.coe_mul]
    refine ((lat_eq c fine t q h hh R hR ⟨k % 16384, Nat.mod_lt _ (by norm_num)⟩).1).trans ?_
    exact congrArg (HMul.hMul (α := EReal) (β := EReal) (γ := EReal) _) (hf _)
  · rw [EReal.coe_mul]
    refine ((pay7_apply _ _ u q).trans (ctx_eq c fine t q h hh R hR u).1).trans ?_
    exact congrArg (HMul.hMul (α := EReal) (β := EReal) (γ := EReal) _) (htc u)
  · exact (blk2_apply m c t 0 _ _ h hh).trans (by rw [V_v23]; exact tallLat_one _ h _ rfl _)
  · exact (blk4_apply m c t 0 _ _ h hh).trans (by rw [V_v37]; exact tallCtx_one _ h _ rfl _)
  · refine congr (congrArg (HAdd.hAdd (α := EReal) (β := EReal) (γ := EReal)) (Finset.sum_congr rfl fun k _ => ?_)) (Finset.sum_congr rfl fun u _ => ?_)
    · refine congrArg (fun x : EReal => x * _) ?_
      refine (blk2_apply m c t 0 _ _ h hh).trans ?_
      rw [V_v23, hmod k]
      exact (tallLat_v _ h _ e rfl k).trans (drop_lead 16384 128 _ _ k h e)
    · refine congrArg (fun x : EReal => x * _) ?_
      refine (blk4_apply m c t 0 _ _ h hh).trans ?_
      rw [V_v37]
      exact (tallCtx_v _ h _ e rfl u).trans (drop_lead 256 128 _ _ u h e)

/-- The kernel's whole result is the reference's. -/
theorem final_eq (c : Dev nD) (fine : Fine m c) :
    ((dats m 0 c).arrAt 5 cfg0.N : S16384x2048.Idx → EReal)
      = val_main_v26 (F := Ideal) (argQ m c) (argK m c) (argV m c) (argKc m c) (argVc m c) := by
  funext i
  obtain ⟨R, D, rfl⟩ : ∃ (R : Fin 16384) (D : Fin 2048), i = ix2 R D := ⟨i 0, i 1, eq_ix2 i⟩
  have hRl := R.isLt
  have hDl := D.isLt
  let t : Fin cfg0.N := ⟨32 * (D.val / 128) + R.val / 512, by rw [show cfg0.N = 512 from N_0]; omega⟩
  have ht : t.val = 32 * (D.val / 128) + R.val / 512 := rfl
  refine (final5 m c t ⟨R.val % 512, by omega⟩ ⟨D.val % 128, by omega⟩ R (by show R.val = 512 * (t.val % 32) + R.val % 512; omega) D
    (by show D.val = 128 * (t.val / 32) + D.val % 128; omega)).trans ?_
  exact out_eq c fine t ⟨R.val % 512, by omega⟩ ⟨D.val % 128, by omega⟩ ⟨D.val / 128, by omega⟩ (by show D.val / 128 = t.val / 32; omega) R
    (by show R.val = 512 * (t.val % 32) + R.val % 512; omega) D (by show D.val = 128 * (D.val / 128) + D.val % 128; omega)

end Cert.KernelMlaIdeal.Gen

end
-- ==== Proof.MlaClaim.lean ====
module

public import proofs.«01_k».proof.Defs
public import proofs.«01_k».proof.Proof.MlaEq
public import proofs.«01_k».proof.Proof.MlaPrintedFrame
public import proofs.«01_k».proof.Proof.Gen.ReferenceMlaIdeal.Run
public import proofs.«01_k».proof.Proof.Gen.ReferenceMlaIdeal
public import proofs.«01_k».proof.Proof.Gen.Pre_finite_mla
public import Idealize.ShloMosaic.Lib.Quiescent

@[expose] public section
set_option maxRecDepth 16384
noncomputable section

/-! The latent attention's claims. -/

namespace Cert.Proof.Mla
open Idealize.ShloMosaic Idealize.ShloMosaic.TcCoe Idealize.SL.Sem
open Cert.KernelMlaIdeal Cert.KernelMlaIdeal.Gen Cert.Finite

/-- The kernel as printed: it runs, leaves its arguments, and ends with every counter at zero. -/
theorem frame_kernel : Cert.quiescent_KernelMla := fun m ρ _ => Cert.KernelMla.Gen.frame (F := Bits) m ρ

/-- The same of its idealization. -/
theorem frame_ideal : Cert.quiescent_KernelMlaIdeal := fun m ρ _ => Cert.KernelMlaIdeal.Gen.frame (F := Ideal) m ρ

/-- The same from finite arguments. -/
theorem frame_ideal_fin : Cert.quiescent_KernelMlaIdeal_pre_finite_mla := fun m ρ _ => Cert.KernelMlaIdeal.Gen.frame (F := Ideal) m ρ

/-- The reference runs, leaves its arguments, and has no counter. -/
theorem frame_ref : Cert.quiescent_ReferenceMlaIdeal := fun m ρ _ =>
  (θ_run Cert.ReferenceMlaIdeal.defs _ _).mono (fun r h => ⟨fun c => (h c).2, sem_eq_zero_of_no_sems (by decide) r.2⟩)
    (Cert.ReferenceMlaIdeal.Value.run (F := Ideal) m ρ)

/-- The same from finite arguments. -/
theorem frame_ref_fin : Cert.quiescent_ReferenceMlaIdeal_pre_finite_mla := fun m ρ _ => frame_ref m ρ trivial

/-- The two programs have one text. -/
theorem preserves : Cert.preserves_KernelMla_KernelMlaIdeal := trivial

/-- The precondition's word tests each array the scores read. -/
theorem fine_of_pre (m : (ℓ : Loc Cert.KernelMlaIdeal.nD Cert.KernelMlaIdeal.τ Cert.KernelMlaIdeal.sig) → Buf (Elt Ideal) ℓ)
    (h : Cert.Pre_KernelMlaIdeal_finite_mla m) (c : Dev Cert.KernelMlaIdeal.nD) : Fine m c := by
  have h0 := congrFun (h c) (fun a => a.elim0)
  haveI : Subsingleton Cert.Pre_finite_mla.S_.Idx := ⟨fun a b => funext fun x => x.elim0⟩
  obtain ⟨h1, hk⟩ := and_one _ _ h0
  obtain ⟨hq, hkk⟩ := and_one _ _ h1
  exact ⟨real_of_all _ _ (fun _ => inf_bits) _ _ _ _ hq, real_of_all _ _ (fun _ => inf_bits) _ _ _ _ hkk,
    real_of_all _ _ (fun _ => inf_bits) _ _ _ _ hk⟩

/-- From finite arguments the kernel's result is the reference's over the extended reals. -/
theorem algebraic : Cert.algebraic_KernelMlaIdeal_ReferenceMlaIdeal_pre_finite_mla := by
  intro m ρ m' ρ' hpre hagree
  refine ⟨fun c => (dats m 0 c).arrAt 5 cfg0.N, ?_, ?_⟩
  · exact (θ_run Cert.KernelMlaIdeal.defs _ _).mono (fun r h c => ⟨(h c).1 5,
      ((h c).2 Cert.KernelMlaIdeal.main_arg0 (Pipeline.mem_restRefs_of Cert.KernelMlaIdeal.main_arg0 (by decide) (by decide))).trans (V_main_arg0 m c),
      ((h c).2 Cert.KernelMlaIdeal.main_arg1 (Pipeline.mem_restRefs_of Cert.KernelMlaIdeal.main_arg1 (by decide) (by decide))).trans (V_main_arg1 m c),
      ((h c).2 Cert.KernelMlaIdeal.main_arg2 (Pipeline.mem_restRefs_of Cert.KernelMlaIdeal.main_arg2 (by decide) (by decide))).trans (V_main_arg2 m c),
      ((h c).2 Cert.KernelMlaIdeal.main_arg3 (Pipeline.mem_restRefs_of Cert.KernelMlaIdeal.main_arg3 (by decide) (by decide))).trans (V_main_arg3 m c),
      ((h c).2 Cert.KernelMlaIdeal.main_arg4 (Pipeline.mem_restRefs_of Cert.KernelMlaIdeal.main_arg4 (by decide) (by decide))).trans (V_main_arg4 m c)⟩)
      (run_main (F := Ideal) m ρ)
  · refine (θ_run Cert.ReferenceMlaIdeal.defs _ _).mono (fun r h c => ⟨(h c).1.trans ?_, (h c).2⟩) (Cert.ReferenceMlaIdeal.Value.run (F := Ideal) m' ρ')
    rw [Cert.ReferenceMlaIdeal.Read.val_main_v26_eq]
    obtain ⟨e0, e1, e2, e3, e4⟩ := hagree c
    rw [e0, e1, e2, e3, e4]
    exact (final_eq c (fine_of_pre m hpre c)).symm

end Cert.Proof.Mla

end
-- ==== Proof.MergeFrame.lean ====
module

public import proofs.«01_k».proof.Defs
public import proofs.«01_k».proof.Proof.Gen.KernelMerge.Frame
public import proofs.«01_k».proof.Proof.Gen.KernelMergeIdeal.Frame
public import proofs.«01_k».proof.Proof.Gen.ReferenceMergeIdeal.Run
public import proofs.«01_k».proof.Proof.Gen.ReferenceMergeIdeal
public import Idealize.ShloMosaic.Lib.Quiescent

@[expose] public section
set_option maxRecDepth 16384
noncomputable section

/-! That the branch merge with the output projection runs. -/

namespace Cert.Proof.Merge
open Idealize.ShloMosaic Idealize.ShloMosaic.TcCoe Idealize.SL.Sem

/-- The kernel as printed: it runs, leaves its arguments, and ends with every counter at zero. -/
theorem frame_kernel : Cert.quiescent_KernelMerge := fun m ρ _ => Cert.KernelMerge.Gen.frame (F := Bits) m ρ

/-- The same of its idealization. -/
theorem frame_ideal : Cert.quiescent_KernelMergeIdeal := fun m ρ _ => Cert.KernelMergeIdeal.Gen.frame (F := Ideal) m ρ

/-- The reference runs, leaves its arguments, and has no counter. -/
theorem frame_ref : Cert.quiescent_ReferenceMergeIdeal := fun m ρ _ =>
  (θ_run Cert.ReferenceMergeIdeal.defs _ _).mono (fun r h => ⟨fun c => (h c).2, sem_eq_zero_of_no_sems (by decide) r.2⟩)
    (Cert.ReferenceMergeIdeal.Value.run (F := Ideal) m ρ)

/-- The two programs have one text. -/
theorem preserves : Cert.preserves_KernelMerge_KernelMergeIdeal := trivial

end Cert.Proof.Merge

end
-- ==== Proof.MergeRun.lean ====
module

public import proofs.«01_k».proof.Proof.Gen.KernelMergeIdeal.Frame

@[expose] public section
set_option maxRecDepth 16384
noncomputable section

/-! The branch merge and the output projection run, and what every array ends with. -/

namespace Cert.KernelMergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each array at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c b hb => h c _ (mem_uc b hb))

end Cert.KernelMergeIdeal.Gen

end
-- ==== Proof.MergeBlocks.lean ====
module

public import proofs.«01_k».proof.Proof.Gen.KernelMergeIdeal.Frame
public import proofs.«01_k».proof.Proof.Tiles

@[expose] public section
set_option maxRecDepth 16384
noncomputable section

/-! The branch merge's and the output projection's windows read at coordinates, and their bodies' blocks. -/

namespace Cert.KernelMergeIdeal.Gen
open Idealize.ShloMosaic Idealize.ShloMosaic.TcCoe Idealize.ShloMosaic.Tactic Idealize.SL.Sem
open Idealize.ShloMosaic.Pipeline (Dat)
open Idealize.ShloMosaic.ValueIdx Cert.Tiles

theorem tr0_0 : ∀ t : Fin cfg0.N, cc0_transform_0 (grid0.coords t) 0 = t.val % 32 ∧ cc0_transform_0 (grid0.coords t) 1 = 0 := by decide +kernel
theorem tr0_1 : ∀ t : Fin cfg0.N, cc0_transform_1 (grid0.coords t) 0 = t.val % 32 ∧ cc0_transform_1 (grid0.coords t) 1 = 0 := by decide +kernel
theorem tr0_2 : ∀ t : Fin cfg0.N, cc0_transform_2 (grid0.coords t) 0 = t.val % 32 ∧ cc0_transform_2 (grid0.coords t) 1 = 0 := by decide +kernel
theorem tr0_3 : ∀ t : Fin cfg0.N, cc0_transform_3 (grid0.coords t) 0 = 0 ∧ cc0_transform_3 (grid0.coords t) 1 = 0 ∧ cc0_transform_3 (grid0.coords t) 2 = t.val / 32 := by decide +kernel
theorem tr0_4 : ∀ t : Fin cfg0.N, cc0_transform_4 (grid0.coords t) 0 = 0 ∧ cc0_transform_4 (grid0.coords t) 1 = 0 ∧ cc0_transform_4 (grid0.coords t) 2 = 8 + t.val / 32 := by decide +kernel
theorem tr0_5 : ∀ t : Fin cfg0.N, cc0_transform_5 (grid0.coords t) 0 = 0 ∧ cc0_transform_5 (grid0.coords t) 1 = 0 ∧ cc0_transform_5 (grid0.coords t) 2 = t.val / 32 := by decide +kernel
theorem tr0_6 : ∀ t : Fin cfg0.N, cc0_transform_6 (grid0.coords t) 0 = 0 ∧ cc0_transform_6 (grid0.coords t) 1 = 0 ∧ cc0_transform_6 (grid0.coords t) 2 = t.val / 32 := by decide +kernel
theorem tr0_7 : ∀ t : Fin cfg0.N, cc0_transform_7 (grid0.coords t) 0 = t.val % 32 ∧ cc0_transform_7 (grid0.coords t) 1 = t.val / 32 := by decide +kernel
theorem tr1_0 : ∀ t : Fin cfg1.N, cc1_transform_0 (grid1.coords t) 0 = t.val / 8 ∧ cc1_transform_0 (grid1.coords t) 1 = 0 := by decide +kernel
theorem tr1_1 : ∀ t : Fin cfg1.N, cc1_transform_1 (grid1.coords t) 0 = 0 ∧ cc1_transform_1 (grid1.coords t) 1 = 0 ∧ cc1_transform_1 (grid1.coords t) 2 = t.val % 8 := by decide +kernel
theorem tr1_2 : ∀ t : Fin cfg1.N, cc1_transform_2 (grid1.coords t) 0 = t.val / 8 ∧ cc1_transform_2 (grid1.coords t) 1 = t.val % 8 := by decide +kernel
theorem tr1_3 : ∀ t : Fin cfg1.N, cc1_transform_3 (grid1.coords t) 0 = 0 ∧ cc1_transform_3 (grid1.coords t) 1 = t.val % 8 := by decide +kernel
theorem tr1_4 : ∀ t : Fin cfg1.N, cc1_transform_4 (grid1.coords t) 0 = t.val / 8 ∧ cc1_transform_4 (grid1.coords t) 1 = t.val % 8 := by decide +kernel

variable (V : (c : Dev nD) → (b : Ref sig .tc) → Buf (Elt Ideal) ((c : Thread nD τ).loc b))

theorem r0_blk0 (c : Dev nD) (t : Fin cfg0.N) (r : Fin 512) (k : Fin 4096) (R : Fin 16384) (hR : R.val = 512 * (t.val % 32) + r.val) :
    (iblk0 V c 0 t : S512x4096.Idx → EReal) (ix2 r k) = (V c main_v10 : S16384x4096.Idx → EReal) (ix2 R k) := by
  show (V c main_v10 : S16384x4096.Idx → EReal) (((cfg0.win 0).rect t).emb (ix2 r k)) = _
  congr 1
  funext a
  refine Fin.ext ((Pipeline.Window.rect_emb_val_off (cfg0.win 0) t (ix2 r k) a).trans ?_)
  match a with
  | ⟨0, _⟩ => show cc0_transform_0 (grid0.coords t) 0 * 512 + r.val = R.val; rw [(tr0_0 t).1]; omega
  | ⟨1, _⟩ => show cc0_transform_0 (grid0.coords t) 1 * 4096 + k.val = k.val; rw [(tr0_0 t).2]; omega

theorem r0_blk1 (c : Dev nD) (t : Fin cfg0.N) (r : Fin 512) (k : Fin 2048) (R : Fin 16384) (hR : R.val = 512 * (t.val % 32) + r.val) :
    (iblk0 V c 1 t : S512x2048.Idx → EReal) (ix2 r k) = (V c main_v12 : S16384x2048.Idx → EReal) (ix2 R k) := by
  show (V c main_v12 : S16384x2048.Idx → EReal) (((cfg0.win 1).rect t).emb (ix2 r k)) = _
  congr 1
  funext a
  refine Fin.ext ((Pipeline.Window.rect_emb_val_off (cfg0.win 1) t (ix2 r k) a).trans ?_)
  match a with
  | ⟨0, _⟩ => show cc0_transform_1 (grid0.coords t) 0 * 512 + r.val = R.val; rw [(tr0_1 t).1]; omega
  | ⟨1, _⟩ => show cc0_transform_1 (grid0.coords t) 1 * 2048 + k.val = k.val; rw [(tr0_1 t).2]; omega

theorem r0_blk2 (c : Dev nD) (t : Fin cfg0.N) (r : Fin 512) (k : Fin 2048) (R : Fin 16384) (hR : R.val = 512 * (t.val % 32) + r.val) :
    (iblk0 V c 2 t : S512x2048.Idx → EReal) (ix2 r k) = (V c main_v14 : S16384x2048.Idx → EReal) (ix2 R k) := by
  show (V c main_v14 : S16384x2048.Idx → EReal) (((cfg0.win 2).rect t).emb (ix2 r k)) = _
  congr 1
  funext a
  refine Fin.ext ((Pipeline.Window.rect_emb_val_off (cfg0.win 2) t (ix2 r k) a).trans ?_)
  match a with
  | ⟨0, _⟩ => show cc0_transform_2 (grid0.coords t) 0 * 512 + r.val = R.val; rw [(tr0_2 t).1]; omega
  | ⟨1, _⟩ => show cc0_transform_2 (grid0.coords t) 1 * 2048 + k.val = k.val; rw [(tr0_2 t).2]; omega

theorem r0_blk3 (c : Dev nD) (t : Fin cfg0.N) (z : Fin 1) (k : Fin 4096) (d : Fin 512) (C : Fin 8192) (hC : C.val = 512 * (t.val / 32) + d.val) :
    (iblk0 V c 3 t : S1x4096x512.Idx → EReal) (ix3 z k d) = (V c main_v2 : S1x4096x8192.Idx → EReal) (ix3 z k C) := by
  show (V c main_v2 : S1x4096x8192.Idx → EReal) (((cfg0.win 3).rect t).emb (ix3 z k d)) = _
  congr 1
  funext a
  refine Fin.ext ((Pipeline.Window.rect_emb_val_off (cfg0.win 3) t (ix3 z k d) a).trans ?_)
  match a with
  | ⟨0, _⟩ => show cc0_transform_3 (grid0.coords t) 0 * 1 + z.val = z.val; rw [(tr0_3 t).1]; omega
  | ⟨1, _⟩ => show cc0_transform_3 (grid0.coords t) 1 * 4096 + k.val = k.val; rw [(tr0_3 t).2.1]; omega
  | ⟨2, _⟩ => show cc0_transform_3 (grid0.coords t) 2 * 512 + d.val = C.val; rw [(tr0_3 t).2.2]; omega

theorem r0_blk4 (c : Dev nD) (t : Fin cfg0.N) (z : Fin 1) (k : Fin 4096) (d : Fin 512) (C : Fin 8192) (hC : C.val = 4096 + 512 * (t.val / 32) + d.val) :
    (iblk0 V c 4 t : S1x4096x512.Idx → EReal) (ix3 z k d) = (V c main_v2 : S1x4096x8192.Idx → EReal) (ix3 z k C) := by
  show (V c main_v2 : S1x4096x8192.Idx → EReal) (((cfg0.win 4).rect t).emb (ix3 z k d)) = _
  congr 1
  funext a
  refine Fin.ext ((Pipeline.Window.rect_emb_val_off (cfg0.win 4) t (ix3 z k d) a).trans ?_)
  match a with
  | ⟨0, _⟩ => show cc0_transform_4 (grid0.coords t) 0 * 1 + z.val = z.val; rw [(tr0_4 t).1]; omega
  | ⟨1, _⟩ => show cc0_transform_4 (grid0.coords t) 1 * 4096 + k.val = k.val; rw [(tr0_4 t).2.1]; omega
  | ⟨2, _⟩ => show cc0_transform_4 (grid0.coords t) 2 * 512 + d.val = C.val; rw [(tr0_4 t).2.2]; omega

theorem r0_blk5 (c : Dev nD) (t : Fin cfg0.N) (z : Fin 1) (k : Fin 2048) (d : Fin 512) (C : Fin 4096) (hC : C.val = 512 * (t.val / 32) + d.val) :
    (iblk0 V c 5 t : S1x2048x512.Idx → EReal) (ix3 z k d) = (V c main_v4 : S1x2048x4096.Idx → EReal) (ix3 z k C) := by
  show (V c main_v4 : S1x2048x4096.Idx → EReal) (((cfg0.win 5).rect t).emb (ix3 z k d)) = _
  congr 1
  funext a
  refine Fin.ext ((Pipeline.Window.rect_emb_val_off (cfg0.win 5) t (ix3 z k d) a).trans ?_)
  match a with
  | ⟨0, _⟩ => show cc0_transform_5 (grid0.coords t) 0 * 1 + z.val = z.val; rw [(tr0_5 t).1]; omega
  | ⟨1, _⟩ => show cc0_transform_5 (grid0.coords t) 1 * 2048 + k.val = k.val; rw [(tr0_5 t).2.1]; omega
  | ⟨2, _⟩ => show cc0_transform_5 (grid0.coords t) 2 * 512 + d.val = C.val; rw [(tr0_5 t).2.2]; omega

theorem r0_blk6 (c : Dev nD) (t : Fin cfg0.N) (z : Fin 1) (k : Fin 2048) (d : Fin 512) (C : Fin 4096) (hC : C.val = 512 * (t.val / 32) + d.val) :
    (iblk0 V c 6 t : S1x2048x512.Idx → EReal) (ix3 z k d) = (V c main_v6 : S1x2048x4096.Idx → EReal) (ix3 z k C) := by
  show (V c main_v6 : S1x2048x4096.Idx → EReal) (((cfg0.win 6).rect t).emb (ix3 z k d)) = _
  congr 1
  funext a
  refine Fin.ext ((Pipeline.Window.rect_emb_val_off (cfg0.win 6) t (ix3 z k d) a).trans ?_)
  match a with
  | ⟨0, _⟩ => show cc0_transform_6 (grid0.coords t) 0 * 1 + z.val = z.val; rw [(tr0_6 t).1]; omega
  | ⟨1, _⟩ => show cc0_transform_6 (grid0.coords t) 1 * 2048 + k.val = k.val; rw [(tr0_6 t).2.1]; omega
  | ⟨2, _⟩ => show cc0_transform_6 (grid0.coords t) 2 * 512 + d.val = C.val; rw [(tr0_6 t).2.2]; omega

theorem r1_blk0 (c : Dev nD) (t : Fin cfg1.N) (r : Fin 1024) (k : Fin 4096) (R : Fin 16384) (hR : R.val = 1024 * (t.val / 8) + r.val) :
    (iblk1 V c 0 t : S1024x4096.Idx → EReal) (ix2 r k) = (V c main_v15 : S16384x4096.Idx → EReal) (ix2 R k) := by
  show (V c main_v15 : S16384x4096.Idx → EReal) (((cfg1.win 0).rect t).emb (ix2 r k)) = _
  congr 1
  funext a
  refine Fin.ext ((Pipeline.Window.rect_emb_val_off (cfg1.win 0) t (ix2 r k) a).trans ?_)
  match a with
  | ⟨0, _⟩ => show cc1_transform_0 (grid1.coords t) 0 * 1024 + r.val = R.val; rw [(tr1_0 t).1]; omega
  | ⟨1, _⟩ => show cc1_transform_0 (grid1.coords t) 1 * 4096 + k.val = k.val; rw [(tr1_0 t).2]; omega

theorem r1_blk1 (c : Dev nD) (t : Fin cfg1.N) (z : Fin 1) (k : Fin 4096) (d : Fin 512) (C : Fin 4096) (hC : C.val = 512 * (t.val % 8) + d.val) :
    (iblk1 V c 1 t : S1x4096x512.Idx → EReal) (ix3 z k d) = (V c main_v8 : S1x4096x4096.Idx → EReal) (ix3 z k C) := by
  show (V c main_v8 : S1x4096x4096.Idx → EReal) (((cfg1.win 1).rect t).emb (ix3 z k d)) = _
  congr 1
  funext a
  refine Fin.ext ((Pipeline.Window.rect_emb_val_off (cfg1.win 1) t (ix3 z k d) a).trans ?_)
  match a with
  | ⟨0, _⟩ => show cc1_transform_1 (grid1.coords t) 0 * 1 + z.val = z.val; rw [(tr1_1 t).1]; omega
  | ⟨1, _⟩ => show cc1_transform_1 (grid1.coords t) 1 * 4096 + k.val = k.val; rw [(tr1_1 t).2.1]; omega
  | ⟨2, _⟩ => show cc1_transform_1 (grid1.coords t) 2 * 512 + d.val = C.val; rw [(tr1_1 t).2.2]; omega

theorem r1_blk2 (c : Dev nD) (t : Fin cfg1.N) (r : Fin 1024) (d : Fin 512) (R : Fin 16384) (hR : R.val = 1024 * (t.val / 8) + r.val) (C : Fin 4096) (hC : C.val = 512 * (t.val % 8) + d.val) :
    (iblk1 V c 2 t : S1024x512.Idx → EReal) (ix2 r d) = (V c main_v16 : S16384x4096.Idx → EReal) (ix2 R C) := by
  show (V c main_v16 : S16384x4096.Idx → EReal) (((cfg1.win 2).rect t).emb (ix2 r d)) = _
  congr 1
  funext a
  refine Fin.ext ((Pipeline.Window.rect_emb_val_off (cfg1.win 2) t (ix2 r d) a).trans ?_)
  match a with
  | ⟨0, _⟩ => show cc1_transform_2 (grid1.coords t) 0 * 1024 + r.val = R.val; rw [(tr1_2 t).1]; omega
  | ⟨1, _⟩ => show cc1_transform_2 (grid1.coords t) 1 * 512 + d.val = C.val; rw [(tr1_2 t).2]; omega

theorem r1_blk3 (c : Dev nD) (t : Fin cfg1.N) (z : Fin 1) (d : Fin 512) (C : Fin 4096) (hC : C.val = 512 * (t.val % 8) + d.val) :
    (iblk1 V c 3 t : S1x512.Idx → EReal) (ix2 z d) = (V c main_v18 : S1x4096.Idx → EReal) (ix2 z C) := by
  show (V c main_v18 : S1x4096.Idx → EReal) (((cfg1.win 3).rect t).emb (ix2 z d)) = _
  congr 1
  funext a
  refine Fin.ext ((Pipeline.Window.rect_emb_val_off (cfg1.win 3) t (ix2 z d) a).trans ?_)
  match a with
  | ⟨0, _⟩ => show cc1_transform_3 (grid1.coords t) 0 * 1 + z.val = z.val; rw [(tr1_3 t).1]; omega
  | ⟨1, _⟩ => show cc1_transform_3 (grid1.coords t) 1 * 512 + d.val = C.val; rw [(tr1_3 t).2]; omega

theorem r0_emb (t : Fin cfg0.N) (r : Fin 512) (d : Fin 512) (R : Fin 16384) (hR : R.val = 512 * (t.val % 32) + r.val)
    (C : Fin 4096) (hC : C.val = 512 * (t.val / 32) + d.val) :
    ((cfg0.win 7).rect t).emb (ix2 r d) = (ix2 R C : S16384x4096.Idx) := by
  funext a
  refine Fin.ext ((Pipeline.Window.rect_emb_val_off (cfg0.win 7) t (ix2 r d) a).trans ?_)
  match a with
  | ⟨0, _⟩ => show cc0_transform_7 (grid0.coords t) 0 * 512 + r.val = R.val; rw [(tr0_7 t).1]; omega
  | ⟨1, _⟩ => show cc0_transform_7 (grid0.coords t) 1 * 512 + d.val = C.val; rw [(tr0_7 t).2]; omega

theorem r0_inj : ∀ t t' : Fin cfg0.N, (cfg0.win 7).index t = (cfg0.win 7).index t' → t = t' := by
  intro t t' h
  have e0 : cc0_transform_7 (grid0.coords t) 0 = cc0_transform_7 (grid0.coords t') 0 := congrFun h 0
  have e1 : cc0_transform_7 (grid0.coords t) 1 = cc0_transform_7 (grid0.coords t') 1 := congrFun h 1
  rw [(tr0_7 t).1, (tr0_7 t').1] at e0
  rw [(tr0_7 t).2, (tr0_7 t').2] at e1
  exact Fin.ext (by omega)

theorem r0_disjoint (t t' : Fin cfg0.N) (_ : (cfg0.win 7).flush t = true) (_ : (cfg0.win 7).flush t' = true) (h : t ≠ t') :
    Disjoint ((cfg0.win 7).blk t).view.set ((cfg0.win 7).blk t').view.set :=
  (cfg0.win 7).disjoint_blk fun e => h (r0_inj t t' e)

/-- The merged branches after the run, at a row and a column: what their point left in its block. -/
theorem r0_final (c : Dev nD) (t : Fin cfg0.N) (r : Fin 512) (d : Fin 512) (R : Fin 16384) (hR : R.val = 512 * (t.val % 32) + r.val)
    (C : Fin 4096) (hC : C.val = 512 * (t.val / 32) + d.val) :
    ((dat0 V c).arrAt 7 cfg0.N : S16384x4096.Idx → EReal) (ix2 R C)
      = out0_7 (iblk0 V c 0 t) (iblk0 V c 1 t) (iblk0 V c 2 t) (iblk0 V c 3 t) (iblk0 V c 4 t) (iblk0 V c 5 t) (iblk0 V c 6 t) (ix2 r d) := by
  have h := (dat0 V c).arrAt_emb_eq_flushed 7 r0_disjoint t (flush0_7 t) (ix2 r d : S512x512.Idx)
  have e : ((cfg0.win 7).blk t).view.emb (ix2 r d : S512x512.Idx) = (ix2 R C : S16384x4096.Idx) := r0_emb t r d R hR C hC
  rw [e] at h
  refine h.trans ?_
  show (cfg0.win 7).cut (grid0.coords t) ((dat0 V c).after 7 t) (ix2 r d : S512x512.Idx) = _
  rw [after0_7]
  rfl

theorem r1_emb (t : Fin cfg1.N) (r : Fin 1024) (d : Fin 512) (R : Fin 16384) (hR : R.val = 1024 * (t.val / 8) + r.val)
    (C : Fin 4096) (hC : C.val = 512 * (t.val % 8) + d.val) :
    ((cfg1.win 4).rect t).emb (ix2 r d) = (ix2 R C : S16384x4096.Idx) := by
  funext a
  refine Fin.ext ((Pipeline.Window.rect_emb_val_off (cfg1.win 4) t (ix2 r d) a).trans ?_)
  match a with
  | ⟨0, _⟩ => show cc1_transform_4 (grid1.coords t) 0 * 1024 + r.val = R.val; rw [(tr1_4 t).1]; omega
  | ⟨1, _⟩ => show cc1_transform_4 (grid1.coords t) 1 * 512 + d.val = C.val; rw [(tr1_4 t).2]; omega

theorem r1_inj : ∀ t t' : Fin cfg1.N, (cfg1.win 4).index t = (cfg1.win 4).index t' → t = t' := by
  intro t t' h
  have e0 : cc1_transform_4 (grid1.coords t) 0 = cc1_transform_4 (grid1.coords t') 0 := congrFun h 0
  have e1 : cc1_transform_4 (grid1.coords t) 1 = cc1_transform_4 (grid1.coords t') 1 := congrFun h 1
  rw [(tr1_4 t).1, (tr1_4 t').1] at e0
  rw [(tr1_4 t).2, (tr1_4 t').2] at e1
  exact Fin.ext (by omega)

theorem r1_disjoint (t t' : Fin cfg1.N) (_ : (cfg1.win 4).flush t = true) (_ : (cfg1.win 4).flush t' = true) (h : t ≠ t') :
    Disjoint ((cfg1.win 4).blk t).view.set ((cfg1.win 4).blk t').view.set :=
  (cfg1.win 4).disjoint_blk fun e => h (r1_inj t t' e)

/-- The result after the run, at a row and a column: what their point left in its block. -/
theorem r1_final (c : Dev nD) (t : Fin cfg1.N) (r : Fin 1024) (d : Fin 512) (R : Fin 16384) (hR : R.val = 1024 * (t.val / 8) + r.val)
    (C : Fin 4096) (hC : C.val = 512 * (t.val % 8) + d.val) :
    ((dat1 V c).arrAt 4 cfg1.N : S16384x4096.Idx → EReal) (ix2 R C)
      = out1_4 (iblk1 V c 0 t) (iblk1 V c 1 t) (iblk1 V c 2 t) (iblk1 V c 3 t) (ix2 r d) := by
  have h := (dat1 V c).arrAt_emb_eq_flushed 4 r1_disjoint t (flush1_4 t) (ix2 r d : S1024x512.Idx)
  have e : ((cfg1.win 4).blk t).view.emb (ix2 r d : S1024x512.Idx) = (ix2 R C : S16384x4096.Idx) := r1_emb t r d R hR C hC
  rw [e] at h
  refine h.trans ?_
  show (cfg1.win 4).cut (grid1.coords t) ((dat1 V c).after 4 t) (ix2 r d : S1024x512.Idx) = _
  rw [after1_4]
  rfl

/-- The merge's body at a row and a column. -/
theorem out0_7_apply (x0 : Vec Ideal S512x4096 .bf16) (x1 x2 : Vec Ideal S512x2048 .bf16) (x3 x4 : Vec Ideal S1x4096x512 .bf16)
    (x5 x6 : Vec Ideal S1x2048x512 .bf16) (r : Fin 512) (d : Fin 512) : out0_7 x0 x1 x2 x3 x4 x5 x6 (ix2 r d)
      = HAdd.hAdd (α := EReal) (β := EReal) (γ := EReal)
          (HMul.hMul (α := EReal) (β := EReal) (γ := EReal) (Ideal.logistic (∑ k : Fin 4096, x0 (ix2 r k) * x3 (ix3 (0 : Fin 1) k d)))
            (∑ k : Fin 2048, x1 (ix2 r k) * x5 (ix3 (0 : Fin 1) k d)))
          (HMul.hMul (α := EReal) (β := EReal) (γ := EReal) (Ideal.logistic (∑ k : Fin 4096, x0 (ix2 r k) * x4 (ix3 (0 : Fin 1) k d)))
            (∑ k : Fin 2048, x2 (ix2 r k) * x6 (ix3 (0 : Fin 1) k d))) := by
  unfold out0_7
  rw [View.canon_unit_zero (by funext a; fin_cases a <;> rfl)]
  rw [View.ld_unit_zero (S := S512x4096) (by funext a; fin_cases a <;> rfl), View.ld_unit_zero (S := S512x2048) (by funext a; fin_cases a <;> rfl),
    View.ld_unit_zero (S := S512x2048) (by funext a; fin_cases a <;> rfl), View.ld_unit_zero (S := S1x4096x512) (by funext a; fin_cases a <;> rfl),
    View.ld_unit_zero (S := S1x4096x512) (by funext a; fin_cases a <;> rfl), View.ld_unit_zero (S := S1x2048x512) (by funext a; fin_cases a <;> rfl),
    View.ld_unit_zero (S := S1x2048x512) (by funext a; fin_cases a <;> rfl)]
  unfold k0_pay1
  exact congr (congrArg HAdd.hAdd (congr (congrArg HMul.hMul (congrArg Ideal.logistic (dot_drop 512 4096 512 (φ₁ := .bf16) (φ₂ := .bf16) none x0 x3 _ _ r d)))
      (dot_drop 512 2048 512 (φ₁ := .bf16) (φ₂ := .bf16) none x1 x5 _ _ r d)))
    (congr (congrArg HMul.hMul (congrArg Ideal.logistic (dot_drop 512 4096 512 (φ₁ := .bf16) (φ₂ := .bf16) none x0 x4 _ _ r d)))
      (dot_drop 512 2048 512 (φ₁ := .bf16) (φ₂ := .bf16) none x2 x6 _ _ r d))

/-- The output projection's body at a row and a column. -/
theorem out1_4_apply (x0 : Vec Ideal S1024x4096 .bf16) (x1 : Vec Ideal S1x4096x512 .bf16) (x2 : Vec Ideal S1024x512 .f32)
    (x3 : Vec Ideal S1x512 .f32) (r : Fin 1024) (d : Fin 512) : out1_4 x0 x1 x2 x3 (ix2 r d)
      = HAdd.hAdd (α := EReal) (β := EReal) (γ := EReal) (x2 (ix2 r d))
          (HMul.hMul (α := EReal) (β := EReal) (γ := EReal) (x3 (ix2 (0 : Fin 1) d)) (∑ k : Fin 4096, x0 (ix2 r k) * x1 (ix3 (0 : Fin 1) k d))) := by
  unfold out1_4
  rw [View.canon_unit_zero (by funext a; fin_cases a <;> rfl)]
  rw [View.ld_unit_zero (S := S1024x4096) (by funext a; fin_cases a <;> rfl), View.ld_unit_zero (S := S1x4096x512) (by funext a; fin_cases a <;> rfl),
    View.ld_unit_zero (S := S1024x512) (by funext a; fin_cases a <;> rfl), View.ld_unit_zero (S := S1x512) (by funext a; fin_cases a <;> rfl)]
  unfold k1_pay1
  refine congr (congrArg HAdd.hAdd (congrFun (cast_same x2 _) (ix2 r d))) (congr (congrArg HMul.hMul ?_)
      (dot_drop 1024 4096 512 (φ₁ := .bf16) (φ₂ := .bf16) none x0 x1 _ _ r d))
  refine (broadcastTo_apply _ _ (ix2 r d) (ix2 (0 : Fin 1) d) fun a => ?_).trans (congrFun (cast_same x3 _) _)
  match a with
  | ⟨0, _⟩ => rfl
  | ⟨1, _⟩ => rfl

end Cert.KernelMergeIdeal.Gen

end
-- ==== Proof.MergeHost.lean ====
module

public import proofs.«01_k».proof.Proof.MergeBlocks
public import Idealize.ShloMosaic.Lib.StableHlo.RunRead
public import Idealize.ShloMosaic.PureOps.Ideal.Laws

@[expose] public section
set_option maxRecDepth 16384
noncomputable section

/-! What the merge's host code hands its two calls, at coordinates, and the whole result at a row and a column. -/

namespace Cert.KernelMergeIdeal.Gen
open Idealize.ShloMosaic Idealize.ShloMosaic.TcCoe Idealize.ShloMosaic.Tactic Idealize.SL.Sem Idealize.ShloMosaic.StableHlo
open Idealize.ShloMosaic.ValueIdx Cert.Tiles

variable (m : (ℓ : Loc nD τ sig) → Buf (Elt Ideal) ℓ) (ρ : Dev nD → PrngReg)

theorem W1_v2 (c : Dev nD) : W1 m ρ c main_v2 = extractStridedSlice S1x4096x8192 ![0, 0, 8256]
    (broadcastInDim S1x4096x16448 ![1, 2] bcast_S4096x16448_S1x4096x16448_1_2 (m (c, Proc.tc.devRef main_arg5) : FVec Ideal S4096x16448 .f32))
    slices_S1x4096x16448_S1x4096x8192_0_0_8256 := by
  after_reads_simp
  rfl

theorem W1_v4 (c : Dev nD) : W1 m ρ c main_v4 = broadcastInDim S1x2048x4096 ![1, 2] bcast_S2048x4096_S1x2048x4096_1_2
    (m (c, Proc.tc.devRef main_arg6) : FVec Ideal S2048x4096 .f32) := by
  after_reads_simp
  rfl

theorem W1_v6 (c : Dev nD) : W1 m ρ c main_v6 = broadcastInDim S1x2048x4096 ![1, 2] bcast_S2048x4096_S1x2048x4096_1_2
    (m (c, Proc.tc.devRef main_arg7) : FVec Ideal S2048x4096 .f32) := by
  after_reads_simp
  rfl

theorem W1_v8 (c : Dev nD) : W1 m ρ c main_v8 = broadcastInDim S1x4096x4096 ![1, 2] bcast_S4096x4096_S1x4096x4096_1_2
    (m (c, Proc.tc.devRef main_arg8) : FVec Ideal S4096x4096 .f32) := by
  after_reads_simp
  rfl

theorem W1_v10 (c : Dev nD) : W1 m ρ c main_v10 = shapeCast S16384x4096 (m (c, Proc.tc.devRef main_arg2) : FVec Ideal S1x16384x4096 .f32)
    shapeCasts_S1x16384x4096_S16384x4096 := by
  after_reads_simp
  rfl

theorem W1_v12 (c : Dev nD) : W1 m ρ c main_v12 = shapeCast S16384x2048 (m (c, Proc.tc.devRef main_arg3) : FVec Ideal S1x16384x2048 .f32)
    shapeCasts_S1x16384x2048_S16384x2048 := by
  after_reads_simp
  rfl

theorem W1_v14 (c : Dev nD) : W1 m ρ c main_v14 = shapeCast S16384x2048 (m (c, Proc.tc.devRef main_arg4) : FVec Ideal S1x16384x2048 .f32)
    shapeCasts_S1x16384x2048_S16384x2048 := by
  after_reads_simp
  rfl

theorem W3_v16 (c : Dev nD) : W3 m ρ c main_v16 = shapeCast S16384x4096 (W2 m ρ c main_arg0 : FVec Ideal S1x16384x4096 .f32)
    shapeCasts_S1x16384x4096_S16384x4096 := by
  after_reads_simp
  rfl

theorem W3_v18 (c : Dev nD) : W3 m ρ c main_v18 = shapeCast S1x4096 (shapeCast S4096 (W2 m ρ c main_arg1 : FVec Ideal S1x1x4096 .f32)
    shapeCasts_S1x1x4096_S4096) shapeCasts_S4096_S1x4096 := by
  after_reads_simp
  rfl

theorem W3_v8 (c : Dev nD) : W3 m ρ c main_v8 = W1 m ρ c main_v8 :=
  (W3_of m ρ c main_v8 (by decide)).trans (W2_of m ρ c main_v8 (by decide))

theorem W3_v15 (c : Dev nD) : W3 m ρ c main_v15 = (dat0 (V1 m ρ) c).arrAt 7 cfg0.N :=
  (W3_of m ρ c main_v15 (by decide)).trans (W2_arr m ρ c 7)

end Cert.KernelMergeIdeal.Gen

end
-- ==== Proof.MergeEq.lean ====
module

public import proofs.«01_k».proof.Proof.MergeHost
public import proofs.«01_k».proof.Proof.Gen.ReferenceMergeIdeal.Read

@[expose] public section
set_option maxRecDepth 16384
noncomputable section

/-! The merge's two calls against the reference, at a row and a column. -/

namespace Cert.KernelMergeIdeal.Gen
open Idealize.ShloMosaic Idealize.ShloMosaic.TcCoe Idealize.ShloMosaic.Tactic Idealize.SL.Sem Idealize.ShloMosaic.StableHlo
open Idealize.ShloMosaic.ValueIdx Cert.Tiles Cert.ReferenceMergeIdeal.Read

/-- The reference's merged branches at a row and a column. -/
theorem ref_merged (x2 : FVec Ideal S1x16384x4096 .f32) (x3 x4 : FVec Ideal S1x16384x2048 .f32) (x5 : FVec Ideal S4096x16448 .f32)
    (x6 x7 : FVec Ideal S2048x4096 .f32) (R : Fin 16384) (C : Fin 4096) (G M : Fin 16448) (hG : G.val = 8256 + C.val) (hM : M.val = 12352 + C.val) :
    (val_main_v25 (F := Ideal) x2 x3 x4 x5 x6 x7 : S1x16384x4096.Idx → EReal) (ix3 (0 : Fin 1) R C)
      = HAdd.hAdd (α := EReal) (β := EReal) (γ := EReal)
          (HMul.hMul (α := EReal) (β := EReal) (γ := EReal) (Ideal.logistic (∑ k : Fin 4096, x2 (ix3 (0 : Fin 1) R k) * x5 (ix2 k G)))
            (∑ k : Fin 2048, x3 (ix3 (0 : Fin 1) R k) * x6 (ix2 k C)))
          (HMul.hMul (α := EReal) (β := EReal) (γ := EReal) (Ideal.logistic (∑ k : Fin 4096, x2 (ix3 (0 : Fin 1) R k) * x5 (ix2 k M)))
            (∑ k : Fin 2048, x4 (ix3 (0 : Fin 1) R k) * x7 (ix2 k C))) := by
  have h7 : (val_main_v7 (F := Ideal) x2 x5 : S1x16384x4096.Idx → EReal) (ix3 (0 : Fin 1) R C) = ∑ k : Fin 4096, x2 (ix3 (0 : Fin 1) R k) * x5 (ix2 k G) := by
    rw [val_main_v7_apply, val_main_v0_apply]
    refine Finset.sum_congr rfl fun k _ => congr (congrArg HMul.hMul (congrArg x2 (eq_ix3 _))) (congrArg x5 ?_)
    refine (eq_ix2 _).trans (congrArg (fun G : Fin 16448 => (ix2 k G : S4096x16448.Idx)) (Fin.ext ?_))
    exact hG.symm
  have h8 : (val_main_v8 (F := Ideal) x2 x5 : S1x16384x4096.Idx → EReal) (ix3 (0 : Fin 1) R C) = ∑ k : Fin 4096, x2 (ix3 (0 : Fin 1) R k) * x5 (ix2 k M) := by
    rw [val_main_v8_apply, val_main_v0_apply]
    refine Finset.sum_congr rfl fun k _ => congr (congrArg HMul.hMul (congrArg x2 (eq_ix3 _))) (congrArg x5 ?_)
    refine (eq_ix2 _).trans (congrArg (fun G : Fin 16448 => (ix2 k G : S4096x16448.Idx)) (Fin.ext ?_))
    exact hM.symm
  have h14 : (val_main_v14 (F := Ideal) x2 x5 : S1x16384x4096.Idx → EReal) (ix3 (0 : Fin 1) R C)
      = Ideal.logistic ((val_main_v7 (F := Ideal) x2 x5 : S1x16384x4096.Idx → EReal) (ix3 (0 : Fin 1) R C)) := by
    rw [val_main_v14_apply, val_main_v12_apply, val_main_v13_apply, val_main_v11_apply]
    exact host_logistic _
  have h20 : (val_main_v20 (F := Ideal) x2 x5 : S1x16384x4096.Idx → EReal) (ix3 (0 : Fin 1) R C)
      = Ideal.logistic ((val_main_v8 (F := Ideal) x2 x5 : S1x16384x4096.Idx → EReal) (ix3 (0 : Fin 1) R C)) := by
    rw [val_main_v20_apply, val_main_v18_apply, val_main_v19_apply, val_main_v17_apply]
    exact host_logistic _
  have h21 : (val_main_v21 (F := Ideal) x3 x6 : S1x16384x4096.Idx → EReal) (ix3 (0 : Fin 1) R C)
      = ∑ k : Fin 2048, x3 (ix3 (0 : Fin 1) R k) * x6 (ix2 k C) := by
    rw [val_main_v21_apply]
    exact Finset.sum_congr rfl fun k _ => congr (congrArg HMul.hMul (congrArg x3 (eq_ix3 _))) (congrArg x6 (eq_ix2 _))
  have h23 : (val_main_v23 (F := Ideal) x4 x7 : S1x16384x4096.Idx → EReal) (ix3 (0 : Fin 1) R C)
      = ∑ k : Fin 2048, x4 (ix3 (0 : Fin 1) R k) * x7 (ix2 k C) := by
    rw [val_main_v23_apply]
    exact Finset.sum_congr rfl fun k _ => congr (congrArg HMul.hMul (congrArg x4 (eq_ix3 _))) (congrArg x7 (eq_ix2 _))
  rw [val_main_v25_apply, val_main_v22_apply, val_main_v24_apply]
  rw [h7] at h14
  rw [h8] at h20
  exact congr (congrArg HAdd.hAdd (congr (congrArg HMul.hMul h14) h21)) (congr (congrArg HMul.hMul h20) h23)

/-- The reference's result at a row and a column. -/
theorem ref_result (x0 : FVec Ideal S1x16384x4096 .f32) (x1 : FVec Ideal S1x1x4096 .f32) (x2 : FVec Ideal S1x16384x4096 .f32)
    (x3 x4 : FVec Ideal S1x16384x2048 .f32) (x5 : FVec Ideal S4096x16448 .f32)
    (x6 x7 : FVec Ideal S2048x4096 .f32) (x8 : FVec Ideal S4096x4096 .f32) (R : Fin 16384) (C : Fin 4096) :
    (val_main_v30 (F := Ideal) x0 x1 x2 x3 x4 x5 x6 x7 x8 : S16384x4096.Idx → EReal) (ix2 R C)
      = HAdd.hAdd (α := EReal) (β := EReal) (γ := EReal) (x0 (ix3 (0 : Fin 1) R C))
          (HMul.hMul (α := EReal) (β := EReal) (γ := EReal) (x1 (ix3 (0 : Fin 1) (0 : Fin 1) C))
            (∑ k : Fin 4096, (val_main_v25 (F := Ideal) x2 x3 x4 x5 x6 x7 : S1x16384x4096.Idx → EReal) (ix3 (0 : Fin 1) R k) * x8 (ix2 k C))) := by
  unfold val_main_v30
  refine (cast_drop 16384 4096 _ _ R C).trans ?_
  rw [val_main_v29_apply, val_main_v28_apply, val_main_v27_apply, val_main_v26_apply]
  refine congrArg (HAdd.hAdd (α := EReal) (β := EReal) (γ := EReal) _) (congr (congrArg HMul.hMul (congrArg x1 (eq_ix3 _))) ?_)
  exact Finset.sum_congr rfl fun k _ => congr (congrArg HMul.hMul (congrArg _ (eq_ix3 _))) (congrArg x8 (eq_ix2 _))

variable (m : (ℓ : Loc nD τ sig) → Buf (Elt Ideal) ℓ) (ρ : Dev nD → PrngReg)

/-- The first call's result is the reference's merged branches. -/
theorem merged_eq (c : Dev nD) (R : Fin 16384) (C : Fin 4096) :
    ((dat0 (V1 m ρ) c).arrAt 7 cfg0.N : S16384x4096.Idx → EReal) (ix2 R C)
      = (val_main_v25 (F := Ideal) (m (c, Proc.tc.devRef main_arg2)) (m (c, Proc.tc.devRef main_arg3)) (m (c, Proc.tc.devRef main_arg4))
          (m (c, Proc.tc.devRef main_arg5)) (m (c, Proc.tc.devRef main_arg6)) (m (c, Proc.tc.devRef main_arg7)) : S1x16384x4096.Idx → EReal)
          (ix3 (0 : Fin 1) R C) := by
  have hN : cfg0.N = 256 := by decide
  have hRl := R.isLt
  have hCl := C.isLt
  obtain ⟨t, ht⟩ : ∃ t : Fin cfg0.N, t.val = 32 * (C.val / 512) + R.val / 512 := ⟨⟨32 * (C.val / 512) + R.val / 512, by omega⟩, rfl⟩
  have hR : R.val = 512 * (t.val % 32) + (⟨R.val % 512, by omega⟩ : Fin 512).val := by show R.val = 512 * (t.val % 32) + R.val % 512; omega
  have hC : C.val = 512 * (t.val / 32) + (⟨C.val % 512, by omega⟩ : Fin 512).val := by show C.val = 512 * (t.val / 32) + C.val % 512; omega
  generalize (⟨R.val % 512, by omega⟩ : Fin 512) = r at hR
  generalize (⟨C.val % 512, by omega⟩ : Fin 512) = d at hC
  rw [r0_final (V1 m ρ) c t r d R hR C hC, out0_7_apply]
  have hh : ∀ k : Fin 4096, (iblk0 (V1 m ρ) c 0 t : S512x4096.Idx → EReal) (ix2 r k) = (m (c, Proc.tc.devRef main_arg2) : S1x16384x4096.Idx → EReal) (ix3 (0 : Fin 1) R k) :=
    fun k => (r0_blk0 (V1 m ρ) c t r k R hR).trans ((congrFun (W1_v10 m ρ c) (ix2 R k)).trans (cast_drop 16384 4096 _ _ R k))
  have hn : ∀ k : Fin 2048, (iblk0 (V1 m ρ) c 1 t : S512x2048.Idx → EReal) (ix2 r k) = (m (c, Proc.tc.devRef main_arg3) : S1x16384x2048.Idx → EReal) (ix3 (0 : Fin 1) R k) :=
    fun k => (r0_blk1 (V1 m ρ) c t r k R hR).trans ((congrFun (W1_v12 m ρ c) (ix2 R k)).trans (cast_drop 16384 2048 _ _ R k))
  have hl : ∀ k : Fin 2048, (iblk0 (V1 m ρ) c 2 t : S512x2048.Idx → EReal) (ix2 r k) = (m (c, Proc.tc.devRef main_arg4) : S1x16384x2048.Idx → EReal) (ix3 (0 : Fin 1) R k) :=
    fun k => (r0_blk2 (V1 m ρ) c t r k R hR).trans ((congrFun (W1_v14 m ρ c) (ix2 R k)).trans (cast_drop 16384 2048 _ _ R k))
  have hg : ∀ (k : Fin 4096) (D : Fin 8192) (G : Fin 16448), G.val = 8256 + D.val → (V1 m ρ c main_v2 : S1x4096x8192.Idx → EReal) (ix3 (0 : Fin 1) k D)
      = (m (c, Proc.tc.devRef main_arg5) : S4096x16448.Idx → EReal) (ix2 k G) := fun k D G hG => by
    refine (congrFun (W1_v2 m ρ c) (ix3 (0 : Fin 1) k D)).trans ?_
    refine (extractStridedSlice_apply (![0, 0, 8256] : Fin 3 → Nat) _ slices_S1x4096x16448_S1x4096x8192_0_0_8256 (ix3 (0 : Fin 1) k D) (ix3 (0 : Fin 1) k G) fun a => ?_).trans
      (bcast_lead 4096 16448 _ _ (by decide) (by decide) (0 : Fin 1) k G)
    match a with
    | ⟨0, _⟩ => rfl
    | ⟨1, _⟩ => show k.val = 0 + k.val; omega
    | ⟨2, _⟩ => show G.val = 8256 + D.val; exact hG
  have h5 : ∀ k : Fin 2048, (iblk0 (V1 m ρ) c 5 t : S1x2048x512.Idx → EReal) (ix3 (0 : Fin 1) k d) = (m (c, Proc.tc.devRef main_arg6) : S2048x4096.Idx → EReal) (ix2 k C) :=
    fun k => (r0_blk5 (V1 m ρ) c t (0 : Fin 1) k d C hC).trans ((congrFun (W1_v4 m ρ c) (ix3 (0 : Fin 1) k C)).trans
      (bcast_lead 2048 4096 _ _ (by decide) (by decide) (0 : Fin 1) k C))
  have h6 : ∀ k : Fin 2048, (iblk0 (V1 m ρ) c 6 t : S1x2048x512.Idx → EReal) (ix3 (0 : Fin 1) k d) = (m (c, Proc.tc.devRef main_arg7) : S2048x4096.Idx → EReal) (ix2 k C) :=
    fun k => (r0_blk6 (V1 m ρ) c t (0 : Fin 1) k d C hC).trans ((congrFun (W1_v6 m ρ c) (ix3 (0 : Fin 1) k C)).trans
      (bcast_lead 2048 4096 _ _ (by decide) (by decide) (0 : Fin 1) k C))
  rw [ref_merged _ _ _ _ _ _ R C ⟨8256 + C.val, by omega⟩ ⟨12352 + C.val, by omega⟩ rfl rfl]
  have h3 : ∀ k : Fin 4096, (iblk0 (V1 m ρ) c 3 t : S1x4096x512.Idx → EReal) (ix3 (0 : Fin 1) k d)
      = (m (c, Proc.tc.devRef main_arg5) : S4096x16448.Idx → EReal) (ix2 k (⟨8256 + C.val, by omega⟩ : Fin 16448)) :=
    fun k => (r0_blk3 (V1 m ρ) c t (0 : Fin 1) k d ⟨C.val, by omega⟩ hC).trans (hg k _ _ rfl)
  have h4 : ∀ k : Fin 4096, (iblk0 (V1 m ρ) c 4 t : S1x4096x512.Idx → EReal) (ix3 (0 : Fin 1) k d)
      = (m (c, Proc.tc.devRef main_arg5) : S4096x16448.Idx → EReal) (ix2 k (⟨12352 + C.val, by omega⟩ : Fin 16448)) :=
    fun k => (r0_blk4 (V1 m ρ) c t (0 : Fin 1) k d ⟨4096 + C.val, by omega⟩ (by show 4096 + C.val = _; omega)).trans
      (hg k _ _ (by show 12352 + C.val = 8256 + (4096 + C.val); omega))
  exact congr (congrArg HAdd.hAdd
      (congr (congrArg HMul.hMul (congrArg Ideal.logistic (Finset.sum_congr rfl fun k _ => congr (congrArg HMul.hMul (hh k)) (h3 k))))
        (Finset.sum_congr rfl fun k _ => congr (congrArg HMul.hMul (hn k)) (h5 k))))
    (congr (congrArg HMul.hMul (congrArg Ideal.logistic (Finset.sum_congr rfl fun k _ => congr (congrArg HMul.hMul (hh k)) (h4 k))))
      (Finset.sum_congr rfl fun k _ => congr (congrArg HMul.hMul (hl k)) (h6 k)))

/-- The second call's result is the reference's. -/
theorem result_at (c : Dev nD) (R : Fin 16384) (C : Fin 4096) : ((dat1 (V3 m ρ) c).arrAt 4 cfg1.N : S16384x4096.Idx → EReal) (ix2 R C)
      = (val_main_v30 (F := Ideal) (m (c, Proc.tc.devRef main_arg0)) (m (c, Proc.tc.devRef main_arg1)) (m (c, Proc.tc.devRef main_arg2))
          (m (c, Proc.tc.devRef main_arg3)) (m (c, Proc.tc.devRef main_arg4))
          (m (c, Proc.tc.devRef main_arg5)) (m (c, Proc.tc.devRef main_arg6)) (m (c, Proc.tc.devRef main_arg7)) (m (c, Proc.tc.devRef main_arg8)) : S16384x4096.Idx → EReal) (ix2 R C) := by
  have hN : cfg1.N = 128 := by decide
  have hRl := R.isLt
  have hCl := C.isLt
  obtain ⟨t, ht⟩ : ∃ t : Fin cfg1.N, t.val = 8 * (R.val / 1024) + C.val / 512 := ⟨⟨8 * (R.val / 1024) + C.val / 512, by omega⟩, rfl⟩
  have hR : R.val = 1024 * (t.val / 8) + (⟨R.val % 1024, by omega⟩ : Fin 1024).val := by show R.val = 1024 * (t.val / 8) + R.val % 1024; omega
  have hC : C.val = 512 * (t.val % 8) + (⟨C.val % 512, by omega⟩ : Fin 512).val := by show C.val = 512 * (t.val % 8) + C.val % 512; omega
  generalize (⟨R.val % 1024, by omega⟩ : Fin 1024) = r at hR
  generalize (⟨C.val % 512, by omega⟩ : Fin 512) = d at hC
  rw [r1_final (V3 m ρ) c t r d R hR C hC, out1_4_apply, ref_result]
  have h0 : ∀ k : Fin 4096, (iblk1 (V3 m ρ) c 0 t : S1024x4096.Idx → EReal) (ix2 r k) = _ :=
    fun k => (r1_blk0 (V3 m ρ) c t r k R hR).trans ((congrFun (W3_v15 m ρ c) (ix2 R k)).trans (merged_eq m ρ c R k))
  have h1 : ∀ k : Fin 4096, (iblk1 (V3 m ρ) c 1 t : S1x4096x512.Idx → EReal) (ix3 (0 : Fin 1) k d) = (m (c, Proc.tc.devRef main_arg8) : S4096x4096.Idx → EReal) (ix2 k C) :=
    fun k => (r1_blk1 (V3 m ρ) c t (0 : Fin 1) k d C hC).trans ((congrFun ((W3_v8 m ρ c).trans (W1_v8 m ρ c)) (ix3 (0 : Fin 1) k C)).trans
      (bcast_lead 4096 4096 _ _ (by decide) (by decide) (0 : Fin 1) k C))
  have h2 : (iblk1 (V3 m ρ) c 2 t : S1024x512.Idx → EReal) (ix2 r d) = (m (c, Proc.tc.devRef main_arg0) : S1x16384x4096.Idx → EReal) (ix3 (0 : Fin 1) R C) := by
    refine (r1_blk2 (V3 m ρ) c t r d R hR C hC).trans ((congrFun (W3_v16 m ρ c) (ix2 R C)).trans ((cast_drop 16384 4096 _ _ R C).trans ?_))
    exact congrFun (W2_args m ρ c main_arg0 (by decide)) _
  have h3 : (iblk1 (V3 m ρ) c 3 t : S1x512.Idx → EReal) (ix2 (0 : Fin 1) d) = (m (c, Proc.tc.devRef main_arg1) : S1x1x4096.Idx → EReal) (ix3 (0 : Fin 1) (0 : Fin 1) C) := by
    refine (r1_blk3 (V3 m ρ) c t (0 : Fin 1) d C hC).trans ((congrFun (W3_v18 m ρ c) (ix2 (0 : Fin 1) C)).trans ?_)
    refine (shapeCast_apply _ _ (ix2 (0 : Fin 1) C) (ix1 C) ?_).trans ((shapeCast_apply _ _ (ix1 C) (ix3 (0 : Fin 1) (0 : Fin 1) C) ?_).trans ?_)
    · rw [Shape.rowMajor_val_two, Shape.rowMajor_val_one]
      show C.val = 0 * 4096 + C.val
      omega
    · rw [Shape.rowMajor_val_one, Shape.rowMajor_val_three]
      show (0 * 1 + 0) * 4096 + C.val = C.val
      omega
    exact congrFun (W2_args m ρ c main_arg1 (by decide)) _
  exact congr (congrArg HAdd.hAdd h2) (congr (congrArg HMul.hMul h3) (Finset.sum_congr rfl fun k _ => congr (congrArg HMul.hMul (h0 k)) (h1 k)))

/-- The same as arrays. -/
theorem result_eq (c : Dev nD) : (dat1 (V3 m ρ) c).arrAt 4 cfg1.N
      = val_main_v30 (F := Ideal) (m (c, Proc.tc.devRef main_arg0)) (m (c, Proc.tc.devRef main_arg1)) (m (c, Proc.tc.devRef main_arg2))
          (m (c, Proc.tc.devRef main_arg3)) (m (c, Proc.tc.devRef main_arg4))
          (m (c, Proc.tc.devRef main_arg5)) (m (c, Proc.tc.devRef main_arg6)) (m (c, Proc.tc.devRef main_arg7)) (m (c, Proc.tc.devRef main_arg8)) :=
  same2 _ _ (result_at m ρ c)

end Cert.KernelMergeIdeal.Gen

end
-- ==== Proof.MergeClaim.lean ====
module

public import proofs.«01_k».proof.Proof.MergeFrame
public import proofs.«01_k».proof.Proof.MergeRun
public import proofs.«01_k».proof.Proof.MergeEq

@[expose] public section
set_option maxRecDepth 16384
noncomputable section

/-! The branch merge with the output projection computes its reference. -/

namespace Cert.Proof.Merge
open Idealize.ShloMosaic Idealize.ShloMosaic.TcCoe Idealize.SL.Sem
open Cert.KernelMergeIdeal Cert.KernelMergeIdeal.Gen

/-- The kernel's result is the reference's over the extended reals. -/
theorem algebraic : Cert.algebraic_KernelMergeIdeal_ReferenceMergeIdeal := by
  intro m ρ m' ρ' _ hagree
  refine ⟨fun c => (dat1 (V3 m ρ) c).arrAt 4 cfg1.N, ?_, ?_⟩
  · exact (θ_run Cert.KernelMergeIdeal.defs _ _).mono (fun r h c => ⟨(h c main_v19 (by decide)).trans (W4_arr m ρ c 4),
      (h c main_arg0 (by decide)).trans (W4_main_arg0 m ρ c),
      (h c main_arg1 (by decide)).trans (W4_main_arg1 m ρ c),
      (h c main_arg2 (by decide)).trans (W4_main_arg2 m ρ c),
      (h c main_arg3 (by decide)).trans (W4_main_arg3 m ρ c),
      (h c main_arg4 (by decide)).trans (W4_main_arg4 m ρ c),
      (h c main_arg5 (by decide)).trans (W4_main_arg5 m ρ c),
      (h c main_arg6 (by decide)).trans (W4_main_arg6 m ρ c),
      (h c main_arg7 (by decide)).trans (W4_main_arg7 m ρ c),
      (h c main_arg8 (by decide)).trans (W4_main_arg8 m ρ c)⟩)
      (run_all (F := Ideal) m ρ)
  · refine (θ_run Cert.ReferenceMergeIdeal.defs _ _).mono (fun r h c => ⟨(h c).1.trans ?_, (h c).2⟩) (Cert.ReferenceMergeIdeal.Value.run (F := Ideal) m' ρ')
    rw [Cert.ReferenceMergeIdeal.Read.val_main_v30_eq]
    obtain ⟨e0, e1, e2, e3, e4, e5, e6, e7, e8⟩ := hagree c
    rw [e0, e1, e2, e3, e4, e5, e6, e7, e8]
    exact (result_eq m ρ c).symm

end Cert.Proof.Merge

end
-- ==== Proof.FfnFrame.lean ====
module

public import proofs.«01_k».proof.Defs
public import proofs.«01_k».proof.Proof.Gen.KernelFfn.Frame
public import proofs.«01_k».proof.Proof.Gen.KernelFfnIdeal.Frame
public import proofs.«01_k».proof.Proof.Gen.ReferenceFfnIdeal.Run
public import proofs.«01_k».proof.Proof.Gen.ReferenceFfnIdeal
public import Idealize.ShloMosaic.Lib.Quiescent

@[expose] public section
set_option maxRecDepth 16384
noncomputable section

/-! That the channel mixer runs. -/

namespace Cert.Proof.Ffn
open Idealize.ShloMosaic Idealize.ShloMosaic.TcCoe Idealize.SL.Sem

/-- The kernel as printed: it runs, leaves its arguments, and ends with every counter at zero. -/
theorem frame_kernel : Cert.quiescent_KernelFfn := fun m ρ _ => Cert.KernelFfn.Gen.frame (F := Bits) m ρ

/-- The same of its idealization. -/
theorem frame_ideal : Cert.quiescent_KernelFfnIdeal := fun m ρ _ => Cert.KernelFfnIdeal.Gen.frame (F := Ideal) m ρ

/-- The reference runs, leaves its arguments, and has no counter. -/
theorem frame_ref : Cert.quiescent_ReferenceFfnIdeal := fun m ρ _ =>
  (θ_run Cert.ReferenceFfnIdeal.defs _ _).mono (fun r h => ⟨fun c => (h c).2, sem_eq_zero_of_no_sems (by decide) r.2⟩)
    (Cert.ReferenceFfnIdeal.Value.run (F := Ideal) m ρ)

/-- The two programs have one text. -/
theorem preserves : Cert.preserves_KernelFfn_KernelFfnIdeal := trivial

end Cert.Proof.Ffn

end
-- ==== Proof.FfnRun.lean ====
module

public import proofs.«01_k».proof.Proof.Gen.KernelFfnIdeal.Frame

@[expose] public section
set_option maxRecDepth 16384
noncomputable section

/-! The feed-forward part's three calls run, and what every array ends with. -/

namespace Cert.KernelFfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each array at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W7 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c b hb => h c _ (mem_uc b hb))

end Cert.KernelFfnIdeal.Gen

end
-- ==== Proof.FfnBlocks.lean ====
module

public import proofs.«01_k».proof.Proof.Gen.KernelFfnIdeal.Frame
public import proofs.«01_k».proof.Proof.Tiles
public import Idealize.ShloMosaic.Lib.KernelVsHost
public import Idealize.ShloMosaic.Lib.Pipeline.ValueKit.Tiles

@[expose] public section
set_option maxRecDepth 16384
noncomputable section

/-! The channel mixer's three calls: their windows read at coordinates, and their bodies' blocks. -/

namespace Cert.KernelFfnIdeal.Gen
open Idealize.ShloMosaic Idealize.ShloMosaic.TcCoe Idealize.ShloMosaic.Tactic Idealize.SL.Sem
open Idealize.ShloMosaic.Pipeline (Dat)
open Idealize.ShloMosaic.ValueIdx Cert.Tiles

theorem tr0_0 : ∀ t : Fin cfg0.N, cc0_transform_0 (grid0.coords t) 0 = 0 ∧ cc0_transform_0 (grid0.coords t) 1 = 0 := by decide +kernel
theorem tr0_1 : ∀ t : Fin cfg0.N, cc0_transform_1 (grid0.coords t) 0 = 0 ∧ cc0_transform_1 (grid0.coords t) 1 = 0 ∧ cc0_transform_1 (grid0.coords t) 2 = t.val := by decide +kernel
theorem tr0_2 : ∀ t : Fin cfg0.N, cc0_transform_2 (grid0.coords t) 0 = 0 ∧ cc0_transform_2 (grid0.coords t) 1 = t.val := by decide +kernel
theorem tr1_0 : ∀ t : Fin cfg1.N, cc1_transform_0 (grid1.coords t) 0 = t.val / 12 ∧ cc1_transform_0 (grid1.coords t) 1 = 0 := by decide +kernel
theorem tr1_1 : ∀ t : Fin cfg1.N, cc1_transform_1 (grid1.coords t) 0 = 0 ∧ cc1_transform_1 (grid1.coords t) 1 = 0 ∧ cc1_transform_1 (grid1.coords t) 2 = t.val % 12 := by decide +kernel
theorem tr1_2 : ∀ t : Fin cfg1.N, cc1_transform_2 (grid1.coords t) 0 = 0 ∧ cc1_transform_2 (grid1.coords t) 1 = 0 ∧ cc1_transform_2 (grid1.coords t) 2 = 12 + t.val % 12 := by decide +kernel
theorem tr1_3 : ∀ t : Fin cfg1.N, cc1_transform_3 (grid1.coords t) 0 = t.val / 12 ∧ cc1_transform_3 (grid1.coords t) 1 = 0 ∧ cc1_transform_3 (grid1.coords t) 2 = t.val % 12 := by decide +kernel
theorem tr1_4 : ∀ t : Fin cfg1.N, cc1_transform_4 (grid1.coords t) 0 = 0 ∧ cc1_transform_4 (grid1.coords t) 1 = t.val % 12 := by decide +kernel
theorem tr1_5 : ∀ t : Fin cfg1.N, cc1_transform_5 (grid1.coords t) 0 = 0 ∧ cc1_transform_5 (grid1.coords t) 1 = t.val % 12 := by decide +kernel
theorem tr1_6 : ∀ t : Fin cfg1.N, cc1_transform_6 (grid1.coords t) 0 = t.val / 12 ∧ cc1_transform_6 (grid1.coords t) 1 = t.val % 12 := by decide +kernel
theorem tr2_0 : ∀ t : Fin cfg2.N, cc2_transform_0 (grid2.coords t) 0 = t.val / 8 ∧ cc2_transform_0 (grid2.coords t) 1 = 0 := by decide +kernel
theorem tr2_1 : ∀ t : Fin cfg2.N, cc2_transform_1 (grid2.coords t) 0 = 0 ∧ cc2_transform_1 (grid2.coords t) 1 = 0 ∧ cc2_transform_1 (grid2.coords t) 2 = t.val % 8 := by decide +kernel
theorem tr2_2 : ∀ t : Fin cfg2.N, cc2_transform_2 (grid2.coords t) 0 = t.val / 8 ∧ cc2_transform_2 (grid2.coords t) 1 = t.val % 8 := by decide +kernel
theorem tr2_3 : ∀ t : Fin cfg2.N, cc2_transform_3 (grid2.coords t) 0 = 0 ∧ cc2_transform_3 (grid2.coords t) 1 = t.val % 8 := by decide +kernel
theorem tr2_4 : ∀ t : Fin cfg2.N, cc2_transform_4 (grid2.coords t) 0 = t.val / 8 ∧ cc2_transform_4 (grid2.coords t) 1 = t.val % 8 := by decide +kernel

variable (V : (c : Dev nD) → (b : Ref sig .tc) → Buf (Elt Ideal) ((c : Thread nD τ).loc b))

theorem r0_blk0 (c : Dev nD) (t : Fin cfg0.N) (a0 : Fin 32) (a1 : Fin 4096) :
    (iblk0 V c 0 t : S32x4096.Idx → EReal) (ix2 a0 a1) = (V c main_v16 : S32x4096.Idx → EReal) (ix2 a0 a1) := by
  show (V c main_v16 : S32x4096.Idx → EReal) (((cfg0.win 0).rect t).emb (ix2 a0 a1)) = _
  congr 1
  funext a
  refine Fin.ext ((Pipeline.Window.rect_emb_val_off (cfg0.win 0) t (ix2 a0 a1) a).trans ?_)
  match a with
  | ⟨0, _⟩ => show cc0_transform_0 (grid0.coords t) 0 * 32 + a0.val = a0.val; rw [(tr0_0 t).1]; omega
  | ⟨1, _⟩ => show cc0_transform_0 (grid0.coords t) 1 * 4096 + a1.val = a1.val; rw [(tr0_0 t).2]; omega

theorem r0_blk1 (c : Dev nD) (t : Fin cfg0.N) (a0 : Fin 1) (a1 : Fin 4096) (a2 : Fin 1024) (A2 : Fin 12288) (h2 : A2.val = 1024 * (t.val) + a2.val) :
    (iblk0 V c 1 t : S1x4096x1024.Idx → EReal) (ix3 a0 a1 a2) = (V c main_v1 : S1x4096x12288.Idx → EReal) (ix3 a0 a1 A2) := by
  show (V c main_v1 : S1x4096x12288.Idx → EReal) (((cfg0.win 1).rect t).emb (ix3 a0 a1 a2)) = _
  congr 1
  funext a
  refine Fin.ext ((Pipeline.Window.rect_emb_val_off (cfg0.win 1) t (ix3 a0 a1 a2) a).trans ?_)
  match a with
  | ⟨0, _⟩ => show cc0_transform_1 (grid0.coords t) 0 * 1 + a0.val = a0.val; rw [(tr0_1 t).1]; omega
  | ⟨1, _⟩ => show cc0_transform_1 (grid0.coords t) 1 * 4096 + a1.val = a1.val; rw [(tr0_1 t).2.1]; omega
  | ⟨2, _⟩ => show cc0_transform_1 (grid0.coords t) 2 * 1024 + a2.val = A2.val; rw [(tr0_1 t).2.2]; omega

theorem r0_emb (t : Fin cfg0.N) (a0 : Fin 32) (a1 : Fin 1024) (A1 : Fin 6144) (h1 : A1.val = 1024 * (t.val) + a1.val) :
    ((cfg0.win 2).rect t).emb (ix2 a0 a1) = (ix2 a0 A1 : S32x6144.Idx) := by
  funext a
  refine Fin.ext ((Pipeline.Window.rect_emb_val_off (cfg0.win 2) t (ix2 a0 a1) a).trans ?_)
  match a with
  | ⟨0, _⟩ => show cc0_transform_2 (grid0.coords t) 0 * 32 + a0.val = a0.val; rw [(tr0_2 t).1]; omega
  | ⟨1, _⟩ => show cc0_transform_2 (grid0.coords t) 1 * 1024 + a1.val = A1.val; rw [(tr0_2 t).2]; omega

theorem r0_inj : ∀ t t' : Fin cfg0.N, (cfg0.win 2).index t = (cfg0.win 2).index t' → t = t' := by
  intro t t' h
  have e0 : cc0_transform_2 (grid0.coords t) 0 = cc0_transform_2 (grid0.coords t') 0 := congrFun h 0
  rw [(tr0_2 t).1, (tr0_2 t').1] at e0
  have e1 : cc0_transform_2 (grid0.coords t) 1 = cc0_transform_2 (grid0.coords t') 1 := congrFun h 1
  rw [(tr0_2 t).2, (tr0_2 t').2] at e1
  exact Fin.ext (by omega)

theorem r0_disjoint (t t' : Fin cfg0.N) (_ : (cfg0.win 2).flush t = true) (_ : (cfg0.win 2).flush t' = true) (h : t ≠ t') :
    Disjoint ((cfg0.win 2).blk t).view.set ((cfg0.win 2).blk t').view.set :=
  (cfg0.win 2).disjoint_blk fun e => h (r0_inj t t' e)

/-- The call's result after the run, at a row and a column: what their point left in its block. -/
theorem r0_final (c : Dev nD) (t : Fin cfg0.N) (a0 : Fin 32) (a1 : Fin 1024) (A1 : Fin 6144) (h1 : A1.val = 1024 * (t.val) + a1.val) :
    ((dat0 V c).arrAt 2 cfg0.N : S32x6144.Idx → EReal) (ix2 a0 A1)
      = out0_2 (iblk0 V c 0 t) (iblk0 V c 1 t) (ix2 a0 a1) := by
  have h := (dat0 V c).arrAt_emb_eq_flushed 2 r0_disjoint t (flush0_2 t) (ix2 a0 a1 : S32x1024.Idx)
  have e : ((cfg0.win 2).blk t).view.emb (ix2 a0 a1 : S32x1024.Idx) = (ix2 a0 A1 : S32x6144.Idx) := r0_emb t a0 a1 A1 h1
  rw [e] at h
  refine h.trans ?_
  show (cfg0.win 2).cut (grid0.coords t) ((dat0 V c).after 2 t) (ix2 a0 a1 : S32x1024.Idx) = _
  rw [after0_2]
  rfl

theorem r1_blk0 (c : Dev nD) (t : Fin cfg1.N) (a0 : Fin 1024) (a1 : Fin 4096) (A0 : Fin 16384) (h0 : A0.val = 1024 * (t.val / 12) + a0.val) :
    (iblk1 V c 0 t : S1024x4096.Idx → EReal) (ix2 a0 a1) = (V c main_v6 : S16384x4096.Idx → EReal) (ix2 A0 a1) := by
  show (V c main_v6 : S16384x4096.Idx → EReal) (((cfg1.win 0).rect t).emb (ix2 a0 a1)) = _
  congr 1
  funext a
  refine Fin.ext ((Pipeline.Window.rect_emb_val_off (cfg1.win 0) t (ix2 a0 a1) a).trans ?_)
  match a with
  | ⟨0, _⟩ => show cc1_transform_0 (grid1.coords t) 0 * 1024 + a0.val = A0.val; rw [(tr1_0 t).1]; omega
  | ⟨1, _⟩ => show cc1_transform_0 (grid1.coords t) 1 * 4096 + a1.val = a1.val; rw [(tr1_0 t).2]; omega

theorem r1_blk1 (c : Dev nD) (t : Fin cfg1.N) (a0 : Fin 1) (a1 : Fin 4096) (a2 : Fin 512) (A2 : Fin 12288) (h2 : A2.val = 512 * (t.val % 12) + a2.val) :
    (iblk1 V c 1 t : S1x4096x512.Idx → EReal) (ix3 a0 a1 a2) = (V c main_v1 : S1x4096x12288.Idx → EReal) (ix3 a0 a1 A2) := by
  show (V c main_v1 : S1x4096x12288.Idx → EReal) (((cfg1.win 1).rect t).emb (ix3 a0 a1 a2)) = _
  congr 1
  funext a
  refine Fin.ext ((Pipeline.Window.rect_emb_val_off (cfg1.win 1) t (ix3 a0 a1 a2) a).trans ?_)
  match a with
  | ⟨0, _⟩ => show cc1_transform_1 (grid1.coords t) 0 * 1 + a0.val = a0.val; rw [(tr1_1 t).1]; omega
  | ⟨1, _⟩ => show cc1_transform_1 (grid1.coords t) 1 * 4096 + a1.val = a1.val; rw [(tr1_1 t).2.1]; omega
  | ⟨2, _⟩ => show cc1_transform_1 (grid1.coords t) 2 * 512 + a2.val = A2.val; rw [(tr1_1 t).2.2]; omega

theorem r1_blk2 (c : Dev nD) (t : Fin cfg1.N) (a0 : Fin 1) (a1 : Fin 4096) (a2 : Fin 512) (A2 : Fin 12288) (h2 : A2.val = 512 * (12 + t.val % 12) + a2.val) :
    (iblk1 V c 2 t : S1x4096x512.Idx → EReal) (ix3 a0 a1 a2) = (V c main_v1 : S1x4096x12288.Idx → EReal) (ix3 a0 a1 A2) := by
  show (V c main_v1 : S1x4096x12288.Idx → EReal) (((cfg1.win 2).rect t).emb (ix3 a0 a1 a2)) = _
  congr 1
  funext a
  refine Fin.ext ((Pipeline.Window.rect_emb_val_off (cfg1.win 2) t (ix3 a0 a1 a2) a).trans ?_)
  match a with
  | ⟨0, _⟩ => show cc1_transform_2 (grid1.coords t) 0 * 1 + a0.val = a0.val; rw [(tr1_2 t).1]; omega
  | ⟨1, _⟩ => show cc1_transform_2 (grid1.coords t) 1 * 4096 + a1.val = a1.val; rw [(tr1_2 t).2.1]; omega
  | ⟨2, _⟩ => show cc1_transform_2 (grid1.coords t) 2 * 512 + a2.val = A2.val; rw [(tr1_2 t).2.2]; omega

theorem r1_blk3 (c : Dev nD) (t : Fin cfg1.N) (a0 : Fin 1) (a1 : Fin 2) (a2 : Fin 512) (A0 : Fin 16) (h0 : A0.val = t.val / 12) (A2 : Fin 6144) (h2 : A2.val = 512 * (t.val % 12) + a2.val) :
    (iblk1 V c 3 t : S1x2x512.Idx → EReal) (ix3 a0 a1 a2) = (V c main_v28 : S16x2x6144.Idx → EReal) (ix3 A0 a1 A2) := by
  show (V c main_v28 : S16x2x6144.Idx → EReal) (((cfg1.win 3).rect t).emb (ix3 a0 a1 a2)) = _
  congr 1
  funext a
  refine Fin.ext ((Pipeline.Window.rect_emb_val_off (cfg1.win 3) t (ix3 a0 a1 a2) a).trans ?_)
  match a with
  | ⟨0, _⟩ => show cc1_transform_3 (grid1.coords t) 0 * 1 + a0.val = A0.val; rw [(tr1_3 t).1]; omega
  | ⟨1, _⟩ => show cc1_transform_3 (grid1.coords t) 1 * 2 + a1.val = a1.val; rw [(tr1_3 t).2.1]; omega
  | ⟨2, _⟩ => show cc1_transform_3 (grid1.coords t) 2 * 512 + a2.val = A2.val; rw [(tr1_3 t).2.2]; omega

theorem r1_blk4 (c : Dev nD) (t : Fin cfg1.N) (a0 : Fin 3) (a1 : Fin 512) (A1 : Fin 6144) (h1 : A1.val = 512 * (t.val % 12) + a1.val) :
    (iblk1 V c 4 t : S3x512.Idx → EReal) (ix2 a0 a1) = (V c main_arg4 : S3x6144.Idx → EReal) (ix2 a0 A1) := by
  show (V c main_arg4 : S3x6144.Idx → EReal) (((cfg1.win 4).rect t).emb (ix2 a0 a1)) = _
  congr 1
  funext a
  refine Fin.ext ((Pipeline.Window.rect_emb_val_off (cfg1.win 4) t (ix2 a0 a1) a).trans ?_)
  match a with
  | ⟨0, _⟩ => show cc1_transform_4 (grid1.coords t) 0 * 3 + a0.val = a0.val; rw [(tr1_4 t).1]; omega
  | ⟨1, _⟩ => show cc1_transform_4 (grid1.coords t) 1 * 512 + a1.val = A1.val; rw [(tr1_4 t).2]; omega

theorem r1_blk5 (c : Dev nD) (t : Fin cfg1.N) (a0 : Fin 1) (a1 : Fin 512) (A1 : Fin 6144) (h1 : A1.val = 512 * (t.val % 12) + a1.val) :
    (iblk1 V c 5 t : S1x512.Idx → EReal) (ix2 a0 a1) = (V c main_v4 : S1x6144.Idx → EReal) (ix2 a0 A1) := by
  show (V c main_v4 : S1x6144.Idx → EReal) (((cfg1.win 5).rect t).emb (ix2 a0 a1)) = _
  congr 1
  funext a
  refine Fin.ext ((Pipeline.Window.rect_emb_val_off (cfg1.win 5) t (ix2 a0 a1) a).trans ?_)
  match a with
  | ⟨0, _⟩ => show cc1_transform_5 (grid1.coords t) 0 * 1 + a0.val = a0.val; rw [(tr1_5 t).1]; omega
  | ⟨1, _⟩ => show cc1_transform_5 (grid1.coords t) 1 * 512 + a1.val = A1.val; rw [(tr1_5 t).2]; omega

theorem r1_emb (t : Fin cfg1.N) (a0 : Fin 1024) (a1 : Fin 512) (A0 : Fin 16384) (h0 : A0.val = 1024 * (t.val / 12) + a0.val) (A1 : Fin 6144) (h1 : A1.val = 512 * (t.val % 12) + a1.val) :
    ((cfg1.win 6).rect t).emb (ix2 a0 a1) = (ix2 A0 A1 : S16384x6144.Idx) := by
  funext a
  refine Fin.ext ((Pipeline.Window.rect_emb_val_off (cfg1.win 6) t (ix2 a0 a1) a).trans ?_)
  match a with
  | ⟨0, _⟩ => show cc1_transform_6 (grid1.coords t) 0 * 1024 + a0.val = A0.val; rw [(tr1_6 t).1]; omega
  | ⟨1, _⟩ => show cc1_transform_6 (grid1.coords t) 1 * 512 + a1.val = A1.val; rw [(tr1_6 t).2]; omega

theorem r1_inj : ∀ t t' : Fin cfg1.N, (cfg1.win 6).index t = (cfg1.win 6).index t' → t = t' := by
  intro t t' h
  have e0 : cc1_transform_6 (grid1.coords t) 0 = cc1_transform_6 (grid1.coords t') 0 := congrFun h 0
  rw [(tr1_6 t).1, (tr1_6 t').1] at e0
  have e1 : cc1_transform_6 (grid1.coords t) 1 = cc1_transform_6 (grid1.coords t') 1 := congrFun h 1
  rw [(tr1_6 t).2, (tr1_6 t').2] at e1
  exact Fin.ext (by omega)

theorem r1_disjoint (t t' : Fin cfg1.N) (_ : (cfg1.win 6).flush t = true) (_ : (cfg1.win 6).flush t' = true) (h : t ≠ t') :
    Disjoint ((cfg1.win 6).blk t).view.set ((cfg1.win 6).blk t').view.set :=
  (cfg1.win 6).disjoint_blk fun e => h (r1_inj t t' e)

/-- The call's result after the run, at a row and a column: what their point left in its block. -/
theorem r1_final (c : Dev nD) (t : Fin cfg1.N) (a0 : Fin 1024) (a1 : Fin 512) (A0 : Fin 16384) (h0 : A0.val = 1024 * (t.val / 12) + a0.val) (A1 : Fin 6144) (h1 : A1.val = 512 * (t.val % 12) + a1.val) :
    ((dat1 V c).arrAt 6 cfg1.N : S16384x6144.Idx → EReal) (ix2 A0 A1)
      = out1_6 (iblk1 V c 0 t) (iblk1 V c 1 t) (iblk1 V c 2 t) (iblk1 V c 3 t) (iblk1 V c 4 t) (iblk1 V c 5 t) (ix2 a0 a1) := by
  have h := (dat1 V c).arrAt_emb_eq_flushed 6 r1_disjoint t (flush1_6 t) (ix2 a0 a1 : S1024x512.Idx)
  have e : ((cfg1.win 6).blk t).view.emb (ix2 a0 a1 : S1024x512.Idx) = (ix2 A0 A1 : S16384x6144.Idx) := r1_emb t a0 a1 A0 h0 A1 h1
  rw [e] at h
  refine h.trans ?_
  show (cfg1.win 6).cut (grid1.coords t) ((dat1 V c).after 6 t) (ix2 a0 a1 : S1024x512.Idx) = _
  rw [after1_6]
  rfl

theorem r2_blk0 (c : Dev nD) (t : Fin cfg2.N) (a0 : Fin 1024) (a1 : Fin 6144) (A0 : Fin 16384) (h0 : A0.val = 1024 * (t.val / 8) + a0.val) :
    (iblk2 V c 0 t : S1024x6144.Idx → EReal) (ix2 a0 a1) = (V c main_v29 : S16384x6144.Idx → EReal) (ix2 A0 a1) := by
  show (V c main_v29 : S16384x6144.Idx → EReal) (((cfg2.win 0).rect t).emb (ix2 a0 a1)) = _
  congr 1
  funext a
  refine Fin.ext ((Pipeline.Window.rect_emb_val_off (cfg2.win 0) t (ix2 a0 a1) a).trans ?_)
  match a with
  | ⟨0, _⟩ => show cc2_transform_0 (grid2.coords t) 0 * 1024 + a0.val = A0.val; rw [(tr2_0 t).1]; omega
  | ⟨1, _⟩ => show cc2_transform_0 (grid2.coords t) 1 * 6144 + a1.val = a1.val; rw [(tr2_0 t).2]; omega

theorem r2_blk1 (c : Dev nD) (t : Fin cfg2.N) (a0 : Fin 1) (a1 : Fin 6144) (a2 : Fin 512) (A2 : Fin 4096) (h2 : A2.val = 512 * (t.val % 8) + a2.val) :
    (iblk2 V c 1 t : S1x6144x512.Idx → EReal) (ix3 a0 a1 a2) = (V c main_v3 : S1x6144x4096.Idx → EReal) (ix3 a0 a1 A2) := by
  show (V c main_v3 : S1x6144x4096.Idx → EReal) (((cfg2.win 1).rect t).emb (ix3 a0 a1 a2)) = _
  congr 1
  funext a
  refine Fin.ext ((Pipeline.Window.rect_emb_val_off (cfg2.win 1) t (ix3 a0 a1 a2) a).trans ?_)
  match a with
  | ⟨0, _⟩ => show cc2_transform_1 (grid2.coords t) 0 * 1 + a0.val = a0.val; rw [(tr2_1 t).1]; omega
  | ⟨1, _⟩ => show cc2_transform_1 (grid2.coords t) 1 * 6144 + a1.val = a1.val; rw [(tr2_1 t).2.1]; omega
  | ⟨2, _⟩ => show cc2_transform_1 (grid2.coords t) 2 * 512 + a2.val = A2.val; rw [(tr2_1 t).2.2]; omega

theorem r2_blk2 (c : Dev nD) (t : Fin cfg2.N) (a0 : Fin 1024) (a1 : Fin 512) (A0 : Fin 16384) (h0 : A0.val = 1024 * (t.val / 8) + a0.val) (A1 : Fin 4096) (h1 : A1.val = 512 * (t.val % 8) + a1.val) :
    (iblk2 V c 2 t : S1024x512.Idx → EReal) (ix2 a0 a1) = (V c main_v30 : S16384x4096.Idx → EReal) (ix2 A0 A1) := by
  show (V c main_v30 : S16384x4096.Idx → EReal) (((cfg2.win 2).rect t).emb (ix2 a0 a1)) = _
  congr 1
  funext a
  refine Fin.ext ((Pipeline.Window.rect_emb_val_off (cfg2.win 2) t (ix2 a0 a1) a).trans ?_)
  match a with
  | ⟨0, _⟩ => show cc2_transform_2 (grid2.coords t) 0 * 1024 + a0.val = A0.val; rw [(tr2_2 t).1]; omega
  | ⟨1, _⟩ => show cc2_transform_2 (grid2.coords t) 1 * 512 + a1.val = A1.val; rw [(tr2_2 t).2]; omega

theorem r2_blk3 (c : Dev nD) (t : Fin cfg2.N) (a0 : Fin 1) (a1 : Fin 512) (A1 : Fin 4096) (h1 : A1.val = 512 * (t.val % 8) + a1.val) :
    (iblk2 V c 3 t : S1x512.Idx → EReal) (ix2 a0 a1) = (V c main_v32 : S1x4096.Idx → EReal) (ix2 a0 A1) := by
  show (V c main_v32 : S1x4096.Idx → EReal) (((cfg2.win 3).rect t).emb (ix2 a0 a1)) = _
  congr 1
  funext a
  refine Fin.ext ((Pipeline.Window.rect_emb_val_off (cfg2.win 3) t (ix2 a0 a1) a).trans ?_)
  match a with
  | ⟨0, _⟩ => show cc2_transform_3 (grid2.coords t) 0 * 1 + a0.val = a0.val; rw [(tr2_3 t).1]; omega
  | ⟨1, _⟩ => show cc2_transform_3 (grid2.coords t) 1 * 512 + a1.val = A1.val; rw [(tr2_3 t).2]; omega

theorem r2_emb (t : Fin cfg2.N) (a0 : Fin 1024) (a1 : Fin 512) (A0 : Fin 16384) (h0 : A0.val = 1024 * (t.val / 8) + a0.val) (A1 : Fin 4096) (h1 : A1.val = 512 * (t.val % 8) + a1.val) :
    ((cfg2.win 4).rect t).emb (ix2 a0 a1) = (ix2 A0 A1 : S16384x4096.Idx) := by
  funext a
  refine Fin.ext ((Pipeline.Window.rect_emb_val_off (cfg2.win 4) t (ix2 a0 a1) a).trans ?_)
  match a with
  | ⟨0, _⟩ => show cc2_transform_4 (grid2.coords t) 0 * 1024 + a0.val = A0.val; rw [(tr2_4 t).1]; omega
  | ⟨1, _⟩ => show cc2_transform_4 (grid2.coords t) 1 * 512 + a1.val = A1.val; rw [(tr2_4 t).2]; omega

theorem r2_inj : ∀ t t' : Fin cfg2.N, (cfg2.win 4).index t = (cfg2.win 4).index t' → t = t' := by
  intro t t' h
  have e0 : cc2_transform_4 (grid2.coords t) 0 = cc2_transform_4 (grid2.coords t') 0 := congrFun h 0
  rw [(tr2_4 t).1, (tr2_4 t').1] at e0
  have e1 : cc2_transform_4 (grid2.coords t) 1 = cc2_transform_4 (grid2.coords t') 1 := congrFun h 1
  rw [(tr2_4 t).2, (tr2_4 t').2] at e1
  exact Fin.ext (by omega)

theorem r2_disjoint (t t' : Fin cfg2.N) (_ : (cfg2.win 4).flush t = true) (_ : (cfg2.win 4).flush t' = true) (h : t ≠ t') :
    Disjoint ((cfg2.win 4).blk t).view.set ((cfg2.win 4).blk t').view.set :=
  (cfg2.win 4).disjoint_blk fun e => h (r2_inj t t' e)

/-- The call's result after the run, at a row and a column: what their point left in its block. -/
theorem r2_final (c : Dev nD) (t : Fin cfg2.N) (a0 : Fin 1024) (a1 : Fin 512) (A0 : Fin 16384) (h0 : A0.val = 1024 * (t.val / 8) + a0.val) (A1 : Fin 4096) (h1 : A1.val = 512 * (t.val % 8) + a1.val) :
    ((dat2 V c).arrAt 4 cfg2.N : S16384x4096.Idx → EReal) (ix2 A0 A1)
      = out2_4 (iblk2 V c 0 t) (iblk2 V c 1 t) (iblk2 V c 2 t) (iblk2 V c 3 t) (ix2 a0 a1) := by
  have h := (dat2 V c).arrAt_emb_eq_flushed 4 r2_disjoint t (flush2_4 t) (ix2 a0 a1 : S1024x512.Idx)
  have e : ((cfg2.win 4).blk t).view.emb (ix2 a0 a1 : S1024x512.Idx) = (ix2 A0 A1 : S16384x4096.Idx) := r2_emb t a0 a1 A0 h0 A1 h1
  rw [e] at h
  refine h.trans ?_
  show (cfg2.win 4).cut (grid2.coords t) ((dat2 V c).after 4 t) (ix2 a0 a1 : S1024x512.Idx) = _
  rw [after2_4]
  rfl

/-- The edge rows' body at a row and a column. -/
theorem out0_2_apply (x0 : Vec Ideal S32x4096 .bf16) (x1 : Vec Ideal S1x4096x1024 .bf16) (r : Fin 32) (d : Fin 1024) :
    out0_2 x0 x1 (ix2 r d) = ∑ k : Fin 4096, HMul.hMul (α := EReal) (β := EReal) (γ := EReal) (x0 (ix2 r k)) (x1 (ix3 (0 : Fin 1) k d)) := by
  unfold out0_2
  rw [View.canon_unit_zero (by funext a; fin_cases a <;> rfl)]
  rw [View.ld_unit_zero (S := S32x4096) (by funext a; fin_cases a <;> rfl), View.ld_unit_zero (S := S1x4096x1024) (by funext a; fin_cases a <;> rfl)]
  unfold k0_pay1
  exact dot_drop 32 4096 1024 (φ₁ := .bf16) (φ₂ := .bf16) none x0 x1 _ _ r d

/-- The last product's body at a row and a column. -/
theorem out2_4_apply (x0 : Vec Ideal S1024x6144 .bf16) (x1 : Vec Ideal S1x6144x512 .bf16) (x2 : Vec Ideal S1024x512 .f32)
    (x3 : Vec Ideal S1x512 .f32) (r : Fin 1024) (d : Fin 512) : out2_4 x0 x1 x2 x3 (ix2 r d)
      = HAdd.hAdd (α := EReal) (β := EReal) (γ := EReal) (x2 (ix2 r d))
          (HMul.hMul (α := EReal) (β := EReal) (γ := EReal) (x3 (ix2 (0 : Fin 1) d)) (∑ k : Fin 6144, x0 (ix2 r k) * x1 (ix3 (0 : Fin 1) k d))) := by
  unfold out2_4
  rw [View.canon_unit_zero (by funext a; fin_cases a <;> rfl)]
  rw [View.ld_unit_zero (S := S1024x6144) (by funext a; fin_cases a <;> rfl), View.ld_unit_zero (S := S1x6144x512) (by funext a; fin_cases a <;> rfl),
    View.ld_unit_zero (S := S1024x512) (by funext a; fin_cases a <;> rfl), View.ld_unit_zero (S := S1x512) (by funext a; fin_cases a <;> rfl)]
  unfold k2_pay1
  refine congr (congrArg HAdd.hAdd (congrFun (cast_same x2 _) (ix2 r d))) (congr (congrArg HMul.hMul ?_)
      (dot_drop 1024 6144 512 (φ₁ := .bf16) (φ₂ := .bf16) none x0 x1 _ _ r d))
  refine (broadcastTo_apply _ _ (ix2 r d) (ix2 (0 : Fin 1) d) fun a => ?_).trans (congrFun (cast_same x3 _) _)
  match a with
  | ⟨0, _⟩ => rfl
  | ⟨1, _⟩ => rfl

/-- One row repeated over a tile. -/
theorem row_at (x : Vec Ideal S1x512 .f32) (r : Fin 1024) (d : Fin 512) :
    broadcastTo S1024x512 x broadcasts_S1x512_S1024x512 (ix2 r d) = x (ix2 (0 : Fin 1) d) := by
  refine broadcastTo_apply _ _ (ix2 r d) (ix2 (0 : Fin 1) d) fun a => ?_
  match a with
  | ⟨0, _⟩ => rfl
  | ⟨1, _⟩ => rfl

/-- A halo row, its cast dropped. -/
theorem halo_at (x : Vec Ideal S1x1x512 .f32) (r : Fin 1024) (d : Fin 512) :
    broadcastTo S1024x512 (shapeCast S1x512 (shapeCast S1x512 x shapeCasts_S1x1x512_S1x512) shapeCasts_S1x512_S1x512) broadcasts_S1x512_S1024x512 (ix2 r d)
      = x (ix3 (0 : Fin 1) (0 : Fin 1) d) :=
  (row_at _ r d).trans ((congrFun (cast_same _ _) _).trans (cast_drop 1 512 x _ (0 : Fin 1) d))

/-- The tile moved down by one row: the row above. -/
theorem rot_down (g : FVec Ideal S1024x512 .f32) (r r' : Fin 1024) (d : Fin 512) (h : r'.val + 1 = r.val) :
    dynamicRotate 0 1#32 none g rotates_S1024x512_d0 (ix2 r d) = g (ix2 r' d) := by
  refine dynamicRotate_apply 0 1#32 g rotates_S1024x512_d0 (ix2 r d) (ix2 r' d) fun b => ?_
  match b with
  | ⟨0, _⟩ =>
    show r'.val = (r.val + 1024 - 1 % 1024) % 1024
    have := r.isLt
    omega
  | ⟨1, _⟩ => rfl

/-- The tile moved up by one row: the row below. -/
theorem rot_up (g : FVec Ideal S1024x512 .f32) (r r' : Fin 1024) (d : Fin 512) (h : r.val + 1 = r'.val) :
    dynamicRotate 0 1023#32 none g rotates_S1024x512_d0 (ix2 r d) = g (ix2 r' d) := by
  refine dynamicRotate_apply 0 1023#32 g rotates_S1024x512_d0 (ix2 r d) (ix2 r' d) fun b => ?_
  match b with
  | ⟨0, _⟩ =>
    show r'.val = (r.val + 1024 - 1023 % 1024) % 1024
    have := r'.isLt
    omega
  | ⟨1, _⟩ => rfl

/-- The mask of one row. -/
theorem mask_at (n : ℕ) (hn : n < 1024) (r : Fin 1024) (d : Fin 512) :
    cmpi .eq (iota .tc S1024x512 32 [0] iota_S1024x512_d0_w32) (broadcast S1024x512 (BitVec.ofNat 32 n)) (ix2 r d) = if r.val = n then 1#1 else 0#1 := by
  have hr := r.isLt
  have e : (iota .tc S1024x512 32 [0] iota_S1024x512_d0_w32 : IVec S1024x512 32) (ix2 r d) = BitVec.ofNat 32 r.val := iota_single_apply _ _ _ _ _ _
  show BitVec.ofBool ((iota .tc S1024x512 32 [0] iota_S1024x512_d0_w32 : IVec S1024x512 32) (ix2 r d) == BitVec.ofNat 32 n) = _
  rw [e]
  by_cases h : r.val = n
  · rw [if_pos h, h, beq_self_eq_true]; rfl
  · rw [if_neg h]
    have : (BitVec.ofNat 32 r.val == BitVec.ofNat 32 n) = false := by
      rw [beq_eq_false_iff_ne]
      intro hh
      have := congrArg BitVec.toNat hh
      rw [BitVec.toNat_ofNat, BitVec.toNat_ofNat] at this
      omega
    rw [this]; rfl

/-- A halo row, where it is loaded from. -/
theorem ld_halo (x : Vec Ideal S1x2x512 .f32) (d : Fin 512) :
    View.ld x r1_2 (ix3 (0 : Fin 1) (0 : Fin 1) d) = x (ix3 (0 : Fin 1) (0 : Fin 2) d)
      ∧ View.ld x r1_3 (ix3 (0 : Fin 1) (0 : Fin 1) d) = x (ix3 (0 : Fin 1) (1 : Fin 2) d) := by
  constructor
  · refine View.ld_unit_apply_of (Val := Elt Ideal) (e := EltTy.f32) x ![0, 0, 0] _ inb_S1x2x512_S1x1x512_0_0_0 (ix3 (0 : Fin 1) (0 : Fin 1) d) _ fun a => ?_
    match a with
    | ⟨0, _⟩ => rfl
    | ⟨1, _⟩ => rfl
    | ⟨2, _⟩ => show d.val = 0 + d.val; omega
  · refine View.ld_unit_apply_of (Val := Elt Ideal) (e := EltTy.f32) x ![0, 1, 0] _ inb_S1x2x512_S1x1x512_0_1_0 (ix3 (0 : Fin 1) (0 : Fin 1) d) _ fun a => ?_
    match a with
    | ⟨0, _⟩ => rfl
    | ⟨1, _⟩ => rfl
    | ⟨2, _⟩ => show d.val = 0 + d.val; omega

/-- A row of the convolution's weights, where it is loaded from. -/
theorem ld_conv (x : Vec Ideal S3x512 .f32) (d : Fin 512) :
    View.ld x r1_4 (ix2 (0 : Fin 1) d) = x (ix2 (0 : Fin 3) d) ∧ View.ld x r1_5 (ix2 (0 : Fin 1) d) = x (ix2 (1 : Fin 3) d)
      ∧ View.ld x r1_6 (ix2 (0 : Fin 1) d) = x (ix2 (2 : Fin 3) d) := by
  refine ⟨?_, ?_, ?_⟩
  · refine View.ld_unit_apply_of (Val := Elt Ideal) (e := EltTy.f32) x ![0, 0] _ inb_S3x512_S1x512_0_0 (ix2 (0 : Fin 1) d) _ fun a => ?_
    match a with
    | ⟨0, _⟩ => rfl
    | ⟨1, _⟩ => show d.val = 0 + d.val; omega
  · refine View.ld_unit_apply_of (Val := Elt Ideal) (e := EltTy.f32) x ![1, 0] _ inb_S3x512_S1x512_1_0 (ix2 (0 : Fin 1) d) _ fun a => ?_
    match a with
    | ⟨0, _⟩ => rfl
    | ⟨1, _⟩ => show d.val = 0 + d.val; omega
  · refine View.ld_unit_apply_of (Val := Elt Ideal) (e := EltTy.f32) x ![2, 0] _ inb_S3x512_S1x512_2_0 (ix2 (0 : Fin 1) d) _ fun a => ?_
    match a with
    | ⟨0, _⟩ => rfl
    | ⟨1, _⟩ => show d.val = 0 + d.val; omega

/-- The convolved gate at a row and a column: `P` is the row above (the halo's at the first row), `Q` the row below. -/
theorem pay3_apply (x0 : Vec Ideal S1024x4096 .bf16) (x1 : Vec Ideal S1x4096x512 .bf16) (v8 v16 : Vec Ideal S1x1x512 .f32)
    (v22 v25 v29 : Vec Ideal S1x512 .f32) (r : Fin 1024) (d : Fin 512) (P Q : EReal)
    (hP0 : r.val = 0 → P = v8 (ix3 (0 : Fin 1) (0 : Fin 1) d))
    (hP : ∀ r' : Fin 1024, r'.val + 1 = r.val → P = ∑ k : Fin 4096, HMul.hMul (α := EReal) (β := EReal) (γ := EReal) (x0 (ix2 r' k)) (x1 (ix3 (0 : Fin 1) k d)))
    (hQ0 : r.val = 1023 → Q = v16 (ix3 (0 : Fin 1) (0 : Fin 1) d))
    (hQ : ∀ r' : Fin 1024, r.val + 1 = r'.val → Q = ∑ k : Fin 4096, HMul.hMul (α := EReal) (β := EReal) (γ := EReal) (x0 (ix2 r' k)) (x1 (ix3 (0 : Fin 1) k d))) :
    k1_pay3 x0 x1 v8 v16 v22 v25 v29 (ix2 r d)
      = HAdd.hAdd (α := EReal) (β := EReal) (γ := EReal) (HAdd.hAdd (α := EReal) (β := EReal) (γ := EReal) (P * v22 (ix2 (0 : Fin 1) d))
          ((∑ k : Fin 4096, HMul.hMul (α := EReal) (β := EReal) (γ := EReal) (x0 (ix2 r k)) (x1 (ix3 (0 : Fin 1) k d))) * v25 (ix2 (0 : Fin 1) d)))
          (Q * v29 (ix2 (0 : Fin 1) d)) := by
  have hr := r.isLt
  unfold k1_pay3 k1_pay2
  have hg : ∀ r' : Fin 1024, FloatOps.matmul (F := Ideal) dot_S1024x4096_S4096x512_S1024x512_1_0_0_1_n_n none (shapeCast S1024x4096 x0 shapeCasts_S1024x4096_S1024x4096)
      (shapeCast S4096x512 x1 shapeCasts_S1x4096x512_S4096x512) (constant S1024x512 .f32 0x00000000#32) (ix2 r' d)
        = ∑ k : Fin 4096, HMul.hMul (α := EReal) (β := EReal) (γ := EReal) (x0 (ix2 r' k)) (x1 (ix3 (0 : Fin 1) k d)) :=
    fun r' => dot_drop 1024 4096 512 (φ₁ := .bf16) (φ₂ := .bf16) none x0 x1 _ _ r' d
  refine congr (congrArg HAdd.hAdd (congr (congrArg HAdd.hAdd (congr (congrArg HMul.hMul ?_) (row_at v22 r d))) (congr (congrArg HMul.hMul (hg r)) (row_at v25 r d))))
    (congr (congrArg HMul.hMul ?_) (row_at v29 r d))
  · refine (select_apply _ _ _ (ix2 r d)).trans ?_
    rw [mask_at 0 (by decide) r d]
    by_cases h : r.val = 0
    · rw [if_pos h]
      exact (select_one _ _).trans ((halo_at v8 r d).trans (hP0 h).symm)
    · rw [if_neg h]
      have h' : (⟨r.val - 1, by omega⟩ : Fin 1024).val + 1 = r.val := by show r.val - 1 + 1 = r.val; omega
      exact (select_zero _ _).trans ((rot_down _ r _ d h').trans ((hg _).trans (hP _ h').symm))
  · refine (select_apply _ _ _ (ix2 r d)).trans ?_
    rw [mask_at 1023 (by decide) r d]
    by_cases h : r.val = 1023
    · rw [if_pos h]
      exact (select_one _ _).trans ((halo_at v16 r d).trans (hQ0 h).symm)
    · rw [if_neg h]
      have h' : r.val + 1 = (⟨r.val + 1, by omega⟩ : Fin 1024).val := rfl
      exact (select_zero _ _).trans ((rot_up _ r _ d h').trans ((hg _).trans (hQ _ h').symm))

/-- The gated product's body at a row and a column, from the convolved gate `Y`. -/
theorem out1_6_apply (x0 : Vec Ideal S1024x4096 .bf16) (x1 x2 : Vec Ideal S1x4096x512 .bf16) (x3 : Vec Ideal S1x2x512 .f32)
    (x4 : Vec Ideal S3x512 .f32) (x5 : Vec Ideal S1x512 .f32) (r : Fin 1024) (d : Fin 512) (P Q : EReal)
    (hP0 : r.val = 0 → P = x3 (ix3 (0 : Fin 1) (0 : Fin 2) d))
    (hP : ∀ r' : Fin 1024, r'.val + 1 = r.val → P = ∑ k : Fin 4096, HMul.hMul (α := EReal) (β := EReal) (γ := EReal) (x0 (ix2 r' k)) (x1 (ix3 (0 : Fin 1) k d)))
    (hQ0 : r.val = 1023 → Q = x3 (ix3 (0 : Fin 1) (1 : Fin 2) d))
    (hQ : ∀ r' : Fin 1024, r.val + 1 = r'.val → Q = ∑ k : Fin 4096, HMul.hMul (α := EReal) (β := EReal) (γ := EReal) (x0 (ix2 r' k)) (x1 (ix3 (0 : Fin 1) k d)))
    (Y : EReal) (hY : Y = HAdd.hAdd (α := EReal) (β := EReal) (γ := EReal) (HAdd.hAdd (α := EReal) (β := EReal) (γ := EReal)
          (HAdd.hAdd (α := EReal) (β := EReal) (γ := EReal) (P * x4 (ix2 (0 : Fin 3) d))
          ((∑ k : Fin 4096, HMul.hMul (α := EReal) (β := EReal) (γ := EReal) (x0 (ix2 r k)) (x1 (ix3 (0 : Fin 1) k d))) * x4 (ix2 (1 : Fin 3) d)))
          (Q * x4 (ix2 (2 : Fin 3) d))) (x5 (ix2 (0 : Fin 1) d))) :
    out1_6 x0 x1 x2 x3 x4 x5 (ix2 r d)
      = HMul.hMul (α := EReal) (β := EReal) (γ := EReal) (HMul.hMul (α := EReal) (β := EReal) (γ := EReal) Y (Ideal.logistic Y))
          (∑ k : Fin 4096, HMul.hMul (α := EReal) (β := EReal) (γ := EReal) (x0 (ix2 r k)) (x2 (ix3 (0 : Fin 1) k d))) := by
  unfold out1_6
  rw [View.canon_unit_zero (by funext a; fin_cases a <;> rfl)]
  rw [View.ld_unit_zero (S := S1024x4096) (by funext a; fin_cases a <;> rfl), View.ld_unit_zero (S := S1x4096x512) (by funext a; fin_cases a <;> rfl),
    View.ld_unit_zero (S := S1x4096x512) (by funext a; fin_cases a <;> rfl), View.ld_unit_zero (S := S1x512) (by funext a; fin_cases a <;> rfl)]
  have h3 := pay3_apply x0 x1 (View.ld x3 r1_2) (View.ld x3 r1_3) (View.ld x4 r1_4) (View.ld x4 r1_5) (View.ld x4 r1_6) r d P Q
    (fun h => (hP0 h).trans (ld_halo x3 d).1.symm) hP (fun h => (hQ0 h).trans (ld_halo x3 d).2.symm) hQ
  rw [(ld_conv x4 d).1, (ld_conv x4 d).2.1, (ld_conv x4 d).2.2] at h3
  generalize hv : k1_pay3 x0 x1 (View.ld x3 r1_2) (View.ld x3 r1_3) (View.ld x4 r1_4) (View.ld x4 r1_5) (View.ld x4 r1_6) = v32 at h3 ⊢
  unfold k1_pay1 k1_pay2
  have hy : (addf v32 (broadcastTo S1024x512 (shapeCast S1x512 x5 shapeCasts_S1x512_S1x512) broadcasts_S1x512_S1024x512) : FVec Ideal S1024x512 .f32) (ix2 r d) = Y :=
    (congr (congrArg (HAdd.hAdd (α := EReal) (β := EReal) (γ := EReal)) h3) ((row_at _ r d).trans (congrFun (cast_same x5 _) _))).trans hY.symm
  exact congr (congrArg HMul.hMul (congr (congrArg HMul.hMul hy) (congrArg Ideal.logistic hy)))
    (dot_drop 1024 4096 512 (φ₁ := .bf16) (φ₂ := .bf16) none x0 x2 _ _ r d)

end Cert.KernelFfnIdeal.Gen

end
-- ==== Proof.FfnHost.lean ====
module

public import proofs.«01_k».proof.Proof.FfnBlocks
public import proofs.«01_k».proof.Proof.GatherAt
public import Idealize.ShloMosaic.Lib.StableHlo.RunRead
public import Idealize.ShloMosaic.PureOps.Ideal.Laws

@[expose] public section
set_option maxRecDepth 16384
noncomputable section

/-! What the channel mixer's host code hands its three calls: the weights, the edge rows, and the halo rows. -/

namespace Cert.KernelFfnIdeal.Gen
open Idealize.ShloMosaic Idealize.ShloMosaic.TcCoe Idealize.ShloMosaic.Tactic Idealize.SL.Sem Idealize.ShloMosaic.StableHlo
open Idealize.ShloMosaic.ValueIdx Cert.Tiles Cert.GatherAt

variable (m : (ℓ : Loc nD τ sig) → Buf (Elt Ideal) ℓ) (ρ : Dev nD → PrngReg)

theorem W1_v1 (c : Dev nD) : W1 m ρ c main_v1 = broadcastInDim S1x4096x12288 ![1, 2] bcast_S4096x12288_S1x4096x12288_1_2
    (m (c, Proc.tc.devRef main_arg3) : FVec Ideal S4096x12288 .f32) := by
  after_reads_simp
  rfl

theorem W1_v3 (c : Dev nD) : W1 m ρ c main_v3 = broadcastInDim S1x6144x4096 ![1, 2] bcast_S6144x4096_S1x6144x4096_1_2
    (m (c, Proc.tc.devRef main_arg6) : FVec Ideal S6144x4096 .f32) := by
  after_reads_simp
  rfl

theorem W1_v4 (c : Dev nD) : W1 m ρ c main_v4 = shapeCast S1x6144 (m (c, Proc.tc.devRef main_arg5) : FVec Ideal S6144 .f32) shapeCasts_S6144_S1x6144 := by
  after_reads_simp
  rfl

theorem W1_v6 (c : Dev nD) : W1 m ρ c main_v6 = shapeCast S16384x4096 (m (c, Proc.tc.devRef main_arg2) : FVec Ideal S1x16384x4096 .f32)
    shapeCasts_S1x16384x4096_S16384x4096 := by
  after_reads_simp
  rfl

/-- The two row numbers of a tile's edges. -/
def edgeIx : IVec S2x1 32 := broadcastInDim S2x1 ![0] bcast_S2_S2x1_0
  (select (cmpi .slt (fun i => lit0 (S2.rowMajor i)) (broadcastInDim S2 ![] bcast_S_S2 (constantI S_ 32 0#32)))
    (addi (fun i => lit0 (S2.rowMajor i)) (broadcastInDim S2 ![] bcast_S_S2 (constantI S_ 32 1024#32))) (fun i => lit0 (S2.rowMajor i)))

theorem W1_v15 (c : Dev nD) : W1 m ρ c main_v15 = shapeCast S32x4096
    (Host.gather gather_S16x1024x4096_S2x1_S16x2x4096_02_1_n_n_1_1_1614096
      (shapeCast S16x1024x4096 (shapeCast S16384x4096 (m (c, Proc.tc.devRef main_arg2) : FVec Ideal S1x16384x4096 .f32)
        shapeCasts_S1x16384x4096_S16384x4096) shapeCasts_S16384x4096_S16x1024x4096) edgeIx) shapeCasts_S16x2x4096_S32x4096 := by
  after_reads_simp
  rfl

theorem W2_v16 (c : Dev nD) : W2 m ρ c main_v16 = pad S32x4096 ![0, 0] ![0, 0] ![0, 0] (W1 m ρ c main_v15 : FVec Ideal S32x4096 .bf16)
    (sitofp .bf16 (W1 m ρ c main_c_2 : IVec S_ 32) : FVec Ideal S_ .bf16) pads_S32x4096_S32x4096_000_000 h_S_ := by
  after_reads_simp
  rfl

/-- Edge `e` of a tile: its first row, or its last. -/
def edgeRow (e : ℕ) : ℕ := 1023 * e

theorem edgeIx_apply (e : Fin 2) (z : Fin 1) : edgeIx (ix2 e z) = BitVec.ofNat 32 (edgeRow e.val) := by
  unfold edgeIx
  refine (broadcastInDim_apply _ bcast_S2_S2x1_0 _ (ix2 e z) (ix1 e) fun a => ?_).trans ?_
  · match a with
    | ⟨0, _⟩ => rfl
  · have hr : S2.rowMajor (ix1 e) = e := Fin.ext (Shape.rowMajor_val_one _)
    rw [select_apply]
    show Idealize.ShloMosaic.Scalar.select (Scalar.cmpi .slt (lit0 (S2.rowMajor (ix1 e))) 0#32) (lit0 (S2.rowMajor (ix1 e)) + 1024#32) (lit0 (S2.rowMajor (ix1 e))) = _
    rw [hr]
    clear hr
    revert e
    decide

/-- The gathered edge rows. -/
theorem edgeGather_apply (x : FVec Ideal S16x1024x4096 .bf16) (i : Fin 16) (e : Fin 2) (k : Fin 4096) (q : Fin 1024) (hq : q.val = edgeRow e.val) :
    Host.gather gather_S16x1024x4096_S2x1_S16x2x4096_02_1_n_n_1_1_1614096 x edgeIx (ix3 i e k) = x (ix3 i q k) := by
  refine gather_at _ rfl x edgeIx (ix3 i e k) _ fun a => ?_
  match a with
  | ⟨0, _⟩ =>
    show GatherDims.start gather_S16x1024x4096_S2x1_S16x2x4096_02_1_n_n_1_1_1614096 _ _ (0 : Fin 3)
      + GatherDims.offCoord gather_S16x1024x4096_S2x1_S16x2x4096_02_1_n_n_1_1_1614096 _ (0 : Fin 3) = _
    rw [start_none _ _ _ _ (by decide), off_some _ _ _ 0 (by decide) (by decide) 0 rfl]
    exact Nat.zero_add _
  | ⟨1, _⟩ =>
    show GatherDims.start gather_S16x1024x4096_S2x1_S16x2x4096_02_1_n_n_1_1_1614096 _ _ (1 : Fin 3)
      + GatherDims.offCoord gather_S16x1024x4096_S2x1_S16x2x4096_02_1_n_n_1_1_1614096 _ (1 : Fin 3) = _
    rw [off_none _ _ _ (by decide),
      start_some gather_S16x1024x4096_S2x1_S16x2x4096_02_1_n_n_1_1_1614096 (ix3 i e k) edgeIx (1 : Fin 3) ⟨0, by decide⟩ (by decide) (ix2 e (0 : Fin 1))
        (by funext a; match a with | ⟨0, _⟩ => rfl | ⟨1, _⟩ => rfl), edgeIx_apply, toNat_ofNat _ (by have := e.isLt; unfold edgeRow; omega)]
    show min (edgeRow e.val) (1024 - 1) + 0 = q.val
    have := e.isLt
    unfold edgeRow at hq ⊢
    omega
  | ⟨2, _⟩ =>
    show GatherDims.start gather_S16x1024x4096_S2x1_S16x2x4096_02_1_n_n_1_1_1614096 _ _ (2 : Fin 3)
      + GatherDims.offCoord gather_S16x1024x4096_S2x1_S16x2x4096_02_1_n_n_1_1_1614096 _ (2 : Fin 3) = _
    rw [start_none _ _ _ _ (by decide), off_some _ _ _ 1 (by decide) (by decide) 2 rfl]
    exact Nat.zero_add _

/-- The edge rows the first call reads: row `2 i + e` is edge `e` of tile `i`. -/
theorem V2_v16 (c : Dev nD) (i : Fin 16) (e : Fin 2) (k : Fin 4096) (s : Fin 32) (hs : s.val = 2 * i.val + e.val) (R : Fin 16384)
    (hR : R.val = 1024 * i.val + edgeRow e.val) :
    (V2 m ρ c main_v16 : S32x4096.Idx → EReal) (ix2 s k) = (m (c, Proc.tc.devRef main_arg2) : S1x16384x4096.Idx → EReal) (ix3 (0 : Fin 1) R k) := by
  refine (congrFun (W2_v16 m ρ c) (ix2 s k)).trans ?_
  refine (pad_apply_of_inside _ _ _ _ _ pads_S32x4096_S32x4096_000_000 h_S_ (ix2 s k) (ix2 s k) fun a => ?_).trans ?_
  · match a with
    | ⟨0, _⟩ => show s.val = 0 + s.val * (0 + 1); omega
    | ⟨1, _⟩ => show k.val = 0 + k.val * (0 + 1); omega
  refine (congrFun (W1_v15 m ρ c) (ix2 s k)).trans ?_
  refine (shapeCast_apply _ _ (ix2 s k) (ix3 i e k) ?_).trans ?_
  · rw [Shape.rowMajor_val_two, Shape.rowMajor_val_three]
    show (i.val * 2 + e.val) * 4096 + k.val = s.val * 4096 + k.val
    rw [hs, Nat.mul_comm i.val 2]
  have he := e.isLt
  have hq : edgeRow e.val < 1024 := by unfold edgeRow; omega
  refine (edgeGather_apply _ i e k ⟨edgeRow e.val, hq⟩ rfl).trans ?_
  refine (shapeCast_apply _ _ (ix3 i ⟨edgeRow e.val, hq⟩ k) (ix2 R k) ?_).trans (cast_drop 16384 4096 _ _ R k)
  rw [Shape.rowMajor_val_two, Shape.rowMajor_val_three]
  show R.val * 4096 + k.val = (i.val * 1024 + edgeRow e.val) * 4096 + k.val
  rw [hR, Nat.mul_comm i.val 1024]

theorem W3_v17 (c : Dev nD) : W3 m ρ c main_v17 = (dat0 (V2 m ρ) c).arrAt 2 cfg0.N := W3_arr m ρ c 2

theorem W2_v1 (c : Dev nD) : W2 m ρ c main_v1 = W1 m ρ c main_v1 := W2_of m ρ c main_v1 (by decide)
theorem W4_v1 (c : Dev nD) : W4 m ρ c main_v1 = W1 m ρ c main_v1 :=
  ((W4_of m ρ c main_v1 (by decide)).trans (W3_of m ρ c main_v1 (by decide))).trans (W2_of m ρ c main_v1 (by decide))
theorem W4_v4 (c : Dev nD) : W4 m ρ c main_v4 = W1 m ρ c main_v4 :=
  ((W4_of m ρ c main_v4 (by decide)).trans (W3_of m ρ c main_v4 (by decide))).trans (W2_of m ρ c main_v4 (by decide))
theorem W4_v6 (c : Dev nD) : W4 m ρ c main_v6 = W1 m ρ c main_v6 :=
  ((W4_of m ρ c main_v6 (by decide)).trans (W3_of m ρ c main_v6 (by decide))).trans (W2_of m ρ c main_v6 (by decide))
theorem W6_v3 (c : Dev nD) : W6 m ρ c main_v3 = W1 m ρ c main_v3 :=
  ((((W6_of m ρ c main_v3 (by decide)).trans (W5_of m ρ c main_v3 (by decide))).trans (W4_of m ρ c main_v3 (by decide))).trans
    (W3_of m ρ c main_v3 (by decide))).trans (W2_of m ρ c main_v3 (by decide))
theorem W6_v29 (c : Dev nD) : W6 m ρ c main_v29 = (dat1 (V4 m ρ) c).arrAt 6 cfg1.N :=
  (W6_of m ρ c main_v29 (by decide)).trans (W5_arr m ρ c 6)

theorem W6_v30 (c : Dev nD) : W6 m ρ c main_v30 = shapeCast S16384x4096 (W5 m ρ c main_arg0 : FVec Ideal S1x16384x4096 .f32)
    shapeCasts_S1x16384x4096_S16384x4096 := by
  after_reads_simp
  rfl

theorem W6_v32 (c : Dev nD) : W6 m ρ c main_v32 = shapeCast S1x4096 (shapeCast S4096 (W5 m ρ c main_arg1 : FVec Ideal S1x1x4096 .f32)
    shapeCasts_S1x1x4096_S4096) shapeCasts_S4096_S1x4096 := by
  after_reads_simp
  rfl

/-- A row of zeros. -/
def zeroRow : FVec Ideal S1x6144 .f32 := broadcastInDim S1x6144 ![] bcast_S_S1x6144 (constant S_ .f32 0x00000000#32)

theorem zeroRow_apply (i : S1x6144.Idx) : zeroRow i = (0 : EReal) := Ideal.ofBits_zero_f32

/-- The tiles' edge rows, tile by tile. -/
def edges (x : FVec Ideal S32x6144 .f32) : FVec Ideal S16x2x6144 .f32 := shapeCast S16x2x6144 x shapeCasts_S32x6144_S16x2x6144

/-- The rows above the tiles. -/
def above (x : FVec Ideal S32x6144 .f32) : FVec Ideal S16x6144 .f32 :=
  concatenate S16x6144 0 [⟨S1x6144, zeroRow⟩, ⟨S15x6144, shapeCast S15x6144 (extractStridedSlice S15x1x6144 ![0, 1, 0] (edges x)
    slices_S16x2x6144_S15x1x6144_0_1_0) shapeCasts_S15x1x6144_S15x6144⟩] concatenates_S1x6144_S15x6144_S16x6144_d0

/-- The rows below the tiles. -/
def below (x : FVec Ideal S32x6144 .f32) : FVec Ideal S16x6144 .f32 :=
  concatenate S16x6144 0 [⟨S15x6144, shapeCast S15x6144 (extractStridedSlice S15x1x6144 ![1, 0, 0] (edges x)
    slices_S16x2x6144_S15x1x6144_1_0_0) shapeCasts_S15x1x6144_S15x6144⟩, ⟨S1x6144, zeroRow⟩] concatenates_S15x6144_S1x6144_S16x6144_d0

theorem W4_v28 (c : Dev nD) : W4 m ρ c main_v28 = concatenate S16x2x6144 1
    [⟨S16x1x6144, broadcastInDim S16x1x6144 ![0, 2] bcast_S16x6144_S16x1x6144_0_2 (above (W3 m ρ c main_v17))⟩,
      ⟨S16x1x6144, broadcastInDim S16x1x6144 ![0, 2] bcast_S16x6144_S16x1x6144_0_2 (below (W3 m ρ c main_v17))⟩]
    concatenates_S16x1x6144_S16x1x6144_S16x2x6144_d1 := by
  after_reads_simp
  rfl

variable (x : FVec Ideal S32x6144 .f32)

theorem edges_apply (i : Fin 16) (e : Fin 2) (C : Fin 6144) (s : Fin 32) (hs : s.val = 2 * i.val + e.val) :
    edges x (ix3 i e C) = x (ix2 s C) := by
  unfold edges
  refine shapeCast_apply _ _ (ix3 i e C) (ix2 s C) ?_
  rw [Shape.rowMajor_val_two, Shape.rowMajor_val_three]
  show s.val * 6144 + C.val = (i.val * 2 + e.val) * 6144 + C.val
  rw [hs, Nat.mul_comm i.val 2]

theorem drop_mid (y : FVec Ideal S15x1x6144 .f32) (j : Fin 15) (C : Fin 6144) :
    shapeCast S15x6144 y shapeCasts_S15x1x6144_S15x6144 (ix2 j C) = y (ix3 j (0 : Fin 1) C) := by
  refine shapeCast_apply _ _ (ix2 j C) (ix3 j (0 : Fin 1) C) ?_
  rw [Shape.rowMajor_val_two, Shape.rowMajor_val_three]
  show (j.val * 1 + 0) * 6144 + C.val = j.val * 6144 + C.val
  omega

theorem above_zero (C : Fin 6144) : above x (ix2 (0 : Fin 16) C) = (0 : EReal) := by
  unfold above
  refine (concatenate_pair_apply_left (t := S16x6144) (s₁ := S1x6144) (s₂ := S15x6144) (0 : Fin 2) _ _ _ (ix2 (0 : Fin 16) C) rfl (ix2 (0 : Fin 1) C) fun b => ?_).trans (zeroRow_apply _)
  match b with
  | ⟨0, _⟩ => rfl
  | ⟨1, _⟩ => rfl

theorem above_succ (i i' : Fin 16) (h : i'.val + 1 = i.val) (C : Fin 6144) (s : Fin 32) (hs : s.val = 2 * i'.val + 1) :
    above x (ix2 i C) = x (ix2 s C) := by
  have hi := i.isLt
  unfold above
  refine (concatenate_pair_apply_right (t := S16x6144) (s₁ := S1x6144) (s₂ := S15x6144) (0 : Fin 2) _ _ _ (ix2 i C) rfl rfl (ix2 (⟨i'.val, by omega⟩ : Fin 15) C) (fun b hb => ?_) ?_).trans ?_
  · match b with
    | ⟨0, _⟩ => exact absurd rfl hb
    | ⟨1, _⟩ => rfl
  · show i'.val + 1 = i.val
    exact h
  refine (drop_mid _ (⟨i'.val, by omega⟩ : Fin 15) C).trans ?_
  refine (extractStridedSlice_apply (s := S16x2x6144) (t := S15x1x6144) (![0, 1, 0] : Fin 3 → Nat) (edges x) slices_S16x2x6144_S15x1x6144_0_1_0
    (ix3 (⟨i'.val, by omega⟩ : Fin 15) (0 : Fin 1) C) (ix3 i' (1 : Fin 2) C) fun a => ?_).trans (edges_apply x i' 1 C s hs)
  match a with
  | ⟨0, _⟩ => show i'.val = 0 + i'.val; omega
  | ⟨1, _⟩ => rfl
  | ⟨2, _⟩ => show C.val = 0 + C.val; omega

theorem below_last (C : Fin 6144) : below x (ix2 (15 : Fin 16) C) = (0 : EReal) := by
  unfold below
  refine (concatenate_pair_apply_right (t := S16x6144) (s₁ := S15x6144) (s₂ := S1x6144) (0 : Fin 2) _ _ _ (ix2 (15 : Fin 16) C) rfl rfl (ix2 (0 : Fin 1) C) (fun b hb => ?_) ?_).trans (zeroRow_apply _)
  · match b with
    | ⟨0, _⟩ => exact absurd rfl hb
    | ⟨1, _⟩ => rfl
  · rfl

theorem below_lt (i i' : Fin 16) (h : i.val + 1 = i'.val) (C : Fin 6144) (s : Fin 32) (hs : s.val = 2 * i'.val) :
    below x (ix2 i C) = x (ix2 s C) := by
  have hi := i'.isLt
  unfold below
  refine (concatenate_pair_apply_left (t := S16x6144) (s₁ := S15x6144) (s₂ := S1x6144) (0 : Fin 2) _ _ _ (ix2 i C) rfl (ix2 (⟨i.val, by omega⟩ : Fin 15) C) fun b => ?_).trans ?_
  · match b with
    | ⟨0, _⟩ => rfl
    | ⟨1, _⟩ => rfl
  refine (drop_mid _ (⟨i.val, by omega⟩ : Fin 15) C).trans ?_
  refine (extractStridedSlice_apply (s := S16x2x6144) (t := S15x1x6144) (![1, 0, 0] : Fin 3 → Nat) (edges x) slices_S16x2x6144_S15x1x6144_1_0_0
    (ix3 (⟨i.val, by omega⟩ : Fin 15) (0 : Fin 1) C) (ix3 i' (0 : Fin 2) C) fun a => ?_).trans (edges_apply x i' 0 C s hs)
  match a with
  | ⟨0, _⟩ => show i'.val = 1 + i.val; omega
  | ⟨1, _⟩ => rfl
  | ⟨2, _⟩ => show C.val = 0 + C.val; omega

theorem add_mid (y : FVec Ideal S16x6144 .f32) (i : Fin 16) (z : Fin 1) (C : Fin 6144) :
    broadcastInDim S16x1x6144 ![0, 2] bcast_S16x6144_S16x1x6144_0_2 y (ix3 i z C) = y (ix2 i C) := by
  refine broadcastInDim_apply _ _ y (ix3 i z C) (ix2 i C) fun a => ?_
  match a with
  | ⟨0, _⟩ => rfl
  | ⟨1, _⟩ => rfl

/-- The halo rows the second call reads. -/
theorem V4_v28 (c : Dev nD) (i : Fin 16) (C : Fin 6144) :
    (V4 m ρ c main_v28 : S16x2x6144.Idx → EReal) (ix3 i (0 : Fin 2) C) = above (W3 m ρ c main_v17) (ix2 i C)
      ∧ (V4 m ρ c main_v28 : S16x2x6144.Idx → EReal) (ix3 i (1 : Fin 2) C) = below (W3 m ρ c main_v17) (ix2 i C) := by
  constructor
  · refine (congrFun (W4_v28 m ρ c) (ix3 i (0 : Fin 2) C)).trans ((concatenate_pair_apply_left (t := S16x2x6144) (s₁ := S16x1x6144) (s₂ := S16x1x6144) (1 : Fin 3) _ _ _ (ix3 i (0 : Fin 2) C) rfl
      (ix3 i (0 : Fin 1) C) fun b => ?_).trans (add_mid _ i 0 C))
    match b with
    | ⟨0, _⟩ => rfl
    | ⟨1, _⟩ => rfl
    | ⟨2, _⟩ => rfl
  · refine (congrFun (W4_v28 m ρ c) (ix3 i (1 : Fin 2) C)).trans ((concatenate_pair_apply_right (t := S16x2x6144) (s₁ := S16x1x6144) (s₂ := S16x1x6144) (1 : Fin 3) _ _ _ (ix3 i (1 : Fin 2) C) rfl rfl
      (ix3 i (0 : Fin 1) C) (fun b hb => ?_) ?_).trans (add_mid _ i 0 C))
    · match b with
      | ⟨0, _⟩ => rfl
      | ⟨1, _⟩ => exact absurd rfl hb
      | ⟨2, _⟩ => rfl
    · rfl

end Cert.KernelFfnIdeal.Gen

end
-- ==== Proof.FfnEq.lean ====
module

public import proofs.«01_k».proof.Proof.FfnHost
public import proofs.«01_k».proof.Proof.Gen.ReferenceFfnIdeal.Read

@[expose] public section
set_option maxRecDepth 16384
noncomputable section

/-! The channel mixer's three calls against the reference, at a row and a column. -/

namespace Cert.KernelFfnIdeal.Gen
open Idealize.ShloMosaic Idealize.ShloMosaic.TcCoe Idealize.ShloMosaic.Tactic Idealize.SL.Sem Idealize.ShloMosaic.StableHlo
open Idealize.ShloMosaic.ValueIdx Cert.Tiles Cert.ReferenceFfnIdeal.Read

section reference

variable (x0 : FVec Ideal S1x16384x4096 .f32) (x1 : FVec Ideal S1x1x4096 .f32) (x2 : FVec Ideal S1x16384x4096 .f32) (x3 : FVec Ideal S4096x12288 .f32)
  (x4 : FVec Ideal S3x6144 .f32) (x5 : FVec Ideal S6144 .f32) (x6 : FVec Ideal S6144x4096 .f32)

/-- The product with the widening weights at a row and a column. -/
def wide (R : Fin 16384) (C : Fin 12288) : EReal := ∑ k : Fin 4096, HMul.hMul (α := EReal) (β := EReal) (γ := EReal) (x2 (ix3 (0 : Fin 1) R k)) (x3 (ix2 k C))

/-- The gate half, with a row of zeros above and one below. -/
def padded (R : ℕ) (C : Fin 6144) : EReal :=
  if h : 1 ≤ R ∧ R ≤ 16384 then wide x2 x3 ⟨R - 1, by omega⟩ ⟨C.val, by have := C.isLt; omega⟩ else 0

theorem padded_in (R : ℕ) (C : Fin 6144) (Q : Fin 16384) (D : Fin 12288) (hQ : R = Q.val + 1) (hD : D.val = C.val) :
    padded x2 x3 R C = wide x2 x3 Q D := by
  subst hQ
  have hQl := Q.isLt
  unfold padded
  rw [dif_pos ⟨by omega, by omega⟩]
  have e1 : (⟨Q.val + 1 - 1, by omega⟩ : Fin 16384) = Q := Fin.ext (by show Q.val + 1 - 1 = Q.val; omega)
  have e2 : (⟨C.val, by have := C.isLt; omega⟩ : Fin 12288) = D := Fin.ext hD.symm
  rw [e1, e2]

theorem padded_out (R : ℕ) (C : Fin 6144) (h : R = 0 ∨ 16384 < R) : padded x2 x3 R C = 0 := by
  unfold padded
  rw [dif_neg (by omega)]

theorem ref_wide (R : Fin 16384) (C : Fin 12288) :
    (val_main_v0 (F := Ideal) x2 x3 : Cert.ReferenceFfnIdeal.S1x16384x12288.Idx → EReal) (ix3 (0 : Fin 1) R C) = wide x2 x3 R C := by
  rw [val_main_v0_apply]
  exact Finset.sum_congr rfl fun k _ => congr (congrArg HMul.hMul (congrArg x2 (eq_ix3 _))) (congrArg x3 (eq_ix2 _))

theorem ref_padded (R : Fin 16386) (C : Fin 6144) :
    (val_main_v3 (F := Ideal) x2 x3 : Cert.ReferenceFfnIdeal.S1x16386x6144.Idx → EReal) (ix3 (0 : Fin 1) R C) = padded x2 x3 R.val C := by
  have hR := R.isLt
  have hC := C.isLt
  unfold val_main_v3
  by_cases h : 1 ≤ R.val ∧ R.val ≤ 16384
  · refine (pad_apply_of_inside _ _ _ _ _ _ _ (ix3 (0 : Fin 1) R C) (ix3 (0 : Fin 1) (⟨R.val - 1, by omega⟩ : Fin 16384) C) fun a => ?_).trans ?_
    · match a with
      | ⟨0, _⟩ => rfl
      | ⟨1, _⟩ => show R.val = 1 + (R.val - 1) * (0 + 1); omega
      | ⟨2, _⟩ => show C.val = 0 + C.val * (0 + 1); omega
    · rw [val_main_v1_apply, padded_in x2 x3 R.val C ⟨R.val - 1, by omega⟩ ⟨C.val, by omega⟩ (by show R.val = R.val - 1 + 1; omega) rfl, ← ref_wide]
      exact congrArg _ (eq_ix3 _)
  · refine (pad_apply_of_not_inside _ _ _ _ _ _ _ (ix3 (0 : Fin 1) R C) (1 : Fin 3) fun hh => h ?_).trans ?_
    · have h1 : 1 ≤ R.val := hh.1
      have h2 : (R.val - 1) / (0 + 1) < 16384 := hh.2.2
      omega
    · rw [padded_out x2 x3 R.val C (by omega)]
      show (((0#32 : BitVec 32).toInt : ℝ) : EReal) = 0
      simp

/-- The convolved gate. -/
def conv (R : Fin 16384) (C : Fin 6144) : EReal :=
  HAdd.hAdd (α := EReal) (β := EReal) (γ := EReal) (HAdd.hAdd (α := EReal) (β := EReal) (γ := EReal)
    (HAdd.hAdd (α := EReal) (β := EReal) (γ := EReal) (padded x2 x3 R.val C * x4 (ix2 (0 : Fin 3) C))
      (padded x2 x3 (R.val + 1) C * x4 (ix2 (1 : Fin 3) C)))
    (padded x2 x3 (R.val + 2) C * x4 (ix2 (2 : Fin 3) C))) (x5 (ix1 C))

theorem ref_conv (R : Fin 16384) (C : Fin 6144) :
    (val_main_v28 (F := Ideal) x2 x3 x4 x5 : Cert.ReferenceFfnIdeal.S1x16384x6144.Idx → EReal) (ix3 (0 : Fin 1) R C) = conv x2 x3 x4 x5 R C := by
  have hR := R.isLt
  have hC := C.isLt
  have hm : C.val % 6144 = C.val := Nat.mod_eq_of_lt hC
  have hw0 : (val_main_v8 (F := Ideal) x4 : Cert.ReferenceFfnIdeal.S1x16384x6144.Idx → EReal) (ix3 (0 : Fin 1) R C) = x4 (ix2 (0 : Fin 3) C) := by
    rw [val_main_v8_apply, val_main_v7_apply, val_main_v6_apply, val_main_v5_apply]
    refine congrArg x4 (funext fun a => Fin.ext ?_)
    match a with
    | ⟨0, _⟩ => rfl
    | ⟨1, _⟩ => exact hm
  have hw1 : (val_main_v16 (F := Ideal) x4 : Cert.ReferenceFfnIdeal.S1x16384x6144.Idx → EReal) (ix3 (0 : Fin 1) R C) = x4 (ix2 (1 : Fin 3) C) := by
    rw [val_main_v16_apply, val_main_v15_apply, val_main_v14_apply, val_main_v13_apply]
    refine congrArg x4 (funext fun a => Fin.ext ?_)
    match a with
    | ⟨0, _⟩ => rfl
    | ⟨1, _⟩ => exact hm
  have hw2 : (val_main_v23 (F := Ideal) x4 : Cert.ReferenceFfnIdeal.S1x16384x6144.Idx → EReal) (ix3 (0 : Fin 1) R C) = x4 (ix2 (2 : Fin 3) C) := by
    rw [val_main_v23_apply, val_main_v22_apply, val_main_v21_apply, val_main_v20_apply]
    refine congrArg x4 (funext fun a => Fin.ext ?_)
    match a with
    | ⟨0, _⟩ => rfl
    | ⟨1, _⟩ => exact hm
  have hp0 : (val_main_v4 (F := Ideal) x2 x3 : Cert.ReferenceFfnIdeal.S1x16384x6144.Idx → EReal) (ix3 (0 : Fin 1) R C) = padded x2 x3 R.val C := by
    rw [val_main_v4_apply, ← ref_padded x2 x3 ⟨R.val, by omega⟩ C]
    exact congrArg _ (eq_ix3 _)
  have hp1 : (val_main_v12 (F := Ideal) x2 x3 : Cert.ReferenceFfnIdeal.S1x16384x6144.Idx → EReal) (ix3 (0 : Fin 1) R C) = padded x2 x3 (R.val + 1) C := by
    rw [val_main_v12_apply, ← ref_padded x2 x3 ⟨R.val + 1, by omega⟩ C]
    refine congrArg _ (funext fun a => Fin.ext ?_)
    match a with
    | ⟨0, _⟩ => rfl
    | ⟨1, _⟩ => show 1 + R.val = R.val + 1; omega
    | ⟨2, _⟩ => rfl
  have hp2 : (val_main_v19 (F := Ideal) x2 x3 : Cert.ReferenceFfnIdeal.S1x16384x6144.Idx → EReal) (ix3 (0 : Fin 1) R C) = padded x2 x3 (R.val + 2) C := by
    rw [val_main_v19_apply, ← ref_padded x2 x3 ⟨R.val + 2, by omega⟩ C]
    refine congrArg _ (funext fun a => Fin.ext ?_)
    match a with
    | ⟨0, _⟩ => rfl
    | ⟨1, _⟩ => show 2 + R.val = R.val + 2; omega
    | ⟨2, _⟩ => rfl
  have hb : (val_main_v27 (F := Ideal) x5 : Cert.ReferenceFfnIdeal.S1x16384x6144.Idx → EReal) (ix3 (0 : Fin 1) R C) = x5 (ix1 C) := by
    rw [val_main_v27_apply, val_main_v26_apply]
    exact congrArg x5 (eq_ix1 _)
  have hz : (val_main_v10 (F := Ideal) : Cert.ReferenceFfnIdeal.S1x16384x6144.Idx → EReal) (ix3 (0 : Fin 1) R C) = 0 := by
    rw [val_main_v10_apply]
    exact Ideal.ofBits_zero_f32
  have h11 : (val_main_v11 (F := Ideal) x2 x3 x4 : Cert.ReferenceFfnIdeal.S1x16384x6144.Idx → EReal) (ix3 (0 : Fin 1) R C) = padded x2 x3 R.val C * x4 (ix2 (0 : Fin 3) C) := by
    rw [val_main_v11_apply, val_main_v9_apply]
    exact (congr (congrArg (HAdd.hAdd (α := EReal) (β := EReal) (γ := EReal)) hz) (congr (congrArg (HMul.hMul (α := EReal) (β := EReal) (γ := EReal)) hp0) hw0)).trans (zero_add _)
  rw [val_main_v28_apply, val_main_v25_apply, val_main_v24_apply, val_main_v18_apply, val_main_v17_apply]
  exact congr (congrArg HAdd.hAdd (congr (congrArg HAdd.hAdd (congr (congrArg HAdd.hAdd h11) (congr (congrArg HMul.hMul hp1) hw1)))
    (congr (congrArg HMul.hMul hp2) hw2))) hb

/-- The gated half at a row and a column. -/
theorem ref_act (R : Fin 16384) (C : Fin 6144) (D : Fin 12288) (hD : D.val = 6144 + C.val) :
    (val_main_v30 (F := Ideal) x2 x3 x4 x5 : Cert.ReferenceFfnIdeal.S1x16384x6144.Idx → EReal) (ix3 (0 : Fin 1) R C)
      = HMul.hMul (α := EReal) (β := EReal) (γ := EReal) (HMul.hMul (α := EReal) (β := EReal) (γ := EReal) (conv x2 x3 x4 x5 R C)
          (Ideal.logistic (conv x2 x3 x4 x5 R C))) (wide x2 x3 R D) := by
  have hs : (val_main_call1_v5 (F := Ideal) x2 x3 x4 x5 : Cert.ReferenceFfnIdeal.S1x16384x6144.Idx → EReal) (ix3 (0 : Fin 1) R C)
      = Ideal.logistic ((val_main_v28 (F := Ideal) x2 x3 x4 x5 : Cert.ReferenceFfnIdeal.S1x16384x6144.Idx → EReal) (ix3 (0 : Fin 1) R C)) := by
    rw [val_main_call1_v5_apply, val_main_call1_v3_apply, val_main_call1_v4_apply, val_main_call1_v2_apply]
    exact host_logistic _
  have hv : (val_main_v2 (F := Ideal) x2 x3 : Cert.ReferenceFfnIdeal.S1x16384x6144.Idx → EReal) (ix3 (0 : Fin 1) R C) = wide x2 x3 R D := by
    rw [val_main_v2_apply, ← ref_wide]
    refine congrArg _ (funext fun a => Fin.ext ?_)
    match a with
    | ⟨0, _⟩ => rfl
    | ⟨1, _⟩ => rfl
    | ⟨2, _⟩ => exact hD.symm
  have hc := ref_conv x2 x3 x4 x5 R C
  rw [val_main_v30_apply, val_main_v29_apply]
  rw [hc] at hs
  exact congr (congrArg HMul.hMul (congr (congrArg HMul.hMul hc) hs)) hv

/-- The reference's result at a row and a column. -/
theorem ref_result (R : Fin 16384) (C : Fin 4096) :
    (val_main_v35 (F := Ideal) x0 x1 x2 x3 x4 x5 x6 : S16384x4096.Idx → EReal) (ix2 R C)
      = HAdd.hAdd (α := EReal) (β := EReal) (γ := EReal) (x0 (ix3 (0 : Fin 1) R C))
          (HMul.hMul (α := EReal) (β := EReal) (γ := EReal) (x1 (ix3 (0 : Fin 1) (0 : Fin 1) C))
            (∑ k : Fin 6144, (val_main_v30 (F := Ideal) x2 x3 x4 x5 : Cert.ReferenceFfnIdeal.S1x16384x6144.Idx → EReal) (ix3 (0 : Fin 1) R k) * x6 (ix2 k C))) := by
  unfold val_main_v35
  refine (cast_drop 16384 4096 _ _ R C).trans ?_
  rw [val_main_v34_apply, val_main_v33_apply, val_main_v32_apply, val_main_v31_apply]
  refine congrArg (HAdd.hAdd (α := EReal) (β := EReal) (γ := EReal) _) (congr (congrArg HMul.hMul (congrArg x1 (eq_ix3 _))) ?_)
  exact Finset.sum_congr rfl fun k _ => congr (congrArg HMul.hMul (congrArg _ (eq_ix3 _))) (congrArg x6 (eq_ix2 _))

end reference

variable (m : (ℓ : Loc nD τ sig) → Buf (Elt Ideal) ℓ) (ρ : Dev nD → PrngReg)

/-- The second argument on a device. -/
abbrev hid (c : Dev nD) : FVec Ideal S1x16384x4096 .f32 := m (c, Proc.tc.devRef main_arg2)
/-- The widening weights on a device. -/
abbrev wUp (c : Dev nD) : FVec Ideal S4096x12288 .f32 := m (c, Proc.tc.devRef main_arg3)

/-- The first call's rows are the gate's at the tiles' edges. -/
theorem edge_eq (c : Dev nD) (i : Fin 16) (e : Fin 2) (C : Fin 6144) (s : Fin 32) (hs : s.val = 2 * i.val + e.val) (R : Fin 16384)
    (hR : R.val = 1024 * i.val + edgeRow e.val) (D : Fin 12288) (hD : D.val = C.val) :
    (W3 m ρ c main_v17 : S32x6144.Idx → EReal) (ix2 s C) = wide (hid m c) (wUp m c) R D := by
  have hN : cfg0.N = 6 := by decide
  have hCl := C.isLt
  refine (congrFun (W3_v17 m ρ c) (ix2 s C)).trans ?_
  obtain ⟨t, ht⟩ : ∃ t : Fin cfg0.N, t.val = C.val / 1024 := ⟨⟨C.val / 1024, by omega⟩, rfl⟩
  have hC : C.val = 1024 * t.val + (⟨C.val % 1024, by omega⟩ : Fin 1024).val := by show C.val = 1024 * t.val + C.val % 1024; omega
  generalize (⟨C.val % 1024, by omega⟩ : Fin 1024) = d at hC
  refine (r0_final (V2 m ρ) c t s d C hC).trans ((out0_2_apply _ _ s d).trans ?_)
  have h0 : ∀ k : Fin 4096, (iblk0 (V2 m ρ) c 0 t : S32x4096.Idx → EReal) (ix2 s k) = hid m c (ix3 (0 : Fin 1) R k) :=
    fun k => (r0_blk0 (V2 m ρ) c t s k).trans (V2_v16 m ρ c i e k s hs R hR)
  have h1 : ∀ k : Fin 4096, (iblk0 (V2 m ρ) c 1 t : S1x4096x1024.Idx → EReal) (ix3 (0 : Fin 1) k d) = wUp m c (ix2 k D) :=
    fun k => (r0_blk1 (V2 m ρ) c t (0 : Fin 1) k d D (by rw [hD]; exact hC)).trans ((congrFun ((W2_v1 m ρ c).trans (W1_v1 m ρ c)) (ix3 (0 : Fin 1) k D)).trans
      (bcast_lead 4096 12288 _ _ (by decide) (by decide) (0 : Fin 1) k D))
  exact Finset.sum_congr rfl fun k _ => congr (congrArg HMul.hMul (h0 k)) (h1 k)

/-- The second call's result is the reference's gated half. -/
theorem act_eq (c : Dev nD) (R : Fin 16384) (C : Fin 6144) :
    ((dat1 (V4 m ρ) c).arrAt 6 cfg1.N : S16384x6144.Idx → EReal) (ix2 R C)
      = (val_main_v30 (F := Ideal) (m (c, Proc.tc.devRef main_arg2)) (m (c, Proc.tc.devRef main_arg3)) (m (c, Proc.tc.devRef main_arg4))
          (m (c, Proc.tc.devRef main_arg5)) : Cert.ReferenceFfnIdeal.S1x16384x6144.Idx → EReal) (ix3 (0 : Fin 1) R C) := by
  have hN : cfg1.N = 192 := by decide
  have hRl := R.isLt
  have hCl := C.isLt
  obtain ⟨t, ht⟩ : ∃ t : Fin cfg1.N, t.val = 12 * (R.val / 1024) + C.val / 512 := ⟨⟨12 * (R.val / 1024) + C.val / 512, by omega⟩, rfl⟩
  have hR : R.val = 1024 * (t.val / 12) + (⟨R.val % 1024, by omega⟩ : Fin 1024).val := by show R.val = 1024 * (t.val / 12) + R.val % 1024; omega
  have hC : C.val = 512 * (t.val % 12) + (⟨C.val % 512, by omega⟩ : Fin 512).val := by show C.val = 512 * (t.val % 12) + C.val % 512; omega
  generalize (⟨R.val % 1024, by omega⟩ : Fin 1024) = r at hR
  generalize (⟨C.val % 512, by omega⟩ : Fin 512) = d at hC
  have hrl := r.isLt
  obtain ⟨i, hi⟩ : ∃ i : Fin 16, i.val = t.val / 12 := ⟨⟨t.val / 12, by omega⟩, rfl⟩
  have hx : ∀ (r' : Fin 1024) (R' : Fin 16384), R'.val = 1024 * (t.val / 12) + r'.val → ∀ k : Fin 4096,
      (iblk1 (V4 m ρ) c 0 t : S1024x4096.Idx → EReal) (ix2 r' k) = hid m c (ix3 (0 : Fin 1) R' k) :=
    fun r' R' hR' k => (r1_blk0 (V4 m ρ) c t r' k R' hR').trans ((congrFun ((W4_v6 m ρ c).trans (W1_v6 m ρ c)) (ix2 R' k)).trans (cast_drop 16384 4096 _ _ R' k))
  have hw : ∀ (k : Fin 4096) (D : Fin 12288), (V4 m ρ c main_v1 : S1x4096x12288.Idx → EReal) (ix3 (0 : Fin 1) k D) = wUp m c (ix2 k D) :=
    fun k D => (congrFun ((W4_v1 m ρ c).trans (W1_v1 m ρ c)) (ix3 (0 : Fin 1) k D)).trans (bcast_lead 4096 12288 _ _ (by decide) (by decide) (0 : Fin 1) k D)
  have hg : ∀ k : Fin 4096, (iblk1 (V4 m ρ) c 1 t : S1x4096x512.Idx → EReal) (ix3 (0 : Fin 1) k d) = wUp m c (ix2 k (⟨C.val, by omega⟩ : Fin 12288)) :=
    fun k => (r1_blk1 (V4 m ρ) c t (0 : Fin 1) k d ⟨C.val, by omega⟩ hC).trans (hw k _)
  have hv : ∀ k : Fin 4096, (iblk1 (V4 m ρ) c 2 t : S1x4096x512.Idx → EReal) (ix3 (0 : Fin 1) k d) = wUp m c (ix2 k (⟨6144 + C.val, by omega⟩ : Fin 12288)) :=
    fun k => (r1_blk2 (V4 m ρ) c t (0 : Fin 1) k d ⟨6144 + C.val, by omega⟩ (by show 6144 + C.val = _; omega)).trans (hw k _)
  have hsum : ∀ (r' : Fin 1024) (R' : Fin 16384), R'.val = 1024 * (t.val / 12) + r'.val →
      (∑ k : Fin 4096, HMul.hMul (α := EReal) (β := EReal) (γ := EReal) ((iblk1 (V4 m ρ) c 0 t : S1024x4096.Idx → EReal) (ix2 r' k))
        ((iblk1 (V4 m ρ) c 1 t : S1x4096x512.Idx → EReal) (ix3 (0 : Fin 1) k d))) = wide (hid m c) (wUp m c) R' ⟨C.val, by omega⟩ :=
    fun r' R' hR' => Finset.sum_congr rfl fun k _ => congr (congrArg HMul.hMul (hx r' R' hR' k)) (hg k)
  have hhalo : ∀ e : Fin 2, (iblk1 (V4 m ρ) c 3 t : S1x2x512.Idx → EReal) (ix3 (0 : Fin 1) e d) = (V4 m ρ c main_v28 : S16x2x6144.Idx → EReal) (ix3 i e C) :=
    fun e => r1_blk3 (V4 m ρ) c t (0 : Fin 1) e d i hi C hC
  have hcw : ∀ e : Fin 3, (iblk1 (V4 m ρ) c 4 t : S3x512.Idx → EReal) (ix2 e d) = (m (c, Proc.tc.devRef main_arg4) : S3x6144.Idx → EReal) (ix2 e C) :=
    fun e => (r1_blk4 (V4 m ρ) c t e d C hC).trans (congrFun (W4_args m ρ c main_arg4 (by decide)) _)
  have hcb : (iblk1 (V4 m ρ) c 5 t : S1x512.Idx → EReal) (ix2 (0 : Fin 1) d) = (m (c, Proc.tc.devRef main_arg5) : S6144.Idx → EReal) (ix1 C) := by
    refine (r1_blk5 (V4 m ρ) c t (0 : Fin 1) d C hC).trans ((congrFun ((W4_v4 m ρ c).trans (W1_v4 m ρ c)) (ix2 (0 : Fin 1) C)).trans ?_)
    refine shapeCast_apply _ _ (ix2 (0 : Fin 1) C) (ix1 C) ?_
    rw [Shape.rowMajor_val_two, Shape.rowMajor_val_one]
    show C.val = 0 * 6144 + C.val
    omega
  rw [r1_final (V4 m ρ) c t r d R hR C hC, ref_act _ _ _ _ R C ⟨6144 + C.val, by omega⟩ rfl]
  refine (out1_6_apply _ _ _ _ _ _ r d (padded (hid m c) (wUp m c) R.val C) (padded (hid m c) (wUp m c) (R.val + 2) C) ?_ ?_ ?_ ?_
    (conv (hid m c) (wUp m c) (m (c, Proc.tc.devRef main_arg4)) (m (c, Proc.tc.devRef main_arg5)) R C) ?_).trans ?_
  · intro h0
    refine Eq.trans ?_ ((hhalo 0).trans (V4_v28 m ρ c i C).1).symm
    by_cases hz : i.val = 0
    · have ei : i = 0 := Fin.ext hz
      rw [ei, above_zero]
      exact padded_out _ _ _ _ (Or.inl (by omega))
    · rw [above_succ (W3 m ρ c main_v17) i ⟨i.val - 1, by omega⟩ (by show i.val - 1 + 1 = i.val; omega) C ⟨2 * (i.val - 1) + 1, by omega⟩ rfl]
      refine Eq.trans ?_ (edge_eq m ρ c ⟨i.val - 1, by omega⟩ 1 C _ rfl ⟨R.val - 1, by omega⟩
        (by show R.val - 1 = 1024 * (i.val - 1) + 1023 * 1; omega) ⟨C.val, by omega⟩ rfl).symm
      exact padded_in _ _ _ _ _ _ (by show R.val = R.val - 1 + 1; omega) rfl
  · intro r' h
    refine Eq.trans ?_ (hsum r' ⟨R.val - 1, by omega⟩ (by show R.val - 1 = _; omega)).symm
    exact padded_in _ _ _ _ _ _ (by show R.val = R.val - 1 + 1; omega) rfl
  · intro h1
    refine Eq.trans ?_ ((hhalo 1).trans (V4_v28 m ρ c i C).2).symm
    by_cases hz : i.val = 15
    · have ei : i = 15 := Fin.ext hz
      rw [ei, below_last]
      exact padded_out _ _ _ _ (Or.inr (by omega))
    · have hil := i.isLt
      rw [below_lt (W3 m ρ c main_v17) i ⟨i.val + 1, by omega⟩ rfl C ⟨2 * (i.val + 1), by omega⟩ rfl]
      refine Eq.trans ?_ (edge_eq m ρ c ⟨i.val + 1, by omega⟩ 0 C _ rfl ⟨R.val + 1, by omega⟩
        (by show R.val + 1 = 1024 * (i.val + 1) + 1023 * 0; omega) ⟨C.val, by omega⟩ rfl).symm
      exact padded_in _ _ _ _ _ _ rfl rfl
  · intro r' h
    have hr' := r'.isLt
    refine Eq.trans ?_ (hsum r' ⟨R.val + 1, by omega⟩ (by show R.val + 1 = _; omega)).symm
    exact padded_in _ _ _ _ _ _ rfl rfl
  · exact (congr (congrArg HAdd.hAdd (congr (congrArg HAdd.hAdd (congr (congrArg HAdd.hAdd (congrArg (HMul.hMul (α := EReal) (β := EReal) (γ := EReal) _) (hcw 0)))
      (congr (congrArg HMul.hMul ((hsum r R hR).trans (padded_in _ _ _ C _ _ rfl rfl).symm)) (hcw 1))))
      (congrArg (HMul.hMul (α := EReal) (β := EReal) (γ := EReal) _) (hcw 2)))) hcb).symm
  · exact congrArg (HMul.hMul (α := EReal) (β := EReal) (γ := EReal) _)
      (Finset.sum_congr rfl fun k _ => congr (congrArg HMul.hMul (hx r R hR k)) (hv k))

/-- The third call's result is the reference's. -/
theorem result_at (c : Dev nD) (R : Fin 16384) (C : Fin 4096) : ((dat2 (V6 m ρ) c).arrAt 4 cfg2.N : S16384x4096.Idx → EReal) (ix2 R C)
      = (val_main_v35 (F := Ideal) (m (c, Proc.tc.devRef main_arg0)) (m (c, Proc.tc.devRef main_arg1)) (m (c, Proc.tc.devRef main_arg2))
          (m (c, Proc.tc.devRef main_arg3)) (m (c, Proc.tc.devRef main_arg4))
          (m (c, Proc.tc.devRef main_arg5)) (m (c, Proc.tc.devRef main_arg6)) : S16384x4096.Idx → EReal) (ix2 R C) := by
  have hN : cfg2.N = 128 := by decide
  have hRl := R.isLt
  have hCl := C.isLt
  obtain ⟨t, ht⟩ : ∃ t : Fin cfg2.N, t.val = 8 * (R.val / 1024) + C.val / 512 := ⟨⟨8 * (R.val / 1024) + C.val / 512, by omega⟩, rfl⟩
  have hR : R.val = 1024 * (t.val / 8) + (⟨R.val % 1024, by omega⟩ : Fin 1024).val := by show R.val = 1024 * (t.val / 8) + R.val % 1024; omega
  have hC : C.val = 512 * (t.val % 8) + (⟨C.val % 512, by omega⟩ : Fin 512).val := by show C.val = 512 * (t.val % 8) + C.val % 512; omega
  generalize (⟨R.val % 1024, by omega⟩ : Fin 1024) = r at hR
  generalize (⟨C.val % 512, by omega⟩ : Fin 512) = d at hC
  rw [r2_final (V6 m ρ) c t r d R hR C hC, out2_4_apply, ref_result]
  have h0 : ∀ k : Fin 6144, (iblk2 (V6 m ρ) c 0 t : S1024x6144.Idx → EReal) (ix2 r k) = _ :=
    fun k => (r2_blk0 (V6 m ρ) c t r k R hR).trans ((congrFun (W6_v29 m ρ c) (ix2 R k)).trans (act_eq m ρ c R k))
  have h1 : ∀ k : Fin 6144, (iblk2 (V6 m ρ) c 1 t : S1x6144x512.Idx → EReal) (ix3 (0 : Fin 1) k d) = (m (c, Proc.tc.devRef main_arg6) : S6144x4096.Idx → EReal) (ix2 k C) :=
    fun k => (r2_blk1 (V6 m ρ) c t (0 : Fin 1) k d C hC).trans ((congrFun ((W6_v3 m ρ c).trans (W1_v3 m ρ c)) (ix3 (0 : Fin 1) k C)).trans
      (bcast_lead 6144 4096 _ _ (by decide) (by decide) (0 : Fin 1) k C))
  have h2 : (iblk2 (V6 m ρ) c 2 t : S1024x512.Idx → EReal) (ix2 r d) = (m (c, Proc.tc.devRef main_arg0) : S1x16384x4096.Idx → EReal) (ix3 (0 : Fin 1) R C) := by
    refine (r2_blk2 (V6 m ρ) c t r d R hR C hC).trans ((congrFun (W6_v30 m ρ c) (ix2 R C)).trans ((cast_drop 16384 4096 _ _ R C).trans ?_))
    exact congrFun (W5_args m ρ c main_arg0 (by decide)) _
  have h3 : (iblk2 (V6 m ρ) c 3 t : S1x512.Idx → EReal) (ix2 (0 : Fin 1) d) = (m (c, Proc.tc.devRef main_arg1) : S1x1x4096.Idx → EReal) (ix3 (0 : Fin 1) (0 : Fin 1) C) := by
    refine (r2_blk3 (V6 m ρ) c t (0 : Fin 1) d C hC).trans ((congrFun (W6_v32 m ρ c) (ix2 (0 : Fin 1) C)).trans ?_)
    refine (shapeCast_apply _ _ (ix2 (0 : Fin 1) C) (ix1 C) ?_).trans ((shapeCast_apply _ _ (ix1 C) (ix3 (0 : Fin 1) (0 : Fin 1) C) ?_).trans ?_)
    · rw [Shape.rowMajor_val_two, Shape.rowMajor_val_one]
      show C.val = 0 * 4096 + C.val
      omega
    · rw [Shape.rowMajor_val_one, Shape.rowMajor_val_three]
      show (0 * 1 + 0) * 4096 + C.val = C.val
      omega
    exact congrFun (W5_args m ρ c main_arg1 (by decide)) _
  exact congr (congrArg HAdd.hAdd h2) (congr (congrArg HMul.hMul h3) (Finset.sum_congr rfl fun k _ => congr (congrArg HMul.hMul (h0 k)) (h1 k)))

/-- The same as arrays. -/
theorem result_eq (c : Dev nD) : (dat2 (V6 m ρ) c).arrAt 4 cfg2.N
      = val_main_v35 (F := Ideal) (m (c, Proc.tc.devRef main_arg0)) (m (c, Proc.tc.devRef main_arg1)) (m (c, Proc.tc.devRef main_arg2))
          (m (c, Proc.tc.devRef main_arg3)) (m (c, Proc.tc.devRef main_arg4))
          (m (c, Proc.tc.devRef main_arg5)) (m (c, Proc.tc.devRef main_arg6)) :=
  same2 _ _ (result_at m ρ c)

end Cert.KernelFfnIdeal.Gen

end
-- ==== Proof.FfnClaim.lean ====
module

public import proofs.«01_k».proof.Proof.FfnFrame
public import proofs.«01_k».proof.Proof.FfnRun
public import proofs.«01_k».proof.Proof.FfnEq

@[expose] public section
set_option maxRecDepth 16384
noncomputable section

/-! The channel mixer computes its reference. -/

namespace Cert.Proof.Ffn
open Idealize.ShloMosaic Idealize.ShloMosaic.TcCoe Idealize.SL.Sem
open Cert.KernelFfnIdeal Cert.KernelFfnIdeal.Gen

/-- The kernel's result is the reference's over the extended reals. -/
theorem algebraic : Cert.algebraic_KernelFfnIdeal_ReferenceFfnIdeal := by
  intro m ρ m' ρ' _ hagree
  refine ⟨fun c => (dat2 (V6 m ρ) c).arrAt 4 cfg2.N, ?_, ?_⟩
  · exact (θ_run Cert.KernelFfnIdeal.defs _ _).mono (fun r h c => ⟨(h c main_v33 (by decide)).trans (W7_arr m ρ c 4),
      (h c main_arg0 (by decide)).trans (W7_main_arg0 m ρ c),
      (h c main_arg1 (by decide)).trans (W7_main_arg1 m ρ c),
      (h c main_arg2 (by decide)).trans (W7_main_arg2 m ρ c),
      (h c main_arg3 (by decide)).trans (W7_main_arg3 m ρ c),
      (h c main_arg4 (by decide)).trans (W7_main_arg4 m ρ c),
      (h c main_arg5 (by decide)).trans (W7_main_arg5 m ρ c),
      (h c main_arg6 (by decide)).trans (W7_main_arg6 m ρ c)⟩)
      (run_all (F := Ideal) m ρ)
  · refine (θ_run Cert.ReferenceFfnIdeal.defs _ _).mono (fun r h c => ⟨(h c).1.trans ?_, (h c).2⟩) (Cert.ReferenceFfnIdeal.Value.run (F := Ideal) m' ρ')
    rw [Cert.ReferenceFfnIdeal.Read.val_main_v35_eq]
    obtain ⟨e0, e1, e2, e3, e4, e5, e6⟩ := hagree c
    rw [e0, e1, e2, e3, e4, e5, e6]
    exact (result_eq m ρ c).symm

end Cert.Proof.Ffn

end
-- ==== Proof.RmsNorm.lean ====
module

public import proofs.«01_k».proof.Proof.Tiles
public import Idealize.ShloMosaic.PureOps.Ideal.Laws

@[expose] public section
noncomputable section

/-! The root-mean-square normalization of a row. -/

namespace Cert.Tiles
open Idealize.ShloMosaic Idealize.ShloMosaic.ValueIdx

/-- One entry of a normalized row: the entry over the root of the row's mean square and a small number, by its weight. -/
def rms (W : ℕ) (n : BitVec 32) (x : Fin W → EReal) (g : EReal) (d : Fin W) : EReal :=
  x d * Ideal.rsqrt (Ideal.div (∑ k : Fin W, x k * x k) (Ideal.ofBits .f32 n) + Ideal.ofBits .f32 0x358637BD#32) * g

/-- The normalization as the calls spell it, at a row and a column. -/
theorem rms_apply (M W : ℕ) (hM : M ≠ 1) (hW : W ≠ 1) (n : BitVec 32) (x : FVec Ideal ⟨2, ![M, W]⟩ .f32) (g : FVec Ideal ⟨2, ![1, W]⟩ .f32)
    (hr : (⟨2, ![M, W]⟩ : Shape).Reduces [1] ⟨1, ![M]⟩) (hc : (⟨1, ![M]⟩ : Shape).ShapeCasts ⟨2, ![M, 1]⟩)
    (hb : (⟨2, ![M, 1]⟩ : Shape).Broadcasts ⟨2, ![M, W]⟩) (hg : (⟨2, ![1, W]⟩ : Shape).ShapeCasts ⟨2, ![1, W]⟩)
    (hbg : (⟨2, ![1, W]⟩ : Shape).Broadcasts ⟨2, ![M, W]⟩) (r : Fin M) (d : Fin W) :
    (mulf (mulf x (broadcastTo ⟨2, ![M, W]⟩ (rsqrt (addf (divf (shapeCast ⟨2, ![M, 1]⟩
        (multiReduction .add [1] ⟨1, ![M]⟩ (mulf x x) 0x00000000#32 hr (.inl rfl) rfl) hc)
        (broadcast ⟨2, ![M, 1]⟩ (Scalar.ofBits (F := Ideal) .f32 n))) (broadcast ⟨2, ![M, 1]⟩ (Scalar.ofBits (F := Ideal) .f32 0x358637BD#32)))) hb))
        (broadcastTo ⟨2, ![M, W]⟩ (shapeCast ⟨2, ![1, W]⟩ g hg) hbg) : FVec Ideal ⟨2, ![M, W]⟩ .f32) (ix2 r d)
      = rms W n (fun k => x (ix2 r k)) (g (ix2 (0 : Fin 1) d)) d := by
  have hsum : (multiReduction .add [1] ⟨1, ![M]⟩ (mulf x x) 0x00000000#32 hr (.inl rfl) rfl : FVec Ideal ⟨1, ![M]⟩ .f32) (ix1 r)
      = ∑ k : Fin W, x (ix2 r k) * x (ix2 r k) := by
    refine (Ideal.multiReduction_add_single _ _ _ _ _ _).trans ?_
    refine Finset.sum_congr rfl fun k _ => ?_
    have e : hr.lift (ix1 r) k = ix2 r k := by
      funext a
      match a with
      | ⟨0, _⟩ => rfl
      | ⟨1, _⟩ => rfl
    rw [e]
    rfl
  unfold rms
  refine congr (congrArg HMul.hMul (congrArg (HMul.hMul (α := EReal) (β := EReal) (γ := EReal) (x (ix2 r d))) ?_)) ?_
  · refine (broadcastTo_apply _ hb (ix2 r d) (ix2 r (0 : Fin 1)) fun a => ?_).trans ?_
    · match a with
      | ⟨0, _⟩ => show r.val = if M = 1 then 0 else r.val; rw [if_neg hM]
      | ⟨1, _⟩ => rfl
    refine congrArg (fun s : EReal => Ideal.rsqrt (Ideal.div s (Ideal.ofBits .f32 n) + Ideal.ofBits .f32 0x358637BD#32)) ?_
    refine (shapeCast_apply _ hc (ix2 r (0 : Fin 1)) (ix1 r) ?_).trans hsum
    rw [Shape.rowMajor_val_two, Shape.rowMajor_val_one]
    show r.val = r.val * 1 + 0
    omega
  · refine (broadcastTo_apply _ hbg (ix2 r d) (ix2 (0 : Fin 1) d) fun a => ?_).trans (congrFun (cast_same g hg) _)
    match a with
    | ⟨0, _⟩ => rfl
    | ⟨1, _⟩ => show d.val = if W = 1 then 0 else d.val; rw [if_neg hW]

end Cert.Tiles

end
-- ==== Proof.NaQkBlocks.lean ====
module

public import proofs.«01_k».proof.Proof.Gen.KernelNaQkIdeal.Frame
public import proofs.«01_k».proof.Proof.RmsNorm
public import Idealize.ShloMosaic.Lib.StableHlo.RunRead

@[expose] public section
set_option maxRecDepth 16384
noncomputable section

/-! The queries' and keys' projection's windows and its result, read at coordinates. -/

namespace Cert.KernelNaQkIdeal.Gen
open Idealize.ShloMosaic Idealize.ShloMosaic.TcCoe Idealize.ShloMosaic.Tactic Idealize.SL.Sem Idealize.ShloMosaic.StableHlo
open Idealize.ShloMosaic.Pipeline (Dat)
open Idealize.ShloMosaic.ValueIdx Cert.Tiles

theorem tr_0 : ∀ t : Fin cfg0.N, cc0_transform_0 (grid0.coords t) 0 = t.val / 4 ∧ cc0_transform_0 (grid0.coords t) 1 = 0 := by decide +kernel
theorem tr_1 : ∀ t : Fin cfg0.N, cc0_transform_1 (grid0.coords t) 0 = 0 ∧ cc0_transform_1 (grid0.coords t) 1 = 0 ∧ cc0_transform_1 (grid0.coords t) 2 = t.val % 4 := by decide +kernel
theorem tr_2 : ∀ t : Fin cfg0.N, cc0_transform_2 (grid0.coords t) 0 = 0 ∧ cc0_transform_2 (grid0.coords t) 1 = t.val % 4 := by decide +kernel
theorem tr_3 : ∀ t : Fin cfg0.N, cc0_transform_3 (grid0.coords t) 0 = t.val / 4 ∧ cc0_transform_3 (grid0.coords t) 1 = t.val % 4 := by decide +kernel

variable (m : (ℓ : Loc nD τ sig) → Buf (Elt Ideal) ℓ)

/-- The activations the region finds: the argument without its leading axis. -/
theorem V_h (c : Dev nD) : V m c main_v1 = shapeCast S16384x4096 (m (c, Proc.tc.devRef main_arg0) : FVec Ideal S1x16384x4096 .f32)
    shapeCasts_S1x16384x4096_S16384x4096 := by
  after_reads_simp
  rfl

/-- The weights the region finds: the argument behind a leading axis of one. -/
theorem V_w (c : Dev nD) : V m c main_v3 = broadcastInDim S1x4096x16448 ![1, 2] bcast_S4096x16448_S1x4096x16448_1_2
    (m (c, Proc.tc.devRef main_arg1) : FVec Ideal S4096x16448 .f32) := by
  after_reads_simp
  rfl

/-- The norms' weights the region finds: the queries' repeated for each head, then the keys'. -/
theorem V_g (c : Dev nD) : V m c main_v11 = shapeCast S1x4096 (concatenate S4096 0
    [⟨S2048, shapeCast S2048 (broadcastInDim S16x128 ![0, 1] bcast_S1x128_S16x128_0_1 (shapeCast S1x128 (m (c, Proc.tc.devRef main_arg2) : FVec Ideal S128 .f32) shapeCasts_S128_S1x128)) shapeCasts_S16x128_S2048⟩,
     ⟨S2048, shapeCast S2048 (broadcastInDim S16x128 ![0, 1] bcast_S1x128_S16x128_0_1 (shapeCast S1x128 (m (c, Proc.tc.devRef main_arg3) : FVec Ideal S128 .f32) shapeCasts_S128_S1x128)) shapeCasts_S16x128_S2048⟩]
    concatenates_S2048_S2048_S4096_d0) shapeCasts_S4096_S1x4096 := by
  after_reads_simp
  rfl

/-- One norm's weight repeated for each head. -/
theorem tiled (x : FVec Ideal S128 .f32) (D : Fin 2048) (e : Fin 128) (he : e.val = D.val % 128) :
    (shapeCast S2048 (broadcastInDim S16x128 ![0, 1] bcast_S1x128_S16x128_0_1 (shapeCast S1x128 x shapeCasts_S128_S1x128)) shapeCasts_S16x128_S2048 : FVec Ideal S2048 .f32) (ix1 D)
      = x (ix1 e) := by
  have hD := D.isLt
  refine (shapeCast_apply _ _ (ix1 D) (ix2 (⟨D.val / 128, by omega⟩ : Fin 16) e) ?_).trans ?_
  · rw [Shape.rowMajor_val_two, Shape.rowMajor_val_one]
    show D.val / 128 * 128 + e.val = D.val
    omega
  refine (broadcastInDim_apply _ _ _ _ (ix2 (0 : Fin 1) e) fun a => ?_).trans (shapeCast_apply _ _ (ix2 (0 : Fin 1) e) (ix1 e) ?_)
  · match a with
    | ⟨0, _⟩ => rfl
    | ⟨1, _⟩ => rfl
  · rw [Shape.rowMajor_val_two, Shape.rowMajor_val_one]
    show e.val = 0 * 128 + e.val
    omega

/-- The weight of a column: the queries' norm's on the first half. -/
theorem g_q (c : Dev nD) (C : Fin 4096) (e : Fin 128) (he : e.val = C.val % 128) (hC : C.val < 2048) :
    (V m c main_v11 : S1x4096.Idx → EReal) (ix2 (0 : Fin 1) C) = (m (c, Proc.tc.devRef main_arg2) : S128.Idx → EReal) (ix1 e) := by
  refine (congrFun (V_g m c) _).trans ((shapeCast_apply _ _ (ix2 (0 : Fin 1) C) (ix1 C) ?_).trans ?_)
  · rw [Shape.rowMajor_val_two, Shape.rowMajor_val_one]
    show C.val = 0 * 4096 + C.val
    omega
  refine (concatenate_pair_apply_left (t := S4096) (s₁ := S2048) (s₂ := S2048) (0 : Fin 1) _ _ _ (ix1 C) rfl (ix1 (⟨C.val, hC⟩ : Fin 2048)) fun x => ?_).trans
    (tiled _ ⟨C.val, hC⟩ e he)
  match x with
  | ⟨0, _⟩ => rfl

/-- The weight of a column: the keys' norm's on the second half. -/
theorem g_k (c : Dev nD) (C : Fin 4096) (e : Fin 128) (he : e.val = C.val % 128) (hC : 2048 ≤ C.val) :
    (V m c main_v11 : S1x4096.Idx → EReal) (ix2 (0 : Fin 1) C) = (m (c, Proc.tc.devRef main_arg3) : S128.Idx → EReal) (ix1 e) := by
  have hCl := C.isLt
  refine (congrFun (V_g m c) _).trans ((shapeCast_apply _ _ (ix2 (0 : Fin 1) C) (ix1 C) ?_).trans ?_)
  · rw [Shape.rowMajor_val_two, Shape.rowMajor_val_one]
    show C.val = 0 * 4096 + C.val
    omega
  refine (concatenate_pair_apply_right (t := S4096) (s₁ := S2048) (s₂ := S2048) (0 : Fin 1) _ _ _ (ix1 C) rfl rfl (ix1 (⟨C.val - 2048, by omega⟩ : Fin 2048)) (fun x hx => ?_) ?_).trans
    (tiled _ ⟨C.val - 2048, by omega⟩ e (by show e.val = (C.val - 2048) % 128; omega))
  · match x with
    | ⟨0, _⟩ => exact absurd rfl hx
  · show C.val - 2048 + 2048 = C.val
    omega

/-- A block of the activations, at a row and a column. -/
theorem blk0 (c : Dev nD) (t : Fin cfg0.N) (r : Fin 1024) (k : Fin 4096) (R : Fin 16384) (hR : R.val = 1024 * (t.val / 4) + r.val) :
    (iblk m c 0 t : S1024x4096.Idx → EReal) (ix2 r k) = (m (c, Proc.tc.devRef main_arg0) : S1x16384x4096.Idx → EReal) (ix3 (0 : Fin 1) R k) := by
  have h : (iblk m c 0 t : S1024x4096.Idx → EReal) (ix2 r k) = (V m c main_v1 : S16384x4096.Idx → EReal) (ix2 R k) := by
    show (V m c main_v1 : S16384x4096.Idx → EReal) (((cfg0.win 0).rect t).emb (ix2 r k)) = _
    congr 1
    funext a
    refine Fin.ext ((Pipeline.Window.rect_emb_val_off (cfg0.win 0) t (ix2 r k) a).trans ?_)
    match a with
    | ⟨0, _⟩ => show cc0_transform_0 (grid0.coords t) 0 * 1024 + r.val = R.val; rw [(tr_0 t).1]; omega
    | ⟨1, _⟩ => show cc0_transform_0 (grid0.coords t) 1 * 4096 + k.val = k.val; rw [(tr_0 t).2]; omega
  exact h.trans ((congrFun (V_h m c) (ix2 R k)).trans (cast_drop 16384 4096 _ _ R k))

/-- A block of the weights, at a row and a column. -/
theorem blk1 (c : Dev nD) (t : Fin cfg0.N) (k : Fin 4096) (d : Fin 1024) (C : Fin 16448) (hC : C.val = 1024 * (t.val % 4) + d.val) :
    (X0_1 m c t : S1x4096x1024.Idx → EReal) (ix3 (0 : Fin 1) k d) = (m (c, Proc.tc.devRef main_arg1) : S4096x16448.Idx → EReal) (ix2 k C) := by
  have h : (X0_1 m c t : S1x4096x1024.Idx → EReal) (ix3 (0 : Fin 1) k d) = (V m c main_v3 : S1x4096x16448.Idx → EReal) (ix3 (0 : Fin 1) k C) := by
    have e := moved0_1 t (ix3 (0 : Fin 1) k d : S1x4096x1024.Idx)
    unfold X0_1 Pipeline.Window.fill
    refine (dif_pos e).trans ?_
    refine (Eq.refl ((V m c main_v3 : S1x4096x16448.Idx → EReal) (((cfg0.win 1).rect t).emb _))).trans (congrArg _ ?_)
    funext a
    refine Fin.ext ((Pipeline.Window.rect_emb_val_off (cfg0.win 1) t _ a).trans ?_)
    match a with
    | ⟨0, _⟩ => show cc0_transform_1 (grid0.coords t) 0 * 1 + 0 = 0; rw [(tr_1 t).1]
    | ⟨1, _⟩ => show cc0_transform_1 (grid0.coords t) 1 * 4096 + k.val = k.val; rw [(tr_1 t).2.1]; omega
    | ⟨2, _⟩ => show cc0_transform_1 (grid0.coords t) 2 * 1024 + d.val = C.val; rw [(tr_1 t).2.2]; omega
  exact h.trans ((congrFun (V_w m c) (ix3 (0 : Fin 1) k C)).trans (bcast_lead 4096 16448 _ _ (by decide) (by decide) (0 : Fin 1) k C))

/-- The norms' block, at a column. -/
theorem blk2 (c : Dev nD) (t : Fin cfg0.N) (d : Fin 1024) (C : Fin 4096) (hC : C.val = 1024 * (t.val % 4) + d.val) :
    (iblk m c 2 t : S1x1024.Idx → EReal) (ix2 (0 : Fin 1) d) = (V m c main_v11 : S1x4096.Idx → EReal) (ix2 (0 : Fin 1) C) := by
  show (V m c main_v11 : S1x4096.Idx → EReal) (((cfg0.win 2).rect t).emb (ix2 (0 : Fin 1) d)) = _
  congr 1
  funext a
  refine Fin.ext ((Pipeline.Window.rect_emb_val_off (cfg0.win 2) t (ix2 (0 : Fin 1) d) a).trans ?_)
  match a with
  | ⟨0, _⟩ => show cc0_transform_2 (grid0.coords t) 0 * 1 + 0 = 0; rw [(tr_2 t).1]
  | ⟨1, _⟩ => show cc0_transform_2 (grid0.coords t) 1 * 1024 + d.val = C.val; rw [(tr_2 t).2]; omega

/-- What the body leaves at a row and a column, from the product and the weights: the row's part at the column's head, normalized. -/
def headed (v : S1024x1024.Idx → EReal) (x2 : S1x1024.Idx → EReal) (r d : Fin 1024) : EReal :=
  rms 128 0x43000000#32 (fun e => v (ix2 r (⟨128 * (d.val / 128) + e.val, by have := d.isLt; have := e.isLt; omega⟩ : Fin 1024)))
    (x2 (ix2 (0 : Fin 1) d)) ⟨d.val % 128, Nat.mod_lt _ (by decide)⟩

/-- One head's stored piece, at the place where it lies. -/
theorem head_at (q : ℕ) (hq : q < 8) (o : ℕ) (ho : o = 128 * q) (v : FVec Ideal S1024x1024 .f32) (x2 : S1x1024.Idx → EReal) (g : FVec Ideal S1x128 .f32)
    (hs : S1024x1024.Slices ![0, o] S1024x128) (hg : ∀ (e : Fin 128) (D : Fin 1024), D.val = o + e.val → g (ix2 (0 : Fin 1) e) = x2 (ix2 (0 : Fin 1) D))
    (hr : S1024x128.Reduces [1] S1024) (hc : S1024.ShapeCasts S1024x1) (hb : S1024x1.Broadcasts S1024x128) (hgc : S1x128.ShapeCasts S1x128)
    (hbg : S1x128.Broadcasts S1024x128) (r : Fin 1024) (e : Fin 128) (D : Fin 1024) (hD : D.val = o + e.val) :
    (mulf (mulf (extractStridedSlice S1024x128 ![0, o] v hs) (broadcastTo S1024x128 (rsqrt (addf (divf (shapeCast S1024x1
        (multiReduction .add [1] S1024 (mulf (extractStridedSlice S1024x128 ![0, o] v hs) (extractStridedSlice S1024x128 ![0, o] v hs)) 0x00000000#32 hr (.inl rfl) rfl) hc)
        (broadcast S1024x1 (Scalar.ofBits (F := Ideal) .f32 0x43000000#32))) (broadcast S1024x1 (Scalar.ofBits (F := Ideal) .f32 0x358637BD#32)))) hb))
        (broadcastTo S1024x128 (shapeCast S1x128 g hgc) hbg) : FVec Ideal S1024x128 .f32) (ix2 r e) = headed v x2 r D := by
  have he := e.isLt
  refine (rms_apply 1024 128 (by decide) (by decide) 0x43000000#32 (extractStridedSlice S1024x128 ![0, o] v hs) g hr hc hb hgc hbg r e).trans ?_
  unfold headed
  refine congr (congr (congrArg (rms 128 0x43000000#32) (funext fun k => ?_)) (hg e D hD)) (Fin.ext (by show e.val = D.val % 128; omega))
  have hk := k.isLt
  refine extractStridedSlice_apply ![0, o] v hs (ix2 r k) _ fun a => ?_
  match a with
  | ⟨0, _⟩ => show r.val = 0 + r.val; omega
  | ⟨1, _⟩ => show 128 * (D.val / 128) + k.val = o + k.val; omega

/-- A head's weights as the body loads them. -/
theorem load_g (a4 : Memref sig .tc .vmem S1x1024 .f32) (h4 : a4.IsWhole) (x2 : Vec Ideal S1x1024 .f32) (o : ℕ)
    (inb : ∀ a : Fin S1x1024.rank, (![0, o] : Fin 2 → ℕ) a + S1x128.size a ≤ S1x1024.size a) (e : Fin 128) (D : Fin 1024) (hD : D.val = o + e.val) :
    (View.readAt (Elt Ideal) a4.view (Rect.unit (s := S1x1024) ![0, o] S1x128.size inb).toLoadRect (h4.unread x2) : S1x128.Idx → EReal) (ix2 (0 : Fin 1) e)
      = x2 (ix2 (0 : Fin 1) D) := by
  rw [View.readAt_eq_ld, h4.read_unread]
  refine congrArg x2 (funext fun a => Fin.ext ?_)
  match a with
  | ⟨0, _⟩ => rfl
  | ⟨1, _⟩ => show o + 1 * e.val = D.val; omega

/-- Where a piece lies. -/
theorem emb_head (o : ℕ) (inb : ∀ a : Fin S1024x1024.rank, (![0, o] : Fin 2 → ℕ) a + S1024x128.size a ≤ S1024x1024.size a) (j : S1024x128.Idx) (D : Fin 1024)
    (hD : D.val = o + (j 1).val) :
    (Rect.unit (s := S1024x1024) ![0, o] S1024x128.size inb).emb j = ix2 (j 0 : Fin 1024) D := by
  refine funext fun a => Fin.ext ?_
  rw [Rect.emb_apply]
  match a with
  | ⟨0, _⟩ => show 0 + 1 * (j 0).val = (j 0).val; omega
  | ⟨1, _⟩ => show o + 1 * (j 1).val = D.val; omega

/-- What the body leaves, from the product of its blocks. -/
theorem out_eq (c : Dev nD) (i : grid0.Coords) (a2 : Memref sig .tc .vmem S1024x4096 .bf16) (h2 : a2.IsWhole) (a3 : Memref sig .tc .vmem S1x4096x1024 .bf16)
    (h3 : a3.IsWhole) (a4 : Memref sig .tc .vmem S1x1024 .f32) (h4 : a4.IsWhole) (a5 : Memref sig .tc .vmem S1024x1024 .bf16) (h5 : a5.IsWhole)
    (x0 : Vec Ideal S1024x4096 .bf16) (x1 : Vec Ideal S1x4096x1024 .bf16) (x2 : Vec Ideal S1x1024 .f32) (y : S1024x1024.Idx) :
    out0_A_3 c i a2 h2 a3 h3 a4 h4 a5 h5 x0 x1 x2 y = headed (k0_pay3 x0 x1) x2 (y 0) (y 1) := by
  unfold out0_A_3
  rw [View.read_writes_eq_canon _ _ _ (cover0_A_3 c i a2 h2 a3 h3 a4 h4 a5 h5 x0 x1 x2)]
  refine View.canon_apply_of_pieces (G := fun y : S1024x1024.Idx => headed (k0_pay3 x0 x1) x2 (y 0) (y 1)) _ (fun p hp j => ?_) y
    (cover0_A_3 c i a2 h2 a3 h3 a4 h4 a5 h5 x0 x1 x2 y)
  unfold kernelRun0_A at hp
  dsimp only at hp
  have hl0 : View.readAt (Elt Ideal) a2.view (Rect.unit (s := S1024x4096) ![0, 0] S1024x4096.size inb_S1024x4096_S1024x4096_0_0).toLoadRect (h2.unread x0) = x0 := by
    rw [View.readAt_eq_ld, h2.read_unread, View.ld_unit_zero (S := S1024x4096) (by funext a; fin_cases a <;> rfl)]
  have hl1 : View.readAt (Elt Ideal) a3.view (Rect.unit (s := S1x4096x1024) ![0, 0, 0] S1x4096x1024.size inb_S1x4096x1024_S1x4096x1024_0_0_0).toLoadRect (h3.unread x1) = x1 := by
    rw [View.readAt_eq_ld, h3.read_unread, View.ld_unit_zero (S := S1x4096x1024) (by funext a; fin_cases a <;> rfl)]
  have hv : kernelRun0_A.sl.r c a2 h2 a3 h3 x0 x1 = k0_pay3 x0 x1 := by
    unfold kernelRun0_A.sl.r
    exact congr (congrArg k0_pay3 hl0) hl1
  sl_unfold_words
  simp only [List.mem_cons, List.mem_nil_iff, or_false] at hp
  have hlift : ∀ (o : ℕ) (inb : ∀ a : Fin S1024x1024.rank, (![0, o] : Fin 2 → ℕ) a + S1024x128.size a ≤ S1024x1024.size a) (w : FVec Ideal S1024x128 .bf16),
      (∀ (r : Fin 1024) (e : Fin 128) (D : Fin 1024), D.val = o + e.val → w (ix2 r e) = headed (k0_pay3 x0 x1) x2 r D) → o ≤ 896 → ∀ j : S1024x128.Idx,
      w j = (fun y : S1024x1024.Idx => headed (k0_pay3 x0 x1) x2 (y 0) (y 1)) ((Rect.unit (s := S1024x1024) ![0, o] S1024x128.size inb).emb j) := by
    intro o inb w hw ho j
    have hj : (j 1).val < 128 := (j 1).isLt
    rw [emb_head o inb j ⟨o + (j 1).val, by omega⟩ rfl]
    exact (congrArg w (eq_ix2 j)).trans (hw (j 0) (j 1) ⟨o + (j 1).val, by omega⟩ rfl)
  rcases hp with rfl | rfl | rfl | rfl | rfl | rfl | rfl | rfl
  · refine hlift 896 inb_S1024x1024_S1024x128_0_896 _ (fun r e D hD => ?_) (by decide) j
    rw [hv]
    exact head_at 7 (by decide) 896 rfl _ x2 _ _ (fun e D h => load_g a4 h4 x2 896 inb_S1x1024_S1x128_0_896 e D h) _ _ _ _ _ r e D hD
  · refine hlift 768 inb_S1024x1024_S1024x128_0_768 _ (fun r e D hD => ?_) (by decide) j
    unfold kernelRun0_A.sl.r_4 kernelRun0_A.sl.r_5
    rw [hv]
    exact head_at 6 (by decide) 768 rfl _ x2 _ _ (fun e D h => load_g a4 h4 x2 768 inb_S1x1024_S1x128_0_768 e D h) _ _ _ _ _ r e D hD
  · refine hlift 640 inb_S1024x1024_S1024x128_0_640 _ (fun r e D hD => ?_) (by decide) j
    rw [hv]
    exact head_at 5 (by decide) 640 rfl _ x2 _ _ (fun e D h => load_g a4 h4 x2 640 inb_S1x1024_S1x128_0_640 e D h) _ _ _ _ _ r e D hD
  · refine hlift 512 inb_S1024x1024_S1024x128_0_512 _ (fun r e D hD => ?_) (by decide) j
    unfold kernelRun0_A.sl.r_2 kernelRun0_A.sl.r_3
    rw [hv]
    exact head_at 4 (by decide) 512 rfl (k0_pay3 x0 x1) x2 _ slices_S1024x1024_o0_512_S1024x128 (fun e D h => load_g a4 h4 x2 512 inb_S1x1024_S1x128_0_512 e D h)
      reduces_S1024x128_S1024 shapeCasts_S1024_S1024x1 broadcasts_S1024x1_S1024x128 shapeCasts_S1x128_S1x128 broadcasts_S1x128_S1024x128 r e D hD
  · refine hlift 384 inb_S1024x1024_S1024x128_0_384 _ (fun r e D hD => ?_) (by decide) j
    rw [hv]
    exact head_at 3 (by decide) 384 rfl _ x2 _ _ (fun e D h => load_g a4 h4 x2 384 inb_S1x1024_S1x128_0_384 e D h) _ _ _ _ _ r e D hD
  · refine hlift 256 inb_S1024x1024_S1024x128_0_256 _ (fun r e D hD => ?_) (by decide) j
    rw [hv]
    exact head_at 2 (by decide) 256 rfl _ x2 _ _ (fun e D h => load_g a4 h4 x2 256 inb_S1x1024_S1x128_0_256 e D h) _ _ _ _ _ r e D hD
  · refine hlift 128 inb_S1024x1024_S1024x128_0_128 _ (fun r e D hD => ?_) (by decide) j
    unfold kernelRun0_A.sl.r_1
    rw [hl0, hl1]
    exact head_at 1 (by decide) 128 rfl _ x2 _ _ (fun e D h => load_g a4 h4 x2 128 inb_S1x1024_S1x128_0_128 e D h) _ _ _ _ _ r e D hD
  · refine hlift 0 inb_S1024x1024_S1024x128_0_0 _ (fun r e D hD => ?_) (by decide) j
    rw [hl0, hl1]
    exact head_at 0 (by decide) 0 rfl _ x2 _ _ (fun e D h => load_g a4 h4 x2 0 inb_S1x1024_S1x128_0_0 e D h) _ _ _ _ _ r e D hD

/-- The product of the blocks, at a row and a column. -/
theorem pay3_apply (x0 : Vec Ideal S1024x4096 .bf16) (x1 : Vec Ideal S1x4096x1024 .bf16) (r d : Fin 1024) :
    k0_pay3 x0 x1 (ix2 r d) = ∑ k : Fin 4096, x0 (ix2 r k) * x1 (ix3 (0 : Fin 1) k d) := by
  unfold k0_pay3
  exact dot_drop 1024 4096 1024 (φ₁ := .bf16) (φ₂ := .bf16) none x0 x1 _ _ r d

/-- What the body leaves, from the blocks it reads. -/
theorem out_apply (c : Dev nD) (i : grid0.Coords) (a2 : Memref sig .tc .vmem S1024x4096 .bf16) (h2 : a2.IsWhole) (a3 : Memref sig .tc .vmem S1x4096x1024 .bf16)
    (h3 : a3.IsWhole) (a4 : Memref sig .tc .vmem S1x1024 .f32) (h4 : a4.IsWhole) (a5 : Memref sig .tc .vmem S1024x1024 .bf16) (h5 : a5.IsWhole)
    (x0 : Vec Ideal S1024x4096 .bf16) (x1 : Vec Ideal S1x4096x1024 .bf16) (x2 : Vec Ideal S1x1024 .f32) (r d : Fin 1024) :
    out0_A_3 c i a2 h2 a3 h3 a4 h4 a5 h5 x0 x1 x2 (ix2 r d)
      = headed (fun y : S1024x1024.Idx => ∑ k : Fin 4096, x0 (ix2 (y 0 : Fin 1024) k) * x1 (ix3 (0 : Fin 1) k (y 1 : Fin 1024))) x2 r d := by
  refine (out_eq c i a2 h2 a3 h3 a4 h4 a5 h5 x0 x1 x2 (ix2 r d)).trans ?_
  refine congrArg (fun v : S1024x1024.Idx → EReal => headed v x2 r d) (funext fun y => ?_)
  exact (congrArg (k0_pay3 x0 x1) (eq_ix2 y)).trans (pay3_apply x0 x1 (y 0) (y 1))

theorem emb3 (t : Fin cfg0.N) (r : Fin 1024) (d : Fin 1024) (R : Fin 16384) (hR : R.val = 1024 * (t.val / 4) + r.val)
    (C : Fin 4096) (hC : C.val = 1024 * (t.val % 4) + d.val) :
    ((cfg0.win 3).rect t).emb (ix2 r d) = (ix2 R C : S16384x4096.Idx) := by
  funext a
  refine Fin.ext ((Pipeline.Window.rect_emb_val_off (cfg0.win 3) t (ix2 r d) a).trans ?_)
  match a with
  | ⟨0, _⟩ => show cc0_transform_3 (grid0.coords t) 0 * 1024 + r.val = R.val; rw [(tr_3 t).1]; omega
  | ⟨1, _⟩ => show cc0_transform_3 (grid0.coords t) 1 * 1024 + d.val = C.val; rw [(tr_3 t).2]; omega

theorem inj3 : ∀ t t' : Fin cfg0.N, (cfg0.win 3).index t = (cfg0.win 3).index t' → t = t' := by
  intro t t' h
  have e0 : cc0_transform_3 (grid0.coords t) 0 = cc0_transform_3 (grid0.coords t') 0 := congrFun h 0
  have e1 : cc0_transform_3 (grid0.coords t) 1 = cc0_transform_3 (grid0.coords t') 1 := congrFun h 1
  rw [(tr_3 t).1, (tr_3 t').1] at e0
  rw [(tr_3 t).2, (tr_3 t').2] at e1
  exact Fin.ext (by omega)

theorem disjoint3 (t t' : Fin cfg0.N) (_ : (cfg0.win 3).flush t = true) (_ : (cfg0.win 3).flush t' = true) (h : t ≠ t') :
    Disjoint ((cfg0.win 3).blk t).view.set ((cfg0.win 3).blk t').view.set :=
  (cfg0.win 3).disjoint_blk fun e => h (inj3 t t' e)

/-- The result after the run, at a row and a column: what its point left in its block. -/
theorem final_at (c : Dev nD) (t : Fin cfg0.N) (r : Fin 1024) (d : Fin 1024) (R : Fin 16384) (hR : R.val = 1024 * (t.val / 4) + r.val)
    (C : Fin 4096) (hC : C.val = 1024 * (t.val % 4) + d.val) :
    ((dats m 0 c).arrAt 3 cfg0.N : S16384x4096.Idx → EReal) (ix2 R C) = (outsAt0 m c t : S1024x1024.Idx → EReal) (ix2 r d) := by
  have h := (dats m 0 c).arrAt_emb_eq_flushed 3 disjoint3 t (flush0_3 t) (ix2 r d : S1024x1024.Idx)
  have e : ((cfg0.win 3).blk t).view.emb (ix2 r d : S1024x1024.Idx) = (ix2 R C : S16384x4096.Idx) := emb3 t r d R hR C hC
  rw [e] at h
  refine h.trans ?_
  show (cfg0.win 3).cut (grid0.coords t) ((dats m 0 c).after 3 t) (ix2 r d : S1024x1024.Idx) = _
  rw [after0_3]
  rfl

end Cert.KernelNaQkIdeal.Gen

end
-- ==== Proof.NaQkClaim.lean ====
module

public import proofs.«01_k».proof.Defs
public import proofs.«01_k».proof.Proof.NaQkBlocks
public import proofs.«01_k».proof.Proof.Gen.KernelNaQk.Frame
public import proofs.«01_k».proof.Proof.Gen.ReferenceNaQkIdeal.Read
public import proofs.«01_k».proof.Proof.Gen.ReferenceNaQkIdeal.Run
public import proofs.«01_k».proof.Proof.Gen.ReferenceNaQkIdeal
public import Idealize.ShloMosaic.Lib.Quiescent

@[expose] public section
set_option maxRecDepth 16384
noncomputable section

/-! The queries' and keys' projection computes its reference. -/

namespace Cert.Proof.NaQk
open Idealize.ShloMosaic Idealize.ShloMosaic.TcCoe Idealize.SL.Sem
open Idealize.ShloMosaic.ValueIdx Cert.Tiles
open Cert.KernelNaQkIdeal Cert.KernelNaQkIdeal.Gen Cert.ReferenceNaQkIdeal.Read

/-- The queries before their norm. -/
theorem lat_q (x0 : FVec Ideal S1x16384x4096 .f32) (x1 : FVec Ideal S4096x16448 .f32) (R : Fin 16384) (h : Fin 16) (e : Fin 128) (G : Fin 16448)
    (hG : G.val = 128 * h.val + e.val) :
    (val_main_v9 (F := Ideal) x0 x1 : Cert.ReferenceNaQkIdeal.S1x16384x16x128.Idx → EReal) (ix4 (0 : Fin 1) R h e) = ∑ k : Fin 4096, x0 (ix3 (0 : Fin 1) R k) * x1 (ix2 k G) := by
  have hh := h.isLt
  have he := e.isLt
  have hR := R.isLt
  rw [val_main_v9_apply]
  refine (congrArg (val_main_v1 (F := Ideal) x0 x1 : Cert.ReferenceNaQkIdeal.S1x16384x2048.Idx → EReal)
    (show idx_main_v9 (ix4 (0 : Fin 1) R h e) = ix3 (0 : Fin 1) R (⟨128 * h.val + e.val, by omega⟩ : Fin 2048) from
      (eq_ix3 _).trans (congr (congrArg (ix3 (0 : Fin 1)) (Fin.ext ?_)) (Fin.ext ?_)))).trans ?_
  · show (((0 * 16384 + R.val) * 16 + h.val) * 128 + e.val) / 2048 % 16384 = R.val
    omega
  · show (((0 * 16384 + R.val) * 16 + h.val) * 128 + e.val) % 2048 = 128 * h.val + e.val
    omega
  rw [val_main_v1_apply, val_main_v0_apply]
  refine Finset.sum_congr rfl fun k _ => congr (congrArg HMul.hMul (congrArg x0 (eq_ix3 _))) (congrArg x1 ?_)
  refine (eq_ix2 _).trans (congrArg (fun G : Fin 16448 => (ix2 k G : S4096x16448.Idx)) (Fin.ext ?_))
  show 128 * h.val + e.val = G.val
  omega

/-- The queries after their norm, at a row, a head and a place in the head. -/
theorem norm_q (x0 : FVec Ideal S1x16384x4096 .f32) (x1 : FVec Ideal S4096x16448 .f32) (x2 : FVec Ideal S128 .f32) (R : Fin 16384) (h : Fin 16) (e : Fin 128)
    (G : Fin 128 → Fin 16448) (hG : ∀ e, (G e).val = 128 * h.val + e.val) :
    (val_main_v22 (F := Ideal) x0 x1 x2 : Cert.ReferenceNaQkIdeal.S1x16384x16x128.Idx → EReal) (ix4 (0 : Fin 1) R h e)
      = rms 128 0x43000000#32 (fun e => ∑ k : Fin 4096, x0 (ix3 (0 : Fin 1) R k) * x1 (ix2 k (G e))) (x2 (ix1 e)) e := by
  have hs : (val_main_v11 (F := Ideal) x0 x1 : Cert.ReferenceNaQkIdeal.S1x16384x16.Idx → EReal) (ix3 (0 : Fin 1) R h)
      = ∑ e : Fin 128, (∑ k : Fin 4096, x0 (ix3 (0 : Fin 1) R k) * x1 (ix2 k (G e))) * (∑ k : Fin 4096, x0 (ix3 (0 : Fin 1) R k) * x1 (ix2 k (G e))) := by
    refine (val_main_v11_apply x0 x1 _).trans ?_
    refine (congrArg (HAdd.hAdd (α := EReal) (β := EReal) (γ := EReal) · _) (show (val_main_cst (F := Ideal)) _ = (0 : EReal) from Ideal.ofBits_zero_f32)).trans ?_
    rw [zero_add]
    refine Finset.sum_congr rfl fun e _ => ?_
    refine (congrArg (val_main_v10 (F := Ideal) x0 x1 : Cert.ReferenceNaQkIdeal.S1x16384x16x128.Idx → EReal) (eq_ix4 _)).trans ?_
    exact congr (congrArg HMul.hMul (lat_q x0 x1 R h e (G e) (hG e))) (lat_q x0 x1 R h e (G e) (hG e))
  have hn : (val_main_v18 (F := Ideal) x0 x1 : Cert.ReferenceNaQkIdeal.S1x16384x16x128.Idx → EReal) (ix4 (0 : Fin 1) R h e)
      = Ideal.rsqrt (Ideal.div (∑ e : Fin 128, (∑ k : Fin 4096, x0 (ix3 (0 : Fin 1) R k) * x1 (ix2 k (G e)))
          * (∑ k : Fin 4096, x0 (ix3 (0 : Fin 1) R k) * x1 (ix2 k (G e)))) (Ideal.ofBits .f32 0x43000000#32) + Ideal.ofBits .f32 0x358637BD#32) := by
    rw [val_main_v18_apply, val_main_v17_apply, val_main_v16_apply, val_main_v14_apply, val_main_v15_apply, val_main_v13_apply, val_main_v12_apply]
    refine congrArg (fun s : EReal => Ideal.rsqrt (Ideal.div s (Ideal.ofBits .f32 0x43000000#32) + Ideal.ofBits .f32 0x358637BD#32)) ?_
    exact (congrArg (val_main_v11 (F := Ideal) x0 x1 : Cert.ReferenceNaQkIdeal.S1x16384x16.Idx → EReal) (eq_ix3 _)).trans hs
  rw [val_main_v22_apply, val_main_v19_apply, val_main_v21_apply, val_main_v20_apply]
  unfold rms
  exact congr (congrArg HMul.hMul (congr (congrArg HMul.hMul (lat_q x0 x1 R h e (G e) (hG e))) hn)) (congrArg x2 (eq_ix1 _))

/-- The keys before their norm. -/
theorem lat_k (x0 : FVec Ideal S1x16384x4096 .f32) (x1 : FVec Ideal S4096x16448 .f32) (R : Fin 16384) (h : Fin 16) (e : Fin 128) (G : Fin 16448)
    (hG : G.val = 2048 + 128 * h.val + e.val) :
    (val_main_v23 (F := Ideal) x0 x1 : Cert.ReferenceNaQkIdeal.S1x16384x16x128.Idx → EReal) (ix4 (0 : Fin 1) R h e) = ∑ k : Fin 4096, x0 (ix3 (0 : Fin 1) R k) * x1 (ix2 k G) := by
  have hh := h.isLt
  have he := e.isLt
  have hR := R.isLt
  rw [val_main_v23_apply]
  refine (congrArg (val_main_v2 (F := Ideal) x0 x1 : Cert.ReferenceNaQkIdeal.S1x16384x2048.Idx → EReal)
    (show idx_main_v23 (ix4 (0 : Fin 1) R h e) = ix3 (0 : Fin 1) R (⟨128 * h.val + e.val, by omega⟩ : Fin 2048) from
      (eq_ix3 _).trans (congr (congrArg (ix3 (0 : Fin 1)) (Fin.ext ?_)) (Fin.ext ?_)))).trans ?_
  · show (((0 * 16384 + R.val) * 16 + h.val) * 128 + e.val) / 2048 % 16384 = R.val
    omega
  · show (((0 * 16384 + R.val) * 16 + h.val) * 128 + e.val) % 2048 = 128 * h.val + e.val
    omega
  rw [val_main_v2_apply, val_main_v0_apply]
  refine Finset.sum_congr rfl fun k _ => congr (congrArg HMul.hMul (congrArg x0 (eq_ix3 _))) (congrArg x1 ?_)
  refine (eq_ix2 _).trans (congrArg (fun G : Fin 16448 => (ix2 k G : S4096x16448.Idx)) (Fin.ext ?_))
  show 2048 + (128 * h.val + e.val) = G.val
  omega

/-- The keys after their norm, at a row, a head and a place in the head. -/
theorem norm_k (x0 : FVec Ideal S1x16384x4096 .f32) (x1 : FVec Ideal S4096x16448 .f32) (x3 : FVec Ideal S128 .f32) (R : Fin 16384) (h : Fin 16) (e : Fin 128)
    (G : Fin 128 → Fin 16448) (hG : ∀ e, (G e).val = 2048 + 128 * h.val + e.val) :
    (val_main_v36 (F := Ideal) x0 x1 x3 : Cert.ReferenceNaQkIdeal.S1x16384x16x128.Idx → EReal) (ix4 (0 : Fin 1) R h e)
      = rms 128 0x43000000#32 (fun e => ∑ k : Fin 4096, x0 (ix3 (0 : Fin 1) R k) * x1 (ix2 k (G e))) (x3 (ix1 e)) e := by
  have hs : (val_main_v25 (F := Ideal) x0 x1 : Cert.ReferenceNaQkIdeal.S1x16384x16.Idx → EReal) (ix3 (0 : Fin 1) R h)
      = ∑ e : Fin 128, (∑ k : Fin 4096, x0 (ix3 (0 : Fin 1) R k) * x1 (ix2 k (G e))) * (∑ k : Fin 4096, x0 (ix3 (0 : Fin 1) R k) * x1 (ix2 k (G e))) := by
    refine (val_main_v25_apply x0 x1 _).trans ?_
    refine (congrArg (HAdd.hAdd (α := EReal) (β := EReal) (γ := EReal) · _) (show (val_main_cst_2 (F := Ideal)) _ = (0 : EReal) from Ideal.ofBits_zero_f32)).trans ?_
    rw [zero_add]
    refine Finset.sum_congr rfl fun e _ => ?_
    refine (congrArg (val_main_v24 (F := Ideal) x0 x1 : Cert.ReferenceNaQkIdeal.S1x16384x16x128.Idx → EReal) (eq_ix4 _)).trans ?_
    exact congr (congrArg HMul.hMul (lat_k x0 x1 R h e (G e) (hG e))) (lat_k x0 x1 R h e (G e) (hG e))
  have hn : (val_main_v32 (F := Ideal) x0 x1 : Cert.ReferenceNaQkIdeal.S1x16384x16x128.Idx → EReal) (ix4 (0 : Fin 1) R h e)
      = Ideal.rsqrt (Ideal.div (∑ e : Fin 128, (∑ k : Fin 4096, x0 (ix3 (0 : Fin 1) R k) * x1 (ix2 k (G e)))
          * (∑ k : Fin 4096, x0 (ix3 (0 : Fin 1) R k) * x1 (ix2 k (G e)))) (Ideal.ofBits .f32 0x43000000#32) + Ideal.ofBits .f32 0x358637BD#32) := by
    rw [val_main_v32_apply, val_main_v31_apply, val_main_v30_apply, val_main_v28_apply, val_main_v29_apply, val_main_v27_apply, val_main_v26_apply]
    refine congrArg (fun s : EReal => Ideal.rsqrt (Ideal.div s (Ideal.ofBits .f32 0x43000000#32) + Ideal.ofBits .f32 0x358637BD#32)) ?_
    exact (congrArg (val_main_v25 (F := Ideal) x0 x1 : Cert.ReferenceNaQkIdeal.S1x16384x16.Idx → EReal) (eq_ix3 _)).trans hs
  rw [val_main_v36_apply, val_main_v33_apply, val_main_v35_apply, val_main_v34_apply]
  unfold rms
  exact congr (congrArg HMul.hMul (congr (congrArg HMul.hMul (lat_k x0 x1 R h e (G e) (hG e))) hn)) (congrArg x3 (eq_ix1 _))

/-- The column of the weights that makes an entry of a column's head. -/
def col (C : Fin 4096) (e : Fin 128) : Fin 16448 := ⟨128 * (C.val / 128) + e.val, by have := C.isLt; have := e.isLt; omega⟩

/-- The reference's result at a row and a column of the queries. -/
theorem ref_q (x0 : FVec Ideal S1x16384x4096 .f32) (x1 : FVec Ideal S4096x16448 .f32) (x2 x3 : FVec Ideal S128 .f32) (R : Fin 16384) (C : Fin 4096) (hC : C.val < 2048) :
    (val_main_v41 (F := Ideal) x0 x1 x2 x3 : S16384x4096.Idx → EReal) (ix2 R C)
      = rms 128 0x43000000#32 (fun e => ∑ k : Fin 4096, x0 (ix3 (0 : Fin 1) R k) * x1 (ix2 k (col C e))) (x2 (ix1 ⟨C.val % 128, Nat.mod_lt _ (by decide)⟩)) ⟨C.val % 128, Nat.mod_lt _ (by decide)⟩ := by
  have hR := R.isLt
  unfold val_main_v41
  refine (concatenate_pair_apply_left (t := Cert.ReferenceNaQkIdeal.S16384x4096) (s₁ := Cert.ReferenceNaQkIdeal.S16384x2048) (s₂ := Cert.ReferenceNaQkIdeal.S16384x2048) (1 : Fin 2)
    (val_main_v38 (F := Ideal) x0 x1 x2) (val_main_v40 (F := Ideal) x0 x1 x3) _ (ix2 R C) rfl (ix2 R (⟨C.val, hC⟩ : Fin 2048)) fun x => ?_).trans ?_
  · match x with
    | ⟨0, _⟩ => rfl
    | ⟨1, _⟩ => rfl
  refine (val_main_v38_apply (F := Ideal) x0 x1 x2 _).trans ?_
  refine (val_main_v37_apply (F := Ideal) x0 x1 x2 _).trans ?_
  refine (congrArg (val_main_v22 (F := Ideal) x0 x1 x2 : Cert.ReferenceNaQkIdeal.S1x16384x16x128.Idx → EReal)
    (show idx_main_v37 (ix2 R (⟨C.val, hC⟩ : Fin 2048)) = ix4 (0 : Fin 1) R (⟨C.val / 128, by omega⟩ : Fin 16) (⟨C.val % 128, Nat.mod_lt _ (by decide)⟩ : Fin 128) from
      (eq_ix4 _).trans (congr (congr (congrArg (ix4 (0 : Fin 1)) (Fin.ext ?_)) (Fin.ext ?_)) (Fin.ext ?_)))).trans ?_
  · show (R.val * 2048 + C.val) / 2048 % 16384 = R.val
    omega
  · show (R.val * 2048 + C.val) / 128 % 16 = C.val / 128
    omega
  · show (R.val * 2048 + C.val) % 128 = C.val % 128
    omega
  exact norm_q x0 x1 x2 R _ _ (col C) fun e => rfl

/-- The reference's result at a row and a column of the keys. -/
theorem ref_k (x0 : FVec Ideal S1x16384x4096 .f32) (x1 : FVec Ideal S4096x16448 .f32) (x2 x3 : FVec Ideal S128 .f32) (R : Fin 16384) (C : Fin 4096) (hC : 2048 ≤ C.val) :
    (val_main_v41 (F := Ideal) x0 x1 x2 x3 : S16384x4096.Idx → EReal) (ix2 R C)
      = rms 128 0x43000000#32 (fun e => ∑ k : Fin 4096, x0 (ix3 (0 : Fin 1) R k) * x1 (ix2 k (col C e))) (x3 (ix1 ⟨C.val % 128, Nat.mod_lt _ (by decide)⟩)) ⟨C.val % 128, Nat.mod_lt _ (by decide)⟩ := by
  have hR := R.isLt
  have hCl := C.isLt
  unfold val_main_v41
  refine (concatenate_pair_apply_right (t := Cert.ReferenceNaQkIdeal.S16384x4096) (s₁ := Cert.ReferenceNaQkIdeal.S16384x2048) (s₂ := Cert.ReferenceNaQkIdeal.S16384x2048) (1 : Fin 2)
    (val_main_v38 (F := Ideal) x0 x1 x2) (val_main_v40 (F := Ideal) x0 x1 x3) _ (ix2 R C) rfl rfl (ix2 R (⟨C.val - 2048, by omega⟩ : Fin 2048)) (fun x hx => ?_) ?_).trans ?_
  · match x with
    | ⟨0, _⟩ => rfl
    | ⟨1, _⟩ => exact absurd rfl hx
  · show C.val - 2048 + 2048 = C.val
    omega
  refine (val_main_v40_apply (F := Ideal) x0 x1 x3 _).trans ?_
  refine (val_main_v39_apply (F := Ideal) x0 x1 x3 _).trans ?_
  refine (congrArg (val_main_v36 (F := Ideal) x0 x1 x3 : Cert.ReferenceNaQkIdeal.S1x16384x16x128.Idx → EReal)
    (show idx_main_v39 (ix2 R (⟨C.val - 2048, by omega⟩ : Fin 2048)) = ix4 (0 : Fin 1) R (⟨C.val / 128 - 16, by omega⟩ : Fin 16) (⟨C.val % 128, Nat.mod_lt _ (by decide)⟩ : Fin 128) from
      (eq_ix4 _).trans (congr (congr (congrArg (ix4 (0 : Fin 1)) (Fin.ext ?_)) (Fin.ext ?_)) (Fin.ext ?_)))).trans ?_
  · show (R.val * 2048 + (C.val - 2048)) / 2048 % 16384 = R.val
    omega
  · show (R.val * 2048 + (C.val - 2048)) / 128 % 16 = C.val / 128 - 16
    omega
  · show (R.val * 2048 + (C.val - 2048)) % 128 = C.val % 128
    omega
  exact norm_k x0 x1 x3 R _ _ (col C) fun e => by show 128 * (C.val / 128) + e.val = 2048 + 128 * (C.val / 128 - 16) + e.val; omega

variable (m : (ℓ : Loc nD τ sig) → Buf (Elt Ideal) ℓ)

/-- The kernel's result at every row and column, by the weight it finds at the column. -/
theorem kernel_at (c : Dev nD) (R : Fin 16384) (C : Fin 4096) :
    ((dats m 0 c).arrAt 3 cfg0.N : S16384x4096.Idx → EReal) (ix2 R C)
      = rms 128 0x43000000#32 (fun e => ∑ k : Fin 4096, HMul.hMul (α := EReal) (β := EReal) (γ := EReal)
          ((m (c, Proc.tc.devRef main_arg0) : S1x16384x4096.Idx → EReal) (ix3 (0 : Fin 1) R k))
          ((m (c, Proc.tc.devRef main_arg1) : S4096x16448.Idx → EReal) (ix2 k (col C e))))
        ((V m c main_v11 : S1x4096.Idx → EReal) (ix2 (0 : Fin 1) C)) ⟨C.val % 128, Nat.mod_lt _ (by decide)⟩ := by
  have hN : cfg0.N = 64 := by decide
  have hRl := R.isLt
  have hCl := C.isLt
  obtain ⟨t, ht⟩ : ∃ t : Fin cfg0.N, t.val = 4 * (R.val / 1024) + C.val / 1024 := ⟨⟨4 * (R.val / 1024) + C.val / 1024, by omega⟩, rfl⟩
  have hR : R.val = 1024 * (t.val / 4) + (⟨R.val % 1024, by omega⟩ : Fin 1024).val := by show R.val = 1024 * (t.val / 4) + R.val % 1024; omega
  have hC : C.val = 1024 * (t.val % 4) + (⟨C.val % 1024, by omega⟩ : Fin 1024).val := by show C.val = 1024 * (t.val % 4) + C.val % 1024; omega
  generalize (⟨R.val % 1024, by omega⟩ : Fin 1024) = r at hR
  generalize (⟨C.val % 1024, by omega⟩ : Fin 1024) = d at hC
  have hd := d.isLt
  refine (final_at m c t r d R hR C hC).trans ?_
  refine (out_apply c _ _ _ _ _ _ _ _ _ _ _ _ r d).trans ?_
  unfold headed
  refine congr (congr (congrArg (rms 128 0x43000000#32) (funext fun e => ?_)) (blk2 m c t d C hC)) (Fin.ext (by show d.val % 128 = C.val % 128; omega))
  refine Finset.sum_congr rfl fun k _ => congr (congrArg (HMul.hMul (α := EReal) (β := EReal) (γ := EReal)) (blk0 m c t r k R hR)) (blk1 m c t k _ (col C e) ?_)
  show 128 * (C.val / 128) + e.val = 1024 * (t.val % 4) + (128 * (d.val / 128) + e.val)
  omega

/-- The kernel's result is the reference's at every row and column. -/
theorem final_eq (c : Dev nD) : (dats m 0 c).arrAt 3 cfg0.N
      = val_main_v41 (F := Ideal) (m (c, Proc.tc.devRef main_arg0)) (m (c, Proc.tc.devRef main_arg1)) (m (c, Proc.tc.devRef main_arg2)) (m (c, Proc.tc.devRef main_arg3)) := by
  refine same2 _ _ fun R C => (kernel_at m c R C).trans ?_
  by_cases hC : C.val < 2048
  · refine Eq.trans ?_ (ref_q _ _ _ _ R C hC).symm
    exact congrArg (fun g => rms 128 0x43000000#32 _ g _) (g_q m c C ⟨C.val % 128, Nat.mod_lt _ (by decide)⟩ rfl hC)
  · refine Eq.trans ?_ (ref_k _ _ _ _ R C (Nat.le_of_not_lt hC)).symm
    exact congrArg (fun g => rms 128 0x43000000#32 _ g _) (g_k m c C ⟨C.val % 128, Nat.mod_lt _ (by decide)⟩ rfl (Nat.le_of_not_lt hC))

/-- The kernel as printed: it runs, leaves its arguments, and ends with every counter at zero. -/
theorem frame_kernel : Cert.quiescent_KernelNaQk := fun m ρ _ => Cert.KernelNaQk.Gen.frame (F := Bits) m ρ

/-- The same of its idealization. -/
theorem frame_ideal : Cert.quiescent_KernelNaQkIdeal := fun m ρ _ => Cert.KernelNaQkIdeal.Gen.frame (F := Ideal) m ρ

/-- The reference runs, leaves its arguments, and has no counter. -/
theorem frame_ref : Cert.quiescent_ReferenceNaQkIdeal := fun m ρ _ =>
  (θ_run Cert.ReferenceNaQkIdeal.defs _ _).mono (fun r h => ⟨fun c => (h c).2, sem_eq_zero_of_no_sems (by decide) r.2⟩)
    (Cert.ReferenceNaQkIdeal.Value.run (F := Ideal) m ρ)

/-- The two programs have one text. -/
theorem preserves : Cert.preserves_KernelNaQk_KernelNaQkIdeal := trivial

/-- The kernel's result is the reference's over the extended reals. -/
theorem algebraic : Cert.algebraic_KernelNaQkIdeal_ReferenceNaQkIdeal := by
  intro m ρ m' ρ' _ hagree
  refine ⟨fun c => (dats m 0 c).arrAt 3 cfg0.N, ?_, ?_⟩
  · exact (θ_run Cert.KernelNaQkIdeal.defs _ _).mono (fun r h c => ⟨(h c).1 3,
      ((h c).2 Cert.KernelNaQkIdeal.main_arg0 (Pipeline.mem_restRefs_of Cert.KernelNaQkIdeal.main_arg0 (by decide) (by decide))).trans (V_main_arg0 m c),
      ((h c).2 Cert.KernelNaQkIdeal.main_arg1 (Pipeline.mem_restRefs_of Cert.KernelNaQkIdeal.main_arg1 (by decide) (by decide))).trans (V_main_arg1 m c),
      ((h c).2 Cert.KernelNaQkIdeal.main_arg2 (Pipeline.mem_restRefs_of Cert.KernelNaQkIdeal.main_arg2 (by decide) (by decide))).trans (V_main_arg2 m c),
      ((h c).2 Cert.KernelNaQkIdeal.main_arg3 (Pipeline.mem_restRefs_of Cert.KernelNaQkIdeal.main_arg3 (by decide) (by decide))).trans (V_main_arg3 m c)⟩)
      (run_main (F := Ideal) m ρ)
  · refine (θ_run Cert.ReferenceNaQkIdeal.defs _ _).mono (fun r h c => ⟨(h c).1.trans ?_, (h c).2⟩) (Cert.ReferenceNaQkIdeal.Value.run (F := Ideal) m' ρ')
    rw [Cert.ReferenceNaQkIdeal.Read.val_main_v41_eq]
    obtain ⟨e0, e1, e2, e3⟩ := hagree c
    rw [e0, e1, e2, e3]
    exact (final_eq m c).symm

end Cert.Proof.NaQk

end
-- ==== Proof.NaVBlocks.lean ====
module

public import proofs.«01_k».proof.Proof.Gen.KernelNaVIdeal.Frame
public import proofs.«01_k».proof.Proof.Tiles
public import Idealize.ShloMosaic.Lib.StableHlo.RunRead

@[expose] public section
set_option maxRecDepth 16384
noncomputable section

/-! The value projection's windows and its result, read at coordinates. -/

namespace Cert.KernelNaVIdeal.Gen
open Idealize.ShloMosaic Idealize.ShloMosaic.TcCoe Idealize.ShloMosaic.Tactic Idealize.SL.Sem Idealize.ShloMosaic.StableHlo
open Idealize.ShloMosaic.Pipeline (Dat)
open Idealize.ShloMosaic.ValueIdx Cert.Tiles

theorem tr_0 : ∀ t : Fin cfg0.N, cc0_transform_0 (grid0.coords t) 0 = t.val / 2 ∧ cc0_transform_0 (grid0.coords t) 1 = 0 := by decide +kernel
theorem tr_1 : ∀ t : Fin cfg0.N, cc0_transform_1 (grid0.coords t) 0 = 0 ∧ cc0_transform_1 (grid0.coords t) 1 = 0 ∧ cc0_transform_1 (grid0.coords t) 2 = 4 + t.val % 2 := by decide +kernel
theorem tr_2 : ∀ t : Fin cfg0.N, cc0_transform_2 (grid0.coords t) 0 = t.val / 2 ∧ cc0_transform_2 (grid0.coords t) 1 = t.val % 2 := by decide +kernel

variable (m : (ℓ : Loc nD τ sig) → Buf (Elt Ideal) ℓ)

/-- The activations the region finds: the argument without its leading axis. -/
theorem V_h (c : Dev nD) : V m c main_v1 = shapeCast S16384x4096 (m (c, Proc.tc.devRef main_arg0) : FVec Ideal S1x16384x4096 .f32)
    shapeCasts_S1x16384x4096_S16384x4096 := by
  after_reads_simp
  rfl

/-- The weights the region finds: the argument behind a leading axis of one. -/
theorem V_w (c : Dev nD) : V m c main_v3 = broadcastInDim S1x4096x16448 ![1, 2] bcast_S4096x16448_S1x4096x16448_1_2
    (m (c, Proc.tc.devRef main_arg1) : FVec Ideal S4096x16448 .f32) := by
  after_reads_simp
  rfl

/-- A block of the activations, at a row and a column. -/
theorem blk0 (c : Dev nD) (t : Fin cfg0.N) (r : Fin 1024) (k : Fin 4096) (R : Fin 16384) (hR : R.val = 1024 * (t.val / 2) + r.val) :
    (iblk m c 0 t : S1024x4096.Idx → EReal) (ix2 r k) = (m (c, Proc.tc.devRef main_arg0) : S1x16384x4096.Idx → EReal) (ix3 (0 : Fin 1) R k) := by
  have h : (iblk m c 0 t : S1024x4096.Idx → EReal) (ix2 r k) = (V m c main_v1 : S16384x4096.Idx → EReal) (ix2 R k) := by
    show (V m c main_v1 : S16384x4096.Idx → EReal) (((cfg0.win 0).rect t).emb (ix2 r k)) = _
    congr 1
    funext a
    refine Fin.ext ((Pipeline.Window.rect_emb_val_off (cfg0.win 0) t (ix2 r k) a).trans ?_)
    match a with
    | ⟨0, _⟩ => show cc0_transform_0 (grid0.coords t) 0 * 1024 + r.val = R.val; rw [(tr_0 t).1]; omega
    | ⟨1, _⟩ => show cc0_transform_0 (grid0.coords t) 1 * 4096 + k.val = k.val; rw [(tr_0 t).2]; omega
  exact h.trans ((congrFun (V_h m c) (ix2 R k)).trans (cast_drop 16384 4096 _ _ R k))

/-- A block of the weights, at a row and a column. -/
theorem blk1 (c : Dev nD) (t : Fin cfg0.N) (k : Fin 4096) (d : Fin 1024) (C : Fin 16448) (hC : C.val = 1024 * (4 + t.val % 2) + d.val) :
    (X0_1 m c t : S1x4096x1024.Idx → EReal) (ix3 (0 : Fin 1) k d) = (m (c, Proc.tc.devRef main_arg1) : S4096x16448.Idx → EReal) (ix2 k C) := by
  have h : (X0_1 m c t : S1x4096x1024.Idx → EReal) (ix3 (0 : Fin 1) k d) = (V m c main_v3 : S1x4096x16448.Idx → EReal) (ix3 (0 : Fin 1) k C) := by
    have e := moved0_1 t (ix3 (0 : Fin 1) k d : S1x4096x1024.Idx)
    unfold X0_1 Pipeline.Window.fill
    refine (dif_pos e).trans ?_
    refine (Eq.refl ((V m c main_v3 : S1x4096x16448.Idx → EReal) (((cfg0.win 1).rect t).emb _))).trans (congrArg _ ?_)
    funext a
    refine Fin.ext ((Pipeline.Window.rect_emb_val_off (cfg0.win 1) t _ a).trans ?_)
    match a with
    | ⟨0, _⟩ => show cc0_transform_1 (grid0.coords t) 0 * 1 + 0 = 0; rw [(tr_1 t).1]
    | ⟨1, _⟩ => show cc0_transform_1 (grid0.coords t) 1 * 4096 + k.val = k.val; rw [(tr_1 t).2.1]; omega
    | ⟨2, _⟩ => show cc0_transform_1 (grid0.coords t) 2 * 1024 + d.val = C.val; rw [(tr_1 t).2.2]; omega
  exact h.trans ((congrFun (V_w m c) (ix3 (0 : Fin 1) k C)).trans (bcast_lead 4096 16448 _ _ (by decide) (by decide) (0 : Fin 1) k C))

/-- The body at a row and a column: the row by the column. -/
theorem out_apply (c : Dev nD) (i : grid0.Coords) (a2 : Memref sig .tc .vmem S1024x4096 .bf16) (h2 : a2.IsWhole) (a3 : Memref sig .tc .vmem S1x4096x1024 .bf16)
    (h3 : a3.IsWhole) (a4 : Memref sig .tc .vmem S1024x1024 .bf16) (h4 : a4.IsWhole) (x0 : Vec Ideal S1024x4096 .bf16) (x1 : Vec Ideal S1x4096x1024 .bf16)
    (r : Fin 1024) (d : Fin 1024) :
    out0_A_2 c i a2 h2 a3 h3 a4 h4 x0 x1 (ix2 r d) = ∑ k : Fin 4096, x0 (ix2 r k) * x1 (ix3 (0 : Fin 1) k d) := by
  unfold out0_A_2
  rw [View.read_writes_eq_canon _ _ _ (cover0_A_2 c i a2 h2 a3 h3 a4 h4 x0 x1)]
  unfold kernelRun0_A
  dsimp only
  sl_unfold_words
  rw [View.canon_unit_zero (by funext a; fin_cases a <;> rfl)]
  rw [View.readAt_eq_ld, View.readAt_eq_ld, h2.read_unread, h3.read_unread]
  rw [View.ld_unit_zero (S := S1024x4096) (by funext a; fin_cases a <;> rfl), View.ld_unit_zero (S := S1x4096x1024) (by funext a; fin_cases a <;> rfl)]
  unfold k0_pay1
  exact dot_drop 1024 4096 1024 (φ₁ := .bf16) (φ₂ := .bf16) none x0 x1 _ _ r d

theorem emb2 (t : Fin cfg0.N) (r : Fin 1024) (d : Fin 1024) (R : Fin 16384) (hR : R.val = 1024 * (t.val / 2) + r.val)
    (C : Fin 2048) (hC : C.val = 1024 * (t.val % 2) + d.val) :
    ((cfg0.win 2).rect t).emb (ix2 r d) = (ix2 R C : S16384x2048.Idx) := by
  funext a
  refine Fin.ext ((Pipeline.Window.rect_emb_val_off (cfg0.win 2) t (ix2 r d) a).trans ?_)
  match a with
  | ⟨0, _⟩ => show cc0_transform_2 (grid0.coords t) 0 * 1024 + r.val = R.val; rw [(tr_2 t).1]; omega
  | ⟨1, _⟩ => show cc0_transform_2 (grid0.coords t) 1 * 1024 + d.val = C.val; rw [(tr_2 t).2]; omega

theorem inj2 : ∀ t t' : Fin cfg0.N, (cfg0.win 2).index t = (cfg0.win 2).index t' → t = t' := by
  intro t t' h
  have e0 : cc0_transform_2 (grid0.coords t) 0 = cc0_transform_2 (grid0.coords t') 0 := congrFun h 0
  have e1 : cc0_transform_2 (grid0.coords t) 1 = cc0_transform_2 (grid0.coords t') 1 := congrFun h 1
  rw [(tr_2 t).1, (tr_2 t').1] at e0
  rw [(tr_2 t).2, (tr_2 t').2] at e1
  exact Fin.ext (by omega)

theorem disjoint2 (t t' : Fin cfg0.N) (_ : (cfg0.win 2).flush t = true) (_ : (cfg0.win 2).flush t' = true) (h : t ≠ t') :
    Disjoint ((cfg0.win 2).blk t).view.set ((cfg0.win 2).blk t').view.set :=
  (cfg0.win 2).disjoint_blk fun e => h (inj2 t t' e)

/-- The result after the run, at a row and a column: what its point left in its block. -/
theorem final_at (c : Dev nD) (t : Fin cfg0.N) (r : Fin 1024) (d : Fin 1024) (R : Fin 16384) (hR : R.val = 1024 * (t.val / 2) + r.val)
    (C : Fin 2048) (hC : C.val = 1024 * (t.val % 2) + d.val) :
    ((dats m 0 c).arrAt 2 cfg0.N : S16384x2048.Idx → EReal) (ix2 R C) = (outsAt0 m c t : S1024x1024.Idx → EReal) (ix2 r d) := by
  have h := (dats m 0 c).arrAt_emb_eq_flushed 2 disjoint2 t (flush0_2 t) (ix2 r d : S1024x1024.Idx)
  have e : ((cfg0.win 2).blk t).view.emb (ix2 r d : S1024x1024.Idx) = (ix2 R C : S16384x2048.Idx) := emb2 t r d R hR C hC
  rw [e] at h
  refine h.trans ?_
  show (cfg0.win 2).cut (grid0.coords t) ((dats m 0 c).after 2 t) (ix2 r d : S1024x1024.Idx) = _
  rw [after0_2]
  rfl

end Cert.KernelNaVIdeal.Gen

end
-- ==== Proof.NaVClaim.lean ====
module

public import proofs.«01_k».proof.Defs
public import proofs.«01_k».proof.Proof.NaVBlocks
public import proofs.«01_k».proof.Proof.Gen.KernelNaV.Frame
public import proofs.«01_k».proof.Proof.Gen.ReferenceNaVIdeal.Read
public import proofs.«01_k».proof.Proof.Gen.ReferenceNaVIdeal.Run
public import proofs.«01_k».proof.Proof.Gen.ReferenceNaVIdeal
public import Idealize.ShloMosaic.Lib.Quiescent

@[expose] public section
set_option maxRecDepth 16384
noncomputable section

/-! The value projection computes its reference. -/

namespace Cert.Proof.NaV
open Idealize.ShloMosaic Idealize.ShloMosaic.TcCoe Idealize.SL.Sem
open Idealize.ShloMosaic.ValueIdx Cert.Tiles
open Cert.KernelNaVIdeal Cert.KernelNaVIdeal.Gen Cert.ReferenceNaVIdeal.Read

/-- The reference's result at a row and a column. -/
theorem ref_at (x0 : FVec Ideal S1x16384x4096 .f32) (x1 : FVec Ideal S4096x16448 .f32) (R : Fin 16384) (C : Fin 2048) (G : Fin 16448)
    (hG : G.val = 4096 + C.val) :
    (val_main_v10 (F := Ideal) x0 x1 : S16384x2048.Idx → EReal) (ix2 R C) = ∑ k : Fin 4096, x0 (ix3 (0 : Fin 1) R k) * x1 (ix2 k G) := by
  refine (val_main_v10_apply (F := Ideal) x0 x1 _).trans ?_
  show (val_main_v9 (F := Ideal) x0 x1 : S16384x2048.Idx → EReal) (ix2 R C) = _
  unfold val_main_v9
  refine (cast_drop 16384 2048 _ _ R C).trans ?_
  rw [val_main_v3_apply, val_main_v0_apply]
  refine Finset.sum_congr rfl fun k _ => congr (congrArg HMul.hMul (congrArg x0 (eq_ix3 _))) (congrArg x1 ?_)
  refine (eq_ix2 _).trans (congrArg (fun G : Fin 16448 => (ix2 k G : S4096x16448.Idx)) (Fin.ext ?_))
  exact hG.symm

variable (m : (ℓ : Loc nD τ sig) → Buf (Elt Ideal) ℓ)

/-- The kernel's result is the reference's at every row and column. -/
theorem final_eq (c : Dev nD) : (dats m 0 c).arrAt 2 cfg0.N
      = val_main_v10 (F := Ideal) (m (c, Proc.tc.devRef main_arg0)) (m (c, Proc.tc.devRef main_arg1)) := by
  refine same2 _ _ fun R C => ?_
  have hN : cfg0.N = 32 := by decide
  have hRl := R.isLt
  have hCl := C.isLt
  obtain ⟨t, ht⟩ : ∃ t : Fin cfg0.N, t.val = 2 * (R.val / 1024) + C.val / 1024 := ⟨⟨2 * (R.val / 1024) + C.val / 1024, by omega⟩, rfl⟩
  have hR : R.val = 1024 * (t.val / 2) + (⟨R.val % 1024, by omega⟩ : Fin 1024).val := by show R.val = 1024 * (t.val / 2) + R.val % 1024; omega
  have hC : C.val = 1024 * (t.val % 2) + (⟨C.val % 1024, by omega⟩ : Fin 1024).val := by show C.val = 1024 * (t.val % 2) + C.val % 1024; omega
  generalize (⟨R.val % 1024, by omega⟩ : Fin 1024) = r at hR
  generalize (⟨C.val % 1024, by omega⟩ : Fin 1024) = d at hC
  refine (final_at m c t r d R hR C hC).trans ?_
  refine (out_apply c _ _ _ _ _ _ _ _ _ r d).trans ?_
  refine Eq.trans ?_ (ref_at _ _ R C ⟨4096 + C.val, by omega⟩ rfl).symm
  exact Finset.sum_congr rfl fun k _ => congr (congrArg HMul.hMul (blk0 m c t r k R hR))
    (blk1 m c t k d ⟨4096 + C.val, by omega⟩ (by show 4096 + C.val = _; omega))

/-- The kernel as printed: it runs, leaves its arguments, and ends with every counter at zero. -/
theorem frame_kernel : Cert.quiescent_KernelNaV := fun m ρ _ => Cert.KernelNaV.Gen.frame (F := Bits) m ρ

/-- The same of its idealization. -/
theorem frame_ideal : Cert.quiescent_KernelNaVIdeal := fun m ρ _ => Cert.KernelNaVIdeal.Gen.frame (F := Ideal) m ρ

/-- The reference runs, leaves its arguments, and has no counter. -/
theorem frame_ref : Cert.quiescent_ReferenceNaVIdeal := fun m ρ _ =>
  (θ_run Cert.ReferenceNaVIdeal.defs _ _).mono (fun r h => ⟨fun c => (h c).2, sem_eq_zero_of_no_sems (by decide) r.2⟩)
    (Cert.ReferenceNaVIdeal.Value.run (F := Ideal) m ρ)

/-- The two programs have one text. -/
theorem preserves : Cert.preserves_KernelNaV_KernelNaVIdeal := trivial

/-- The kernel's result is the reference's over the extended reals. -/
theorem algebraic : Cert.algebraic_KernelNaVIdeal_ReferenceNaVIdeal := by
  intro m ρ m' ρ' _ hagree
  refine ⟨fun c => (dats m 0 c).arrAt 2 cfg0.N, ?_, ?_⟩
  · exact (θ_run Cert.KernelNaVIdeal.defs _ _).mono (fun r h c => ⟨(h c).1 2,
      ((h c).2 Cert.KernelNaVIdeal.main_arg0 (Pipeline.mem_restRefs_of Cert.KernelNaVIdeal.main_arg0 (by decide) (by decide))).trans (V_main_arg0 m c),
      ((h c).2 Cert.KernelNaVIdeal.main_arg1 (Pipeline.mem_restRefs_of Cert.KernelNaVIdeal.main_arg1 (by decide) (by decide))).trans (V_main_arg1 m c)⟩)
      (run_main (F := Ideal) m ρ)
  · refine (θ_run Cert.ReferenceNaVIdeal.defs _ _).mono (fun r h c => ⟨(h c).1.trans ?_, (h c).2⟩) (Cert.ReferenceNaVIdeal.Value.run (F := Ideal) m' ρ')
    rw [Cert.ReferenceNaVIdeal.Read.val_main_v10_eq]
    obtain ⟨e0, e1⟩ := hagree c
    rw [e0, e1]
    exact (final_eq m c).symm

end Cert.Proof.NaV

end
-- ==== Proof.CqBlocks.lean ====
module

public import proofs.«01_k».proof.Proof.Gen.KernelCqIdeal.Frame
public import proofs.«01_k».proof.Proof.RmsNorm
public import Idealize.ShloMosaic.Lib.StableHlo.RunRead

@[expose] public section
set_option maxRecDepth 16384
noncomputable section

/-! The query latents' projection's windows and its result, read at coordinates. -/

namespace Cert.KernelCqIdeal.Gen
open Idealize.ShloMosaic Idealize.ShloMosaic.TcCoe Idealize.ShloMosaic.Tactic Idealize.SL.Sem Idealize.ShloMosaic.StableHlo
open Idealize.ShloMosaic.Pipeline (Dat)
open Idealize.ShloMosaic.ValueIdx Cert.Tiles

theorem tr_0 : ∀ t : Fin cfg0.N, cc0_transform_0 (grid0.coords t) 0 = t.val ∧ cc0_transform_0 (grid0.coords t) 1 = 0 := by decide +kernel
theorem tr_1 : ∀ t : Fin cfg0.N, cc0_transform_1 (grid0.coords t) 0 = 0 ∧ cc0_transform_1 (grid0.coords t) 1 = 0 ∧ cc0_transform_1 (grid0.coords t) 2 = 4 := by decide +kernel
theorem tr_2 : ∀ t : Fin cfg0.N, cc0_transform_2 (grid0.coords t) 0 = 0 ∧ cc0_transform_2 (grid0.coords t) 1 = 0 := by decide +kernel
theorem tr_3 : ∀ t : Fin cfg0.N, cc0_transform_3 (grid0.coords t) 0 = t.val ∧ cc0_transform_3 (grid0.coords t) 1 = 0 := by decide +kernel

variable (m : (ℓ : Loc nD τ sig) → Buf (Elt Ideal) ℓ)

/-- The activations the region finds: the argument without its leading axis. -/
theorem V_h (c : Dev nD) : V m c main_v1 = shapeCast S16384x4096 (m (c, Proc.tc.devRef main_arg0) : FVec Ideal S1x16384x4096 .f32)
    shapeCasts_S1x16384x4096_S16384x4096 := by
  after_reads_simp
  rfl

/-- The weights the region finds: the argument behind a leading axis of one. -/
theorem V_w (c : Dev nD) : V m c main_v3 = broadcastInDim S1x4096x16448 ![1, 2] bcast_S4096x16448_S1x4096x16448_1_2
    (m (c, Proc.tc.devRef main_arg1) : FVec Ideal S4096x16448 .f32) := by
  after_reads_simp
  rfl

/-- The norm's weights the region finds. -/
theorem V_g (c : Dev nD) : V m c main_v4 = shapeCast S1x1536 (m (c, Proc.tc.devRef main_arg2) : FVec Ideal S1536 .f32) shapeCasts_S1536_S1x1536 := by
  after_reads_simp
  rfl

/-- A block of the activations, at a row and a column. -/
theorem blk0 (c : Dev nD) (t : Fin cfg0.N) (r : Fin 512) (k : Fin 4096) (R : Fin 16384) (hR : R.val = 512 * t.val + r.val) :
    (iblk m c 0 t : S512x4096.Idx → EReal) (ix2 r k) = (m (c, Proc.tc.devRef main_arg0) : S1x16384x4096.Idx → EReal) (ix3 (0 : Fin 1) R k) := by
  have h : (iblk m c 0 t : S512x4096.Idx → EReal) (ix2 r k) = (V m c main_v1 : S16384x4096.Idx → EReal) (ix2 R k) := by
    show (V m c main_v1 : S16384x4096.Idx → EReal) (((cfg0.win 0).rect t).emb (ix2 r k)) = _
    congr 1
    funext a
    refine Fin.ext ((Pipeline.Window.rect_emb_val_off (cfg0.win 0) t (ix2 r k) a).trans ?_)
    match a with
    | ⟨0, _⟩ => show cc0_transform_0 (grid0.coords t) 0 * 512 + r.val = R.val; rw [(tr_0 t).1]; omega
    | ⟨1, _⟩ => show cc0_transform_0 (grid0.coords t) 1 * 4096 + k.val = k.val; rw [(tr_0 t).2]; omega
  exact h.trans ((congrFun (V_h m c) (ix2 R k)).trans (cast_drop 16384 4096 _ _ R k))

/-- A block of the weights, at a row and a column. -/
theorem blk1 (c : Dev nD) (t : Fin cfg0.N) (k : Fin 4096) (d : Fin 1536) (C : Fin 16448) (hC : C.val = 6144 + d.val) :
    (X0_1 m c t : S1x4096x1536.Idx → EReal) (ix3 (0 : Fin 1) k d) = (m (c, Proc.tc.devRef main_arg1) : S4096x16448.Idx → EReal) (ix2 k C) := by
  have h : (X0_1 m c t : S1x4096x1536.Idx → EReal) (ix3 (0 : Fin 1) k d) = (V m c main_v3 : S1x4096x16448.Idx → EReal) (ix3 (0 : Fin 1) k C) := by
    have e := moved0_1 t (ix3 (0 : Fin 1) k d : S1x4096x1536.Idx)
    unfold X0_1 Pipeline.Window.fill
    refine (dif_pos e).trans ?_
    refine (Eq.refl ((V m c main_v3 : S1x4096x16448.Idx → EReal) (((cfg0.win 1).rect t).emb _))).trans (congrArg _ ?_)
    funext a
    refine Fin.ext ((Pipeline.Window.rect_emb_val_off (cfg0.win 1) t _ a).trans ?_)
    match a with
    | ⟨0, _⟩ => show cc0_transform_1 (grid0.coords t) 0 * 1 + 0 = 0; rw [(tr_1 t).1]
    | ⟨1, _⟩ => show cc0_transform_1 (grid0.coords t) 1 * 4096 + k.val = k.val; rw [(tr_1 t).2.1]; omega
    | ⟨2, _⟩ => show cc0_transform_1 (grid0.coords t) 2 * 1536 + d.val = C.val; rw [(tr_1 t).2.2]; omega
  exact h.trans ((congrFun (V_w m c) (ix3 (0 : Fin 1) k C)).trans (bcast_lead 4096 16448 _ _ (by decide) (by decide) (0 : Fin 1) k C))

/-- The weights' block, at a column. -/
theorem blk2 (c : Dev nD) (t : Fin cfg0.N) (d : Fin 1536) :
    (iblk m c 2 t : S1x1536.Idx → EReal) (ix2 (0 : Fin 1) d) = (m (c, Proc.tc.devRef main_arg2) : S1536.Idx → EReal) (ix1 d) := by
  have h : (iblk m c 2 t : S1x1536.Idx → EReal) (ix2 (0 : Fin 1) d) = (V m c main_v4 : S1x1536.Idx → EReal) (ix2 (0 : Fin 1) d) := by
    show (V m c main_v4 : S1x1536.Idx → EReal) (((cfg0.win 2).rect t).emb (ix2 (0 : Fin 1) d)) = _
    congr 1
    funext a
    refine Fin.ext ((Pipeline.Window.rect_emb_val_off (cfg0.win 2) t (ix2 (0 : Fin 1) d) a).trans ?_)
    match a with
    | ⟨0, _⟩ => show cc0_transform_2 (grid0.coords t) 0 * 1 + 0 = 0; rw [(tr_2 t).1]
    | ⟨1, _⟩ => show cc0_transform_2 (grid0.coords t) 1 * 1536 + d.val = d.val; rw [(tr_2 t).2]; omega
  refine h.trans ((congrFun (V_g m c) (ix2 (0 : Fin 1) d)).trans (shapeCast_apply _ _ (ix2 (0 : Fin 1) d) (ix1 d) ?_))
  rw [Shape.rowMajor_val_two, Shape.rowMajor_val_one]
  show d.val = 0 * 1536 + d.val
  omega

/-- The body at a row and a column: the row's product with the columns, normalized. -/
theorem out_apply (c : Dev nD) (i : grid0.Coords) (a2 : Memref sig .tc .vmem S512x4096 .bf16) (h2 : a2.IsWhole) (a3 : Memref sig .tc .vmem S1x4096x1536 .bf16)
    (h3 : a3.IsWhole) (a4 : Memref sig .tc .vmem S1x1536 .f32) (h4 : a4.IsWhole) (a5 : Memref sig .tc .vmem S512x1536 .bf16) (h5 : a5.IsWhole)
    (x0 : Vec Ideal S512x4096 .bf16) (x1 : Vec Ideal S1x4096x1536 .bf16) (x2 : Vec Ideal S1x1536 .f32) (r : Fin 512) (d : Fin 1536) :
    out0_A_3 c i a2 h2 a3 h3 a4 h4 a5 h5 x0 x1 x2 (ix2 r d)
      = rms 1536 0x44C00000#32 (fun e => ∑ k : Fin 4096, x0 (ix2 r k) * x1 (ix3 (0 : Fin 1) k e)) (x2 (ix2 (0 : Fin 1) d)) d := by
  unfold out0_A_3
  rw [View.read_writes_eq_canon _ _ _ (cover0_A_3 c i a2 h2 a3 h3 a4 h4 a5 h5 x0 x1 x2)]
  unfold kernelRun0_A
  dsimp only
  sl_unfold_words
  rw [View.canon_unit_zero (by funext a; fin_cases a <;> rfl)]
  rw [View.readAt_eq_ld, View.readAt_eq_ld, View.readAt_eq_ld, h2.read_unread, h3.read_unread, h4.read_unread]
  rw [View.ld_unit_zero (S := S512x4096) (by funext a; fin_cases a <;> rfl), View.ld_unit_zero (S := S1x4096x1536) (by funext a; fin_cases a <;> rfl),
    View.ld_unit_zero (S := S1x1536) (by funext a; fin_cases a <;> rfl)]
  unfold k0_pay1
  refine (rms_apply 512 1536 (by decide) (by decide) 0x44C00000#32 _ x2 _ _ _ _ _ r d).trans ?_
  exact congrArg (fun f => rms 1536 0x44C00000#32 f _ d)
    (funext fun e => dot_drop 512 4096 1536 (φ₁ := .bf16) (φ₂ := .bf16) none x0 x1 _ _ r e)

theorem emb3 (t : Fin cfg0.N) (r : Fin 512) (d : Fin 1536) (R : Fin 16384) (hR : R.val = 512 * t.val + r.val)
    (C : Fin 1536) (hC : C.val = d.val) :
    ((cfg0.win 3).rect t).emb (ix2 r d) = (ix2 R C : S16384x1536.Idx) := by
  funext a
  refine Fin.ext ((Pipeline.Window.rect_emb_val_off (cfg0.win 3) t (ix2 r d) a).trans ?_)
  match a with
  | ⟨0, _⟩ => show cc0_transform_3 (grid0.coords t) 0 * 512 + r.val = R.val; rw [(tr_3 t).1]; omega
  | ⟨1, _⟩ => show cc0_transform_3 (grid0.coords t) 1 * 1536 + d.val = C.val; rw [(tr_3 t).2]; omega

theorem inj3 : ∀ t t' : Fin cfg0.N, (cfg0.win 3).index t = (cfg0.win 3).index t' → t = t' := by
  intro t t' h
  have e0 : cc0_transform_3 (grid0.coords t) 0 = cc0_transform_3 (grid0.coords t') 0 := congrFun h 0
  rw [(tr_3 t).1, (tr_3 t').1] at e0
  exact Fin.ext (by omega)

theorem disjoint3 (t t' : Fin cfg0.N) (_ : (cfg0.win 3).flush t = true) (_ : (cfg0.win 3).flush t' = true) (h : t ≠ t') :
    Disjoint ((cfg0.win 3).blk t).view.set ((cfg0.win 3).blk t').view.set :=
  (cfg0.win 3).disjoint_blk fun e => h (inj3 t t' e)

/-- The result after the run, at a row and a column: what its point left in its block. -/
theorem final_at (c : Dev nD) (t : Fin cfg0.N) (r : Fin 512) (d : Fin 1536) (R : Fin 16384) (hR : R.val = 512 * t.val + r.val)
    (C : Fin 1536) (hC : C.val = d.val) :
    ((dats m 0 c).arrAt 3 cfg0.N : S16384x1536.Idx → EReal) (ix2 R C) = (outsAt0 m c t : S512x1536.Idx → EReal) (ix2 r d) := by
  have h := (dats m 0 c).arrAt_emb_eq_flushed 3 disjoint3 t (flush0_3 t) (ix2 r d : S512x1536.Idx)
  have e : ((cfg0.win 3).blk t).view.emb (ix2 r d : S512x1536.Idx) = (ix2 R C : S16384x1536.Idx) := emb3 t r d R hR C hC
  rw [e] at h
  refine h.trans ?_
  show (cfg0.win 3).cut (grid0.coords t) ((dats m 0 c).after 3 t) (ix2 r d : S512x1536.Idx) = _
  rw [after0_3]
  rfl

end Cert.KernelCqIdeal.Gen

end
-- ==== Proof.CqClaim.lean ====
module

public import proofs.«01_k».proof.Defs
public import proofs.«01_k».proof.Proof.CqBlocks
public import proofs.«01_k».proof.Proof.Gen.KernelCq.Frame
public import proofs.«01_k».proof.Proof.Gen.ReferenceCqIdeal.Read
public import proofs.«01_k».proof.Proof.Gen.ReferenceCqIdeal.Run
public import proofs.«01_k».proof.Proof.Gen.ReferenceCqIdeal
public import Idealize.ShloMosaic.Lib.Quiescent

@[expose] public section
set_option maxRecDepth 16384
noncomputable section

/-! The query latents' projection computes its reference. -/

namespace Cert.Proof.Cq
open Idealize.ShloMosaic Idealize.ShloMosaic.TcCoe Idealize.SL.Sem
open Idealize.ShloMosaic.ValueIdx Cert.Tiles
open Cert.KernelCqIdeal Cert.KernelCqIdeal.Gen Cert.ReferenceCqIdeal.Read

/-- A column of the input projection's weights that makes the query latents. -/
def col (e : Fin 1536) : Fin 16448 := ⟨6144 + e.val, by have := e.isLt; omega⟩

/-- The reference's latents before their norm. -/
theorem ref_lat (x0 : FVec Ideal S1x16384x4096 .f32) (x1 : FVec Ideal S4096x16448 .f32) (R : Fin 16384) (e : Fin 1536) :
    (val_main_v4 (F := Ideal) x0 x1 : Cert.ReferenceCqIdeal.S1x16384x1536.Idx → EReal) (ix3 (0 : Fin 1) R e) = ∑ k : Fin 4096, x0 (ix3 (0 : Fin 1) R k) * x1 (ix2 k (col e)) := by
  rw [val_main_v4_apply, val_main_v0_apply]
  refine Finset.sum_congr rfl fun k _ => congr (congrArg HMul.hMul (congrArg x0 (eq_ix3 _))) (congrArg x1 ?_)
  exact (eq_ix2 _).trans (congrArg (fun G : Fin 16448 => (ix2 k G : S4096x16448.Idx)) (Fin.ext rfl))

/-- The reference's result at a row and a column. -/
theorem ref_at (x0 : FVec Ideal S1x16384x4096 .f32) (x1 : FVec Ideal S4096x16448 .f32) (x2 : FVec Ideal S1536 .f32) (R : Fin 16384) (C : Fin 1536) :
    (val_main_v23 (F := Ideal) x0 x1 x2 : S16384x1536.Idx → EReal) (ix2 R C)
      = rms 1536 0x44C00000#32 (fun e => ∑ k : Fin 4096, x0 (ix3 (0 : Fin 1) R k) * x1 (ix2 k (col e))) (x2 (ix1 C)) C := by
  refine (val_main_v23_apply (F := Ideal) x0 x1 x2 _).trans ?_
  show (val_main_v22 (F := Ideal) x0 x1 x2 : S16384x1536.Idx → EReal) (ix2 R C) = _
  unfold val_main_v22
  refine (cast_drop 16384 1536 _ _ R C).trans ?_
  have hs : (val_main_v10 (F := Ideal) x0 x1 : Cert.ReferenceCqIdeal.S1x16384.Idx → EReal) (ix2 (0 : Fin 1) R)
      = ∑ e : Fin 1536, (∑ k : Fin 4096, x0 (ix3 (0 : Fin 1) R k) * x1 (ix2 k (col e))) * (∑ k : Fin 4096, x0 (ix3 (0 : Fin 1) R k) * x1 (ix2 k (col e))) := by
    refine (val_main_v10_apply x0 x1 _).trans ?_
    refine (congrArg (HAdd.hAdd (α := EReal) (β := EReal) (γ := EReal) · _) (show (val_main_cst (F := Ideal)) _ = (0 : EReal) from Ideal.ofBits_zero_f32)).trans ?_
    rw [zero_add]
    refine Finset.sum_congr rfl fun e _ => ?_
    refine (congrArg (val_main_v9 (F := Ideal) x0 x1 : Cert.ReferenceCqIdeal.S1x16384x1536.Idx → EReal) (eq_ix3 _)).trans ?_
    exact congr (congrArg HMul.hMul (ref_lat x0 x1 R e)) (ref_lat x0 x1 R e)
  have hn : (val_main_v17 (F := Ideal) x0 x1 : Cert.ReferenceCqIdeal.S1x16384x1536.Idx → EReal) (ix3 (0 : Fin 1) R C)
      = Ideal.rsqrt (Ideal.div (∑ e : Fin 1536, (∑ k : Fin 4096, x0 (ix3 (0 : Fin 1) R k) * x1 (ix2 k (col e)))
          * (∑ k : Fin 4096, x0 (ix3 (0 : Fin 1) R k) * x1 (ix2 k (col e)))) (Ideal.ofBits .f32 0x44C00000#32) + Ideal.ofBits .f32 0x358637BD#32) := by
    rw [val_main_v17_apply, val_main_v16_apply, val_main_v15_apply, val_main_v13_apply, val_main_v14_apply, val_main_v12_apply, val_main_v11_apply]
    refine congrArg (fun s : EReal => Ideal.rsqrt (Ideal.div s (Ideal.ofBits .f32 0x44C00000#32) + Ideal.ofBits .f32 0x358637BD#32)) ?_
    exact (congrArg (val_main_v10 (F := Ideal) x0 x1 : Cert.ReferenceCqIdeal.S1x16384.Idx → EReal) (eq_ix2 _)).trans hs
  rw [val_main_v21_apply, val_main_v18_apply, val_main_v20_apply, val_main_v19_apply]
  unfold rms
  exact congr (congrArg HMul.hMul (congr (congrArg HMul.hMul (ref_lat x0 x1 R C)) hn)) (congrArg x2 (eq_ix1 _))

variable (m : (ℓ : Loc nD τ sig) → Buf (Elt Ideal) ℓ)

/-- The kernel's result is the reference's at every row and column. -/
theorem final_eq (c : Dev nD) : (dats m 0 c).arrAt 3 cfg0.N
      = val_main_v23 (F := Ideal) (m (c, Proc.tc.devRef main_arg0)) (m (c, Proc.tc.devRef main_arg1)) (m (c, Proc.tc.devRef main_arg2)) := by
  refine same2 _ _ fun R C => ?_
  have hN : cfg0.N = 32 := by decide
  have hRl := R.isLt
  obtain ⟨t, ht⟩ : ∃ t : Fin cfg0.N, t.val = R.val / 512 := ⟨⟨R.val / 512, by omega⟩, rfl⟩
  have hR : R.val = 512 * t.val + (⟨R.val % 512, by omega⟩ : Fin 512).val := by show R.val = 512 * t.val + R.val % 512; omega
  generalize (⟨R.val % 512, by omega⟩ : Fin 512) = r at hR
  refine (final_at m c t r C R hR C rfl).trans ?_
  refine (out_apply c _ _ _ _ _ _ _ _ _ _ _ _ r C).trans ?_
  refine Eq.trans ?_ (ref_at _ _ _ R C).symm
  refine congr (congr (congrArg (rms 1536 0x44C00000#32) (funext fun e => ?_)) (blk2 m c t C)) rfl
  exact Finset.sum_congr rfl fun k _ => congr (congrArg HMul.hMul (blk0 m c t r k R hR)) (blk1 m c t k e (col e) rfl)

/-- The kernel as printed: it runs, leaves its arguments, and ends with every counter at zero. -/
theorem frame_kernel : Cert.quiescent_KernelCq := fun m ρ _ => Cert.KernelCq.Gen.frame (F := Bits) m ρ

/-- The same of its idealization. -/
theorem frame_ideal : Cert.quiescent_KernelCqIdeal := fun m ρ _ => Cert.KernelCqIdeal.Gen.frame (F := Ideal) m ρ

/-- The reference runs, leaves its arguments, and has no counter. -/
theorem frame_ref : Cert.quiescent_ReferenceCqIdeal := fun m ρ _ =>
  (θ_run Cert.ReferenceCqIdeal.defs _ _).mono (fun r h => ⟨fun c => (h c).2, sem_eq_zero_of_no_sems (by decide) r.2⟩)
    (Cert.ReferenceCqIdeal.Value.run (F := Ideal) m ρ)

/-- The two programs have one text. -/
theorem preserves : Cert.preserves_KernelCq_KernelCqIdeal := trivial

/-- The kernel's result is the reference's over the extended reals. -/
theorem algebraic : Cert.algebraic_KernelCqIdeal_ReferenceCqIdeal := by
  intro m ρ m' ρ' _ hagree
  refine ⟨fun c => (dats m 0 c).arrAt 3 cfg0.N, ?_, ?_⟩
  · exact (θ_run Cert.KernelCqIdeal.defs _ _).mono (fun r h c => ⟨(h c).1 3,
      ((h c).2 Cert.KernelCqIdeal.main_arg0 (Pipeline.mem_restRefs_of Cert.KernelCqIdeal.main_arg0 (by decide) (by decide))).trans (V_main_arg0 m c),
      ((h c).2 Cert.KernelCqIdeal.main_arg1 (Pipeline.mem_restRefs_of Cert.KernelCqIdeal.main_arg1 (by decide) (by decide))).trans (V_main_arg1 m c),
      ((h c).2 Cert.KernelCqIdeal.main_arg2 (Pipeline.mem_restRefs_of Cert.KernelCqIdeal.main_arg2 (by decide) (by decide))).trans (V_main_arg2 m c)⟩)
      (run_main (F := Ideal) m ρ)
  · refine (θ_run Cert.ReferenceCqIdeal.defs _ _).mono (fun r h c => ⟨(h c).1.trans ?_, (h c).2⟩) (Cert.ReferenceCqIdeal.Value.run (F := Ideal) m' ρ')
    rw [Cert.ReferenceCqIdeal.Read.val_main_v23_eq]
    obtain ⟨e0, e1, e2⟩ := hagree c
    rw [e0, e1, e2]
    exact (final_eq m c).symm

end Cert.Proof.Cq

end
-- ==== Proof.NormBlocks.lean ====
module

public import proofs.«01_k».proof.Proof.Gen.KernelNormIdeal.Frame
public import proofs.«01_k».proof.Proof.RmsNorm
public import Idealize.ShloMosaic.Lib.StableHlo.RunRead

@[expose] public section
set_option maxRecDepth 16384
noncomputable section

/-! The norm and modulation's windows and its result, read at coordinates. -/

namespace Cert.KernelNormIdeal.Gen
open Idealize.ShloMosaic Idealize.ShloMosaic.TcCoe Idealize.ShloMosaic.Tactic Idealize.SL.Sem Idealize.ShloMosaic.StableHlo
open Idealize.ShloMosaic.Pipeline (Dat)
open Idealize.ShloMosaic.ValueIdx Cert.Tiles

theorem tr_0 : ∀ t : Fin cfg0.N, cc0_transform_0 (grid0.coords t) 0 = t.val ∧ cc0_transform_0 (grid0.coords t) 1 = 0 := by decide +kernel
theorem tr_1 : ∀ t : Fin cfg0.N, cc0_transform_1 (grid0.coords t) 0 = 0 ∧ cc0_transform_1 (grid0.coords t) 1 = 0 := by decide +kernel
theorem tr_2 : ∀ t : Fin cfg0.N, cc0_transform_2 (grid0.coords t) 0 = 0 ∧ cc0_transform_2 (grid0.coords t) 1 = 0 := by decide +kernel
theorem tr_3 : ∀ t : Fin cfg0.N, cc0_transform_3 (grid0.coords t) 0 = 0 ∧ cc0_transform_3 (grid0.coords t) 1 = 0 := by decide +kernel
theorem tr_4 : ∀ t : Fin cfg0.N, cc0_transform_4 (grid0.coords t) 0 = t.val ∧ cc0_transform_4 (grid0.coords t) 1 = 0 := by decide +kernel

variable (m : (ℓ : Loc nD τ sig) → Buf (Elt Ideal) ℓ)

/-- The tokens the region finds: the argument without its leading axis. -/
theorem V_x (c : Dev nD) : V m c main_v0 = shapeCast S16384x4096 (m (c, Proc.tc.devRef main_arg0) : FVec Ideal S1x16384x4096 .f32)
    shapeCasts_S1x16384x4096_S16384x4096 := by
  after_reads_simp
  rfl

/-- The norm's weights the region finds, at a column. -/
theorem V_g (c : Dev nD) (d : Fin 4096) : (V m c main_v3 : S1x4096.Idx → EReal) (ix2 (0 : Fin 1) d)
    = (m (c, Proc.tc.devRef main_arg1) : S4096.Idx → EReal) (ix1 d) := by
  have e : V m c main_v3 = shapeCast S1x4096 (m (c, Proc.tc.devRef main_arg1) : FVec Ideal S4096 .f32) shapeCasts_S4096_S1x4096 := by
    after_reads_simp
    rfl
  refine (congrFun e (ix2 (0 : Fin 1) d)).trans (shapeCast_apply _ _ (ix2 (0 : Fin 1) d) (ix1 d) ?_)
  rw [Shape.rowMajor_val_two, Shape.rowMajor_val_one]
  show d.val = 0 * 4096 + d.val
  omega

/-- The scale the region finds, at a column. -/
theorem V_s (c : Dev nD) (d : Fin 4096) : (V m c main_v4 : S1x4096.Idx → EReal) (ix2 (0 : Fin 1) d)
    = (m (c, Proc.tc.devRef main_arg3) : S1x1x4096.Idx → EReal) (ix3 (0 : Fin 1) (0 : Fin 1) d) := by
  have e : V m c main_v4 = shapeCast S1x4096 (shapeCast S4096 (m (c, Proc.tc.devRef main_arg3) : FVec Ideal S1x1x4096 .f32) shapeCasts_S1x1x4096_S4096)
      shapeCasts_S4096_S1x4096 := by
    after_reads_simp
    rfl
  refine (congrFun e (ix2 (0 : Fin 1) d)).trans ((shapeCast_apply _ _ (ix2 (0 : Fin 1) d) (ix1 d) ?_).trans
    (shapeCast_apply _ _ (ix1 d) (ix3 (0 : Fin 1) (0 : Fin 1) d) ?_))
  · rw [Shape.rowMajor_val_two, Shape.rowMajor_val_one]
    show d.val = 0 * 4096 + d.val
    omega
  · rw [Shape.rowMajor_val_three, Shape.rowMajor_val_one]
    show (0 * 1 + 0) * 4096 + d.val = d.val
    omega

/-- The shift the region finds, at a column. -/
theorem V_t (c : Dev nD) (d : Fin 4096) : (V m c main_v5 : S1x4096.Idx → EReal) (ix2 (0 : Fin 1) d)
    = (m (c, Proc.tc.devRef main_arg2) : S1x1x4096.Idx → EReal) (ix3 (0 : Fin 1) (0 : Fin 1) d) := by
  have e : V m c main_v5 = shapeCast S1x4096 (shapeCast S4096 (m (c, Proc.tc.devRef main_arg2) : FVec Ideal S1x1x4096 .f32) shapeCasts_S1x1x4096_S4096)
      shapeCasts_S4096_S1x4096 := by
    after_reads_simp
    rfl
  refine (congrFun e (ix2 (0 : Fin 1) d)).trans ((shapeCast_apply _ _ (ix2 (0 : Fin 1) d) (ix1 d) ?_).trans
    (shapeCast_apply _ _ (ix1 d) (ix3 (0 : Fin 1) (0 : Fin 1) d) ?_))
  · rw [Shape.rowMajor_val_two, Shape.rowMajor_val_one]
    show d.val = 0 * 4096 + d.val
    omega
  · rw [Shape.rowMajor_val_three, Shape.rowMajor_val_one]
    show (0 * 1 + 0) * 4096 + d.val = d.val
    omega

/-- A block of the tokens, at a row and a column. -/
theorem blk0 (c : Dev nD) (t : Fin cfg0.N) (r : Fin 512) (k : Fin 4096) (R : Fin 16384) (hR : R.val = 512 * t.val + r.val) :
    (iblk m c 0 t : S512x4096.Idx → EReal) (ix2 r k) = (m (c, Proc.tc.devRef main_arg0) : S1x16384x4096.Idx → EReal) (ix3 (0 : Fin 1) R k) := by
  have h : (iblk m c 0 t : S512x4096.Idx → EReal) (ix2 r k) = (V m c main_v0 : S16384x4096.Idx → EReal) (ix2 R k) := by
    show (V m c main_v0 : S16384x4096.Idx → EReal) (((cfg0.win 0).rect t).emb (ix2 r k)) = _
    congr 1
    funext a
    refine Fin.ext ((Pipeline.Window.rect_emb_val_off (cfg0.win 0) t (ix2 r k) a).trans ?_)
    match a with
    | ⟨0, _⟩ => show cc0_transform_0 (grid0.coords t) 0 * 512 + r.val = R.val; rw [(tr_0 t).1]; omega
    | ⟨1, _⟩ => show cc0_transform_0 (grid0.coords t) 1 * 4096 + k.val = k.val; rw [(tr_0 t).2]; omega
  exact h.trans ((congrFun (V_x m c) (ix2 R k)).trans (cast_drop 16384 4096 _ _ R k))

/-- The block of the norm's weights, at a column. -/
theorem blk1 (c : Dev nD) (t : Fin cfg0.N) (d : Fin 4096) :
    (iblk m c 1 t : S1x4096.Idx → EReal) (ix2 (0 : Fin 1) d) = (m (c, Proc.tc.devRef main_arg1) : S4096.Idx → EReal) (ix1 d) := by
  have h : (iblk m c 1 t : S1x4096.Idx → EReal) (ix2 (0 : Fin 1) d) = (V m c main_v3 : S1x4096.Idx → EReal) (ix2 (0 : Fin 1) d) := by
    show (V m c main_v3 : S1x4096.Idx → EReal) (((cfg0.win 1).rect t).emb (ix2 (0 : Fin 1) d)) = _
    congr 1
    funext a
    refine Fin.ext ((Pipeline.Window.rect_emb_val_off (cfg0.win 1) t (ix2 (0 : Fin 1) d) a).trans ?_)
    match a with
    | ⟨0, _⟩ => show cc0_transform_1 (grid0.coords t) 0 * 1 + 0 = 0; rw [(tr_1 t).1]
    | ⟨1, _⟩ => show cc0_transform_1 (grid0.coords t) 1 * 4096 + d.val = d.val; rw [(tr_1 t).2]; omega
  exact h.trans (V_g m c d)

/-- The block of the scale, at a column. -/
theorem blk2 (c : Dev nD) (t : Fin cfg0.N) (d : Fin 4096) :
    (iblk m c 2 t : S1x4096.Idx → EReal) (ix2 (0 : Fin 1) d) = (m (c, Proc.tc.devRef main_arg3) : S1x1x4096.Idx → EReal) (ix3 (0 : Fin 1) (0 : Fin 1) d) := by
  have h : (iblk m c 2 t : S1x4096.Idx → EReal) (ix2 (0 : Fin 1) d) = (V m c main_v4 : S1x4096.Idx → EReal) (ix2 (0 : Fin 1) d) := by
    show (V m c main_v4 : S1x4096.Idx → EReal) (((cfg0.win 2).rect t).emb (ix2 (0 : Fin 1) d)) = _
    congr 1
    funext a
    refine Fin.ext ((Pipeline.Window.rect_emb_val_off (cfg0.win 2) t (ix2 (0 : Fin 1) d) a).trans ?_)
    match a with
    | ⟨0, _⟩ => show cc0_transform_2 (grid0.coords t) 0 * 1 + 0 = 0; rw [(tr_2 t).1]
    | ⟨1, _⟩ => show cc0_transform_2 (grid0.coords t) 1 * 4096 + d.val = d.val; rw [(tr_2 t).2]; omega
  exact h.trans (V_s m c d)

/-- The block of the shift, at a column. -/
theorem blk3 (c : Dev nD) (t : Fin cfg0.N) (d : Fin 4096) :
    (iblk m c 3 t : S1x4096.Idx → EReal) (ix2 (0 : Fin 1) d) = (m (c, Proc.tc.devRef main_arg2) : S1x1x4096.Idx → EReal) (ix3 (0 : Fin 1) (0 : Fin 1) d) := by
  have h : (iblk m c 3 t : S1x4096.Idx → EReal) (ix2 (0 : Fin 1) d) = (V m c main_v5 : S1x4096.Idx → EReal) (ix2 (0 : Fin 1) d) := by
    show (V m c main_v5 : S1x4096.Idx → EReal) (((cfg0.win 3).rect t).emb (ix2 (0 : Fin 1) d)) = _
    congr 1
    funext a
    refine Fin.ext ((Pipeline.Window.rect_emb_val_off (cfg0.win 3) t (ix2 (0 : Fin 1) d) a).trans ?_)
    match a with
    | ⟨0, _⟩ => show cc0_transform_3 (grid0.coords t) 0 * 1 + 0 = 0; rw [(tr_3 t).1]
    | ⟨1, _⟩ => show cc0_transform_3 (grid0.coords t) 1 * 4096 + d.val = d.val; rw [(tr_3 t).2]; omega
  exact h.trans (V_t m c d)

/-- A row broadcast down the rows. -/
theorem row_apply (x : FVec Ideal S1x4096 .f32) (h : S1x4096.Broadcasts S512x4096) (r : Fin 512) (d : Fin 4096) :
    broadcastTo S512x4096 x h (ix2 r d) = x (ix2 (0 : Fin 1) d) :=
  broadcastTo_apply x h (ix2 r d) (ix2 (0 : Fin 1) d) fun a => by
    match a with
    | ⟨0, _⟩ => rfl
    | ⟨1, _⟩ => rfl

/-- The body at a row and a column: the row normalized, scaled and shifted. -/
theorem out_apply (x0 : Vec Ideal S512x4096 .f32) (x1 x2 x3 : Vec Ideal S1x4096 .f32) (r : Fin 512) (d : Fin 4096) :
    out0_4 x0 x1 x2 x3 (ix2 r d)
      = HAdd.hAdd (α := EReal) (β := EReal) (γ := EReal) (HMul.hMul (α := EReal) (β := EReal) (γ := EReal)
          (rms 4096 0x45800000#32 (fun e => x0 (ix2 r e)) (x1 (ix2 (0 : Fin 1) d)) d)
          (HAdd.hAdd (α := EReal) (β := EReal) (γ := EReal) (Ideal.ofBits .f32 0x3F800000#32) (x2 (ix2 (0 : Fin 1) d)))) (x3 (ix2 (0 : Fin 1) d)) := by
  unfold out0_4
  rw [View.canon_unit_zero (by funext a; fin_cases a <;> rfl)]
  rw [View.ld_unit_zero (S := S512x4096) (by funext a; fin_cases a <;> rfl), View.ld_unit_zero (S := S1x4096) (by funext a; fin_cases a <;> rfl),
    View.ld_unit_zero (S := S1x4096) (by funext a; fin_cases a <;> rfl), View.ld_unit_zero (S := S1x4096) (by funext a; fin_cases a <;> rfl)]
  unfold k0_pay1
  dsimp only
  rw [cast_same x0, cast_same x2, cast_same x3]
  refine congr (congrArg (HAdd.hAdd (α := EReal) (β := EReal) (γ := EReal)) (congr (congrArg (HMul.hMul (α := EReal) (β := EReal) (γ := EReal)) ?_) ?_)) ?_
  · exact rms_apply 512 4096 (by decide) (by decide) 0x45800000#32 x0 x1 _ _ _ _ _ r d
  · exact (row_apply _ _ r d).trans rfl
  · exact row_apply _ _ r d

theorem emb4 (t : Fin cfg0.N) (r : Fin 512) (d : Fin 4096) (R : Fin 16384) (hR : R.val = 512 * t.val + r.val)
    (C : Fin 4096) (hC : C.val = d.val) :
    ((cfg0.win 4).rect t).emb (ix2 r d) = (ix2 R C : S16384x4096.Idx) := by
  funext a
  refine Fin.ext ((Pipeline.Window.rect_emb_val_off (cfg0.win 4) t (ix2 r d) a).trans ?_)
  match a with
  | ⟨0, _⟩ => show cc0_transform_4 (grid0.coords t) 0 * 512 + r.val = R.val; rw [(tr_4 t).1]; omega
  | ⟨1, _⟩ => show cc0_transform_4 (grid0.coords t) 1 * 4096 + d.val = C.val; rw [(tr_4 t).2]; omega

theorem inj4 : ∀ t t' : Fin cfg0.N, (cfg0.win 4).index t = (cfg0.win 4).index t' → t = t' := by
  intro t t' h
  have e0 : cc0_transform_4 (grid0.coords t) 0 = cc0_transform_4 (grid0.coords t') 0 := congrFun h 0
  rw [(tr_4 t).1, (tr_4 t').1] at e0
  exact Fin.ext (by omega)

theorem disjoint4 (t t' : Fin cfg0.N) (_ : (cfg0.win 4).flush t = true) (_ : (cfg0.win 4).flush t' = true) (h : t ≠ t') :
    Disjoint ((cfg0.win 4).blk t).view.set ((cfg0.win 4).blk t').view.set :=
  (cfg0.win 4).disjoint_blk fun e => h (inj4 t t' e)

/-- The result after the run, at a row and a column: what its point left in its block. -/
theorem final_at (c : Dev nD) (t : Fin cfg0.N) (r : Fin 512) (d : Fin 4096) (R : Fin 16384) (hR : R.val = 512 * t.val + r.val)
    (C : Fin 4096) (hC : C.val = d.val) :
    ((dats m 0 c).arrAt 4 cfg0.N : S16384x4096.Idx → EReal) (ix2 R C) = (out0_4 (iblk m c 0 t) (iblk m c 1 t) (iblk m c 2 t) (iblk m c 3 t) : S512x4096.Idx → EReal) (ix2 r d) := by
  have h := (dats m 0 c).arrAt_emb_eq_flushed 4 disjoint4 t (flush0_4 t) (ix2 r d : S512x4096.Idx)
  have e : ((cfg0.win 4).blk t).view.emb (ix2 r d : S512x4096.Idx) = (ix2 R C : S16384x4096.Idx) := emb4 t r d R hR C hC
  rw [e] at h
  refine h.trans ?_
  show (cfg0.win 4).cut (grid0.coords t) ((dats m 0 c).after 4 t) (ix2 r d : S512x4096.Idx) = _
  rw [after0_4]
  rfl

end Cert.KernelNormIdeal.Gen

end
-- ==== Proof.NormClaim.lean ====
module

public import proofs.«01_k».proof.Defs
public import proofs.«01_k».proof.Proof.NormBlocks
public import proofs.«01_k».proof.Proof.Gen.KernelNorm.Frame
public import proofs.«01_k».proof.Proof.Gen.ReferenceNormIdeal.Read
public import proofs.«01_k».proof.Proof.Gen.ReferenceNormIdeal.Run
public import proofs.«01_k».proof.Proof.Gen.ReferenceNormIdeal
public import Idealize.ShloMosaic.Lib.Quiescent

@[expose] public section
set_option maxRecDepth 16384
noncomputable section

/-! The norm and modulation computes its reference. -/

namespace Cert.Proof.Norm
open Idealize.ShloMosaic Idealize.ShloMosaic.TcCoe Idealize.SL.Sem
open Idealize.ShloMosaic.ValueIdx Cert.Tiles
open Cert.KernelNormIdeal Cert.KernelNormIdeal.Gen Cert.ReferenceNormIdeal.Read

/-- The reference's result at a row and a column. -/
theorem ref_at (x0 : FVec Ideal S1x16384x4096 .f32) (x1 : FVec Ideal S4096 .f32) (x2 x3 : FVec Ideal S1x1x4096 .f32) (R : Fin 16384) (C : Fin 4096) :
    (val_main_v20 (F := Ideal) x0 x1 x2 x3 : S16384x4096.Idx → EReal) (ix2 R C)
      = HAdd.hAdd (α := EReal) (β := EReal) (γ := EReal) (HMul.hMul (α := EReal) (β := EReal) (γ := EReal)
          (rms 4096 0x45800000#32 (fun e => x0 (ix3 (0 : Fin 1) R e)) (x1 (ix1 C)) C)
          (HAdd.hAdd (α := EReal) (β := EReal) (γ := EReal) (Ideal.ofBits .f32 0x3F800000#32) (x3 (ix3 (0 : Fin 1) (0 : Fin 1) C))))
          (x2 (ix3 (0 : Fin 1) (0 : Fin 1) C)) := by
  refine (val_main_v20_apply (F := Ideal) x0 x1 x2 x3 _).trans ?_
  show (val_main_v19 (F := Ideal) x0 x1 x2 x3 : S16384x4096.Idx → EReal) (ix2 R C) = _
  unfold val_main_v19
  refine (cast_drop 16384 4096 _ _ R C).trans ?_
  have hs : (val_main_v1 (F := Ideal) x0 : Cert.ReferenceNormIdeal.S1x16384.Idx → EReal) (ix2 (0 : Fin 1) R)
      = ∑ e : Fin 4096, x0 (ix3 (0 : Fin 1) R e) * x0 (ix3 (0 : Fin 1) R e) := by
    refine (val_main_v1_apply x0 _).trans ?_
    refine (congrArg (HAdd.hAdd (α := EReal) (β := EReal) (γ := EReal) · _) (show (val_main_cst (F := Ideal)) _ = (0 : EReal) from Ideal.ofBits_zero_f32)).trans ?_
    rw [zero_add]
    refine Finset.sum_congr rfl fun e _ => ?_
    exact congrArg (val_main_v0 (F := Ideal) x0 : S1x16384x4096.Idx → EReal) (eq_ix3 _)
  have hn : (val_main_v8 (F := Ideal) x0 : S1x16384x4096.Idx → EReal) (ix3 (0 : Fin 1) R C)
      = Ideal.rsqrt (Ideal.div (∑ e : Fin 4096, x0 (ix3 (0 : Fin 1) R e) * x0 (ix3 (0 : Fin 1) R e)) (Ideal.ofBits .f32 0x45800000#32)
          + Ideal.ofBits .f32 0x358637BD#32) := by
    rw [val_main_v8_apply, val_main_v7_apply, val_main_v6_apply, val_main_v4_apply, val_main_v5_apply, val_main_v3_apply, val_main_v2_apply]
    refine congrArg (fun s : EReal => Ideal.rsqrt (Ideal.div s (Ideal.ofBits .f32 0x45800000#32) + Ideal.ofBits .f32 0x358637BD#32)) ?_
    exact (congrArg (val_main_v1 (F := Ideal) x0 : Cert.ReferenceNormIdeal.S1x16384.Idx → EReal) (eq_ix2 _)).trans hs
  rw [val_main_v18_apply, val_main_v16_apply, val_main_v12_apply, val_main_v9_apply, val_main_v11_apply, val_main_v10_apply, val_main_v15_apply,
    val_main_v14_apply, val_main_v13_apply, val_main_v17_apply]
  unfold rms
  refine congr (congrArg (HAdd.hAdd (α := EReal) (β := EReal) (γ := EReal)) (congr (congrArg (HMul.hMul (α := EReal) (β := EReal) (γ := EReal)) ?_) ?_)) ?_
  · exact congr (congrArg HMul.hMul (congrArg (HMul.hMul (α := EReal) (β := EReal) (γ := EReal) _) hn)) (congrArg x1 (eq_ix1 _))
  · exact congrArg (HAdd.hAdd (α := EReal) (β := EReal) (γ := EReal) _) (congrArg x3 (eq_ix3 _))
  · exact congrArg x2 (eq_ix3 _)

variable (m : (ℓ : Loc nD τ sig) → Buf (Elt Ideal) ℓ)

/-- The kernel's result is the reference's at every row and column. -/
theorem final_eq (c : Dev nD) : (dats m 0 c).arrAt 4 cfg0.N
      = val_main_v20 (F := Ideal) (m (c, Proc.tc.devRef main_arg0)) (m (c, Proc.tc.devRef main_arg1)) (m (c, Proc.tc.devRef main_arg2))
          (m (c, Proc.tc.devRef main_arg3)) := by
  refine same2 _ _ fun R C => ?_
  have hN : cfg0.N = 32 := by decide
  have hRl := R.isLt
  obtain ⟨t, ht⟩ : ∃ t : Fin cfg0.N, t.val = R.val / 512 := ⟨⟨R.val / 512, by omega⟩, rfl⟩
  have hR : R.val = 512 * t.val + (⟨R.val % 512, by omega⟩ : Fin 512).val := by show R.val = 512 * t.val + R.val % 512; omega
  generalize (⟨R.val % 512, by omega⟩ : Fin 512) = r at hR
  refine (final_at m c t r C R hR C rfl).trans ?_
  refine (out_apply _ _ _ _ r C).trans ?_
  refine Eq.trans ?_ (ref_at _ _ _ _ R C).symm
  refine congr (congrArg (HAdd.hAdd (α := EReal) (β := EReal) (γ := EReal)) (congr (congrArg (HMul.hMul (α := EReal) (β := EReal) (γ := EReal)) ?_) ?_)) (blk3 m c t C)
  · exact congr (congr (congrArg (rms 4096 0x45800000#32) (funext fun e => blk0 m c t r e R hR)) (blk1 m c t C)) rfl
  · exact congrArg (HAdd.hAdd (α := EReal) (β := EReal) (γ := EReal) _) (blk2 m c t C)

/-- The kernel as printed: it runs, leaves its arguments, and ends with every counter at zero. -/
theorem frame_kernel : Cert.quiescent_KernelNorm := fun m ρ _ => Cert.KernelNorm.Gen.frame (F := Bits) m ρ

/-- The same of its idealization. -/
theorem frame_ideal : Cert.quiescent_KernelNormIdeal := fun m ρ _ => Cert.KernelNormIdeal.Gen.frame (F := Ideal) m ρ

/-- The reference runs, leaves its arguments, and has no counter. -/
theorem frame_ref : Cert.quiescent_ReferenceNormIdeal := fun m ρ _ =>
  (θ_run Cert.ReferenceNormIdeal.defs _ _).mono (fun r h => ⟨fun c => (h c).2, sem_eq_zero_of_no_sems (by decide) r.2⟩)
    (Cert.ReferenceNormIdeal.Value.run (F := Ideal) m ρ)

/-- The two programs have one text. -/
theorem preserves : Cert.preserves_KernelNorm_KernelNormIdeal := trivial

/-- The kernel's result is the reference's over the extended reals. -/
theorem algebraic : Cert.algebraic_KernelNormIdeal_ReferenceNormIdeal := by
  intro m ρ m' ρ' _ hagree
  refine ⟨fun c => (dats m 0 c).arrAt 4 cfg0.N, ?_, ?_⟩
  · exact (θ_run Cert.KernelNormIdeal.defs _ _).mono (fun r h c => ⟨(h c).1 4,
      ((h c).2 Cert.KernelNormIdeal.main_arg0 (Pipeline.mem_restRefs_of Cert.KernelNormIdeal.main_arg0 (by decide) (by decide))).trans (V_main_arg0 m c),
      ((h c).2 Cert.KernelNormIdeal.main_arg1 (Pipeline.mem_restRefs_of Cert.KernelNormIdeal.main_arg1 (by decide) (by decide))).trans (V_main_arg1 m c),
      ((h c).2 Cert.KernelNormIdeal.main_arg2 (Pipeline.mem_restRefs_of Cert.KernelNormIdeal.main_arg2 (by decide) (by decide))).trans (V_main_arg2 m c),
      ((h c).2 Cert.KernelNormIdeal.main_arg3 (Pipeline.mem_restRefs_of Cert.KernelNormIdeal.main_arg3 (by decide) (by decide))).trans (V_main_arg3 m c)⟩)
      (run_main (F := Ideal) m ρ)
  · refine (θ_run Cert.ReferenceNormIdeal.defs _ _).mono (fun r h c => ⟨(h c).1.trans ?_, (h c).2⟩) (Cert.ReferenceNormIdeal.Value.run (F := Ideal) m' ρ')
    rw [Cert.ReferenceNormIdeal.Read.val_main_v20_eq]
    obtain ⟨e0, e1, e2, e3⟩ := hagree c
    rw [e0, e1, e2, e3]
    exact (final_eq m c).symm

end Cert.Proof.Norm

end
-- ==== Proof.CkvBlocks.lean ====
module

public import proofs.«01_k».proof.Proof.Gen.KernelCkvIdeal.Frame
public import proofs.«01_k».proof.Proof.RmsNorm
public import proofs.«01_k».proof.Proof.GatherAt
public import Idealize.ShloMosaic.Lib.StableHlo.RunRead
public import Idealize.ShloMosaic.Lib.KernelVsHost

@[expose] public section
set_option maxRecDepth 16384
noncomputable section

/-! The key and value latents' projection's windows and its two results, read at coordinates. -/

namespace Cert.KernelCkvIdeal.Gen
open Idealize.ShloMosaic Idealize.ShloMosaic.TcCoe Idealize.ShloMosaic.Tactic Idealize.SL.Sem Idealize.ShloMosaic.StableHlo
open Idealize.ShloMosaic.Pipeline (Dat)
open Idealize.ShloMosaic.ValueIdx Cert.Tiles Cert.GatherAt

theorem tr_0 : ∀ t : Fin cfg0.N, cc0_transform_0 (grid0.coords t) 0 = t.val ∧ cc0_transform_0 (grid0.coords t) 1 = 0 := by decide +kernel
theorem tr_1 : ∀ t : Fin cfg0.N, cc0_transform_1 (grid0.coords t) 0 = 0 ∧ cc0_transform_1 (grid0.coords t) 1 = 0 ∧ cc0_transform_1 (grid0.coords t) 2 = 0 := by decide +kernel
theorem tr_2 : ∀ t : Fin cfg0.N, cc0_transform_2 (grid0.coords t) 0 = 0 ∧ cc0_transform_2 (grid0.coords t) 1 = 0 := by decide +kernel
theorem tr_3 : ∀ t : Fin cfg0.N, cc0_transform_3 (grid0.coords t) 0 = t.val ∧ cc0_transform_3 (grid0.coords t) 1 = 0 := by decide +kernel
theorem tr_4 : ∀ t : Fin cfg0.N, cc0_transform_4 (grid0.coords t) 0 = t.val ∧ cc0_transform_4 (grid0.coords t) 1 = 0 := by decide +kernel

/-- The zero the host pads with. -/
def padZero : FVec Ideal S_ .bf16 := sitofp .bf16 (constantI S_ 32 0#32)

theorem padZero_apply (i : S_.Idx) : padZero i = (0 : EReal) := by
  show (((0#32 : BitVec 32).toInt : ℝ) : EReal) = 0
  simp

/-- The rotary columns' partners. -/
def partnerIx : IVec S64x1 32 := broadcastInDim S64x1 ![0] bcast_S64_S64x1_0
  (select (constantI S64 1 0#1) (addi (fun i => lit0 (S64.rowMajor i)) (broadcastInDim S64 ![] bcast_S_S64 (constantI S_ 32 64#32)))
    (fun i => lit0 (S64.rowMajor i)))

/-- The partner of a rotary column: the halves of each axis's columns exchanged. -/
def partner (e : ℕ) : ℕ := e / 32 * 32 + (e % 32 + 16) % 32

theorem partnerIx_apply (e : Fin 64) (z : Fin 1) : partnerIx (ix2 e z) = BitVec.ofNat 32 (partner e.val) := by
  unfold partnerIx
  refine (broadcastInDim_apply _ bcast_S64_S64x1_0 _ (ix2 e z) (ix1 e) fun a => ?_).trans ?_
  · match a with
    | ⟨0, _⟩ => rfl
  · have hr : S64.rowMajor (ix1 e) = e := Fin.ext (Shape.rowMajor_val_one _)
    rw [select_apply]
    show lit0 (S64.rowMajor (ix1 e)) = _
    rw [hr]
    clear hr
    revert e
    decide

/-- The gathered columns. -/
theorem partnerGather_apply (x : FVec Ideal S1x4096x64 .bf16) (z : Fin 1) (k : Fin 4096) (e q : Fin 64) (hq : q.val = partner e.val) :
    Host.gather gather_S1x4096x64_S64x1_S1x4096x64_01_2_n_n_2_1_140961 x partnerIx (ix3 z k e) = x (ix3 z k q) := by
  refine gather_at _ rfl x partnerIx (ix3 z k e) _ fun a => ?_
  match a with
  | ⟨0, _⟩ =>
    show GatherDims.start gather_S1x4096x64_S64x1_S1x4096x64_01_2_n_n_2_1_140961 _ _ (0 : Fin 3)
      + GatherDims.offCoord gather_S1x4096x64_S64x1_S1x4096x64_01_2_n_n_2_1_140961 _ (0 : Fin 3) = _
    rw [start_none _ _ _ _ (by decide), off_some _ _ _ 0 (by decide) (by decide) 0 rfl]
    exact Nat.zero_add _
  | ⟨1, _⟩ =>
    show GatherDims.start gather_S1x4096x64_S64x1_S1x4096x64_01_2_n_n_2_1_140961 _ _ (1 : Fin 3)
      + GatherDims.offCoord gather_S1x4096x64_S64x1_S1x4096x64_01_2_n_n_2_1_140961 _ (1 : Fin 3) = _
    rw [start_none _ _ _ _ (by decide), off_some _ _ _ 1 (by decide) (by decide) 1 rfl]
    exact Nat.zero_add _
  | ⟨2, _⟩ =>
    show GatherDims.start gather_S1x4096x64_S64x1_S1x4096x64_01_2_n_n_2_1_140961 _ _ (2 : Fin 3)
      + GatherDims.offCoord gather_S1x4096x64_S64x1_S1x4096x64_01_2_n_n_2_1_140961 _ (2 : Fin 3) = _
    rw [off_none _ _ _ (by decide),
      start_some gather_S1x4096x64_S64x1_S1x4096x64_01_2_n_n_2_1_140961 (ix3 z k e) partnerIx (2 : Fin 3) ⟨0, by decide⟩ (by decide) (ix2 e (0 : Fin 1))
        (by funext a; match a with | ⟨0, _⟩ => rfl | ⟨1, _⟩ => rfl), partnerIx_apply, toNat_ofNat _ (by have := e.isLt; unfold partner; omega)]
    show min (partner e.val) (64 - 1) + 0 = q.val
    have := q.isLt
    omega

/-- The rotary columns of the weights. -/
def ropeCols (w : FVec Ideal S4096x16448 .f32) : FVec Ideal S1x4096x64 .bf16 :=
  extractStridedSlice S1x4096x64 ![0, 0, 8192] (broadcastInDim S1x4096x16448 ![1, 2] bcast_S4096x16448_S1x4096x16448_1_2 w) slices_S1x4096x16448_S1x4096x64_0_0_8192

theorem ropeCols_apply (w : FVec Ideal S4096x16448 .f32) (k : Fin 4096) (e : Fin 64) (C : Fin 16448) (hC : C.val = 8192 + e.val) :
    ropeCols w (ix3 (0 : Fin 1) k e) = w (ix2 k C) := by
  refine (extractStridedSlice_apply (s := S1x4096x16448) (t := S1x4096x64) (![0, 0, 8192] : Fin 3 → Nat) _ slices_S1x4096x16448_S1x4096x64_0_0_8192
    (ix3 (0 : Fin 1) k e) (ix3 (0 : Fin 1) k C) fun a => ?_).trans (bcast_lead 4096 16448 _ _ (by decide) (by decide) (0 : Fin 1) k C)
  match a with
  | ⟨0, _⟩ => rfl
  | ⟨1, _⟩ => show k.val = 0 + k.val; omega
  | ⟨2, _⟩ => exact hC

/-- Sixty-four columns padded to a hundred and twenty-eight. -/
def padCols (x : FVec Ideal S1x4096x64 .bf16) : FVec Ideal S1x4096x128 .bf16 :=
  pad S1x4096x128 ![0, 0, 0] ![0, 0, 64] ![0, 0, 0] x padZero pads_S1x4096x64_S1x4096x128_000_000_0640 h_S_

theorem padCols_in (x : FVec Ideal S1x4096x64 .bf16) (k : Fin 4096) (e : Fin 128) (e' : Fin 64) (h : e.val = e'.val) :
    padCols x (ix3 (0 : Fin 1) k e) = x (ix3 (0 : Fin 1) k e') := by
  unfold padCols
  refine pad_apply_of_inside _ _ _ _ _ _ _ (ix3 (0 : Fin 1) k e) (ix3 (0 : Fin 1) k e') fun a => ?_
  match a with
  | ⟨0, _⟩ => rfl
  | ⟨1, _⟩ => show k.val = 0 + k.val * (0 + 1); omega
  | ⟨2, _⟩ => show e.val = 0 + e'.val * (0 + 1); omega

theorem padCols_out (x : FVec Ideal S1x4096x64 .bf16) (k : Fin 4096) (e : Fin 128) (h : 64 ≤ e.val) :
    padCols x (ix3 (0 : Fin 1) k e) = (0 : EReal) := by
  unfold padCols
  refine (pad_apply_of_not_inside _ _ _ _ _ _ _ (ix3 (0 : Fin 1) k e) (2 : Fin 3) fun hh => ?_).trans (padZero_apply _)
  have h3 : (e.val - 0) / (0 + 1) < 64 := hh.2.2
  simp at h3
  omega

/-- The columns the call multiplies by: the latents', the rotary ones padded, and their partners padded. -/
def cols (w : FVec Ideal S4096x16448 .f32) : FVec Ideal S1x4096x768 .bf16 :=
  concatenate S1x4096x768 2 [⟨S1x4096x512, (extractStridedSlice S1x4096x512 ![0, 0, 7680]
      (broadcastInDim S1x4096x16448 ![1, 2] bcast_S4096x16448_S1x4096x16448_1_2 w) slices_S1x4096x16448_S1x4096x512_0_0_7680 : FVec Ideal S1x4096x512 .bf16)⟩,
    ⟨S1x4096x128, padCols (ropeCols w)⟩, ⟨S1x4096x128, padCols (Host.gather gather_S1x4096x64_S64x1_S1x4096x64_01_2_n_n_2_1_140961 (ropeCols w) partnerIx)⟩]
    concatenates_S1x4096x512_S1x4096x128_S1x4096x128_S1x4096x768_d2

theorem cols_lat (w : FVec Ideal S4096x16448 .f32) (k : Fin 4096) (d : Fin 768) (e : Fin 512) (hd : d.val = e.val) (C : Fin 16448) (hC : C.val = 7680 + e.val) :
    cols w (ix3 (0 : Fin 1) k d) = w (ix2 k C) := by
  unfold cols
  refine (concatenate_apply_piece (t := S1x4096x768) (2 : Fin 3) _ _ (ix3 (0 : Fin 1) k d) 0 (by simp) S1x4096x512 _ rfl rfl 0 (by rfl)
    (ix3 (0 : Fin 1) k e) (fun b hb => ?_) ?_).trans ?_
  · match b, hb with
    | ⟨0, _⟩, _ => rfl
    | ⟨1, _⟩, _ => rfl
    | ⟨2, _⟩, hb => exact absurd rfl hb
  · show 0 + e.val = d.val
    omega
  · refine (extractStridedSlice_apply (s := S1x4096x16448) (t := S1x4096x512) (![0, 0, 7680] : Fin 3 → Nat) _ slices_S1x4096x16448_S1x4096x512_0_0_7680
      (ix3 (0 : Fin 1) k e) (ix3 (0 : Fin 1) k C) fun a => ?_).trans (bcast_lead 4096 16448 _ _ (by decide) (by decide) (0 : Fin 1) k C)
    match a with
    | ⟨0, _⟩ => rfl
    | ⟨1, _⟩ => show k.val = 0 + k.val; omega
    | ⟨2, _⟩ => exact hC

theorem cols_rope (w : FVec Ideal S4096x16448 .f32) (k : Fin 4096) (d : Fin 768) (e : Fin 128) (hd : d.val = 512 + e.val) :
    cols w (ix3 (0 : Fin 1) k d) = padCols (ropeCols w) (ix3 (0 : Fin 1) k e) := by
  unfold cols
  refine concatenate_apply_piece (t := S1x4096x768) (2 : Fin 3) _ _ (ix3 (0 : Fin 1) k d) 1 (by simp) S1x4096x128 _ rfl rfl 512 (by rfl)
    (ix3 (0 : Fin 1) k e) (fun b hb => ?_) ?_
  · match b, hb with
    | ⟨0, _⟩, _ => rfl
    | ⟨1, _⟩, _ => rfl
    | ⟨2, _⟩, hb => exact absurd rfl hb
  · show 512 + e.val = d.val
    omega

theorem cols_swap (w : FVec Ideal S4096x16448 .f32) (k : Fin 4096) (d : Fin 768) (e : Fin 128) (hd : d.val = 640 + e.val) :
    cols w (ix3 (0 : Fin 1) k d) = padCols (Host.gather gather_S1x4096x64_S64x1_S1x4096x64_01_2_n_n_2_1_140961 (ropeCols w) partnerIx) (ix3 (0 : Fin 1) k e) := by
  unfold cols
  refine concatenate_apply_piece (t := S1x4096x768) (2 : Fin 3) _ _ (ix3 (0 : Fin 1) k d) 2 (by simp) S1x4096x128 _ rfl rfl 640 (by rfl)
    (ix3 (0 : Fin 1) k e) (fun b hb => ?_) ?_
  · match b, hb with
    | ⟨0, _⟩, _ => rfl
    | ⟨1, _⟩, _ => rfl
    | ⟨2, _⟩, hb => exact absurd rfl hb
  · show 640 + e.val = d.val
    omega

variable (m : (ℓ : Loc nD τ sig) → Buf (Elt Ideal) ℓ)

/-- The activations the region finds: the argument without its leading axis. -/
theorem V_h (c : Dev nD) : V m c main_v1 = shapeCast S16384x4096 (m (c, Proc.tc.devRef main_arg0) : FVec Ideal S1x16384x4096 .f32)
    shapeCasts_S1x16384x4096_S16384x4096 := by
  unfold_abbrev_sides
  after_reads_simp
  rfl

/-- The weights the region finds. -/
theorem V_w (c : Dev nD) : V m c main_v13 = cols (m (c, Proc.tc.devRef main_arg1)) := by
  unfold_abbrev_sides
  after_reads_simp
  rfl

/-- The norm's weights the region finds. -/
theorem V_g (c : Dev nD) : V m c main_v14 = shapeCast S1x512 (m (c, Proc.tc.devRef main_arg2) : FVec Ideal S512 .f32) shapeCasts_S512_S1x512 := by
  unfold_abbrev_sides
  after_reads_simp
  rfl

/-- A block of the activations, at a row and a column. -/
theorem blk0 (c : Dev nD) (t : Fin cfg0.N) (r : Fin 512) (k : Fin 4096) (R : Fin 16384) (hR : R.val = 512 * t.val + r.val) :
    (iblk m c 0 t : S512x4096.Idx → EReal) (ix2 r k) = (m (c, Proc.tc.devRef main_arg0) : S1x16384x4096.Idx → EReal) (ix3 (0 : Fin 1) R k) := by
  have h : (iblk m c 0 t : S512x4096.Idx → EReal) (ix2 r k) = (V m c main_v1 : S16384x4096.Idx → EReal) (ix2 R k) := by
    show (V m c main_v1 : S16384x4096.Idx → EReal) (((cfg0.win 0).rect t).emb (ix2 r k)) = _
    congr 1
    funext a
    refine Fin.ext ((Pipeline.Window.rect_emb_val_off (cfg0.win 0) t (ix2 r k) a).trans ?_)
    match a with
    | ⟨0, _⟩ => show cc0_transform_0 (grid0.coords t) 0 * 512 + r.val = R.val; rw [(tr_0 t).1]; omega
    | ⟨1, _⟩ => show cc0_transform_0 (grid0.coords t) 1 * 4096 + k.val = k.val; rw [(tr_0 t).2]; omega
  exact h.trans ((congrFun (V_h m c) (ix2 R k)).trans (cast_drop 16384 4096 _ _ R k))

/-- The block of the weights, at a row and a column. -/
theorem blk1 (c : Dev nD) (t : Fin cfg0.N) (k : Fin 4096) (d : Fin 768) :
    (iblk m c 1 t : S1x4096x768.Idx → EReal) (ix3 (0 : Fin 1) k d) = cols (m (c, Proc.tc.devRef main_arg1)) (ix3 (0 : Fin 1) k d) := by
  have h : (iblk m c 1 t : S1x4096x768.Idx → EReal) (ix3 (0 : Fin 1) k d) = (V m c main_v13 : S1x4096x768.Idx → EReal) (ix3 (0 : Fin 1) k d) := by
    show (V m c main_v13 : S1x4096x768.Idx → EReal) (((cfg0.win 1).rect t).emb (ix3 (0 : Fin 1) k d)) = _
    congr 1
    funext a
    refine Fin.ext ((Pipeline.Window.rect_emb_val_off (cfg0.win 1) t (ix3 (0 : Fin 1) k d) a).trans ?_)
    match a with
    | ⟨0, _⟩ => show cc0_transform_1 (grid0.coords t) 0 * 1 + 0 = 0; rw [(tr_1 t).1]
    | ⟨1, _⟩ => show cc0_transform_1 (grid0.coords t) 1 * 4096 + k.val = k.val; rw [(tr_1 t).2.1]; omega
    | ⟨2, _⟩ => show cc0_transform_1 (grid0.coords t) 2 * 768 + d.val = d.val; rw [(tr_1 t).2.2]; omega
  exact h.trans (congrFun (V_w m c) (ix3 (0 : Fin 1) k d))

/-- The block of the norm's weights, at a column. -/
theorem blk2 (c : Dev nD) (t : Fin cfg0.N) (d : Fin 512) :
    (iblk m c 2 t : S1x512.Idx → EReal) (ix2 (0 : Fin 1) d) = (m (c, Proc.tc.devRef main_arg2) : S512.Idx → EReal) (ix1 d) := by
  have h : (iblk m c 2 t : S1x512.Idx → EReal) (ix2 (0 : Fin 1) d) = (V m c main_v14 : S1x512.Idx → EReal) (ix2 (0 : Fin 1) d) := by
    show (V m c main_v14 : S1x512.Idx → EReal) (((cfg0.win 2).rect t).emb (ix2 (0 : Fin 1) d)) = _
    congr 1
    funext a
    refine Fin.ext ((Pipeline.Window.rect_emb_val_off (cfg0.win 2) t (ix2 (0 : Fin 1) d) a).trans ?_)
    match a with
    | ⟨0, _⟩ => show cc0_transform_2 (grid0.coords t) 0 * 1 + 0 = 0; rw [(tr_2 t).1]
    | ⟨1, _⟩ => show cc0_transform_2 (grid0.coords t) 1 * 512 + d.val = d.val; rw [(tr_2 t).2]; omega
  refine h.trans ((congrFun (V_g m c) (ix2 (0 : Fin 1) d)).trans (shapeCast_apply _ _ (ix2 (0 : Fin 1) d) (ix1 d) ?_))
  rw [Shape.rowMajor_val_two, Shape.rowMajor_val_one]
  show d.val = 0 * 512 + d.val
  omega

/-- The product of a row of the activations with a column. -/
theorem prod_apply (x0 : Vec Ideal S512x4096 .bf16) (x1 : Vec Ideal S1x4096x768 .bf16) (r : Fin 512) (d : Fin 768) :
    k0_pay1 x0 x1 (ix2 r d) = ∑ k : Fin 4096, x0 (ix2 r k) * x1 (ix3 (0 : Fin 1) k d) := by
  unfold k0_pay1
  exact dot_drop 512 4096 768 (φ₁ := .bf16) (φ₂ := .bf16) none x0 x1 _ _ r d

/-- The first columns of the product. -/
theorem first_apply (y : FVec Ideal S512x768 .f32) (r e : Fin 512) (d : Fin 768) (hd : d.val = e.val) :
    extractStridedSlice S512x512 ![0, 0] y slices_S512x768_o0_0_S512x512 (ix2 r e) = y (ix2 r d) := by
  refine extractStridedSlice_apply (s := S512x768) (t := S512x512) (![0, 0] : Fin 2 → Nat) y slices_S512x768_o0_0_S512x512 (ix2 r e) (ix2 r d) fun a => ?_
  match a with
  | ⟨0, _⟩ => show r.val = 0 + r.val; omega
  | ⟨1, _⟩ => show d.val = 0 + e.val; omega

/-- The first result's block at a row and a column: the row's product with the columns, normalized. -/
theorem out3_apply (x0 : Vec Ideal S512x4096 .bf16) (x1 : Vec Ideal S1x4096x768 .bf16) (x2 : Vec Ideal S1x512 .f32) (r : Fin 512) (d : Fin 512) :
    out0_3 x0 x1 x2 (ix2 r d)
      = rms 512 0x44000000#32 (fun e => ∑ k : Fin 4096, x0 (ix2 r k) * x1 (ix3 (0 : Fin 1) k (⟨e.val, by have := e.isLt; omega⟩ : Fin 768))) (x2 (ix2 (0 : Fin 1) d)) d := by
  unfold out0_3
  rw [View.canon_unit_zero (by funext a; fin_cases a <;> rfl)]
  rw [View.ld_unit_zero (S := S512x4096) (by funext a; fin_cases a <;> rfl), View.ld_unit_zero (S := S1x4096x768) (by funext a; fin_cases a <;> rfl),
    View.ld_unit_zero (S := S1x512) (by funext a; fin_cases a <;> rfl)]
  unfold k0_pay2
  refine (rms_apply 512 512 (by decide) (by decide) 0x44000000#32 _ x2 _ _ _ _ _ r d).trans ?_
  exact congrArg (fun f => rms 512 0x44000000#32 f _ d)
    (funext fun e => (first_apply _ r e (⟨e.val, by have := e.isLt; omega⟩ : Fin 768) rfl).trans (prod_apply x0 x1 r _))

/-- The second result's block at a row and a column: the row's product with a later column. -/
theorem out4_apply (x0 : Vec Ideal S512x4096 .bf16) (x1 : Vec Ideal S1x4096x768 .bf16) (x2 : Vec Ideal S1x512 .f32) (r : Fin 512) (d : Fin 256) (D : Fin 768) (hD : D.val = 512 + d.val) :
    out0_4 x0 x1 x2 (ix2 r d) = ∑ k : Fin 4096, x0 (ix2 r k) * x1 (ix3 (0 : Fin 1) k D) := by
  unfold out0_4
  rw [View.canon_unit_zero (by funext a; fin_cases a <;> rfl)]
  rw [View.ld_unit_zero (S := S512x4096) (by funext a; fin_cases a <;> rfl), View.ld_unit_zero (S := S1x4096x768) (by funext a; fin_cases a <;> rfl)]
  unfold k0_pay3
  refine (extractStridedSlice_apply (s := S512x768) (t := S512x256) (![0, 512] : Fin 2 → Nat) (k0_pay1 x0 x1) slices_S512x768_o0_512_S512x256 (ix2 r d) (ix2 r D) fun a => ?_).trans
    (prod_apply x0 x1 r D)
  match a with
  | ⟨0, _⟩ => show r.val = 0 + r.val; omega
  | ⟨1, _⟩ => exact hD

theorem emb3 (t : Fin cfg0.N) (r : Fin 512) (d : Fin 512) (R : Fin 16384) (hR : R.val = 512 * t.val + r.val)
    (C : Fin 512) (hC : C.val = d.val) :
    ((cfg0.win 3).rect t).emb (ix2 r d) = (ix2 R C : S16384x512.Idx) := by
  funext a
  refine Fin.ext ((Pipeline.Window.rect_emb_val_off (cfg0.win 3) t (ix2 r d) a).trans ?_)
  match a with
  | ⟨0, _⟩ => show cc0_transform_3 (grid0.coords t) 0 * 512 + r.val = R.val; rw [(tr_3 t).1]; omega
  | ⟨1, _⟩ => show cc0_transform_3 (grid0.coords t) 1 * 512 + d.val = C.val; rw [(tr_3 t).2]; omega

theorem inj_3 : ∀ t t' : Fin cfg0.N, (cfg0.win 3).index t = (cfg0.win 3).index t' → t = t' := by
  intro t t' h
  have e0 : cc0_transform_3 (grid0.coords t) 0 = cc0_transform_3 (grid0.coords t') 0 := congrFun h 0
  rw [(tr_3 t).1, (tr_3 t').1] at e0
  exact Fin.ext (by omega)

theorem disjoint3 (t t' : Fin cfg0.N) (_ : (cfg0.win 3).flush t = true) (_ : (cfg0.win 3).flush t' = true) (h : t ≠ t') :
    Disjoint ((cfg0.win 3).blk t).view.set ((cfg0.win 3).blk t').view.set :=
  (cfg0.win 3).disjoint_blk fun e => h (inj_3 t t' e)

/-- The first result after the run, at a row and a column: what its point left in its block. -/
theorem final3_at (c : Dev nD) (t : Fin cfg0.N) (r : Fin 512) (d : Fin 512) (R : Fin 16384) (hR : R.val = 512 * t.val + r.val)
    (C : Fin 512) (hC : C.val = d.val) :
    ((dats m 0 c).arrAt 3 cfg0.N : S16384x512.Idx → EReal) (ix2 R C) = (out0_3 (iblk m c 0 t) (iblk m c 1 t) (iblk m c 2 t) : S512x512.Idx → EReal) (ix2 r d) := by
  have h := (dats m 0 c).arrAt_emb_eq_flushed 3 disjoint3 t (flush0_3 t) (ix2 r d : S512x512.Idx)
  have e : ((cfg0.win 3).blk t).view.emb (ix2 r d : S512x512.Idx) = (ix2 R C : S16384x512.Idx) := emb3 t r d R hR C hC
  rw [e] at h
  refine h.trans ?_
  show (cfg0.win 3).cut (grid0.coords t) ((dats m 0 c).after 3 t) (ix2 r d : S512x512.Idx) = _
  rw [after0_3]
  rfl

theorem emb4 (t : Fin cfg0.N) (r : Fin 512) (d : Fin 256) (R : Fin 16384) (hR : R.val = 512 * t.val + r.val)
    (C : Fin 256) (hC : C.val = d.val) :
    ((cfg0.win 4).rect t).emb (ix2 r d) = (ix2 R C : S16384x256.Idx) := by
  funext a
  refine Fin.ext ((Pipeline.Window.rect_emb_val_off (cfg0.win 4) t (ix2 r d) a).trans ?_)
  match a with
  | ⟨0, _⟩ => show cc0_transform_4 (grid0.coords t) 0 * 512 + r.val = R.val; rw [(tr_4 t).1]; omega
  | ⟨1, _⟩ => show cc0_transform_4 (grid0.coords t) 1 * 256 + d.val = C.val; rw [(tr_4 t).2]; omega

theorem inj_4 : ∀ t t' : Fin cfg0.N, (cfg0.win 4).index t = (cfg0.win 4).index t' → t = t' := by
  intro t t' h
  have e0 : cc0_transform_4 (grid0.coords t) 0 = cc0_transform_4 (grid0.coords t') 0 := congrFun h 0
  rw [(tr_4 t).1, (tr_4 t').1] at e0
  exact Fin.ext (by omega)

theorem disjoint4 (t t' : Fin cfg0.N) (_ : (cfg0.win 4).flush t = true) (_ : (cfg0.win 4).flush t' = true) (h : t ≠ t') :
    Disjoint ((cfg0.win 4).blk t).view.set ((cfg0.win 4).blk t').view.set :=
  (cfg0.win 4).disjoint_blk fun e => h (inj_4 t t' e)

/-- The second result after the run, at a row and a column: what its point left in its block. -/
theorem final4_at (c : Dev nD) (t : Fin cfg0.N) (r : Fin 512) (d : Fin 256) (R : Fin 16384) (hR : R.val = 512 * t.val + r.val)
    (C : Fin 256) (hC : C.val = d.val) :
    ((dats m 0 c).arrAt 4 cfg0.N : S16384x256.Idx → EReal) (ix2 R C) = (out0_4 (iblk m c 0 t) (iblk m c 1 t) (iblk m c 2 t) : S512x256.Idx → EReal) (ix2 r d) := by
  have h := (dats m 0 c).arrAt_emb_eq_flushed 4 disjoint4 t (flush0_4 t) (ix2 r d : S512x256.Idx)
  have e : ((cfg0.win 4).blk t).view.emb (ix2 r d : S512x256.Idx) = (ix2 R C : S16384x256.Idx) := emb4 t r d R hR C hC
  rw [e] at h
  refine h.trans ?_
  show (cfg0.win 4).cut (grid0.coords t) ((dats m 0 c).after 4 t) (ix2 r d : S512x256.Idx) = _
  rw [after0_4]
  rfl

end Cert.KernelCkvIdeal.Gen

end
-- ==== Proof.CkvClaim.lean ====
module

public import proofs.«01_k».proof.Defs
public import proofs.«01_k».proof.Proof.CkvBlocks
public import proofs.«01_k».proof.Proof.Gen.KernelCkv.Frame
public import proofs.«01_k».proof.Proof.Gen.ReferenceCkvIdeal.Read
public import proofs.«01_k».proof.Proof.Gen.ReferenceCkvIdeal.Run
public import proofs.«01_k».proof.Proof.Gen.ReferenceCkvIdeal
public import Idealize.ShloMosaic.Lib.Quiescent

@[expose] public section
set_option maxRecDepth 16384
noncomputable section

/-! The key and value latents' projection computes its reference. -/

namespace Cert.Proof.Ckv
open Idealize.ShloMosaic Idealize.ShloMosaic.TcCoe Idealize.SL.Sem
open Idealize.ShloMosaic.ValueIdx Cert.Tiles
open Cert.KernelCkvIdeal Cert.KernelCkvIdeal.Gen Cert.ReferenceCkvIdeal.Read

/-- A column of the input projection's weights that makes the key and value latents. -/
def col (e : Fin 512) : Fin 16448 := ⟨7680 + e.val, by have := e.isLt; omega⟩

/-- The reference's latents before their norm. -/
theorem ref_lat (x0 : FVec Ideal S1x16384x4096 .f32) (x1 : FVec Ideal S4096x16448 .f32) (R : Fin 16384) (e : Fin 512) :
    (val_main_v5 (F := Ideal) x0 x1 : Cert.ReferenceCkvIdeal.S1x16384x512.Idx → EReal) (ix3 (0 : Fin 1) R e) = ∑ k : Fin 4096, x0 (ix3 (0 : Fin 1) R k) * x1 (ix2 k (col e)) := by
  rw [val_main_v5_apply, val_main_v0_apply]
  refine Finset.sum_congr rfl fun k _ => congr (congrArg HMul.hMul (congrArg x0 (eq_ix3 _))) (congrArg x1 ?_)
  exact (eq_ix2 _).trans (congrArg (fun G : Fin 16448 => (ix2 k G : S4096x16448.Idx)) (Fin.ext rfl))

/-- The reference's first result at a row and a column. -/
theorem ref_at (x0 : FVec Ideal S1x16384x4096 .f32) (x1 : FVec Ideal S4096x16448 .f32) (x2 : FVec Ideal S512 .f32) (R : Fin 16384) (C : Fin 512) :
    (val_main_v29 (F := Ideal) x0 x1 x2 : S16384x512.Idx → EReal) (ix2 R C)
      = rms 512 0x44000000#32 (fun e => ∑ k : Fin 4096, x0 (ix3 (0 : Fin 1) R k) * x1 (ix2 k (col e))) (x2 (ix1 C)) C := by
  refine (val_main_v29_apply (F := Ideal) x0 x1 x2 _).trans ?_
  show (val_main_v28 (F := Ideal) x0 x1 x2 : S16384x512.Idx → EReal) (ix2 R C) = _
  unfold val_main_v28
  refine (cast_drop 16384 512 _ _ R C).trans ?_
  have hs : (val_main_v16 (F := Ideal) x0 x1 : Cert.ReferenceCkvIdeal.S1x16384.Idx → EReal) (ix2 (0 : Fin 1) R)
      = ∑ e : Fin 512, (∑ k : Fin 4096, x0 (ix3 (0 : Fin 1) R k) * x1 (ix2 k (col e))) * (∑ k : Fin 4096, x0 (ix3 (0 : Fin 1) R k) * x1 (ix2 k (col e))) := by
    refine (val_main_v16_apply x0 x1 _).trans ?_
    refine (congrArg (HAdd.hAdd (α := EReal) (β := EReal) (γ := EReal) · _) (show (val_main_cst (F := Ideal)) _ = (0 : EReal) from Ideal.ofBits_zero_f32)).trans ?_
    rw [zero_add]
    refine Finset.sum_congr rfl fun e _ => ?_
    refine (congrArg (val_main_v15 (F := Ideal) x0 x1 : Cert.ReferenceCkvIdeal.S1x16384x512.Idx → EReal) (eq_ix3 _)).trans ?_
    exact congr (congrArg HMul.hMul (ref_lat x0 x1 R e)) (ref_lat x0 x1 R e)
  have hn : (val_main_v23 (F := Ideal) x0 x1 : Cert.ReferenceCkvIdeal.S1x16384x512.Idx → EReal) (ix3 (0 : Fin 1) R C)
      = Ideal.rsqrt (Ideal.div (∑ e : Fin 512, (∑ k : Fin 4096, x0 (ix3 (0 : Fin 1) R k) * x1 (ix2 k (col e)))
          * (∑ k : Fin 4096, x0 (ix3 (0 : Fin 1) R k) * x1 (ix2 k (col e)))) (Ideal.ofBits .f32 0x44000000#32) + Ideal.ofBits .f32 0x358637BD#32) := by
    rw [val_main_v23_apply, val_main_v22_apply, val_main_v21_apply, val_main_v19_apply, val_main_v20_apply, val_main_v18_apply, val_main_v17_apply]
    refine congrArg (fun s : EReal => Ideal.rsqrt (Ideal.div s (Ideal.ofBits .f32 0x44000000#32) + Ideal.ofBits .f32 0x358637BD#32)) ?_
    exact (congrArg (val_main_v16 (F := Ideal) x0 x1 : Cert.ReferenceCkvIdeal.S1x16384.Idx → EReal) (eq_ix2 _)).trans hs
  rw [val_main_v27_apply, val_main_v24_apply, val_main_v26_apply, val_main_v25_apply]
  unfold rms
  exact congr (congrArg HMul.hMul (congr (congrArg HMul.hMul (ref_lat x0 x1 R C)) hn)) (congrArg x2 (eq_ix1 _))

/-- A column of the input projection's weights that makes a rotary coordinate of the key. -/
def rcol (e : Fin 64) : Fin 16448 := ⟨8192 + e.val, by have := e.isLt; omega⟩

/-- The partner of a rotary coordinate. -/
def pair (e : Fin 64) : Fin 64 := ⟨partner e.val, by have := e.isLt; unfold partner; omega⟩

/-- A rotary coordinate of the key. -/
def rot (x0 : FVec Ideal S1x16384x4096 .f32) (x1 : FVec Ideal S4096x16448 .f32) (R : Fin 16384) (e : Fin 64) : EReal :=
  ∑ k : Fin 4096, x0 (ix3 (0 : Fin 1) R k) * x1 (ix2 k (rcol e))

theorem ref_v6 (x0 : FVec Ideal S1x16384x4096 .f32) (x1 : FVec Ideal S4096x16448 .f32) (R : Fin 16384) (e : Fin 64) :
    (val_main_v6 (F := Ideal) x0 x1 : Cert.ReferenceCkvIdeal.S1x16384x64.Idx → EReal) (ix3 (0 : Fin 1) R e) = rot x0 x1 R e := by
  rw [val_main_v6_apply, val_main_v0_apply]
  refine Finset.sum_congr rfl fun k _ => congr (congrArg HMul.hMul (congrArg x0 (eq_ix3 _))) (congrArg x1 ?_)
  exact (eq_ix2 _).trans (congrArg (fun G : Fin 16448 => (ix2 k G : S4096x16448.Idx)) (Fin.ext rfl))

theorem ref_v9 (x0 : FVec Ideal S1x16384x4096 .f32) (x1 : FVec Ideal S4096x16448 .f32) (R : Fin 16384) (e : Fin 64) :
    (val_main_v9 (F := Ideal) x0 x1 : Cert.ReferenceCkvIdeal.S16384x64.Idx → EReal) (ix2 R e) = rot x0 x1 R e := by
  unfold val_main_v9
  exact (cast_drop 16384 64 _ _ R e).trans (ref_v6 x0 x1 R e)

theorem ref_v30 (x0 : FVec Ideal S1x16384x4096 .f32) (x1 : FVec Ideal S4096x16448 .f32) (R : Fin 16384) (e : Fin 64) :
    (val_main_v30 (F := Ideal) x0 x1 : Cert.ReferenceCkvIdeal.S16384x64.Idx → EReal) (ix2 R e) = rot x0 x1 R e := by
  unfold val_main_v30
  exact (cast_drop 16384 64 _ _ R e).trans (ref_v6 x0 x1 R e)

theorem cat_piece0 (y0 y1 y2 y3 : FVec Ideal Cert.ReferenceCkvIdeal.S16384x16 .f32) (R : Fin 16384) (e : Fin 64) (f : Fin 16) (h : e.val = 0 + f.val) (hc) :
    concatenate Cert.ReferenceCkvIdeal.S16384x64 1 [⟨Cert.ReferenceCkvIdeal.S16384x16, y0⟩, ⟨Cert.ReferenceCkvIdeal.S16384x16, y1⟩,
      ⟨Cert.ReferenceCkvIdeal.S16384x16, y2⟩, ⟨Cert.ReferenceCkvIdeal.S16384x16, y3⟩]
      hc (ix2 R e) = y0 (ix2 R f) := by
  refine concatenate_apply_piece (t := Cert.ReferenceCkvIdeal.S16384x64) (1 : Fin 2) _ _ (ix2 R e) 0 (by simp) Cert.ReferenceCkvIdeal.S16384x16 _ rfl rfl 0 (by rfl)
    (ix2 R f) (fun b hb => ?_) ?_
  · match b, hb with
    | ⟨0, _⟩, _ => rfl
    | ⟨1, _⟩, hb => exact absurd rfl hb
  · show 0 + f.val = e.val
    omega

theorem cat_piece1 (y0 y1 y2 y3 : FVec Ideal Cert.ReferenceCkvIdeal.S16384x16 .f32) (R : Fin 16384) (e : Fin 64) (f : Fin 16) (h : e.val = 16 + f.val) (hc) :
    concatenate Cert.ReferenceCkvIdeal.S16384x64 1 [⟨Cert.ReferenceCkvIdeal.S16384x16, y0⟩, ⟨Cert.ReferenceCkvIdeal.S16384x16, y1⟩,
      ⟨Cert.ReferenceCkvIdeal.S16384x16, y2⟩, ⟨Cert.ReferenceCkvIdeal.S16384x16, y3⟩]
      hc (ix2 R e) = y1 (ix2 R f) := by
  refine concatenate_apply_piece (t := Cert.ReferenceCkvIdeal.S16384x64) (1 : Fin 2) _ _ (ix2 R e) 1 (by simp) Cert.ReferenceCkvIdeal.S16384x16 _ rfl rfl 16 (by rfl)
    (ix2 R f) (fun b hb => ?_) ?_
  · match b, hb with
    | ⟨0, _⟩, _ => rfl
    | ⟨1, _⟩, hb => exact absurd rfl hb
  · show 16 + f.val = e.val
    omega

theorem cat_piece2 (y0 y1 y2 y3 : FVec Ideal Cert.ReferenceCkvIdeal.S16384x16 .f32) (R : Fin 16384) (e : Fin 64) (f : Fin 16) (h : e.val = 32 + f.val) (hc) :
    concatenate Cert.ReferenceCkvIdeal.S16384x64 1 [⟨Cert.ReferenceCkvIdeal.S16384x16, y0⟩, ⟨Cert.ReferenceCkvIdeal.S16384x16, y1⟩,
      ⟨Cert.ReferenceCkvIdeal.S16384x16, y2⟩, ⟨Cert.ReferenceCkvIdeal.S16384x16, y3⟩]
      hc (ix2 R e) = y2 (ix2 R f) := by
  refine concatenate_apply_piece (t := Cert.ReferenceCkvIdeal.S16384x64) (1 : Fin 2) _ _ (ix2 R e) 2 (by simp) Cert.ReferenceCkvIdeal.S16384x16 _ rfl rfl 32 (by rfl)
    (ix2 R f) (fun b hb => ?_) ?_
  · match b, hb with
    | ⟨0, _⟩, _ => rfl
    | ⟨1, _⟩, hb => exact absurd rfl hb
  · show 32 + f.val = e.val
    omega

theorem cat_piece3 (y0 y1 y2 y3 : FVec Ideal Cert.ReferenceCkvIdeal.S16384x16 .f32) (R : Fin 16384) (e : Fin 64) (f : Fin 16) (h : e.val = 48 + f.val) (hc) :
    concatenate Cert.ReferenceCkvIdeal.S16384x64 1 [⟨Cert.ReferenceCkvIdeal.S16384x16, y0⟩, ⟨Cert.ReferenceCkvIdeal.S16384x16, y1⟩,
      ⟨Cert.ReferenceCkvIdeal.S16384x16, y2⟩, ⟨Cert.ReferenceCkvIdeal.S16384x16, y3⟩]
      hc (ix2 R e) = y3 (ix2 R f) := by
  refine concatenate_apply_piece (t := Cert.ReferenceCkvIdeal.S16384x64) (1 : Fin 2) _ _ (ix2 R e) 3 (by simp) Cert.ReferenceCkvIdeal.S16384x16 _ rfl rfl 48 (by rfl)
    (ix2 R f) (fun b hb => ?_) ?_
  · match b, hb with
    | ⟨0, _⟩, _ => rfl
    | ⟨1, _⟩, hb => exact absurd rfl hb
  · show 48 + f.val = e.val
    omega

theorem ref_piece0 (x0 : FVec Ideal S1x16384x4096 .f32) (x1 : FVec Ideal S4096x16448 .f32) (R : Fin 16384) (e : Fin 64) (f : Fin 16) (h : e.val = 0 + f.val) :
    (val_main_v14 (F := Ideal) x0 x1 : Cert.ReferenceCkvIdeal.S16384x64.Idx → EReal) (ix2 R e) = rot x0 x1 R (pair e) := by
  unfold val_main_v14
  refine (cat_piece0 _ _ _ _ R e f h _).trans ?_
  rw [val_main_v11_apply]
  have hf := f.isLt
  have hi : idx_main_v11 (ix2 R f) = (ix2 R (⟨16 + f.val, by omega⟩ : Fin 64) : Cert.ReferenceCkvIdeal.S16384x64.Idx) := by
    funext a
    match a with
    | ⟨0, _⟩ => rfl
    | ⟨1, _⟩ => exact Fin.ext (by first | rfl | exact (Nat.zero_add _).symm)
  rw [hi]
  refine (ref_v9 x0 x1 R _).trans (congrArg (rot x0 x1 R) (Fin.ext ?_))
  show 16 + f.val = partner e.val
  unfold partner
  omega

theorem ref_piece1 (x0 : FVec Ideal S1x16384x4096 .f32) (x1 : FVec Ideal S4096x16448 .f32) (R : Fin 16384) (e : Fin 64) (f : Fin 16) (h : e.val = 16 + f.val) :
    (val_main_v14 (F := Ideal) x0 x1 : Cert.ReferenceCkvIdeal.S16384x64.Idx → EReal) (ix2 R e) = rot x0 x1 R (pair e) := by
  unfold val_main_v14
  refine (cat_piece1 _ _ _ _ R e f h _).trans ?_
  rw [val_main_v10_apply]
  have hf := f.isLt
  have hi : idx_main_v10 (ix2 R f) = (ix2 R (⟨0 + f.val, by omega⟩ : Fin 64) : Cert.ReferenceCkvIdeal.S16384x64.Idx) := by
    funext a
    match a with
    | ⟨0, _⟩ => rfl
    | ⟨1, _⟩ => exact Fin.ext (by first | rfl | exact (Nat.zero_add _).symm)
  rw [hi]
  refine (ref_v9 x0 x1 R _).trans (congrArg (rot x0 x1 R) (Fin.ext ?_))
  show 0 + f.val = partner e.val
  unfold partner
  omega

theorem ref_piece2 (x0 : FVec Ideal S1x16384x4096 .f32) (x1 : FVec Ideal S4096x16448 .f32) (R : Fin 16384) (e : Fin 64) (f : Fin 16) (h : e.val = 32 + f.val) :
    (val_main_v14 (F := Ideal) x0 x1 : Cert.ReferenceCkvIdeal.S16384x64.Idx → EReal) (ix2 R e) = rot x0 x1 R (pair e) := by
  unfold val_main_v14
  refine (cat_piece2 _ _ _ _ R e f h _).trans ?_
  rw [val_main_v13_apply]
  have hf := f.isLt
  have hi : idx_main_v13 (ix2 R f) = (ix2 R (⟨48 + f.val, by omega⟩ : Fin 64) : Cert.ReferenceCkvIdeal.S16384x64.Idx) := by
    funext a
    match a with
    | ⟨0, _⟩ => rfl
    | ⟨1, _⟩ => exact Fin.ext (by first | rfl | exact (Nat.zero_add _).symm)
  rw [hi]
  refine (ref_v9 x0 x1 R _).trans (congrArg (rot x0 x1 R) (Fin.ext ?_))
  show 48 + f.val = partner e.val
  unfold partner
  omega

theorem ref_piece3 (x0 : FVec Ideal S1x16384x4096 .f32) (x1 : FVec Ideal S4096x16448 .f32) (R : Fin 16384) (e : Fin 64) (f : Fin 16) (h : e.val = 48 + f.val) :
    (val_main_v14 (F := Ideal) x0 x1 : Cert.ReferenceCkvIdeal.S16384x64.Idx → EReal) (ix2 R e) = rot x0 x1 R (pair e) := by
  unfold val_main_v14
  refine (cat_piece3 _ _ _ _ R e f h _).trans ?_
  rw [val_main_v12_apply]
  have hf := f.isLt
  have hi : idx_main_v12 (ix2 R f) = (ix2 R (⟨32 + f.val, by omega⟩ : Fin 64) : Cert.ReferenceCkvIdeal.S16384x64.Idx) := by
    funext a
    match a with
    | ⟨0, _⟩ => rfl
    | ⟨1, _⟩ => exact Fin.ext (by first | rfl | exact (Nat.zero_add _).symm)
  rw [hi]
  refine (ref_v9 x0 x1 R _).trans (congrArg (rot x0 x1 R) (Fin.ext ?_))
  show 32 + f.val = partner e.val
  unfold partner
  omega

/-- The coordinates with their halves exchanged. -/
theorem ref_v14 (x0 : FVec Ideal S1x16384x4096 .f32) (x1 : FVec Ideal S4096x16448 .f32) (R : Fin 16384) (e : Fin 64) :
    (val_main_v14 (F := Ideal) x0 x1 : Cert.ReferenceCkvIdeal.S16384x64.Idx → EReal) (ix2 R e) = rot x0 x1 R (pair e) := by
  have he := e.isLt
  rcases (show e.val < 16 ∨ (16 ≤ e.val ∧ e.val < 32) ∨ (32 ≤ e.val ∧ e.val < 48) ∨ 48 ≤ e.val by omega) with h | h | h | h
  · exact ref_piece0 x0 x1 R e ⟨e.val, h⟩ (Nat.zero_add _).symm
  · exact ref_piece1 x0 x1 R e ⟨e.val - 16, by omega⟩ (by show e.val = 16 + (e.val - 16); omega)
  · exact ref_piece2 x0 x1 R e ⟨e.val - 32, by omega⟩ (by show e.val = 32 + (e.val - 32); omega)
  · exact ref_piece3 x0 x1 R e ⟨e.val - 48, by omega⟩ (by show e.val = 48 + (e.val - 48); omega)

theorem zero0 (i : Cert.ReferenceCkvIdeal.S_.Idx) : (val_main_call0_v0 (F := Ideal)) i = (0 : EReal) := by
  show (((0#32 : BitVec 32).toInt : ℝ) : EReal) = 0
  simp

theorem zero1 (i : Cert.ReferenceCkvIdeal.S_.Idx) : (val_main_call1_v0 (F := Ideal)) i = (0 : EReal) := by
  show (((0#32 : BitVec 32).toInt : ℝ) : EReal) = 0
  simp

theorem ref_half0 (x0 : FVec Ideal S1x16384x4096 .f32) (x1 : FVec Ideal S4096x16448 .f32) (R : Fin 16384) (C : Fin 256) (E : Fin 128) (hE : C.val = E.val) :
    (val_main_v33 (F := Ideal) x0 x1 : S16384x256.Idx → EReal) (ix2 R C)
      = (val_main_v31 (F := Ideal) x0 x1 : Cert.ReferenceCkvIdeal.S16384x128.Idx → EReal) (ix2 R E) := by
  unfold val_main_v33
  refine (concatenate_pair_apply_left (t := S16384x256) (s₁ := Cert.ReferenceCkvIdeal.S16384x128) (s₂ := Cert.ReferenceCkvIdeal.S16384x128) (1 : Fin 2) _ _ _ (ix2 R C) rfl (ix2 R E) fun b => ?_).trans ?_
  · match b with
    | ⟨0, _⟩ => rfl
    | ⟨1, _⟩ => exact hE.symm
  · rfl

theorem ref_in0 (x0 : FVec Ideal S1x16384x4096 .f32) (x1 : FVec Ideal S4096x16448 .f32) (R : Fin 16384) (E : Fin 128) (e : Fin 64) (h : E.val = e.val) :
    (val_main_v31 (F := Ideal) x0 x1 : Cert.ReferenceCkvIdeal.S16384x128.Idx → EReal) (ix2 R E) = rot x0 x1 R e := by
  unfold val_main_v31
  refine (pad_apply_of_inside _ _ _ _ _ _ _ (ix2 R E) (ix2 R e) fun a => ?_).trans (ref_v30 x0 x1 R e)
  match a with
  | ⟨0, _⟩ => show R.val = 0 + R.val * (0 + 1); omega
  | ⟨1, _⟩ => show E.val = 0 + e.val * (0 + 1); omega

theorem ref_out0 (x0 : FVec Ideal S1x16384x4096 .f32) (x1 : FVec Ideal S4096x16448 .f32) (R : Fin 16384) (E : Fin 128) (h : 64 ≤ E.val) :
    (val_main_v31 (F := Ideal) x0 x1 : Cert.ReferenceCkvIdeal.S16384x128.Idx → EReal) (ix2 R E) = (0 : EReal) := by
  unfold val_main_v31
  refine (pad_apply_of_not_inside _ _ _ _ _ _ _ (ix2 R E) (1 : Fin 2) fun hh => ?_).trans (zero0 _)
  have h3 : (E.val - 0) / (0 + 1) < 64 := hh.2.2
  simp at h3
  omega

theorem ref_half1 (x0 : FVec Ideal S1x16384x4096 .f32) (x1 : FVec Ideal S4096x16448 .f32) (R : Fin 16384) (C : Fin 256) (E : Fin 128) (hE : C.val = 128 + E.val) :
    (val_main_v33 (F := Ideal) x0 x1 : S16384x256.Idx → EReal) (ix2 R C)
      = (val_main_v32 (F := Ideal) x0 x1 : Cert.ReferenceCkvIdeal.S16384x128.Idx → EReal) (ix2 R E) := by
  unfold val_main_v33
  refine (concatenate_pair_apply_right (t := S16384x256) (s₁ := Cert.ReferenceCkvIdeal.S16384x128) (s₂ := Cert.ReferenceCkvIdeal.S16384x128) (1 : Fin 2) _ _ _ (ix2 R C) rfl rfl (ix2 R E) (fun b hb => ?_) ?_).trans ?_
  · match b, hb with
    | ⟨0, _⟩, _ => rfl
    | ⟨1, _⟩, hb => exact absurd rfl hb
  · show E.val + 128 = C.val
    omega
  · rfl

theorem ref_in1 (x0 : FVec Ideal S1x16384x4096 .f32) (x1 : FVec Ideal S4096x16448 .f32) (R : Fin 16384) (E : Fin 128) (e : Fin 64) (h : E.val = e.val) :
    (val_main_v32 (F := Ideal) x0 x1 : Cert.ReferenceCkvIdeal.S16384x128.Idx → EReal) (ix2 R E) = rot x0 x1 R (pair e) := by
  unfold val_main_v32
  refine (pad_apply_of_inside _ _ _ _ _ _ _ (ix2 R E) (ix2 R e) fun a => ?_).trans (ref_v14 x0 x1 R e)
  match a with
  | ⟨0, _⟩ => show R.val = 0 + R.val * (0 + 1); omega
  | ⟨1, _⟩ => show E.val = 0 + e.val * (0 + 1); omega

theorem ref_out1 (x0 : FVec Ideal S1x16384x4096 .f32) (x1 : FVec Ideal S4096x16448 .f32) (R : Fin 16384) (E : Fin 128) (h : 64 ≤ E.val) :
    (val_main_v32 (F := Ideal) x0 x1 : Cert.ReferenceCkvIdeal.S16384x128.Idx → EReal) (ix2 R E) = (0 : EReal) := by
  unfold val_main_v32
  refine (pad_apply_of_not_inside _ _ _ _ _ _ _ (ix2 R E) (1 : Fin 2) fun hh => ?_).trans (zero1 _)
  have h3 : (E.val - 0) / (0 + 1) < 64 := hh.2.2
  simp at h3
  omega

variable (m : (ℓ : Loc nD τ sig) → Buf (Elt Ideal) ℓ)

/-- The kernel's first result is the reference's at every row and column. -/
theorem final3_eq (c : Dev nD) : (dats m 0 c).arrAt 3 cfg0.N
      = val_main_v29 (F := Ideal) (m (c, Proc.tc.devRef main_arg0)) (m (c, Proc.tc.devRef main_arg1)) (m (c, Proc.tc.devRef main_arg2)) := by
  refine same2 _ _ fun R C => ?_
  have hN : cfg0.N = 32 := by decide
  have hRl := R.isLt
  obtain ⟨t, ht⟩ : ∃ t : Fin cfg0.N, t.val = R.val / 512 := ⟨⟨R.val / 512, by omega⟩, rfl⟩
  have hR : R.val = 512 * t.val + (⟨R.val % 512, by omega⟩ : Fin 512).val := by show R.val = 512 * t.val + R.val % 512; omega
  generalize (⟨R.val % 512, by omega⟩ : Fin 512) = r at hR
  refine (final3_at m c t r C R hR C rfl).trans ?_
  refine (out3_apply _ _ _ r C).trans ?_
  refine Eq.trans ?_ (ref_at _ _ _ R C).symm
  refine congr (congr (congrArg (rms 512 0x44000000#32) (funext fun e => ?_)) (blk2 m c t C)) rfl
  exact Finset.sum_congr rfl fun k _ => congr (congrArg HMul.hMul (blk0 m c t r k R hR))
    ((blk1 m c t k _).trans (cols_lat _ k _ e rfl (col e) rfl))

/-- A row's product with a column of the weights: a column of the argument, or zeros. -/
theorem out4_in (c : Dev nD) (R : Fin 16384) (t : Fin cfg0.N) (r : Fin 512) (hR : R.val = 512 * t.val + r.val) (C : Fin 256) (e : Fin 64)
    (h : ∀ k : Fin 4096, cols (m (c, Proc.tc.devRef main_arg1)) (ix3 (0 : Fin 1) k (⟨512 + C.val, by have := C.isLt; omega⟩ : Fin 768))
      = (m (c, Proc.tc.devRef main_arg1) : S4096x16448.Idx → EReal) (ix2 k (rcol e))) :
    (out0_4 (iblk m c 0 t) (iblk m c 1 t) (iblk m c 2 t) : S512x256.Idx → EReal) (ix2 r C)
      = rot (m (c, Proc.tc.devRef main_arg0)) (m (c, Proc.tc.devRef main_arg1)) R e := by
  refine (out4_apply _ _ _ r C (⟨512 + C.val, by have := C.isLt; omega⟩ : Fin 768) rfl).trans ?_
  exact Finset.sum_congr rfl fun k _ => congr (congrArg HMul.hMul (blk0 m c t r k R hR)) ((blk1 m c t k _).trans (h k))

theorem out4_out (c : Dev nD) (t : Fin cfg0.N) (r : Fin 512) (C : Fin 256)
    (h : ∀ k : Fin 4096, cols (m (c, Proc.tc.devRef main_arg1)) (ix3 (0 : Fin 1) k (⟨512 + C.val, by have := C.isLt; omega⟩ : Fin 768)) = (0 : EReal)) :
    (out0_4 (iblk m c 0 t) (iblk m c 1 t) (iblk m c 2 t) : S512x256.Idx → EReal) (ix2 r C) = (0 : EReal) := by
  refine (out4_apply _ _ _ r C (⟨512 + C.val, by have := C.isLt; omega⟩ : Fin 768) rfl).trans ?_
  refine Finset.sum_eq_zero fun k _ => ?_
  exact (congrArg (HMul.hMul (α := EReal) (β := EReal) (γ := EReal) _) ((blk1 m c t k _).trans (h k))).trans (mul_zero _)

/-- The kernel's second result is the reference's at every row and column. -/
theorem final4_eq (c : Dev nD) : (dats m 0 c).arrAt 4 cfg0.N
      = val_main_v33 (F := Ideal) (m (c, Proc.tc.devRef main_arg0)) (m (c, Proc.tc.devRef main_arg1)) := by
  refine same2 _ _ fun R C => ?_
  have hN : cfg0.N = 32 := by decide
  have hRl := R.isLt
  have hCl := C.isLt
  obtain ⟨t, ht⟩ : ∃ t : Fin cfg0.N, t.val = R.val / 512 := ⟨⟨R.val / 512, by omega⟩, rfl⟩
  have hR : R.val = 512 * t.val + (⟨R.val % 512, by omega⟩ : Fin 512).val := by show R.val = 512 * t.val + R.val % 512; omega
  generalize (⟨R.val % 512, by omega⟩ : Fin 512) = r at hR
  refine (final4_at m c t r C R hR C rfl).trans ?_
  rcases (show C.val < 64 ∨ (64 ≤ C.val ∧ C.val < 128) ∨ (128 ≤ C.val ∧ C.val < 192) ∨ 192 ≤ C.val by omega) with h | h | h | h
  · refine (out4_in m c R t r hR C ⟨C.val, h⟩ fun k => ?_).trans
      ((ref_half0 _ _ R C ⟨C.val, by omega⟩ rfl).trans (ref_in0 _ _ R _ ⟨C.val, h⟩ rfl)).symm
    exact (cols_rope _ k _ ⟨C.val, by omega⟩ rfl).trans ((padCols_in _ k _ ⟨C.val, h⟩ rfl).trans (ropeCols_apply _ k _ _ rfl))
  · refine (out4_out m c t r C fun k => ?_).trans
      ((ref_half0 _ _ R C ⟨C.val, by omega⟩ rfl).trans (ref_out0 _ _ R _ h.1)).symm
    exact (cols_rope _ k _ ⟨C.val, by omega⟩ rfl).trans (padCols_out _ k _ h.1)
  · refine (out4_in m c R t r hR C (pair ⟨C.val - 128, by omega⟩) fun k => ?_).trans
      ((ref_half1 _ _ R C ⟨C.val - 128, by omega⟩ (by show C.val = 128 + (C.val - 128); omega)).trans (ref_in1 _ _ R _ ⟨C.val - 128, by omega⟩ rfl)).symm
    exact (cols_swap _ k _ ⟨C.val - 128, by omega⟩ (by show 512 + C.val = 640 + (C.val - 128); omega)).trans ((padCols_in _ k _ ⟨C.val - 128, by omega⟩ rfl).trans
      ((partnerGather_apply _ _ k _ (pair ⟨C.val - 128, by omega⟩) rfl).trans (ropeCols_apply _ k _ _ rfl)))
  · refine (out4_out m c t r C fun k => ?_).trans
      ((ref_half1 _ _ R C ⟨C.val - 128, by omega⟩ (by show C.val = 128 + (C.val - 128); omega)).trans
        (ref_out1 _ _ R _ (by show 64 ≤ C.val - 128; omega))).symm
    exact (cols_swap _ k _ ⟨C.val - 128, by omega⟩ (by show 512 + C.val = 640 + (C.val - 128); omega)).trans
      (padCols_out _ k _ (by show 64 ≤ C.val - 128; omega))

/-- The kernel as printed: it runs, leaves its arguments, and ends with every counter at zero. -/
theorem frame_kernel : Cert.quiescent_KernelCkv := fun m ρ _ => Cert.KernelCkv.Gen.frame (F := Bits) m ρ

/-- The same of its idealization. -/
theorem frame_ideal : Cert.quiescent_KernelCkvIdeal := fun m ρ _ => Cert.KernelCkvIdeal.Gen.frame (F := Ideal) m ρ

/-- The reference runs, leaves its arguments, and has no counter. -/
theorem frame_ref : Cert.quiescent_ReferenceCkvIdeal := fun m ρ _ =>
  (θ_run Cert.ReferenceCkvIdeal.defs _ _).mono (fun r h => ⟨fun c => (h c).2.2, sem_eq_zero_of_no_sems (by decide) r.2⟩)
    (Cert.ReferenceCkvIdeal.Value.run (F := Ideal) m ρ)

/-- The two programs have one text. -/
theorem preserves : Cert.preserves_KernelCkv_KernelCkvIdeal := trivial

/-- The kernel's two results are the reference's over the extended reals. -/
theorem algebraic : Cert.algebraic_KernelCkvIdeal_ReferenceCkvIdeal := by
  intro m ρ m' ρ' _ hagree
  refine ⟨fun c => (dats m 0 c).arrAt 3 cfg0.N, fun c => (dats m 0 c).arrAt 4 cfg0.N, ?_, ?_⟩
  · exact (θ_run Cert.KernelCkvIdeal.defs _ _).mono (fun r h c => ⟨(h c).1 3, (h c).1 4,
      ((h c).2 Cert.KernelCkvIdeal.main_arg0 (Pipeline.mem_restRefs_of Cert.KernelCkvIdeal.main_arg0 (by decide) (by decide))).trans (V_main_arg0 m c),
      ((h c).2 Cert.KernelCkvIdeal.main_arg1 (Pipeline.mem_restRefs_of Cert.KernelCkvIdeal.main_arg1 (by decide) (by decide))).trans (V_main_arg1 m c),
      ((h c).2 Cert.KernelCkvIdeal.main_arg2 (Pipeline.mem_restRefs_of Cert.KernelCkvIdeal.main_arg2 (by decide) (by decide))).trans (V_main_arg2 m c)⟩)
      (run_main (F := Ideal) m ρ)
  · refine (θ_run Cert.ReferenceCkvIdeal.defs _ _).mono (fun r h c => ⟨(h c).1.trans ?_, (h c).2.1.trans ?_, (h c).2.2⟩) (Cert.ReferenceCkvIdeal.Value.run (F := Ideal) m' ρ')
    · rw [Cert.ReferenceCkvIdeal.Read.val_main_v29_eq]
      obtain ⟨e0, e1, e2⟩ := hagree c
      rw [e0, e1, e2]
      exact (final3_eq m c).symm
    · rw [Cert.ReferenceCkvIdeal.Read.val_main_v33_eq]
      obtain ⟨e0, e1, e2⟩ := hagree c
      rw [e0, e1]
      exact (final4_eq m c).symm

end Cert.Proof.Ckv

end
-- ==== Proof.QUpHost.lean ====
module

public import proofs.«01_k».proof.Proof.Gen.KernelQUpIdeal.Frame
public import proofs.«01_k».proof.Proof.Gen.ReferenceQUpIdeal.Read
public import proofs.«01_k».proof.Proof.RmsNorm
public import proofs.«01_k».proof.Proof.GatherAt
public import Idealize.ShloMosaic.Lib.StableHlo.RunRead
public import Idealize.ShloMosaic.Lib.KernelVsHost

@[expose] public section
set_option maxRecDepth 16384
noncomputable section

/-! The arrays the host lays out for the queries' up-projection, read at coordinates. -/

namespace Cert.KernelQUpIdeal.Gen
open Idealize.ShloMosaic Idealize.ShloMosaic.TcCoe Idealize.ShloMosaic.Tactic Idealize.SL.Sem Idealize.ShloMosaic.StableHlo
open Idealize.ShloMosaic.Pipeline (Dat)
open Idealize.ShloMosaic.ValueIdx Cert.Tiles Cert.GatherAt

/-- The zero the host pads with. -/
def padZero : FVec Ideal S_ .f32 := sitofp .f32 (constantI S_ 32 0#32)

theorem padZero_apply (i : S_.Idx) : padZero i = (0 : EReal) := by
  show (((0#32 : BitVec 32).toInt : ℝ) : EReal) = 0
  simp

/-- The rotary columns' partners. -/
def partnerIx : IVec S64x1 32 := broadcastInDim S64x1 ![0] bcast_S64_S64x1_0
  (select (constantI S64 1 0#1) (addi (fun i => lit0 (S64.rowMajor i)) (broadcastInDim S64 ![] bcast_S_S64 (constantI S_ 32 64#32)))
    (fun i => lit0 (S64.rowMajor i)))

/-- The partner of a rotary column: the halves of each axis's columns exchanged. -/
def partner (e : ℕ) : ℕ := e / 32 * 32 + (e % 32 + 16) % 32

theorem partnerIx_apply (e : Fin 64) (z : Fin 1) : partnerIx (ix2 e z) = BitVec.ofNat 32 (partner e.val) := by
  unfold partnerIx
  refine (broadcastInDim_apply _ bcast_S64_S64x1_0 _ (ix2 e z) (ix1 e) fun a => ?_).trans ?_
  · match a with
    | ⟨0, _⟩ => rfl
  · have hr : S64.rowMajor (ix1 e) = e := Fin.ext (Shape.rowMajor_val_one _)
    rw [select_apply]
    show lit0 (S64.rowMajor (ix1 e)) = _
    rw [hr]
    clear hr
    revert e
    decide

/-- The weights with the heads on an axis of their own. -/
def headsW (w : FVec Ideal S1536x3072 .f32) : FVec Ideal S1x1536x16x192 .f32 :=
  shapeCast S1x1536x16x192 (broadcastInDim S1x1536x3072 ![1, 2] bcast_S1536x3072_S1x1536x3072_1_2 w) shapeCasts_S1x1536x3072_S1x1536x16x192

/-- The rotary columns of the weights. -/
def ropeW (w : FVec Ideal S1536x3072 .f32) : FVec Ideal S1x1536x16x64 .f32 :=
  extractStridedSlice S1x1536x16x64 ![0, 0, 0, 128] (headsW w) slices_S1x1536x16x192_S1x1536x16x64_0_0_0_128

/-- Sixty-four columns of each head padded to a hundred and twenty-eight. -/
def padW (x : FVec Ideal S1x1536x16x64 .f32) : FVec Ideal S1x1536x16x128 .f32 :=
  pad S1x1536x16x128 ![0, 0, 0, 0] ![0, 0, 0, 64] ![0, 0, 0, 0] x padZero pads_S1x1536x16x64_S1x1536x16x128_000_000_000_0640 h_S_

/-- The columns the call multiplies by: of each head the plain ones, the rotary ones padded, and their partners padded. -/
def cols (w : FVec Ideal S1536x3072 .f32) : FVec Ideal S1x1536x6144 .f32 :=
  shapeCast S1x1536x6144 (concatenate S1x1536x16x384 3
    [⟨S1x1536x16x128, (extractStridedSlice S1x1536x16x128 ![0, 0, 0, 0] (headsW w) slices_S1x1536x16x192_S1x1536x16x128_0_0_0_0 : FVec Ideal S1x1536x16x128 .f32)⟩,
     ⟨S1x1536x16x128, padW (ropeW w)⟩,
     ⟨S1x1536x16x128, padW (Host.gather gather_S1x1536x16x64_S64x1_S1x1536x16x64_012_3_n_n_3_1_11536161 (ropeW w) partnerIx)⟩]
    concatenates_S1x1536x16x128_S1x1536x16x128_S1x1536x16x128_S1x1536x16x384_d3) shapeCasts_S1x1536x16x384_S1x1536x6144

/-- The rotary part of the norm's weights. -/
def ropeG (g : FVec Ideal S192 .f32) : FVec Ideal S64 .f32 := extractStridedSlice S64 ![128] g slices_S192_S64_128

/-- Sixty-four of the norm's weights padded to a row of a hundred and twenty-eight. -/
def padG (x : FVec Ideal S64 .f32) : FVec Ideal S1x128 .f32 :=
  shapeCast S1x128 (pad S128 ![0] ![64] ![0] x padZero pads_S64_S128_0640 h_S_) shapeCasts_S128_S1x128

/-- Four tables of sixteen frequencies side by side, padded to a hundred and twenty-eight columns. -/
def table (a b c d : FVec Ideal S16384x16 .f32) : FVec Ideal S16384x128 .f32 :=
  pad S16384x128 ![0, 0] ![0, 64] ![0, 0] (concatenate S16384x64 1 [⟨S16384x16, a⟩, ⟨S16384x16, b⟩, ⟨S16384x16, c⟩, ⟨S16384x16, d⟩]
    concatenates_S16384x16_S16384x16_S16384x16_S16384x16_S16384x64_d1) padZero pads_S16384x64_S16384x128_000_0640 h_S_

/-- The angles of a token's row, at each frequency. -/
abbrev angR : FVec Ideal S16384x16 .f32 := Cert.ReferenceQUpIdeal.Read.val_main_v36 (F := Ideal)

/-- The angles of a token's column, at each frequency. -/
abbrev angC : FVec Ideal S16384x16 .f32 := Cert.ReferenceQUpIdeal.Read.val_main_v74 (F := Ideal)

variable (m : (ℓ : Loc nD τ sig) → Buf (Elt Ideal) ℓ)

/-- The query latents the region finds: the argument without its leading axis. -/
theorem V_h (c : Dev nD) : V m c main_v1 = shapeCast S16384x1536 (m (c, Proc.tc.devRef main_arg0) : FVec Ideal S1x16384x1536 .f32)
    shapeCasts_S1x16384x1536_S16384x1536 := by
  unfold_abbrev_sides
  after_reads_simp
  rfl

/-- The weights the region finds. -/
theorem V_w (c : Dev nD) : V m c main_v15 = cols (m (c, Proc.tc.devRef main_arg1)) := by
  unfold_abbrev_sides
  after_reads_simp
  rfl

/-- The plain part of the norm's weights. -/
theorem V_gn (c : Dev nD) : V m c main_v18 = shapeCast S1x128 (extractStridedSlice S128 ![0] (m (c, Proc.tc.devRef main_arg2) : FVec Ideal S192 .f32) slices_S192_S128_0)
    shapeCasts_S128_S1x128 := by
  unfold_abbrev_sides
  after_reads_simp
  rfl

/-- The rotary part of the norm's weights, padded. -/
theorem V_gr (c : Dev nD) : V m c main_v20 = padG (ropeG (m (c, Proc.tc.devRef main_arg2))) := by
  unfold_abbrev_sides
  after_reads_simp
  rfl

/-- The partners' part of the norm's weights, padded. -/
theorem V_gs (c : Dev nD) : V m c main_v27 = padG (Host.gather gather_S64_S64x1_S64_n_0_n_n_0_1_1 (ropeG (m (c, Proc.tc.devRef main_arg2))) partnerIx) := by
  unfold_abbrev_sides
  after_reads_simp
  rfl

/-- Two tables of the same four columns agree. -/
theorem table_congr {a b c d a' b' c' d' : FVec Ideal S16384x16 .f32} (ha : a = a') (hb : b = b') (hc : c = c') (hd : d = d') :
    table a b c d = table a' b' c' d' := by rw [ha, hb, hc, hd]

/-- The cosines the region finds. -/
theorem V_cos (c : Dev nD) : V m c main_v64 = table (Host.cos angR) (Host.cos angR) (Host.cos angC) (Host.cos angC) := by
  unfold_abbrev_sides
  after_reads_simp
  change table _ _ _ _ = _
  refine table_congr ?_ ?_ ?_ ?_
  · simp only [Matrix.cons_val_zero, Matrix.cons_val_one, Matrix.cons_val]
    after_reads_simp
    unfold angR Cert.ReferenceQUpIdeal.Read.val_main_v36
    refine congrArg Host.cos (congrArg₂ mulf ?_ ?_)
    · rfl
    · rfl
  · simp only [Matrix.cons_val_zero, Matrix.cons_val_one, Matrix.cons_val]
    after_reads_simp
    unfold angR Cert.ReferenceQUpIdeal.Read.val_main_v36
    refine congrArg Host.cos (congrArg₂ mulf ?_ ?_)
    · rfl
    · rfl
  · simp only [Matrix.cons_val_zero, Matrix.cons_val_one, Matrix.cons_val]
    after_reads_simp
    unfold angC Cert.ReferenceQUpIdeal.Read.val_main_v74
    refine congrArg Host.cos (congrArg₂ mulf ?_ ?_)
    · rfl
    · rfl
  · simp only [Matrix.cons_val_zero, Matrix.cons_val_one, Matrix.cons_val]
    after_reads_simp
    unfold angC Cert.ReferenceQUpIdeal.Read.val_main_v74
    refine congrArg Host.cos (congrArg₂ mulf ?_ ?_)
    · rfl
    · rfl

/-- The sines the region finds, signed. -/
theorem V_sin (c : Dev nD) : V m c main_v66 = table (Host.negf (Host.sin angR)) (Host.sin angR) (Host.negf (Host.sin angC)) (Host.sin angC) := by
  unfold_abbrev_sides
  after_reads_simp
  change table _ _ _ _ = _
  refine table_congr ?_ ?_ ?_ ?_
  · simp only [Matrix.cons_val_zero, Matrix.cons_val_one, Matrix.cons_val]
    after_reads_simp
    unfold angR Cert.ReferenceQUpIdeal.Read.val_main_v36
    refine congrArg (fun x : FVec Ideal S16384x16 .f32 => Host.negf (Host.sin x)) (congrArg₂ mulf ?_ ?_)
    · rfl
    · rfl
  · simp only [Matrix.cons_val_zero, Matrix.cons_val_one, Matrix.cons_val]
    after_reads_simp
    unfold angR Cert.ReferenceQUpIdeal.Read.val_main_v36
    refine congrArg Host.sin (congrArg₂ mulf ?_ ?_)
    · rfl
    · rfl
  · simp only [Matrix.cons_val_zero, Matrix.cons_val_one, Matrix.cons_val]
    after_reads_simp
    unfold angC Cert.ReferenceQUpIdeal.Read.val_main_v74
    refine congrArg (fun x : FVec Ideal S16384x16 .f32 => Host.negf (Host.sin x)) (congrArg₂ mulf ?_ ?_)
    · rfl
    · rfl
  · simp only [Matrix.cons_val_zero, Matrix.cons_val_one, Matrix.cons_val]
    after_reads_simp
    unfold angC Cert.ReferenceQUpIdeal.Read.val_main_v74
    refine congrArg Host.sin (congrArg₂ mulf ?_ ?_)
    · rfl
    · rfl

end Cert.KernelQUpIdeal.Gen

end
-- ==== Proof.QUpBlocks.lean ====
module

public import proofs.«01_k».proof.Proof.QUpHost

@[expose] public section
set_option maxRecDepth 16384
noncomputable section

/-! The queries' up-projection's body and its result, read at coordinates. -/

namespace Cert.KernelQUpIdeal.Gen
open Idealize.ShloMosaic Idealize.ShloMosaic.TcCoe Idealize.ShloMosaic.Tactic Idealize.SL.Sem Idealize.ShloMosaic.StableHlo
open Idealize.ShloMosaic.Pipeline (Dat)
open Idealize.ShloMosaic.ValueIdx Cert.Tiles

/-- One over the root of a head's mean square and a small number, by the queries' scale. -/
def scaleOf (a b : Fin 128 → EReal) : EReal :=
  Ideal.rsqrt (((∑ k, a k * a k) + ∑ k, b k * b k) * ((1 / 192 : ℝ) : EReal) + Ideal.ofBits .f32 0x358637BD#32) * Ideal.ofBits .f32 0x3DD53B95#32

/-- One over the head's width is its exact value. -/
theorem inv_qk : (Named.named κ "inv_qk" 0x3BAAAAAB#32 : Ideal .f32) = ((1 / 192 : ℝ) : EReal) :=
  IdealRules.named_const.ideal_named_scalar (φ := .f32) _ _ _ _ rfl

/-- A row's sum of squares. -/
theorem sq_at (p : FVec Ideal S1024x128 .f32) (hr : S1024x128.Reduces [1] S1024) (hc : S1024.ShapeCasts S1024x1) (r : Fin 1024) :
    (shapeCast S1024x1 (multiReduction .add [1] S1024 (mulf p p) 0x00000000#32 hr (.inl rfl) rfl : FVec Ideal S1024 .f32) hc : FVec Ideal S1024x1 .f32)
      (ix2 r (0 : Fin 1)) = ∑ k : Fin 128, p (ix2 r k) * p (ix2 r k) := by
  refine (shapeCast_apply _ hc (ix2 r (0 : Fin 1)) (ix1 r) ?_).trans ?_
  · rw [Shape.rowMajor_val_two, Shape.rowMajor_val_one]
    show r.val = r.val * 1 + 0
    omega
  refine (Ideal.multiReduction_add_single _ _ _ _ _ _).trans ?_
  refine Finset.sum_congr rfl fun k _ => ?_
  have e : hr.lift (ix1 r) k = ix2 r k := by
    funext a
    match a with
    | ⟨0, _⟩ => rfl
    | ⟨1, _⟩ => rfl
  rw [e]
  rfl

/-- A head's scale as the body spells it. -/
def scaleV (p q : FVec Ideal S1024x128 .f32) : FVec Ideal S1024x1 .f32 :=
  mulf (rsqrt (addf (mulf (addf
    (shapeCast S1024x1 (multiReduction .add [1] S1024 (mulf p p) 0x00000000#32 reduces_S1024x128_S1024 (.inl rfl) rfl) shapeCasts_S1024_S1024x1)
    (shapeCast S1024x1 (multiReduction .add [1] S1024 (mulf q q) 0x00000000#32 reduces_S1024x128_S1024 (.inl rfl) rfl) shapeCasts_S1024_S1024x1))
    (broadcast S1024x1 (Named.named κ "inv_qk" 0x3BAAAAAB#32 : Ideal .f32))) (broadcast S1024x1 (Scalar.ofBits (F := Ideal) .f32 0x358637BD#32))))
    (broadcast S1024x1 (Scalar.ofBits (F := Ideal) .f32 0x3DD53B95#32))

theorem scaleV_apply (p q : FVec Ideal S1024x128 .f32) (r : Fin 1024) :
    scaleV p q (ix2 r (0 : Fin 1)) = scaleOf (fun k => p (ix2 r k)) (fun k => q (ix2 r k)) := by
  have h1 := sq_at p reduces_S1024x128_S1024 shapeCasts_S1024_S1024x1 r
  have h2 := sq_at q reduces_S1024x128_S1024 shapeCasts_S1024_S1024x1 r
  unfold scaleOf
  rw [← h1, ← h2, ← inv_qk]
  rfl

/-- A column repeated along a row. -/
theorem bcol (s : FVec Ideal S1024x1 .f32) (r : Fin 1024) (e : Fin 128) :
    (broadcastTo S1024x128 s broadcasts_S1024x1_S1024x128 : FVec Ideal S1024x128 .f32) (ix2 r e) = s (ix2 r (0 : Fin 1)) := by
  refine broadcastTo_apply _ broadcasts_S1024x1_S1024x128 (ix2 r e) (ix2 r (0 : Fin 1)) fun a => ?_
  match a with
  | ⟨0, _⟩ => rfl
  | ⟨1, _⟩ => rfl

/-- A row repeated down a column. -/
theorem brow (g : FVec Ideal S1x128 .f32) (r : Fin 1024) (e : Fin 128) :
    (broadcastTo S1024x128 (shapeCast S1x128 g shapeCasts_S1x128_S1x128) broadcasts_S1x128_S1024x128 : FVec Ideal S1024x128 .f32) (ix2 r e) = g (ix2 (0 : Fin 1) e) := by
  refine (broadcastTo_apply _ broadcasts_S1x128_S1024x128 (ix2 r e) (ix2 (0 : Fin 1) e) fun a => ?_).trans (congrFun (cast_same g shapeCasts_S1x128_S1x128) _)
  match a with
  | ⟨0, _⟩ => rfl
  | ⟨1, _⟩ => rfl

/-- A block behind a leading axis of one. -/
theorem lead {φ : FTy} (x : FVec Ideal S1024x128 φ) (r : Fin 1024) (e : Fin 128) :
    (shapeCast S1x1024x128 x shapeCasts_S1024x128_S1x1024x128 : FVec Ideal S1x1024x128 φ) (ix3 (0 : Fin 1) r e) = x (ix2 r e) := by
  refine shapeCast_apply x _ (ix3 (0 : Fin 1) r e) (ix2 r e) ?_
  rw [Shape.rowMajor_val_two, Shape.rowMajor_val_three]
  show r.val * 128 + e.val = (0 * 1024 + r.val) * 128 + e.val
  omega

/-- A lane of a head among the product's columns. -/
def lane (h : Fin 4) (o : Fin 3) (e : Fin 128) : Fin 1536 := ⟨384 * h.val + 128 * o.val + e.val, by have := h.isLt; have := o.isLt; have := e.isLt; omega⟩

/-- A head's lanes cut from the product. -/
theorem cut_at (h : Fin 4) (o : Fin 3) (n : ℕ) (hn : n = 384 * h.val + 128 * o.val) (v : FVec Ideal S1024x1536 .f32) (hs : S1024x1536.Slices ![0, n] S1024x128)
    (r : Fin 1024) (e : Fin 128) : extractStridedSlice S1024x128 ![0, n] v hs (ix2 r e) = v (ix2 r (lane h o e)) := by
  refine extractStridedSlice_apply ![0, n] v hs (ix2 r e) _ fun a => ?_
  match a with
  | ⟨0, _⟩ => show r.val = 0 + r.val; omega
  | ⟨1, _⟩ => show 384 * h.val + 128 * o.val + e.val = n + e.val; omega

/-- A head's scale, from the product. -/
def hscale (v : S1024x1536.Idx → EReal) (h : Fin 4) (r : Fin 1024) : EReal :=
  scaleOf (fun e => v (ix2 r (lane h 0 e))) (fun e => v (ix2 r (lane h 1 e)))

/-- A head's plain lane. -/
def nopePart (v : S1024x1536.Idx → EReal) (g : S1x128.Idx → EReal) (h : Fin 4) (r : Fin 1024) (e : Fin 128) : EReal :=
  v (ix2 r (lane h 0 e)) * hscale v h r * g (ix2 (0 : Fin 1) e)

/-- A head's rotary lane. -/
def ropePart (v : S1024x1536.Idx → EReal) (cg sg : S1024x128.Idx → EReal) (h : Fin 4) (r : Fin 1024) (e : Fin 128) : EReal :=
  (v (ix2 r (lane h 1 e)) * cg (ix2 r e) + v (ix2 r (lane h 2 e)) * sg (ix2 r e)) * hscale v h r

/-- A head's stored plain lanes. -/
theorem nope_piece (h : Fin 4) (n0 n1 : ℕ) (h0 : n0 = 384 * h.val + 128 * (0 : Fin 3).val) (h1 : n1 = 384 * h.val + 128 * (1 : Fin 3).val) (v : FVec Ideal S1024x1536 .f32)
    (s0 : S1024x1536.Slices ![0, n0] S1024x128) (s1 : S1024x1536.Slices ![0, n1] S1024x128) (g : FVec Ideal S1x128 .f32) (hb : FTy.bits .bf16 < FTy.bits .f32) (r : Fin 1024) (e : Fin 128) :
    (shapeCast S1x1024x128 (truncf .bf16 (mulf (mulf (extractStridedSlice S1024x128 ![0, n0] v s0)
        (broadcastTo S1024x128 (scaleV (extractStridedSlice S1024x128 ![0, n0] v s0) (extractStridedSlice S1024x128 ![0, n1] v s1)) broadcasts_S1024x1_S1024x128))
        (broadcastTo S1024x128 (shapeCast S1x128 g shapeCasts_S1x128_S1x128) broadcasts_S1x128_S1024x128)) hb : FVec Ideal S1024x128 .bf16) shapeCasts_S1024x128_S1x1024x128 : FVec Ideal S1x1024x128 .bf16)
      (ix3 (0 : Fin 1) r e) = nopePart v g h r e := by
  refine (lead _ r e).trans ?_
  unfold nopePart
  refine congr (congrArg HMul.hMul (congr (congrArg HMul.hMul (cut_at h 0 n0 h0 v s0 r e)) ?_)) (brow g r e)
  refine (bcol _ r e).trans ((scaleV_apply _ _ r).trans ?_)
  unfold hscale
  exact congr (congrArg scaleOf (funext fun k => cut_at h 0 n0 h0 v s0 r k)) (funext fun k => cut_at h 1 n1 h1 v s1 r k)

/-- A head's stored rotary lanes. -/
theorem rope_piece (h : Fin 4) (n0 n1 n2 : ℕ) (h0 : n0 = 384 * h.val + 128 * (0 : Fin 3).val) (h1 : n1 = 384 * h.val + 128 * (1 : Fin 3).val) (h2 : n2 = 384 * h.val + 128 * (2 : Fin 3).val)
    (v : FVec Ideal S1024x1536 .f32) (s0 : S1024x1536.Slices ![0, n0] S1024x128) (s1 : S1024x1536.Slices ![0, n1] S1024x128) (s2 : S1024x1536.Slices ![0, n2] S1024x128)
    (cg sg : FVec Ideal S1024x128 .f32) (hb : FTy.bits .bf16 < FTy.bits .f32) (r : Fin 1024) (e : Fin 128) :
    (shapeCast S1x1024x128 (truncf .bf16 (mulf (addf (mulf (extractStridedSlice S1024x128 ![0, n1] v s1) cg) (mulf (extractStridedSlice S1024x128 ![0, n2] v s2) sg))
        (broadcastTo S1024x128 (scaleV (extractStridedSlice S1024x128 ![0, n0] v s0) (extractStridedSlice S1024x128 ![0, n1] v s1)) broadcasts_S1024x1_S1024x128)) hb : FVec Ideal S1024x128 .bf16)
        shapeCasts_S1024x128_S1x1024x128 : FVec Ideal S1x1024x128 .bf16)
      (ix3 (0 : Fin 1) r e) = ropePart v cg sg h r e := by
  refine (lead _ r e).trans ?_
  unfold ropePart
  refine congr (congrArg HMul.hMul (congr (congrArg HAdd.hAdd (congr (congrArg HMul.hMul (cut_at h 1 n1 h1 v s1 r e)) rfl)) (congr (congrArg HMul.hMul (cut_at h 2 n2 h2 v s2 r e)) rfl))) ?_
  refine (bcol _ r e).trans ((scaleV_apply _ _ r).trans ?_)
  unfold hscale
  exact congr (congrArg scaleOf (funext fun k => cut_at h 0 n0 h0 v s0 r k)) (funext fun k => cut_at h 1 n1 h1 v s1 r k)

/-- What the body leaves at a head, a row and a lane. -/
def whole (v : S1024x1536.Idx → EReal) (cg sg : S1024x128.Idx → EReal) (g : S1x128.Idx → EReal) (h : Fin 4) (r : Fin 1024) (c : Fin 256) : EReal :=
  if hc : c.val < 128 then nopePart v g h r ⟨c.val, hc⟩ else ropePart v cg sg h r ⟨c.val - 128, by have := c.isLt; omega⟩

/-- Where a piece lies. -/
theorem emb_piece (h o : ℕ) (inb : ∀ a : Fin S4x1024x256.rank, (![h, 0, o] : Fin 3 → ℕ) a + S1x1024x128.size a ≤ S4x1024x256.size a) (j : S1x1024x128.Idx) (H : Fin 4) (hH : H.val = h)
    (D : Fin 256) (hD : D.val = o + (j 2).val) :
    (Rect.unit (s := S4x1024x256) ![h, 0, o] S1x1024x128.size inb).emb j = ix3 H (j 1 : Fin 1024) D := by
  have h0 : (j 0).val = 0 := by have : (j 0).val < 1 := (j 0).isLt; omega
  refine funext fun a => Fin.ext ?_
  rw [Rect.emb_apply]
  match a with
  | ⟨0, _⟩ => show h + 1 * (j 0).val = H.val; omega
  | ⟨1, _⟩ => show 0 + 1 * (j 1).val = (j 1).val; omega
  | ⟨2, _⟩ => show o + 1 * (j 2).val = D.val; omega

theorem lift_nope (v : S1024x1536.Idx → EReal) (cg sg : S1024x128.Idx → EReal) (g : S1x128.Idx → EReal) (H : Fin 4) (h : ℕ) (hH : H.val = h)
    (inb : ∀ a : Fin S4x1024x256.rank, (![h, 0, 0] : Fin 3 → ℕ) a + S1x1024x128.size a ≤ S4x1024x256.size a) (w : FVec Ideal S1x1024x128 .bf16)
    (hw : ∀ (r : Fin 1024) (e : Fin 128), w (ix3 (0 : Fin 1) r e) = nopePart v g H r e) (j : S1x1024x128.Idx) :
    w j = (fun y : S4x1024x256.Idx => whole v cg sg g (y 0) (y 1) (y 2)) ((Rect.unit (s := S4x1024x256) ![h, 0, 0] S1x1024x128.size inb).emb j) := by
  have hj : (j 2).val < 128 := (j 2).isLt
  rw [emb_piece h 0 inb j H hH ⟨(j 2).val, by omega⟩ (Nat.zero_add _).symm]
  have h0 : (j 0).val < 1 := (j 0).isLt
  have hjj : j = ix3 (0 : Fin 1) (j 1 : Fin 1024) (j 2 : Fin 128) := by
    funext a
    match a with
    | ⟨0, _⟩ => exact Fin.ext (by show (j 0).val = 0; omega)
    | ⟨1, _⟩ => rfl
    | ⟨2, _⟩ => rfl
  refine (congrArg w hjj).trans ((hw (j 1) (j 2)).trans ?_)
  show _ = whole v cg sg g H (j 1 : Fin 1024) ⟨(j 2).val, by omega⟩
  unfold whole
  rw [dif_pos (show (⟨(j 2).val, by omega⟩ : Fin 256).val < 128 from hj)]
  rfl

theorem lift_rope (v : S1024x1536.Idx → EReal) (cg sg : S1024x128.Idx → EReal) (g : S1x128.Idx → EReal) (H : Fin 4) (h : ℕ) (hH : H.val = h)
    (inb : ∀ a : Fin S4x1024x256.rank, (![h, 0, 128] : Fin 3 → ℕ) a + S1x1024x128.size a ≤ S4x1024x256.size a) (w : FVec Ideal S1x1024x128 .bf16)
    (hw : ∀ (r : Fin 1024) (e : Fin 128), w (ix3 (0 : Fin 1) r e) = ropePart v cg sg H r e) (j : S1x1024x128.Idx) :
    w j = (fun y : S4x1024x256.Idx => whole v cg sg g (y 0) (y 1) (y 2)) ((Rect.unit (s := S4x1024x256) ![h, 0, 128] S1x1024x128.size inb).emb j) := by
  have hj : (j 2).val < 128 := (j 2).isLt
  rw [emb_piece h 128 inb j H hH ⟨128 + (j 2).val, by omega⟩ rfl]
  have h0 : (j 0).val < 1 := (j 0).isLt
  have hjj : j = ix3 (0 : Fin 1) (j 1 : Fin 1024) (j 2 : Fin 128) := by
    funext a
    match a with
    | ⟨0, _⟩ => exact Fin.ext (by show (j 0).val = 0; omega)
    | ⟨1, _⟩ => rfl
    | ⟨2, _⟩ => rfl
  refine (congrArg w hjj).trans ((hw (j 1) (j 2)).trans ?_)
  show _ = whole v cg sg g H (j 1 : Fin 1024) ⟨128 + (j 2).val, by omega⟩
  unfold whole
  rw [dif_neg (by show ¬ 128 + (j 2).val < 128; omega)]
  exact congrArg (ropePart v cg sg H (j 1)) (Fin.ext (by show (j 2).val = 128 + (j 2).val - 128; omega))

/-- What the body leaves, from the product of its blocks, the tables and the norms' weights. -/
theorem out_eq (x0 : Vec Ideal S1024x1536 .bf16) (x1 : Vec Ideal S1x1536x1536 .bf16) (x2 x3 : Vec Ideal S1024x128 .f32) (x4 x5 x6 : Vec Ideal S1x128 .f32) (y : S4x1024x256.Idx) :
    out0_7 x0 x1 x2 x3 x4 x5 x6 y = whole (k0_pay1 x0 x1) (k0_pay2 x2 x5) (k0_pay3 x3 x6) x4 (y 0) (y 1) (y 2) := by
  unfold out0_7 k0_pay31 k0_pay30 k0_pay29
  have l0 : View.ld x0 r0_0 = x0 := View.ld_unit_zero (S := S1024x1536) (by funext a; fin_cases a <;> rfl) _ _
  have l1 : View.ld x1 r0_1 = x1 := View.ld_unit_zero (S := S1x1536x1536) (by funext a; fin_cases a <;> rfl) _ _
  have l2 : View.ld x2 r0_2 = x2 := View.ld_unit_zero (S := S1024x128) (by funext a; fin_cases a <;> rfl) _ _
  have l3 : View.ld x3 r0_2 = x3 := View.ld_unit_zero (S := S1024x128) (by funext a; fin_cases a <;> rfl) _ _
  have l4 : View.ld x4 r0_3 = x4 := View.ld_unit_zero (S := S1x128) (by funext a; fin_cases a <;> rfl) _ _
  have l5 : View.ld x5 r0_3 = x5 := View.ld_unit_zero (S := S1x128) (by funext a; fin_cases a <;> rfl) _ _
  have l6 : View.ld x6 r0_3 = x6 := View.ld_unit_zero (S := S1x128) (by funext a; fin_cases a <;> rfl) _ _
  rw [l0, l1, l2, l3, l4, l5, l6]
  have hp5 : k0_pay5 x0 x1 = extractStridedSlice S1024x128 ![0, 128] (k0_pay1 x0 x1) slices_S1024x1536_o0_128_S1024x128 := rfl
  have hp6 : k0_pay6 x0 x1 = extractStridedSlice S1024x128 ![0, 256] (k0_pay1 x0 x1) slices_S1024x1536_o0_256_S1024x128 := rfl
  have hp7 : k0_pay7 x0 x1 = scaleV (extractStridedSlice S1024x128 ![0, 0] (k0_pay1 x0 x1) slices_S1024x1536_o0_0_S1024x128)
      (extractStridedSlice S1024x128 ![0, 128] (k0_pay1 x0 x1) slices_S1024x1536_o0_128_S1024x128) := rfl
  have hp8 : k0_pay8 x0 x1 = mulf (extractStridedSlice S1024x128 ![0, 0] (k0_pay1 x0 x1) slices_S1024x1536_o0_0_S1024x128)
      (broadcastTo S1024x128 (k0_pay7 x0 x1) broadcasts_S1024x1_S1024x128) := rfl
  rw [hp8, hp7, hp6, hp5]
  generalize k0_pay1 x0 x1 = v
  generalize k0_pay2 x2 x5 = cg
  generalize k0_pay3 x3 x6 = sg
  refine View.canon_apply_of_pieces (Val := Elt Ideal) (S := S4x1024x256) (e := .bf16) (G := fun y : S4x1024x256.Idx => whole v cg sg x4 (y 0) (y 1) (y 2)) _ (fun p hp j => ?_) y (cover0_7 _ _ _ _ _ _ _ _ y)
  simp only [List.mem_cons, List.mem_nil_iff, or_false] at hp
  rcases hp with rfl | rfl | rfl | rfl | rfl | rfl | rfl | rfl
  · refine lift_rope v cg sg x4 3 3 rfl inb_S4x1024x256_S1x1024x128_3_0_128 _ (fun r e => ?_) j
    exact rope_piece 3 1152 1280 1408 rfl rfl rfl v slices_S1024x1536_o0_1152_S1024x128 slices_S1024x1536_o0_1280_S1024x128 slices_S1024x1536_o0_1408_S1024x128 cg sg bitsLt_bf16_f32 r e
  · refine lift_nope v cg sg x4 3 3 rfl inb_S4x1024x256_S1x1024x128_3_0_0 _ (fun r e => ?_) j
    exact nope_piece 3 1152 1280 rfl rfl v slices_S1024x1536_o0_1152_S1024x128 slices_S1024x1536_o0_1280_S1024x128 x4 bitsLt_bf16_f32 r e
  · refine lift_rope v cg sg x4 2 2 rfl inb_S4x1024x256_S1x1024x128_2_0_128 _ (fun r e => ?_) j
    exact rope_piece 2 768 896 1024 rfl rfl rfl v slices_S1024x1536_o0_768_S1024x128 slices_S1024x1536_o0_896_S1024x128 slices_S1024x1536_o0_1024_S1024x128 cg sg bitsLt_bf16_f32 r e
  · refine lift_nope v cg sg x4 2 2 rfl inb_S4x1024x256_S1x1024x128_2_0_0 _ (fun r e => ?_) j
    exact nope_piece 2 768 896 rfl rfl v slices_S1024x1536_o0_768_S1024x128 slices_S1024x1536_o0_896_S1024x128 x4 bitsLt_bf16_f32 r e
  · refine lift_rope v cg sg x4 1 1 rfl inb_S4x1024x256_S1x1024x128_1_0_128 _ (fun r e => ?_) j
    exact rope_piece 1 384 512 640 rfl rfl rfl v slices_S1024x1536_o0_384_S1024x128 slices_S1024x1536_o0_512_S1024x128 slices_S1024x1536_o0_640_S1024x128 cg sg bitsLt_bf16_f32 r e
  · refine lift_nope v cg sg x4 1 1 rfl inb_S4x1024x256_S1x1024x128_1_0_0 _ (fun r e => ?_) j
    exact nope_piece 1 384 512 rfl rfl v slices_S1024x1536_o0_384_S1024x128 slices_S1024x1536_o0_512_S1024x128 x4 bitsLt_bf16_f32 r e
  · refine lift_rope v cg sg x4 0 0 rfl inb_S4x1024x256_S1x1024x128_0_0_128 _ (fun r e => ?_) j
    exact rope_piece 0 0 128 256 rfl rfl rfl v slices_S1024x1536_o0_0_S1024x128 slices_S1024x1536_o0_128_S1024x128 slices_S1024x1536_o0_256_S1024x128 cg sg bitsLt_bf16_f32 r e
  · refine lift_nope v cg sg x4 0 0 rfl inb_S4x1024x256_S1x1024x128_0_0_0 _ (fun r e => ?_) j
    exact nope_piece 0 0 128 rfl rfl v slices_S1024x1536_o0_0_S1024x128 slices_S1024x1536_o0_128_S1024x128 x4 bitsLt_bf16_f32 r e

/-- The product of a row of the latents with a column. -/
theorem prod_apply (x0 : Vec Ideal S1024x1536 .bf16) (x1 : Vec Ideal S1x1536x1536 .bf16) (r : Fin 1024) (d : Fin 1536) :
    k0_pay1 x0 x1 (ix2 r d) = ∑ k : Fin 1536, x0 (ix2 r k) * x1 (ix3 (0 : Fin 1) k d) := by
  unfold k0_pay1
  exact dot_drop 1024 1536 1536 (φ₁ := .bf16) (φ₂ := .bf16) none x0 x1 _ _ r d

/-- A table by the weights of its columns. -/
theorem cg_apply (x2 : Vec Ideal S1024x128 .f32) (x5 : Vec Ideal S1x128 .f32) (r : Fin 1024) (e : Fin 128) :
    k0_pay2 x2 x5 (ix2 r e) = x2 (ix2 r e) * x5 (ix2 (0 : Fin 1) e) := by
  unfold k0_pay2
  exact congr (congrArg HMul.hMul (congrFun (cast_same x2 shapeCasts_S1024x128_S1024x128) _)) (brow x5 r e)

theorem sg_apply (x2 : Vec Ideal S1024x128 .f32) (x5 : Vec Ideal S1x128 .f32) (r : Fin 1024) (e : Fin 128) :
    k0_pay3 x2 x5 (ix2 r e) = x2 (ix2 r e) * x5 (ix2 (0 : Fin 1) e) := by
  unfold k0_pay3
  exact congr (congrArg HMul.hMul (congrFun (cast_same x2 shapeCasts_S1024x128_S1024x128) _)) (brow x5 r e)

end Cert.KernelQUpIdeal.Gen

end
-- ==== Proof.QUpRead.lean ====
module

public import proofs.«01_k».proof.Proof.QUpHost

@[expose] public section
set_option maxRecDepth 16384
noncomputable section

/-! The queries' up-projection's windows, read at coordinates. -/

namespace Cert.KernelQUpIdeal.Gen
open Idealize.ShloMosaic Idealize.ShloMosaic.TcCoe Idealize.ShloMosaic.Tactic Idealize.SL.Sem Idealize.ShloMosaic.StableHlo
open Idealize.ShloMosaic.Pipeline (Dat)
open Idealize.ShloMosaic.ValueIdx Cert.Tiles Cert.GatherAt

theorem tr_0 : ∀ t : Fin cfg0.N, cc0_transform_0 (grid0.coords t) 0 = t.val / 4 ∧ cc0_transform_0 (grid0.coords t) 1 = 0 := by decide +kernel
theorem tr_1 : ∀ t : Fin cfg0.N, cc0_transform_1 (grid0.coords t) 0 = 0 ∧ cc0_transform_1 (grid0.coords t) 1 = 0 ∧ cc0_transform_1 (grid0.coords t) 2 = t.val % 4 := by decide +kernel
theorem tr_2 : ∀ t : Fin cfg0.N, cc0_transform_2 (grid0.coords t) 0 = t.val / 4 ∧ cc0_transform_2 (grid0.coords t) 1 = 0 := by decide +kernel
theorem tr_3 : ∀ t : Fin cfg0.N, cc0_transform_3 (grid0.coords t) 0 = t.val / 4 ∧ cc0_transform_3 (grid0.coords t) 1 = 0 := by decide +kernel
theorem tr_4 : ∀ t : Fin cfg0.N, cc0_transform_4 (grid0.coords t) 0 = 0 ∧ cc0_transform_4 (grid0.coords t) 1 = 0 := by decide +kernel
theorem tr_5 : ∀ t : Fin cfg0.N, cc0_transform_5 (grid0.coords t) 0 = 0 ∧ cc0_transform_5 (grid0.coords t) 1 = 0 := by decide +kernel
theorem tr_6 : ∀ t : Fin cfg0.N, cc0_transform_6 (grid0.coords t) 0 = 0 ∧ cc0_transform_6 (grid0.coords t) 1 = 0 := by decide +kernel
theorem tr_7 : ∀ t : Fin cfg0.N, cc0_transform_7 (grid0.coords t) 0 = t.val % 4 ∧ cc0_transform_7 (grid0.coords t) 1 = t.val / 4 ∧ cc0_transform_7 (grid0.coords t) 2 = 0 := by decide +kernel

/-! The weights. -/

theorem headsW_apply (w : FVec Ideal S1536x3072 .f32) (k : Fin 1536) (h : Fin 16) (d : Fin 192) (C : Fin 3072) (hC : C.val = 192 * h.val + d.val) :
    headsW w (ix4 (0 : Fin 1) k h d) = w (ix2 k C) := by
  unfold headsW
  refine (shapeCast_apply _ _ (ix4 (0 : Fin 1) k h d) (ix3 (0 : Fin 1) k C) ?_).trans (bcast_lead 1536 3072 _ _ (by decide) (by decide) (0 : Fin 1) k C)
  rw [Shape.rowMajor_val_three, Shape.rowMajor_val_four]
  show (0 * 1536 + k.val) * 3072 + C.val = ((0 * 1536 + k.val) * 16 + h.val) * 192 + d.val
  omega

theorem ropeW_apply (w : FVec Ideal S1536x3072 .f32) (k : Fin 1536) (h : Fin 16) (e : Fin 64) (C : Fin 3072) (hC : C.val = 192 * h.val + (128 + e.val)) :
    ropeW w (ix4 (0 : Fin 1) k h e) = w (ix2 k C) := by
  have he := e.isLt
  unfold ropeW
  refine (extractStridedSlice_apply (s := S1x1536x16x192) (t := S1x1536x16x64) (![0, 0, 0, 128] : Fin 4 → Nat) _ slices_S1x1536x16x192_S1x1536x16x64_0_0_0_128
    (ix4 (0 : Fin 1) k h e) (ix4 (0 : Fin 1) k h (⟨128 + e.val, by omega⟩ : Fin 192)) fun a => ?_).trans (headsW_apply w k h ⟨128 + e.val, by omega⟩ C hC)
  match a with
  | ⟨0, _⟩ => rfl
  | ⟨1, _⟩ => show k.val = 0 + k.val; omega
  | ⟨2, _⟩ => show h.val = 0 + h.val; omega
  | ⟨3, _⟩ => rfl

/-- The gathered columns. -/
theorem gatherW_apply (x : FVec Ideal S1x1536x16x64 .f32) (z : Fin 1) (k : Fin 1536) (h : Fin 16) (e q : Fin 64) (hq : q.val = partner e.val) :
    Host.gather gather_S1x1536x16x64_S64x1_S1x1536x16x64_012_3_n_n_3_1_11536161 x partnerIx (ix4 z k h e) = x (ix4 z k h q) := by
  refine gather_at _ rfl x partnerIx (ix4 z k h e) _ fun a => ?_
  match a with
  | ⟨0, _⟩ =>
    show GatherDims.start gather_S1x1536x16x64_S64x1_S1x1536x16x64_012_3_n_n_3_1_11536161 _ _ (0 : Fin 4)
      + GatherDims.offCoord gather_S1x1536x16x64_S64x1_S1x1536x16x64_012_3_n_n_3_1_11536161 _ (0 : Fin 4) = _
    rw [start_none _ _ _ _ (by decide), off_some _ _ _ 0 (by decide) (by decide) 0 rfl]
    exact Nat.zero_add _
  | ⟨1, _⟩ =>
    show GatherDims.start gather_S1x1536x16x64_S64x1_S1x1536x16x64_012_3_n_n_3_1_11536161 _ _ (1 : Fin 4)
      + GatherDims.offCoord gather_S1x1536x16x64_S64x1_S1x1536x16x64_012_3_n_n_3_1_11536161 _ (1 : Fin 4) = _
    rw [start_none _ _ _ _ (by decide), off_some _ _ _ 1 (by decide) (by decide) 1 rfl]
    exact Nat.zero_add _
  | ⟨2, _⟩ =>
    show GatherDims.start gather_S1x1536x16x64_S64x1_S1x1536x16x64_012_3_n_n_3_1_11536161 _ _ (2 : Fin 4)
      + GatherDims.offCoord gather_S1x1536x16x64_S64x1_S1x1536x16x64_012_3_n_n_3_1_11536161 _ (2 : Fin 4) = _
    rw [start_none _ _ _ _ (by decide), off_some _ _ _ 2 (by decide) (by decide) 2 rfl]
    exact Nat.zero_add _
  | ⟨3, _⟩ =>
    show GatherDims.start gather_S1x1536x16x64_S64x1_S1x1536x16x64_012_3_n_n_3_1_11536161 _ _ (3 : Fin 4)
      + GatherDims.offCoord gather_S1x1536x16x64_S64x1_S1x1536x16x64_012_3_n_n_3_1_11536161 _ (3 : Fin 4) = _
    rw [off_none _ _ _ (by decide),
      start_some gather_S1x1536x16x64_S64x1_S1x1536x16x64_012_3_n_n_3_1_11536161 (ix4 z k h e) partnerIx (3 : Fin 4) ⟨0, by decide⟩ (by decide) (ix2 e (0 : Fin 1))
        (by funext a; match a with | ⟨0, _⟩ => rfl | ⟨1, _⟩ => rfl), partnerIx_apply, toNat_ofNat _ (by have := e.isLt; unfold partner; omega)]
    show min (partner e.val) (64 - 1) + 0 = q.val
    have := q.isLt
    omega

theorem padW_in (x : FVec Ideal S1x1536x16x64 .f32) (k : Fin 1536) (h : Fin 16) (e : Fin 128) (e' : Fin 64) (he : e.val = e'.val) :
    padW x (ix4 (0 : Fin 1) k h e) = x (ix4 (0 : Fin 1) k h e') := by
  unfold padW
  refine pad_apply_of_inside _ _ _ _ _ _ _ (ix4 (0 : Fin 1) k h e) (ix4 (0 : Fin 1) k h e') fun a => ?_
  match a with
  | ⟨0, _⟩ => rfl
  | ⟨1, _⟩ => show k.val = 0 + k.val * (0 + 1); omega
  | ⟨2, _⟩ => show h.val = 0 + h.val * (0 + 1); omega
  | ⟨3, _⟩ => show e.val = 0 + e'.val * (0 + 1); omega

theorem padW_out (x : FVec Ideal S1x1536x16x64 .f32) (k : Fin 1536) (h : Fin 16) (e : Fin 128) (he : 64 ≤ e.val) :
    padW x (ix4 (0 : Fin 1) k h e) = (0 : EReal) := by
  unfold padW
  refine (pad_apply_of_not_inside _ _ _ _ _ _ _ (ix4 (0 : Fin 1) k h e) (3 : Fin 4) fun hh => ?_).trans (padZero_apply _)
  have h3 : (e.val - 0) / (0 + 1) < 64 := hh.2.2
  simp at h3
  omega

/-- The columns of a head at one of their three parts. -/
theorem split (y : FVec Ideal S1x1536x16x384 .f32) (k : Fin 1536) (D : Fin 6144) (h : Fin 16) (d : Fin 384) (hD : D.val = 384 * h.val + d.val) :
    shapeCast S1x1536x6144 y shapeCasts_S1x1536x16x384_S1x1536x6144 (ix3 (0 : Fin 1) k D) = y (ix4 (0 : Fin 1) k h d) := by
  refine shapeCast_apply _ _ (ix3 (0 : Fin 1) k D) (ix4 (0 : Fin 1) k h d) ?_
  rw [Shape.rowMajor_val_three, Shape.rowMajor_val_four]
  show ((0 * 1536 + k.val) * 16 + h.val) * 384 + d.val = (0 * 1536 + k.val) * 6144 + D.val
  omega

theorem cols_nope (w : FVec Ideal S1536x3072 .f32) (k : Fin 1536) (D : Fin 6144) (h : Fin 16) (e : Fin 128) (hD : D.val = 384 * h.val + e.val)
    (C : Fin 3072) (hC : C.val = 192 * h.val + e.val) : cols w (ix3 (0 : Fin 1) k D) = w (ix2 k C) := by
  have he := e.isLt
  unfold cols
  refine (split _ k D h ⟨e.val, by omega⟩ hD).trans ?_
  refine (concatenate_apply_piece (t := S1x1536x16x384) (3 : Fin 4) _ _ (ix4 (0 : Fin 1) k h (⟨e.val, by omega⟩ : Fin 384)) 0 (by simp) S1x1536x16x128 _ rfl rfl 0 (by rfl)
    (ix4 (0 : Fin 1) k h e) (fun b hb => ?_) ?_).trans ?_
  · match b, hb with
    | ⟨0, _⟩, _ => rfl
    | ⟨1, _⟩, _ => rfl
    | ⟨2, _⟩, _ => rfl
    | ⟨3, _⟩, hb => exact absurd rfl hb
  · show 0 + e.val = e.val
    omega
  · refine (extractStridedSlice_apply (s := S1x1536x16x192) (t := S1x1536x16x128) (![0, 0, 0, 0] : Fin 4 → Nat) _ slices_S1x1536x16x192_S1x1536x16x128_0_0_0_0
      (ix4 (0 : Fin 1) k h e) (ix4 (0 : Fin 1) k h (⟨e.val, by omega⟩ : Fin 192)) fun a => ?_).trans (headsW_apply w k h ⟨e.val, by omega⟩ C hC)
    match a with
    | ⟨0, _⟩ => rfl
    | ⟨1, _⟩ => show k.val = 0 + k.val; omega
    | ⟨2, _⟩ => show h.val = 0 + h.val; omega
    | ⟨3, _⟩ => show e.val = 0 + e.val; omega

theorem cols_rope (w : FVec Ideal S1536x3072 .f32) (k : Fin 1536) (D : Fin 6144) (h : Fin 16) (e : Fin 128) (hD : D.val = 384 * h.val + (128 + e.val)) :
    cols w (ix3 (0 : Fin 1) k D) = padW (ropeW w) (ix4 (0 : Fin 1) k h e) := by
  have he := e.isLt
  unfold cols
  refine (split _ k D h ⟨128 + e.val, by omega⟩ hD).trans ?_
  refine concatenate_apply_piece (t := S1x1536x16x384) (3 : Fin 4) _ _ (ix4 (0 : Fin 1) k h (⟨128 + e.val, by omega⟩ : Fin 384)) 1 (by simp) S1x1536x16x128 _ rfl rfl 128 (by rfl)
    (ix4 (0 : Fin 1) k h e) (fun b hb => ?_) ?_
  · match b, hb with
    | ⟨0, _⟩, _ => rfl
    | ⟨1, _⟩, _ => rfl
    | ⟨2, _⟩, _ => rfl
    | ⟨3, _⟩, hb => exact absurd rfl hb
  · rfl

theorem cols_swap (w : FVec Ideal S1536x3072 .f32) (k : Fin 1536) (D : Fin 6144) (h : Fin 16) (e : Fin 128) (hD : D.val = 384 * h.val + (256 + e.val)) :
    cols w (ix3 (0 : Fin 1) k D) = padW (Host.gather gather_S1x1536x16x64_S64x1_S1x1536x16x64_012_3_n_n_3_1_11536161 (ropeW w) partnerIx) (ix4 (0 : Fin 1) k h e) := by
  have he := e.isLt
  unfold cols
  refine (split _ k D h ⟨256 + e.val, by omega⟩ hD).trans ?_
  refine concatenate_apply_piece (t := S1x1536x16x384) (3 : Fin 4) _ _ (ix4 (0 : Fin 1) k h (⟨256 + e.val, by omega⟩ : Fin 384)) 2 (by simp) S1x1536x16x128 _ rfl rfl 256 (by rfl)
    (ix4 (0 : Fin 1) k h e) (fun b hb => ?_) ?_
  · match b, hb with
    | ⟨0, _⟩, _ => rfl
    | ⟨1, _⟩, _ => rfl
    | ⟨2, _⟩, _ => rfl
    | ⟨3, _⟩, hb => exact absurd rfl hb
  · rfl

/-! The norm's weights. -/

/-- A vector as a row. -/
theorem row_apply (x : FVec Ideal S128 .f32) (e : Fin 128) : shapeCast S1x128 x shapeCasts_S128_S1x128 (ix2 (0 : Fin 1) e) = x (ix1 e) := by
  refine shapeCast_apply _ _ (ix2 (0 : Fin 1) e) (ix1 e) ?_
  rw [Shape.rowMajor_val_two, Shape.rowMajor_val_one]
  show e.val = 0 * 128 + e.val
  omega

theorem padG_in (x : FVec Ideal S64 .f32) (e : Fin 128) (e' : Fin 64) (he : e.val = e'.val) : padG x (ix2 (0 : Fin 1) e) = x (ix1 e') := by
  unfold padG
  refine (row_apply _ e).trans (pad_apply_of_inside _ _ _ _ _ _ _ (ix1 e) (ix1 e') fun a => ?_)
  match a with
  | ⟨0, _⟩ => show e.val = 0 + e'.val * (0 + 1); omega

theorem padG_out (x : FVec Ideal S64 .f32) (e : Fin 128) (he : 64 ≤ e.val) : padG x (ix2 (0 : Fin 1) e) = (0 : EReal) := by
  unfold padG
  refine (row_apply _ e).trans ((pad_apply_of_not_inside _ _ _ _ _ _ _ (ix1 e) (0 : Fin 1) fun hh => ?_).trans (padZero_apply _))
  have h3 : (e.val - 0) / (0 + 1) < 64 := hh.2.2
  simp at h3
  omega

theorem ropeG_apply (g : FVec Ideal S192 .f32) (e : Fin 64) (C : Fin 192) (hC : C.val = 128 + e.val) : ropeG g (ix1 e) = g (ix1 C) := by
  unfold ropeG
  refine extractStridedSlice_apply (s := S192) (t := S64) (![128] : Fin 1 → Nat) g slices_S192_S64_128 (ix1 e) (ix1 C) fun a => ?_
  match a with
  | ⟨0, _⟩ => exact hC

theorem gatherG_apply (x : FVec Ideal S64 .f32) (e q : Fin 64) (hq : q.val = partner e.val) :
    Host.gather gather_S64_S64x1_S64_n_0_n_n_0_1_1 x partnerIx (ix1 e) = x (ix1 q) := by
  refine gather_at _ rfl x partnerIx (ix1 e) _ fun a => ?_
  match a with
  | ⟨0, _⟩ =>
    show GatherDims.start gather_S64_S64x1_S64_n_0_n_n_0_1_1 _ _ (0 : Fin 1)
      + GatherDims.offCoord gather_S64_S64x1_S64_n_0_n_n_0_1_1 _ (0 : Fin 1) = _
    rw [off_none _ _ _ (by decide),
      start_some gather_S64_S64x1_S64_n_0_n_n_0_1_1 (ix1 e) partnerIx (0 : Fin 1) ⟨0, by decide⟩ (by decide) (ix2 e (0 : Fin 1))
        (by funext a; match a with | ⟨0, _⟩ => rfl | ⟨1, _⟩ => rfl), partnerIx_apply, toNat_ofNat _ (by have := e.isLt; unfold partner; omega)]
    show min (partner e.val) (64 - 1) + 0 = q.val
    have := q.isLt
    omega

/-! The tables. -/

theorem table_out (a b c d : FVec Ideal S16384x16 .f32) (R : Fin 16384) (e : Fin 128) (he : 64 ≤ e.val) : table a b c d (ix2 R e) = (0 : EReal) := by
  unfold table
  refine (pad_apply_of_not_inside _ _ _ _ _ _ _ (ix2 R e) (1 : Fin 2) fun hh => ?_).trans (padZero_apply _)
  have h3 : (e.val - 0) / (0 + 1) < 64 := hh.2.2
  simp at h3
  omega

theorem table_in (a b c d : FVec Ideal S16384x16 .f32) (R : Fin 16384) (e : Fin 128) (e' : Fin 64) (he : e.val = e'.val) :
    table a b c d (ix2 R e) = concatenate S16384x64 1 [⟨S16384x16, a⟩, ⟨S16384x16, b⟩, ⟨S16384x16, c⟩, ⟨S16384x16, d⟩]
      concatenates_S16384x16_S16384x16_S16384x16_S16384x16_S16384x64_d1 (ix2 R e') := by
  unfold table
  refine pad_apply_of_inside _ _ _ _ _ _ _ (ix2 R e) (ix2 R e') fun a => ?_
  match a with
  | ⟨0, _⟩ => show R.val = 0 + R.val * (0 + 1); omega
  | ⟨1, _⟩ => show e.val = 0 + e'.val * (0 + 1); omega

theorem table_piece0 (a b c d : FVec Ideal S16384x16 .f32) (R : Fin 16384) (e : Fin 128) (f : Fin 16) (he : e.val = 0 + f.val) :
    table a b c d (ix2 R e) = a (ix2 R f) := by
  have hf := f.isLt
  refine (table_in a b c d R e ⟨e.val, by omega⟩ rfl).trans ?_
  refine concatenate_apply_piece (t := S16384x64) (1 : Fin 2) _ _ (ix2 R (⟨e.val, by omega⟩ : Fin 64)) 0 (by simp) S16384x16 _ rfl rfl 0 (by rfl)
    (ix2 R f) (fun b hb => ?_) ?_
  · match b, hb with
    | ⟨0, _⟩, _ => rfl
    | ⟨1, _⟩, hb => exact absurd rfl hb
  · show 0 + f.val = e.val
    omega

theorem table_piece1 (a b c d : FVec Ideal S16384x16 .f32) (R : Fin 16384) (e : Fin 128) (f : Fin 16) (he : e.val = 16 + f.val) :
    table a b c d (ix2 R e) = b (ix2 R f) := by
  have hf := f.isLt
  refine (table_in a b c d R e ⟨e.val, by omega⟩ rfl).trans ?_
  refine concatenate_apply_piece (t := S16384x64) (1 : Fin 2) _ _ (ix2 R (⟨e.val, by omega⟩ : Fin 64)) 1 (by simp) S16384x16 _ rfl rfl 16 (by rfl)
    (ix2 R f) (fun b hb => ?_) ?_
  · match b, hb with
    | ⟨0, _⟩, _ => rfl
    | ⟨1, _⟩, hb => exact absurd rfl hb
  · show 16 + f.val = e.val
    omega

theorem table_piece2 (a b c d : FVec Ideal S16384x16 .f32) (R : Fin 16384) (e : Fin 128) (f : Fin 16) (he : e.val = 32 + f.val) :
    table a b c d (ix2 R e) = c (ix2 R f) := by
  have hf := f.isLt
  refine (table_in a b c d R e ⟨e.val, by omega⟩ rfl).trans ?_
  refine concatenate_apply_piece (t := S16384x64) (1 : Fin 2) _ _ (ix2 R (⟨e.val, by omega⟩ : Fin 64)) 2 (by simp) S16384x16 _ rfl rfl 32 (by rfl)
    (ix2 R f) (fun b hb => ?_) ?_
  · match b, hb with
    | ⟨0, _⟩, _ => rfl
    | ⟨1, _⟩, hb => exact absurd rfl hb
  · show 32 + f.val = e.val
    omega

theorem table_piece3 (a b c d : FVec Ideal S16384x16 .f32) (R : Fin 16384) (e : Fin 128) (f : Fin 16) (he : e.val = 48 + f.val) :
    table a b c d (ix2 R e) = d (ix2 R f) := by
  have hf := f.isLt
  refine (table_in a b c d R e ⟨e.val, by omega⟩ rfl).trans ?_
  refine concatenate_apply_piece (t := S16384x64) (1 : Fin 2) _ _ (ix2 R (⟨e.val, by omega⟩ : Fin 64)) 3 (by simp) S16384x16 _ rfl rfl 48 (by rfl)
    (ix2 R f) (fun b hb => ?_) ?_
  · match b, hb with
    | ⟨0, _⟩, _ => rfl
    | ⟨1, _⟩, hb => exact absurd rfl hb
  · show 48 + f.val = e.val
    omega

variable (m : (ℓ : Loc nD τ sig) → Buf (Elt Ideal) ℓ)

/-- A block of the latents, at a row and a column. -/
theorem blk0 (c : Dev nD) (t : Fin cfg0.N) (r : Fin 1024) (k : Fin 1536) (R : Fin 16384) (hR : R.val = 1024 * (t.val / 4) + r.val) :
    (iblk m c 0 t : S1024x1536.Idx → EReal) (ix2 r k) = (m (c, Proc.tc.devRef main_arg0) : S1x16384x1536.Idx → EReal) (ix3 (0 : Fin 1) R k) := by
  have h : (iblk m c 0 t : S1024x1536.Idx → EReal) (ix2 r k) = (V m c main_v1 : S16384x1536.Idx → EReal) (ix2 R k) := by
    show (V m c main_v1 : S16384x1536.Idx → EReal) (((cfg0.win 0).rect t).emb (ix2 r k)) = _
    congr 1
    funext a
    refine Fin.ext ((Pipeline.Window.rect_emb_val_off (cfg0.win 0) t (ix2 r k) a).trans ?_)
    match a with
    | ⟨0, _⟩ => show cc0_transform_0 (grid0.coords t) 0 * 1024 + r.val = R.val; rw [(tr_0 t).1]; omega
    | ⟨1, _⟩ => show cc0_transform_0 (grid0.coords t) 1 * 1536 + k.val = k.val; rw [(tr_0 t).2]; omega
  exact h.trans ((congrFun (V_h m c) (ix2 R k)).trans (cast_drop 16384 1536 _ _ R k))

/-- The block of the weights, among the columns, whatever the arrays hold. -/
theorem blk1_abs (c : Dev nD) (Vf : (b : Ref sig .tc) → Buf (Elt Ideal) ((c : Thread nD τ).loc b)) (t : Fin cfg0.N) (k : Fin 1536) (d : Fin 1536) (D : Fin 6144)
    (hD : D.val = 1536 * (t.val % 4) + d.val) :
    (((cfg0.win 1).blk t).view.read (Elt Ideal) (Vf (Pipeline.arrRef spec0 1)) : S1x1536x1536.Idx → EReal) (ix3 (0 : Fin 1) k d)
      = (Vf main_v15 : S1x1536x6144.Idx → EReal) (ix3 (0 : Fin 1) k D) := by
  show (Vf main_v15 : S1x1536x6144.Idx → EReal) (((cfg0.win 1).rect t).emb (ix3 (0 : Fin 1) k d)) = _
  congr 1
  funext a
  refine Fin.ext ((Pipeline.Window.rect_emb_val_off (cfg0.win 1) t (ix3 (0 : Fin 1) k d) a).trans ?_)
  match a with
  | ⟨0, _⟩ => show cc0_transform_1 (grid0.coords t) 0 * 1 + 0 = 0; rw [(tr_1 t).1]
  | ⟨1, _⟩ => show cc0_transform_1 (grid0.coords t) 1 * 1536 + k.val = k.val; rw [(tr_1 t).2.1]; omega
  | ⟨2, _⟩ => show cc0_transform_1 (grid0.coords t) 2 * 1536 + d.val = D.val; rw [(tr_1 t).2.2]; omega

/-- The block of the weights, among the columns. -/
theorem blk1_raw (c : Dev nD) (t : Fin cfg0.N) (k : Fin 1536) (d : Fin 1536) (D : Fin 6144) (hD : D.val = 1536 * (t.val % 4) + d.val) :
    (iblk m c 1 t : S1x1536x1536.Idx → EReal) (ix3 (0 : Fin 1) k d) = (V m c main_v15 : S1x1536x6144.Idx → EReal) (ix3 (0 : Fin 1) k D) := by
  unfold iblk
  exact blk1_abs c (fun b => V m c b) t k d D hD

/-- The block of the weights, at a row and a column. -/
theorem blk1 (c : Dev nD) (t : Fin cfg0.N) (k : Fin 1536) (d : Fin 1536) (D : Fin 6144) (hD : D.val = 1536 * (t.val % 4) + d.val) :
    (iblk m c 1 t : S1x1536x1536.Idx → EReal) (ix3 (0 : Fin 1) k d) = cols (m (c, Proc.tc.devRef main_arg1)) (ix3 (0 : Fin 1) k D) := by
  refine (blk1_raw m c t k d D hD).trans ?_
  rw [V_w m c]

/-- A block of the cosines, at a row and a column. -/
theorem blk2 (c : Dev nD) (t : Fin cfg0.N) (r : Fin 1024) (e : Fin 128) (R : Fin 16384) (hR : R.val = 1024 * (t.val / 4) + r.val) :
    (iblk m c 2 t : S1024x128.Idx → EReal) (ix2 r e) = (V m c main_v64 : S16384x128.Idx → EReal) (ix2 R e) := by
  show (V m c main_v64 : S16384x128.Idx → EReal) (((cfg0.win 2).rect t).emb (ix2 r e)) = _
  congr 1
  funext a
  refine Fin.ext ((Pipeline.Window.rect_emb_val_off (cfg0.win 2) t (ix2 r e) a).trans ?_)
  match a with
  | ⟨0, _⟩ => show cc0_transform_2 (grid0.coords t) 0 * 1024 + r.val = R.val; rw [(tr_2 t).1]; omega
  | ⟨1, _⟩ => show cc0_transform_2 (grid0.coords t) 1 * 128 + e.val = e.val; rw [(tr_2 t).2]; omega

/-- A block of the sines, at a row and a column. -/
theorem blk3 (c : Dev nD) (t : Fin cfg0.N) (r : Fin 1024) (e : Fin 128) (R : Fin 16384) (hR : R.val = 1024 * (t.val / 4) + r.val) :
    (iblk m c 3 t : S1024x128.Idx → EReal) (ix2 r e) = (V m c main_v66 : S16384x128.Idx → EReal) (ix2 R e) := by
  show (V m c main_v66 : S16384x128.Idx → EReal) (((cfg0.win 3).rect t).emb (ix2 r e)) = _
  congr 1
  funext a
  refine Fin.ext ((Pipeline.Window.rect_emb_val_off (cfg0.win 3) t (ix2 r e) a).trans ?_)
  match a with
  | ⟨0, _⟩ => show cc0_transform_3 (grid0.coords t) 0 * 1024 + r.val = R.val; rw [(tr_3 t).1]; omega
  | ⟨1, _⟩ => show cc0_transform_3 (grid0.coords t) 1 * 128 + e.val = e.val; rw [(tr_3 t).2]; omega

/-- A block of the norm's weights, at a lane. -/
theorem blk4 (c : Dev nD) (t : Fin cfg0.N) (e : Fin 128) :
    (iblk m c 4 t : S1x128.Idx → EReal) (ix2 (0 : Fin 1) e) = (V m c main_v18 : S1x128.Idx → EReal) (ix2 (0 : Fin 1) e) := by
  show (V m c main_v18 : S1x128.Idx → EReal) (((cfg0.win 4).rect t).emb (ix2 (0 : Fin 1) e)) = _
  congr 1
  funext a
  refine Fin.ext ((Pipeline.Window.rect_emb_val_off (cfg0.win 4) t (ix2 (0 : Fin 1) e) a).trans ?_)
  match a with
  | ⟨0, _⟩ => show cc0_transform_4 (grid0.coords t) 0 * 1 + 0 = 0; rw [(tr_4 t).1]
  | ⟨1, _⟩ => show cc0_transform_4 (grid0.coords t) 1 * 128 + e.val = e.val; rw [(tr_4 t).2]; omega

/-- A block of the norm's weights, at a lane. -/
theorem blk5 (c : Dev nD) (t : Fin cfg0.N) (e : Fin 128) :
    (iblk m c 5 t : S1x128.Idx → EReal) (ix2 (0 : Fin 1) e) = (V m c main_v20 : S1x128.Idx → EReal) (ix2 (0 : Fin 1) e) := by
  show (V m c main_v20 : S1x128.Idx → EReal) (((cfg0.win 5).rect t).emb (ix2 (0 : Fin 1) e)) = _
  congr 1
  funext a
  refine Fin.ext ((Pipeline.Window.rect_emb_val_off (cfg0.win 5) t (ix2 (0 : Fin 1) e) a).trans ?_)
  match a with
  | ⟨0, _⟩ => show cc0_transform_5 (grid0.coords t) 0 * 1 + 0 = 0; rw [(tr_5 t).1]
  | ⟨1, _⟩ => show cc0_transform_5 (grid0.coords t) 1 * 128 + e.val = e.val; rw [(tr_5 t).2]; omega

/-- A block of the norm's weights, at a lane. -/
theorem blk6 (c : Dev nD) (t : Fin cfg0.N) (e : Fin 128) :
    (iblk m c 6 t : S1x128.Idx → EReal) (ix2 (0 : Fin 1) e) = (V m c main_v27 : S1x128.Idx → EReal) (ix2 (0 : Fin 1) e) := by
  show (V m c main_v27 : S1x128.Idx → EReal) (((cfg0.win 6).rect t).emb (ix2 (0 : Fin 1) e)) = _
  congr 1
  funext a
  refine Fin.ext ((Pipeline.Window.rect_emb_val_off (cfg0.win 6) t (ix2 (0 : Fin 1) e) a).trans ?_)
  match a with
  | ⟨0, _⟩ => show cc0_transform_6 (grid0.coords t) 0 * 1 + 0 = 0; rw [(tr_6 t).1]
  | ⟨1, _⟩ => show cc0_transform_6 (grid0.coords t) 1 * 128 + e.val = e.val; rw [(tr_6 t).2]; omega

theorem emb7 (t : Fin cfg0.N) (h : Fin 4) (r : Fin 1024) (d : Fin 256) (H : Fin 16) (hH : H.val = 4 * (t.val % 4) + h.val) (R : Fin 16384) (hR : R.val = 1024 * (t.val / 4) + r.val) :
    ((cfg0.win 7).rect t).emb (ix3 h r d) = (ix3 H R d : S16x16384x256.Idx) := by
  funext a
  refine Fin.ext ((Pipeline.Window.rect_emb_val_off (cfg0.win 7) t (ix3 h r d) a).trans ?_)
  match a with
  | ⟨0, _⟩ => show cc0_transform_7 (grid0.coords t) 0 * 4 + h.val = H.val; rw [(tr_7 t).1]; omega
  | ⟨1, _⟩ => show cc0_transform_7 (grid0.coords t) 1 * 1024 + r.val = R.val; rw [(tr_7 t).2.1]; omega
  | ⟨2, _⟩ => show cc0_transform_7 (grid0.coords t) 2 * 256 + d.val = d.val; rw [(tr_7 t).2.2]; omega

theorem inj7 : ∀ t t' : Fin cfg0.N, (cfg0.win 7).index t = (cfg0.win 7).index t' → t = t' := by
  intro t t' h
  have e0 : cc0_transform_7 (grid0.coords t) 0 = cc0_transform_7 (grid0.coords t') 0 := congrFun h 0
  have e1 : cc0_transform_7 (grid0.coords t) 1 = cc0_transform_7 (grid0.coords t') 1 := congrFun h 1
  rw [(tr_7 t).1, (tr_7 t').1] at e0
  rw [(tr_7 t).2.1, (tr_7 t').2.1] at e1
  exact Fin.ext (by omega)

theorem disjoint7 (t t' : Fin cfg0.N) (_ : (cfg0.win 7).flush t = true) (_ : (cfg0.win 7).flush t' = true) (h : t ≠ t') :
    Disjoint ((cfg0.win 7).blk t).view.set ((cfg0.win 7).blk t').view.set :=
  (cfg0.win 7).disjoint_blk fun e => h (inj7 t t' e)

/-- The result after the run, at a head, a row and a lane: what its point left in its block. -/
theorem final_at (c : Dev nD) (t : Fin cfg0.N) (h : Fin 4) (r : Fin 1024) (d : Fin 256) (H : Fin 16) (hH : H.val = 4 * (t.val % 4) + h.val) (R : Fin 16384)
    (hR : R.val = 1024 * (t.val / 4) + r.val) :
    ((dats m 0 c).arrAt 7 cfg0.N : S16x16384x256.Idx → EReal) (ix3 H R d)
      = (out0_7 (iblk m c 0 t) (iblk m c 1 t) (iblk m c 2 t) (iblk m c 3 t) (iblk m c 4 t) (iblk m c 5 t) (iblk m c 6 t) : S4x1024x256.Idx → EReal) (ix3 h r d) := by
  have hh := (dats m 0 c).arrAt_emb_eq_flushed 7 disjoint7 t (flush0_7 t) (ix3 h r d : S4x1024x256.Idx)
  have e : ((cfg0.win 7).blk t).view.emb (ix3 h r d : S4x1024x256.Idx) = (ix3 H R d : S16x16384x256.Idx) := emb7 t h r d H hH R hR
  rw [e] at hh
  refine hh.trans ?_
  show (cfg0.win 7).cut (grid0.coords t) ((dats m 0 c).after 7 t) (ix3 h r d : S4x1024x256.Idx) = _
  rw [after0_7]
  rfl

end Cert.KernelQUpIdeal.Gen

end
-- ==== Proof.QUpRef.lean ====
module

public import proofs.«01_k».proof.Proof.Gen.ReferenceQUpIdeal.Read
public import proofs.«01_k».proof.Proof.Tiles
public import Idealize.ShloMosaic.Lib.StableHlo.RunRead
public import Idealize.ShloMosaic.Lib.KernelVsHost

@[expose] public section
set_option maxRecDepth 16384
noncomputable section

/-! The queries' up-projection's reference, read at coordinates. -/

namespace Cert.Proof.QUp
open Idealize.ShloMosaic Idealize.ShloMosaic.StableHlo
open Idealize.ShloMosaic.ValueIdx Cert.Tiles
open Cert.ReferenceQUpIdeal Cert.ReferenceQUpIdeal.Read

/-- A column of a head among the weights' columns. -/
def hcol (h : Fin 16) (d : Fin 192) : Fin 3072 := ⟨192 * h.val + d.val, by have := h.isLt; have := d.isLt; omega⟩

/-- A query before its norm. -/
def qv (x0 : FVec Ideal S1x16384x1536 .f32) (x1 : FVec Ideal S1536x3072 .f32) (R : Fin 16384) (h : Fin 16) (d : Fin 192) : EReal :=
  ∑ k : Fin 1536, x0 (ix3 (0 : Fin 1) R k) * x1 (ix2 k (hcol h d))

/-- One over the root of a head's mean square and a small number. -/
def inv (q : Fin 192 → EReal) : EReal :=
  Ideal.rsqrt (Ideal.div (∑ d : Fin 192, q d * q d) (Ideal.ofBits .f32 0x43400000#32) + Ideal.ofBits .f32 0x358637BD#32)

/-- A query after its norm. -/
def nq (x0 : FVec Ideal S1x16384x1536 .f32) (x1 : FVec Ideal S1536x3072 .f32) (x2 : FVec Ideal S192 .f32) (R : Fin 16384) (h : Fin 16) (d : Fin 192) : EReal :=
  qv x0 x1 R h d * inv (qv x0 x1 R h) * x2 (ix1 d)

variable (x0 : FVec Ideal S1x16384x1536 .f32) (x1 : FVec Ideal S1536x3072 .f32) (x2 : FVec Ideal S192 .f32)

theorem ref_v2 (R : Fin 16384) (h : Fin 16) (d : Fin 192) :
    (val_main_v2 (F := Ideal) x0 x1 : S1x16384x16x192.Idx → EReal) (ix4 (0 : Fin 1) R h d) = qv x0 x1 R h d := by
  have hR := R.isLt
  have hh := h.isLt
  have hd := d.isLt
  have hi : idx_main_v2 (ix4 (0 : Fin 1) R h d) = (ix3 (0 : Fin 1) R (hcol h d) : S1x16384x3072.Idx) := by
    funext a
    match a with
    | ⟨0, _⟩ => rfl
    | ⟨1, _⟩ => exact Fin.ext (by show (((0 * 16384 + R.val) * 16 + h.val) * 192 + d.val) / 3072 % 16384 = R.val; omega)
    | ⟨2, _⟩ => exact Fin.ext (by show (((0 * 16384 + R.val) * 16 + h.val) * 192 + d.val) % 3072 = 192 * h.val + d.val; omega)
  rw [val_main_v2_apply, hi, val_main_v1_apply]
  unfold qv
  exact Finset.sum_congr rfl fun k _ => congr (congrArg HMul.hMul (congrArg x0 (eq_ix3 _))) (congrArg x1 (eq_ix2 _))

theorem ref_v4 (R : Fin 16384) (h : Fin 16) :
    (val_main_v4 (F := Ideal) x0 x1 : S1x16384x16.Idx → EReal) (ix3 (0 : Fin 1) R h) = ∑ d : Fin 192, qv x0 x1 R h d * qv x0 x1 R h d := by
  refine (val_main_v4_apply x0 x1 _).trans ?_
  refine (congrArg (HAdd.hAdd (α := EReal) (β := EReal) (γ := EReal) · _) (show (val_main_cst (F := Ideal)) _ = (0 : EReal) from Ideal.ofBits_zero_f32)).trans ?_
  rw [zero_add]
  refine Finset.sum_congr rfl fun e _ => ?_
  refine (congrArg (val_main_v3 (F := Ideal) x0 x1 : S1x16384x16x192.Idx → EReal) (?_ : _ = ix4 (0 : Fin 1) R h e)).trans ?_
  · funext a
    match a with
    | ⟨0, _⟩ => rfl
    | ⟨1, _⟩ => rfl
    | ⟨2, _⟩ => rfl
    | ⟨3, _⟩ => rfl
  · exact congr (congrArg HMul.hMul (ref_v2 x0 x1 R h e)) (ref_v2 x0 x1 R h e)

theorem ref_v15 (R : Fin 16384) (h : Fin 16) (d : Fin 192) :
    (val_main_v15 (F := Ideal) x0 x1 x2 : S1x16384x16x192.Idx → EReal) (ix4 (0 : Fin 1) R h d) = nq x0 x1 x2 R h d := by
  have hn : (val_main_v11 (F := Ideal) x0 x1 : S1x16384x16x192.Idx → EReal) (ix4 (0 : Fin 1) R h d) = inv (qv x0 x1 R h) := by
    rw [val_main_v11_apply, val_main_v10_apply, val_main_v9_apply, val_main_v7_apply, val_main_v8_apply, val_main_v6_apply, val_main_v5_apply]
    unfold inv
    refine congrArg (fun s : EReal => Ideal.rsqrt (Ideal.div s (Ideal.ofBits .f32 0x43400000#32) + Ideal.ofBits .f32 0x358637BD#32)) ?_
    exact (congrArg (val_main_v4 (F := Ideal) x0 x1 : S1x16384x16.Idx → EReal) (eq_ix3 _)).trans (ref_v4 x0 x1 R h)
  rw [val_main_v15_apply, val_main_v12_apply, val_main_v14_apply, val_main_v13_apply]
  unfold nq
  exact congr (congrArg HMul.hMul (congr (congrArg HMul.hMul (ref_v2 x0 x1 R h d)) hn)) (congrArg x2 (eq_ix1 _))

theorem ref_v18 (R : Fin 16384) (h : Fin 16) (e : Fin 128) (D : Fin 192) (hD : D.val = e.val) :
    (val_main_v18 (F := Ideal) x0 x1 x2 : S1x16384x16x128.Idx → EReal) (ix4 (0 : Fin 1) R h e) = nq x0 x1 x2 R h D := by
  have hi : idx_main_v18 (ix4 (0 : Fin 1) R h e) = (ix4 (0 : Fin 1) R h D : S1x16384x16x192.Idx) := by
    funext a
    match a with
    | ⟨0, _⟩ => rfl
    | ⟨1, _⟩ => rfl
    | ⟨2, _⟩ => rfl
    | ⟨3, _⟩ => exact Fin.ext hD.symm
  rw [val_main_v18_apply, hi, ref_v15]

theorem ref_v41 (R : Fin 16384) (h : Fin 16) (f : Fin 16) (D : Fin 192) (hD : D.val = 128 + f.val) :
    (val_main_v41 (F := Ideal) x0 x1 x2 : S1x16384x16x16.Idx → EReal) (ix4 (0 : Fin 1) R h f) = nq x0 x1 x2 R h D := by
  have hi : idx_main_v19 (idx_main_v20 (idx_main_v41 (ix4 (0 : Fin 1) R h f))) = (ix4 (0 : Fin 1) R h D : S1x16384x16x192.Idx) := by
    funext a
    match a with
    | ⟨0, _⟩ => rfl
    | ⟨1, _⟩ => rfl
    | ⟨2, _⟩ => rfl
    | ⟨3, _⟩ => exact Fin.ext (by show 128 + f.val = D.val; omega)
  rw [val_main_v41_apply, val_main_v20_apply, val_main_v19_apply, hi, ref_v15]

theorem ref_v42 (R : Fin 16384) (h : Fin 16) (f : Fin 16) (D : Fin 192) (hD : D.val = 144 + f.val) :
    (val_main_v42 (F := Ideal) x0 x1 x2 : S1x16384x16x16.Idx → EReal) (ix4 (0 : Fin 1) R h f) = nq x0 x1 x2 R h D := by
  have hi : idx_main_v19 (idx_main_v20 (idx_main_v42 (ix4 (0 : Fin 1) R h f))) = (ix4 (0 : Fin 1) R h D : S1x16384x16x192.Idx) := by
    funext a
    match a with
    | ⟨0, _⟩ => rfl
    | ⟨1, _⟩ => rfl
    | ⟨2, _⟩ => rfl
    | ⟨3, _⟩ => exact Fin.ext (by show 128 + (16 + f.val) = D.val; omega)
  rw [val_main_v42_apply, val_main_v20_apply, val_main_v19_apply, hi, ref_v15]

theorem ref_v79 (R : Fin 16384) (h : Fin 16) (f : Fin 16) (D : Fin 192) (hD : D.val = 160 + f.val) :
    (val_main_v79 (F := Ideal) x0 x1 x2 : S1x16384x16x16.Idx → EReal) (ix4 (0 : Fin 1) R h f) = nq x0 x1 x2 R h D := by
  have hi : idx_main_v19 (idx_main_v58 (idx_main_v79 (ix4 (0 : Fin 1) R h f))) = (ix4 (0 : Fin 1) R h D : S1x16384x16x192.Idx) := by
    funext a
    match a with
    | ⟨0, _⟩ => rfl
    | ⟨1, _⟩ => rfl
    | ⟨2, _⟩ => rfl
    | ⟨3, _⟩ => exact Fin.ext (by show 128 + (32 + f.val) = D.val; omega)
  rw [val_main_v79_apply, val_main_v58_apply, val_main_v19_apply, hi, ref_v15]

theorem ref_v80 (R : Fin 16384) (h : Fin 16) (f : Fin 16) (D : Fin 192) (hD : D.val = 176 + f.val) :
    (val_main_v80 (F := Ideal) x0 x1 x2 : S1x16384x16x16.Idx → EReal) (ix4 (0 : Fin 1) R h f) = nq x0 x1 x2 R h D := by
  have hi : idx_main_v19 (idx_main_v58 (idx_main_v80 (ix4 (0 : Fin 1) R h f))) = (ix4 (0 : Fin 1) R h D : S1x16384x16x192.Idx) := by
    funext a
    match a with
    | ⟨0, _⟩ => rfl
    | ⟨1, _⟩ => rfl
    | ⟨2, _⟩ => rfl
    | ⟨3, _⟩ => exact Fin.ext (by show 128 + (32 + (16 + f.val)) = D.val; omega)
  rw [val_main_v80_apply, val_main_v58_apply, val_main_v19_apply, hi, ref_v15]

theorem ref_v44 (R : Fin 16384) (h : Fin 16) (f : Fin 16) :
    (val_main_v44 (F := Ideal) : S1x16384x16x16.Idx → EReal) (ix4 (0 : Fin 1) R h f) = (Host.cos (val_main_v36 (F := Ideal)) : FVec Ideal S16384x16 .f32) (ix2 R f) := by
  have hi : idx_main_v38 (idx_main_v43 (idx_main_v44 (ix4 (0 : Fin 1) R h f))) = (ix2 R f : S16384x16.Idx) := by
    funext a
    match a with
    | ⟨0, _⟩ => rfl
    | ⟨1, _⟩ => rfl
  rw [val_main_v44_apply, val_main_v43_apply, val_main_v38_apply, hi]
  unfold val_main_v37
  rfl

theorem ref_v47 (R : Fin 16384) (h : Fin 16) (f : Fin 16) :
    (val_main_v47 (F := Ideal) : S1x16384x16x16.Idx → EReal) (ix4 (0 : Fin 1) R h f) = (Host.sin (val_main_v36 (F := Ideal)) : FVec Ideal S16384x16 .f32) (ix2 R f) := by
  have hi : idx_main_v40 (idx_main_v46 (idx_main_v47 (ix4 (0 : Fin 1) R h f))) = (ix2 R f : S16384x16.Idx) := by
    funext a
    match a with
    | ⟨0, _⟩ => rfl
    | ⟨1, _⟩ => rfl
  rw [val_main_v47_apply, val_main_v46_apply, val_main_v40_apply, hi]
  unfold val_main_v39
  rfl

theorem ref_v51 (R : Fin 16384) (h : Fin 16) (f : Fin 16) :
    (val_main_v51 (F := Ideal) : S1x16384x16x16.Idx → EReal) (ix4 (0 : Fin 1) R h f) = (Host.sin (val_main_v36 (F := Ideal)) : FVec Ideal S16384x16 .f32) (ix2 R f) := by
  have hi : idx_main_v40 (idx_main_v50 (idx_main_v51 (ix4 (0 : Fin 1) R h f))) = (ix2 R f : S16384x16.Idx) := by
    funext a
    match a with
    | ⟨0, _⟩ => rfl
    | ⟨1, _⟩ => rfl
  rw [val_main_v51_apply, val_main_v50_apply, val_main_v40_apply, hi]
  unfold val_main_v39
  rfl

theorem ref_v54 (R : Fin 16384) (h : Fin 16) (f : Fin 16) :
    (val_main_v54 (F := Ideal) : S1x16384x16x16.Idx → EReal) (ix4 (0 : Fin 1) R h f) = (Host.cos (val_main_v36 (F := Ideal)) : FVec Ideal S16384x16 .f32) (ix2 R f) := by
  have hi : idx_main_v38 (idx_main_v53 (idx_main_v54 (ix4 (0 : Fin 1) R h f))) = (ix2 R f : S16384x16.Idx) := by
    funext a
    match a with
    | ⟨0, _⟩ => rfl
    | ⟨1, _⟩ => rfl
  rw [val_main_v54_apply, val_main_v53_apply, val_main_v38_apply, hi]
  unfold val_main_v37
  rfl

theorem ref_v82 (R : Fin 16384) (h : Fin 16) (f : Fin 16) :
    (val_main_v82 (F := Ideal) : S1x16384x16x16.Idx → EReal) (ix4 (0 : Fin 1) R h f) = (Host.cos (val_main_v74 (F := Ideal)) : FVec Ideal S16384x16 .f32) (ix2 R f) := by
  have hi : idx_main_v76 (idx_main_v81 (idx_main_v82 (ix4 (0 : Fin 1) R h f))) = (ix2 R f : S16384x16.Idx) := by
    funext a
    match a with
    | ⟨0, _⟩ => rfl
    | ⟨1, _⟩ => rfl
  rw [val_main_v82_apply, val_main_v81_apply, val_main_v76_apply, hi]
  unfold val_main_v75
  rfl

theorem ref_v85 (R : Fin 16384) (h : Fin 16) (f : Fin 16) :
    (val_main_v85 (F := Ideal) : S1x16384x16x16.Idx → EReal) (ix4 (0 : Fin 1) R h f) = (Host.sin (val_main_v74 (F := Ideal)) : FVec Ideal S16384x16 .f32) (ix2 R f) := by
  have hi : idx_main_v78 (idx_main_v84 (idx_main_v85 (ix4 (0 : Fin 1) R h f))) = (ix2 R f : S16384x16.Idx) := by
    funext a
    match a with
    | ⟨0, _⟩ => rfl
    | ⟨1, _⟩ => rfl
  rw [val_main_v85_apply, val_main_v84_apply, val_main_v78_apply, hi]
  unfold val_main_v77
  rfl

theorem ref_v89 (R : Fin 16384) (h : Fin 16) (f : Fin 16) :
    (val_main_v89 (F := Ideal) : S1x16384x16x16.Idx → EReal) (ix4 (0 : Fin 1) R h f) = (Host.sin (val_main_v74 (F := Ideal)) : FVec Ideal S16384x16 .f32) (ix2 R f) := by
  have hi : idx_main_v78 (idx_main_v88 (idx_main_v89 (ix4 (0 : Fin 1) R h f))) = (ix2 R f : S16384x16.Idx) := by
    funext a
    match a with
    | ⟨0, _⟩ => rfl
    | ⟨1, _⟩ => rfl
  rw [val_main_v89_apply, val_main_v88_apply, val_main_v78_apply, hi]
  unfold val_main_v77
  rfl

theorem ref_v92 (R : Fin 16384) (h : Fin 16) (f : Fin 16) :
    (val_main_v92 (F := Ideal) : S1x16384x16x16.Idx → EReal) (ix4 (0 : Fin 1) R h f) = (Host.cos (val_main_v74 (F := Ideal)) : FVec Ideal S16384x16 .f32) (ix2 R f) := by
  have hi : idx_main_v76 (idx_main_v91 (idx_main_v92 (ix4 (0 : Fin 1) R h f))) = (ix2 R f : S16384x16.Idx) := by
    funext a
    match a with
    | ⟨0, _⟩ => rfl
    | ⟨1, _⟩ => rfl
  rw [val_main_v92_apply, val_main_v91_apply, val_main_v76_apply, hi]
  unfold val_main_v75
  rfl

theorem ref_v49 (R : Fin 16384) (h : Fin 16) (f : Fin 16) (D E : Fin 192) (hD : D.val = 128 + f.val) (hE : E.val = 144 + f.val) :
    (val_main_v49 (F := Ideal) x0 x1 x2 : S1x16384x16x16.Idx → EReal) (ix4 (0 : Fin 1) R h f)
      = (nq x0 x1 x2 R h D : EReal) * (Host.cos (val_main_v36 (F := Ideal)) : FVec Ideal S16384x16 .f32) (ix2 R f)
        - nq x0 x1 x2 R h E * (Host.sin (val_main_v36 (F := Ideal)) : FVec Ideal S16384x16 .f32) (ix2 R f) := by
  rw [val_main_v49_apply, val_main_v45_apply, val_main_v48_apply]
  exact congr (congrArg HSub.hSub (congr (congrArg HMul.hMul (ref_v41 x0 x1 x2 R h f D hD)) (ref_v44 R h f)))
    (congr (congrArg HMul.hMul (ref_v42 x0 x1 x2 R h f E hE)) (ref_v47 R h f))

theorem ref_v56 (R : Fin 16384) (h : Fin 16) (f : Fin 16) (D E : Fin 192) (hD : D.val = 128 + f.val) (hE : E.val = 144 + f.val) :
    (val_main_v56 (F := Ideal) x0 x1 x2 : S1x16384x16x16.Idx → EReal) (ix4 (0 : Fin 1) R h f)
      = (nq x0 x1 x2 R h D : EReal) * (Host.sin (val_main_v36 (F := Ideal)) : FVec Ideal S16384x16 .f32) (ix2 R f)
        + nq x0 x1 x2 R h E * (Host.cos (val_main_v36 (F := Ideal)) : FVec Ideal S16384x16 .f32) (ix2 R f) := by
  rw [val_main_v56_apply, val_main_v52_apply, val_main_v55_apply]
  exact congr (congrArg HAdd.hAdd (congr (congrArg HMul.hMul (ref_v41 x0 x1 x2 R h f D hD)) (ref_v51 R h f)))
    (congr (congrArg HMul.hMul (ref_v42 x0 x1 x2 R h f E hE)) (ref_v54 R h f))

theorem ref_v87 (R : Fin 16384) (h : Fin 16) (f : Fin 16) (D E : Fin 192) (hD : D.val = 160 + f.val) (hE : E.val = 176 + f.val) :
    (val_main_v87 (F := Ideal) x0 x1 x2 : S1x16384x16x16.Idx → EReal) (ix4 (0 : Fin 1) R h f)
      = (nq x0 x1 x2 R h D : EReal) * (Host.cos (val_main_v74 (F := Ideal)) : FVec Ideal S16384x16 .f32) (ix2 R f)
        - nq x0 x1 x2 R h E * (Host.sin (val_main_v74 (F := Ideal)) : FVec Ideal S16384x16 .f32) (ix2 R f) := by
  rw [val_main_v87_apply, val_main_v83_apply, val_main_v86_apply]
  exact congr (congrArg HSub.hSub (congr (congrArg HMul.hMul (ref_v79 x0 x1 x2 R h f D hD)) (ref_v82 R h f)))
    (congr (congrArg HMul.hMul (ref_v80 x0 x1 x2 R h f E hE)) (ref_v85 R h f))

theorem ref_v94 (R : Fin 16384) (h : Fin 16) (f : Fin 16) (D E : Fin 192) (hD : D.val = 160 + f.val) (hE : E.val = 176 + f.val) :
    (val_main_v94 (F := Ideal) x0 x1 x2 : S1x16384x16x16.Idx → EReal) (ix4 (0 : Fin 1) R h f)
      = (nq x0 x1 x2 R h D : EReal) * (Host.sin (val_main_v74 (F := Ideal)) : FVec Ideal S16384x16 .f32) (ix2 R f)
        + nq x0 x1 x2 R h E * (Host.cos (val_main_v74 (F := Ideal)) : FVec Ideal S16384x16 .f32) (ix2 R f) := by
  rw [val_main_v94_apply, val_main_v90_apply, val_main_v93_apply]
  exact congr (congrArg HAdd.hAdd (congr (congrArg HMul.hMul (ref_v79 x0 x1 x2 R h f D hD)) (ref_v89 R h f)))
    (congr (congrArg HMul.hMul (ref_v80 x0 x1 x2 R h f E hE)) (ref_v92 R h f))

theorem cat57_0 (R : Fin 16384) (h : Fin 16) (e : Fin 32) (f : Fin 16) (he : e.val = 0 + f.val) :
    (val_main_v57 (F := Ideal) x0 x1 x2 : S1x16384x16x32.Idx → EReal) (ix4 (0 : Fin 1) R h e) = (val_main_v49 (F := Ideal) x0 x1 x2 : S1x16384x16x16.Idx → EReal) (ix4 (0 : Fin 1) R h f) := by
  unfold val_main_v57
  refine concatenate_apply_piece (t := S1x16384x16x32) (3 : Fin 4) _ _ (ix4 (0 : Fin 1) R h e) 0 (by simp) S1x16384x16x16 _ rfl rfl 0 (by rfl)
    (ix4 (0 : Fin 1) R h f) (fun b hb => ?_) ?_
  · match b, hb with
    | ⟨0, _⟩, _ => rfl
    | ⟨1, _⟩, _ => rfl
    | ⟨2, _⟩, _ => rfl
    | ⟨3, _⟩, hb => exact absurd rfl hb
  · show 0 + f.val = e.val
    omega

theorem cat57_1 (R : Fin 16384) (h : Fin 16) (e : Fin 32) (f : Fin 16) (he : e.val = 16 + f.val) :
    (val_main_v57 (F := Ideal) x0 x1 x2 : S1x16384x16x32.Idx → EReal) (ix4 (0 : Fin 1) R h e) = (val_main_v56 (F := Ideal) x0 x1 x2 : S1x16384x16x16.Idx → EReal) (ix4 (0 : Fin 1) R h f) := by
  unfold val_main_v57
  refine concatenate_apply_piece (t := S1x16384x16x32) (3 : Fin 4) _ _ (ix4 (0 : Fin 1) R h e) 1 (by simp) S1x16384x16x16 _ rfl rfl 16 (by rfl)
    (ix4 (0 : Fin 1) R h f) (fun b hb => ?_) ?_
  · match b, hb with
    | ⟨0, _⟩, _ => rfl
    | ⟨1, _⟩, _ => rfl
    | ⟨2, _⟩, _ => rfl
    | ⟨3, _⟩, hb => exact absurd rfl hb
  · show 16 + f.val = e.val
    omega

theorem cat95_0 (R : Fin 16384) (h : Fin 16) (e : Fin 32) (f : Fin 16) (he : e.val = 0 + f.val) :
    (val_main_v95 (F := Ideal) x0 x1 x2 : S1x16384x16x32.Idx → EReal) (ix4 (0 : Fin 1) R h e) = (val_main_v87 (F := Ideal) x0 x1 x2 : S1x16384x16x16.Idx → EReal) (ix4 (0 : Fin 1) R h f) := by
  unfold val_main_v95
  refine concatenate_apply_piece (t := S1x16384x16x32) (3 : Fin 4) _ _ (ix4 (0 : Fin 1) R h e) 0 (by simp) S1x16384x16x16 _ rfl rfl 0 (by rfl)
    (ix4 (0 : Fin 1) R h f) (fun b hb => ?_) ?_
  · match b, hb with
    | ⟨0, _⟩, _ => rfl
    | ⟨1, _⟩, _ => rfl
    | ⟨2, _⟩, _ => rfl
    | ⟨3, _⟩, hb => exact absurd rfl hb
  · show 0 + f.val = e.val
    omega

theorem cat95_1 (R : Fin 16384) (h : Fin 16) (e : Fin 32) (f : Fin 16) (he : e.val = 16 + f.val) :
    (val_main_v95 (F := Ideal) x0 x1 x2 : S1x16384x16x32.Idx → EReal) (ix4 (0 : Fin 1) R h e) = (val_main_v94 (F := Ideal) x0 x1 x2 : S1x16384x16x16.Idx → EReal) (ix4 (0 : Fin 1) R h f) := by
  unfold val_main_v95
  refine concatenate_apply_piece (t := S1x16384x16x32) (3 : Fin 4) _ _ (ix4 (0 : Fin 1) R h e) 1 (by simp) S1x16384x16x16 _ rfl rfl 16 (by rfl)
    (ix4 (0 : Fin 1) R h f) (fun b hb => ?_) ?_
  · match b, hb with
    | ⟨0, _⟩, _ => rfl
    | ⟨1, _⟩, _ => rfl
    | ⟨2, _⟩, _ => rfl
    | ⟨3, _⟩, hb => exact absurd rfl hb
  · show 16 + f.val = e.val
    omega

theorem cat96_0 (R : Fin 16384) (h : Fin 16) (e : Fin 192) (f : Fin 128) (he : e.val = 0 + f.val) :
    (val_main_v96 (F := Ideal) x0 x1 x2 : S1x16384x16x192.Idx → EReal) (ix4 (0 : Fin 1) R h e) = (val_main_v18 (F := Ideal) x0 x1 x2 : S1x16384x16x128.Idx → EReal) (ix4 (0 : Fin 1) R h f) := by
  unfold val_main_v96
  refine concatenate_apply_piece (t := S1x16384x16x192) (3 : Fin 4) _ _ (ix4 (0 : Fin 1) R h e) 0 (by simp) S1x16384x16x128 _ rfl rfl 0 (by rfl)
    (ix4 (0 : Fin 1) R h f) (fun b hb => ?_) ?_
  · match b, hb with
    | ⟨0, _⟩, _ => rfl
    | ⟨1, _⟩, _ => rfl
    | ⟨2, _⟩, _ => rfl
    | ⟨3, _⟩, hb => exact absurd rfl hb
  · show 0 + f.val = e.val
    omega

theorem cat96_1 (R : Fin 16384) (h : Fin 16) (e : Fin 192) (f : Fin 32) (he : e.val = 128 + f.val) :
    (val_main_v96 (F := Ideal) x0 x1 x2 : S1x16384x16x192.Idx → EReal) (ix4 (0 : Fin 1) R h e) = (val_main_v57 (F := Ideal) x0 x1 x2 : S1x16384x16x32.Idx → EReal) (ix4 (0 : Fin 1) R h f) := by
  unfold val_main_v96
  refine concatenate_apply_piece (t := S1x16384x16x192) (3 : Fin 4) _ _ (ix4 (0 : Fin 1) R h e) 1 (by simp) S1x16384x16x32 _ rfl rfl 128 (by rfl)
    (ix4 (0 : Fin 1) R h f) (fun b hb => ?_) ?_
  · match b, hb with
    | ⟨0, _⟩, _ => rfl
    | ⟨1, _⟩, _ => rfl
    | ⟨2, _⟩, _ => rfl
    | ⟨3, _⟩, hb => exact absurd rfl hb
  · show 128 + f.val = e.val
    omega

theorem cat96_2 (R : Fin 16384) (h : Fin 16) (e : Fin 192) (f : Fin 32) (he : e.val = 160 + f.val) :
    (val_main_v96 (F := Ideal) x0 x1 x2 : S1x16384x16x192.Idx → EReal) (ix4 (0 : Fin 1) R h e) = (val_main_v95 (F := Ideal) x0 x1 x2 : S1x16384x16x32.Idx → EReal) (ix4 (0 : Fin 1) R h f) := by
  unfold val_main_v96
  refine concatenate_apply_piece (t := S1x16384x16x192) (3 : Fin 4) _ _ (ix4 (0 : Fin 1) R h e) 2 (by simp) S1x16384x16x32 _ rfl rfl 160 (by rfl)
    (ix4 (0 : Fin 1) R h f) (fun b hb => ?_) ?_
  · match b, hb with
    | ⟨0, _⟩, _ => rfl
    | ⟨1, _⟩, _ => rfl
    | ⟨2, _⟩, _ => rfl
    | ⟨3, _⟩, hb => exact absurd rfl hb
  · show 160 + f.val = e.val
    omega

theorem zero_pad (i : S_.Idx) : (val_main_call2_v0 (F := Ideal)) i = (0 : EReal) := by
  show (((0#32 : BitVec 32).toInt : ℝ) : EReal) = 0
  simp

/-- The result at one of a head's lanes. -/
theorem ref_in (H : Fin 16) (R : Fin 16384) (d : Fin 256) (D : Fin 192) (hD : d.val = D.val) :
    (val_main_v102 (F := Ideal) x0 x1 x2 : S16x16384x256.Idx → EReal) (ix3 H R d)
      = (val_main_v96 (F := Ideal) x0 x1 x2 : S1x16384x16x192.Idx → EReal) (ix4 (0 : Fin 1) R H D) * Ideal.ofBits .f32 0x3DD53B95#32 := by
  have hR := R.isLt
  have hH := H.isLt
  have hd := D.isLt
  have h1 : idx_main_v101 (ix3 H R d) = (ix3 R H d : S16384x16x256.Idx) := by
    funext a
    match a with
    | ⟨0, _⟩ => rfl
    | ⟨1, _⟩ => rfl
    | ⟨2, _⟩ => rfl
  have h2 : idx_main_v99 (ix3 R H D) = (ix4 (0 : Fin 1) R H D : S1x16384x16x192.Idx) := by
    funext a
    match a with
    | ⟨0, _⟩ => rfl
    | ⟨1, _⟩ => exact Fin.ext (by show ((R.val * 16 + H.val) * 192 + D.val) / 3072 % 16384 = R.val; omega)
    | ⟨2, _⟩ => exact Fin.ext (by show ((R.val * 16 + H.val) * 192 + D.val) / 192 % 16 = H.val; omega)
    | ⟨3, _⟩ => exact Fin.ext (by show ((R.val * 16 + H.val) * 192 + D.val) % 192 = D.val; omega)
  refine (val_main_v102_apply (F := Ideal) x0 x1 x2 _).trans ?_
  show (val_main_v101 (F := Ideal) x0 x1 x2 : S16x16384x256.Idx → EReal) (ix3 H R d) = _
  rw [val_main_v101_apply, h1]
  unfold val_main_v100
  refine (pad_apply_of_inside _ _ _ _ _ _ _ (ix3 R H d) (ix3 R H D) fun a => ?_).trans ?_
  · match a with
    | ⟨0, _⟩ => show R.val = 0 + R.val * (0 + 1); omega
    | ⟨1, _⟩ => show H.val = 0 + H.val * (0 + 1); omega
    | ⟨2, _⟩ => show d.val = 0 + D.val * (0 + 1); omega
  · rw [val_main_v99_apply, h2, val_main_v98_apply, val_main_v97_apply]
    rfl

/-- The result past a head's lanes. -/
theorem ref_out (H : Fin 16) (R : Fin 16384) (d : Fin 256) (hd : 192 ≤ d.val) :
    (val_main_v102 (F := Ideal) x0 x1 x2 : S16x16384x256.Idx → EReal) (ix3 H R d) = (0 : EReal) := by
  have h1 : idx_main_v101 (ix3 H R d) = (ix3 R H d : S16384x16x256.Idx) := by
    funext a
    match a with
    | ⟨0, _⟩ => rfl
    | ⟨1, _⟩ => rfl
    | ⟨2, _⟩ => rfl
  refine (val_main_v102_apply (F := Ideal) x0 x1 x2 _).trans ?_
  show (val_main_v101 (F := Ideal) x0 x1 x2 : S16x16384x256.Idx → EReal) (ix3 H R d) = _
  rw [val_main_v101_apply, h1]
  unfold val_main_v100
  refine (pad_apply_of_not_inside _ _ _ _ _ _ _ (ix3 R H d) (2 : Fin 3) fun hh => ?_).trans (zero_pad _)
  have h3 : (d.val - 0) / (0 + 1) < 192 := hh.2.2
  simp at h3
  omega

end Cert.Proof.QUp

end
-- ==== Proof.QUpAlg.lean ====
module

public import proofs.«01_k».proof.Proof.QUpRef

@[expose] public section
noncomputable section

/-! A head's mean square and its rotation, over the extended reals. -/

namespace Cert.Proof.QUp
open Idealize.ShloMosaic

/-- A head's sum: its plain lanes' and its rotary lanes'. -/
theorem sum_split (f : Fin 192 → EReal) :
    ∑ d : Fin 192, f d = (∑ e : Fin 128, f ⟨e.val, by have := e.isLt; omega⟩) + ∑ e : Fin 64, f ⟨128 + e.val, by have := e.isLt; omega⟩ :=
  Fin.sum_univ_add (a := 128) (b := 64) f

/-- A sum of squares whose last sixty-four terms are zeros. -/
theorem sum_pad (b : Fin 128 → EReal) (hb : ∀ e : Fin 128, 64 ≤ e.val → b e = 0) :
    ∑ e : Fin 128, b e * b e = ∑ e : Fin 64, b ⟨e.val, by have := e.isLt; omega⟩ * b ⟨e.val, by have := e.isLt; omega⟩ := by
  refine (Fin.sum_univ_add (a := 64) (b := 64) fun e : Fin 128 => b e * b e).trans ?_
  have h0 : ∑ i : Fin 64, (fun e : Fin 128 => b e * b e) (Fin.natAdd 64 i) = 0 := by
    refine Finset.sum_eq_zero fun i _ => ?_
    show b (Fin.natAdd 64 i) * b (Fin.natAdd 64 i) = 0
    rw [hb (Fin.natAdd 64 i) (by show 64 ≤ 64 + i.val; omega), mul_zero]
  rw [h0, add_zero]
  rfl

theorem width_bits : Ideal.ofBits .f32 0x43400000#32 = ((192 : ℝ) : EReal) := by
  simp [Ideal.ofBits, Ideal.ieee, -EReal.coe_mul]; norm_num

theorem eps_bits : (0 : EReal) < Ideal.ofBits .f32 0x358637BD#32 := by
  simp [Ideal.ofBits, Ideal.ieee, -EReal.coe_mul]

theorem sq_nonneg' (x : EReal) : 0 ≤ x * x := by
  rcases le_total 0 x with h | h
  · exact mul_nonneg h h
  · have h' : 0 ≤ -x := by simpa using h
    have := mul_nonneg h' h'
    rwa [neg_mul_neg] at this

/-- One over a head's root mean square, from its sum times the width's inverse. -/
theorem inv_eq (q : Fin 192 → EReal) :
    inv q = Ideal.rsqrt ((∑ d : Fin 192, q d * q d) * ((1 / 192 : ℝ) : EReal) + Ideal.ofBits .f32 0x358637BD#32) := by
  unfold inv
  rw [width_bits, Ideal.div_coe (by norm_num)]

theorem rsqrt_fin (x : EReal) (hx : 0 < x) : 0 ≤ Ideal.rsqrt x ∧ Ideal.rsqrt x ≠ ⊤ := by
  induction x using EReal.rec with
  | bot => exact absurd hx (by simp)
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩
  | top => rw [Ideal.rsqrt_top]; exact ⟨le_refl _, EReal.zero_ne_top⟩

theorem inv_fin (q : Fin 192 → EReal) : 0 ≤ inv q ∧ inv q ≠ ⊤ := by
  rw [inv_eq]
  refine rsqrt_fin _ (lt_of_lt_of_le eps_bits ?_)
  refine le_add_of_nonneg_left (mul_nonneg (Finset.sum_nonneg fun d _ => sq_nonneg' (q d)) ?_)
  exact_mod_cast (by norm_num : (0 : ℝ) ≤ 1 / 192)

/-- A plain lane. -/
theorem plain (q i s g : EReal) : q * (i * s) * g = q * i * g * s := by
  rw [← mul_assoc, mul_right_comm]

theorem scaled (x t g i : EReal) : x * (t * g) * i = x * i * g * t := by
  ac_rfl

/-- A rotary lane of a first half. -/
theorem rot_first (a b C S ga gb i s : EReal) (h : 0 ≤ i ∧ i ≠ ⊤) :
    (a * (C * ga) + b * (-S * gb)) * (i * s) = (a * i * ga * C - b * i * gb * S) * s := by
  rw [← mul_assoc, EReal.right_distrib_of_nonneg_of_ne_top h.1 h.2, scaled, scaled, mul_neg, ← sub_eq_add_neg]

/-- A rotary lane of a second half. -/
theorem rot_second (a b C S ga gb i s : EReal) (h : 0 ≤ i ∧ i ≠ ⊤) :
    (b * (C * gb) + a * (S * ga)) * (i * s) = (a * i * ga * S + b * i * gb * C) * s := by
  rw [← mul_assoc, EReal.right_distrib_of_nonneg_of_ne_top h.1 h.2, scaled, scaled, add_comm]

end Cert.Proof.QUp

end
-- ==== Proof.QUpClaim.lean ====
module

public import proofs.«01_k».proof.Defs
public import proofs.«01_k».proof.Proof.QUpBlocks
public import proofs.«01_k».proof.Proof.QUpRead
public import proofs.«01_k».proof.Proof.QUpAlg
public import proofs.«01_k».proof.Proof.Gen.KernelQUp.Frame
public import proofs.«01_k».proof.Proof.Gen.ReferenceQUpIdeal.Run
public import proofs.«01_k».proof.Proof.Gen.ReferenceQUpIdeal
public import Idealize.ShloMosaic.Lib.Quiescent

@[expose] public section
set_option maxRecDepth 16384
noncomputable section

/-! The queries' up-projection computes its reference. -/

namespace Cert.Proof.QUp
open Idealize.ShloMosaic Idealize.ShloMosaic.TcCoe Idealize.SL.Sem
open Idealize.ShloMosaic.ValueIdx Cert.Tiles
open Cert.KernelQUpIdeal Cert.KernelQUpIdeal.Gen Cert.ReferenceQUpIdeal.Read

theorem same3 {A B C : ℕ} (f g : (⟨3, ![A, B, C]⟩ : Shape).Idx → EReal) (h : ∀ (a : Fin A) (b : Fin B) (c : Fin C), f (ix3 a b c) = g (ix3 a b c)) : f = g :=
  funext fun i => by rw [eq_ix3 i]; exact h _ _ _

/-- A rotary lane of a head. -/
def rlane (e : Fin 64) : Fin 192 := ⟨128 + e.val, by have := e.isLt; omega⟩

/-- The partner of a rotary lane. -/
def pair (e : Fin 64) : Fin 64 := ⟨partner e.val, by have := e.isLt; unfold partner; omega⟩

variable (m : (ℓ : Loc nD τ sig) → Buf (Elt Ideal) ℓ)

/-- The product of a point's blocks. -/
def prod (c : Dev nD) (t : Fin cfg0.N) : S1024x1536.Idx → EReal := k0_pay1 (iblk m c 0 t) (iblk m c 1 t)

section point
variable (c : Dev nD) (t : Fin cfg0.N) (h : Fin 4) (r : Fin 1024) (H : Fin 16) (hH : H.val = 4 * (t.val % 4) + h.val) (R : Fin 16384)
  (hR : R.val = 1024 * (t.val / 4) + r.val)
include hH hR

/-- A plain lane of the product. -/
theorem prod_nope (e : Fin 128) (D : Fin 192) (hD : D.val = e.val) :
    prod m c t (ix2 r (lane h 0 e)) = qv (m (c, Proc.tc.devRef main_arg0)) (m (c, Proc.tc.devRef main_arg1)) R H D := by
  have hh := h.isLt
  have he := e.isLt
  unfold prod
  refine (prod_apply _ _ r _).trans (Finset.sum_congr rfl fun k _ => ?_)
  refine congr (congrArg HMul.hMul (blk0 m c t r k R hR)) ?_
  refine (blk1 m c t k _ (⟨384 * H.val + e.val, by have := H.isLt; omega⟩ : Fin 6144) ?_).trans (cols_nope _ k _ H e rfl _ ?_)
  · show 384 * H.val + e.val = 1536 * (t.val % 4) + (384 * h.val + 128 * 0 + e.val)
    omega
  · show 192 * H.val + D.val = 192 * H.val + e.val
    omega

/-- A rotary lane of the product. -/
theorem prod_rope (e : Fin 128) (f : Fin 64) (he : e.val = f.val) (D : Fin 192) (hD : D.val = 128 + f.val) :
    prod m c t (ix2 r (lane h 1 e)) = qv (m (c, Proc.tc.devRef main_arg0)) (m (c, Proc.tc.devRef main_arg1)) R H D := by
  have hh := h.isLt
  have he' := e.isLt
  unfold prod
  refine (prod_apply _ _ r _).trans (Finset.sum_congr rfl fun k _ => ?_)
  refine congr (congrArg HMul.hMul (blk0 m c t r k R hR)) ?_
  refine (blk1 m c t k _ (⟨384 * H.val + (128 + e.val), by have := H.isLt; omega⟩ : Fin 6144) ?_).trans
    ((cols_rope _ k _ H e rfl).trans ((padW_in _ k H e f he).trans (ropeW_apply _ k H f _ ?_)))
  · show 384 * H.val + (128 + e.val) = 1536 * (t.val % 4) + (384 * h.val + 128 * 1 + e.val)
    omega
  · show 192 * H.val + D.val = 192 * H.val + (128 + f.val)
    omega

/-- A rotary lane's partner in the product. -/
theorem prod_swap (e : Fin 128) (f : Fin 64) (he : e.val = f.val) (D : Fin 192) (hD : D.val = 128 + partner f.val) :
    prod m c t (ix2 r (lane h 2 e)) = qv (m (c, Proc.tc.devRef main_arg0)) (m (c, Proc.tc.devRef main_arg1)) R H D := by
  have hh := h.isLt
  have he' := e.isLt
  unfold prod
  refine (prod_apply _ _ r _).trans (Finset.sum_congr rfl fun k _ => ?_)
  refine congr (congrArg HMul.hMul (blk0 m c t r k R hR)) ?_
  refine (blk1 m c t k _ (⟨384 * H.val + (256 + e.val), by have := H.isLt; omega⟩ : Fin 6144) ?_).trans
    ((cols_swap _ k _ H e rfl).trans ((padW_in _ k H e f he).trans ((gatherW_apply _ _ k H f (pair f) rfl).trans (ropeW_apply _ k H (pair f) _ ?_))))
  · show 384 * H.val + (256 + e.val) = 1536 * (t.val % 4) + (384 * h.val + 128 * 2 + e.val)
    omega
  · show 192 * H.val + D.val = 192 * H.val + (128 + partner f.val)
    omega

omit hR in
theorem prod_rope_out (e : Fin 128) (he : 64 ≤ e.val) : prod m c t (ix2 r (lane h 1 e)) = (0 : EReal) := by
  have hh := h.isLt
  have he' := e.isLt
  unfold prod
  refine (prod_apply _ _ r _).trans (Finset.sum_eq_zero fun k _ => ?_)
  refine (congrArg (HMul.hMul (α := EReal) (β := EReal) (γ := EReal) _) ?_).trans (mul_zero _)
  refine (blk1 m c t k _ (⟨384 * H.val + (128 + e.val), by have := H.isLt; omega⟩ : Fin 6144) ?_).trans
    ((cols_rope _ k _ H e rfl).trans (padW_out _ k H e he))
  show 384 * H.val + (128 + e.val) = 1536 * (t.val % 4) + (384 * h.val + 128 * 1 + e.val)
  omega

omit hR in
theorem prod_swap_out (e : Fin 128) (he : 64 ≤ e.val) : prod m c t (ix2 r (lane h 2 e)) = (0 : EReal) := by
  have hh := h.isLt
  have he' := e.isLt
  unfold prod
  refine (prod_apply _ _ r _).trans (Finset.sum_eq_zero fun k _ => ?_)
  refine (congrArg (HMul.hMul (α := EReal) (β := EReal) (γ := EReal) _) ?_).trans (mul_zero _)
  refine (blk1 m c t k _ (⟨384 * H.val + (256 + e.val), by have := H.isLt; omega⟩ : Fin 6144) ?_).trans
    ((cols_swap _ k _ H e rfl).trans (padW_out _ k H e he))
  show 384 * H.val + (256 + e.val) = 1536 * (t.val % 4) + (384 * h.val + 128 * 2 + e.val)
  omega

/-- A head's scale is its norm's, by the queries' scale. -/
theorem hscale_eq : hscale (prod m c t) h r
      = inv (qv (m (c, Proc.tc.devRef main_arg0)) (m (c, Proc.tc.devRef main_arg1)) R H) * Ideal.ofBits .f32 0x3DD53B95#32 := by
  rw [inv_eq, sum_split]
  unfold hscale scaleOf
  rw [sum_pad (fun e => prod m c t (ix2 r (lane h 1 e))) fun e he => prod_rope_out m c t h r H hH e he]
  refine congrArg (fun s : EReal => Ideal.rsqrt (s * ((1 / 192 : ℝ) : EReal) + Ideal.ofBits .f32 0x358637BD#32) * Ideal.ofBits .f32 0x3DD53B95#32) ?_
  refine congr (congrArg HAdd.hAdd (Finset.sum_congr rfl fun e _ => ?_)) (Finset.sum_congr rfl fun e _ => ?_)
  · have hp := prod_nope m c t h r H hH R hR e ⟨e.val, by have := e.isLt; omega⟩ rfl
    exact congr (congrArg HMul.hMul hp) hp
  · have hp := prod_rope m c t h r H hH R hR ⟨e.val, by have := e.isLt; omega⟩ e rfl ⟨128 + e.val, by have := e.isLt; omega⟩ rfl
    exact congr (congrArg HMul.hMul hp) hp

/-- What a point leaves at a plain lane. -/
theorem nope_at (e : Fin 128) (D : Fin 192) (hD : D.val = e.val) :
    nopePart (prod m c t) (iblk m c 4 t) h r e
      = nq (m (c, Proc.tc.devRef main_arg0)) (m (c, Proc.tc.devRef main_arg1)) (m (c, Proc.tc.devRef main_arg2)) R H D * Ideal.ofBits .f32 0x3DD53B95#32 := by
  have hg : (iblk m c 4 t : S1x128.Idx → EReal) (ix2 (0 : Fin 1) e) = (m (c, Proc.tc.devRef main_arg2) : S192.Idx → EReal) (ix1 D) := by
    refine (blk4 m c t e).trans ?_
    rw [V_gn m c]
    refine (row_apply _ e).trans (extractStridedSlice_apply (s := S192) (t := S128) (![0] : Fin 1 → Nat) _ slices_S192_S128_0 (ix1 e) (ix1 D) fun a => ?_)
    match a with
    | ⟨0, _⟩ => show D.val = 0 + e.val; omega
  unfold nopePart nq
  rw [hscale_eq m c t h r H hH R hR, prod_nope m c t h r H hH R hR e D hD, hg]
  exact plain _ _ _ _

omit hH in
/-- A rotary lane's weighted cosine. -/
theorem cg_at (e : Fin 128) (f : Fin 64) (he : e.val = f.val) (D : Fin 192) (hD : D.val = 128 + f.val) (X : EReal)
    (hX : table (Host.cos angR) (Host.cos angR) (Host.cos angC) (Host.cos angC) (ix2 R e) = X) :
    (k0_pay2 (iblk m c 2 t) (iblk m c 5 t) : S1024x128.Idx → EReal) (ix2 r e) = X * (m (c, Proc.tc.devRef main_arg2) : S192.Idx → EReal) (ix1 D) := by
  refine (cg_apply _ _ r e).trans (congr (congrArg HMul.hMul ((blk2 m c t r e R hR).trans ?_)) ((blk5 m c t e).trans ?_))
  · rw [V_cos m c]
    exact hX
  · rw [V_gr m c]
    exact (padG_in _ e f he).trans (ropeG_apply _ f D hD)

omit hH in
/-- A rotary lane's weighted sine. -/
theorem sg_at (e : Fin 128) (f : Fin 64) (he : e.val = f.val) (D : Fin 192) (hD : D.val = 128 + partner f.val) (X : EReal)
    (hX : table (Host.negf (Host.sin angR)) (Host.sin angR) (Host.negf (Host.sin angC)) (Host.sin angC) (ix2 R e) = X) :
    (k0_pay3 (iblk m c 3 t) (iblk m c 6 t) : S1024x128.Idx → EReal) (ix2 r e) = X * (m (c, Proc.tc.devRef main_arg2) : S192.Idx → EReal) (ix1 D) := by
  refine (sg_apply _ _ r e).trans (congr (congrArg HMul.hMul ((blk3 m c t r e R hR).trans ?_)) ((blk6 m c t e).trans ?_))
  · rw [V_sin m c]
    exact hX
  · rw [V_gs m c]
    exact (padG_in _ e f he).trans ((gatherG_apply _ f (pair f) rfl).trans (ropeG_apply _ (pair f) D hD))

/-- What a point leaves at a rotary lane. -/
theorem rope_at (e : Fin 128) (f : Fin 64) (he : e.val = f.val) (D E : Fin 192) (hD : D.val = 128 + f.val) (hE : E.val = 128 + partner f.val) (X Y : EReal)
    (hX : table (Host.cos angR) (Host.cos angR) (Host.cos angC) (Host.cos angC) (ix2 R e) = X)
    (hY : table (Host.negf (Host.sin angR)) (Host.sin angR) (Host.negf (Host.sin angC)) (Host.sin angC) (ix2 R e) = Y) :
    ropePart (prod m c t) (k0_pay2 (iblk m c 2 t) (iblk m c 5 t)) (k0_pay3 (iblk m c 3 t) (iblk m c 6 t)) h r e
      = (qv (m (c, Proc.tc.devRef main_arg0)) (m (c, Proc.tc.devRef main_arg1)) R H D * (X * (m (c, Proc.tc.devRef main_arg2) : S192.Idx → EReal) (ix1 D))
        + qv (m (c, Proc.tc.devRef main_arg0)) (m (c, Proc.tc.devRef main_arg1)) R H E * (Y * (m (c, Proc.tc.devRef main_arg2) : S192.Idx → EReal) (ix1 E)))
        * (inv (qv (m (c, Proc.tc.devRef main_arg0)) (m (c, Proc.tc.devRef main_arg1)) R H) * Ideal.ofBits .f32 0x3DD53B95#32) := by
  unfold ropePart
  rw [hscale_eq m c t h r H hH R hR, prod_rope m c t h r H hH R hR e f he D hD, prod_swap m c t h r H hH R hR e f he E hE,
    cg_at m c t r R hR e f he D hD X hX, sg_at m c t r R hR e f he E hE Y hY]

omit hR in
theorem rope_out (e : Fin 128) (he : 64 ≤ e.val) :
    ropePart (prod m c t) (k0_pay2 (iblk m c 2 t) (iblk m c 5 t)) (k0_pay3 (iblk m c 3 t) (iblk m c 6 t)) h r e = (0 : EReal) := by
  unfold ropePart
  rw [prod_rope_out m c t h r H hH e he, prod_swap_out m c t h r H hH e he, zero_mul, zero_mul, add_zero, zero_mul]

end point

/-- The result after the run is the reference's at every head, row and lane. -/
theorem final_eq (c : Dev nD) : (dats m 0 c).arrAt 7 cfg0.N
      = val_main_v102 (F := Ideal) (m (c, Proc.tc.devRef main_arg0)) (m (c, Proc.tc.devRef main_arg1)) (m (c, Proc.tc.devRef main_arg2)) := by
  refine same3 (A := 16) (B := 16384) (C := 256) _ _ fun H R d => ?_
  have hN : cfg0.N = 64 := by decide
  have hRl := R.isLt
  have hHl := H.isLt
  have hdl := d.isLt
  obtain ⟨t, ht⟩ : ∃ t : Fin cfg0.N, t.val = 4 * (R.val / 1024) + H.val / 4 := ⟨⟨4 * (R.val / 1024) + H.val / 4, by omega⟩, rfl⟩
  have hR : R.val = 1024 * (t.val / 4) + (⟨R.val % 1024, by omega⟩ : Fin 1024).val := by show R.val = 1024 * (t.val / 4) + R.val % 1024; omega
  have hH : H.val = 4 * (t.val % 4) + (⟨H.val % 4, by omega⟩ : Fin 4).val := by show H.val = 4 * (t.val % 4) + H.val % 4; omega
  generalize (⟨R.val % 1024, by omega⟩ : Fin 1024) = r at hR
  generalize (⟨H.val % 4, by omega⟩ : Fin 4) = h at hH
  refine (final_at m c t h r d H hH R hR).trans ((out_eq _ _ _ _ _ _ _ _).trans ?_)
  show whole (prod m c t) (k0_pay2 (iblk m c 2 t) (iblk m c 5 t)) (k0_pay3 (iblk m c 3 t) (iblk m c 6 t)) (iblk m c 4 t) h r d = _
  unfold whole
  by_cases h0 : d.val < 128
  · rw [dif_pos h0]
    refine (nope_at m c t h r H hH R hR ⟨d.val, h0⟩ ⟨d.val, by omega⟩ rfl).trans ((ref_in _ _ _ H R d ⟨d.val, by omega⟩ rfl).trans ?_).symm
    exact congrArg (HMul.hMul (α := EReal) (β := EReal) (γ := EReal) · _) ((cat96_0 _ _ _ R H _ ⟨d.val, h0⟩ (Nat.zero_add _).symm).trans (ref_v18 _ _ _ R H _ _ rfl))
  · rw [dif_neg h0]
    by_cases h4 : 192 ≤ d.val
    · exact (rope_out m c t h r H hH _ (by show 64 ≤ d.val - 128; omega)).trans (ref_out _ _ _ H R d h4).symm
    · rcases (show d.val < 144 ∨ (144 ≤ d.val ∧ d.val < 160) ∨ (160 ≤ d.val ∧ d.val < 176) ∨ 176 ≤ d.val by omega) with hd | hd | hd | hd
      · have hf : d.val - 128 < 16 := by omega
        refine (rope_at m c t h r H hH R hR ⟨d.val - 128, by omega⟩ ⟨d.val - 128, by omega⟩ rfl ⟨128 + (d.val - 128), by omega⟩ ⟨144 + (d.val - 128), by omega⟩
          (by show 128 + (d.val - 128) = 128 + (d.val - 128); omega)
          (by show 144 + (d.val - 128) = 128 + partner (d.val - 128); unfold partner; omega)
          ((Host.cos angR : FVec Ideal S16384x16 .f32) (ix2 R (⟨d.val - 128, hf⟩ : Fin 16)))
          (-(Host.sin angR : FVec Ideal S16384x16 .f32) (ix2 R (⟨d.val - 128, hf⟩ : Fin 16)))
          (table_piece0 _ _ _ _ R _ ⟨d.val - 128, hf⟩ (by show d.val - 128 = 0 + (d.val - 128); omega))
          (table_piece0 _ _ _ _ R _ ⟨d.val - 128, hf⟩ (by show d.val - 128 = 0 + (d.val - 128); omega))).trans ?_
        refine (rot_first _ _ _ _ _ _ _ _ (inv_fin _)).trans ((ref_in _ _ _ H R d ⟨d.val, by omega⟩ rfl).trans ?_).symm
        refine congrArg (HMul.hMul (α := EReal) (β := EReal) (γ := EReal) · _) ?_
        refine (cat96_1 _ _ _ R H _ ⟨0 + (d.val - 128), by omega⟩ (by show d.val = 128 + (0 + (d.val - 128)); omega)).trans ?_
        exact (cat57_0 _ _ _ R H _ ⟨d.val - 128, hf⟩ rfl).trans (ref_v49 _ _ _ R H _ ⟨128 + (d.val - 128), by omega⟩ ⟨144 + (d.val - 128), by omega⟩ rfl rfl)
      · have hf : d.val - 144 < 16 := by omega
        refine (rope_at m c t h r H hH R hR ⟨d.val - 128, by omega⟩ ⟨d.val - 128, by omega⟩ rfl ⟨144 + (d.val - 144), by omega⟩ ⟨128 + (d.val - 144), by omega⟩
          (by show 144 + (d.val - 144) = 128 + (d.val - 128); omega)
          (by show 128 + (d.val - 144) = 128 + partner (d.val - 128); unfold partner; omega)
          ((Host.cos angR : FVec Ideal S16384x16 .f32) (ix2 R (⟨d.val - 144, hf⟩ : Fin 16)))
          ((Host.sin angR : FVec Ideal S16384x16 .f32) (ix2 R (⟨d.val - 144, hf⟩ : Fin 16)))
          (table_piece1 _ _ _ _ R _ ⟨d.val - 144, hf⟩ (by show d.val - 128 = 16 + (d.val - 144); omega))
          (table_piece1 _ _ _ _ R _ ⟨d.val - 144, hf⟩ (by show d.val - 128 = 16 + (d.val - 144); omega))).trans ?_
        refine (rot_second _ _ _ _ _ _ _ _ (inv_fin _)).trans ((ref_in _ _ _ H R d ⟨d.val, by omega⟩ rfl).trans ?_).symm
        refine congrArg (HMul.hMul (α := EReal) (β := EReal) (γ := EReal) · _) ?_
        refine (cat96_1 _ _ _ R H _ ⟨16 + (d.val - 144), by omega⟩ (by show d.val = 128 + (16 + (d.val - 144)); omega)).trans ?_
        exact (cat57_1 _ _ _ R H _ ⟨d.val - 144, hf⟩ rfl).trans (ref_v56 _ _ _ R H _ ⟨128 + (d.val - 144), by omega⟩ ⟨144 + (d.val - 144), by omega⟩ rfl rfl)
      · have hf : d.val - 160 < 16 := by omega
        refine (rope_at m c t h r H hH R hR ⟨d.val - 128, by omega⟩ ⟨d.val - 128, by omega⟩ rfl ⟨160 + (d.val - 160), by omega⟩ ⟨176 + (d.val - 160), by omega⟩
          (by show 160 + (d.val - 160) = 128 + (d.val - 128); omega)
          (by show 176 + (d.val - 160) = 128 + partner (d.val - 128); unfold partner; omega)
          ((Host.cos angC : FVec Ideal S16384x16 .f32) (ix2 R (⟨d.val - 160, hf⟩ : Fin 16)))
          (-(Host.sin angC : FVec Ideal S16384x16 .f32) (ix2 R (⟨d.val - 160, hf⟩ : Fin 16)))
          (table_piece2 _ _ _ _ R _ ⟨d.val - 160, hf⟩ (by show d.val - 128 = 32 + (d.val - 160); omega))
          (table_piece2 _ _ _ _ R _ ⟨d.val - 160, hf⟩ (by show d.val - 128 = 32 + (d.val - 160); omega))).trans ?_
        refine (rot_first _ _ _ _ _ _ _ _ (inv_fin _)).trans ((ref_in _ _ _ H R d ⟨d.val, by omega⟩ rfl).trans ?_).symm
        refine congrArg (HMul.hMul (α := EReal) (β := EReal) (γ := EReal) · _) ?_
        refine (cat96_2 _ _ _ R H _ ⟨0 + (d.val - 160), by omega⟩ (by show d.val = 160 + (0 + (d.val - 160)); omega)).trans ?_
        exact (cat95_0 _ _ _ R H _ ⟨d.val - 160, hf⟩ rfl).trans (ref_v87 _ _ _ R H _ ⟨160 + (d.val - 160), by omega⟩ ⟨176 + (d.val - 160), by omega⟩ rfl rfl)
      · have hf : d.val - 176 < 16 := by omega
        refine (rope_at m c t h r H hH R hR ⟨d.val - 128, by omega⟩ ⟨d.val - 128, by omega⟩ rfl ⟨176 + (d.val - 176), by omega⟩ ⟨160 + (d.val - 176), by omega⟩
          (by show 176 + (d.val - 176) = 128 + (d.val - 128); omega)
          (by show 160 + (d.val - 176) = 128 + partner (d.val - 128); unfold partner; omega)
          ((Host.cos angC : FVec Ideal S16384x16 .f32) (ix2 R (⟨d.val - 176, hf⟩ : Fin 16)))
          ((Host.sin angC : FVec Ideal S16384x16 .f32) (ix2 R (⟨d.val - 176, hf⟩ : Fin 16)))
          (table_piece3 _ _ _ _ R _ ⟨d.val - 176, hf⟩ (by show d.val - 128 = 48 + (d.val - 176); omega))
          (table_piece3 _ _ _ _ R _ ⟨d.val - 176, hf⟩ (by show d.val - 128 = 48 + (d.val - 176); omega))).trans ?_
        refine (rot_second _ _ _ _ _ _ _ _ (inv_fin _)).trans ((ref_in _ _ _ H R d ⟨d.val, by omega⟩ rfl).trans ?_).symm
        refine congrArg (HMul.hMul (α := EReal) (β := EReal) (γ := EReal) · _) ?_
        refine (cat96_2 _ _ _ R H _ ⟨16 + (d.val - 176), by omega⟩ (by show d.val = 160 + (16 + (d.val - 176)); omega)).trans ?_
        exact (cat95_1 _ _ _ R H _ ⟨d.val - 176, hf⟩ rfl).trans (ref_v94 _ _ _ R H _ ⟨160 + (d.val - 176), by omega⟩ ⟨176 + (d.val - 176), by omega⟩ rfl rfl)

/-- The kernel as printed: it runs, leaves its arguments, and ends with every counter at zero. -/
theorem frame_kernel : Cert.quiescent_KernelQUp := fun m ρ _ => Cert.KernelQUp.Gen.frame (F := Bits) m ρ

/-- The same of its idealization. -/
theorem frame_ideal : Cert.quiescent_KernelQUpIdeal := fun m ρ _ => Cert.KernelQUpIdeal.Gen.frame (F := Ideal) m ρ

/-- The reference runs, leaves its arguments, and has no counter. -/
theorem frame_ref : Cert.quiescent_ReferenceQUpIdeal := fun m ρ _ =>
  (θ_run Cert.ReferenceQUpIdeal.defs _ _).mono (fun r h => ⟨fun c => (h c).2, sem_eq_zero_of_no_sems (by decide) r.2⟩)
    (Cert.ReferenceQUpIdeal.Value.run (F := Ideal) m ρ)

/-- The head's width's inverse is the one number the idealization names: its bits round it. -/
theorem preserves : Cert.preserves_KernelQUp_KernelQUpIdeal :=
  IdealRules.named_const.statement Cert.KernelQUpIdeal.κ "inv_qk" .f32 0x3BAAAAAB#32 ((1 / 192 : ℝ) : EReal) rfl

/-- The kernel's result is the reference's over the extended reals. -/
theorem algebraic : Cert.algebraic_KernelQUpIdeal_ReferenceQUpIdeal := by
  intro m ρ m' ρ' _ hagree
  refine ⟨fun c => (dats m 0 c).arrAt 7 cfg0.N, ?_, ?_⟩
  · exact (θ_run Cert.KernelQUpIdeal.defs _ _).mono (fun r h c => ⟨(h c).1 7,
      ((h c).2 Cert.KernelQUpIdeal.main_arg0 (Pipeline.mem_restRefs_of Cert.KernelQUpIdeal.main_arg0 (by decide) (by decide))).trans (V_main_arg0 m c),
      ((h c).2 Cert.KernelQUpIdeal.main_arg1 (Pipeline.mem_restRefs_of Cert.KernelQUpIdeal.main_arg1 (by decide) (by decide))).trans (V_main_arg1 m c),
      ((h c).2 Cert.KernelQUpIdeal.main_arg2 (Pipeline.mem_restRefs_of Cert.KernelQUpIdeal.main_arg2 (by decide) (by decide))).trans (V_main_arg2 m c)⟩)
      (run_main (F := Ideal) m ρ)
  · refine (θ_run Cert.ReferenceQUpIdeal.defs _ _).mono (fun r h c => ⟨(h c).1.trans ?_, (h c).2⟩) (Cert.ReferenceQUpIdeal.Value.run (F := Ideal) m' ρ')
    rw [Cert.ReferenceQUpIdeal.Read.val_main_v102_eq]
    obtain ⟨e0, e1, e2⟩ := hagree c
    rw [e0, e1, e2]
    exact (final_eq m c).symm

end Cert.Proof.QUp

end
-- ==== Proof.lean ====
/- The claims of this certificate, gathered: each comes from a module of its own under Proof/. -/
module

public import proofs.«01_k».proof.Defs
public import proofs.«01_k».proof.Proof.NaClaim
public import proofs.«01_k».proof.Proof.MlaClaim
public import proofs.«01_k».proof.Proof.MergeFrame
public import proofs.«01_k».proof.Proof.MergeClaim
public import proofs.«01_k».proof.Proof.FfnFrame
public import proofs.«01_k».proof.Proof.FfnClaim
public import proofs.«01_k».proof.Proof.NaQkClaim
public import proofs.«01_k».proof.Proof.NaVClaim
public import proofs.«01_k».proof.Proof.CqClaim
public import proofs.«01_k».proof.Proof.NormClaim
public import proofs.«01_k».proof.Proof.CkvClaim
public import proofs.«01_k».proof.Proof.QUpClaim
public import proofs.«01_k».proof.Proof.Gen.Kernel
public import proofs.«01_k».proof.Proof.Gen.KernelIdeal
public import proofs.«01_k».proof.Proof.Gen.ReferenceIdeal
public import proofs.«01_k».proof.Proof.Gen.KernelMerge
public import proofs.«01_k».proof.Proof.Gen.KernelMergeIdeal
public import proofs.«01_k».proof.Proof.Gen.ReferenceMergeIdeal
public import proofs.«01_k».proof.Proof.Gen.KernelFfn
public import proofs.«01_k».proof.Proof.Gen.KernelFfnIdeal
public import proofs.«01_k».proof.Proof.Gen.ReferenceFfnIdeal
public import proofs.«01_k».proof.Proof.Gen.Pre_finite
public import proofs.«01_k».proof.Proof.Gen.Pre_finite_mla
public import proofs.«01_k».proof.Proof.Gen.KernelMla
public import proofs.«01_k».proof.Proof.Gen.KernelMla.Skeleton
public import proofs.«01_k».proof.Proof.Gen.KernelMla.Loops
public import proofs.«01_k».proof.Proof.Gen.KernelMla.Launch
public import proofs.«01_k».proof.Proof.Gen.KernelMla.Points
public import proofs.«01_k».proof.Proof.Gen.KernelMla.Frame
public import proofs.«01_k».proof.Proof.Gen.KernelMlaIdeal
public import proofs.«01_k».proof.Proof.Gen.KernelMlaIdeal.Skeleton
public import proofs.«01_k».proof.Proof.Gen.KernelMlaIdeal.Loops
public import proofs.«01_k».proof.Proof.Gen.KernelMlaIdeal.Launch
public import proofs.«01_k».proof.Proof.Gen.KernelMlaIdeal.Points
public import proofs.«01_k».proof.Proof.Gen.KernelMlaIdeal.Frame
public import proofs.«01_k».proof.Proof.Gen.ReferenceMlaIdeal
public import proofs.«01_k».proof.Proof.Gen.ReferenceMlaIdeal.Run
public import proofs.«01_k».proof.Proof.Gen.ReferenceMlaIdeal.Read
public import proofs.«01_k».proof.Proof.Gen.KernelNaQk
public import proofs.«01_k».proof.Proof.Gen.KernelNaQk.Frame
public import proofs.«01_k».proof.Proof.Gen.KernelNaQkIdeal
public import proofs.«01_k».proof.Proof.Gen.KernelNaQkIdeal.Frame
public import proofs.«01_k».proof.Proof.Gen.ReferenceNaQkIdeal
public import proofs.«01_k».proof.Proof.Gen.ReferenceNaQkIdeal.Run
public import proofs.«01_k».proof.Proof.Gen.ReferenceNaQkIdeal.Read
public import proofs.«01_k».proof.Proof.Gen.KernelNaV
public import proofs.«01_k».proof.Proof.Gen.KernelNaV.Frame
public import proofs.«01_k».proof.Proof.Gen.KernelNaVIdeal
public import proofs.«01_k».proof.Proof.Gen.KernelNaVIdeal.Frame
public import proofs.«01_k».proof.Proof.Gen.ReferenceNaVIdeal
public import proofs.«01_k».proof.Proof.Gen.ReferenceNaVIdeal.Run
public import proofs.«01_k».proof.Proof.Gen.ReferenceNaVIdeal.Read
public import proofs.«01_k».proof.Proof.Gen.KernelCq
public import proofs.«01_k».proof.Proof.Gen.KernelCq.Frame
public import proofs.«01_k».proof.Proof.Gen.KernelCqIdeal
public import proofs.«01_k».proof.Proof.Gen.KernelCqIdeal.Frame
public import proofs.«01_k».proof.Proof.Gen.ReferenceCqIdeal
public import proofs.«01_k».proof.Proof.Gen.ReferenceCqIdeal.Run
public import proofs.«01_k».proof.Proof.Gen.ReferenceCqIdeal.Read
public import proofs.«01_k».proof.Proof.Gen.KernelNorm
public import proofs.«01_k».proof.Proof.Gen.KernelNorm.Frame
public import proofs.«01_k».proof.Proof.Gen.KernelNormIdeal
public import proofs.«01_k».proof.Proof.Gen.KernelNormIdeal.Frame
public import proofs.«01_k».proof.Proof.Gen.ReferenceNormIdeal
public import proofs.«01_k».proof.Proof.Gen.ReferenceNormIdeal.Run
public import proofs.«01_k».proof.Proof.Gen.ReferenceNormIdeal.Read
public import proofs.«01_k».proof.Proof.Gen.KernelCkv
public import proofs.«01_k».proof.Proof.Gen.KernelCkv.Frame
public import proofs.«01_k».proof.Proof.Gen.KernelCkvIdeal
public import proofs.«01_k».proof.Proof.Gen.KernelCkvIdeal.Frame
public import proofs.«01_k».proof.Proof.Gen.ReferenceCkvIdeal
public import proofs.«01_k».proof.Proof.Gen.ReferenceCkvIdeal.Run
public import proofs.«01_k».proof.Proof.Gen.ReferenceCkvIdeal.Read
public import proofs.«01_k».proof.Proof.Gen.KernelQUp
public import proofs.«01_k».proof.Proof.Gen.KernelQUp.Frame
public import proofs.«01_k».proof.Proof.Gen.KernelQUpIdeal
public import proofs.«01_k».proof.Proof.Gen.KernelQUpIdeal.Frame
public import proofs.«01_k».proof.Proof.Gen.ReferenceQUpIdeal
public import proofs.«01_k».proof.Proof.Gen.ReferenceQUpIdeal.Run
public import proofs.«01_k».proof.Proof.Gen.ReferenceQUpIdeal.Read

@[expose] public section

noncomputable section

namespace Cert.Proof

/-- Everything the certificate states. -/
theorem claim : Cert.Claim := ⟨Cert.Kernel.Gen.facts, Cert.KernelIdeal.Gen.facts, Cert.ReferenceIdeal.Gen.facts,
  Cert.KernelMla.Gen.facts, Cert.KernelMlaIdeal.Gen.facts, Cert.ReferenceMlaIdeal.Gen.facts,
  Cert.KernelMerge.Gen.facts, Cert.KernelMergeIdeal.Gen.facts, Cert.ReferenceMergeIdeal.Gen.facts,
  Cert.KernelFfn.Gen.facts, Cert.KernelFfnIdeal.Gen.facts, Cert.ReferenceFfnIdeal.Gen.facts,
  Cert.KernelNaQk.Gen.facts, Cert.KernelNaQkIdeal.Gen.facts, Cert.ReferenceNaQkIdeal.Gen.facts,
  Cert.KernelNaV.Gen.facts, Cert.KernelNaVIdeal.Gen.facts, Cert.ReferenceNaVIdeal.Gen.facts,
  Cert.KernelCq.Gen.facts, Cert.KernelCqIdeal.Gen.facts, Cert.ReferenceCqIdeal.Gen.facts,
  Cert.KernelNorm.Gen.facts, Cert.KernelNormIdeal.Gen.facts, Cert.ReferenceNormIdeal.Gen.facts,
  Cert.KernelCkv.Gen.facts, Cert.KernelCkvIdeal.Gen.facts, Cert.ReferenceCkvIdeal.Gen.facts,
  Cert.KernelQUp.Gen.facts, Cert.KernelQUpIdeal.Gen.facts, Cert.ReferenceQUpIdeal.Gen.facts,
  Cert.Pre_finite.Gen.facts, Cert.Pre_finite_mla.Gen.facts,
  Na.frame_kernel, Na.frame_ideal, Na.frame_ideal_fin, Na.frame_ref, Na.frame_ref_fin,
  Mla.frame_kernel, Mla.frame_ideal, Mla.frame_ideal_fin, Mla.frame_ref, Mla.frame_ref_fin,
  Merge.frame_kernel, Merge.frame_ideal, Merge.frame_ref, Ffn.frame_kernel, Ffn.frame_ideal, Ffn.frame_ref,
  NaQk.frame_kernel, NaQk.frame_ideal, NaQk.frame_ref,
  NaV.frame_kernel, NaV.frame_ideal, NaV.frame_ref,
  Cq.frame_kernel, Cq.frame_ideal, Cq.frame_ref,
  Norm.frame_kernel, Norm.frame_ideal, Norm.frame_ref,
  Ckv.frame_kernel, Ckv.frame_ideal, Ckv.frame_ref,
  QUp.frame_kernel, QUp.frame_ideal, QUp.frame_ref,
  Na.preserves, Na.algebraic, Mla.preserves, Mla.algebraic, Merge.preserves, Merge.algebraic, Ffn.preserves, Ffn.algebraic,
  NaQk.preserves, NaQk.algebraic, NaV.preserves, NaV.algebraic, Cq.preserves, Cq.algebraic,
  Norm.preserves, Norm.algebraic, Ckv.preserves, Ckv.algebraic, QUp.preserves, QUp.algebraic⟩

end Cert.Proof

end
